-- ==== Defs.lean ====
def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareRefIdeal (m : (ℓ : Loc Cert.ShareRefIdeal.nD Cert.ShareRefIdeal.τ Cert.ShareRefIdeal.sig) → Buf (Elt Ideal) ℓ) : Prop :=
  True

def Pre_ShareRef (m : (ℓ : Loc Cert.ShareRef.nD Cert.ShareRef.τ Cert.ShareRef.sig) → Buf (Elt Bits) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_ExchangeRef (m : (ℓ : Loc Cert.ExchangeRef.nD Cert.ExchangeRef.τ Cert.ExchangeRef.sig) → Buf (Elt Bits) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQRefIdeal (m : (ℓ : Loc Cert.AdamQRefIdeal.nD Cert.AdamQRefIdeal.τ Cert.AdamQRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGains (m : (ℓ : Loc Cert.AdamGains.nD Cert.AdamGains.τ Cert.AdamGains.sig) → Buf (Elt Bits) ℓ) : Prop :=
  True

def Pre_AdamGainsIdeal (m : (ℓ : Loc Cert.AdamGainsIdeal.nD Cert.AdamGainsIdeal.τ Cert.AdamGainsIdeal.sig) → Buf (Elt Ideal) ℓ) : Prop :=
  True

def Pre_AdamGainsRefIdeal (m : (ℓ : Loc Cert.AdamGainsRefIdeal.nD Cert.AdamGainsRefIdeal.τ Cert.AdamGainsRefIdeal.sig) → Buf (Elt Ideal) ℓ) : Prop :=
  True

def Pre_SumGains (m : (ℓ : Loc Cert.SumGains.nD Cert.SumGains.τ Cert.SumGains.sig) → Buf (Elt Bits) ℓ) : Prop :=
  True

def Pre_SumGainsIdeal (m : (ℓ : Loc Cert.SumGainsIdeal.nD Cert.SumGainsIdeal.τ Cert.SumGainsIdeal.sig) → Buf (Elt Ideal) ℓ) : Prop :=
  True

def Pre_SumGainsRefIdeal (m : (ℓ : Loc Cert.SumGainsRefIdeal.nD Cert.SumGainsRefIdeal.τ Cert.SumGainsRefIdeal.sig) → Buf (Elt Ideal) ℓ) : Prop :=
  True

def Pre_PostLoss (m : (ℓ : Loc Cert.PostLoss.nD Cert.PostLoss.τ Cert.PostLoss.sig) → Buf (Elt Bits) ℓ) : Prop :=
  True

def Pre_PostLossIdeal (m : (ℓ : Loc Cert.PostLossIdeal.nD Cert.PostLossIdeal.τ Cert.PostLossIdeal.sig) → Buf (Elt Ideal) ℓ) : Prop :=
  True

def Pre_PostLossRefIdeal (m : (ℓ : Loc Cert.PostLossRefIdeal.nD Cert.PostLossRefIdeal.τ Cert.PostLossRefIdeal.sig) → Buf (Elt Ideal) ℓ) : Prop :=
  True

def Pre_PreGrad (m : (ℓ : Loc Cert.PreGrad.nD Cert.PreGrad.τ Cert.PreGrad.sig) → Buf (Elt Bits) ℓ) : Prop :=
  True

def Pre_PreGradIdeal (m : (ℓ : Loc Cert.PreGradIdeal.nD Cert.PreGradIdeal.τ Cert.PreGradIdeal.sig) → Buf (Elt Ideal) ℓ) : Prop :=
  True

def Pre_PreGradRefIdeal (m : (ℓ : Loc Cert.PreGradRefIdeal.nD Cert.PreGradRefIdeal.τ Cert.PreGradRefIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormRefIdeal (m : (ℓ : Loc Cert.FirstNormRefIdeal.nD Cert.FirstNormRefIdeal.τ Cert.FirstNormRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_PostPre (m : (ℓ : Loc Cert.PostPre.nD Cert.PostPre.τ Cert.PostPre.sig) → Buf (Elt Bits) ℓ) : Prop :=
  True

def Pre_PostPreIdeal (m : (ℓ : Loc Cert.PostPreIdeal.nD Cert.PostPreIdeal.τ Cert.PostPreIdeal.sig) → Buf (Elt Ideal) ℓ) : Prop :=
  True

def Pre_PostPreRefIdeal (m : (ℓ : Loc Cert.PostPreRefIdeal.nD Cert.PostPreRefIdeal.τ Cert.PostPreRefIdeal.sig) → Buf (Elt Ideal) ℓ) : Prop :=
  True

def Pre_PostGrad (m : (ℓ : Loc Cert.PostGrad.nD Cert.PostGrad.τ Cert.PostGrad.sig) → Buf (Elt Bits) ℓ) : Prop :=
  True

def Pre_PostGradIdeal (m : (ℓ : Loc Cert.PostGradIdeal.nD Cert.PostGradIdeal.τ Cert.PostGradIdeal.sig) → Buf (Elt Ideal) ℓ) : Prop :=
  True

def Pre_PostGradRefIdeal (m : (ℓ : Loc Cert.PostGradRefIdeal.nD Cert.PostGradRefIdeal.τ Cert.PostGradRefIdeal.sig) → Buf (Elt Ideal) ℓ) : Prop :=
  True

def Pre_GluGrad (m : (ℓ : Loc Cert.GluGrad.nD Cert.GluGrad.τ Cert.GluGrad.sig) → Buf (Elt Bits) ℓ) : Prop :=
  True

def Pre_GluGradIdeal (m : (ℓ : Loc Cert.GluGradIdeal.nD Cert.GluGradIdeal.τ Cert.GluGradIdeal.sig) → Buf (Elt Ideal) ℓ) : Prop :=
  True

def Pre_GluGradRefIdeal (m : (ℓ : Loc Cert.GluGradRefIdeal.nD Cert.GluGradRefIdeal.τ Cert.GluGradRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_FfnGrad (m : (ℓ : Loc Cert.FfnGrad.nD Cert.FfnGrad.τ Cert.FfnGrad.sig) → Buf (Elt Bits) ℓ) : Prop :=
  True

def Pre_FfnGradIdeal (m : (ℓ : Loc Cert.FfnGradIdeal.nD Cert.FfnGradIdeal.τ Cert.FfnGradIdeal.sig) → Buf (Elt Ideal) ℓ) : Prop :=
  True

def Pre_FfnGradRefIdeal (m : (ℓ : Loc Cert.FfnGradRefIdeal.nD Cert.FfnGradRefIdeal.τ Cert.FfnGradRefIdeal.sig) → Buf (Elt Ideal) ℓ) : Prop :=
  True

def Pre_AddPair [hPre_one_of_two : Cert.Pre_one_of_two.Facts] (m : (ℓ : Loc Cert.AddPair.nD Cert.AddPair.τ Cert.AddPair.sig) → Buf (Elt Bits) ℓ) : Prop :=
  ∀ c : Dev Cert.AddPair.nD,
    (Cert.Pre_one_of_two.fn (F := Bits) (m ((c.tc : Thread Cert.AddPair.nD Cert.AddPair.τ).loc Cert.AddPair.main_arg0)) (m ((c.tc : Thread Cert.AddPair.nD Cert.AddPair.τ).loc Cert.AddPair.main_arg1)) (m ((c.tc : Thread Cert.AddPair.nD Cert.AddPair.τ).loc Cert.AddPair.main_arg2))) = (fun _ => 1#1)

def Pre_AddPairIdeal [hPre_one_of_two : Cert.Pre_one_of_two.Facts] (m : (ℓ : Loc Cert.AddPairIdeal.nD Cert.AddPairIdeal.τ Cert.AddPairIdeal.sig) → Buf (Elt Ideal) ℓ) : Prop :=
  ∀ c : Dev Cert.AddPairIdeal.nD,
    (Cert.Pre_one_of_two.fn (F := Ideal) (m ((c.tc : Thread Cert.AddPairIdeal.nD Cert.AddPairIdeal.τ).loc Cert.AddPairIdeal.main_arg0)) (m ((c.tc : Thread Cert.AddPairIdeal.nD Cert.AddPairIdeal.τ).loc Cert.AddPairIdeal.main_arg1)) (m ((c.tc : Thread Cert.AddPairIdeal.nD Cert.AddPairIdeal.τ).loc Cert.AddPairIdeal.main_arg2))) = (fun _ => 1#1)

def Pre_AddPairRefIdeal (m : (ℓ : Loc Cert.AddPairRefIdeal.nD Cert.AddPairRefIdeal.τ Cert.AddPairRefIdeal.sig) → Buf (Elt Ideal) ℓ) : Prop :=
  True

def Pre_AddPairRefIdeal_one_of_two [hPre_one_of_two : Cert.Pre_one_of_two.Facts] (m : (ℓ : Loc Cert.AddPairRefIdeal.nD Cert.AddPairRefIdeal.τ Cert.AddPairRefIdeal.sig) → Buf (Elt Ideal) ℓ) : Prop :=
  ∀ c : Dev Cert.AddPairRefIdeal.nD,
    (Cert.Pre_one_of_two.fn (F := Ideal) (m ((c.tc : Thread Cert.AddPairRefIdeal.nD Cert.AddPairRefIdeal.τ).loc Cert.AddPairRefIdeal.main_arg0)) (m ((c.tc : Thread Cert.AddPairRefIdeal.nD Cert.AddPairRefIdeal.τ).loc Cert.AddPairRefIdeal.main_arg1)) (m ((c.tc : Thread Cert.AddPairRefIdeal.nD Cert.AddPairRefIdeal.τ).loc Cert.AddPairRefIdeal.main_arg2))) = (fun _ => 1#1)

def Pre_AddPairRef [hPre_one_of_two : Cert.Pre_one_of_two.Facts] (m : (ℓ : Loc Cert.AddPairRef.nD Cert.AddPairRef.τ Cert.AddPairRef.sig) → Buf (Elt Bits) ℓ) : Prop :=
  ∀ c : Dev Cert.AddPairRef.nD,
    (Cert.Pre_one_of_two.fn (F := Bits) (m ((c.tc : Thread Cert.AddPairRef.nD Cert.AddPairRef.τ).loc Cert.AddPairRef.main_arg0)) (m ((c.tc : Thread Cert.AddPairRef.nD Cert.AddPairRef.τ).loc Cert.AddPairRef.main_arg1)) (m ((c.tc : Thread Cert.AddPairRef.nD Cert.AddPairRef.τ).loc Cert.AddPairRef.main_arg2))) = (fun _ => 1#1)

def Pre_AddChips [hPre_one_of_four : Cert.Pre_one_of_four.Facts] (m : (ℓ : Loc Cert.AddChips.nD Cert.AddChips.τ Cert.AddChips.sig) → Buf (Elt Bits) ℓ) : Prop :=
  ∀ c : Dev Cert.AddChips.nD,
    (Cert.Pre_one_of_four.fn (F := Bits) (m ((c.tc : Thread Cert.AddChips.nD Cert.AddChips.τ).loc Cert.AddChips.main_arg0)) (m ((c.tc : Thread Cert.AddChips.nD Cert.AddChips.τ).loc Cert.AddChips.main_arg1)) (m ((c.tc : Thread Cert.AddChips.nD Cert.AddChips.τ).loc Cert.AddChips.main_arg2))) = (fun _ => 1#1)

def Pre_AddChipsIdeal [hPre_one_of_four : Cert.Pre_one_of_four.Facts] (m : (ℓ : Loc Cert.AddChipsIdeal.nD Cert.AddChipsIdeal.τ Cert.AddChipsIdeal.sig) → Buf (Elt Ideal) ℓ) : Prop :=
  ∀ c : Dev Cert.AddChipsIdeal.nD,
    (Cert.Pre_one_of_four.fn (F := Ideal) (m ((c.tc : Thread Cert.AddChipsIdeal.nD Cert.AddChipsIdeal.τ).loc Cert.AddChipsIdeal.main_arg0)) (m ((c.tc : Thread Cert.AddChipsIdeal.nD Cert.AddChipsIdeal.τ).loc Cert.AddChipsIdeal.main_arg1)) (m ((c.tc : Thread Cert.AddChipsIdeal.nD Cert.AddChipsIdeal.τ).loc Cert.AddChipsIdeal.main_arg2))) = (fun _ => 1#1)

def Pre_AddChipsRefIdeal (m : (ℓ : Loc Cert.AddChipsRefIdeal.nD Cert.AddChipsRefIdeal.τ Cert.AddChipsRefIdeal.sig) → Buf (Elt Ideal) ℓ) : Prop :=
  True

def Pre_AddChipsRefIdeal_one_of_four [hPre_one_of_four : Cert.Pre_one_of_four.Facts] (m : (ℓ : Loc Cert.AddChipsRefIdeal.nD Cert.AddChipsRefIdeal.τ Cert.AddChipsRefIdeal.sig) → Buf (Elt Ideal) ℓ) : Prop :=
  ∀ c : Dev Cert.AddChipsRefIdeal.nD,
    (Cert.Pre_one_of_four.fn (F := Ideal) (m ((c.tc : Thread Cert.AddChipsRefIdeal.nD Cert.AddChipsRefIdeal.τ).loc Cert.AddChipsRefIdeal.main_arg0)) (m ((c.tc : Thread Cert.AddChipsRefIdeal.nD Cert.AddChipsRefIdeal.τ).loc Cert.AddChipsRefIdeal.main_arg1)) (m ((c.tc : Thread Cert.AddChipsRefIdeal.nD Cert.AddChipsRefIdeal.τ).loc Cert.AddChipsRefIdeal.main_arg2))) = (fun _ => 1#1)

def Pre_AddChipsRef [hPre_one_of_four : Cert.Pre_one_of_four.Facts] (m : (ℓ : Loc Cert.AddChipsRef.nD Cert.AddChipsRef.τ Cert.AddChipsRef.sig) → Buf (Elt Bits) ℓ) : Prop :=
  ∀ c : Dev Cert.AddChipsRef.nD,
    (Cert.Pre_one_of_four.fn (F := Bits) (m ((c.tc : Thread Cert.AddChipsRef.nD Cert.AddChipsRef.τ).loc Cert.AddChipsRef.main_arg0)) (m ((c.tc : Thread Cert.AddChipsRef.nD Cert.AddChipsRef.τ).loc Cert.AddChipsRef.main_arg1)) (m ((c.tc : Thread Cert.AddChipsRef.nD Cert.AddChipsRef.τ).loc Cert.AddChipsRef.main_arg2))) = (fun _ => 1#1)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ r.2.sem = fun _ => 0)

def quiescent_ShareRefIdeal [hShareRefIdeal : Cert.ShareRefIdeal.Facts] : Prop :=
  ∀ (m : (ℓ : Loc Cert.ShareRefIdeal.nD Cert.ShareRefIdeal.τ Cert.ShareRefIdeal.sig) → Buf (Elt Ideal) ℓ) (g : Dev Cert.ShareRefIdeal.nD → PrngReg), Pre_ShareRefIdeal m →
    θ_run (Cert.ShareRefIdeal.defs (F := Ideal)) (onTc (τ := Cert.ShareRefIdeal.τ) (Cert.ShareRefIdeal.main (F := Ideal))) ⟨m, fun _ => 0, g⟩ (fun r => (∀ c : Dev Cert.ShareRefIdeal.nD,
      r.2.mem ((c.tc : Thread Cert.ShareRefIdeal.nD Cert.ShareRefIdeal.τ).loc Cert.ShareRefIdeal.main_arg0) = m ((c.tc : Thread Cert.ShareRefIdeal.nD Cert.ShareRefIdeal.τ).loc Cert.ShareRefIdeal.main_arg0))
      ∧ r.2.sem = fun _ => 0)

def quiescent_ShareRef [hShareRef : Cert.ShareRef.Facts] : Prop :=
  ∀ (m : (ℓ : Loc Cert.ShareRef.nD Cert.ShareRef.τ Cert.ShareRef.sig) → Buf (Elt Bits) ℓ) (g : Dev Cert.ShareRef.nD → PrngReg), Pre_ShareRef m →
    θ_run (Cert.ShareRef.defs (F := Bits)) (onTc (τ := Cert.ShareRef.τ) (Cert.ShareRef.main (F := Bits))) ⟨m, fun _ => 0, g⟩ (fun r => (∀ c : Dev Cert.ShareRef.nD,
      r.2.mem ((c.tc : Thread Cert.ShareRef.nD Cert.ShareRef.τ).loc Cert.ShareRef.main_arg0) = m ((c.tc : Thread Cert.ShareRef.nD Cert.ShareRef.τ).loc Cert.ShareRef.main_arg0))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0))
      ∧ r.2.sem = fun _ => 0)

def quiescent_ExchangeRef [hExchangeRef : Cert.ExchangeRef.Facts] : Prop :=
  ∀ (m : (ℓ : Loc Cert.ExchangeRef.nD Cert.ExchangeRef.τ Cert.ExchangeRef.sig) → Buf (Elt Bits) ℓ) (g : Dev Cert.ExchangeRef.nD → PrngReg), Pre_ExchangeRef m →
    θ_run (Cert.ExchangeRef.defs (F := Bits)) (onTc (τ := Cert.ExchangeRef.τ) (Cert.ExchangeRef.main (F := Bits))) ⟨m, fun _ => 0, g⟩ (fun r => (∀ c : Dev Cert.ExchangeRef.nD,
      r.2.mem ((c.tc : Thread Cert.ExchangeRef.nD Cert.ExchangeRef.τ).loc Cert.ExchangeRef.main_arg0) = m ((c.tc : Thread Cert.ExchangeRef.nD Cert.ExchangeRef.τ).loc Cert.ExchangeRef.main_arg0))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ r.2.sem = fun _ => 0)

def quiescent_AdamQRefIdeal [hAdamQRefIdeal : Cert.AdamQRefIdeal.Facts] : Prop :=
  ∀ (m : (ℓ : Loc Cert.AdamQRefIdeal.nD Cert.AdamQRefIdeal.τ Cert.AdamQRefIdeal.sig) → Buf (Elt Ideal) ℓ) (g : Dev Cert.AdamQRefIdeal.nD → PrngReg), Pre_AdamQRefIdeal m →
    θ_run (Cert.AdamQRefIdeal.defs (F := Ideal)) (onTc (τ := Cert.AdamQRefIdeal.τ) (Cert.AdamQRefIdeal.main (F := Ideal))) ⟨m, fun _ => 0, g⟩ (fun r => (∀ c : Dev Cert.AdamQRefIdeal.nD,
      r.2.mem ((c.tc : Thread Cert.AdamQRefIdeal.nD Cert.AdamQRefIdeal.τ).loc Cert.AdamQRefIdeal.main_arg0) = m ((c.tc : Thread Cert.AdamQRefIdeal.nD Cert.AdamQRefIdeal.τ).loc Cert.AdamQRefIdeal.main_arg0)
      ∧ r.2.mem ((c.tc : Thread Cert.AdamQRefIdeal.nD Cert.AdamQRefIdeal.τ).loc Cert.AdamQRefIdeal.main_arg1) = m ((c.tc : Thread Cert.AdamQRefIdeal.nD Cert.AdamQRefIdeal.τ).loc Cert.AdamQRefIdeal.main_arg1)
      ∧ r.2.mem ((c.tc : Thread Cert.AdamQRefIdeal.nD Cert.AdamQRefIdeal.τ).loc Cert.AdamQRefIdeal.main_arg2) = m ((c.tc : Thread Cert.AdamQRefIdeal.nD Cert.AdamQRefIdeal.τ).loc Cert.AdamQRefIdeal.main_arg2)
      ∧ r.2.mem ((c.tc : Thread Cert.AdamQRefIdeal.nD Cert.AdamQRefIdeal.τ).loc Cert.AdamQRefIdeal.main_arg3) = m ((c.tc : Thread Cert.AdamQRefIdeal.nD Cert.AdamQRefIdeal.τ).loc Cert.AdamQRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGains [hAdamGains : Cert.AdamGains.Facts] : Prop :=
  ∀ (m : (ℓ : Loc Cert.AdamGains.nD Cert.AdamGains.τ Cert.AdamGains.sig) → Buf (Elt Bits) ℓ) (g : Dev Cert.AdamGains.nD → PrngReg), Pre_AdamGains m →
    θ_run (Cert.AdamGains.defs (F := Bits)) (onTc (τ := Cert.AdamGains.τ) (Cert.AdamGains.main (F := Bits))) ⟨m, fun _ => 0, g⟩ (fun r => (∀ c : Dev Cert.AdamGains.nD,
      r.2.mem ((c.tc : Thread Cert.AdamGains.nD Cert.AdamGains.τ).loc Cert.AdamGains.main_arg0) = m ((c.tc : Thread Cert.AdamGains.nD Cert.AdamGains.τ).loc Cert.AdamGains.main_arg0)
      ∧ r.2.mem ((c.tc : Thread Cert.AdamGains.nD Cert.AdamGains.τ).loc Cert.AdamGains.main_arg1) = m ((c.tc : Thread Cert.AdamGains.nD Cert.AdamGains.τ).loc Cert.AdamGains.main_arg1)
      ∧ r.2.mem ((c.tc : Thread Cert.AdamGains.nD Cert.AdamGains.τ).loc Cert.AdamGains.main_arg2) = m ((c.tc : Thread Cert.AdamGains.nD Cert.AdamGains.τ).loc Cert.AdamGains.main_arg2)
      ∧ r.2.mem ((c.tc : Thread Cert.AdamGains.nD Cert.AdamGains.τ).loc Cert.AdamGains.main_arg3) = m ((c.tc : Thread Cert.AdamGains.nD Cert.AdamGains.τ).loc Cert.AdamGains.main_arg3))
      ∧ r.2.sem = fun _ => 0)

def quiescent_AdamGainsIdeal [hAdamGainsIdeal : Cert.AdamGainsIdeal.Facts] : Prop :=
  ∀ (m : (ℓ : Loc Cert.AdamGainsIdeal.nD Cert.AdamGainsIdeal.τ Cert.AdamGainsIdeal.sig) → Buf (Elt Ideal) ℓ) (g : Dev Cert.AdamGainsIdeal.nD → PrngReg), Pre_AdamGainsIdeal m →
    θ_run (Cert.AdamGainsIdeal.defs (F := Ideal)) (onTc (τ := Cert.AdamGainsIdeal.τ) (Cert.AdamGainsIdeal.main (F := Ideal))) ⟨m, fun _ => 0, g⟩ (fun r => (∀ c : Dev Cert.AdamGainsIdeal.nD,
      r.2.mem ((c.tc : Thread Cert.AdamGainsIdeal.nD Cert.AdamGainsIdeal.τ).loc Cert.AdamGainsIdeal.main_arg0) = m ((c.tc : Thread Cert.AdamGainsIdeal.nD Cert.AdamGainsIdeal.τ).loc Cert.AdamGainsIdeal.main_arg0)
      ∧ r.2.mem ((c.tc : Thread Cert.AdamGainsIdeal.nD Cert.AdamGainsIdeal.τ).loc Cert.AdamGainsIdeal.main_arg1) = m ((c.tc : Thread Cert.AdamGainsIdeal.nD Cert.AdamGainsIdeal.τ).loc Cert.AdamGainsIdeal.main_arg1)
      ∧ r.2.mem ((c.tc : Thread Cert.AdamGainsIdeal.nD Cert.AdamGainsIdeal.τ).loc Cert.AdamGainsIdeal.main_arg2) = m ((c.tc : Thread Cert.AdamGainsIdeal.nD Cert.AdamGainsIdeal.τ).loc Cert.AdamGainsIdeal.main_arg2)
      ∧ r.2.mem ((c.tc : Thread Cert.AdamGainsIdeal.nD Cert.AdamGainsIdeal.τ).loc Cert.AdamGainsIdeal.main_arg3) = m ((c.tc : Thread Cert.AdamGainsIdeal.nD Cert.AdamGainsIdeal.τ).loc Cert.AdamGainsIdeal.main_arg3))
      ∧ r.2.sem = fun _ => 0)

def quiescent_AdamGainsRefIdeal [hAdamGainsRefIdeal : Cert.AdamGainsRefIdeal.Facts] : Prop :=
  ∀ (m : (ℓ : Loc Cert.AdamGainsRefIdeal.nD Cert.AdamGainsRefIdeal.τ Cert.AdamGainsRefIdeal.sig) → Buf (Elt Ideal) ℓ) (g : Dev Cert.AdamGainsRefIdeal.nD → PrngReg), Pre_AdamGainsRefIdeal m →
    θ_run (Cert.AdamGainsRefIdeal.defs (F := Ideal)) (onTc (τ := Cert.AdamGainsRefIdeal.τ) (Cert.AdamGainsRefIdeal.main (F := Ideal))) ⟨m, fun _ => 0, g⟩ (fun r => (∀ c : Dev Cert.AdamGainsRefIdeal.nD,
      r.2.mem ((c.tc : Thread Cert.AdamGainsRefIdeal.nD Cert.AdamGainsRefIdeal.τ).loc Cert.AdamGainsRefIdeal.main_arg0) = m ((c.tc : Thread Cert.AdamGainsRefIdeal.nD Cert.AdamGainsRefIdeal.τ).loc Cert.AdamGainsRefIdeal.main_arg0)
      ∧ r.2.mem ((c.tc : Thread Cert.AdamGainsRefIdeal.nD Cert.AdamGainsRefIdeal.τ).loc Cert.AdamGainsRefIdeal.main_arg1) = m ((c.tc : Thread Cert.AdamGainsRefIdeal.nD Cert.AdamGainsRefIdeal.τ).loc Cert.AdamGainsRefIdeal.main_arg1)
      ∧ r.2.mem ((c.tc : Thread Cert.AdamGainsRefIdeal.nD Cert.AdamGainsRefIdeal.τ).loc Cert.AdamGainsRefIdeal.main_arg2) = m ((c.tc : Thread Cert.AdamGainsRefIdeal.nD Cert.AdamGainsRefIdeal.τ).loc Cert.AdamGainsRefIdeal.main_arg2)
      ∧ r.2.mem ((c.tc : Thread Cert.AdamGainsRefIdeal.nD Cert.AdamGainsRefIdeal.τ).loc Cert.AdamGainsRefIdeal.main_arg3) = m ((c.tc : Thread Cert.AdamGainsRefIdeal.nD Cert.AdamGainsRefIdeal.τ).loc Cert.AdamGainsRefIdeal.main_arg3))
      ∧ r.2.sem = fun _ => 0)

def quiescent_SumGains [hSumGains : Cert.SumGains.Facts] : Prop :=
  ∀ (m : (ℓ : Loc Cert.SumGains.nD Cert.SumGains.τ Cert.SumGains.sig) → Buf (Elt Bits) ℓ) (g : Dev Cert.SumGains.nD → PrngReg), Pre_SumGains m →
    θ_run (Cert.SumGains.defs (F := Bits)) (onTc (τ := Cert.SumGains.τ) (Cert.SumGains.main (F := Bits))) ⟨m, fun _ => 0, g⟩ (fun r => (∀ c : Dev Cert.SumGains.nD,
      r.2.mem ((c.tc : Thread Cert.SumGains.nD Cert.SumGains.τ).loc Cert.SumGains.main_arg0) = m ((c.tc : Thread Cert.SumGains.nD Cert.SumGains.τ).loc Cert.SumGains.main_arg0))
      ∧ r.2.sem = fun _ => 0)

def quiescent_SumGainsIdeal [hSumGainsIdeal : Cert.SumGainsIdeal.Facts] : Prop :=
  ∀ (m : (ℓ : Loc Cert.SumGainsIdeal.nD Cert.SumGainsIdeal.τ Cert.SumGainsIdeal.sig) → Buf (Elt Ideal) ℓ) (g : Dev Cert.SumGainsIdeal.nD → PrngReg), Pre_SumGainsIdeal m →
    θ_run (Cert.SumGainsIdeal.defs (F := Ideal)) (onTc (τ := Cert.SumGainsIdeal.τ) (Cert.SumGainsIdeal.main (F := Ideal))) ⟨m, fun _ => 0, g⟩ (fun r => (∀ c : Dev Cert.SumGainsIdeal.nD,
      r.2.mem ((c.tc : Thread Cert.SumGainsIdeal.nD Cert.SumGainsIdeal.τ).loc Cert.SumGainsIdeal.main_arg0) = m ((c.tc : Thread Cert.SumGainsIdeal.nD Cert.SumGainsIdeal.τ).loc Cert.SumGainsIdeal.main_arg0))
      ∧ r.2.sem = fun _ => 0)

def quiescent_SumGainsRefIdeal [hSumGainsRefIdeal : Cert.SumGainsRefIdeal.Facts] : Prop :=
  ∀ (m : (ℓ : Loc Cert.SumGainsRefIdeal.nD Cert.SumGainsRefIdeal.τ Cert.SumGainsRefIdeal.sig) → Buf (Elt Ideal) ℓ) (g : Dev Cert.SumGainsRefIdeal.nD → PrngReg), Pre_SumGainsRefIdeal m →
    θ_run (Cert.SumGainsRefIdeal.defs (F := Ideal)) (onTc (τ := Cert.SumGainsRefIdeal.τ) (Cert.SumGainsRefIdeal.main (F := Ideal))) ⟨m, fun _ => 0, g⟩ (fun r => (∀ c : Dev Cert.SumGainsRefIdeal.nD,
      r.2.mem ((c.tc : Thread Cert.SumGainsRefIdeal.nD Cert.SumGainsRefIdeal.τ).loc Cert.SumGainsRefIdeal.main_arg0) = m ((c.tc : Thread Cert.SumGainsRefIdeal.nD Cert.SumGainsRefIdeal.τ).loc Cert.SumGainsRefIdeal.main_arg0))
      ∧ r.2.sem = fun _ => 0)

def quiescent_PostLoss [hPostLoss : Cert.PostLoss.Facts] : Prop :=
  ∀ (m : (ℓ : Loc Cert.PostLoss.nD Cert.PostLoss.τ Cert.PostLoss.sig) → Buf (Elt Bits) ℓ) (g : Dev Cert.PostLoss.nD → PrngReg), Pre_PostLoss m →
    θ_run (Cert.PostLoss.defs (F := Bits)) (onTc (τ := Cert.PostLoss.τ) (Cert.PostLoss.main (F := Bits))) ⟨m, fun _ => 0, g⟩ (fun r => (∀ c : Dev Cert.PostLoss.nD,
      r.2.mem ((c.tc : Thread Cert.PostLoss.nD Cert.PostLoss.τ).loc Cert.PostLoss.main_arg0) = m ((c.tc : Thread Cert.PostLoss.nD Cert.PostLoss.τ).loc Cert.PostLoss.main_arg0)
      ∧ r.2.mem ((c.tc : Thread Cert.PostLoss.nD Cert.PostLoss.τ).loc Cert.PostLoss.main_arg1) = m ((c.tc : Thread Cert.PostLoss.nD Cert.PostLoss.τ).loc Cert.PostLoss.main_arg1)
      ∧ r.2.mem ((c.tc : Thread Cert.PostLoss.nD Cert.PostLoss.τ).loc Cert.PostLoss.main_arg2) = m ((c.tc : Thread Cert.PostLoss.nD Cert.PostLoss.τ).loc Cert.PostLoss.main_arg2)
      ∧ r.2.mem ((c.tc : Thread Cert.PostLoss.nD Cert.PostLoss.τ).loc Cert.PostLoss.main_arg3) = m ((c.tc : Thread Cert.PostLoss.nD Cert.PostLoss.τ).loc Cert.PostLoss.main_arg3))
      ∧ r.2.sem = fun _ => 0)

def quiescent_PostLossIdeal [hPostLossIdeal : Cert.PostLossIdeal.Facts] : Prop :=
  ∀ (m : (ℓ : Loc Cert.PostLossIdeal.nD Cert.PostLossIdeal.τ Cert.PostLossIdeal.sig) → Buf (Elt Ideal) ℓ) (g : Dev Cert.PostLossIdeal.nD → PrngReg), Pre_PostLossIdeal m →
    θ_run (Cert.PostLossIdeal.defs (F := Ideal)) (onTc (τ := Cert.PostLossIdeal.τ) (Cert.PostLossIdeal.main (F := Ideal))) ⟨m, fun _ => 0, g⟩ (fun r => (∀ c : Dev Cert.PostLossIdeal.nD,
      r.2.mem ((c.tc : Thread Cert.PostLossIdeal.nD Cert.PostLossIdeal.τ).loc Cert.PostLossIdeal.main_arg0) = m ((c.tc : Thread Cert.PostLossIdeal.nD Cert.PostLossIdeal.τ).loc Cert.PostLossIdeal.main_arg0)
      ∧ r.2.mem ((c.tc : Thread Cert.PostLossIdeal.nD Cert.PostLossIdeal.τ).loc Cert.PostLossIdeal.main_arg1) = m ((c.tc : Thread Cert.PostLossIdeal.nD Cert.PostLossIdeal.τ).loc Cert.PostLossIdeal.main_arg1)
      ∧ r.2.mem ((c.tc : Thread Cert.PostLossIdeal.nD Cert.PostLossIdeal.τ).loc Cert.PostLossIdeal.main_arg2) = m ((c.tc : Thread Cert.PostLossIdeal.nD Cert.PostLossIdeal.τ).loc Cert.PostLossIdeal.main_arg2)
      ∧ r.2.mem ((c.tc : Thread Cert.PostLossIdeal.nD Cert.PostLossIdeal.τ).loc Cert.PostLossIdeal.main_arg3) = m ((c.tc : Thread Cert.PostLossIdeal.nD Cert.PostLossIdeal.τ).loc Cert.PostLossIdeal.main_arg3))
      ∧ r.2.sem = fun _ => 0)

def quiescent_PostLossRefIdeal [hPostLossRefIdeal : Cert.PostLossRefIdeal.Facts] : Prop :=
  ∀ (m : (ℓ : Loc Cert.PostLossRefIdeal.nD Cert.PostLossRefIdeal.τ Cert.PostLossRefIdeal.sig) → Buf (Elt Ideal) ℓ) (g : Dev Cert.PostLossRefIdeal.nD → PrngReg), Pre_PostLossRefIdeal m →
    θ_run (Cert.PostLossRefIdeal.defs (F := Ideal)) (onTc (τ := Cert.PostLossRefIdeal.τ) (Cert.PostLossRefIdeal.main (F := Ideal))) ⟨m, fun _ => 0, g⟩ (fun r => (∀ c : Dev Cert.PostLossRefIdeal.nD,
      r.2.mem ((c.tc : Thread Cert.PostLossRefIdeal.nD Cert.PostLossRefIdeal.τ).loc Cert.PostLossRefIdeal.main_arg0) = m ((c.tc : Thread Cert.PostLossRefIdeal.nD Cert.PostLossRefIdeal.τ).loc Cert.PostLossRefIdeal.main_arg0)
      ∧ r.2.mem ((c.tc : Thread Cert.PostLossRefIdeal.nD Cert.PostLossRefIdeal.τ).loc Cert.PostLossRefIdeal.main_arg1) = m ((c.tc : Thread Cert.PostLossRefIdeal.nD Cert.PostLossRefIdeal.τ).loc Cert.PostLossRefIdeal.main_arg1)
      ∧ r.2.mem ((c.tc : Thread Cert.PostLossRefIdeal.nD Cert.PostLossRefIdeal.τ).loc Cert.PostLossRefIdeal.main_arg2) = m ((c.tc : Thread Cert.PostLossRefIdeal.nD Cert.PostLossRefIdeal.τ).loc Cert.PostLossRefIdeal.main_arg2)
      ∧ r.2.mem ((c.tc : Thread Cert.PostLossRefIdeal.nD Cert.PostLossRefIdeal.τ).loc Cert.PostLossRefIdeal.main_arg3) = m ((c.tc : Thread Cert.PostLossRefIdeal.nD Cert.PostLossRefIdeal.τ).loc Cert.PostLossRefIdeal.main_arg3))
      ∧ r.2.sem = fun _ => 0)

def quiescent_PreGrad [hPreGrad : Cert.PreGrad.Facts] : Prop :=
  ∀ (m : (ℓ : Loc Cert.PreGrad.nD Cert.PreGrad.τ Cert.PreGrad.sig) → Buf (Elt Bits) ℓ) (g : Dev Cert.PreGrad.nD → PrngReg), Pre_PreGrad m →
    θ_run (Cert.PreGrad.defs (F := Bits)) (onTc (τ := Cert.PreGrad.τ) (Cert.PreGrad.main (F := Bits))) ⟨m, fun _ => 0, g⟩ (fun r => (∀ c : Dev Cert.PreGrad.nD,
      r.2.mem ((c.tc : Thread Cert.PreGrad.nD Cert.PreGrad.τ).loc Cert.PreGrad.main_arg0) = m ((c.tc : Thread Cert.PreGrad.nD Cert.PreGrad.τ).loc Cert.PreGrad.main_arg0)
      ∧ r.2.mem ((c.tc : Thread Cert.PreGrad.nD Cert.PreGrad.τ).loc Cert.PreGrad.main_arg1) = m ((c.tc : Thread Cert.PreGrad.nD Cert.PreGrad.τ).loc Cert.PreGrad.main_arg1)
      ∧ r.2.mem ((c.tc : Thread Cert.PreGrad.nD Cert.PreGrad.τ).loc Cert.PreGrad.main_arg2) = m ((c.tc : Thread Cert.PreGrad.nD Cert.PreGrad.τ).loc Cert.PreGrad.main_arg2)
      ∧ r.2.mem ((c.tc : Thread Cert.PreGrad.nD Cert.PreGrad.τ).loc Cert.PreGrad.main_arg3) = m ((c.tc : Thread Cert.PreGrad.nD Cert.PreGrad.τ).loc Cert.PreGrad.main_arg3))
      ∧ r.2.sem = fun _ => 0)

def quiescent_PreGradIdeal [hPreGradIdeal : Cert.PreGradIdeal.Facts] : Prop :=
  ∀ (m : (ℓ : Loc Cert.PreGradIdeal.nD Cert.PreGradIdeal.τ Cert.PreGradIdeal.sig) → Buf (Elt Ideal) ℓ) (g : Dev Cert.PreGradIdeal.nD → PrngReg), Pre_PreGradIdeal m →
    θ_run (Cert.PreGradIdeal.defs (F := Ideal)) (onTc (τ := Cert.PreGradIdeal.τ) (Cert.PreGradIdeal.main (F := Ideal))) ⟨m, fun _ => 0, g⟩ (fun r => (∀ c : Dev Cert.PreGradIdeal.nD,
      r.2.mem ((c.tc : Thread Cert.PreGradIdeal.nD Cert.PreGradIdeal.τ).loc Cert.PreGradIdeal.main_arg0) = m ((c.tc : Thread Cert.PreGradIdeal.nD Cert.PreGradIdeal.τ).loc Cert.PreGradIdeal.main_arg0)
      ∧ r.2.mem ((c.tc : Thread Cert.PreGradIdeal.nD Cert.PreGradIdeal.τ).loc Cert.PreGradIdeal.main_arg1) = m ((c.tc : Thread Cert.PreGradIdeal.nD Cert.PreGradIdeal.τ).loc Cert.PreGradIdeal.main_arg1)
      ∧ r.2.mem ((c.tc : Thread Cert.PreGradIdeal.nD Cert.PreGradIdeal.τ).loc Cert.PreGradIdeal.main_arg2) = m ((c.tc : Thread Cert.PreGradIdeal.nD Cert.PreGradIdeal.τ).loc Cert.PreGradIdeal.main_arg2)
      ∧ r.2.mem ((c.tc : Thread Cert.PreGradIdeal.nD Cert.PreGradIdeal.τ).loc Cert.PreGradIdeal.main_arg3) = m ((c.tc : Thread Cert.PreGradIdeal.nD Cert.PreGradIdeal.τ).loc Cert.PreGradIdeal.main_arg3))
      ∧ r.2.sem = fun _ => 0)

def quiescent_PreGradRefIdeal [hPreGradRefIdeal : Cert.PreGradRefIdeal.Facts] : Prop :=
  ∀ (m : (ℓ : Loc Cert.PreGradRefIdeal.nD Cert.PreGradRefIdeal.τ Cert.PreGradRefIdeal.sig) → Buf (Elt Ideal) ℓ) (g : Dev Cert.PreGradRefIdeal.nD → PrngReg), Pre_PreGradRefIdeal m →
    θ_run (Cert.PreGradRefIdeal.defs (F := Ideal)) (onTc (τ := Cert.PreGradRefIdeal.τ) (Cert.PreGradRefIdeal.main (F := Ideal))) ⟨m, fun _ => 0, g⟩ (fun r => (∀ c : Dev Cert.PreGradRefIdeal.nD,
      r.2.mem ((c.tc : Thread Cert.PreGradRefIdeal.nD Cert.PreGradRefIdeal.τ).loc Cert.PreGradRefIdeal.main_arg0) = m ((c.tc : Thread Cert.PreGradRefIdeal.nD Cert.PreGradRefIdeal.τ).loc Cert.PreGradRefIdeal.main_arg0)
      ∧ r.2.mem ((c.tc : Thread Cert.PreGradRefIdeal.nD Cert.PreGradRefIdeal.τ).loc Cert.PreGradRefIdeal.main_arg1) = m ((c.tc : Thread Cert.PreGradRefIdeal.nD Cert.PreGradRefIdeal.τ).loc Cert.PreGradRefIdeal.main_arg1)
      ∧ r.2.mem ((c.tc : Thread Cert.PreGradRefIdeal.nD Cert.PreGradRefIdeal.τ).loc Cert.PreGradRefIdeal.main_arg2) = m ((c.tc : Thread Cert.PreGradRefIdeal.nD Cert.PreGradRefIdeal.τ).loc Cert.PreGradRefIdeal.main_arg2)
      ∧ r.2.mem ((c.tc : Thread Cert.PreGradRefIdeal.nD Cert.PreGradRefIdeal.τ).loc Cert.PreGradRefIdeal.main_arg3) = m ((c.tc : Thread Cert.PreGradRefIdeal.nD Cert.PreGradRefIdeal.τ).loc Cert.PreGradRefIdeal.main_arg3))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ r.2.sem = fun _ => 0)

def quiescent_FirstNormRefIdeal [hFirstNormRefIdeal : Cert.FirstNormRefIdeal.Facts] : Prop :=
  ∀ (m : (ℓ : Loc Cert.FirstNormRefIdeal.nD Cert.FirstNormRefIdeal.τ Cert.FirstNormRefIdeal.sig) → Buf (Elt Ideal) ℓ) (g : Dev Cert.FirstNormRefIdeal.nD → PrngReg), Pre_FirstNormRefIdeal m →
    θ_run (Cert.FirstNormRefIdeal.defs (F := Ideal)) (onTc (τ := Cert.FirstNormRefIdeal.τ) (Cert.FirstNormRefIdeal.main (F := Ideal))) ⟨m, fun _ => 0, g⟩ (fun r => (∀ c : Dev Cert.FirstNormRefIdeal.nD,
      r.2.mem ((c.tc : Thread Cert.FirstNormRefIdeal.nD Cert.FirstNormRefIdeal.τ).loc Cert.FirstNormRefIdeal.main_arg0) = m ((c.tc : Thread Cert.FirstNormRefIdeal.nD Cert.FirstNormRefIdeal.τ).loc Cert.FirstNormRefIdeal.main_arg0)
      ∧ r.2.mem ((c.tc : Thread Cert.FirstNormRefIdeal.nD Cert.FirstNormRefIdeal.τ).loc Cert.FirstNormRefIdeal.main_arg1) = m ((c.tc : Thread Cert.FirstNormRefIdeal.nD Cert.FirstNormRefIdeal.τ).loc Cert.FirstNormRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_PostPre [hPostPre : Cert.PostPre.Facts] : Prop :=
  ∀ (m : (ℓ : Loc Cert.PostPre.nD Cert.PostPre.τ Cert.PostPre.sig) → Buf (Elt Bits) ℓ) (g : Dev Cert.PostPre.nD → PrngReg), Pre_PostPre m →
    θ_run (Cert.PostPre.defs (F := Bits)) (onTc (τ := Cert.PostPre.τ) (Cert.PostPre.main (F := Bits))) ⟨m, fun _ => 0, g⟩ (fun r => (∀ c : Dev Cert.PostPre.nD,
      r.2.mem ((c.tc : Thread Cert.PostPre.nD Cert.PostPre.τ).loc Cert.PostPre.main_arg0) = m ((c.tc : Thread Cert.PostPre.nD Cert.PostPre.τ).loc Cert.PostPre.main_arg0)
      ∧ r.2.mem ((c.tc : Thread Cert.PostPre.nD Cert.PostPre.τ).loc Cert.PostPre.main_arg1) = m ((c.tc : Thread Cert.PostPre.nD Cert.PostPre.τ).loc Cert.PostPre.main_arg1)
      ∧ r.2.mem ((c.tc : Thread Cert.PostPre.nD Cert.PostPre.τ).loc Cert.PostPre.main_arg2) = m ((c.tc : Thread Cert.PostPre.nD Cert.PostPre.τ).loc Cert.PostPre.main_arg2)
      ∧ r.2.mem ((c.tc : Thread Cert.PostPre.nD Cert.PostPre.τ).loc Cert.PostPre.main_arg3) = m ((c.tc : Thread Cert.PostPre.nD Cert.PostPre.τ).loc Cert.PostPre.main_arg3))
      ∧ r.2.sem = fun _ => 0)

def quiescent_PostPreIdeal [hPostPreIdeal : Cert.PostPreIdeal.Facts] : Prop :=
  ∀ (m : (ℓ : Loc Cert.PostPreIdeal.nD Cert.PostPreIdeal.τ Cert.PostPreIdeal.sig) → Buf (Elt Ideal) ℓ) (g : Dev Cert.PostPreIdeal.nD → PrngReg), Pre_PostPreIdeal m →
    θ_run (Cert.PostPreIdeal.defs (F := Ideal)) (onTc (τ := Cert.PostPreIdeal.τ) (Cert.PostPreIdeal.main (F := Ideal))) ⟨m, fun _ => 0, g⟩ (fun r => (∀ c : Dev Cert.PostPreIdeal.nD,
      r.2.mem ((c.tc : Thread Cert.PostPreIdeal.nD Cert.PostPreIdeal.τ).loc Cert.PostPreIdeal.main_arg0) = m ((c.tc : Thread Cert.PostPreIdeal.nD Cert.PostPreIdeal.τ).loc Cert.PostPreIdeal.main_arg0)
      ∧ r.2.mem ((c.tc : Thread Cert.PostPreIdeal.nD Cert.PostPreIdeal.τ).loc Cert.PostPreIdeal.main_arg1) = m ((c.tc : Thread Cert.PostPreIdeal.nD Cert.PostPreIdeal.τ).loc Cert.PostPreIdeal.main_arg1)
      ∧ r.2.mem ((c.tc : Thread Cert.PostPreIdeal.nD Cert.PostPreIdeal.τ).loc Cert.PostPreIdeal.main_arg2) = m ((c.tc : Thread Cert.PostPreIdeal.nD Cert.PostPreIdeal.τ).loc Cert.PostPreIdeal.main_arg2)
      ∧ r.2.mem ((c.tc : Thread Cert.PostPreIdeal.nD Cert.PostPreIdeal.τ).loc Cert.PostPreIdeal.main_arg3) = m ((c.tc : Thread Cert.PostPreIdeal.nD Cert.PostPreIdeal.τ).loc Cert.PostPreIdeal.main_arg3))
      ∧ r.2.sem = fun _ => 0)

def quiescent_PostPreRefIdeal [hPostPreRefIdeal : Cert.PostPreRefIdeal.Facts] : Prop :=
  ∀ (m : (ℓ : Loc Cert.PostPreRefIdeal.nD Cert.PostPreRefIdeal.τ Cert.PostPreRefIdeal.sig) → Buf (Elt Ideal) ℓ) (g : Dev Cert.PostPreRefIdeal.nD → PrngReg), Pre_PostPreRefIdeal m →
    θ_run (Cert.PostPreRefIdeal.defs (F := Ideal)) (onTc (τ := Cert.PostPreRefIdeal.τ) (Cert.PostPreRefIdeal.main (F := Ideal))) ⟨m, fun _ => 0, g⟩ (fun r => (∀ c : Dev Cert.PostPreRefIdeal.nD,
      r.2.mem ((c.tc : Thread Cert.PostPreRefIdeal.nD Cert.PostPreRefIdeal.τ).loc Cert.PostPreRefIdeal.main_arg0) = m ((c.tc : Thread Cert.PostPreRefIdeal.nD Cert.PostPreRefIdeal.τ).loc Cert.PostPreRefIdeal.main_arg0)
      ∧ r.2.mem ((c.tc : Thread Cert.PostPreRefIdeal.nD Cert.PostPreRefIdeal.τ).loc Cert.PostPreRefIdeal.main_arg1) = m ((c.tc : Thread Cert.PostPreRefIdeal.nD Cert.PostPreRefIdeal.τ).loc Cert.PostPreRefIdeal.main_arg1)
      ∧ r.2.mem ((c.tc : Thread Cert.PostPreRefIdeal.nD Cert.PostPreRefIdeal.τ).loc Cert.PostPreRefIdeal.main_arg2) = m ((c.tc : Thread Cert.PostPreRefIdeal.nD Cert.PostPreRefIdeal.τ).loc Cert.PostPreRefIdeal.main_arg2)
      ∧ r.2.mem ((c.tc : Thread Cert.PostPreRefIdeal.nD Cert.PostPreRefIdeal.τ).loc Cert.PostPreRefIdeal.main_arg3) = m ((c.tc : Thread Cert.PostPreRefIdeal.nD Cert.PostPreRefIdeal.τ).loc Cert.PostPreRefIdeal.main_arg3))
      ∧ r.2.sem = fun _ => 0)

def quiescent_PostGrad [hPostGrad : Cert.PostGrad.Facts] : Prop :=
  ∀ (m : (ℓ : Loc Cert.PostGrad.nD Cert.PostGrad.τ Cert.PostGrad.sig) → Buf (Elt Bits) ℓ) (g : Dev Cert.PostGrad.nD → PrngReg), Pre_PostGrad m →
    θ_run (Cert.PostGrad.defs (F := Bits)) (onTc (τ := Cert.PostGrad.τ) (Cert.PostGrad.main (F := Bits))) ⟨m, fun _ => 0, g⟩ (fun r => (∀ c : Dev Cert.PostGrad.nD,
      r.2.mem ((c.tc : Thread Cert.PostGrad.nD Cert.PostGrad.τ).loc Cert.PostGrad.main_arg0) = m ((c.tc : Thread Cert.PostGrad.nD Cert.PostGrad.τ).loc Cert.PostGrad.main_arg0)
      ∧ r.2.mem ((c.tc : Thread Cert.PostGrad.nD Cert.PostGrad.τ).loc Cert.PostGrad.main_arg1) = m ((c.tc : Thread Cert.PostGrad.nD Cert.PostGrad.τ).loc Cert.PostGrad.main_arg1)
      ∧ r.2.mem ((c.tc : Thread Cert.PostGrad.nD Cert.PostGrad.τ).loc Cert.PostGrad.main_arg2) = m ((c.tc : Thread Cert.PostGrad.nD Cert.PostGrad.τ).loc Cert.PostGrad.main_arg2))
      ∧ r.2.sem = fun _ => 0)

def quiescent_PostGradIdeal [hPostGradIdeal : Cert.PostGradIdeal.Facts] : Prop :=
  ∀ (m : (ℓ : Loc Cert.PostGradIdeal.nD Cert.PostGradIdeal.τ Cert.PostGradIdeal.sig) → Buf (Elt Ideal) ℓ) (g : Dev Cert.PostGradIdeal.nD → PrngReg), Pre_PostGradIdeal m →
    θ_run (Cert.PostGradIdeal.defs (F := Ideal)) (onTc (τ := Cert.PostGradIdeal.τ) (Cert.PostGradIdeal.main (F := Ideal))) ⟨m, fun _ => 0, g⟩ (fun r => (∀ c : Dev Cert.PostGradIdeal.nD,
      r.2.mem ((c.tc : Thread Cert.PostGradIdeal.nD Cert.PostGradIdeal.τ).loc Cert.PostGradIdeal.main_arg0) = m ((c.tc : Thread Cert.PostGradIdeal.nD Cert.PostGradIdeal.τ).loc Cert.PostGradIdeal.main_arg0)
      ∧ r.2.mem ((c.tc : Thread Cert.PostGradIdeal.nD Cert.PostGradIdeal.τ).loc Cert.PostGradIdeal.main_arg1) = m ((c.tc : Thread Cert.PostGradIdeal.nD Cert.PostGradIdeal.τ).loc Cert.PostGradIdeal.main_arg1)
      ∧ r.2.mem ((c.tc : Thread Cert.PostGradIdeal.nD Cert.PostGradIdeal.τ).loc Cert.PostGradIdeal.main_arg2) = m ((c.tc : Thread Cert.PostGradIdeal.nD Cert.PostGradIdeal.τ).loc Cert.PostGradIdeal.main_arg2))
      ∧ r.2.sem = fun _ => 0)

def quiescent_PostGradRefIdeal [hPostGradRefIdeal : Cert.PostGradRefIdeal.Facts] : Prop :=
  ∀ (m : (ℓ : Loc Cert.PostGradRefIdeal.nD Cert.PostGradRefIdeal.τ Cert.PostGradRefIdeal.sig) → Buf (Elt Ideal) ℓ) (g : Dev Cert.PostGradRefIdeal.nD → PrngReg), Pre_PostGradRefIdeal m →
    θ_run (Cert.PostGradRefIdeal.defs (F := Ideal)) (onTc (τ := Cert.PostGradRefIdeal.τ) (Cert.PostGradRefIdeal.main (F := Ideal))) ⟨m, fun _ => 0, g⟩ (fun r => (∀ c : Dev Cert.PostGradRefIdeal.nD,
      r.2.mem ((c.tc : Thread Cert.PostGradRefIdeal.nD Cert.PostGradRefIdeal.τ).loc Cert.PostGradRefIdeal.main_arg0) = m ((c.tc : Thread Cert.PostGradRefIdeal.nD Cert.PostGradRefIdeal.τ).loc Cert.PostGradRefIdeal.main_arg0)
      ∧ r.2.mem ((c.tc : Thread Cert.PostGradRefIdeal.nD Cert.PostGradRefIdeal.τ).loc Cert.PostGradRefIdeal.main_arg1) = m ((c.tc : Thread Cert.PostGradRefIdeal.nD Cert.PostGradRefIdeal.τ).loc Cert.PostGradRefIdeal.main_arg1)
      ∧ r.2.mem ((c.tc : Thread Cert.PostGradRefIdeal.nD Cert.PostGradRefIdeal.τ).loc Cert.PostGradRefIdeal.main_arg2) = m ((c.tc : Thread Cert.PostGradRefIdeal.nD Cert.PostGradRefIdeal.τ).loc Cert.PostGradRefIdeal.main_arg2))
      ∧ r.2.sem = fun _ => 0)

def quiescent_GluGrad [hGluGrad : Cert.GluGrad.Facts] : Prop :=
  ∀ (m : (ℓ : Loc Cert.GluGrad.nD Cert.GluGrad.τ Cert.GluGrad.sig) → Buf (Elt Bits) ℓ) (g : Dev Cert.GluGrad.nD → PrngReg), Pre_GluGrad m →
    θ_run (Cert.GluGrad.defs (F := Bits)) (onTc (τ := Cert.GluGrad.τ) (Cert.GluGrad.main (F := Bits))) ⟨m, fun _ => 0, g⟩ (fun r => (∀ c : Dev Cert.GluGrad.nD,
      r.2.mem ((c.tc : Thread Cert.GluGrad.nD Cert.GluGrad.τ).loc Cert.GluGrad.main_arg0) = m ((c.tc : Thread Cert.GluGrad.nD Cert.GluGrad.τ).loc Cert.GluGrad.main_arg0)
      ∧ r.2.mem ((c.tc : Thread Cert.GluGrad.nD Cert.GluGrad.τ).loc Cert.GluGrad.main_arg1) = m ((c.tc : Thread Cert.GluGrad.nD Cert.GluGrad.τ).loc Cert.GluGrad.main_arg1)
      ∧ r.2.mem ((c.tc : Thread Cert.GluGrad.nD Cert.GluGrad.τ).loc Cert.GluGrad.main_arg2) = m ((c.tc : Thread Cert.GluGrad.nD Cert.GluGrad.τ).loc Cert.GluGrad.main_arg2)
      ∧ r.2.mem ((c.tc : Thread Cert.GluGrad.nD Cert.GluGrad.τ).loc Cert.GluGrad.main_arg3) = m ((c.tc : Thread Cert.GluGrad.nD Cert.GluGrad.τ).loc Cert.GluGrad.main_arg3))
      ∧ r.2.sem = fun _ => 0)

def quiescent_GluGradIdeal [hGluGradIdeal : Cert.GluGradIdeal.Facts] : Prop :=
  ∀ (m : (ℓ : Loc Cert.GluGradIdeal.nD Cert.GluGradIdeal.τ Cert.GluGradIdeal.sig) → Buf (Elt Ideal) ℓ) (g : Dev Cert.GluGradIdeal.nD → PrngReg), Pre_GluGradIdeal m →
    θ_run (Cert.GluGradIdeal.defs (F := Ideal)) (onTc (τ := Cert.GluGradIdeal.τ) (Cert.GluGradIdeal.main (F := Ideal))) ⟨m, fun _ => 0, g⟩ (fun r => (∀ c : Dev Cert.GluGradIdeal.nD,
      r.2.mem ((c.tc : Thread Cert.GluGradIdeal.nD Cert.GluGradIdeal.τ).loc Cert.GluGradIdeal.main_arg0) = m ((c.tc : Thread Cert.GluGradIdeal.nD Cert.GluGradIdeal.τ).loc Cert.GluGradIdeal.main_arg0)
      ∧ r.2.mem ((c.tc : Thread Cert.GluGradIdeal.nD Cert.GluGradIdeal.τ).loc Cert.GluGradIdeal.main_arg1) = m ((c.tc : Thread Cert.GluGradIdeal.nD Cert.GluGradIdeal.τ).loc Cert.GluGradIdeal.main_arg1)
      ∧ r.2.mem ((c.tc : Thread Cert.GluGradIdeal.nD Cert.GluGradIdeal.τ).loc Cert.GluGradIdeal.main_arg2) = m ((c.tc : Thread Cert.GluGradIdeal.nD Cert.GluGradIdeal.τ).loc Cert.GluGradIdeal.main_arg2)
      ∧ r.2.mem ((c.tc : Thread Cert.GluGradIdeal.nD Cert.GluGradIdeal.τ).loc Cert.GluGradIdeal.main_arg3) = m ((c.tc : Thread Cert.GluGradIdeal.nD Cert.GluGradIdeal.τ).loc Cert.GluGradIdeal.main_arg3))
      ∧ r.2.sem = fun _ => 0)

def quiescent_GluGradRefIdeal [hGluGradRefIdeal : Cert.GluGradRefIdeal.Facts] : Prop :=
  ∀ (m : (ℓ : Loc Cert.GluGradRefIdeal.nD Cert.GluGradRefIdeal.τ Cert.GluGradRefIdeal.sig) → Buf (Elt Ideal) ℓ) (g : Dev Cert.GluGradRefIdeal.nD → PrngReg), Pre_GluGradRefIdeal m →
    θ_run (Cert.GluGradRefIdeal.defs (F := Ideal)) (onTc (τ := Cert.GluGradRefIdeal.τ) (Cert.GluGradRefIdeal.main (F := Ideal))) ⟨m, fun _ => 0, g⟩ (fun r => (∀ c : Dev Cert.GluGradRefIdeal.nD,
      r.2.mem ((c.tc : Thread Cert.GluGradRefIdeal.nD Cert.GluGradRefIdeal.τ).loc Cert.GluGradRefIdeal.main_arg0) = m ((c.tc : Thread Cert.GluGradRefIdeal.nD Cert.GluGradRefIdeal.τ).loc Cert.GluGradRefIdeal.main_arg0)
      ∧ r.2.mem ((c.tc : Thread Cert.GluGradRefIdeal.nD Cert.GluGradRefIdeal.τ).loc Cert.GluGradRefIdeal.main_arg1) = m ((c.tc : Thread Cert.GluGradRefIdeal.nD Cert.GluGradRefIdeal.τ).loc Cert.GluGradRefIdeal.main_arg1)
      ∧ r.2.mem ((c.tc : Thread Cert.GluGradRefIdeal.nD Cert.GluGradRefIdeal.τ).loc Cert.GluGradRefIdeal.main_arg2) = m ((c.tc : Thread Cert.GluGradRefIdeal.nD Cert.GluGradRefIdeal.τ).loc Cert.GluGradRefIdeal.main_arg2)
      ∧ r.2.mem ((c.tc : Thread Cert.GluGradRefIdeal.nD Cert.GluGradRefIdeal.τ).loc Cert.GluGradRefIdeal.main_arg3) = m ((c.tc : Thread Cert.GluGradRefIdeal.nD Cert.GluGradRefIdeal.τ).loc Cert.GluGradRefIdeal.main_arg3))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1))
      ∧ r.2.sem = fun _ => 0)

def quiescent_FfnGrad [hFfnGrad : Cert.FfnGrad.Facts] : Prop :=
  ∀ (m : (ℓ : Loc Cert.FfnGrad.nD Cert.FfnGrad.τ Cert.FfnGrad.sig) → Buf (Elt Bits) ℓ) (g : Dev Cert.FfnGrad.nD → PrngReg), Pre_FfnGrad m →
    θ_run (Cert.FfnGrad.defs (F := Bits)) (onTc (τ := Cert.FfnGrad.τ) (Cert.FfnGrad.main (F := Bits))) ⟨m, fun _ => 0, g⟩ (fun r => (∀ c : Dev Cert.FfnGrad.nD,
      r.2.mem ((c.tc : Thread Cert.FfnGrad.nD Cert.FfnGrad.τ).loc Cert.FfnGrad.main_arg0) = m ((c.tc : Thread Cert.FfnGrad.nD Cert.FfnGrad.τ).loc Cert.FfnGrad.main_arg0)
      ∧ r.2.mem ((c.tc : Thread Cert.FfnGrad.nD Cert.FfnGrad.τ).loc Cert.FfnGrad.main_arg1) = m ((c.tc : Thread Cert.FfnGrad.nD Cert.FfnGrad.τ).loc Cert.FfnGrad.main_arg1)
      ∧ r.2.mem ((c.tc : Thread Cert.FfnGrad.nD Cert.FfnGrad.τ).loc Cert.FfnGrad.main_arg2) = m ((c.tc : Thread Cert.FfnGrad.nD Cert.FfnGrad.τ).loc Cert.FfnGrad.main_arg2)
      ∧ r.2.mem ((c.tc : Thread Cert.FfnGrad.nD Cert.FfnGrad.τ).loc Cert.FfnGrad.main_arg3) = m ((c.tc : Thread Cert.FfnGrad.nD Cert.FfnGrad.τ).loc Cert.FfnGrad.main_arg3))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3))
      ∧ r.2.sem = fun _ => 0)

def quiescent_FfnGradRefIdeal [hFfnGradRefIdeal : Cert.FfnGradRefIdeal.Facts] : Prop :=
  ∀ (m : (ℓ : Loc Cert.FfnGradRefIdeal.nD Cert.FfnGradRefIdeal.τ Cert.FfnGradRefIdeal.sig) → Buf (Elt Ideal) ℓ) (g : Dev Cert.FfnGradRefIdeal.nD → PrngReg), Pre_FfnGradRefIdeal m →
    θ_run (Cert.FfnGradRefIdeal.defs (F := Ideal)) (onTc (τ := Cert.FfnGradRefIdeal.τ) (Cert.FfnGradRefIdeal.main (F := Ideal))) ⟨m, fun _ => 0, g⟩ (fun r => (∀ c : Dev Cert.FfnGradRefIdeal.nD,
      r.2.mem ((c.tc : Thread Cert.FfnGradRefIdeal.nD Cert.FfnGradRefIdeal.τ).loc Cert.FfnGradRefIdeal.main_arg0) = m ((c.tc : Thread Cert.FfnGradRefIdeal.nD Cert.FfnGradRefIdeal.τ).loc Cert.FfnGradRefIdeal.main_arg0)
      ∧ r.2.mem ((c.tc : Thread Cert.FfnGradRefIdeal.nD Cert.FfnGradRefIdeal.τ).loc Cert.FfnGradRefIdeal.main_arg1) = m ((c.tc : Thread Cert.FfnGradRefIdeal.nD Cert.FfnGradRefIdeal.τ).loc Cert.FfnGradRefIdeal.main_arg1)
      ∧ r.2.mem ((c.tc : Thread Cert.FfnGradRefIdeal.nD Cert.FfnGradRefIdeal.τ).loc Cert.FfnGradRefIdeal.main_arg2) = m ((c.tc : Thread Cert.FfnGradRefIdeal.nD Cert.FfnGradRefIdeal.τ).loc Cert.FfnGradRefIdeal.main_arg2)
      ∧ r.2.mem ((c.tc : Thread Cert.FfnGradRefIdeal.nD Cert.FfnGradRefIdeal.τ).loc Cert.FfnGradRefIdeal.main_arg3) = m ((c.tc : Thread Cert.FfnGradRefIdeal.nD Cert.FfnGradRefIdeal.τ).loc Cert.FfnGradRefIdeal.main_arg3))
      ∧ r.2.sem = fun _ => 0)

def quiescent_AddPair [hAddPair : Cert.AddPair.Facts] [hPre_one_of_two : Cert.Pre_one_of_two.Facts] : Prop :=
  ∀ (m : (ℓ : Loc Cert.AddPair.nD Cert.AddPair.τ Cert.AddPair.sig) → Buf (Elt Bits) ℓ) (g : Dev Cert.AddPair.nD → PrngReg), Pre_AddPair m →
    θ_run (Cert.AddPair.defs (F := Bits)) (onTc (τ := Cert.AddPair.τ) (Cert.AddPair.main (F := Bits))) ⟨m, fun _ => 0, g⟩ (fun r => (∀ c : Dev Cert.AddPair.nD,
      r.2.mem ((c.tc : Thread Cert.AddPair.nD Cert.AddPair.τ).loc Cert.AddPair.main_arg0) = m ((c.tc : Thread Cert.AddPair.nD Cert.AddPair.τ).loc Cert.AddPair.main_arg0)
      ∧ r.2.mem ((c.tc : Thread Cert.AddPair.nD Cert.AddPair.τ).loc Cert.AddPair.main_arg1) = m ((c.tc : Thread Cert.AddPair.nD Cert.AddPair.τ).loc Cert.AddPair.main_arg1)
      ∧ r.2.mem ((c.tc : Thread Cert.AddPair.nD Cert.AddPair.τ).loc Cert.AddPair.main_arg2) = m ((c.tc : Thread Cert.AddPair.nD Cert.AddPair.τ).loc Cert.AddPair.main_arg2))
      ∧ r.2.sem = fun _ => 0)

def quiescent_AddPairIdeal [hAddPairIdeal : Cert.AddPairIdeal.Facts] [hPre_one_of_two : Cert.Pre_one_of_two.Facts] : Prop :=
  ∀ (m : (ℓ : Loc Cert.AddPairIdeal.nD Cert.AddPairIdeal.τ Cert.AddPairIdeal.sig) → Buf (Elt Ideal) ℓ) (g : Dev Cert.AddPairIdeal.nD → PrngReg), Pre_AddPairIdeal m →
    θ_run (Cert.AddPairIdeal.defs (F := Ideal)) (onTc (τ := Cert.AddPairIdeal.τ) (Cert.AddPairIdeal.main (F := Ideal))) ⟨m, fun _ => 0, g⟩ (fun r => (∀ c : Dev Cert.AddPairIdeal.nD,
      r.2.mem ((c.tc : Thread Cert.AddPairIdeal.nD Cert.AddPairIdeal.τ).loc Cert.AddPairIdeal.main_arg0) = m ((c.tc : Thread Cert.AddPairIdeal.nD Cert.AddPairIdeal.τ).loc Cert.AddPairIdeal.main_arg0)
      ∧ r.2.mem ((c.tc : Thread Cert.AddPairIdeal.nD Cert.AddPairIdeal.τ).loc Cert.AddPairIdeal.main_arg1) = m ((c.tc : Thread Cert.AddPairIdeal.nD Cert.AddPairIdeal.τ).loc Cert.AddPairIdeal.main_arg1)
      ∧ r.2.mem ((c.tc : Thread Cert.AddPairIdeal.nD Cert.AddPairIdeal.τ).loc Cert.AddPairIdeal.main_arg2) = m ((c.tc : Thread Cert.AddPairIdeal.nD Cert.AddPairIdeal.τ).loc Cert.AddPairIdeal.main_arg2))
      ∧ r.2.sem = fun _ => 0)

def quiescent_AddPairRefIdeal [hAddPairRefIdeal : Cert.AddPairRefIdeal.Facts] : Prop :=
  ∀ (m : (ℓ : Loc Cert.AddPairRefIdeal.nD Cert.AddPairRefIdeal.τ Cert.AddPairRefIdeal.sig) → Buf (Elt Ideal) ℓ) (g : Dev Cert.AddPairRefIdeal.nD → PrngReg), Pre_AddPairRefIdeal m →
    θ_run (Cert.AddPairRefIdeal.defs (F := Ideal)) (onTc (τ := Cert.AddPairRefIdeal.τ) (Cert.AddPairRefIdeal.main (F := Ideal))) ⟨m, fun _ => 0, g⟩ (fun r => (∀ c : Dev Cert.AddPairRefIdeal.nD,
      r.2.mem ((c.tc : Thread Cert.AddPairRefIdeal.nD Cert.AddPairRefIdeal.τ).loc Cert.AddPairRefIdeal.main_arg0) = m ((c.tc : Thread Cert.AddPairRefIdeal.nD Cert.AddPairRefIdeal.τ).loc Cert.AddPairRefIdeal.main_arg0)
      ∧ r.2.mem ((c.tc : Thread Cert.AddPairRefIdeal.nD Cert.AddPairRefIdeal.τ).loc Cert.AddPairRefIdeal.main_arg1) = m ((c.tc : Thread Cert.AddPairRefIdeal.nD Cert.AddPairRefIdeal.τ).loc Cert.AddPairRefIdeal.main_arg1)
      ∧ r.2.mem ((c.tc : Thread Cert.AddPairRefIdeal.nD Cert.AddPairRefIdeal.τ).loc Cert.AddPairRefIdeal.main_arg2) = m ((c.tc : Thread Cert.AddPairRefIdeal.nD Cert.AddPairRefIdeal.τ).loc Cert.AddPairRefIdeal.main_arg2))
      ∧ r.2.sem = fun _ => 0)

def quiescent_AddPairRefIdeal_pre_one_of_two [hAddPairRefIdeal : Cert.AddPairRefIdeal.Facts] [hPre_one_of_two : Cert.Pre_one_of_two.Facts] : Prop :=
  ∀ (m : (ℓ : Loc Cert.AddPairRefIdeal.nD Cert.AddPairRefIdeal.τ Cert.AddPairRefIdeal.sig) → Buf (Elt Ideal) ℓ) (g : Dev Cert.AddPairRefIdeal.nD → PrngReg), Pre_AddPairRefIdeal_one_of_two m →
    θ_run (Cert.AddPairRefIdeal.defs (F := Ideal)) (onTc (τ := Cert.AddPairRefIdeal.τ) (Cert.AddPairRefIdeal.main (F := Ideal))) ⟨m, fun _ => 0, g⟩ (fun r => (∀ c : Dev Cert.AddPairRefIdeal.nD,
      r.2.mem ((c.tc : Thread Cert.AddPairRefIdeal.nD Cert.AddPairRefIdeal.τ).loc Cert.AddPairRefIdeal.main_arg0) = m ((c.tc : Thread Cert.AddPairRefIdeal.nD Cert.AddPairRefIdeal.τ).loc Cert.AddPairRefIdeal.main_arg0)
      ∧ r.2.mem ((c.tc : Thread Cert.AddPairRefIdeal.nD Cert.AddPairRefIdeal.τ).loc Cert.AddPairRefIdeal.main_arg1) = m ((c.tc : Thread Cert.AddPairRefIdeal.nD Cert.AddPairRefIdeal.τ).loc Cert.AddPairRefIdeal.main_arg1)
      ∧ r.2.mem ((c.tc : Thread Cert.AddPairRefIdeal.nD Cert.AddPairRefIdeal.τ).loc Cert.AddPairRefIdeal.main_arg2) = m ((c.tc : Thread Cert.AddPairRefIdeal.nD Cert.AddPairRefIdeal.τ).loc Cert.AddPairRefIdeal.main_arg2))
      ∧ r.2.sem = fun _ => 0)

def quiescent_AddPairRef [hAddPairRef : Cert.AddPairRef.Facts] [hPre_one_of_two : Cert.Pre_one_of_two.Facts] : Prop :=
  ∀ (m : (ℓ : Loc Cert.AddPairRef.nD Cert.AddPairRef.τ Cert.AddPairRef.sig) → Buf (Elt Bits) ℓ) (g : Dev Cert.AddPairRef.nD → PrngReg), Pre_AddPairRef m →
    θ_run (Cert.AddPairRef.defs (F := Bits)) (onTc (τ := Cert.AddPairRef.τ) (Cert.AddPairRef.main (F := Bits))) ⟨m, fun _ => 0, g⟩ (fun r => (∀ c : Dev Cert.AddPairRef.nD,
      r.2.mem ((c.tc : Thread Cert.AddPairRef.nD Cert.AddPairRef.τ).loc Cert.AddPairRef.main_arg0) = m ((c.tc : Thread Cert.AddPairRef.nD Cert.AddPairRef.τ).loc Cert.AddPairRef.main_arg0)
      ∧ r.2.mem ((c.tc : Thread Cert.AddPairRef.nD Cert.AddPairRef.τ).loc Cert.AddPairRef.main_arg1) = m ((c.tc : Thread Cert.AddPairRef.nD Cert.AddPairRef.τ).loc Cert.AddPairRef.main_arg1)
      ∧ r.2.mem ((c.tc : Thread Cert.AddPairRef.nD Cert.AddPairRef.τ).loc Cert.AddPairRef.main_arg2) = m ((c.tc : Thread Cert.AddPairRef.nD Cert.AddPairRef.τ).loc Cert.AddPairRef.main_arg2))
      ∧ r.2.sem = fun _ => 0)

def quiescent_AddChips [hAddChips : Cert.AddChips.Facts] [hPre_one_of_four : Cert.Pre_one_of_four.Facts] : Prop :=
  ∀ (m : (ℓ : Loc Cert.AddChips.nD Cert.AddChips.τ Cert.AddChips.sig) → Buf (Elt Bits) ℓ) (g : Dev Cert.AddChips.nD → PrngReg), Pre_AddChips m →
    θ_run (Cert.AddChips.defs (F := Bits)) (onTc (τ := Cert.AddChips.τ) (Cert.AddChips.main (F := Bits))) ⟨m, fun _ => 0, g⟩ (fun r => (∀ c : Dev Cert.AddChips.nD,
      r.2.mem ((c.tc : Thread Cert.AddChips.nD Cert.AddChips.τ).loc Cert.AddChips.main_arg0) = m ((c.tc : Thread Cert.AddChips.nD Cert.AddChips.τ).loc Cert.AddChips.main_arg0)
      ∧ r.2.mem ((c.tc : Thread Cert.AddChips.nD Cert.AddChips.τ).loc Cert.AddChips.main_arg1) = m ((c.tc : Thread Cert.AddChips.nD Cert.AddChips.τ).loc Cert.AddChips.main_arg1)
      ∧ r.2.mem ((c.tc : Thread Cert.AddChips.nD Cert.AddChips.τ).loc Cert.AddChips.main_arg2) = m ((c.tc : Thread Cert.AddChips.nD Cert.AddChips.τ).loc Cert.AddChips.main_arg2))
      ∧ r.2.sem = fun _ => 0)

def quiescent_AddChipsIdeal [hAddChipsIdeal : Cert.AddChipsIdeal.Facts] [hPre_one_of_four : Cert.Pre_one_of_four.Facts] : Prop :=
  ∀ (m : (ℓ : Loc Cert.AddChipsIdeal.nD Cert.AddChipsIdeal.τ Cert.AddChipsIdeal.sig) → Buf (Elt Ideal) ℓ) (g : Dev Cert.AddChipsIdeal.nD → PrngReg), Pre_AddChipsIdeal m →
    θ_run (Cert.AddChipsIdeal.defs (F := Ideal)) (onTc (τ := Cert.AddChipsIdeal.τ) (Cert.AddChipsIdeal.main (F := Ideal))) ⟨m, fun _ => 0, g⟩ (fun r => (∀ c : Dev Cert.AddChipsIdeal.nD,
      r.2.mem ((c.tc : Thread Cert.AddChipsIdeal.nD Cert.AddChipsIdeal.τ).loc Cert.AddChipsIdeal.main_arg0) = m ((c.tc : Thread Cert.AddChipsIdeal.nD Cert.AddChipsIdeal.τ).loc Cert.AddChipsIdeal.main_arg0)
      ∧ r.2.mem ((c.tc : Thread Cert.AddChipsIdeal.nD Cert.AddChipsIdeal.τ).loc Cert.AddChipsIdeal.main_arg1) = m ((c.tc : Thread Cert.AddChipsIdeal.nD Cert.AddChipsIdeal.τ).loc Cert.AddChipsIdeal.main_arg1)
      ∧ r.2.mem ((c.tc : Thread Cert.AddChipsIdeal.nD Cert.AddChipsIdeal.τ).loc Cert.AddChipsIdeal.main_arg2) = m ((c.tc : Thread Cert.AddChipsIdeal.nD Cert.AddChipsIdeal.τ).loc Cert.AddChipsIdeal.main_arg2))
      ∧ r.2.sem = fun _ => 0)

def quiescent_AddChipsRefIdeal [hAddChipsRefIdeal : Cert.AddChipsRefIdeal.Facts] : Prop :=
  ∀ (m : (ℓ : Loc Cert.AddChipsRefIdeal.nD Cert.AddChipsRefIdeal.τ Cert.AddChipsRefIdeal.sig) → Buf (Elt Ideal) ℓ) (g : Dev Cert.AddChipsRefIdeal.nD → PrngReg), Pre_AddChipsRefIdeal m →
    θ_run (Cert.AddChipsRefIdeal.defs (F := Ideal)) (onTc (τ := Cert.AddChipsRefIdeal.τ) (Cert.AddChipsRefIdeal.main (F := Ideal))) ⟨m, fun _ => 0, g⟩ (fun r => (∀ c : Dev Cert.AddChipsRefIdeal.nD,
      r.2.mem ((c.tc : Thread Cert.AddChipsRefIdeal.nD Cert.AddChipsRefIdeal.τ).loc Cert.AddChipsRefIdeal.main_arg0) = m ((c.tc : Thread Cert.AddChipsRefIdeal.nD Cert.AddChipsRefIdeal.τ).loc Cert.AddChipsRefIdeal.main_arg0)
      ∧ r.2.mem ((c.tc : Thread Cert.AddChipsRefIdeal.nD Cert.AddChipsRefIdeal.τ).loc Cert.AddChipsRefIdeal.main_arg1) = m ((c.tc : Thread Cert.AddChipsRefIdeal.nD Cert.AddChipsRefIdeal.τ).loc Cert.AddChipsRefIdeal.main_arg1)
      ∧ r.2.mem ((c.tc : Thread Cert.AddChipsRefIdeal.nD Cert.AddChipsRefIdeal.τ).loc Cert.AddChipsRefIdeal.main_arg2) = m ((c.tc : Thread Cert.AddChipsRefIdeal.nD Cert.AddChipsRefIdeal.τ).loc Cert.AddChipsRefIdeal.main_arg2))
      ∧ r.2.sem = fun _ => 0)

def quiescent_AddChipsRefIdeal_pre_one_of_four [hAddChipsRefIdeal : Cert.AddChipsRefIdeal.Facts] [hPre_one_of_four : Cert.Pre_one_of_four.Facts] : Prop :=
  ∀ (m : (ℓ : Loc Cert.AddChipsRefIdeal.nD Cert.AddChipsRefIdeal.τ Cert.AddChipsRefIdeal.sig) → Buf (Elt Ideal) ℓ) (g : Dev Cert.AddChipsRefIdeal.nD → PrngReg), Pre_AddChipsRefIdeal_one_of_four m →
    θ_run (Cert.AddChipsRefIdeal.defs (F := Ideal)) (onTc (τ := Cert.AddChipsRefIdeal.τ) (Cert.AddChipsRefIdeal.main (F := Ideal))) ⟨m, fun _ => 0, g⟩ (fun r => (∀ c : Dev Cert.AddChipsRefIdeal.nD,
      r.2.mem ((c.tc : Thread Cert.AddChipsRefIdeal.nD Cert.AddChipsRefIdeal.τ).loc Cert.AddChipsRefIdeal.main_arg0) = m ((c.tc : Thread Cert.AddChipsRefIdeal.nD Cert.AddChipsRefIdeal.τ).loc Cert.AddChipsRefIdeal.main_arg0)
      ∧ r.2.mem ((c.tc : Thread Cert.AddChipsRefIdeal.nD Cert.AddChipsRefIdeal.τ).loc Cert.AddChipsRefIdeal.main_arg1) = m ((c.tc : Thread Cert.AddChipsRefIdeal.nD Cert.AddChipsRefIdeal.τ).loc Cert.AddChipsRefIdeal.main_arg1)
      ∧ r.2.mem ((c.tc : Thread Cert.AddChipsRefIdeal.nD Cert.AddChipsRefIdeal.τ).loc Cert.AddChipsRefIdeal.main_arg2) = m ((c.tc : Thread Cert.AddChipsRefIdeal.nD Cert.AddChipsRefIdeal.τ).loc Cert.AddChipsRefIdeal.main_arg2))
      ∧ r.2.sem = fun _ => 0)

def quiescent_AddChipsRef [hAddChipsRef : Cert.AddChipsRef.Facts] [hPre_one_of_four : Cert.Pre_one_of_four.Facts] : Prop :=
  ∀ (m : (ℓ : Loc Cert.AddChipsRef.nD Cert.AddChipsRef.τ Cert.AddChipsRef.sig) → Buf (Elt Bits) ℓ) (g : Dev Cert.AddChipsRef.nD → PrngReg), Pre_AddChipsRef m →
    θ_run (Cert.AddChipsRef.defs (F := Bits)) (onTc (τ := Cert.AddChipsRef.τ) (Cert.AddChipsRef.main (F := Bits))) ⟨m, fun _ => 0, g⟩ (fun r => (∀ c : Dev Cert.AddChipsRef.nD,
      r.2.mem ((c.tc : Thread Cert.AddChipsRef.nD Cert.AddChipsRef.τ).loc Cert.AddChipsRef.main_arg0) = m ((c.tc : Thread Cert.AddChipsRef.nD Cert.AddChipsRef.τ).loc Cert.AddChipsRef.main_arg0)
      ∧ r.2.mem ((c.tc : Thread Cert.AddChipsRef.nD Cert.AddChipsRef.τ).loc Cert.AddChipsRef.main_arg1) = m ((c.tc : Thread Cert.AddChipsRef.nD Cert.AddChipsRef.τ).loc Cert.AddChipsRef.main_arg1)
      ∧ r.2.mem ((c.tc : Thread Cert.AddChipsRef.nD Cert.AddChipsRef.τ).loc Cert.AddChipsRef.main_arg2) = m ((c.tc : Thread Cert.AddChipsRef.nD Cert.AddChipsRef.τ).loc Cert.AddChipsRef.main_arg2))
      ∧ r.2.sem = fun _ => 0)

def preserves_Share_ShareIdeal : Prop :=
  True

def algebraic_ShareIdeal_ShareRefIdeal [hShareIdeal : Cert.ShareIdeal.Facts] [hShareRefIdeal : Cert.ShareRefIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareRefIdeal.nD Cert.ShareRefIdeal.τ Cert.ShareRefIdeal.sig) → Buf (Elt Ideal) ℓ) (g' : Dev Cert.ShareRefIdeal.nD → PrngReg), Pre_ShareIdeal m →
    (∀ c : Dev Cert.ShareIdeal.nD,
      m ((c.tc : Thread Cert.ShareIdeal.nD Cert.ShareIdeal.τ).loc Cert.ShareIdeal.main_arg0) = Layout.block ⟨2, ![10224, 1024]⟩ ⟨2, ![81792, 1024]⟩ 0 8 c (m' (((0 : Dev Cert.ShareRefIdeal.nD).tc : Thread Cert.ShareRefIdeal.nD Cert.ShareRefIdeal.τ).loc Cert.ShareRefIdeal.main_arg0))) →
    ∃ (v0 : Buf (Elt Ideal) (((0 : Dev Cert.ShareRefIdeal.nD).tc : Thread Cert.ShareRefIdeal.nD Cert.ShareRefIdeal.τ).loc Cert.ShareRefIdeal.main_v0)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1) = Layout.blockN ⟨3, ![2, 10224, 1024]⟩ ⟨3, ![8, 10224, 1024]⟩ (Layout.meshBlock [2, 2, 2] ![[0, 1], [], []] c) v0
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ θ_run (Cert.ShareRefIdeal.defs (F := Ideal)) (onTc (τ := Cert.ShareRefIdeal.τ) (Cert.ShareRefIdeal.main (F := Ideal))) ⟨m', fun _ => 0, g'⟩ (fun r =>
          r.2.mem (((0 : Dev Cert.ShareRefIdeal.nD).tc : Thread Cert.ShareRefIdeal.nD Cert.ShareRefIdeal.τ).loc Cert.ShareRefIdeal.main_v0) = v0
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0))

def bitexact_Share_ShareRef [hShare : Cert.Share.Facts] [hShareRef : Cert.ShareRef.Facts] : Prop :=
  ∀ (m : (ℓ : Loc Cert.Share.nD Cert.Share.τ Cert.Share.sig) → Buf (Elt Bits) ℓ) (g : Dev Cert.Share.nD → PrngReg)
    (m' : (ℓ : Loc Cert.ShareRef.nD Cert.ShareRef.τ Cert.ShareRef.sig) → Buf (Elt Bits) ℓ) (g' : Dev Cert.ShareRef.nD → PrngReg), Pre_Share m →
    (∀ c : Dev Cert.Share.nD,
      m ((c.tc : Thread Cert.Share.nD Cert.Share.τ).loc Cert.Share.main_arg0) = Layout.block ⟨2, ![10224, 1024]⟩ ⟨2, ![81792, 1024]⟩ 0 8 c (m' (((0 : Dev Cert.ShareRef.nD).tc : Thread Cert.ShareRef.nD Cert.ShareRef.τ).loc Cert.ShareRef.main_arg0))) →
    ∃ (v0 : Buf (Elt Bits) (((0 : Dev Cert.ShareRef.nD).tc : Thread Cert.ShareRef.nD Cert.ShareRef.τ).loc Cert.ShareRef.main_v0)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1) = Layout.blockN ⟨3, ![2, 10224, 1024]⟩ ⟨3, ![8, 10224, 1024]⟩ (Layout.meshBlock [2, 2, 2] ![[0, 1], [], []] c) v0
          ∧ r.2.mem ((c.tc : Thread Cert.Share.nD Cert.Share.τ).loc Cert.Share.main_arg0) = m ((c.tc : Thread Cert.Share.nD Cert.Share.τ).loc Cert.Share.main_arg0))
      ∧ θ_run (Cert.ShareRef.defs (F := Bits)) (onTc (τ := Cert.ShareRef.τ) (Cert.ShareRef.main (F := Bits))) ⟨m', fun _ => 0, g'⟩ (fun r =>
          r.2.mem (((0 : Dev Cert.ShareRef.nD).tc : Thread Cert.ShareRef.nD Cert.ShareRef.τ).loc Cert.ShareRef.main_v0) = v0
          ∧ r.2.mem (((0 : Dev Cert.ShareRef.nD).tc : Thread Cert.ShareRef.nD Cert.ShareRef.τ).loc Cert.ShareRef.main_arg0) = m' (((0 : Dev Cert.ShareRef.nD).tc : Thread Cert.ShareRef.nD Cert.ShareRef.τ).loc Cert.ShareRef.main_arg0))

def preserves_Exchange_ExchangeIdeal : Prop :=
  True

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨3, ![4, 10224, 1024]⟩ ⟨3, ![32, 10224, 1024]⟩ 0 8 c (m' (((0 : Dev Cert.ExchangeRefIdeal.nD).tc : Thread Cert.ExchangeRefIdeal.nD Cert.ExchangeRefIdeal.τ).loc Cert.ExchangeRefIdeal.main_arg0))) →
    ∃ (v0 : Buf (Elt Ideal) (((0 : Dev Cert.ExchangeRefIdeal.nD).tc : Thread Cert.ExchangeRefIdeal.nD Cert.ExchangeRefIdeal.τ).loc Cert.ExchangeRefIdeal.main_v32)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1) = Layout.block ⟨3, ![3, 10224, 1024]⟩ ⟨3, ![24, 10224, 1024]⟩ 0 8 c v0
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v32) = v0
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0))

def bitexact_Exchange_ExchangeRef [hExchange : Cert.Exchange.Facts] [hExchangeRef : Cert.ExchangeRef.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeRef.nD Cert.ExchangeRef.τ Cert.ExchangeRef.sig) → Buf (Elt Bits) ℓ) (g' : Dev Cert.ExchangeRef.nD → PrngReg), Pre_Exchange m →
    (∀ c : Dev Cert.Exchange.nD,
      m ((c.tc : Thread Cert.Exchange.nD Cert.Exchange.τ).loc Cert.Exchange.main_arg0) = Layout.block ⟨3, ![4, 10224, 1024]⟩ ⟨3, ![32, 10224, 1024]⟩ 0 8 c (m' (((0 : Dev Cert.ExchangeRef.nD).tc : Thread Cert.ExchangeRef.nD Cert.ExchangeRef.τ).loc Cert.ExchangeRef.main_arg0))) →
    ∃ (v0 : Buf (Elt Bits) (((0 : Dev Cert.ExchangeRef.nD).tc : Thread Cert.ExchangeRef.nD Cert.ExchangeRef.τ).loc Cert.ExchangeRef.main_v32)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1) = Layout.block ⟨3, ![3, 10224, 1024]⟩ ⟨3, ![24, 10224, 1024]⟩ 0 8 c v0
          ∧ r.2.mem ((c.tc : Thread Cert.Exchange.nD Cert.Exchange.τ).loc Cert.Exchange.main_arg0) = m ((c.tc : Thread Cert.Exchange.nD Cert.Exchange.τ).loc Cert.Exchange.main_arg0))
      ∧ θ_run (Cert.ExchangeRef.defs (F := Bits)) (onTc (τ := Cert.ExchangeRef.τ) (Cert.ExchangeRef.main (F := Bits))) ⟨m', fun _ => 0, g'⟩ (fun r =>
          r.2.mem (((0 : Dev Cert.ExchangeRef.nD).tc : Thread Cert.ExchangeRef.nD Cert.ExchangeRef.τ).loc Cert.ExchangeRef.main_v32) = v0
          ∧ r.2.mem (((0 : Dev Cert.ExchangeRef.nD).tc : Thread Cert.ExchangeRef.nD Cert.ExchangeRef.τ).loc Cert.ExchangeRef.main_arg0) = m' (((0 : Dev Cert.ExchangeRef.nD).tc : Thread Cert.ExchangeRef.nD Cert.ExchangeRef.τ).loc Cert.ExchangeRef.main_arg0))

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![4, 20448, 1024]⟩ ⟨3, ![32, 20448, 1024]⟩ 0 8 c (m' (((0 : Dev Cert.SwapRefIdeal.nD).tc : Thread Cert.SwapRefIdeal.nD Cert.SwapRefIdeal.τ).loc Cert.SwapRefIdeal.main_arg0))) →
    ∃ (v0 : Buf (Elt Ideal) (((0 : Dev Cert.SwapRefIdeal.nD).tc : Thread Cert.SwapRefIdeal.nD Cert.SwapRefIdeal.τ).loc Cert.SwapRefIdeal.main_v8)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨3, ![4, 10224, 1024]⟩ ⟨3, ![32, 10224, 1024]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨3, ![4, 20448, 1024]⟩ ⟨3, ![32, 20448, 1024]⟩ 0 8 c (m' (((0 : Dev Cert.SwapRef.nD).tc : Thread Cert.SwapRef.nD Cert.SwapRef.τ).loc Cert.SwapRef.main_arg0))) →
    ∃ (v0 : Buf (Elt Bits) (((0 : Dev Cert.SwapRef.nD).tc : Thread Cert.SwapRef.nD Cert.SwapRef.τ).loc Cert.SwapRef.main_v8)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.block ⟨3, ![4, 10224, 1024]⟩ ⟨3, ![32, 10224, 1024]⟩ 0 8 c v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v8) = v0
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![20448, 1024]⟩ ⟨2, ![81792, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![20448, 1024]⟩ ⟨2, ![81792, 1024]⟩ (Layout.meshBlock [2, 2, 2] ![[0, 1], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamQ_AdamQIdeal : Prop :=
  True

def algebraic_AdamQIdeal_AdamQRefIdeal [hAdamQIdeal : Cert.AdamQIdeal.Facts] [hAdamQRefIdeal : Cert.AdamQRefIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQRefIdeal.nD Cert.AdamQRefIdeal.τ Cert.AdamQRefIdeal.sig) → Buf (Elt Ideal) ℓ) (g' : Dev Cert.AdamQRefIdeal.nD → PrngReg), Pre_AdamQIdeal m →
    (∀ c : Dev Cert.AdamQIdeal.nD,
      m' ((c.tc : Thread Cert.AdamQRefIdeal.nD Cert.AdamQRefIdeal.τ).loc Cert.AdamQRefIdeal.main_arg0) = m ((c.tc : Thread Cert.AdamQIdeal.nD Cert.AdamQIdeal.τ).loc Cert.AdamQIdeal.main_arg0)
      ∧ m' ((c.tc : Thread Cert.AdamQRefIdeal.nD Cert.AdamQRefIdeal.τ).loc Cert.AdamQRefIdeal.main_arg1) = m ((c.tc : Thread Cert.AdamQIdeal.nD Cert.AdamQIdeal.τ).loc Cert.AdamQIdeal.main_arg1)
      ∧ m' ((c.tc : Thread Cert.AdamQRefIdeal.nD Cert.AdamQRefIdeal.τ).loc Cert.AdamQRefIdeal.main_arg2) = m ((c.tc : Thread Cert.AdamQIdeal.nD Cert.AdamQIdeal.τ).loc Cert.AdamQIdeal.main_arg2)
      ∧ m' ((c.tc : Thread Cert.AdamQRefIdeal.nD Cert.AdamQRefIdeal.τ).loc Cert.AdamQRefIdeal.main_arg3) = m ((c.tc : Thread Cert.AdamQIdeal.nD Cert.AdamQIdeal.τ).loc Cert.AdamQIdeal.main_arg3)) →
    ∃ (v0 : (c : Dev Cert.AdamQIdeal.nD) → Buf (Elt Ideal) ((c.tc : Thread Cert.AdamQIdeal.nD Cert.AdamQIdeal.τ).loc Cert.AdamQIdeal.main_v0_0)) (v1 : (c : Dev Cert.AdamQIdeal.nD) → Buf (Elt Ideal) ((c.tc : Thread Cert.AdamQIdeal.nD Cert.AdamQIdeal.τ).loc Cert.AdamQIdeal.main_v0_1)) (v2 : (c : Dev Cert.AdamQIdeal.nD) → Buf (Elt Ideal) ((c.tc : Thread Cert.AdamQIdeal.nD Cert.AdamQIdeal.τ).loc Cert.AdamQIdeal.main_v0_2)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v0_0) = v0 c
          ∧ r.2.mem ((c.tc : Thread Cert.AdamQIdeal.nD Cert.AdamQIdeal.τ).loc Cert.AdamQIdeal.main_v0_1) = v1 c
          ∧ r.2.mem ((c.tc : Thread Cert.AdamQIdeal.nD Cert.AdamQIdeal.τ).loc Cert.AdamQIdeal.main_v0_2) = v2 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ θ_run (Cert.AdamQRefIdeal.defs (F := Ideal)) (onTc (τ := Cert.AdamQRefIdeal.τ) (Cert.AdamQRefIdeal.main (F := Ideal))) ⟨m', fun _ => 0, g'⟩ (fun r => ∀ c : Dev Cert.AdamQRefIdeal.nD,
          r.2.mem ((c.tc : Thread Cert.AdamQRefIdeal.nD Cert.AdamQRefIdeal.τ).loc Cert.AdamQRefIdeal.main_v23) = v0 c
          ∧ r.2.mem ((c.tc : Thread Cert.AdamQRefIdeal.nD Cert.AdamQRefIdeal.τ).loc Cert.AdamQRefIdeal.main_v4) = v1 c
          ∧ r.2.mem ((c.tc : Thread Cert.AdamQRefIdeal.nD Cert.AdamQRefIdeal.τ).loc Cert.AdamQRefIdeal.main_v10) = v2 c
          ∧ r.2.mem ((c.tc : Thread Cert.AdamQRefIdeal.nD Cert.AdamQRefIdeal.τ).loc Cert.AdamQRefIdeal.main_arg0) = m' ((c.tc : Thread Cert.AdamQRefIdeal.nD Cert.AdamQRefIdeal.τ).loc Cert.AdamQRefIdeal.main_arg0)
          ∧ r.2.mem ((c.tc : Thread Cert.AdamQRefIdeal.nD Cert.AdamQRefIdeal.τ).loc Cert.AdamQRefIdeal.main_arg1) = m' ((c.tc : Thread Cert.AdamQRefIdeal.nD Cert.AdamQRefIdeal.τ).loc Cert.AdamQRefIdeal.main_arg1)
          ∧ r.2.mem ((c.tc : Thread Cert.AdamQRefIdeal.nD Cert.AdamQRefIdeal.τ).loc Cert.AdamQRefIdeal.main_arg2) = m' ((c.tc : Thread Cert.AdamQRefIdeal.nD Cert.AdamQRefIdeal.τ).loc Cert.AdamQRefIdeal.main_arg2)
          ∧ r.2.mem ((c.tc : Thread Cert.AdamQRefIdeal.nD Cert.AdamQRefIdeal.τ).loc Cert.AdamQRefIdeal.main_arg3) = m' ((c.tc : Thread Cert.AdamQRefIdeal.nD Cert.AdamQRefIdeal.τ).loc Cert.AdamQRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGains_AdamGainsIdeal : Prop :=
  True

def algebraic_AdamGainsIdeal_AdamGainsRefIdeal [hAdamGainsIdeal : Cert.AdamGainsIdeal.Facts] [hAdamGainsRefIdeal : Cert.AdamGainsRefIdeal.Facts] : Prop :=
  ∀ (m : (ℓ : Loc Cert.AdamGainsIdeal.nD Cert.AdamGainsIdeal.τ Cert.AdamGainsIdeal.sig) → Buf (Elt Ideal) ℓ) (g : Dev Cert.AdamGainsIdeal.nD → PrngReg)
    (m' : (ℓ : Loc Cert.AdamGainsRefIdeal.nD Cert.AdamGainsRefIdeal.τ Cert.AdamGainsRefIdeal.sig) → Buf (Elt Ideal) ℓ) (g' : Dev Cert.AdamGainsRefIdeal.nD → PrngReg), Pre_AdamGainsIdeal m →
    (∀ c : Dev Cert.AdamGainsIdeal.nD,
      m' ((c.tc : Thread Cert.AdamGainsRefIdeal.nD Cert.AdamGainsRefIdeal.τ).loc Cert.AdamGainsRefIdeal.main_arg0) = m ((c.tc : Thread Cert.AdamGainsIdeal.nD Cert.AdamGainsIdeal.τ).loc Cert.AdamGainsIdeal.main_arg0)
      ∧ m' ((c.tc : Thread Cert.AdamGainsRefIdeal.nD Cert.AdamGainsRefIdeal.τ).loc Cert.AdamGainsRefIdeal.main_arg1) = m ((c.tc : Thread Cert.AdamGainsIdeal.nD Cert.AdamGainsIdeal.τ).loc Cert.AdamGainsIdeal.main_arg1)
      ∧ m' ((c.tc : Thread Cert.AdamGainsRefIdeal.nD Cert.AdamGainsRefIdeal.τ).loc Cert.AdamGainsRefIdeal.main_arg2) = m ((c.tc : Thread Cert.AdamGainsIdeal.nD Cert.AdamGainsIdeal.τ).loc Cert.AdamGainsIdeal.main_arg2)
      ∧ m' ((c.tc : Thread Cert.AdamGainsRefIdeal.nD Cert.AdamGainsRefIdeal.τ).loc Cert.AdamGainsRefIdeal.main_arg3) = m ((c.tc : Thread Cert.AdamGainsIdeal.nD Cert.AdamGainsIdeal.τ).loc Cert.AdamGainsIdeal.main_arg3)) →
    ∃ (v0 : (c : Dev Cert.AdamGainsIdeal.nD) → Buf (Elt Ideal) ((c.tc : Thread Cert.AdamGainsIdeal.nD Cert.AdamGainsIdeal.τ).loc Cert.AdamGainsIdeal.main_v0_0)) (v1 : (c : Dev Cert.AdamGainsIdeal.nD) → Buf (Elt Ideal) ((c.tc : Thread Cert.AdamGainsIdeal.nD Cert.AdamGainsIdeal.τ).loc Cert.AdamGainsIdeal.main_v0_1)) (v2 : (c : Dev Cert.AdamGainsIdeal.nD) → Buf (Elt Ideal) ((c.tc : Thread Cert.AdamGainsIdeal.nD Cert.AdamGainsIdeal.τ).loc Cert.AdamGainsIdeal.main_v0_2)),
      θ_run (Cert.AdamGainsIdeal.defs (F := Ideal)) (onTc (τ := Cert.AdamGainsIdeal.τ) (Cert.AdamGainsIdeal.main (F := Ideal))) ⟨m, fun _ => 0, g⟩ (fun r => ∀ c : Dev Cert.AdamGainsIdeal.nD,
          r.2.mem ((c.tc : Thread Cert.AdamGainsIdeal.nD Cert.AdamGainsIdeal.τ).loc Cert.AdamGainsIdeal.main_v0_0) = v0 c
          ∧ r.2.mem ((c.tc : Thread Cert.AdamGainsIdeal.nD Cert.AdamGainsIdeal.τ).loc Cert.AdamGainsIdeal.main_v0_1) = v1 c
          ∧ r.2.mem ((c.tc : Thread Cert.AdamGainsIdeal.nD Cert.AdamGainsIdeal.τ).loc Cert.AdamGainsIdeal.main_v0_2) = v2 c
          ∧ r.2.mem ((c.tc : Thread Cert.AdamGainsIdeal.nD Cert.AdamGainsIdeal.τ).loc Cert.AdamGainsIdeal.main_arg0) = m ((c.tc : Thread Cert.AdamGainsIdeal.nD Cert.AdamGainsIdeal.τ).loc Cert.AdamGainsIdeal.main_arg0)
          ∧ r.2.mem ((c.tc : Thread Cert.AdamGainsIdeal.nD Cert.AdamGainsIdeal.τ).loc Cert.AdamGainsIdeal.main_arg1) = m ((c.tc : Thread Cert.AdamGainsIdeal.nD Cert.AdamGainsIdeal.τ).loc Cert.AdamGainsIdeal.main_arg1)
          ∧ r.2.mem ((c.tc : Thread Cert.AdamGainsIdeal.nD Cert.AdamGainsIdeal.τ).loc Cert.AdamGainsIdeal.main_arg2) = m ((c.tc : Thread Cert.AdamGainsIdeal.nD Cert.AdamGainsIdeal.τ).loc Cert.AdamGainsIdeal.main_arg2)
          ∧ r.2.mem ((c.tc : Thread Cert.AdamGainsIdeal.nD Cert.AdamGainsIdeal.τ).loc Cert.AdamGainsIdeal.main_arg3) = m ((c.tc : Thread Cert.AdamGainsIdeal.nD Cert.AdamGainsIdeal.τ).loc Cert.AdamGainsIdeal.main_arg3))
      ∧ θ_run (Cert.AdamGainsRefIdeal.defs (F := Ideal)) (onTc (τ := Cert.AdamGainsRefIdeal.τ) (Cert.AdamGainsRefIdeal.main (F := Ideal))) ⟨m', fun _ => 0, g'⟩ (fun r => ∀ c : Dev Cert.AdamGainsRefIdeal.nD,
          r.2.mem ((c.tc : Thread Cert.AdamGainsRefIdeal.nD Cert.AdamGainsRefIdeal.τ).loc Cert.AdamGainsRefIdeal.main_v23) = v0 c
          ∧ r.2.mem ((c.tc : Thread Cert.AdamGainsRefIdeal.nD Cert.AdamGainsRefIdeal.τ).loc Cert.AdamGainsRefIdeal.main_v4) = v1 c
          ∧ r.2.mem ((c.tc : Thread Cert.AdamGainsRefIdeal.nD Cert.AdamGainsRefIdeal.τ).loc Cert.AdamGainsRefIdeal.main_v10) = v2 c
          ∧ r.2.mem ((c.tc : Thread Cert.AdamGainsRefIdeal.nD Cert.AdamGainsRefIdeal.τ).loc Cert.AdamGainsRefIdeal.main_arg0) = m' ((c.tc : Thread Cert.AdamGainsRefIdeal.nD Cert.AdamGainsRefIdeal.τ).loc Cert.AdamGainsRefIdeal.main_arg0)
          ∧ r.2.mem ((c.tc : Thread Cert.AdamGainsRefIdeal.nD Cert.AdamGainsRefIdeal.τ).loc Cert.AdamGainsRefIdeal.main_arg1) = m' ((c.tc : Thread Cert.AdamGainsRefIdeal.nD Cert.AdamGainsRefIdeal.τ).loc Cert.AdamGainsRefIdeal.main_arg1)
          ∧ r.2.mem ((c.tc : Thread Cert.AdamGainsRefIdeal.nD Cert.AdamGainsRefIdeal.τ).loc Cert.AdamGainsRefIdeal.main_arg2) = m' ((c.tc : Thread Cert.AdamGainsRefIdeal.nD Cert.AdamGainsRefIdeal.τ).loc Cert.AdamGainsRefIdeal.main_arg2)
          ∧ r.2.mem ((c.tc : Thread Cert.AdamGainsRefIdeal.nD Cert.AdamGainsRefIdeal.τ).loc Cert.AdamGainsRefIdeal.main_arg3) = m' ((c.tc : Thread Cert.AdamGainsRefIdeal.nD Cert.AdamGainsRefIdeal.τ).loc Cert.AdamGainsRefIdeal.main_arg3))

def preserves_SumGains_SumGainsIdeal : Prop :=
  True

def algebraic_SumGainsIdeal_SumGainsRefIdeal [hSumGainsIdeal : Cert.SumGainsIdeal.Facts] [hSumGainsRefIdeal : Cert.SumGainsRefIdeal.Facts] : Prop :=
  ∀ (m : (ℓ : Loc Cert.SumGainsIdeal.nD Cert.SumGainsIdeal.τ Cert.SumGainsIdeal.sig) → Buf (Elt Ideal) ℓ) (g : Dev Cert.SumGainsIdeal.nD → PrngReg)
    (m' : (ℓ : Loc Cert.SumGainsRefIdeal.nD Cert.SumGainsRefIdeal.τ Cert.SumGainsRefIdeal.sig) → Buf (Elt Ideal) ℓ) (g' : Dev Cert.SumGainsRefIdeal.nD → PrngReg), Pre_SumGainsIdeal m →
    (∀ c : Dev Cert.SumGainsIdeal.nD,
      m' ((c.tc : Thread Cert.SumGainsRefIdeal.nD Cert.SumGainsRefIdeal.τ).loc Cert.SumGainsRefIdeal.main_arg0) = m ((c.tc : Thread Cert.SumGainsIdeal.nD Cert.SumGainsIdeal.τ).loc Cert.SumGainsIdeal.main_arg0)) →
    ∃ (v0 : (c : Dev Cert.SumGainsIdeal.nD) → Buf (Elt Ideal) ((c.tc : Thread Cert.SumGainsIdeal.nD Cert.SumGainsIdeal.τ).loc Cert.SumGainsIdeal.main_v0)),
      θ_run (Cert.SumGainsIdeal.defs (F := Ideal)) (onTc (τ := Cert.SumGainsIdeal.τ) (Cert.SumGainsIdeal.main (F := Ideal))) ⟨m, fun _ => 0, g⟩ (fun r => ∀ c : Dev Cert.SumGainsIdeal.nD,
          r.2.mem ((c.tc : Thread Cert.SumGainsIdeal.nD Cert.SumGainsIdeal.τ).loc Cert.SumGainsIdeal.main_v0) = v0 c
          ∧ r.2.mem ((c.tc : Thread Cert.SumGainsIdeal.nD Cert.SumGainsIdeal.τ).loc Cert.SumGainsIdeal.main_arg0) = m ((c.tc : Thread Cert.SumGainsIdeal.nD Cert.SumGainsIdeal.τ).loc Cert.SumGainsIdeal.main_arg0))
      ∧ θ_run (Cert.SumGainsRefIdeal.defs (F := Ideal)) (onTc (τ := Cert.SumGainsRefIdeal.τ) (Cert.SumGainsRefIdeal.main (F := Ideal))) ⟨m', fun _ => 0, g'⟩ (fun r => ∀ c : Dev Cert.SumGainsRefIdeal.nD,
          r.2.mem ((c.tc : Thread Cert.SumGainsRefIdeal.nD Cert.SumGainsRefIdeal.τ).loc Cert.SumGainsRefIdeal.main_v1) = v0 c
          ∧ r.2.mem ((c.tc : Thread Cert.SumGainsRefIdeal.nD Cert.SumGainsRefIdeal.τ).loc Cert.SumGainsRefIdeal.main_arg0) = m' ((c.tc : Thread Cert.SumGainsRefIdeal.nD Cert.SumGainsRefIdeal.τ).loc Cert.SumGainsRefIdeal.main_arg0))

def preserves_PostLoss_PostLossIdeal : Prop :=
  True

def algebraic_PostLossIdeal_PostLossRefIdeal [hPostLossIdeal : Cert.PostLossIdeal.Facts] [hPostLossRefIdeal : Cert.PostLossRefIdeal.Facts] : Prop :=
  ∀ (m : (ℓ : Loc Cert.PostLossIdeal.nD Cert.PostLossIdeal.τ Cert.PostLossIdeal.sig) → Buf (Elt Ideal) ℓ) (g : Dev Cert.PostLossIdeal.nD → PrngReg)
    (m' : (ℓ : Loc Cert.PostLossRefIdeal.nD Cert.PostLossRefIdeal.τ Cert.PostLossRefIdeal.sig) → Buf (Elt Ideal) ℓ) (g' : Dev Cert.PostLossRefIdeal.nD → PrngReg), Pre_PostLossIdeal m →
    (∀ c : Dev Cert.PostLossIdeal.nD,
      m' ((c.tc : Thread Cert.PostLossRefIdeal.nD Cert.PostLossRefIdeal.τ).loc Cert.PostLossRefIdeal.main_arg0) = m ((c.tc : Thread Cert.PostLossIdeal.nD Cert.PostLossIdeal.τ).loc Cert.PostLossIdeal.main_arg0)
      ∧ m' ((c.tc : Thread Cert.PostLossRefIdeal.nD Cert.PostLossRefIdeal.τ).loc Cert.PostLossRefIdeal.main_arg1) = m ((c.tc : Thread Cert.PostLossIdeal.nD Cert.PostLossIdeal.τ).loc Cert.PostLossIdeal.main_arg1)
      ∧ m' ((c.tc : Thread Cert.PostLossRefIdeal.nD Cert.PostLossRefIdeal.τ).loc Cert.PostLossRefIdeal.main_arg2) = m ((c.tc : Thread Cert.PostLossIdeal.nD Cert.PostLossIdeal.τ).loc Cert.PostLossIdeal.main_arg2)
      ∧ m' ((c.tc : Thread Cert.PostLossRefIdeal.nD Cert.PostLossRefIdeal.τ).loc Cert.PostLossRefIdeal.main_arg3) = m ((c.tc : Thread Cert.PostLossIdeal.nD Cert.PostLossIdeal.τ).loc Cert.PostLossIdeal.main_arg3)) →
    ∃ (v0 : (c : Dev Cert.PostLossIdeal.nD) → Buf (Elt Ideal) ((c.tc : Thread Cert.PostLossIdeal.nD Cert.PostLossIdeal.τ).loc Cert.PostLossIdeal.main_v1_0)) (v1 : (c : Dev Cert.PostLossIdeal.nD) → Buf (Elt Ideal) ((c.tc : Thread Cert.PostLossIdeal.nD Cert.PostLossIdeal.τ).loc Cert.PostLossIdeal.main_v1_1)),
      θ_run (Cert.PostLossIdeal.defs (F := Ideal)) (onTc (τ := Cert.PostLossIdeal.τ) (Cert.PostLossIdeal.main (F := Ideal))) ⟨m, fun _ => 0, g⟩ (fun r => ∀ c : Dev Cert.PostLossIdeal.nD,
          r.2.mem ((c.tc : Thread Cert.PostLossIdeal.nD Cert.PostLossIdeal.τ).loc Cert.PostLossIdeal.main_v1_0) = v0 c
          ∧ r.2.mem ((c.tc : Thread Cert.PostLossIdeal.nD Cert.PostLossIdeal.τ).loc Cert.PostLossIdeal.main_v1_1) = v1 c
          ∧ r.2.mem ((c.tc : Thread Cert.PostLossIdeal.nD Cert.PostLossIdeal.τ).loc Cert.PostLossIdeal.main_arg0) = m ((c.tc : Thread Cert.PostLossIdeal.nD Cert.PostLossIdeal.τ).loc Cert.PostLossIdeal.main_arg0)
          ∧ r.2.mem ((c.tc : Thread Cert.PostLossIdeal.nD Cert.PostLossIdeal.τ).loc Cert.PostLossIdeal.main_arg1) = m ((c.tc : Thread Cert.PostLossIdeal.nD Cert.PostLossIdeal.τ).loc Cert.PostLossIdeal.main_arg1)
          ∧ r.2.mem ((c.tc : Thread Cert.PostLossIdeal.nD Cert.PostLossIdeal.τ).loc Cert.PostLossIdeal.main_arg2) = m ((c.tc : Thread Cert.PostLossIdeal.nD Cert.PostLossIdeal.τ).loc Cert.PostLossIdeal.main_arg2)
          ∧ r.2.mem ((c.tc : Thread Cert.PostLossIdeal.nD Cert.PostLossIdeal.τ).loc Cert.PostLossIdeal.main_arg3) = m ((c.tc : Thread Cert.PostLossIdeal.nD Cert.PostLossIdeal.τ).loc Cert.PostLossIdeal.main_arg3))
      ∧ θ_run (Cert.PostLossRefIdeal.defs (F := Ideal)) (onTc (τ := Cert.PostLossRefIdeal.τ) (Cert.PostLossRefIdeal.main (F := Ideal))) ⟨m', fun _ => 0, g'⟩ (fun r => ∀ c : Dev Cert.PostLossRefIdeal.nD,
          r.2.mem ((c.tc : Thread Cert.PostLossRefIdeal.nD Cert.PostLossRefIdeal.τ).loc Cert.PostLossRefIdeal.main_v18) = v0 c
          ∧ r.2.mem ((c.tc : Thread Cert.PostLossRefIdeal.nD Cert.PostLossRefIdeal.τ).loc Cert.PostLossRefIdeal.main_v25) = v1 c
          ∧ r.2.mem ((c.tc : Thread Cert.PostLossRefIdeal.nD Cert.PostLossRefIdeal.τ).loc Cert.PostLossRefIdeal.main_arg0) = m' ((c.tc : Thread Cert.PostLossRefIdeal.nD Cert.PostLossRefIdeal.τ).loc Cert.PostLossRefIdeal.main_arg0)
          ∧ r.2.mem ((c.tc : Thread Cert.PostLossRefIdeal.nD Cert.PostLossRefIdeal.τ).loc Cert.PostLossRefIdeal.main_arg1) = m' ((c.tc : Thread Cert.PostLossRefIdeal.nD Cert.PostLossRefIdeal.τ).loc Cert.PostLossRefIdeal.main_arg1)
          ∧ r.2.mem ((c.tc : Thread Cert.PostLossRefIdeal.nD Cert.PostLossRefIdeal.τ).loc Cert.PostLossRefIdeal.main_arg2) = m' ((c.tc : Thread Cert.PostLossRefIdeal.nD Cert.PostLossRefIdeal.τ).loc Cert.PostLossRefIdeal.main_arg2)
          ∧ r.2.mem ((c.tc : Thread Cert.PostLossRefIdeal.nD Cert.PostLossRefIdeal.τ).loc Cert.PostLossRefIdeal.main_arg3) = m' ((c.tc : Thread Cert.PostLossRefIdeal.nD Cert.PostLossRefIdeal.τ).loc Cert.PostLossRefIdeal.main_arg3))

def preserves_PreGrad_PreGradIdeal : Prop :=
  True

def algebraic_PreGradIdeal_PreGradRefIdeal [hPreGradIdeal : Cert.PreGradIdeal.Facts] [hPreGradRefIdeal : Cert.PreGradRefIdeal.Facts] : Prop :=
  ∀ (m : (ℓ : Loc Cert.PreGradIdeal.nD Cert.PreGradIdeal.τ Cert.PreGradIdeal.sig) → Buf (Elt Ideal) ℓ) (g : Dev Cert.PreGradIdeal.nD → PrngReg)
    (m' : (ℓ : Loc Cert.PreGradRefIdeal.nD Cert.PreGradRefIdeal.τ Cert.PreGradRefIdeal.sig) → Buf (Elt Ideal) ℓ) (g' : Dev Cert.PreGradRefIdeal.nD → PrngReg), Pre_PreGradIdeal m →
    (∀ c : Dev Cert.PreGradIdeal.nD,
      m' ((c.tc : Thread Cert.PreGradRefIdeal.nD Cert.PreGradRefIdeal.τ).loc Cert.PreGradRefIdeal.main_arg0) = m ((c.tc : Thread Cert.PreGradIdeal.nD Cert.PreGradIdeal.τ).loc Cert.PreGradIdeal.main_arg0)
      ∧ m' ((c.tc : Thread Cert.PreGradRefIdeal.nD Cert.PreGradRefIdeal.τ).loc Cert.PreGradRefIdeal.main_arg1) = m ((c.tc : Thread Cert.PreGradIdeal.nD Cert.PreGradIdeal.τ).loc Cert.PreGradIdeal.main_arg1)
      ∧ m' ((c.tc : Thread Cert.PreGradRefIdeal.nD Cert.PreGradRefIdeal.τ).loc Cert.PreGradRefIdeal.main_arg2) = m ((c.tc : Thread Cert.PreGradIdeal.nD Cert.PreGradIdeal.τ).loc Cert.PreGradIdeal.main_arg2)
      ∧ m' ((c.tc : Thread Cert.PreGradRefIdeal.nD Cert.PreGradRefIdeal.τ).loc Cert.PreGradRefIdeal.main_arg3) = m ((c.tc : Thread Cert.PreGradIdeal.nD Cert.PreGradIdeal.τ).loc Cert.PreGradIdeal.main_arg3)) →
    ∃ (v0 : (c : Dev Cert.PreGradIdeal.nD) → Buf (Elt Ideal) ((c.tc : Thread Cert.PreGradIdeal.nD Cert.PreGradIdeal.τ).loc Cert.PreGradIdeal.main_v1_0)) (v1 : (c : Dev Cert.PreGradIdeal.nD) → Buf (Elt Ideal) ((c.tc : Thread Cert.PreGradIdeal.nD Cert.PreGradIdeal.τ).loc Cert.PreGradIdeal.main_v2)),
      θ_run (Cert.PreGradIdeal.defs (F := Ideal)) (onTc (τ := Cert.PreGradIdeal.τ) (Cert.PreGradIdeal.main (F := Ideal))) ⟨m, fun _ => 0, g⟩ (fun r => ∀ c : Dev Cert.PreGradIdeal.nD,
          r.2.mem ((c.tc : Thread Cert.PreGradIdeal.nD Cert.PreGradIdeal.τ).loc Cert.PreGradIdeal.main_v1_0) = v0 c
          ∧ r.2.mem ((c.tc : Thread Cert.PreGradIdeal.nD Cert.PreGradIdeal.τ).loc Cert.PreGradIdeal.main_v2) = v1 c
          ∧ r.2.mem ((c.tc : Thread Cert.PreGradIdeal.nD Cert.PreGradIdeal.τ).loc Cert.PreGradIdeal.main_arg0) = m ((c.tc : Thread Cert.PreGradIdeal.nD Cert.PreGradIdeal.τ).loc Cert.PreGradIdeal.main_arg0)
          ∧ r.2.mem ((c.tc : Thread Cert.PreGradIdeal.nD Cert.PreGradIdeal.τ).loc Cert.PreGradIdeal.main_arg1) = m ((c.tc : Thread Cert.PreGradIdeal.nD Cert.PreGradIdeal.τ).loc Cert.PreGradIdeal.main_arg1)
          ∧ r.2.mem ((c.tc : Thread Cert.PreGradIdeal.nD Cert.PreGradIdeal.τ).loc Cert.PreGradIdeal.main_arg2) = m ((c.tc : Thread Cert.PreGradIdeal.nD Cert.PreGradIdeal.τ).loc Cert.PreGradIdeal.main_arg2)
          ∧ r.2.mem ((c.tc : Thread Cert.PreGradIdeal.nD Cert.PreGradIdeal.τ).loc Cert.PreGradIdeal.main_arg3) = m ((c.tc : Thread Cert.PreGradIdeal.nD Cert.PreGradIdeal.τ).loc Cert.PreGradIdeal.main_arg3))
      ∧ θ_run (Cert.PreGradRefIdeal.defs (F := Ideal)) (onTc (τ := Cert.PreGradRefIdeal.τ) (Cert.PreGradRefIdeal.main (F := Ideal))) ⟨m', fun _ => 0, g'⟩ (fun r => ∀ c : Dev Cert.PreGradRefIdeal.nD,
          r.2.mem ((c.tc : Thread Cert.PreGradRefIdeal.nD Cert.PreGradRefIdeal.τ).loc Cert.PreGradRefIdeal.main_v26) = v0 c
          ∧ r.2.mem ((c.tc : Thread Cert.PreGradRefIdeal.nD Cert.PreGradRefIdeal.τ).loc Cert.PreGradRefIdeal.main_v28) = v1 c
          ∧ r.2.mem ((c.tc : Thread Cert.PreGradRefIdeal.nD Cert.PreGradRefIdeal.τ).loc Cert.PreGradRefIdeal.main_arg0) = m' ((c.tc : Thread Cert.PreGradRefIdeal.nD Cert.PreGradRefIdeal.τ).loc Cert.PreGradRefIdeal.main_arg0)
          ∧ r.2.mem ((c.tc : Thread Cert.PreGradRefIdeal.nD Cert.PreGradRefIdeal.τ).loc Cert.PreGradRefIdeal.main_arg1) = m' ((c.tc : Thread Cert.PreGradRefIdeal.nD Cert.PreGradRefIdeal.τ).loc Cert.PreGradRefIdeal.main_arg1)
          ∧ r.2.mem ((c.tc : Thread Cert.PreGradRefIdeal.nD Cert.PreGradRefIdeal.τ).loc Cert.PreGradRefIdeal.main_arg2) = m' ((c.tc : Thread Cert.PreGradRefIdeal.nD Cert.PreGradRefIdeal.τ).loc Cert.PreGradRefIdeal.main_arg2)
          ∧ r.2.mem ((c.tc : Thread Cert.PreGradRefIdeal.nD Cert.PreGradRefIdeal.τ).loc Cert.PreGradRefIdeal.main_arg3) = m' ((c.tc : Thread Cert.PreGradRefIdeal.nD Cert.PreGradRefIdeal.τ).loc Cert.PreGradRefIdeal.main_arg3))

def preserves_FirstNorm_FirstNormIdeal : Prop :=
  True

def algebraic_FirstNormIdeal_FirstNormRefIdeal [hFirstNormIdeal : Cert.FirstNormIdeal.Facts] [hFirstNormRefIdeal : Cert.FirstNormRefIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormRefIdeal.nD Cert.FirstNormRefIdeal.τ Cert.FirstNormRefIdeal.sig) → Buf (Elt Ideal) ℓ) (g' : Dev Cert.FirstNormRefIdeal.nD → PrngReg), Pre_FirstNormIdeal m →
    (∀ c : Dev Cert.FirstNormIdeal.nD,
      m' ((c.tc : Thread Cert.FirstNormRefIdeal.nD Cert.FirstNormRefIdeal.τ).loc Cert.FirstNormRefIdeal.main_arg0) = m ((c.tc : Thread Cert.FirstNormIdeal.nD Cert.FirstNormIdeal.τ).loc Cert.FirstNormIdeal.main_arg0)
      ∧ m' ((c.tc : Thread Cert.FirstNormRefIdeal.nD Cert.FirstNormRefIdeal.τ).loc Cert.FirstNormRefIdeal.main_arg1) = m ((c.tc : Thread Cert.FirstNormIdeal.nD Cert.FirstNormIdeal.τ).loc Cert.FirstNormIdeal.main_arg1)) →
    ∃ (v0 : (c : Dev Cert.FirstNormIdeal.nD) → Buf (Elt Ideal) ((c.tc : Thread Cert.FirstNormIdeal.nD Cert.FirstNormIdeal.τ).loc Cert.FirstNormIdeal.main_v1)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v1) = v0 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ θ_run (Cert.FirstNormRefIdeal.defs (F := Ideal)) (onTc (τ := Cert.FirstNormRefIdeal.τ) (Cert.FirstNormRefIdeal.main (F := Ideal))) ⟨m', fun _ => 0, g'⟩ (fun r => ∀ c : Dev Cert.FirstNormRefIdeal.nD,
          r.2.mem ((c.tc : Thread Cert.FirstNormRefIdeal.nD Cert.FirstNormRefIdeal.τ).loc Cert.FirstNormRefIdeal.main_v13) = v0 c
          ∧ r.2.mem ((c.tc : Thread Cert.FirstNormRefIdeal.nD Cert.FirstNormRefIdeal.τ).loc Cert.FirstNormRefIdeal.main_arg0) = m' ((c.tc : Thread Cert.FirstNormRefIdeal.nD Cert.FirstNormRefIdeal.τ).loc Cert.FirstNormRefIdeal.main_arg0)
          ∧ r.2.mem ((c.tc : Thread Cert.FirstNormRefIdeal.nD Cert.FirstNormRefIdeal.τ).loc Cert.FirstNormRefIdeal.main_arg1) = m' ((c.tc : Thread Cert.FirstNormRefIdeal.nD Cert.FirstNormRefIdeal.τ).loc Cert.FirstNormRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_v3) = v1 c
          ∧ r.2.mem ((c.tc : Thread Cert.FfnUpRefIdeal.nD Cert.FfnUpRefIdeal.τ).loc Cert.FfnUpRefIdeal.main_v6) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v0) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_PostPre_PostPreIdeal : Prop :=
  True

def algebraic_PostPreIdeal_PostPreRefIdeal [hPostPreIdeal : Cert.PostPreIdeal.Facts] [hPostPreRefIdeal : Cert.PostPreRefIdeal.Facts] : Prop :=
  ∀ (m : (ℓ : Loc Cert.PostPreIdeal.nD Cert.PostPreIdeal.τ Cert.PostPreIdeal.sig) → Buf (Elt Ideal) ℓ) (g : Dev Cert.PostPreIdeal.nD → PrngReg)
    (m' : (ℓ : Loc Cert.PostPreRefIdeal.nD Cert.PostPreRefIdeal.τ Cert.PostPreRefIdeal.sig) → Buf (Elt Ideal) ℓ) (g' : Dev Cert.PostPreRefIdeal.nD → PrngReg), Pre_PostPreIdeal m →
    (∀ c : Dev Cert.PostPreIdeal.nD,
      m' ((c.tc : Thread Cert.PostPreRefIdeal.nD Cert.PostPreRefIdeal.τ).loc Cert.PostPreRefIdeal.main_arg0) = m ((c.tc : Thread Cert.PostPreIdeal.nD Cert.PostPreIdeal.τ).loc Cert.PostPreIdeal.main_arg0)
      ∧ m' ((c.tc : Thread Cert.PostPreRefIdeal.nD Cert.PostPreRefIdeal.τ).loc Cert.PostPreRefIdeal.main_arg1) = m ((c.tc : Thread Cert.PostPreIdeal.nD Cert.PostPreIdeal.τ).loc Cert.PostPreIdeal.main_arg1)
      ∧ m' ((c.tc : Thread Cert.PostPreRefIdeal.nD Cert.PostPreRefIdeal.τ).loc Cert.PostPreRefIdeal.main_arg2) = m ((c.tc : Thread Cert.PostPreIdeal.nD Cert.PostPreIdeal.τ).loc Cert.PostPreIdeal.main_arg2)
      ∧ m' ((c.tc : Thread Cert.PostPreRefIdeal.nD Cert.PostPreRefIdeal.τ).loc Cert.PostPreRefIdeal.main_arg3) = m ((c.tc : Thread Cert.PostPreIdeal.nD Cert.PostPreIdeal.τ).loc Cert.PostPreIdeal.main_arg3)) →
    ∃ (v0 : (c : Dev Cert.PostPreIdeal.nD) → Buf (Elt Ideal) ((c.tc : Thread Cert.PostPreIdeal.nD Cert.PostPreIdeal.τ).loc Cert.PostPreIdeal.main_v2_0)) (v1 : (c : Dev Cert.PostPreIdeal.nD) → Buf (Elt Ideal) ((c.tc : Thread Cert.PostPreIdeal.nD Cert.PostPreIdeal.τ).loc Cert.PostPreIdeal.main_v2_1)),
      θ_run (Cert.PostPreIdeal.defs (F := Ideal)) (onTc (τ := Cert.PostPreIdeal.τ) (Cert.PostPreIdeal.main (F := Ideal))) ⟨m, fun _ => 0, g⟩ (fun r => ∀ c : Dev Cert.PostPreIdeal.nD,
          r.2.mem ((c.tc : Thread Cert.PostPreIdeal.nD Cert.PostPreIdeal.τ).loc Cert.PostPreIdeal.main_v2_0) = v0 c
          ∧ r.2.mem ((c.tc : Thread Cert.PostPreIdeal.nD Cert.PostPreIdeal.τ).loc Cert.PostPreIdeal.main_v2_1) = v1 c
          ∧ r.2.mem ((c.tc : Thread Cert.PostPreIdeal.nD Cert.PostPreIdeal.τ).loc Cert.PostPreIdeal.main_arg0) = m ((c.tc : Thread Cert.PostPreIdeal.nD Cert.PostPreIdeal.τ).loc Cert.PostPreIdeal.main_arg0)
          ∧ r.2.mem ((c.tc : Thread Cert.PostPreIdeal.nD Cert.PostPreIdeal.τ).loc Cert.PostPreIdeal.main_arg1) = m ((c.tc : Thread Cert.PostPreIdeal.nD Cert.PostPreIdeal.τ).loc Cert.PostPreIdeal.main_arg1)
          ∧ r.2.mem ((c.tc : Thread Cert.PostPreIdeal.nD Cert.PostPreIdeal.τ).loc Cert.PostPreIdeal.main_arg2) = m ((c.tc : Thread Cert.PostPreIdeal.nD Cert.PostPreIdeal.τ).loc Cert.PostPreIdeal.main_arg2)
          ∧ r.2.mem ((c.tc : Thread Cert.PostPreIdeal.nD Cert.PostPreIdeal.τ).loc Cert.PostPreIdeal.main_arg3) = m ((c.tc : Thread Cert.PostPreIdeal.nD Cert.PostPreIdeal.τ).loc Cert.PostPreIdeal.main_arg3))
      ∧ θ_run (Cert.PostPreRefIdeal.defs (F := Ideal)) (onTc (τ := Cert.PostPreRefIdeal.τ) (Cert.PostPreRefIdeal.main (F := Ideal))) ⟨m', fun _ => 0, g'⟩ (fun r => ∀ c : Dev Cert.PostPreRefIdeal.nD,
          r.2.mem ((c.tc : Thread Cert.PostPreRefIdeal.nD Cert.PostPreRefIdeal.τ).loc Cert.PostPreRefIdeal.main_v15) = v0 c
          ∧ r.2.mem ((c.tc : Thread Cert.PostPreRefIdeal.nD Cert.PostPreRefIdeal.τ).loc Cert.PostPreRefIdeal.main_v29) = v1 c
          ∧ r.2.mem ((c.tc : Thread Cert.PostPreRefIdeal.nD Cert.PostPreRefIdeal.τ).loc Cert.PostPreRefIdeal.main_arg0) = m' ((c.tc : Thread Cert.PostPreRefIdeal.nD Cert.PostPreRefIdeal.τ).loc Cert.PostPreRefIdeal.main_arg0)
          ∧ r.2.mem ((c.tc : Thread Cert.PostPreRefIdeal.nD Cert.PostPreRefIdeal.τ).loc Cert.PostPreRefIdeal.main_arg1) = m' ((c.tc : Thread Cert.PostPreRefIdeal.nD Cert.PostPreRefIdeal.τ).loc Cert.PostPreRefIdeal.main_arg1)
          ∧ r.2.mem ((c.tc : Thread Cert.PostPreRefIdeal.nD Cert.PostPreRefIdeal.τ).loc Cert.PostPreRefIdeal.main_arg2) = m' ((c.tc : Thread Cert.PostPreRefIdeal.nD Cert.PostPreRefIdeal.τ).loc Cert.PostPreRefIdeal.main_arg2)
          ∧ r.2.mem ((c.tc : Thread Cert.PostPreRefIdeal.nD Cert.PostPreRefIdeal.τ).loc Cert.PostPreRefIdeal.main_arg3) = m' ((c.tc : Thread Cert.PostPreRefIdeal.nD Cert.PostPreRefIdeal.τ).loc Cert.PostPreRefIdeal.main_arg3))

def preserves_PostGrad_PostGradIdeal : Prop :=
  True

def algebraic_PostGradIdeal_PostGradRefIdeal [hPostGradIdeal : Cert.PostGradIdeal.Facts] [hPostGradRefIdeal : Cert.PostGradRefIdeal.Facts] : Prop :=
  ∀ (m : (ℓ : Loc Cert.PostGradIdeal.nD Cert.PostGradIdeal.τ Cert.PostGradIdeal.sig) → Buf (Elt Ideal) ℓ) (g : Dev Cert.PostGradIdeal.nD → PrngReg)
    (m' : (ℓ : Loc Cert.PostGradRefIdeal.nD Cert.PostGradRefIdeal.τ Cert.PostGradRefIdeal.sig) → Buf (Elt Ideal) ℓ) (g' : Dev Cert.PostGradRefIdeal.nD → PrngReg), Pre_PostGradIdeal m →
    (∀ c : Dev Cert.PostGradIdeal.nD,
      m' ((c.tc : Thread Cert.PostGradRefIdeal.nD Cert.PostGradRefIdeal.τ).loc Cert.PostGradRefIdeal.main_arg0) = m ((c.tc : Thread Cert.PostGradIdeal.nD Cert.PostGradIdeal.τ).loc Cert.PostGradIdeal.main_arg0)
      ∧ m' ((c.tc : Thread Cert.PostGradRefIdeal.nD Cert.PostGradRefIdeal.τ).loc Cert.PostGradRefIdeal.main_arg1) = m ((c.tc : Thread Cert.PostGradIdeal.nD Cert.PostGradIdeal.τ).loc Cert.PostGradIdeal.main_arg1)
      ∧ m' ((c.tc : Thread Cert.PostGradRefIdeal.nD Cert.PostGradRefIdeal.τ).loc Cert.PostGradRefIdeal.main_arg2) = m ((c.tc : Thread Cert.PostGradIdeal.nD Cert.PostGradIdeal.τ).loc Cert.PostGradIdeal.main_arg2)) →
    ∃ (v0 : (c : Dev Cert.PostGradIdeal.nD) → Buf (Elt Ideal) ((c.tc : Thread Cert.PostGradIdeal.nD Cert.PostGradIdeal.τ).loc Cert.PostGradIdeal.main_v1_0)) (v1 : (c : Dev Cert.PostGradIdeal.nD) → Buf (Elt Ideal) ((c.tc : Thread Cert.PostGradIdeal.nD Cert.PostGradIdeal.τ).loc Cert.PostGradIdeal.main_v2)),
      θ_run (Cert.PostGradIdeal.defs (F := Ideal)) (onTc (τ := Cert.PostGradIdeal.τ) (Cert.PostGradIdeal.main (F := Ideal))) ⟨m, fun _ => 0, g⟩ (fun r => ∀ c : Dev Cert.PostGradIdeal.nD,
          r.2.mem ((c.tc : Thread Cert.PostGradIdeal.nD Cert.PostGradIdeal.τ).loc Cert.PostGradIdeal.main_v1_0) = v0 c
          ∧ r.2.mem ((c.tc : Thread Cert.PostGradIdeal.nD Cert.PostGradIdeal.τ).loc Cert.PostGradIdeal.main_v2) = v1 c
          ∧ r.2.mem ((c.tc : Thread Cert.PostGradIdeal.nD Cert.PostGradIdeal.τ).loc Cert.PostGradIdeal.main_arg0) = m ((c.tc : Thread Cert.PostGradIdeal.nD Cert.PostGradIdeal.τ).loc Cert.PostGradIdeal.main_arg0)
          ∧ r.2.mem ((c.tc : Thread Cert.PostGradIdeal.nD Cert.PostGradIdeal.τ).loc Cert.PostGradIdeal.main_arg1) = m ((c.tc : Thread Cert.PostGradIdeal.nD Cert.PostGradIdeal.τ).loc Cert.PostGradIdeal.main_arg1)
          ∧ r.2.mem ((c.tc : Thread Cert.PostGradIdeal.nD Cert.PostGradIdeal.τ).loc Cert.PostGradIdeal.main_arg2) = m ((c.tc : Thread Cert.PostGradIdeal.nD Cert.PostGradIdeal.τ).loc Cert.PostGradIdeal.main_arg2))
      ∧ θ_run (Cert.PostGradRefIdeal.defs (F := Ideal)) (onTc (τ := Cert.PostGradRefIdeal.τ) (Cert.PostGradRefIdeal.main (F := Ideal))) ⟨m', fun _ => 0, g'⟩ (fun r => ∀ c : Dev Cert.PostGradRefIdeal.nD,
          r.2.mem ((c.tc : Thread Cert.PostGradRefIdeal.nD Cert.PostGradRefIdeal.τ).loc Cert.PostGradRefIdeal.main_v28) = v0 c
          ∧ r.2.mem ((c.tc : Thread Cert.PostGradRefIdeal.nD Cert.PostGradRefIdeal.τ).loc Cert.PostGradRefIdeal.main_v30) = v1 c
          ∧ r.2.mem ((c.tc : Thread Cert.PostGradRefIdeal.nD Cert.PostGradRefIdeal.τ).loc Cert.PostGradRefIdeal.main_arg0) = m' ((c.tc : Thread Cert.PostGradRefIdeal.nD Cert.PostGradRefIdeal.τ).loc Cert.PostGradRefIdeal.main_arg0)
          ∧ r.2.mem ((c.tc : Thread Cert.PostGradRefIdeal.nD Cert.PostGradRefIdeal.τ).loc Cert.PostGradRefIdeal.main_arg1) = m' ((c.tc : Thread Cert.PostGradRefIdeal.nD Cert.PostGradRefIdeal.τ).loc Cert.PostGradRefIdeal.main_arg1)
          ∧ r.2.mem ((c.tc : Thread Cert.PostGradRefIdeal.nD Cert.PostGradRefIdeal.τ).loc Cert.PostGradRefIdeal.main_arg2) = m' ((c.tc : Thread Cert.PostGradRefIdeal.nD Cert.PostGradRefIdeal.τ).loc Cert.PostGradRefIdeal.main_arg2))

def preserves_GluGrad_GluGradIdeal : Prop :=
  True

def algebraic_GluGradIdeal_GluGradRefIdeal [hGluGradIdeal : Cert.GluGradIdeal.Facts] [hGluGradRefIdeal : Cert.GluGradRefIdeal.Facts] : Prop :=
  ∀ (m : (ℓ : Loc Cert.GluGradIdeal.nD Cert.GluGradIdeal.τ Cert.GluGradIdeal.sig) → Buf (Elt Ideal) ℓ) (g : Dev Cert.GluGradIdeal.nD → PrngReg)
    (m' : (ℓ : Loc Cert.GluGradRefIdeal.nD Cert.GluGradRefIdeal.τ Cert.GluGradRefIdeal.sig) → Buf (Elt Ideal) ℓ) (g' : Dev Cert.GluGradRefIdeal.nD → PrngReg), Pre_GluGradIdeal m →
    (∀ c : Dev Cert.GluGradIdeal.nD,
      m' ((c.tc : Thread Cert.GluGradRefIdeal.nD Cert.GluGradRefIdeal.τ).loc Cert.GluGradRefIdeal.main_arg0) = m ((c.tc : Thread Cert.GluGradIdeal.nD Cert.GluGradIdeal.τ).loc Cert.GluGradIdeal.main_arg0)
      ∧ m' ((c.tc : Thread Cert.GluGradRefIdeal.nD Cert.GluGradRefIdeal.τ).loc Cert.GluGradRefIdeal.main_arg1) = m ((c.tc : Thread Cert.GluGradIdeal.nD Cert.GluGradIdeal.τ).loc Cert.GluGradIdeal.main_arg1)
      ∧ m' ((c.tc : Thread Cert.GluGradRefIdeal.nD Cert.GluGradRefIdeal.τ).loc Cert.GluGradRefIdeal.main_arg2) = m ((c.tc : Thread Cert.GluGradIdeal.nD Cert.GluGradIdeal.τ).loc Cert.GluGradIdeal.main_arg2)
      ∧ m' ((c.tc : Thread Cert.GluGradRefIdeal.nD Cert.GluGradRefIdeal.τ).loc Cert.GluGradRefIdeal.main_arg3) = m ((c.tc : Thread Cert.GluGradIdeal.nD Cert.GluGradIdeal.τ).loc Cert.GluGradIdeal.main_arg3)) →
    ∃ (v0 : (c : Dev Cert.GluGradIdeal.nD) → Buf (Elt Ideal) ((c.tc : Thread Cert.GluGradIdeal.nD Cert.GluGradIdeal.τ).loc Cert.GluGradIdeal.main_v0_0)) (v1 : (c : Dev Cert.GluGradIdeal.nD) → Buf (Elt Ideal) ((c.tc : Thread Cert.GluGradIdeal.nD Cert.GluGradIdeal.τ).loc Cert.GluGradIdeal.main_v0_1)),
      θ_run (Cert.GluGradIdeal.defs (F := Ideal)) (onTc (τ := Cert.GluGradIdeal.τ) (Cert.GluGradIdeal.main (F := Ideal))) ⟨m, fun _ => 0, g⟩ (fun r => ∀ c : Dev Cert.GluGradIdeal.nD,
          r.2.mem ((c.tc : Thread Cert.GluGradIdeal.nD Cert.GluGradIdeal.τ).loc Cert.GluGradIdeal.main_v0_0) = v0 c
          ∧ r.2.mem ((c.tc : Thread Cert.GluGradIdeal.nD Cert.GluGradIdeal.τ).loc Cert.GluGradIdeal.main_v0_1) = v1 c
          ∧ r.2.mem ((c.tc : Thread Cert.GluGradIdeal.nD Cert.GluGradIdeal.τ).loc Cert.GluGradIdeal.main_arg0) = m ((c.tc : Thread Cert.GluGradIdeal.nD Cert.GluGradIdeal.τ).loc Cert.GluGradIdeal.main_arg0)
          ∧ r.2.mem ((c.tc : Thread Cert.GluGradIdeal.nD Cert.GluGradIdeal.τ).loc Cert.GluGradIdeal.main_arg1) = m ((c.tc : Thread Cert.GluGradIdeal.nD Cert.GluGradIdeal.τ).loc Cert.GluGradIdeal.main_arg1)
          ∧ r.2.mem ((c.tc : Thread Cert.GluGradIdeal.nD Cert.GluGradIdeal.τ).loc Cert.GluGradIdeal.main_arg2) = m ((c.tc : Thread Cert.GluGradIdeal.nD Cert.GluGradIdeal.τ).loc Cert.GluGradIdeal.main_arg2)
          ∧ r.2.mem ((c.tc : Thread Cert.GluGradIdeal.nD Cert.GluGradIdeal.τ).loc Cert.GluGradIdeal.main_arg3) = m ((c.tc : Thread Cert.GluGradIdeal.nD Cert.GluGradIdeal.τ).loc Cert.GluGradIdeal.main_arg3))
      ∧ θ_run (Cert.GluGradRefIdeal.defs (F := Ideal)) (onTc (τ := Cert.GluGradRefIdeal.τ) (Cert.GluGradRefIdeal.main (F := Ideal))) ⟨m', fun _ => 0, g'⟩ (fun r => ∀ c : Dev Cert.GluGradRefIdeal.nD,
          r.2.mem ((c.tc : Thread Cert.GluGradRefIdeal.nD Cert.GluGradRefIdeal.τ).loc Cert.GluGradRefIdeal.main_v17) = v0 c
          ∧ r.2.mem ((c.tc : Thread Cert.GluGradRefIdeal.nD Cert.GluGradRefIdeal.τ).loc Cert.GluGradRefIdeal.main_v20) = v1 c
          ∧ r.2.mem ((c.tc : Thread Cert.GluGradRefIdeal.nD Cert.GluGradRefIdeal.τ).loc Cert.GluGradRefIdeal.main_arg0) = m' ((c.tc : Thread Cert.GluGradRefIdeal.nD Cert.GluGradRefIdeal.τ).loc Cert.GluGradRefIdeal.main_arg0)
          ∧ r.2.mem ((c.tc : Thread Cert.GluGradRefIdeal.nD Cert.GluGradRefIdeal.τ).loc Cert.GluGradRefIdeal.main_arg1) = m' ((c.tc : Thread Cert.GluGradRefIdeal.nD Cert.GluGradRefIdeal.τ).loc Cert.GluGradRefIdeal.main_arg1)
          ∧ r.2.mem ((c.tc : Thread Cert.GluGradRefIdeal.nD Cert.GluGradRefIdeal.τ).loc Cert.GluGradRefIdeal.main_arg2) = m' ((c.tc : Thread Cert.GluGradRefIdeal.nD Cert.GluGradRefIdeal.τ).loc Cert.GluGradRefIdeal.main_arg2)
          ∧ r.2.mem ((c.tc : Thread Cert.GluGradRefIdeal.nD Cert.GluGradRefIdeal.τ).loc Cert.GluGradRefIdeal.main_arg3) = m' ((c.tc : Thread Cert.GluGradRefIdeal.nD Cert.GluGradRefIdeal.τ).loc Cert.GluGradRefIdeal.main_arg3))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v1) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v1) = v0 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1))

def preserves_FfnGrad_FfnGradIdeal : Prop :=
  True

def algebraic_FfnGradIdeal_FfnGradRefIdeal [hFfnGradIdeal : Cert.FfnGradIdeal.Facts] [hFfnGradRefIdeal : Cert.FfnGradRefIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg)
    (m' : (ℓ : Loc Cert.FfnGradRefIdeal.nD Cert.FfnGradRefIdeal.τ Cert.FfnGradRefIdeal.sig) → Buf (Elt Ideal) ℓ) (g' : Dev Cert.FfnGradRefIdeal.nD → PrngReg), Pre_FfnGradIdeal m →
    (∀ c : Dev Cert.FfnGradIdeal.nD,
      m' ((c.tc : Thread Cert.FfnGradRefIdeal.nD Cert.FfnGradRefIdeal.τ).loc Cert.FfnGradRefIdeal.main_arg0) = m ((c.tc : Thread Cert.FfnGradIdeal.nD Cert.FfnGradIdeal.τ).loc Cert.FfnGradIdeal.main_arg0)
      ∧ m' ((c.tc : Thread Cert.FfnGradRefIdeal.nD Cert.FfnGradRefIdeal.τ).loc Cert.FfnGradRefIdeal.main_arg1) = m ((c.tc : Thread Cert.FfnGradIdeal.nD Cert.FfnGradIdeal.τ).loc Cert.FfnGradIdeal.main_arg1)
      ∧ m' ((c.tc : Thread Cert.FfnGradRefIdeal.nD Cert.FfnGradRefIdeal.τ).loc Cert.FfnGradRefIdeal.main_arg2) = m ((c.tc : Thread Cert.FfnGradIdeal.nD Cert.FfnGradIdeal.τ).loc Cert.FfnGradIdeal.main_arg2)
      ∧ m' ((c.tc : Thread Cert.FfnGradRefIdeal.nD Cert.FfnGradRefIdeal.τ).loc Cert.FfnGradRefIdeal.main_arg3) = m ((c.tc : Thread Cert.FfnGradIdeal.nD Cert.FfnGradIdeal.τ).loc Cert.FfnGradIdeal.main_arg3)) →
    ∃ (v0 : (c : Dev Cert.FfnGradIdeal.nD) → Buf (Elt Ideal) ((c.tc : Thread Cert.FfnGradIdeal.nD Cert.FfnGradIdeal.τ).loc Cert.FfnGradIdeal.main_v0)),
      θ_run (Cert.FfnGradIdeal.defs (F := Ideal)) (onTc (τ := Cert.FfnGradIdeal.τ) (Cert.FfnGradIdeal.main (F := Ideal))) ⟨m, fun _ => 0, g⟩ (fun r => ∀ c : Dev Cert.FfnGradIdeal.nD,
          r.2.mem ((c.tc : Thread Cert.FfnGradIdeal.nD Cert.FfnGradIdeal.τ).loc Cert.FfnGradIdeal.main_v0) = v0 c
          ∧ r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3))
      ∧ θ_run (Cert.FfnGradRefIdeal.defs (F := Ideal)) (onTc (τ := Cert.FfnGradRefIdeal.τ) (Cert.FfnGradRefIdeal.main (F := Ideal))) ⟨m', fun _ => 0, g'⟩ (fun r => ∀ c : Dev Cert.FfnGradRefIdeal.nD,
          r.2.mem ((c.tc : Thread Cert.FfnGradRefIdeal.nD Cert.FfnGradRefIdeal.τ).loc Cert.FfnGradRefIdeal.main_v4) = v0 c
          ∧ r.2.mem ((c.tc : Thread Cert.FfnGradRefIdeal.nD Cert.FfnGradRefIdeal.τ).loc Cert.FfnGradRefIdeal.main_arg0) = m' ((c.tc : Thread Cert.FfnGradRefIdeal.nD Cert.FfnGradRefIdeal.τ).loc Cert.FfnGradRefIdeal.main_arg0)
          ∧ r.2.mem ((c.tc : Thread Cert.FfnGradRefIdeal.nD Cert.FfnGradRefIdeal.τ).loc Cert.FfnGradRefIdeal.main_arg1) = m' ((c.tc : Thread Cert.FfnGradRefIdeal.nD Cert.FfnGradRefIdeal.τ).loc Cert.FfnGradRefIdeal.main_arg1)
          ∧ r.2.mem ((c.tc : Thread Cert.FfnGradRefIdeal.nD Cert.FfnGradRefIdeal.τ).loc Cert.FfnGradRefIdeal.main_arg2) = m' ((c.tc : Thread Cert.FfnGradRefIdeal.nD Cert.FfnGradRefIdeal.τ).loc Cert.FfnGradRefIdeal.main_arg2)
          ∧ r.2.mem ((c.tc : Thread Cert.FfnGradRefIdeal.nD Cert.FfnGradRefIdeal.τ).loc Cert.FfnGradRefIdeal.main_arg3) = m' ((c.tc : Thread Cert.FfnGradRefIdeal.nD Cert.FfnGradRefIdeal.τ).loc Cert.FfnGradRefIdeal.main_arg3))

def preserves_AddPair_AddPairIdeal : Prop :=
  True

def algebraic_AddPairIdeal_AddPairRefIdeal [hAddPairIdeal : Cert.AddPairIdeal.Facts] [hAddPairRefIdeal : Cert.AddPairRefIdeal.Facts] [hPre_one_of_two : Cert.Pre_one_of_two.Facts] : Prop :=
  ∀ (m : (ℓ : Loc Cert.AddPairIdeal.nD Cert.AddPairIdeal.τ Cert.AddPairIdeal.sig) → Buf (Elt Ideal) ℓ) (g : Dev Cert.AddPairIdeal.nD → PrngReg)
    (m' : (ℓ : Loc Cert.AddPairRefIdeal.nD Cert.AddPairRefIdeal.τ Cert.AddPairRefIdeal.sig) → Buf (Elt Ideal) ℓ) (g' : Dev Cert.AddPairRefIdeal.nD → PrngReg), Pre_AddPairIdeal m →
    (∀ c : Dev Cert.AddPairIdeal.nD,
      m' ((c.tc : Thread Cert.AddPairRefIdeal.nD Cert.AddPairRefIdeal.τ).loc Cert.AddPairRefIdeal.main_arg0) = m ((c.tc : Thread Cert.AddPairIdeal.nD Cert.AddPairIdeal.τ).loc Cert.AddPairIdeal.main_arg0)
      ∧ m' ((c.tc : Thread Cert.AddPairRefIdeal.nD Cert.AddPairRefIdeal.τ).loc Cert.AddPairRefIdeal.main_arg1) = m ((c.tc : Thread Cert.AddPairIdeal.nD Cert.AddPairIdeal.τ).loc Cert.AddPairIdeal.main_arg1)
      ∧ m' ((c.tc : Thread Cert.AddPairRefIdeal.nD Cert.AddPairRefIdeal.τ).loc Cert.AddPairRefIdeal.main_arg2) = m ((c.tc : Thread Cert.AddPairIdeal.nD Cert.AddPairIdeal.τ).loc Cert.AddPairIdeal.main_arg2)) →
    ∃ (v0 : (c : Dev Cert.AddPairIdeal.nD) → Buf (Elt Ideal) ((c.tc : Thread Cert.AddPairIdeal.nD Cert.AddPairIdeal.τ).loc Cert.AddPairIdeal.main_v0)),
      θ_run (Cert.AddPairIdeal.defs (F := Ideal)) (onTc (τ := Cert.AddPairIdeal.τ) (Cert.AddPairIdeal.main (F := Ideal))) ⟨m, fun _ => 0, g⟩ (fun r => ∀ c : Dev Cert.AddPairIdeal.nD,
          r.2.mem ((c.tc : Thread Cert.AddPairIdeal.nD Cert.AddPairIdeal.τ).loc Cert.AddPairIdeal.main_v0) = v0 c
          ∧ r.2.mem ((c.tc : Thread Cert.AddPairIdeal.nD Cert.AddPairIdeal.τ).loc Cert.AddPairIdeal.main_arg0) = m ((c.tc : Thread Cert.AddPairIdeal.nD Cert.AddPairIdeal.τ).loc Cert.AddPairIdeal.main_arg0)
          ∧ r.2.mem ((c.tc : Thread Cert.AddPairIdeal.nD Cert.AddPairIdeal.τ).loc Cert.AddPairIdeal.main_arg1) = m ((c.tc : Thread Cert.AddPairIdeal.nD Cert.AddPairIdeal.τ).loc Cert.AddPairIdeal.main_arg1)
          ∧ r.2.mem ((c.tc : Thread Cert.AddPairIdeal.nD Cert.AddPairIdeal.τ).loc Cert.AddPairIdeal.main_arg2) = m ((c.tc : Thread Cert.AddPairIdeal.nD Cert.AddPairIdeal.τ).loc Cert.AddPairIdeal.main_arg2))
      ∧ θ_run (Cert.AddPairRefIdeal.defs (F := Ideal)) (onTc (τ := Cert.AddPairRefIdeal.τ) (Cert.AddPairRefIdeal.main (F := Ideal))) ⟨m', fun _ => 0, g'⟩ (fun r => ∀ c : Dev Cert.AddPairRefIdeal.nD,
          r.2.mem ((c.tc : Thread Cert.AddPairRefIdeal.nD Cert.AddPairRefIdeal.τ).loc Cert.AddPairRefIdeal.main_v10) = v0 c
          ∧ r.2.mem ((c.tc : Thread Cert.AddPairRefIdeal.nD Cert.AddPairRefIdeal.τ).loc Cert.AddPairRefIdeal.main_arg0) = m' ((c.tc : Thread Cert.AddPairRefIdeal.nD Cert.AddPairRefIdeal.τ).loc Cert.AddPairRefIdeal.main_arg0)
          ∧ r.2.mem ((c.tc : Thread Cert.AddPairRefIdeal.nD Cert.AddPairRefIdeal.τ).loc Cert.AddPairRefIdeal.main_arg1) = m' ((c.tc : Thread Cert.AddPairRefIdeal.nD Cert.AddPairRefIdeal.τ).loc Cert.AddPairRefIdeal.main_arg1)
          ∧ r.2.mem ((c.tc : Thread Cert.AddPairRefIdeal.nD Cert.AddPairRefIdeal.τ).loc Cert.AddPairRefIdeal.main_arg2) = m' ((c.tc : Thread Cert.AddPairRefIdeal.nD Cert.AddPairRefIdeal.τ).loc Cert.AddPairRefIdeal.main_arg2))

def bitexact_AddPair_AddPairRef [hAddPair : Cert.AddPair.Facts] [hAddPairRef : Cert.AddPairRef.Facts] [hPre_one_of_two : Cert.Pre_one_of_two.Facts] : Prop :=
  ∀ (m : (ℓ : Loc Cert.AddPair.nD Cert.AddPair.τ Cert.AddPair.sig) → Buf (Elt Bits) ℓ) (g : Dev Cert.AddPair.nD → PrngReg)
    (m' : (ℓ : Loc Cert.AddPairRef.nD Cert.AddPairRef.τ Cert.AddPairRef.sig) → Buf (Elt Bits) ℓ) (g' : Dev Cert.AddPairRef.nD → PrngReg), Pre_AddPair m →
    (∀ c : Dev Cert.AddPair.nD,
      m' ((c.tc : Thread Cert.AddPairRef.nD Cert.AddPairRef.τ).loc Cert.AddPairRef.main_arg0) = m ((c.tc : Thread Cert.AddPair.nD Cert.AddPair.τ).loc Cert.AddPair.main_arg0)
      ∧ m' ((c.tc : Thread Cert.AddPairRef.nD Cert.AddPairRef.τ).loc Cert.AddPairRef.main_arg1) = m ((c.tc : Thread Cert.AddPair.nD Cert.AddPair.τ).loc Cert.AddPair.main_arg1)
      ∧ m' ((c.tc : Thread Cert.AddPairRef.nD Cert.AddPairRef.τ).loc Cert.AddPairRef.main_arg2) = m ((c.tc : Thread Cert.AddPair.nD Cert.AddPair.τ).loc Cert.AddPair.main_arg2)) →
    ∃ (v0 : (c : Dev Cert.AddPair.nD) → Buf (Elt Bits) ((c.tc : Thread Cert.AddPair.nD Cert.AddPair.τ).loc Cert.AddPair.main_v0)),
      θ_run (Cert.AddPair.defs (F := Bits)) (onTc (τ := Cert.AddPair.τ) (Cert.AddPair.main (F := Bits))) ⟨m, fun _ => 0, g⟩ (fun r => ∀ c : Dev Cert.AddPair.nD,
          r.2.mem ((c.tc : Thread Cert.AddPair.nD Cert.AddPair.τ).loc Cert.AddPair.main_v0) = v0 c
          ∧ r.2.mem ((c.tc : Thread Cert.AddPair.nD Cert.AddPair.τ).loc Cert.AddPair.main_arg0) = m ((c.tc : Thread Cert.AddPair.nD Cert.AddPair.τ).loc Cert.AddPair.main_arg0)
          ∧ r.2.mem ((c.tc : Thread Cert.AddPair.nD Cert.AddPair.τ).loc Cert.AddPair.main_arg1) = m ((c.tc : Thread Cert.AddPair.nD Cert.AddPair.τ).loc Cert.AddPair.main_arg1)
          ∧ r.2.mem ((c.tc : Thread Cert.AddPair.nD Cert.AddPair.τ).loc Cert.AddPair.main_arg2) = m ((c.tc : Thread Cert.AddPair.nD Cert.AddPair.τ).loc Cert.AddPair.main_arg2))
      ∧ θ_run (Cert.AddPairRef.defs (F := Bits)) (onTc (τ := Cert.AddPairRef.τ) (Cert.AddPairRef.main (F := Bits))) ⟨m', fun _ => 0, g'⟩ (fun r => ∀ c : Dev Cert.AddPairRef.nD,
          r.2.mem ((c.tc : Thread Cert.AddPairRef.nD Cert.AddPairRef.τ).loc Cert.AddPairRef.main_v10) = v0 c
          ∧ r.2.mem ((c.tc : Thread Cert.AddPairRef.nD Cert.AddPairRef.τ).loc Cert.AddPairRef.main_arg0) = m' ((c.tc : Thread Cert.AddPairRef.nD Cert.AddPairRef.τ).loc Cert.AddPairRef.main_arg0)
          ∧ r.2.mem ((c.tc : Thread Cert.AddPairRef.nD Cert.AddPairRef.τ).loc Cert.AddPairRef.main_arg1) = m' ((c.tc : Thread Cert.AddPairRef.nD Cert.AddPairRef.τ).loc Cert.AddPairRef.main_arg1)
          ∧ r.2.mem ((c.tc : Thread Cert.AddPairRef.nD Cert.AddPairRef.τ).loc Cert.AddPairRef.main_arg2) = m' ((c.tc : Thread Cert.AddPairRef.nD Cert.AddPairRef.τ).loc Cert.AddPairRef.main_arg2))

def preserves_AddChips_AddChipsIdeal : Prop :=
  True

def algebraic_AddChipsIdeal_AddChipsRefIdeal [hAddChipsIdeal : Cert.AddChipsIdeal.Facts] [hAddChipsRefIdeal : Cert.AddChipsRefIdeal.Facts] [hPre_one_of_four : Cert.Pre_one_of_four.Facts] : Prop :=
  ∀ (m : (ℓ : Loc Cert.AddChipsIdeal.nD Cert.AddChipsIdeal.τ Cert.AddChipsIdeal.sig) → Buf (Elt Ideal) ℓ) (g : Dev Cert.AddChipsIdeal.nD → PrngReg)
    (m' : (ℓ : Loc Cert.AddChipsRefIdeal.nD Cert.AddChipsRefIdeal.τ Cert.AddChipsRefIdeal.sig) → Buf (Elt Ideal) ℓ) (g' : Dev Cert.AddChipsRefIdeal.nD → PrngReg), Pre_AddChipsIdeal m →
    (∀ c : Dev Cert.AddChipsIdeal.nD,
      m' ((c.tc : Thread Cert.AddChipsRefIdeal.nD Cert.AddChipsRefIdeal.τ).loc Cert.AddChipsRefIdeal.main_arg0) = m ((c.tc : Thread Cert.AddChipsIdeal.nD Cert.AddChipsIdeal.τ).loc Cert.AddChipsIdeal.main_arg0)
      ∧ m' ((c.tc : Thread Cert.AddChipsRefIdeal.nD Cert.AddChipsRefIdeal.τ).loc Cert.AddChipsRefIdeal.main_arg1) = m ((c.tc : Thread Cert.AddChipsIdeal.nD Cert.AddChipsIdeal.τ).loc Cert.AddChipsIdeal.main_arg1)
      ∧ m' ((c.tc : Thread Cert.AddChipsRefIdeal.nD Cert.AddChipsRefIdeal.τ).loc Cert.AddChipsRefIdeal.main_arg2) = m ((c.tc : Thread Cert.AddChipsIdeal.nD Cert.AddChipsIdeal.τ).loc Cert.AddChipsIdeal.main_arg2)) →
    ∃ (v0 : (c : Dev Cert.AddChipsIdeal.nD) → Buf (Elt Ideal) ((c.tc : Thread Cert.AddChipsIdeal.nD Cert.AddChipsIdeal.τ).loc Cert.AddChipsIdeal.main_v0)),
      θ_run (Cert.AddChipsIdeal.defs (F := Ideal)) (onTc (τ := Cert.AddChipsIdeal.τ) (Cert.AddChipsIdeal.main (F := Ideal))) ⟨m, fun _ => 0, g⟩ (fun r => ∀ c : Dev Cert.AddChipsIdeal.nD,
          r.2.mem ((c.tc : Thread Cert.AddChipsIdeal.nD Cert.AddChipsIdeal.τ).loc Cert.AddChipsIdeal.main_v0) = v0 c
          ∧ r.2.mem ((c.tc : Thread Cert.AddChipsIdeal.nD Cert.AddChipsIdeal.τ).loc Cert.AddChipsIdeal.main_arg0) = m ((c.tc : Thread Cert.AddChipsIdeal.nD Cert.AddChipsIdeal.τ).loc Cert.AddChipsIdeal.main_arg0)
          ∧ r.2.mem ((c.tc : Thread Cert.AddChipsIdeal.nD Cert.AddChipsIdeal.τ).loc Cert.AddChipsIdeal.main_arg1) = m ((c.tc : Thread Cert.AddChipsIdeal.nD Cert.AddChipsIdeal.τ).loc Cert.AddChipsIdeal.main_arg1)
          ∧ r.2.mem ((c.tc : Thread Cert.AddChipsIdeal.nD Cert.AddChipsIdeal.τ).loc Cert.AddChipsIdeal.main_arg2) = m ((c.tc : Thread Cert.AddChipsIdeal.nD Cert.AddChipsIdeal.τ).loc Cert.AddChipsIdeal.main_arg2))
      ∧ θ_run (Cert.AddChipsRefIdeal.defs (F := Ideal)) (onTc (τ := Cert.AddChipsRefIdeal.τ) (Cert.AddChipsRefIdeal.main (F := Ideal))) ⟨m', fun _ => 0, g'⟩ (fun r => ∀ c : Dev Cert.AddChipsRefIdeal.nD,
          r.2.mem ((c.tc : Thread Cert.AddChipsRefIdeal.nD Cert.AddChipsRefIdeal.τ).loc Cert.AddChipsRefIdeal.main_v27) = v0 c
          ∧ r.2.mem ((c.tc : Thread Cert.AddChipsRefIdeal.nD Cert.AddChipsRefIdeal.τ).loc Cert.AddChipsRefIdeal.main_arg0) = m' ((c.tc : Thread Cert.AddChipsRefIdeal.nD Cert.AddChipsRefIdeal.τ).loc Cert.AddChipsRefIdeal.main_arg0)
          ∧ r.2.mem ((c.tc : Thread Cert.AddChipsRefIdeal.nD Cert.AddChipsRefIdeal.τ).loc Cert.AddChipsRefIdeal.main_arg1) = m' ((c.tc : Thread Cert.AddChipsRefIdeal.nD Cert.AddChipsRefIdeal.τ).loc Cert.AddChipsRefIdeal.main_arg1)
          ∧ r.2.mem ((c.tc : Thread Cert.AddChipsRefIdeal.nD Cert.AddChipsRefIdeal.τ).loc Cert.AddChipsRefIdeal.main_arg2) = m' ((c.tc : Thread Cert.AddChipsRefIdeal.nD Cert.AddChipsRefIdeal.τ).loc Cert.AddChipsRefIdeal.main_arg2))

def bitexact_AddChips_AddChipsRef [hAddChips : Cert.AddChips.Facts] [hAddChipsRef : Cert.AddChipsRef.Facts] [hPre_one_of_four : Cert.Pre_one_of_four.Facts] : Prop :=
  ∀ (m : (ℓ : Loc Cert.AddChips.nD Cert.AddChips.τ Cert.AddChips.sig) → Buf (Elt Bits) ℓ) (g : Dev Cert.AddChips.nD → PrngReg)
    (m' : (ℓ : Loc Cert.AddChipsRef.nD Cert.AddChipsRef.τ Cert.AddChipsRef.sig) → Buf (Elt Bits) ℓ) (g' : Dev Cert.AddChipsRef.nD → PrngReg), Pre_AddChips m →
    (∀ c : Dev Cert.AddChips.nD,
      m' ((c.tc : Thread Cert.AddChipsRef.nD Cert.AddChipsRef.τ).loc Cert.AddChipsRef.main_arg0) = m ((c.tc : Thread Cert.AddChips.nD Cert.AddChips.τ).loc Cert.AddChips.main_arg0)
      ∧ m' ((c.tc : Thread Cert.AddChipsRef.nD Cert.AddChipsRef.τ).loc Cert.AddChipsRef.main_arg1) = m ((c.tc : Thread Cert.AddChips.nD Cert.AddChips.τ).loc Cert.AddChips.main_arg1)
      ∧ m' ((c.tc : Thread Cert.AddChipsRef.nD Cert.AddChipsRef.τ).loc Cert.AddChipsRef.main_arg2) = m ((c.tc : Thread Cert.AddChips.nD Cert.AddChips.τ).loc Cert.AddChips.main_arg2)) →
    ∃ (v0 : (c : Dev Cert.AddChips.nD) → Buf (Elt Bits) ((c.tc : Thread Cert.AddChips.nD Cert.AddChips.τ).loc Cert.AddChips.main_v0)),
      θ_run (Cert.AddChips.defs (F := Bits)) (onTc (τ := Cert.AddChips.τ) (Cert.AddChips.main (F := Bits))) ⟨m, fun _ => 0, g⟩ (fun r => ∀ c : Dev Cert.AddChips.nD,
          r.2.mem ((c.tc : Thread Cert.AddChips.nD Cert.AddChips.τ).loc Cert.AddChips.main_v0) = v0 c
          ∧ r.2.mem ((c.tc : Thread Cert.AddChips.nD Cert.AddChips.τ).loc Cert.AddChips.main_arg0) = m ((c.tc : Thread Cert.AddChips.nD Cert.AddChips.τ).loc Cert.AddChips.main_arg0)
          ∧ r.2.mem ((c.tc : Thread Cert.AddChips.nD Cert.AddChips.τ).loc Cert.AddChips.main_arg1) = m ((c.tc : Thread Cert.AddChips.nD Cert.AddChips.τ).loc Cert.AddChips.main_arg1)
          ∧ r.2.mem ((c.tc : Thread Cert.AddChips.nD Cert.AddChips.τ).loc Cert.AddChips.main_arg2) = m ((c.tc : Thread Cert.AddChips.nD Cert.AddChips.τ).loc Cert.AddChips.main_arg2))
      ∧ θ_run (Cert.AddChipsRef.defs (F := Bits)) (onTc (τ := Cert.AddChipsRef.τ) (Cert.AddChipsRef.main (F := Bits))) ⟨m', fun _ => 0, g'⟩ (fun r => ∀ c : Dev Cert.AddChipsRef.nD,
          r.2.mem ((c.tc : Thread Cert.AddChipsRef.nD Cert.AddChipsRef.τ).loc Cert.AddChipsRef.main_v27) = v0 c
          ∧ r.2.mem ((c.tc : Thread Cert.AddChipsRef.nD Cert.AddChipsRef.τ).loc Cert.AddChipsRef.main_arg0) = m' ((c.tc : Thread Cert.AddChipsRef.nD Cert.AddChipsRef.τ).loc Cert.AddChipsRef.main_arg0)
          ∧ r.2.mem ((c.tc : Thread Cert.AddChipsRef.nD Cert.AddChipsRef.τ).loc Cert.AddChipsRef.main_arg1) = m' ((c.tc : Thread Cert.AddChipsRef.nD Cert.AddChipsRef.τ).loc Cert.AddChipsRef.main_arg1)
          ∧ r.2.mem ((c.tc : Thread Cert.AddChipsRef.nD Cert.AddChipsRef.τ).loc Cert.AddChipsRef.main_arg2) = m' ((c.tc : Thread Cert.AddChipsRef.nD Cert.AddChipsRef.τ).loc Cert.AddChipsRef.main_arg2))

def Claim : Prop :=
  ∃ (hShare : Cert.Share.Facts) (hShareIdeal : Cert.ShareIdeal.Facts) (hShareRefIdeal : Cert.ShareRefIdeal.Facts) (hShareRef : Cert.ShareRef.Facts) (hExchange : Cert.Exchange.Facts) (hExchangeIdeal : Cert.ExchangeIdeal.Facts) (hExchangeRefIdeal : Cert.ExchangeRefIdeal.Facts) (hExchangeRef : Cert.ExchangeRef.Facts) (hSwap : Cert.Swap.Facts) (hSwapIdeal : Cert.SwapIdeal.Facts) (hSwapRefIdeal : Cert.SwapRefIdeal.Facts) (hSwapRef : Cert.SwapRef.Facts) (hGather : Cert.Gather.Facts) (hGatherIdeal : Cert.GatherIdeal.Facts) (hGatherRefIdeal : Cert.GatherRefIdeal.Facts) (hGatherRef : Cert.GatherRef.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamQ : Cert.AdamQ.Facts) (hAdamQIdeal : Cert.AdamQIdeal.Facts) (hAdamQRefIdeal : Cert.AdamQRefIdeal.Facts) (hAdamKv : Cert.AdamKv.Facts) (hAdamKvIdeal : Cert.AdamKvIdeal.Facts) (hAdamKvRefIdeal : Cert.AdamKvRefIdeal.Facts) (hAdamOut : Cert.AdamOut.Facts) (hAdamOutIdeal : Cert.AdamOutIdeal.Facts) (hAdamOutRefIdeal : Cert.AdamOutRefIdeal.Facts) (hAdamGains : Cert.AdamGains.Facts) (hAdamGainsIdeal : Cert.AdamGainsIdeal.Facts) (hAdamGainsRefIdeal : Cert.AdamGainsRefIdeal.Facts) (hSumGains : Cert.SumGains.Facts) (hSumGainsIdeal : Cert.SumGainsIdeal.Facts) (hSumGainsRefIdeal : Cert.SumGainsRefIdeal.Facts) (hPostLoss : Cert.PostLoss.Facts) (hPostLossIdeal : Cert.PostLossIdeal.Facts) (hPostLossRefIdeal : Cert.PostLossRefIdeal.Facts) (hPreGrad : Cert.PreGrad.Facts) (hPreGradIdeal : Cert.PreGradIdeal.Facts) (hPreGradRefIdeal : Cert.PreGradRefIdeal.Facts) (hFirstNorm : Cert.FirstNorm.Facts) (hFirstNormIdeal : Cert.FirstNormIdeal.Facts) (hFirstNormRefIdeal : Cert.FirstNormRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hPostPre : Cert.PostPre.Facts) (hPostPreIdeal : Cert.PostPreIdeal.Facts) (hPostPreRefIdeal : Cert.PostPreRefIdeal.Facts) (hPostGrad : Cert.PostGrad.Facts) (hPostGradIdeal : Cert.PostGradIdeal.Facts) (hPostGradRefIdeal : Cert.PostGradRefIdeal.Facts) (hGluGrad : Cert.GluGrad.Facts) (hGluGradIdeal : Cert.GluGradIdeal.Facts) (hGluGradRefIdeal : Cert.GluGradRefIdeal.Facts) (hDownGrad : Cert.DownGrad.Facts) (hDownGradIdeal : Cert.DownGradIdeal.Facts) (hDownGradRefIdeal : Cert.DownGradRefIdeal.Facts) (hUpGrad : Cert.UpGrad.Facts) (hUpGradIdeal : Cert.UpGradIdeal.Facts) (hUpGradRefIdeal : Cert.UpGradRefIdeal.Facts) (hFfnGrad : Cert.FfnGrad.Facts) (hFfnGradIdeal : Cert.FfnGradIdeal.Facts) (hFfnGradRefIdeal : Cert.FfnGradRefIdeal.Facts) (hAddPair : Cert.AddPair.Facts) (hAddPairIdeal : Cert.AddPairIdeal.Facts) (hAddPairRefIdeal : Cert.AddPairRefIdeal.Facts) (hAddPairRef : Cert.AddPairRef.Facts) (hAddChips : Cert.AddChips.Facts) (hAddChipsIdeal : Cert.AddChipsIdeal.Facts) (hAddChipsRefIdeal : Cert.AddChipsRefIdeal.Facts) (hAddChipsRef : Cert.AddChipsRef.Facts) (hPre_one_of_two : Cert.Pre_one_of_two.Facts) (hPre_one_of_four : Cert.Pre_one_of_four.Facts),
    quiescent_Share (hShare := hShare)
    ∧ quiescent_ShareIdeal (hShareIdeal := hShareIdeal)
    ∧ quiescent_ShareRefIdeal (hShareRefIdeal := hShareRefIdeal)
    ∧ quiescent_ShareRef (hShareRef := hShareRef)
    ∧ quiescent_Exchange (hExchange := hExchange)
    ∧ quiescent_ExchangeIdeal (hExchangeIdeal := hExchangeIdeal)
    ∧ quiescent_ExchangeRefIdeal (hExchangeRefIdeal := hExchangeRefIdeal)
    ∧ quiescent_ExchangeRef (hExchangeRef := hExchangeRef)
    ∧ quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamQ (hAdamQ := hAdamQ)
    ∧ quiescent_AdamQIdeal (hAdamQIdeal := hAdamQIdeal)
    ∧ quiescent_AdamQRefIdeal (hAdamQRefIdeal := hAdamQRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGains (hAdamGains := hAdamGains)
    ∧ quiescent_AdamGainsIdeal (hAdamGainsIdeal := hAdamGainsIdeal)
    ∧ quiescent_AdamGainsRefIdeal (hAdamGainsRefIdeal := hAdamGainsRefIdeal)
    ∧ quiescent_SumGains (hSumGains := hSumGains)
    ∧ quiescent_SumGainsIdeal (hSumGainsIdeal := hSumGainsIdeal)
    ∧ quiescent_SumGainsRefIdeal (hSumGainsRefIdeal := hSumGainsRefIdeal)
    ∧ quiescent_PostLoss (hPostLoss := hPostLoss)
    ∧ quiescent_PostLossIdeal (hPostLossIdeal := hPostLossIdeal)
    ∧ quiescent_PostLossRefIdeal (hPostLossRefIdeal := hPostLossRefIdeal)
    ∧ quiescent_PreGrad (hPreGrad := hPreGrad)
    ∧ quiescent_PreGradIdeal (hPreGradIdeal := hPreGradIdeal)
    ∧ quiescent_PreGradRefIdeal (hPreGradRefIdeal := hPreGradRefIdeal)
    ∧ quiescent_FirstNorm (hFirstNorm := hFirstNorm)
    ∧ quiescent_FirstNormIdeal (hFirstNormIdeal := hFirstNormIdeal)
    ∧ quiescent_FirstNormRefIdeal (hFirstNormRefIdeal := hFirstNormRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_PostPre (hPostPre := hPostPre)
    ∧ quiescent_PostPreIdeal (hPostPreIdeal := hPostPreIdeal)
    ∧ quiescent_PostPreRefIdeal (hPostPreRefIdeal := hPostPreRefIdeal)
    ∧ quiescent_PostGrad (hPostGrad := hPostGrad)
    ∧ quiescent_PostGradIdeal (hPostGradIdeal := hPostGradIdeal)
    ∧ quiescent_PostGradRefIdeal (hPostGradRefIdeal := hPostGradRefIdeal)
    ∧ quiescent_GluGrad (hGluGrad := hGluGrad)
    ∧ quiescent_GluGradIdeal (hGluGradIdeal := hGluGradIdeal)
    ∧ quiescent_GluGradRefIdeal (hGluGradRefIdeal := hGluGradRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_FfnGrad (hFfnGrad := hFfnGrad)
    ∧ quiescent_FfnGradIdeal (hFfnGradIdeal := hFfnGradIdeal)
    ∧ quiescent_FfnGradRefIdeal (hFfnGradRefIdeal := hFfnGradRefIdeal)
    ∧ quiescent_AddPair (hAddPair := hAddPair) (hPre_one_of_two := hPre_one_of_two)
    ∧ quiescent_AddPairIdeal (hAddPairIdeal := hAddPairIdeal) (hPre_one_of_two := hPre_one_of_two)
    ∧ quiescent_AddPairRefIdeal (hAddPairRefIdeal := hAddPairRefIdeal)
    ∧ quiescent_AddPairRefIdeal_pre_one_of_two (hAddPairRefIdeal := hAddPairRefIdeal) (hPre_one_of_two := hPre_one_of_two)
    ∧ quiescent_AddPairRef (hAddPairRef := hAddPairRef) (hPre_one_of_two := hPre_one_of_two)
    ∧ quiescent_AddChips (hAddChips := hAddChips) (hPre_one_of_four := hPre_one_of_four)
    ∧ quiescent_AddChipsIdeal (hAddChipsIdeal := hAddChipsIdeal) (hPre_one_of_four := hPre_one_of_four)
    ∧ quiescent_AddChipsRefIdeal (hAddChipsRefIdeal := hAddChipsRefIdeal)
    ∧ quiescent_AddChipsRefIdeal_pre_one_of_four (hAddChipsRefIdeal := hAddChipsRefIdeal) (hPre_one_of_four := hPre_one_of_four)
    ∧ quiescent_AddChipsRef (hAddChipsRef := hAddChipsRef) (hPre_one_of_four := hPre_one_of_four)
    ∧ preserves_Share_ShareIdeal
    ∧ algebraic_ShareIdeal_ShareRefIdeal (hShareIdeal := hShareIdeal) (hShareRefIdeal := hShareRefIdeal)
    ∧ bitexact_Share_ShareRef (hShare := hShare) (hShareRef := hShareRef)
    ∧ preserves_Exchange_ExchangeIdeal
    ∧ algebraic_ExchangeIdeal_ExchangeRefIdeal (hExchangeIdeal := hExchangeIdeal) (hExchangeRefIdeal := hExchangeRefIdeal)
    ∧ bitexact_Exchange_ExchangeRef (hExchange := hExchange) (hExchangeRef := hExchangeRef)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamQ_AdamQIdeal
    ∧ algebraic_AdamQIdeal_AdamQRefIdeal (hAdamQIdeal := hAdamQIdeal) (hAdamQRefIdeal := hAdamQRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGains_AdamGainsIdeal
    ∧ algebraic_AdamGainsIdeal_AdamGainsRefIdeal (hAdamGainsIdeal := hAdamGainsIdeal) (hAdamGainsRefIdeal := hAdamGainsRefIdeal)
    ∧ preserves_SumGains_SumGainsIdeal
    ∧ algebraic_SumGainsIdeal_SumGainsRefIdeal (hSumGainsIdeal := hSumGainsIdeal) (hSumGainsRefIdeal := hSumGainsRefIdeal)
    ∧ preserves_PostLoss_PostLossIdeal
    ∧ algebraic_PostLossIdeal_PostLossRefIdeal (hPostLossIdeal := hPostLossIdeal) (hPostLossRefIdeal := hPostLossRefIdeal)
    ∧ preserves_PreGrad_PreGradIdeal
    ∧ algebraic_PreGradIdeal_PreGradRefIdeal (hPreGradIdeal := hPreGradIdeal) (hPreGradRefIdeal := hPreGradRefIdeal)
    ∧ preserves_FirstNorm_FirstNormIdeal
    ∧ algebraic_FirstNormIdeal_FirstNormRefIdeal (hFirstNormIdeal := hFirstNormIdeal) (hFirstNormRefIdeal := hFirstNormRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_PostPre_PostPreIdeal
    ∧ algebraic_PostPreIdeal_PostPreRefIdeal (hPostPreIdeal := hPostPreIdeal) (hPostPreRefIdeal := hPostPreRefIdeal)
    ∧ preserves_PostGrad_PostGradIdeal
    ∧ algebraic_PostGradIdeal_PostGradRefIdeal (hPostGradIdeal := hPostGradIdeal) (hPostGradRefIdeal := hPostGradRefIdeal)
    ∧ preserves_GluGrad_GluGradIdeal
    ∧ algebraic_GluGradIdeal_GluGradRefIdeal (hGluGradIdeal := hGluGradIdeal) (hGluGradRefIdeal := hGluGradRefIdeal)
    ∧ preserves_DownGrad_DownGradIdeal
    ∧ algebraic_DownGradIdeal_DownGradRefIdeal (hDownGradIdeal := hDownGradIdeal) (hDownGradRefIdeal := hDownGradRefIdeal)
    ∧ preserves_UpGrad_UpGradIdeal
    ∧ algebraic_UpGradIdeal_UpGradRefIdeal (hUpGradIdeal := hUpGradIdeal) (hUpGradRefIdeal := hUpGradRefIdeal)
    ∧ preserves_FfnGrad_FfnGradIdeal
    ∧ algebraic_FfnGradIdeal_FfnGradRefIdeal (hFfnGradIdeal := hFfnGradIdeal) (hFfnGradRefIdeal := hFfnGradRefIdeal)
    ∧ preserves_AddPair_AddPairIdeal
    ∧ algebraic_AddPairIdeal_AddPairRefIdeal (hAddPairIdeal := hAddPairIdeal) (hAddPairRefIdeal := hAddPairRefIdeal) (hPre_one_of_two := hPre_one_of_two)
    ∧ bitexact_AddPair_AddPairRef (hAddPair := hAddPair) (hAddPairRef := hAddPairRef) (hPre_one_of_two := hPre_one_of_two)
    ∧ preserves_AddChips_AddChipsIdeal
    ∧ algebraic_AddChipsIdeal_AddChipsRefIdeal (hAddChipsIdeal := hAddChipsIdeal) (hAddChipsRefIdeal := hAddChipsRefIdeal) (hPre_one_of_four := hPre_one_of_four)
    ∧ bitexact_AddChips_AddChipsRef (hAddChips := hAddChips) (hAddChipsRef := hAddChipsRef) (hPre_one_of_four := hPre_one_of_four)
-- ==== Pre_one_of_four.lean ====
abbrev S1 : Shape := ⟨1, ![1]⟩
abbrev S4x10224x1024 : Shape := ⟨3, ![4, 10224, 1024]⟩
abbrev S3x10224x1024 : Shape := ⟨3, ![3, 10224, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x10224x1024 .bf16) (main_arg2 : FVec F S3x10224x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_one_of_two.lean ====
abbrev S1 : Shape := ⟨1, ![1]⟩
abbrev S4x2x10224x1024 : Shape := ⟨4, ![4, 2, 10224, 1024]⟩
abbrev S4x10224x1024 : Shape := ⟨3, ![4, 10224, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x2x10224x1024 .bf16) (main_arg2 : FVec F S4x10224x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Share.lean ====
abbrev S10224x1024 : Shape := ⟨2, ![10224, 1024]⟩
abbrev S2x10224x1024 : Shape := ⟨3, ![2, 10224, 1024]⟩
abbrev S_ : Shape := ⟨0, ![]⟩
abbrev S1x10224x1024 : Shape := ⟨3, ![1, 10224, 1024]⟩

abbrev nBuf : Space → Nat
  | .hbm => 2
  | .vmem => 0
  | .smem => 0
  | _ => 0

abbrev bufTy : (tb : Table) → Fin (tcTables nBuf tb) → BufTy
  | .hbm, ⟨0, _⟩ => ⟨S10224x1024, .f32⟩
  | .hbm, ⟨1, _⟩ => ⟨S2x10224x1024, .f32⟩
  | _, _ => ⟨S10224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_17 : BitVec 32 := 0#32
  let c0_i32_18 : BitVec 32 := 0#32
  ![v20.toNat, 0, 0]
-- ==== ShareRef.lean ====
abbrev S81792x1024 : Shape := ⟨2, ![81792, 1024]⟩
abbrev S8x10224x1024 : Shape := ⟨3, ![8, 10224, 1024]⟩

abbrev nBuf : Space → Nat
  | .hbm => 2
  | .vmem => 0
  | .smem => 0
  | _ => 0

abbrev bufTy : (tb : Table) → Fin (tcTables nBuf tb) → BufTy
  | .hbm, ⟨0, _⟩ => ⟨S81792x1024, .f32⟩
  | .hbm, ⟨1, _⟩ => ⟨S8x10224x1024, .f32⟩
  | _, _ => ⟨S81792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Exchange.lean ====
abbrev S4x10224x1024 : Shape := ⟨3, ![4, 10224, 1024]⟩
abbrev S3x10224x1024 : Shape := ⟨3, ![3, 10224, 1024]⟩
abbrev S3 : Shape := ⟨1, ![3]⟩
abbrev S1 : Shape := ⟨1, ![1]⟩
abbrev S_ : Shape := ⟨0, ![]⟩
abbrev S1x10224x1024 : Shape := ⟨3, ![1, 10224, 1024]⟩
abbrev S10224x1024 : Shape := ⟨2, ![10224, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x10224x1024, .bf16⟩
  | .hbm, ⟨1, _⟩ => ⟨S3x10224x1024, .bf16⟩
  | _, _ => ⟨S4x10224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_16 : BitVec 32 := 0#32
  let c0_i32_17 : BitVec 32 := 0#32
  ![v14.toNat, 0, 0]
def k0_dev1 (d0 : Dev nD) : Nat :=
  let c0_i32_11 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_10 : BitVec 32 := 4#32
  let v15 : BitVec 32 := Scalar.muli v9 c4_i32_10
  let v16 : BitVec 32 := Scalar.addi c0_i32_11 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v17 : BitVec 32 := Scalar.muli v5 c2_i32_12
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v19 : BitVec 32 := Scalar.muli v8 c1_i32_13
  let v20 : BitVec 32 := Scalar.addi v18 v19
  v20.toNat
def k0_off2 (d0 : Dev nD) : Fin 3 → Nat :=
  let c2_i32_18 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c2_i32_18 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v30 : BitVec 32 := Scalar.addi v29 v10
  let c0_i32_28 : BitVec 32 := 0#32
  let c0_i32_29 : BitVec 32 := 0#32
  ![v30.toNat, 0, 0]
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v31 : BitVec 32 := Scalar.muli v2 c4_i32_22
  let v32 : BitVec 32 := Scalar.addi c0_i32_23 v31
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v33 : BitVec 32 := Scalar.muli v10 c2_i32_24
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v35 : BitVec 32 := Scalar.muli v8 c1_i32_25
  let v36 : BitVec 32 := Scalar.addi v34 v35
  v36.toNat
def k0_off3 (d0 : Dev nD) : Fin 3 → Nat :=
  let c2_i32_30 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v45 : BitVec 32 := Scalar.muli c2_i32_30 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v46 : BitVec 32 := Scalar.addi v45 v12
  let c0_i32_40 : BitVec 32 := 0#32
  let c0_i32_41 : BitVec 32 := 0#32
  ![v46.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
-- ==== ExchangeRef.lean ====
abbrev S32x10224x1024 : Shape := ⟨3, ![32, 10224, 1024]⟩
abbrev S1x10224x1024 : Shape := ⟨3, ![1, 10224, 1024]⟩
abbrev S3x10224x1024 : Shape := ⟨3, ![3, 10224, 1024]⟩
abbrev S24x10224x1024 : Shape := ⟨3, ![24, 10224, 1024]⟩

abbrev nBuf : Space → Nat
  | .hbm => 34
  | .vmem => 0
  | .smem => 0
  | _ => 0

abbrev bufTy : (tb : Table) → Fin (tcTables nBuf tb) → BufTy
  | .hbm, ⟨0, _⟩ => ⟨S32x10224x1024, .bf16⟩
  | .hbm, ⟨1, _⟩ => ⟨S1x10224x1024, .bf16⟩
  | .hbm, ⟨2, _⟩ => ⟨S1x10224x1024, .bf16⟩
  | .hbm, ⟨3, _⟩ => ⟨S1x10224x1024, .bf16⟩
  | .hbm, ⟨4, _⟩ => ⟨S3x10224x1024, .bf16⟩
  | .hbm, ⟨5, _⟩ => ⟨S1x10224x1024, .bf16⟩
  | .hbm, ⟨6, _⟩ => ⟨S1x10224x1024, .bf16⟩
  | .hbm, ⟨7, _⟩ => ⟨S1x10224x1024, .bf16⟩
  | .hbm, ⟨8, _⟩ => ⟨S3x10224x1024, .bf16⟩
  | .hbm, ⟨9, _⟩ => ⟨S1x10224x1024, .bf16⟩
  | .hbm, ⟨10, _⟩ => ⟨S1x10224x1024, .bf16⟩
  | .hbm, ⟨11, _⟩ => ⟨S1x10224x1024, .bf16⟩
  | .hbm, ⟨12, _⟩ => ⟨S3x10224x1024, .bf16⟩
  | .hbm, ⟨13, _⟩ => ⟨S1x10224x1024, .bf16⟩
  | .hbm, ⟨14, _⟩ => ⟨S1x10224x1024, .bf16⟩
  | .hbm, ⟨15, _⟩ => ⟨S1x10224x1024, .bf16⟩
  | .hbm, ⟨16, _⟩ => ⟨S3x10224x1024, .bf16⟩
  | .hbm, ⟨17, _⟩ => ⟨S1x10224x1024, .bf16⟩
  | .hbm, ⟨18, _⟩ => ⟨S1x10224x1024, .bf16⟩
  | .hbm, ⟨19, _⟩ => ⟨S1x10224x1024, .bf16⟩
  | .hbm, ⟨20, _⟩ => ⟨S3x10224x1024, .bf16⟩
  | .hbm, ⟨21, _⟩ => ⟨S1x10224x1024, .bf16⟩
  | .hbm, ⟨22, _⟩ => ⟨S1x10224x1024, .bf16⟩
  | .hbm, ⟨23, _⟩ => ⟨S1x10224x1024, .bf16⟩
  | .hbm, ⟨24, _⟩ => ⟨S3x10224x1024, .bf16⟩
  | .hbm, ⟨25, _⟩ => ⟨S1x10224x1024, .bf16⟩
  | .hbm, ⟨26, _⟩ => ⟨S1x10224x1024, .bf16⟩
  | .hbm, ⟨27, _⟩ => ⟨S1x10224x1024, .bf16⟩
  | .hbm, ⟨28, _⟩ => ⟨S3x10224x1024, .bf16⟩
  | .hbm, ⟨29, _⟩ => ⟨S1x10224x1024, .bf16⟩
  | .hbm, ⟨30, _⟩ => ⟨S1x10224x1024, .bf16⟩
  | .hbm, ⟨31, _⟩ => ⟨S1x10224x1024, .bf16⟩
  | .hbm, ⟨32, _⟩ => ⟨S3x10224x1024, .bf16⟩
  | .hbm, ⟨33, _⟩ => ⟨S24x10224x1024, .bf16⟩
  | _, _ => ⟨S32x10224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩

abbrev nD : Nat := 1
abbrev τ : Topo := Topo.v7x

variable {F : FTy → Type} [FloatOps F]
-- ==== Swap.lean ====
abbrev S4x20448x1024 : Shape := ⟨3, ![4, 20448, 1024]⟩
abbrev S4x10224x1024 : Shape := ⟨3, ![4, 10224, 1024]⟩
abbrev S4 : Shape := ⟨1, ![4]⟩
abbrev S1 : Shape := ⟨1, ![1]⟩
abbrev S_ : Shape := ⟨0, ![]⟩
abbrev S1x10224x1024 : Shape := ⟨3, ![1, 10224, 1024]⟩
abbrev S10224x1024 : Shape := ⟨2, ![10224, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x20448x1024, .bf16⟩
  | .hbm, ⟨1, _⟩ => ⟨S4x10224x1024, .bf16⟩
  | _, _ => ⟨S4x20448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c10224_i32 : BitVec 32 := 10224#32
  let v10 : BitVec 32 := Scalar.muli v9 c10224_i32
  v10
def k0_off1 (d0 : Dev nD) : Fin 3 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c10224_i32 : BitVec 32 := 10224#32
  let v10 : BitVec 32 := Scalar.muli v9 c10224_i32
  let v11 : BitVec 32 := v10
  let c0_i32_14 : BitVec 32 := 0#32
  ![0, v11.toNat, 0]
def k0_dev1 (d0 : Dev nD) : Nat :=
  let c0_i32_9 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v13 : BitVec 32 := Scalar.muli v2 c4_i32_8
  let v14 : BitVec 32 := Scalar.addi c0_i32_9 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v15 : BitVec 32 := Scalar.muli v5 c2_i32_10
  let v16 : BitVec 32 := Scalar.addi v14 v15
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_11 : BitVec 32 := 1#32
  let v17 : BitVec 32 := Scalar.muli v12 c1_i32_11
  let v18 : BitVec 32 := Scalar.addi v16 v17
  v18.toNat
def k0_mult2 (d0 : Dev nD) : BitVec 32 :=
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_15 v8
  let c10224_i32_16 : BitVec 32 := 10224#32
  let v28 : BitVec 32 := Scalar.muli v27 c10224_i32_16
  v28
def k0_off2 (d0 : Dev nD) : Fin 3 → Nat :=
  let c1_i32_18 : BitVec 32 := 1#32
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_15 v8
  let c10224_i32_16 : BitVec 32 := 10224#32
  let v28 : BitVec 32 := Scalar.muli v27 c10224_i32_16
  let v29 : BitVec 32 := v28
  let c0_i32_28 : BitVec 32 := 0#32
  ![1, v29.toNat, 0]
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v31 : BitVec 32 := Scalar.muli v2 c4_i32_22
  let v32 : BitVec 32 := Scalar.addi c0_i32_23 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v33 : BitVec 32 := Scalar.muli v5 c2_i32_24
  let v34 : BitVec 32 := Scalar.addi v32 v33
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_25 : BitVec 32 := 1#32
  let v35 : BitVec 32 := Scalar.muli v30 c1_i32_25
  let v36 : BitVec 32 := Scalar.addi v34 v35
  v36.toNat
def k0_mult3 (d0 : Dev nD) : BitVec 32 :=
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_29 v8
  let c10224_i32_30 : BitVec 32 := 10224#32
  let v46 : BitVec 32 := Scalar.muli v45 c10224_i32_30
  v46
def k0_off3 (d0 : Dev nD) : Fin 3 → Nat :=
  let c2_i32_32 : BitVec 32 := 2#32
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_29 v8
  let c10224_i32_30 : BitVec 32 := 10224#32
  let v46 : BitVec 32 := Scalar.muli v45 c10224_i32_30
  let v47 : BitVec 32 := v46
  let c0_i32_42 : BitVec 32 := 0#32
  ![2, v47.toNat, 0]
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v49 : BitVec 32 := Scalar.muli v2 c4_i32_36
  let v50 : BitVec 32 := Scalar.addi c0_i32_37 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v51 : BitVec 32 := Scalar.muli v5 c2_i32_38
  let v52 : BitVec 32 := Scalar.addi v50 v51
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_31 v8
  let c1_i32_39 : BitVec 32 := 1#32
  let v53 : BitVec 32 := Scalar.muli v48 c1_i32_39
  let v54 : BitVec 32 := Scalar.addi v52 v53
  v54.toNat
def k0_mult4 (d0 : Dev nD) : BitVec 32 :=
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.subi c1_i32_43 v8
  let c10224_i32_44 : BitVec 32 := 10224#32
  let v64 : BitVec 32 := Scalar.muli v63 c10224_i32_44
  v64
def k0_off4 (d0 : Dev nD) : Fin 3 → Nat :=
  let c3_i32 : BitVec 32 := 3#32
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v63 : BitVec 32 := Scalar.subi c1_i32_43 v8
  let c10224_i32_44 : BitVec 32 := 10224#32
  let v64 : BitVec 32 := Scalar.muli v63 c10224_i32_44
  let v65 : BitVec 32 := v64
  let c0_i32_55 : BitVec 32 := 0#32
  ![3, v65.toNat, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v67 : BitVec 32 := Scalar.muli v2 c4_i32_49
  let v68 : BitVec 32 := Scalar.addi c0_i32_50 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v69 : BitVec 32 := Scalar.muli v5 c2_i32_51
  let v70 : BitVec 32 := Scalar.addi v68 v69
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v66 : BitVec 32 := Scalar.subi c1_i32_45 v8
  let c1_i32_52 : BitVec 32 := 1#32
  let v71 : BitVec 32 := Scalar.muli v66 c1_i32_52
  let v72 : BitVec 32 := Scalar.addi v70 v71
  v72.toNat
-- ==== SwapRef.lean ====
abbrev S32x20448x1024 : Shape := ⟨3, ![32, 20448, 1024]⟩
abbrev S4x10224x1024 : Shape := ⟨3, ![4, 10224, 1024]⟩
abbrev S32x10224x1024 : Shape := ⟨3, ![32, 10224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32x20448x1024, .bf16⟩
  | .hbm, ⟨1, _⟩ => ⟨S4x10224x1024, .bf16⟩
  | .hbm, ⟨2, _⟩ => ⟨S4x10224x1024, .bf16⟩
  | .hbm, ⟨3, _⟩ => ⟨S4x10224x1024, .bf16⟩
  | .hbm, ⟨4, _⟩ => ⟨S4x10224x1024, .bf16⟩
  | .hbm, ⟨5, _⟩ => ⟨S4x10224x1024, .bf16⟩
  | .hbm, ⟨6, _⟩ => ⟨S4x10224x1024, .bf16⟩
  | .hbm, ⟨7, _⟩ => ⟨S4x10224x1024, .bf16⟩
  | .hbm, ⟨8, _⟩ => ⟨S4x10224x1024, .bf16⟩
  | .hbm, ⟨9, _⟩ => ⟨S32x10224x1024, .bf16⟩
  | _, _ => ⟨S32x20448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Gather.lean ====
abbrev S20448x1024 : Shape := ⟨2, ![20448, 1024]⟩
abbrev S4x20448x1024 : Shape := ⟨3, ![4, 20448, 1024]⟩
abbrev S2x3x3 : Shape := ⟨3, ![2, 3, 3]⟩
abbrev S_ : Shape := ⟨0, ![]⟩
abbrev S1x20448x1024 : Shape := ⟨3, ![1, 20448, 1024]⟩
abbrev S1x1x1 : Shape := ⟨3, ![1, 1, 1]⟩
abbrev S1x3408x1024 : Shape := ⟨3, ![1, 3408, 1024]⟩
abbrev S3408x1024 : Shape := ⟨2, ![3408, 1024]⟩

abbrev nBuf : Space → Nat
  | .hbm => 2
  | .vmem => 0
  | .smem => 0
  | _ => 0

abbrev bufTy : (tb : Table) → Fin (tcTables nBuf tb) → BufTy
  | .hbm, ⟨0, _⟩ => ⟨S20448x1024, .bf16⟩
  | .hbm, ⟨1, _⟩ => ⟨S4x20448x1024, .bf16⟩
  | _, _ => ⟨S20448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_9 : BitVec 32 := 0#32
  ![v10.toNat, 0, 0]
def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32 : BitVec 32 := 10224#32
  let v18 : BitVec 32 := Scalar.muli v8 c10224_i32
  let c0_i32_10 : BitVec 32 := 0#32
  let v19 : BitVec 32 := Scalar.addi v18 c0_i32_10
  v19
def k0_mult2 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_11 : BitVec 32 := 10224#32
  let v21 : BitVec 32 := Scalar.muli v8 c10224_i32_11
  let c0_i32_12 : BitVec 32 := 0#32
  let v22 : BitVec 32 := Scalar.addi v21 c0_i32_12
  v22
def k0_off2 (d0 : Dev nD) (c0_i32_12 : BitVec 32) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_11 : BitVec 32 := 10224#32
  let v21 : BitVec 32 := Scalar.muli v8 c10224_i32_11
  let v22 : BitVec 32 := Scalar.addi v21 c0_i32_12
  let v23 : BitVec 32 := v22
  let c0_i32_23 : BitVec 32 := 0#32
  ![v10.toNat, v23.toNat, 0]
def k0_off3 (d0 : Dev nD) (c0_i32_10 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32 : BitVec 32 := 10224#32
  let v18 : BitVec 32 := Scalar.muli v8 c10224_i32
  let v19 : BitVec 32 := Scalar.addi v18 c0_i32_10
  let v20 : BitVec 32 := v19
  let c0_i32_24 : BitVec 32 := 0#32
  ![v20.toNat, 0]
def k0_dev1 (d0 : Dev nD) : Nat :=
  let c0_i32_20 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_19 : BitVec 32 := 4#32
  let v24 : BitVec 32 := Scalar.muli v12 c4_i32_19
  let v25 : BitVec 32 := Scalar.addi c0_i32_20 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v26 : BitVec 32 := Scalar.muli v5 c2_i32_21
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v28 : BitVec 32 := Scalar.muli v8 c1_i32_22
  let v29 : BitVec 32 := Scalar.addi v27 v28
  v29.toNat
def k0_mult3 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_25 : BitVec 32 := 10224#32
  let v37 : BitVec 32 := Scalar.muli v8 c10224_i32_25
  let c3408_i32 : BitVec 32 := 3408#32
  let v38 : BitVec 32 := Scalar.addi v37 c3408_i32
  v38
def k0_mult4 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_26 : BitVec 32 := 10224#32
  let v40 : BitVec 32 := Scalar.muli v8 c10224_i32_26
  let c3408_i32_27 : BitVec 32 := 3408#32
  let v41 : BitVec 32 := Scalar.addi v40 c3408_i32_27
  v41
def k0_dev2 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_34 : BitVec 32 := 4#32
  let v43 : BitVec 32 := Scalar.muli v12 c4_i32_34
  let v44 : BitVec 32 := Scalar.addi c0_i32_35 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v45 : BitVec 32 := Scalar.muli v5 c2_i32_36
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v47 : BitVec 32 := Scalar.muli v8 c1_i32_37
  let v48 : BitVec 32 := Scalar.addi v46 v47
  v48.toNat
def k0_mult5 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_40 : BitVec 32 := 10224#32
  let v56 : BitVec 32 := Scalar.muli v8 c10224_i32_40
  let c6816_i32 : BitVec 32 := 6816#32
  let v57 : BitVec 32 := Scalar.addi v56 c6816_i32
  v57
def k0_mult6 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_41 : BitVec 32 := 10224#32
  let v59 : BitVec 32 := Scalar.muli v8 c10224_i32_41
  let c6816_i32_42 : BitVec 32 := 6816#32
  let v60 : BitVec 32 := Scalar.addi v59 c6816_i32_42
  v60
def k0_dev3 (d0 : Dev nD) : Nat :=
  let c0_i32_50 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_49 : BitVec 32 := 4#32
  let v62 : BitVec 32 := Scalar.muli v12 c4_i32_49
  let v63 : BitVec 32 := Scalar.addi c0_i32_50 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v64 : BitVec 32 := Scalar.muli v5 c2_i32_51
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v66 : BitVec 32 := Scalar.muli v8 c1_i32_52
  let v67 : BitVec 32 := Scalar.addi v65 v66
  v67.toNat
def k0_mult7 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_55 : BitVec 32 := 10224#32
  let v75 : BitVec 32 := Scalar.muli v8 c10224_i32_55
  let c0_i32_56 : BitVec 32 := 0#32
  let v76 : BitVec 32 := Scalar.addi v75 c0_i32_56
  v76
def k0_mult8 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_57 : BitVec 32 := 10224#32
  let v78 : BitVec 32 := Scalar.muli v8 c10224_i32_57
  let c0_i32_58 : BitVec 32 := 0#32
  let v79 : BitVec 32 := Scalar.addi v78 c0_i32_58
  v79
def k0_dev4 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v81 : BitVec 32 := Scalar.muli v2 c4_i32_65
  let v82 : BitVec 32 := Scalar.addi c0_i32_66 v81
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_67 : BitVec 32 := 2#32
  let v83 : BitVec 32 := Scalar.muli v13 c2_i32_67
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v85 : BitVec 32 := Scalar.muli v8 c1_i32_68
  let v86 : BitVec 32 := Scalar.addi v84 v85
  v86.toNat
def k0_mult9 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_71 : BitVec 32 := 10224#32
  let v94 : BitVec 32 := Scalar.muli v8 c10224_i32_71
  let c3408_i32_72 : BitVec 32 := 3408#32
  let v95 : BitVec 32 := Scalar.addi v94 c3408_i32_72
  v95
def k0_mult10 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_73 : BitVec 32 := 10224#32
  let v97 : BitVec 32 := Scalar.muli v8 c10224_i32_73
  let c3408_i32_74 : BitVec 32 := 3408#32
  let v98 : BitVec 32 := Scalar.addi v97 c3408_i32_74
  v98
def k0_dev5 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v100 : BitVec 32 := Scalar.muli v2 c4_i32_81
  let v101 : BitVec 32 := Scalar.addi c0_i32_82 v100
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_83 : BitVec 32 := 2#32
  let v102 : BitVec 32 := Scalar.muli v13 c2_i32_83
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v104 : BitVec 32 := Scalar.muli v8 c1_i32_84
  let v105 : BitVec 32 := Scalar.addi v103 v104
  v105.toNat
def k0_mult11 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_87 : BitVec 32 := 10224#32
  let v113 : BitVec 32 := Scalar.muli v8 c10224_i32_87
  let c6816_i32_88 : BitVec 32 := 6816#32
  let v114 : BitVec 32 := Scalar.addi v113 c6816_i32_88
  v114
def k0_mult12 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_89 : BitVec 32 := 10224#32
  let v116 : BitVec 32 := Scalar.muli v8 c10224_i32_89
  let c6816_i32_90 : BitVec 32 := 6816#32
  let v117 : BitVec 32 := Scalar.addi v116 c6816_i32_90
  v117
def k0_dev6 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v119 : BitVec 32 := Scalar.muli v2 c4_i32_97
  let v120 : BitVec 32 := Scalar.addi c0_i32_98 v119
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_99 : BitVec 32 := 2#32
  let v121 : BitVec 32 := Scalar.muli v13 c2_i32_99
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v123 : BitVec 32 := Scalar.muli v8 c1_i32_100
  let v124 : BitVec 32 := Scalar.addi v122 v123
  v124.toNat
def k0_mult13 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_103 : BitVec 32 := 10224#32
  let v132 : BitVec 32 := Scalar.muli v8 c10224_i32_103
  let c0_i32_104 : BitVec 32 := 0#32
  let v133 : BitVec 32 := Scalar.addi v132 c0_i32_104
  v133
def k0_mult14 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_105 : BitVec 32 := 10224#32
  let v135 : BitVec 32 := Scalar.muli v8 c10224_i32_105
  let c0_i32_106 : BitVec 32 := 0#32
  let v136 : BitVec 32 := Scalar.addi v135 c0_i32_106
  v136
def k0_dev7 (d0 : Dev nD) : Nat :=
  let c0_i32_114 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_113 : BitVec 32 := 4#32
  let v138 : BitVec 32 := Scalar.muli v14 c4_i32_113
  let v139 : BitVec 32 := Scalar.addi c0_i32_114 v138
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_115 : BitVec 32 := 2#32
  let v140 : BitVec 32 := Scalar.muli v15 c2_i32_115
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v142 : BitVec 32 := Scalar.muli v8 c1_i32_116
  let v143 : BitVec 32 := Scalar.addi v141 v142
  v143.toNat
def k0_mult15 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_119 : BitVec 32 := 10224#32
  let v151 : BitVec 32 := Scalar.muli v8 c10224_i32_119
  let c3408_i32_120 : BitVec 32 := 3408#32
  let v152 : BitVec 32 := Scalar.addi v151 c3408_i32_120
  v152
def k0_mult16 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_121 : BitVec 32 := 10224#32
  let v154 : BitVec 32 := Scalar.muli v8 c10224_i32_121
  let c3408_i32_122 : BitVec 32 := 3408#32
  let v155 : BitVec 32 := Scalar.addi v154 c3408_i32_122
  v155
def k0_dev8 (d0 : Dev nD) : Nat :=
  let c0_i32_130 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_129 : BitVec 32 := 4#32
  let v157 : BitVec 32 := Scalar.muli v14 c4_i32_129
  let v158 : BitVec 32 := Scalar.addi c0_i32_130 v157
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_131 : BitVec 32 := 2#32
  let v159 : BitVec 32 := Scalar.muli v15 c2_i32_131
  let v160 : BitVec 32 := Scalar.addi v158 v159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v161 : BitVec 32 := Scalar.muli v8 c1_i32_132
  let v162 : BitVec 32 := Scalar.addi v160 v161
  v162.toNat
def k0_mult17 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_135 : BitVec 32 := 10224#32
  let v170 : BitVec 32 := Scalar.muli v8 c10224_i32_135
  let c6816_i32_136 : BitVec 32 := 6816#32
  let v171 : BitVec 32 := Scalar.addi v170 c6816_i32_136
  v171
def k0_mult18 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_137 : BitVec 32 := 10224#32
  let v173 : BitVec 32 := Scalar.muli v8 c10224_i32_137
  let c6816_i32_138 : BitVec 32 := 6816#32
  let v174 : BitVec 32 := Scalar.addi v173 c6816_i32_138
  v174
def k0_dev9 (d0 : Dev nD) : Nat :=
  let c0_i32_146 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_145 : BitVec 32 := 4#32
  let v176 : BitVec 32 := Scalar.muli v14 c4_i32_145
  let v177 : BitVec 32 := Scalar.addi c0_i32_146 v176
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_147 : BitVec 32 := 2#32
  let v178 : BitVec 32 := Scalar.muli v15 c2_i32_147
  let v179 : BitVec 32 := Scalar.addi v177 v178
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v180 : BitVec 32 := Scalar.muli v8 c1_i32_148
  let v181 : BitVec 32 := Scalar.addi v179 v180
  v181.toNat
def k0_mult19 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_152 : BitVec 32 := 10224#32
  let v191 : BitVec 32 := Scalar.muli v8 c10224_i32_152
  let c0_i32_153 : BitVec 32 := 0#32
  let v192 : BitVec 32 := Scalar.addi v191 c0_i32_153
  v192
def k0_off4 (d0 : Dev nD) (c0_i32_153 : BitVec 32) : Fin 3 → Nat :=
  let c2_i32_151 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v189 : BitVec 32 := Scalar.muli c2_i32_151 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v190 : BitVec 32 := Scalar.addi v189 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_152 : BitVec 32 := 10224#32
  let v191 : BitVec 32 := Scalar.muli v8 c10224_i32_152
  let v192 : BitVec 32 := Scalar.addi v191 c0_i32_153
  let v193 : BitVec 32 := v192
  let c0_i32_164 : BitVec 32 := 0#32
  ![v190.toNat, v193.toNat, 0]
def k0_dev10 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v206 : BitVec 32 := Scalar.muli v2 c4_i32_172
  let v207 : BitVec 32 := Scalar.addi c0_i32_173 v206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v208 : BitVec 32 := Scalar.muli v5 c2_i32_174
  let v209 : BitVec 32 := Scalar.addi v207 v208
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_175 : BitVec 32 := 1#32
  let v210 : BitVec 32 := Scalar.muli v11 c1_i32_175
  let v211 : BitVec 32 := Scalar.addi v209 v210
  v211.toNat
def k0_mult20 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_179 : BitVec 32 := 10224#32
  let v222 : BitVec 32 := Scalar.muli v8 c10224_i32_179
  let c3408_i32_180 : BitVec 32 := 3408#32
  let v223 : BitVec 32 := Scalar.addi v222 c3408_i32_180
  v223
def k0_dev11 (d0 : Dev nD) : Nat :=
  let c0_i32_200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_199 : BitVec 32 := 4#32
  let v237 : BitVec 32 := Scalar.muli v2 c4_i32_199
  let v238 : BitVec 32 := Scalar.addi c0_i32_200 v237
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_201 : BitVec 32 := 2#32
  let v239 : BitVec 32 := Scalar.muli v5 c2_i32_201
  let v240 : BitVec 32 := Scalar.addi v238 v239
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_202 : BitVec 32 := 1#32
  let v241 : BitVec 32 := Scalar.muli v11 c1_i32_202
  let v242 : BitVec 32 := Scalar.addi v240 v241
  v242.toNat
def k0_mult21 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_206 : BitVec 32 := 10224#32
  let v253 : BitVec 32 := Scalar.muli v8 c10224_i32_206
  let c6816_i32_207 : BitVec 32 := 6816#32
  let v254 : BitVec 32 := Scalar.addi v253 c6816_i32_207
  v254
def k0_dev12 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v268 : BitVec 32 := Scalar.muli v2 c4_i32_226
  let v269 : BitVec 32 := Scalar.addi c0_i32_227 v268
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_228 : BitVec 32 := 2#32
  let v270 : BitVec 32 := Scalar.muli v5 c2_i32_228
  let v271 : BitVec 32 := Scalar.addi v269 v270
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_229 : BitVec 32 := 1#32
  let v272 : BitVec 32 := Scalar.muli v11 c1_i32_229
  let v273 : BitVec 32 := Scalar.addi v271 v272
  v273.toNat
def k0_mult22 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_233 : BitVec 32 := 10224#32
  let v284 : BitVec 32 := Scalar.muli v8 c10224_i32_233
  let c0_i32_234 : BitVec 32 := 0#32
  let v285 : BitVec 32 := Scalar.addi v284 c0_i32_234
  v285
def k0_off5 (d0 : Dev nD) (c0_i32_234 : BitVec 32) : Fin 3 → Nat :=
  let c2_i32_232 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v282 : BitVec 32 := Scalar.muli c2_i32_232 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v283 : BitVec 32 := Scalar.addi v282 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_233 : BitVec 32 := 10224#32
  let v284 : BitVec 32 := Scalar.muli v8 c10224_i32_233
  let v285 : BitVec 32 := Scalar.addi v284 c0_i32_234
  let v286 : BitVec 32 := v285
  let c0_i32_245 : BitVec 32 := 0#32
  ![v283.toNat, v286.toNat, 0]
def k0_dev13 (d0 : Dev nD) : Nat :=
  let c0_i32_254 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_253 : BitVec 32 := 4#32
  let v299 : BitVec 32 := Scalar.muli v2 c4_i32_253
  let v300 : BitVec 32 := Scalar.addi c0_i32_254 v299
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_255 : BitVec 32 := 2#32
  let v301 : BitVec 32 := Scalar.muli v5 c2_i32_255
  let v302 : BitVec 32 := Scalar.addi v300 v301
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_256 : BitVec 32 := 1#32
  let v303 : BitVec 32 := Scalar.muli v11 c1_i32_256
  let v304 : BitVec 32 := Scalar.addi v302 v303
  v304.toNat
def k0_mult23 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_260 : BitVec 32 := 10224#32
  let v315 : BitVec 32 := Scalar.muli v8 c10224_i32_260
  let c3408_i32_261 : BitVec 32 := 3408#32
  let v316 : BitVec 32 := Scalar.addi v315 c3408_i32_261
  v316
def k0_dev14 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v330 : BitVec 32 := Scalar.muli v2 c4_i32_280
  let v331 : BitVec 32 := Scalar.addi c0_i32_281 v330
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_282 : BitVec 32 := 2#32
  let v332 : BitVec 32 := Scalar.muli v5 c2_i32_282
  let v333 : BitVec 32 := Scalar.addi v331 v332
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_283 : BitVec 32 := 1#32
  let v334 : BitVec 32 := Scalar.muli v11 c1_i32_283
  let v335 : BitVec 32 := Scalar.addi v333 v334
  v335.toNat
def k0_mult24 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_287 : BitVec 32 := 10224#32
  let v346 : BitVec 32 := Scalar.muli v8 c10224_i32_287
  let c6816_i32_288 : BitVec 32 := 6816#32
  let v347 : BitVec 32 := Scalar.addi v346 c6816_i32_288
  v347
def k0_dev15 (d0 : Dev nD) : Nat :=
  let c0_i32_308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_307 : BitVec 32 := 4#32
  let v361 : BitVec 32 := Scalar.muli v2 c4_i32_307
  let v362 : BitVec 32 := Scalar.addi c0_i32_308 v361
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_309 : BitVec 32 := 2#32
  let v363 : BitVec 32 := Scalar.muli v5 c2_i32_309
  let v364 : BitVec 32 := Scalar.addi v362 v363
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_310 : BitVec 32 := 1#32
  let v365 : BitVec 32 := Scalar.muli v11 c1_i32_310
  let v366 : BitVec 32 := Scalar.addi v364 v365
  v366.toNat
def k0_mult25 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_314 : BitVec 32 := 10224#32
  let v377 : BitVec 32 := Scalar.muli v8 c10224_i32_314
  let c0_i32_315 : BitVec 32 := 0#32
  let v378 : BitVec 32 := Scalar.addi v377 c0_i32_315
  v378
def k0_off6 (d0 : Dev nD) (c0_i32_315 : BitVec 32) : Fin 3 → Nat :=
  let c2_i32_313 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v375 : BitVec 32 := Scalar.muli c2_i32_313 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v376 : BitVec 32 := Scalar.addi v375 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_314 : BitVec 32 := 10224#32
  let v377 : BitVec 32 := Scalar.muli v8 c10224_i32_314
  let v378 : BitVec 32 := Scalar.addi v377 c0_i32_315
  let v379 : BitVec 32 := v378
  let c0_i32_326 : BitVec 32 := 0#32
  ![v376.toNat, v379.toNat, 0]
def k0_dev16 (d0 : Dev nD) : Nat :=
  let c0_i32_335 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_334 : BitVec 32 := 4#32
  let v392 : BitVec 32 := Scalar.muli v2 c4_i32_334
  let v393 : BitVec 32 := Scalar.addi c0_i32_335 v392
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_336 : BitVec 32 := 2#32
  let v394 : BitVec 32 := Scalar.muli v5 c2_i32_336
  let v395 : BitVec 32 := Scalar.addi v393 v394
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_337 : BitVec 32 := 1#32
  let v396 : BitVec 32 := Scalar.muli v11 c1_i32_337
  let v397 : BitVec 32 := Scalar.addi v395 v396
  v397.toNat
def k0_mult26 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_341 : BitVec 32 := 10224#32
  let v408 : BitVec 32 := Scalar.muli v8 c10224_i32_341
  let c3408_i32_342 : BitVec 32 := 3408#32
  let v409 : BitVec 32 := Scalar.addi v408 c3408_i32_342
  v409
def k0_dev17 (d0 : Dev nD) : Nat :=
  let c0_i32_362 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_361 : BitVec 32 := 4#32
  let v423 : BitVec 32 := Scalar.muli v2 c4_i32_361
  let v424 : BitVec 32 := Scalar.addi c0_i32_362 v423
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_363 : BitVec 32 := 2#32
  let v425 : BitVec 32 := Scalar.muli v5 c2_i32_363
  let v426 : BitVec 32 := Scalar.addi v424 v425
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_364 : BitVec 32 := 1#32
  let v427 : BitVec 32 := Scalar.muli v11 c1_i32_364
  let v428 : BitVec 32 := Scalar.addi v426 v427
  v428.toNat
def k0_mult27 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c10224_i32_368 : BitVec 32 := 10224#32
  let v439 : BitVec 32 := Scalar.muli v8 c10224_i32_368
  let c6816_i32_369 : BitVec 32 := 6816#32
  let v440 : BitVec 32 := Scalar.addi v439 c6816_i32_369
  v440
def k0_dev18 (d0 : Dev nD) : Nat :=
  let c0_i32_389 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_388 : BitVec 32 := 4#32
  let v454 : BitVec 32 := Scalar.muli v2 c4_i32_388
  let v455 : BitVec 32 := Scalar.addi c0_i32_389 v454
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_390 : BitVec 32 := 2#32
  let v456 : BitVec 32 := Scalar.muli v5 c2_i32_390
  let v457 : BitVec 32 := Scalar.addi v455 v456
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_391 : BitVec 32 := 1#32
  let v458 : BitVec 32 := Scalar.muli v11 c1_i32_391
  let v459 : BitVec 32 := Scalar.addi v457 v458
  v459.toNat
def k0_mult28 (d0 : Dev nD) : BitVec 32 :=
  let c1_i32_395 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v470 : BitVec 32 := Scalar.subi c1_i32_395 v8
  let c10224_i32_396 : BitVec 32 := 10224#32
  let v471 : BitVec 32 := Scalar.muli v470 c10224_i32_396
  let c0_i32_397 : BitVec 32 := 0#32
  let v472 : BitVec 32 := Scalar.addi v471 c0_i32_397
  v472
def k0_off7 (d0 : Dev nD) (c0_i32_397 : BitVec 32) : Fin 3 → Nat :=
  let c2_i32_394 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v468 : BitVec 32 := Scalar.muli c2_i32_394 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v469 : BitVec 32 := Scalar.addi v468 v5
  let c1_i32_395 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v470 : BitVec 32 := Scalar.subi c1_i32_395 v8
  let c10224_i32_396 : BitVec 32 := 10224#32
  let v471 : BitVec 32 := Scalar.muli v470 c10224_i32_396
  let v472 : BitVec 32 := Scalar.addi v471 c0_i32_397
  let v473 : BitVec 32 := v472
  let c0_i32_408 : BitVec 32 := 0#32
  ![v469.toNat, v473.toNat, 0]
def k0_mult29 (d0 : Dev nD) : BitVec 32 :=
  let c1_i32_411 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v488 : BitVec 32 := Scalar.subi c1_i32_411 v8
  let c10224_i32_412 : BitVec 32 := 10224#32
  let v489 : BitVec 32 := Scalar.muli v488 c10224_i32_412
  let c3408_i32_413 : BitVec 32 := 3408#32
  let v490 : BitVec 32 := Scalar.addi v489 c3408_i32_413
  v490
def k0_mult30 (d0 : Dev nD) : BitVec 32 :=
  let c1_i32_427 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v506 : BitVec 32 := Scalar.subi c1_i32_427 v8
  let c10224_i32_428 : BitVec 32 := 10224#32
  let v507 : BitVec 32 := Scalar.muli v506 c10224_i32_428
  let c6816_i32_429 : BitVec 32 := 6816#32
  let v508 : BitVec 32 := Scalar.addi v507 c6816_i32_429
  v508
def k0_mult31 (d0 : Dev nD) : BitVec 32 :=
  let c1_i32_443 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v524 : BitVec 32 := Scalar.subi c1_i32_443 v8
  let c10224_i32_444 : BitVec 32 := 10224#32
  let v525 : BitVec 32 := Scalar.muli v524 c10224_i32_444
  let c0_i32_445 : BitVec 32 := 0#32
  let v526 : BitVec 32 := Scalar.addi v525 c0_i32_445
  v526
def k0_off8 (d0 : Dev nD) (c0_i32_445 : BitVec 32) : Fin 3 → Nat :=
  let c2_i32_442 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v522 : BitVec 32 := Scalar.muli c2_i32_442 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v523 : BitVec 32 := Scalar.addi v522 v13
  let c1_i32_443 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v524 : BitVec 32 := Scalar.subi c1_i32_443 v8
  let c10224_i32_444 : BitVec 32 := 10224#32
  let v525 : BitVec 32 := Scalar.muli v524 c10224_i32_444
  let v526 : BitVec 32 := Scalar.addi v525 c0_i32_445
  let v527 : BitVec 32 := v526
  let c0_i32_456 : BitVec 32 := 0#32
  ![v523.toNat, v527.toNat, 0]
def k0_mult32 (d0 : Dev nD) : BitVec 32 :=
  let c1_i32_459 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v542 : BitVec 32 := Scalar.subi c1_i32_459 v8
  let c10224_i32_460 : BitVec 32 := 10224#32
  let v543 : BitVec 32 := Scalar.muli v542 c10224_i32_460
  let c3408_i32_461 : BitVec 32 := 3408#32
  let v544 : BitVec 32 := Scalar.addi v543 c3408_i32_461
  v544
def k0_mult33 (d0 : Dev nD) : BitVec 32 :=
  let c1_i32_475 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v560 : BitVec 32 := Scalar.subi c1_i32_475 v8
  let c10224_i32_476 : BitVec 32 := 10224#32
  let v561 : BitVec 32 := Scalar.muli v560 c10224_i32_476
  let c6816_i32_477 : BitVec 32 := 6816#32
  let v562 : BitVec 32 := Scalar.addi v561 c6816_i32_477
  v562
def k0_mult34 (d0 : Dev nD) : BitVec 32 :=
  let c1_i32_491 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v578 : BitVec 32 := Scalar.subi c1_i32_491 v8
  let c10224_i32_492 : BitVec 32 := 10224#32
  let v579 : BitVec 32 := Scalar.muli v578 c10224_i32_492
  let c0_i32_493 : BitVec 32 := 0#32
  let v580 : BitVec 32 := Scalar.addi v579 c0_i32_493
  v580
def k0_off9 (d0 : Dev nD) (c0_i32_493 : BitVec 32) : Fin 3 → Nat :=
  let c2_i32_490 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v576 : BitVec 32 := Scalar.muli c2_i32_490 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v577 : BitVec 32 := Scalar.addi v576 v15
  let c1_i32_491 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v578 : BitVec 32 := Scalar.subi c1_i32_491 v8
  let c10224_i32_492 : BitVec 32 := 10224#32
  let v579 : BitVec 32 := Scalar.muli v578 c10224_i32_492
  let v580 : BitVec 32 := Scalar.addi v579 c0_i32_493
  let v581 : BitVec 32 := v580
  let c0_i32_504 : BitVec 32 := 0#32
  ![v577.toNat, v581.toNat, 0]
def k0_mult35 (d0 : Dev nD) : BitVec 32 :=
  let c1_i32_507 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v596 : BitVec 32 := Scalar.subi c1_i32_507 v8
  let c10224_i32_508 : BitVec 32 := 10224#32
  let v597 : BitVec 32 := Scalar.muli v596 c10224_i32_508
  let c3408_i32_509 : BitVec 32 := 3408#32
  let v598 : BitVec 32 := Scalar.addi v597 c3408_i32_509
  v598
def k0_mult36 (d0 : Dev nD) : BitVec 32 :=
  let c1_i32_523 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v614 : BitVec 32 := Scalar.subi c1_i32_523 v8
  let c10224_i32_524 : BitVec 32 := 10224#32
  let v615 : BitVec 32 := Scalar.muli v614 c10224_i32_524
  let c6816_i32_525 : BitVec 32 := 6816#32
  let v616 : BitVec 32 := Scalar.addi v615 c6816_i32_525
  v616
-- ==== GatherRef.lean ====
abbrev S81792x1024 : Shape := ⟨2, ![81792, 1024]⟩
abbrev S4x20448x1024 : Shape := ⟨3, ![4, 20448, 1024]⟩

abbrev nBuf : Space → Nat
  | .hbm => 2
  | .vmem => 0
  | .smem => 0
  | _ => 0

abbrev bufTy : (tb : Table) → Fin (tcTables nBuf tb) → BufTy
  | .hbm, ⟨0, _⟩ => ⟨S81792x1024, .bf16⟩
  | .hbm, ⟨1, _⟩ => ⟨S4x20448x1024, .bf16⟩
  | _, _ => ⟨S81792x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamUp.lean ====
abbrev S8192x1408 : Shape := ⟨2, ![8192, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S8192x1408 : Shape := ⟨2, ![8192, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S8192x1408 : Shape := ⟨2, ![8192, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S_, .f32⟩
  | .hbm, ⟨5, _⟩ => ⟨S8192x1408, .f32⟩
  | .hbm, ⟨6, _⟩ => ⟨S8192x1408, .f32⟩
  | .hbm, ⟨7, _⟩ => ⟨S_, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S_, .f32⟩
  | .hbm, ⟨12, _⟩ => ⟨S8192x1408, .f32⟩
  | .hbm, ⟨13, _⟩ => ⟨S8192x1408, .f32⟩
  | .hbm, ⟨14, _⟩ => ⟨S8192x1408, .f32⟩
  | .hbm, ⟨15, _⟩ => ⟨S_, .f32⟩
  | .hbm, ⟨16, _⟩ => ⟨S8192x1408, .f32⟩
  | .hbm, ⟨17, _⟩ => ⟨S8192x1408, .f32⟩
  | .hbm, ⟨18, _⟩ => ⟨S8192x1408, .f32⟩
  | .hbm, ⟨19, _⟩ => ⟨S_, .f32⟩
  | .hbm, ⟨20, _⟩ => ⟨S8192x1408, .f32⟩
  | .hbm, ⟨21, _⟩ => ⟨S8192x1408, .f32⟩
  | .hbm, ⟨22, _⟩ => ⟨S_, .f32⟩
  | .hbm, ⟨23, _⟩ => ⟨S8192x1408, .f32⟩
  | .hbm, ⟨24, _⟩ => ⟨S8192x1408, .f32⟩
  | .hbm, ⟨25, _⟩ => ⟨S8192x1408, .f32⟩
  | .hbm, ⟨26, _⟩ => ⟨S_, .f32⟩
  | .hbm, ⟨27, _⟩ => ⟨S8192x1408, .f32⟩
  | .hbm, ⟨28, _⟩ => ⟨S8192x1408, .f32⟩
  | .hbm, ⟨29, _⟩ => ⟨S8192x1408, .f32⟩
  | .hbm, ⟨30, _⟩ => ⟨S_, .f32⟩
  | .hbm, ⟨31, _⟩ => ⟨S8192x1408, .f32⟩
  | .hbm, ⟨32, _⟩ => ⟨S8192x1408, .f32⟩
  | .hbm, ⟨33, _⟩ => ⟨S8192x1408, .f32⟩
  | .hbm, ⟨34, _⟩ => ⟨S_, .f32⟩
  | .hbm, ⟨35, _⟩ => ⟨S8192x1408, .f32⟩
  | .hbm, ⟨36, _⟩ => ⟨S8192x1408, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S5632x2048 : Shape := ⟨2, ![5632, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S5632x2048 : Shape := ⟨2, ![5632, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S5632x2048 : Shape := ⟨2, ![5632, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S_, .f32⟩
  | .hbm, ⟨5, _⟩ => ⟨S5632x2048, .f32⟩
  | .hbm, ⟨6, _⟩ => ⟨S5632x2048, .f32⟩
  | .hbm, ⟨7, _⟩ => ⟨S_, .f32⟩
  | .hbm, ⟨8, _⟩ => ⟨S5632x2048, .f32⟩
  | .hbm, ⟨9, _⟩ => ⟨S5632x2048, .f32⟩
  | .hbm, ⟨10, _⟩ => ⟨S5632x2048, .f32⟩
  | .hbm, ⟨11, _⟩ => ⟨S_, .f32⟩
  | .hbm, ⟨12, _⟩ => ⟨S5632x2048, .f32⟩
  | .hbm, ⟨13, _⟩ => ⟨S5632x2048, .f32⟩
  | .hbm, ⟨14, _⟩ => ⟨S5632x2048, .f32⟩
  | .hbm, ⟨15, _⟩ => ⟨S_, .f32⟩
  | .hbm, ⟨16, _⟩ => ⟨S5632x2048, .f32⟩
  | .hbm, ⟨17, _⟩ => ⟨S5632x2048, .f32⟩
  | .hbm, ⟨18, _⟩ => ⟨S5632x2048, .f32⟩
  | .hbm, ⟨19, _⟩ => ⟨S_, .f32⟩
  | .hbm, ⟨20, _⟩ => ⟨S5632x2048, .f32⟩
  | .hbm, ⟨21, _⟩ => ⟨S5632x2048, .f32⟩
  | .hbm, ⟨22, _⟩ => ⟨S_, .f32⟩
  | .hbm, ⟨23, _⟩ => ⟨S5632x2048, .f32⟩
  | .hbm, ⟨24, _⟩ => ⟨S5632x2048, .f32⟩
  | .hbm, ⟨25, _⟩ => ⟨S5632x2048, .f32⟩
  | .hbm, ⟨26, _⟩ => ⟨S_, .f32⟩
  | .hbm, ⟨27, _⟩ => ⟨S5632x2048, .f32⟩
  | .hbm, ⟨28, _⟩ => ⟨S5632x2048, .f32⟩
  | .hbm, ⟨29, _⟩ => ⟨S5632x2048, .f32⟩
  | .hbm, ⟨30, _⟩ => ⟨S_, .f32⟩
  | .hbm, ⟨31, _⟩ => ⟨S5632x2048, .f32⟩
  | .hbm, ⟨32, _⟩ => ⟨S5632x2048, .f32⟩
  | .hbm, ⟨33, _⟩ => ⟨S5632x2048, .f32⟩
  | .hbm, ⟨34, _⟩ => ⟨S_, .f32⟩
  | .hbm, ⟨35, _⟩ => ⟨S5632x2048, .f32⟩
  | .hbm, ⟨36, _⟩ => ⟨S5632x2048, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S8192x1040 : Shape := ⟨2, ![8192, 1040]⟩
abbrev S256x1040 : Shape := ⟨2, ![256, 1040]⟩

abbrev nBuf : Space → Nat
  | .hbm => 7
  | .vmem => 14
  | .smem => 0
  | _ => 0

abbrev bufTy : (tb : Table) → Fin (tcTables nBuf tb) → BufTy
  | .hbm, ⟨0, _⟩ => ⟨S8192x1040, .f32⟩
  | .hbm, ⟨1, _⟩ => ⟨S8192x1040, .f32⟩
  | .hbm, ⟨2, _⟩ => ⟨S8192x1040, .f32⟩
  | .hbm, ⟨3, _⟩ => ⟨S8192x1040, .f32⟩
  | .hbm, ⟨4, _⟩ => ⟨S8192x1040, .f32⟩
  | .hbm, ⟨5, _⟩ => ⟨S8192x1040, .f32⟩
  | .hbm, ⟨6, _⟩ => ⟨S8192x1040, .f32⟩
  | .local _ .vmem, ⟨0, _⟩ => ⟨S256x1040, .f32⟩
  | .local _ .vmem, ⟨1, _⟩ => ⟨S256x1040, .f32⟩
  | .local _ .vmem, ⟨2, _⟩ => ⟨S256x1040, .f32⟩
  | .local _ .vmem, ⟨3, _⟩ => ⟨S256x1040, .f32⟩
  | .local _ .vmem, ⟨4, _⟩ => ⟨S256x1040, .f32⟩
  | .local _ .vmem, ⟨5, _⟩ => ⟨S256x1040, .f32⟩
  | .local _ .vmem, ⟨6, _⟩ => ⟨S256x1040, .f32⟩
  | .local _ .vmem, ⟨7, _⟩ => ⟨S256x1040, .f32⟩
  | .local _ .vmem, ⟨8, _⟩ => ⟨S256x1040, .f32⟩
  | .local _ .vmem, ⟨9, _⟩ => ⟨S256x1040, .f32⟩
  | .local _ .vmem, ⟨10, _⟩ => ⟨S256x1040, .f32⟩
  | .local _ .vmem, ⟨11, _⟩ => ⟨S256x1040, .f32⟩
  | .local _ .vmem, ⟨12, _⟩ => ⟨S256x1040, .f32⟩
  | .local _ .vmem, ⟨13, _⟩ => ⟨S256x1040, .f32⟩
  | _, _ => ⟨S8192x1040, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1040 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1040 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1040 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1040 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1040 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1040 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1040 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S8192x1040 : Shape := ⟨2, ![8192, 1040]⟩
abbrev S256x1040 : Shape := ⟨2, ![256, 1040]⟩

abbrev nBuf : Space → Nat
  | .hbm => 7
  | .vmem => 14
  | .smem => 0
  | _ => 0

abbrev bufTy : (tb : Table) → Fin (tcTables nBuf tb) → BufTy
  | .hbm, ⟨0, _⟩ => ⟨S8192x1040, .f32⟩
  | .hbm, ⟨1, _⟩ => ⟨S8192x1040, .f32⟩
  | .hbm, ⟨2, _⟩ => ⟨S8192x1040, .f32⟩
  | .hbm, ⟨3, _⟩ => ⟨S8192x1040, .f32⟩
  | .hbm, ⟨4, _⟩ => ⟨S8192x1040, .f32⟩
  | .hbm, ⟨5, _⟩ => ⟨S8192x1040, .f32⟩
  | .hbm, ⟨6, _⟩ => ⟨S8192x1040, .f32⟩
  | .local _ .vmem, ⟨0, _⟩ => ⟨S256x1040, .f32⟩
  | .local _ .vmem, ⟨1, _⟩ => ⟨S256x1040, .f32⟩
  | .local _ .vmem, ⟨2, _⟩ => ⟨S256x1040, .f32⟩
  | .local _ .vmem, ⟨3, _⟩ => ⟨S256x1040, .f32⟩
  | .local _ .vmem, ⟨4, _⟩ => ⟨S256x1040, .f32⟩
  | .local _ .vmem, ⟨5, _⟩ => ⟨S256x1040, .f32⟩
  | .local _ .vmem, ⟨6, _⟩ => ⟨S256x1040, .f32⟩
  | .local _ .vmem, ⟨7, _⟩ => ⟨S256x1040, .f32⟩
  | .local _ .vmem, ⟨8, _⟩ => ⟨S256x1040, .f32⟩
  | .local _ .vmem, ⟨9, _⟩ => ⟨S256x1040, .f32⟩
  | .local _ .vmem, ⟨10, _⟩ => ⟨S256x1040, .f32⟩
  | .local _ .vmem, ⟨11, _⟩ => ⟨S256x1040, .f32⟩
  | .local _ .vmem, ⟨12, _⟩ => ⟨S256x1040, .f32⟩
  | .local _ .vmem, ⟨13, _⟩ => ⟨S256x1040, .f32⟩
  | _, _ => ⟨S8192x1040, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1040 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1040 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1040 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1040 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1040 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1040 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1040 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S8192x1040 : Shape := ⟨2, ![8192, 1040]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1040, .f32⟩
  | .hbm, ⟨1, _⟩ => ⟨S8192x1040, .f32⟩
  | .hbm, ⟨2, _⟩ => ⟨S8192x1040, .f32⟩
  | .hbm, ⟨3, _⟩ => ⟨S8192x1040, .f32⟩
  | .hbm, ⟨4, _⟩ => ⟨S_, .f32⟩
  | .hbm, ⟨5, _⟩ => ⟨S8192x1040, .f32⟩
  | .hbm, ⟨6, _⟩ => ⟨S8192x1040, .f32⟩
  | .hbm, ⟨7, _⟩ => ⟨S_, .f32⟩
  | .hbm, ⟨8, _⟩ => ⟨S8192x1040, .f32⟩
  | .hbm, ⟨9, _⟩ => ⟨S8192x1040, .f32⟩
  | .hbm, ⟨10, _⟩ => ⟨S8192x1040, .f32⟩
  | .hbm, ⟨11, _⟩ => ⟨S_, .f32⟩
  | .hbm, ⟨12, _⟩ => ⟨S8192x1040, .f32⟩
  | .hbm, ⟨13, _⟩ => ⟨S8192x1040, .f32⟩
  | .hbm, ⟨14, _⟩ => ⟨S8192x1040, .f32⟩
  | .hbm, ⟨15, _⟩ => ⟨S_, .f32⟩
  | .hbm, ⟨16, _⟩ => ⟨S8192x1040, .f32⟩
  | .hbm, ⟨17, _⟩ => ⟨S8192x1040, .f32⟩
  | .hbm, ⟨18, _⟩ => ⟨S8192x1040, .f32⟩
  | .hbm, ⟨19, _⟩ => ⟨S_, .f32⟩
  | .hbm, ⟨20, _⟩ => ⟨S8192x1040, .f32⟩
  | .hbm, ⟨21, _⟩ => ⟨S8192x1040, .f32⟩
  | .hbm, ⟨22, _⟩ => ⟨S_, .f32⟩
  | .hbm, ⟨23, _⟩ => ⟨S8192x1040, .f32⟩
  | .hbm, ⟨24, _⟩ => ⟨S8192x1040, .f32⟩
  | .hbm, ⟨25, _⟩ => ⟨S8192x1040, .f32⟩
  | .hbm, ⟨26, _⟩ => ⟨S_, .f32⟩
  | .hbm, ⟨27, _⟩ => ⟨S8192x1040, .f32⟩
  | .hbm, ⟨28, _⟩ => ⟨S8192x1040, .f32⟩
  | .hbm, ⟨29, _⟩ => ⟨S8192x1040, .f32⟩
  | .hbm, ⟨30, _⟩ => ⟨S_, .f32⟩
  | .hbm, ⟨31, _⟩ => ⟨S8192x1040, .f32⟩
  | .hbm, ⟨32, _⟩ => ⟨S8192x1040, .f32⟩
  | .hbm, ⟨33, _⟩ => ⟨S8192x1040, .f32⟩
  | .hbm, ⟨34, _⟩ => ⟨S_, .f32⟩
  | .hbm, ⟨35, _⟩ => ⟨S8192x1040, .f32⟩
  | .hbm, ⟨36, _⟩ => ⟨S8192x1040, .f32⟩
  | _, _ => ⟨S8192x1040, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQ.lean ====
abbrev S2048x384 : Shape := ⟨2, ![2048, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQIdeal.lean ====
abbrev S2048x384 : Shape := ⟨2, ![2048, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQRefIdeal.lean ====
abbrev S2048x384 : Shape := ⟨2, ![2048, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S_, .f32⟩
  | .hbm, ⟨5, _⟩ => ⟨S2048x384, .f32⟩
  | .hbm, ⟨6, _⟩ => ⟨S2048x384, .f32⟩
  | .hbm, ⟨7, _⟩ => ⟨S_, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S_, .f32⟩
  | .hbm, ⟨12, _⟩ => ⟨S2048x384, .f32⟩
  | .hbm, ⟨13, _⟩ => ⟨S2048x384, .f32⟩
  | .hbm, ⟨14, _⟩ => ⟨S2048x384, .f32⟩
  | .hbm, ⟨15, _⟩ => ⟨S_, .f32⟩
  | .hbm, ⟨16, _⟩ => ⟨S2048x384, .f32⟩
  | .hbm, ⟨17, _⟩ => ⟨S2048x384, .f32⟩
  | .hbm, ⟨18, _⟩ => ⟨S2048x384, .f32⟩
  | .hbm, ⟨19, _⟩ => ⟨S_, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S2048x384, .f32⟩
  | .hbm, ⟨26, _⟩ => ⟨S_, .f32⟩
  | .hbm, ⟨27, _⟩ => ⟨S2048x384, .f32⟩
  | .hbm, ⟨28, _⟩ => ⟨S2048x384, .f32⟩
  | .hbm, ⟨29, _⟩ => ⟨S2048x384, .f32⟩
  | .hbm, ⟨30, _⟩ => ⟨S_, .f32⟩
  | .hbm, ⟨31, _⟩ => ⟨S2048x384, .f32⟩
  | .hbm, ⟨32, _⟩ => ⟨S2048x384, .f32⟩
  | .hbm, ⟨33, _⟩ => ⟨S2048x384, .f32⟩
  | .hbm, ⟨34, _⟩ => ⟨S_, .f32⟩
  | .hbm, ⟨35, _⟩ => ⟨S2048x384, .f32⟩
  | .hbm, ⟨36, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S2048x512 : Shape := ⟨2, ![2048, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvIdeal.lean ====
abbrev S2048x512 : Shape := ⟨2, ![2048, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvRefIdeal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S2048x2048 : Shape := ⟨2, ![2048, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S2048x2048 : Shape := ⟨2, ![2048, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGains.lean ====
abbrev S56x1024 : Shape := ⟨2, ![56, 1024]⟩

abbrev nBuf : Space → Nat
  | .hbm => 7
  | .vmem => 7
  | .smem => 0
  | _ => 0

abbrev bufTy : (tb : Table) → Fin (tcTables nBuf tb) → BufTy
  | .hbm, ⟨0, _⟩ => ⟨S56x1024, .f32⟩
  | .hbm, ⟨1, _⟩ => ⟨S56x1024, .f32⟩
  | .hbm, ⟨2, _⟩ => ⟨S56x1024, .f32⟩
  | .hbm, ⟨3, _⟩ => ⟨S56x1024, .f32⟩
  | .hbm, ⟨4, _⟩ => ⟨S56x1024, .f32⟩
  | .hbm, ⟨5, _⟩ => ⟨S56x1024, .f32⟩
  | .hbm, ⟨6, _⟩ => ⟨S56x1024, .f32⟩
  | .local _ .vmem, ⟨0, _⟩ => ⟨S56x1024, .f32⟩
  | .local _ .vmem, ⟨1, _⟩ => ⟨S56x1024, .f32⟩
  | .local _ .vmem, ⟨2, _⟩ => ⟨S56x1024, .f32⟩
  | .local _ .vmem, ⟨3, _⟩ => ⟨S56x1024, .f32⟩
  | .local _ .vmem, ⟨4, _⟩ => ⟨S56x1024, .f32⟩
  | .local _ .vmem, ⟨5, _⟩ => ⟨S56x1024, .f32⟩
  | .local _ .vmem, ⟨6, _⟩ => ⟨S56x1024, .f32⟩
  | _, _ => ⟨S56x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S56x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S56x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S56x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S56x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S56x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S56x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S56x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainsRefIdeal.lean ====
abbrev S56x1024 : Shape := ⟨2, ![56, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S56x1024, .f32⟩
  | .hbm, ⟨1, _⟩ => ⟨S56x1024, .f32⟩
  | .hbm, ⟨2, _⟩ => ⟨S56x1024, .f32⟩
  | .hbm, ⟨3, _⟩ => ⟨S56x1024, .f32⟩
  | .hbm, ⟨4, _⟩ => ⟨S_, .f32⟩
  | .hbm, ⟨5, _⟩ => ⟨S56x1024, .f32⟩
  | .hbm, ⟨6, _⟩ => ⟨S56x1024, .f32⟩
  | .hbm, ⟨7, _⟩ => ⟨S_, .f32⟩
  | .hbm, ⟨8, _⟩ => ⟨S56x1024, .f32⟩
  | .hbm, ⟨9, _⟩ => ⟨S56x1024, .f32⟩
  | .hbm, ⟨10, _⟩ => ⟨S56x1024, .f32⟩
  | .hbm, ⟨11, _⟩ => ⟨S_, .f32⟩
  | .hbm, ⟨12, _⟩ => ⟨S56x1024, .f32⟩
  | .hbm, ⟨13, _⟩ => ⟨S56x1024, .f32⟩
  | .hbm, ⟨14, _⟩ => ⟨S56x1024, .f32⟩
  | .hbm, ⟨15, _⟩ => ⟨S_, .f32⟩
  | .hbm, ⟨16, _⟩ => ⟨S56x1024, .f32⟩
  | .hbm, ⟨17, _⟩ => ⟨S56x1024, .f32⟩
  | .hbm, ⟨18, _⟩ => ⟨S56x1024, .f32⟩
  | .hbm, ⟨19, _⟩ => ⟨S_, .f32⟩
  | .hbm, ⟨20, _⟩ => ⟨S56x1024, .f32⟩
  | .hbm, ⟨21, _⟩ => ⟨S56x1024, .f32⟩
  | .hbm, ⟨22, _⟩ => ⟨S_, .f32⟩
  | .hbm, ⟨23, _⟩ => ⟨S56x1024, .f32⟩
  | .hbm, ⟨24, _⟩ => ⟨S56x1024, .f32⟩
  | .hbm, ⟨25, _⟩ => ⟨S56x1024, .f32⟩
  | .hbm, ⟨26, _⟩ => ⟨S_, .f32⟩
  | .hbm, ⟨27, _⟩ => ⟨S56x1024, .f32⟩
  | .hbm, ⟨28, _⟩ => ⟨S56x1024, .f32⟩
  | .hbm, ⟨29, _⟩ => ⟨S56x1024, .f32⟩
  | .hbm, ⟨30, _⟩ => ⟨S_, .f32⟩
  | .hbm, ⟨31, _⟩ => ⟨S56x1024, .f32⟩
  | .hbm, ⟨32, _⟩ => ⟨S56x1024, .f32⟩
  | .hbm, ⟨33, _⟩ => ⟨S56x1024, .f32⟩
  | .hbm, ⟨34, _⟩ => ⟨S_, .f32⟩
  | .hbm, ⟨35, _⟩ => ⟨S56x1024, .f32⟩
  | .hbm, ⟨36, _⟩ => ⟨S56x1024, .f32⟩
  | _, _ => ⟨S56x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumGains.lean ====
abbrev S448x1024 : Shape := ⟨2, ![448, 1024]⟩
abbrev S56x1024 : Shape := ⟨2, ![56, 1024]⟩

abbrev nBuf : Space → Nat
  | .hbm => 2
  | .vmem => 2
  | .smem => 0
  | _ => 0

abbrev bufTy : (tb : Table) → Fin (tcTables nBuf tb) → BufTy
  | .hbm, ⟨0, _⟩ => ⟨S448x1024, .f32⟩
  | .hbm, ⟨1, _⟩ => ⟨S56x1024, .f32⟩
  | .local _ .vmem, ⟨0, _⟩ => ⟨S448x1024, .f32⟩
  | .local _ .vmem, ⟨1, _⟩ => ⟨S56x1024, .f32⟩
  | _, _ => ⟨S448x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S448x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumGainsRefIdeal.lean ====
abbrev S448x1024 : Shape := ⟨2, ![448, 1024]⟩
abbrev S8x56x1024 : Shape := ⟨3, ![8, 56, 1024]⟩
abbrev S_ : Shape := ⟨0, ![]⟩
abbrev S56x1024 : Shape := ⟨2, ![56, 1024]⟩

abbrev nBuf : Space → Nat
  | .hbm => 4
  | .vmem => 0
  | .smem => 0
  | _ => 0

abbrev bufTy : (tb : Table) → Fin (tcTables nBuf tb) → BufTy
  | .hbm, ⟨0, _⟩ => ⟨S448x1024, .f32⟩
  | .hbm, ⟨1, _⟩ => ⟨S8x56x1024, .f32⟩
  | .hbm, ⟨2, _⟩ => ⟨S_, .f32⟩
  | .hbm, ⟨3, _⟩ => ⟨S56x1024, .f32⟩
  | _, _ => ⟨S448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PostLoss.lean ====
abbrev S8192x2048 : Shape := ⟨2, ![8192, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PostLossRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x1 : Shape := ⟨2, ![1, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== PreGrad.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreGradRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== FirstNorm.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstNormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FfnUp.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x5632, .f32⟩
  | .hbm, ⟨4, _⟩ => ⟨S8192x5632, .f32⟩
  | .hbm, ⟨5, _⟩ => ⟨S8192x5632, .bf16⟩
  | .hbm, ⟨6, _⟩ => ⟨S8192x5632, .bf16⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== FfnDown.lean ====
abbrev S8192x5632 : Shape := ⟨2, ![8192, 5632]⟩
abbrev S5632x2048 : Shape := ⟨2, ![5632, 2048]⟩
abbrev S8192x2048 : Shape := ⟨2, ![8192, 2048]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PostPre.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostPreRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== PostGrad.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S1x2048, .f32⟩
  | .hbm, ⟨6, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostGradRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | .hbm, ⟨38, _⟩ => ⟨S8192x2048, .f32⟩
  | .hbm, ⟨39, _⟩ => ⟨S_, .f32⟩
  | .hbm, ⟨40, _⟩ => ⟨S2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== GluGrad.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluGradRefIdeal.lean ====
abbrev S8192x2048 : Shape := ⟨2, ![8192, 2048]⟩
abbrev S5632x2048 : Shape := ⟨2, ![5632, 2048]⟩
abbrev S8192x5632 : Shape := ⟨2, ![8192, 5632]⟩
abbrev S2048x5632 : Shape := ⟨2, ![2048, 5632]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S2048x5632, .bf16⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .bf16⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== DownGrad.lean ====
abbrev S8192x5632 : Shape := ⟨2, ![8192, 5632]⟩
abbrev S8192x2048 : Shape := ⟨2, ![8192, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradRefIdeal.lean ====
abbrev S8192x5632 : Shape := ⟨2, ![8192, 5632]⟩
abbrev S8192x2048 : Shape := ⟨2, ![8192, 2048]⟩
abbrev S5632x8192 : Shape := ⟨2, ![5632, 8192]⟩
abbrev S5632x2048 : Shape := ⟨2, ![5632, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x8192, .bf16⟩
  | .hbm, ⟨3, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpGrad.lean ====
abbrev S8192x2048 : Shape := ⟨2, ![8192, 2048]⟩
abbrev S8192x5632 : Shape := ⟨2, ![8192, 5632]⟩
abbrev S2048x5632 : Shape := ⟨2, ![2048, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradRefIdeal.lean ====
abbrev S8192x2048 : Shape := ⟨2, ![8192, 2048]⟩
abbrev S8192x5632 : Shape := ⟨2, ![8192, 5632]⟩
abbrev S2048x8192 : Shape := ⟨2, ![2048, 8192]⟩
abbrev S2048x5632 : Shape := ⟨2, ![2048, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x8192, .bf16⟩
  | .hbm, ⟨3, _⟩ => ⟨S2048x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnGrad.lean ====
abbrev S8192x5632 : Shape := ⟨2, ![8192, 5632]⟩
abbrev S2048x5632 : Shape := ⟨2, ![2048, 5632]⟩
abbrev S8192x2048 : Shape := ⟨2, ![8192, 2048]⟩
abbrev S1024x512 : Shape := ⟨2, ![1024, 512]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x5632, .bf16⟩
  | .hbm, ⟨3, _⟩ => ⟨S2048x5632, .bf16⟩
  | .hbm, ⟨4, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 11], ![false, false, false]⟩

def k0_cond2 (i : grid0.Coords) : BitVec 1 :=
  let arg2 : BitVec 32 := BitVec.ofNat 32 (i 2).val
  let c10_i32 : BitVec 32 := 10#32
  let v15 : BitVec 1 := Scalar.cmpi .eq arg2 c10_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnGradRefIdeal.lean ====
abbrev S8192x5632 : Shape := ⟨2, ![8192, 5632]⟩
abbrev S2048x5632 : Shape := ⟨2, ![2048, 5632]⟩
abbrev S5632x2048 : Shape := ⟨2, ![5632, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x5632, .bf16⟩
  | .hbm, ⟨3, _⟩ => ⟨S2048x5632, .bf16⟩
  | .hbm, ⟨4, _⟩ => ⟨S5632x2048, .bf16⟩
  | .hbm, ⟨5, _⟩ => ⟨S8192x2048, .f32⟩
  | .hbm, ⟨6, _⟩ => ⟨S5632x2048, .bf16⟩
  | .hbm, ⟨7, _⟩ => ⟨S8192x2048, .f32⟩
  | .hbm, ⟨8, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== AddPair.lean ====
abbrev S1 : Shape := ⟨1, ![1]⟩
abbrev S4x2x10224x1024 : Shape := ⟨4, ![4, 2, 10224, 1024]⟩
abbrev S4x10224x1024 : Shape := ⟨3, ![4, 10224, 1024]⟩
abbrev S1x1x144x1024 : Shape := ⟨4, ![1, 1, 144, 1024]⟩
abbrev S1x144x1024 : Shape := ⟨3, ![1, 144, 1024]⟩
abbrev S144x1024 : Shape := ⟨2, ![144, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x2x10224x1024, .bf16⟩
  | .hbm, ⟨1, _⟩ => ⟨S4x10224x1024, .bf16⟩
  | .hbm, ⟨2, _⟩ => ⟨S4x10224x1024, .bf16⟩
  | .local _ .vmem, ⟨0, _⟩ => ⟨S1x1x144x1024, .bf16⟩
  | .local _ .vmem, ⟨1, _⟩ => ⟨S1x1x144x1024, .bf16⟩
  | .local _ .vmem, ⟨2, _⟩ => ⟨S1x144x1024, .bf16⟩
  | .local _ .vmem, ⟨3, _⟩ => ⟨S1x144x1024, .bf16⟩
  | .local _ .vmem, ⟨4, _⟩ => ⟨S1x144x1024, .bf16⟩
  | .local _ .vmem, ⟨5, _⟩ => ⟨S1x144x1024, .bf16⟩
  | .local _ .smem, ⟨0, _⟩ => ⟨S1, .i32⟩
  | _, _ => ⟨S4x2x10224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 71], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddPairRef.lean ====
abbrev S1 : Shape := ⟨1, ![1]⟩
abbrev S4x2x10224x1024 : Shape := ⟨4, ![4, 2, 10224, 1024]⟩
abbrev S4x10224x1024 : Shape := ⟨3, ![4, 10224, 1024]⟩
abbrev S_ : Shape := ⟨0, ![]⟩
abbrev S4x1x10224x1024 : Shape := ⟨4, ![4, 1, 10224, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x10224x1024, .bf16⟩
  | .hbm, ⟨2, _⟩ => ⟨S4x10224x1024, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x10224x1024, .bf16⟩
  | .hbm, ⟨7, _⟩ => ⟨S4x10224x1024, .bf16⟩
  | .hbm, ⟨8, _⟩ => ⟨S4x1x10224x1024, .bf16⟩
  | .hbm, ⟨9, _⟩ => ⟨S4x10224x1024, .bf16⟩
  | .hbm, ⟨10, _⟩ => ⟨S4x10224x1024, .bf16⟩
  | .hbm, ⟨11, _⟩ => ⟨S4x10224x1024, .f32⟩
  | .hbm, ⟨12, _⟩ => ⟨S4x10224x1024, .f32⟩
  | .hbm, ⟨13, _⟩ => ⟨S4x10224x1024, .f32⟩
  | .hbm, ⟨14, _⟩ => ⟨S4x10224x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== AddChips.lean ====
abbrev S1 : Shape := ⟨1, ![1]⟩
abbrev S4x10224x1024 : Shape := ⟨3, ![4, 10224, 1024]⟩
abbrev S3x10224x1024 : Shape := ⟨3, ![3, 10224, 1024]⟩
abbrev S10224x1024 : Shape := ⟨2, ![10224, 1024]⟩
abbrev S1x144x1024 : Shape := ⟨3, ![1, 144, 1024]⟩
abbrev S3x144x1024 : Shape := ⟨3, ![3, 144, 1024]⟩
abbrev S144x1024 : Shape := ⟨2, ![144, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x10224x1024, .bf16⟩
  | .hbm, ⟨1, _⟩ => ⟨S3x10224x1024, .bf16⟩
  | .hbm, ⟨2, _⟩ => ⟨S10224x1024, .f32⟩
  | .local _ .vmem, ⟨0, _⟩ => ⟨S1x144x1024, .bf16⟩
  | .local _ .vmem, ⟨1, _⟩ => ⟨S1x144x1024, .bf16⟩
  | .local _ .vmem, ⟨2, _⟩ => ⟨S3x144x1024, .bf16⟩
  | .local _ .vmem, ⟨3, _⟩ => ⟨S3x144x1024, .bf16⟩
  | .local _ .vmem, ⟨4, _⟩ => ⟨S144x1024, .f32⟩
  | .local _ .vmem, ⟨5, _⟩ => ⟨S144x1024, .f32⟩
  | .local _ .smem, ⟨0, _⟩ => ⟨S1, .i32⟩
  | _, _ => ⟨S4x10224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![71], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddChipsRef.lean ====
abbrev S1 : Shape := ⟨1, ![1]⟩
abbrev S4x10224x1024 : Shape := ⟨3, ![4, 10224, 1024]⟩
abbrev S3x10224x1024 : Shape := ⟨3, ![3, 10224, 1024]⟩
abbrev S1x10224x1024 : Shape := ⟨3, ![1, 10224, 1024]⟩
abbrev S10224x1024 : Shape := ⟨2, ![10224, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x10224x1024, .bf16⟩
  | .hbm, ⟨2, _⟩ => ⟨S3x10224x1024, .bf16⟩
  | .hbm, ⟨3, _⟩ => ⟨S1x10224x1024, .bf16⟩
  | .hbm, ⟨4, _⟩ => ⟨S10224x1024, .bf16⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S1x10224x1024, .bf16⟩
  | .hbm, ⟨9, _⟩ => ⟨S10224x1024, .bf16⟩
  | .hbm, ⟨10, _⟩ => ⟨S10224x1024, .bf16⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S1x10224x1024, .bf16⟩
  | .hbm, ⟨15, _⟩ => ⟨S10224x1024, .bf16⟩
  | .hbm, ⟨16, _⟩ => ⟨S10224x1024, .bf16⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S1x10224x1024, .bf16⟩
  | .hbm, ⟨21, _⟩ => ⟨S10224x1024, .bf16⟩
  | .hbm, ⟨22, _⟩ => ⟨S10224x1024, .bf16⟩
  | .hbm, ⟨23, _⟩ => ⟨S3x10224x1024, .f32⟩
  | .hbm, ⟨24, _⟩ => ⟨S1x10224x1024, .f32⟩
  | .hbm, ⟨25, _⟩ => ⟨S10224x1024, .f32⟩
  | .hbm, ⟨26, _⟩ => ⟨S1x10224x1024, .f32⟩
  | .hbm, ⟨27, _⟩ => ⟨S10224x1024, .f32⟩
  | .hbm, ⟨28, _⟩ => ⟨S1x10224x1024, .f32⟩
  | .hbm, ⟨29, _⟩ => ⟨S10224x1024, .f32⟩
  | .hbm, ⟨30, _⟩ => ⟨S10224x1024, .f32⟩
  | .hbm, ⟨31, _⟩ => ⟨S10224x1024, .f32⟩
  | .hbm, ⟨32, _⟩ => ⟨S10224x1024, .f32⟩
  | .hbm, ⟨33, _⟩ => ⟨S10224x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Proof.Start.lean ====
/- How a program is launched whose kernel sends to other devices BEFORE it has heard from them.

   Such a kernel needs, from its first operation on, the right to write the part of another device's result that its
   transfer fills, and the right to credit that device's semaphore. Both are dealt at launch, across devices: the
   launch theorem here hands the certificate every device's storage, counters, levels and ghost state at once, and
   takes from it one holding per device. The kernel's region then runs from that holding (`wp_bare_region`), for a
   pallas_call that stages no operand: one point, no window. -/
module

public import Idealize.ShloMosaic.Lib.Pipeline.Regions
public import Idealize.ShloMosaic.Lib.Pipeline.Kit
public import Idealize.ShloMosaic.Lib.Tactic
public import Idealize.ShloMosaic.Lib.Rounds
public import Idealize.ShloMosaic.Lib.Quiescent

@[expose] public section

set_option Elab.async false

noncomputable section

namespace Cert.Devices

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds

section Launch

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- What device `c` holds when the machine starts, its levels apart: every buffer (the scoped ones at contents not
    chosen, the others as launched), every counter at zero, what it owes and the credit others owe it. -/
def initial (m : (ℓ : Loc nD τ sig) → Buf Val ℓ) (g : Dev nD → PrngReg) (O₀ : Dev nD → CellTallies nD τ sig Ix) (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c ∗ prngReg c (g c))

/-- A SparseCore thread is assigned no level, so the machine's level facts are the TensorCores'. -/
theorem levels_of_tcs (L : GSem nD τ sig → Finset Ix) (lv : GSem nD τ sig → Ix → Lvl) (hL : ∀ g : GSem nD τ sig, g.1.2 ≠ .tc → L g = ∅) :
    (bigSep Finset.univ fun d : Dev nD => coreLevAts (d.tc : Thread nD τ) L lv) ⊢ (levAts L lv : sProp 𝕄) := by
  have hnone : ∀ t : Thread nD τ, t.2 ≠ .tc → (coreLevAts t L lv : sProp 𝕄) = BI.emp := fun t ht => by
    unfold coreLevAts
    rw [bigSep_congr (Ψ := fun _ : SemLoc sig => (BI.emp : sProp 𝕄)) fun sm _ => by rw [hL (t, sm) ht, bigSep_empty], bigSep_emp_const]
  have hsc : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => hnone (d, p) (Finset.ne_of_mem_erase hp)).trans (bigSep_emp_const _), bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), hsc]
  iintro H
  isplitl [H]; · iexact H
  iempintro

/-- Levels are assigned once, for the whole machine, from every TensorCore's right to assign its own. -/
theorem assign_levels (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  refine BI.Entails.trans ?_ (levels_of_tcs L lv hL)
  rw [bigSep_sep']
  exact sep_elim_right (PROP := sProp 𝕄)

variable {Λ : Idealize.SL.Sem.Labels}

/-- The launch: a program every TensorCore of which runs `main c`, from one global step `hinit` that divides what the
    machine starts with into one holding `S c` per device, each device's run from its holding (`hwp`), and what a
    device's holding `T c` at the end says of the final memory (`hfin`). `hQ` is told that every semaphore of the other
    cores and every scoped one reads zero. -/
theorem θ_run_dealt [∀ e, Nonempty (Val e)] [Infinite Name] (𝔻 : Defs nD τ sig Val Λ) (𝕍 : Variants)
    (m : (ℓ : Loc nD τ sig) → Buf Val ℓ) (g : Dev nD → PrngReg) (main : Dev nD → Prog (TpuEff nD τ sig Val Λ .tc) PUnit)
    (O₀ : Dev nD → CellTallies nD τ sig Ix) (L : GSem nD τ sig → Finset Ix) (lv : GSem nD τ sig → Ix → Lvl)
    (hL : ∀ g : GSem nD τ sig, g.1.2 ≠ .tc → L g = ∅) (u₀ : U) (S T : Dev nD → sProp 𝕄)
    (hinit : iprop((bigSep Finset.univ fun c : Dev nD => initial m g O₀ c) ∗ levAts L lv ∗ ownU u₀) ⊢ |={Set.univ}=> bigSep Finset.univ S)
    (hwp : ∀ c, S c ⊢ wp frame (wpE 𝔻 𝕍 (c.tc : Thread nD τ) none) Set.univ (main c)
      (fun _ => iprop((T c ∗ boundary (c.tc : Thread nD τ)) ∗ ∃ W, owes (c.tc : Thread nD τ) (0 : CellTallies nD τ sig Ix) W)))
    (QY : Dev nD → MemSt nD τ sig Val → Prop)
    (hfin : ∀ c (s' : Phys nD τ sig Val), iprop(T c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let fin : Dev nD → sProp 𝕄 := fun c => iprop(T c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => S) (fun _ => fin)
      (fun _ => iprop(emp)) Set.univ ?_ (fun _ c => ?_) fun _ => ?_))
  · have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => initial m g O₀ c)
            ∗ (bigSep Finset.univ fun c : Dev nD => levels0 (Ix := Ix) (Val := Val) (Name := Name) (U := U) (Lvl := Lvl) (τ := τ) (sig := sig) c) : sProp 𝕄) := by
      rw [← bigSep_sep']
      refine bigSep_mono fun c _ => (coreInit_boundary_owing O₀ m g c).trans ?_
      unfold initial
      iintro ⟨Hb, Hub, Hus, HL, Hlv, Hpr, Hcr⟩
      isplitr [Hlv]
      · isplitl [Hb]; · iexact Hb
        isplitl [Hub]; · iexact Hub
        isplitl [Hus]; · iexact Hus
        isplitl [HL]; · iexact HL
        isplitl [Hcr]; · iexact Hcr
        iexact Hpr
      · iexact Hlv
    iintro ⟨Hcores, Hu⟩
    ihave Hc := hcores $$ Hcores
    icases Hc with ⟨Hh, Hlv⟩
    imod (assign_levels L lv hL) $$ Hlv with Hla
    imod hinit $$ [Hh Hla Hu] with HS
    · isplitl [Hh]; · iexact Hh
      isplitl [Hla]; · iexact Hla
      iexact Hu
    imodintro
    iexists ()
    isplitl [HS]; · iexact HS
    iempintro
  · refine (hwp c).trans (wp_mono _ _ _ fun _ => ?_)
    unfold post; simp only [liftTc_tc, fin]
    exact BI.Entails.refl _
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Launch

section Region

variable {nD : Nat} {τ : Topo} {sig : RefSig} {Val : EltTy → Type}
variable {Ix : Type} [DecidableEq Ix] {Name : Type} [DecidableEq Name] [Infinite Name] {U : Type} [URA U] {Lvl : Type} [Preorder Lvl]
variable {Λ₀ : Idealize.SL.Sem.Labels} {P : Type} [Fintype P] [DecidableEq P]
variable (pcs : P → PCfg sig Λ₀ Val) (a : (p : P) → (pcs p).Adm) (p : P)

local notation "𝕄" => MT nD τ sig Ix Val Name U Lvl

/-- The holdings of a region that stages nothing and runs its body once: `Before` before the body, `After` after it,
    and what the device owes then. -/
def bareDat (hW : ∀ p, IsEmpty (Fin (pin pcs a p).W)) (O₀ O₁ : CellTallies nD τ sig Ix) (Before After : sProp 𝕄) (p : P) (c : Dev nD) :
    Dat τ Val Ix Name U Lvl (pin pcs a p) c where
  A w := (hW p).elim w
  after w := (hW p).elim w
  q w := (hW p).elim w
  Φ t := if t.val = 0 then iprop(Before ∗ scopedBufs (c.tc : Thread nD τ)) else iprop(After ∗ scopedBufs (c.tc : Thread nD τ))
  owed t := if t.val = 0 then O₀ else O₁

/-- The holding before the body. -/
theorem bareDat_before (hW : ∀ p, IsEmpty (Fin (pin pcs a p).W)) (O₀ O₁ : CellTallies nD τ sig Ix) (Before After : sProp 𝕄) (c : Dev nD)
    (t : Fin ((pin pcs a p).N + 1)) (ht : t.val = 0) :
    (bareDat pcs a hW O₀ O₁ Before After p c).Φ t = iprop(Before ∗ scopedBufs (c.tc : Thread nD τ)) := if_pos ht

/-- The holding after it. -/
theorem bareDat_after (hW : ∀ p, IsEmpty (Fin (pin pcs a p).W)) (O₀ O₁ : CellTallies nD τ sig Ix) (Before After : sProp 𝕄) (c : Dev nD)
    (t : Fin ((pin pcs a p).N + 1)) (ht : t.val ≠ 0) :
    (bareDat pcs a hW O₀ O₁ Before After p c).Φ t = iprop(After ∗ scopedBufs (c.tc : Thread nD τ)) := if_neg ht

/-- What is owed before the body. -/
theorem bareDat_owed_before (hW : ∀ p, IsEmpty (Fin (pin pcs a p).W)) (O₀ O₁ : CellTallies nD τ sig Ix) (Before After : sProp 𝕄) (c : Dev nD)
    (t : Fin ((pin pcs a p).N + 1)) (ht : t.val = 0) : (bareDat pcs a hW O₀ O₁ Before After p c).owed t = O₀ := if_pos ht

/-- What is owed after it. -/
theorem bareDat_owed_after (hW : ∀ p, IsEmpty (Fin (pin pcs a p).W)) (O₀ O₁ : CellTallies nD τ sig Ix) (Before After : sProp 𝕄) (c : Dev nD)
    (t : Fin ((pin pcs a p).N + 1)) (ht : t.val ≠ 0) : (bareDat pcs a hW O₀ O₁ Before After p c).owed t = O₁ := if_neg ht

/-- A pallas_call that stages no operand and runs its body once, entered at the head of a program: the body's run from
    `Before` to `After`, from which the region's semaphores come back at zero. -/
theorem wp_bare_region [∀ e, Nonempty (Val e)] (EP : Emb (URounds (GSem nD τ sig) Unit) 𝕄) (ι : Ix) (κ₀ : Name)
    (defs₀ : Defs nD τ sig Val Λ₀) (𝒱₀ : Variants) (c : Dev nD)
    (hW : ∀ p, IsEmpty (Fin (pin pcs a p).W)) (hN : (pin pcs a p).N = 1) (hK : IsEmpty (Fin (pcs p).pre.K))
    (O₀ O₁ : CellTallies nD τ sig Ix) (Before After Y : sProp 𝕄)
    (hbody : ∀ t W, iprop(Before ∗ owes (c.tc : Thread nD τ) O₀ W)
      ⊢ wp frame (wpE defs₀ 𝒱₀ c none) Set.univ (defs₀ .tc (pin pcs a p).body ((pin pcs a p).bodyArgs t ((pin pcs a p).slots t)))
          fun _ => iprop(After ∗ ∃ W', owes (c.tc : Thread nD τ) O₁ W'))
    (hclose : After ⊢ iprop(Y ∗ scopedSems0 (c.tc : Thread nD τ)))
    {α : Type} {k : PUnit → Prog (TpuEff nD τ sig Val (Sig Λ₀ P fun p => (pcs p).Adm) Proc.tc) α} {Q : α → sProp 𝕄} (W : Finset (SemLoc sig × Ix)) :
    iprop(Before ∗ owes (c.tc : Thread nD τ) O₀ W ∗ scopedBufs (c.tc : Thread nD τ))
      ⊢ iprop((((∃ W', owes (c.tc : Thread nD τ) O₁ W') ∗ Y ∗ scopedSems0 (c.tc : Thread nD τ) ∗ scopedBufs (c.tc : Thread nD τ))
            -∗ wp frame (wpE (Pipeline.defs pcs defs₀) (Variants.lift 𝒱₀) c none) Set.univ (k ⟨⟩) Q)
        -∗ wp frame (wpE (Pipeline.defs pcs defs₀) (Variants.lift 𝒱₀) c none) Set.univ (.op (.customCall (entry p) ()) k) Q) := by
  classical
  have hw := hW p
  have hemp : ∀ Φ : Fin (pin pcs a p).W → sProp 𝕄, bigSep Finset.univ Φ = BI.emp := fun Φ => by
    rw [Finset.univ_eq_empty, bigSep_empty]
  have hpre : (prefHeld (pcs p).pre c (fun k => hK.elim k) (a p).1 : sProp 𝕄) = BI.emp := by
    unfold prefHeld; rw [Finset.univ_eq_empty, bigSep_empty]
  have hstag : (Dat.staging (pin pcs a p) c : sProp 𝕄) = BI.emp := by unfold Dat.staging; rw [hemp]
  have hlast : (Fin.last (pin pcs a p).N).val ≠ 0 := by rw [Fin.val_last, hN]; decide
  have hin : (owes (c.tc : Thread nD τ) O₀ W : sProp 𝕄)
      ⊢ EntryPre (pin pcs a) (fun p c => bareDat pcs a hW O₀ O₁ Before After p c) ι EP (fun _ => κ₀) p c := by
    simp only [EntryPre, PerCore.EntryPre, PerCore.cellsWaits, PerCore.cellsInit, PerCore.toksInit, PerCore.RDat.cellsWaits, PerCore.RDat.cellsInit, Dat.arrays, hemp]
    unfold Dat.owesAt Pipeline.owesWithin
    iintro H
    isplitr; · iempintro
    isplitl [H]
    · iexists W
      isplitr; · ipureintro; exact fun x _ => Or.inl trivial
      iexact H
    isplitr; · iempintro
    isplitr <;> iempintro
  have hout : EntryPost (pin pcs a) (fun p c => bareDat pcs a hW O₀ O₁ Before After p c) ι p c
      ⊢ iprop(∃ W', owes (c.tc : Thread nD τ) O₁ W' : sProp 𝕄) := by
    simp only [EntryPost, PerCore.EntryPost, Dat.arrays, hemp]
    unfold Dat.owesAt Pipeline.owesWithin
    simp only [bareDat, if_neg hlast]
    iintro ⟨-, %W', -, H⟩
    iexists W'; iexact H
  have H := wp_customCall_entry_frame pcs a (fun p c => bareDat pcs a hW O₀ O₁ Before After p c) ι EP (fun _ => κ₀)
    (fun x => (hW x.1).elim x.2.2.1) p defs₀ 𝒱₀ (fun k => hK.elim k) c Set.univ (fun w => hw.elim w)
    ?_ (fun w => hw.elim w) none (fun u hu => by cases hu) (X := Before) (Y := Y) (R := scopedBufs (c.tc : Thread nD τ)) (I := BI.emp)
    ?_ ?_ ?_ (k := k) (Q := Q)
  · iintro ⟨HB, HO, Hs⟩ Hk
    iapply H $$ [HB HO Hs]
    · isplitl [HO]; · iapply hin; iexact HO
      rw [hpre]
      isplitr; · iempintro
      isplitl [HB]; · iexact HB
      isplitr; · iempintro
      iexact Hs
    · iintro ⟨HE, HY⟩
      iapply Hk
      isplitl [HE]; · iapply hout; iexact HE
      iexact HY
  · intro t
    have ht : t.val = 0 := by have := t.isLt; omega
    simp only [hemp]
    unfold Dat.owesAt Pipeline.owesWithin
    rw [bareDat_before pcs a p hW O₀ O₁ Before After c _ ht, bareDat_after pcs a p hW O₀ O₁ Before After c _ (Nat.succ_ne_zero _),
      bareDat_owed_before pcs a p hW O₀ O₁ Before After c _ ht, bareDat_owed_after pcs a p hW O₀ O₁ Before After c _ (Nat.succ_ne_zero _)]
    iintro ⟨⟨HB, Hs⟩, ⟨%W', -, HO⟩, -⟩
    iapply (wp_wand Idealize.ShloMosaic.frame _ Set.univ) $$ [HB HO]
    · iapply (hbody t W')
      isplitl [HB] <;> iassumption
    · iintro %_ ⟨HA, %W'', HO⟩
      isplitl [HA Hs]; · isplitl [HA] <;> iassumption
      isplitl [HO]
      · iexists W''
        isplitr; · ipureintro; exact fun x _ => Or.inl trivial
        iexact HO
      iempintro
  · rw [hstag]
    iintro H; isplitr; · iempintro
    iexact H
  · rw [hpre, bareDat_before pcs a p hW O₀ O₁ Before After c _ rfl]
    iintro ⟨HB, -, Hs⟩
    isplitl [HB]; · iexact HB
    iexact Hs
  · rw [hstag, bareDat_after pcs a p hW O₀ O₁ Before After c _ hlast]
    iintro ⟨⟨HA, Hs⟩, -⟩
    ihave H := hclose $$ HA
    icases H with ⟨HY, Hz⟩
    isplitl [HY]; · iexact HY
    isplitl [Hz]; · iexact Hz
    iexact Hs

end Region

end Cert.Devices
-- ==== Proof.Cells.lean ====
/- Exchanges in which every DMA semaphore of every device is used exactly once.

   The kernels here all have this form: a device starts transfers, each crediting a semaphore of its own (its source is
   free again) and one of the addressed device (the data is there), and waits once on each of its own semaphores. So
   one round per semaphore, one duty in it: `Plan` says who performs the duty of each semaphore and how much it
   credits, `pay` what is handed over with it. From that this module derives the schedule, what each device owes when
   the machine starts, the dealing of the rights across the devices, and one rule per step of such a kernel. -/
module

public import proofs.«01_k».proof.Proof.Start

@[expose] public section

set_option Elab.async false

noncomputable section

namespace Cert.Devices

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds

/-- Who credits each DMA semaphore, and by how much. `payer s c` is the device that performs the duty of device `c`'s
    semaphore `s`; the pairing is mutual, so it is also the device whose semaphore `s` is credited by `c`. `recv` are
    the semaphores credited by others, whose waits therefore rest on what others owe; a wait on one of them may only
    be followed by a device's own transfers at higher `level`s. -/
structure Plan (nD : Nat) (sig : RefSig) where
  amt : DmaSem sig → ℕ
  amt_pos : ∀ s, 0 < amt s
  payer : DmaSem sig → Dev nD → Dev nD
  payer_payer : ∀ s c, payer s (payer s c) = c
  recv : Finset (DmaSem sig)
  level : DmaSem sig → ℕ

namespace Plan

variable {nD : Nat} {τ : Topo} {sig : RefSig} {Val : EltTy → Type}

local notation "𝕄" => MT nD τ sig Unit Val ℕ (UR sig nD τ) ℕ
local notation "ER" => (emb₁ : Emb (UR sig nD τ) (MT nD τ sig Unit Val ℕ (UR sig nD τ) ℕ))

/-- Semaphore `s` of device `c`. -/
abbrev cell (c : Dev nD) (s : DmaSem sig) : GSem nD τ sig := ((c.tc : Thread nD τ), .dma s)

variable (P : Plan nD sig) (pay : Dev nD → DmaSem sig → sProp (MT nD τ sig Unit Val ℕ (UR sig nD τ) ℕ))

/-- The amount of a semaphore's one duty. -/
def amtOf : SemLoc sig → ℕ
  | .dma s => P.amt s
  | .reg _ => 1

/-- What the duty of device `c`'s semaphore hands over. -/
def payOf (c : Dev nD) : SemLoc sig → sProp 𝕄
  | .dma s => pay c s
  | .reg _ => iprop(emp)

/-- The duties: one, in round 0, for every DMA semaphore of a TensorCore. -/
def dutyOf : SemLoc sig → Finset Unit
  | .dma _ => {()}
  | .reg _ => ∅

/-- The schedule of an exchange. -/
def sched : Rounds.Schedule (GSem nD τ sig) Unit 𝕄 where
  duties g r := if r = 0 ∧ g.1.2 = .tc then dutyOf g.2 else ∅
  unitless _ := False
  amount g _ _ := P.amtOf g.2
  payload g _ _ := payOf pay g.1.1 g.2
  amount_pos g _ _ _ := by
    show 0 < P.amtOf g.2
    cases g.2 with
    | dma s => exact P.amt_pos s
    | reg s => exact Nat.one_pos

variable [hst : ∀ c s, BI.Storable (upEmb : UEmb _ (MT nD τ sig Unit Val ℕ (UR sig nD τ) ℕ)) (pay c s)]

/-- What the schedule hands over may lie in an invariant. -/
instance sched_storable (g : GSem nD τ sig) (r : ℕ) (d : Unit) : BI.Storable (upEmb : UEmb _ 𝕄) ((P.sched pay).payload g r d) := by
  show BI.Storable upEmb (payOf pay g.1.1 g.2)
  cases g.2 with
  | dma s => exact hst _ s
  | reg s => unfold payOf; infer_instance

omit hst in
theorem duties_cell (c : Dev nD) (s : DmaSem sig) : (P.sched pay).duties (cell c s) 0 = {()} := by
  show (if (0 : ℕ) = 0 ∧ (Proc.tc : Proc τ) = .tc then dutyOf (.dma s : SemLoc sig) else ∅) = {()}
  rw [if_pos ⟨rfl, rfl⟩]; rfl
omit hst in
theorem duties_later (g : GSem nD τ sig) : ∀ r, 1 ≤ r → (P.sched pay).duties g r = ∅ := fun r hr => by unfold sched; exact if_neg fun h => by omega
omit hst in
theorem expect_cell (c : Dev nD) (s : DmaSem sig) : (P.sched pay).expect (cell c s) 0 = P.amt s := by
  unfold Schedule.expect Schedule.amountOf; rw [duties_cell, Finset.sum_singleton]; rfl
omit hst in
theorem rest_cell (c : Dev nD) (s : DmaSem sig) :
    bigSep ((P.sched pay).duties (cell c s) 0 \ ∅) (fun u => (P.sched pay).payload (cell c s) 0 u) = pay c s := by
  rw [Finset.sdiff_empty, duties_cell, bigSep_singleton]; rfl

/-- What device `c` owes the semaphores `S` of other devices. -/
def owed (c : Dev nD) (S : Finset (DmaSem sig)) : CellTallies nD τ sig Unit := ∑ s ∈ S, tallyAt (cell (P.payer s c) s) () (P.amt s)

theorem owed_erase (c : Dev nD) {S : Finset (DmaSem sig)} {s : DmaSem sig} (hs : s ∈ S) :
    P.owed (τ := τ) c S = P.owed c (S.erase s) + tallyAt (cell (P.payer s c) s) () (P.amt s) :=
  (Finset.sum_erase_add S _ hs).symm

theorem owed_empty (c : Dev nD) : P.owed (τ := τ) c ∅ = 0 := Finset.sum_empty

/-- What `c` owes at one cell: the amount, if it is the payer's. -/
theorem owed_apply (c d : Dev nD) (S : Finset (DmaSem sig)) (s : DmaSem sig) :
    P.owed (τ := τ) c S (cell d s) () = if s ∈ S ∧ d = P.payer s c then P.amt s else 0 := by
  unfold owed
  rw [Finset.sum_apply, Finsupp.finset_sum_apply]
  rw [Finset.sum_congr rfl (g := fun s' => if s' = s then (if d = P.payer s c then P.amt s else 0) else 0) fun s' _ => by
    rw [tallyAt_apply]
    by_cases h : s' = s
    · subst h
      rw [if_pos rfl]
      by_cases hd : d = P.payer s' c
      · subst hd; rw [if_pos ⟨rfl, rfl⟩, if_pos rfl]
      · rw [if_neg (fun hh => hd (congrArg (fun g : GSem nD τ sig => g.1.1) hh.1)), if_neg hd]
    · rw [if_neg h, if_neg (fun hh => h (SemLoc.dma.inj (congrArg Prod.snd hh.1)).symm)]]
  rw [Finset.sum_ite_eq']
  by_cases h : s ∈ S <;> simp [h]

/-- Only DMA semaphores of TensorCores are owed anything, and only those of `S`. -/
theorem owed_pos {c : Dev nD} {S : Finset (DmaSem sig)} {g : GSem nD τ sig} {u : Unit} (h : 0 < P.owed c S g u) :
    ∃ s ∈ S, g = cell (P.payer s c) s := by
  by_contra hn
  unfold owed at h
  rw [Finset.sum_apply, Finsupp.finset_sum_apply, Finset.sum_eq_zero fun s hs => by
    rw [tallyAt_apply, if_neg fun hh => hn ⟨s, hs, hh.1⟩]] at h
  exact Nat.lt_irrefl 0 h

/-- The levels: every TensorCore semaphore has one, a DMA semaphore its own. -/
def L (g : GSem nD τ sig) : Finset Unit := if g.1.2 = .tc then {()} else ∅
def lvOf : SemLoc sig → ℕ
  | .dma s => P.level s
  | .reg _ => 0
def lv (g : GSem nD τ sig) (_ : Unit) : ℕ := P.lvOf g.2
theorem L_of_ne (g : GSem nD τ sig) (h : g.1.2 ≠ .tc) : L g = ∅ := if_neg h
theorem L_cell (c : Dev nD) (s : DmaSem sig) : L (cell (τ := τ) c s) = {()} := if_pos rfl

/-- A wait is allowed when all that the device still owes is of higher level. -/
theorem mayWait (c : Dev nD) (s : DmaSem sig) (S : Finset (DmaSem sig)) (h : ∀ s' ∈ S, P.level s < P.level s') :
    (levAts L P.lv : sProp 𝕄) ⊢ MayWait (c.tc : Thread nD τ) (.dma s) () (P.owed c S) :=
  MayOwe.of_cut (L := L) (lev := P.lv) (P.level s)
    (fun p hp => by rw [Finset.mem_singleton.mp hp]; exact Finset.mem_singleton_self _)
    (fun g u hg => by obtain ⟨s', -, rfl⟩ := P.owed_pos hg; exact Finset.mem_singleton_self _)
    (fun p hp => by rw [Finset.mem_singleton.mp hp]; exact le_refl _)
    (fun g u hg => by obtain ⟨s', hs', rfl⟩ := P.owed_pos hg; exact h s' hs')

/-! ## The records, and what a device holds -/

/-- The invariants of all semaphores of all devices, and that each has reached its round. -/
def records (K : Dev nD × DmaSem sig → ℕ) : sProp 𝕄 :=
  iprop((bigSep Finset.univ fun cs : Dev nD × DmaSem sig => cellInv ER (P.sched pay) (K cs) (cell cs.1 cs.2))
    ∗ bigSep Finset.univ fun cs : Dev nD × DmaSem sig => reached ER (cell cs.1 cs.2) 0)
instance records_persistent (K : Dev nD × DmaSem sig → ℕ) : BI.Persistent (P.records pay K) := by unfold records; infer_instance

theorem inv_at (K : Dev nD × DmaSem sig → ℕ) (c : Dev nD) (s : DmaSem sig) :
    P.records pay K ⊢ cellInv ER (P.sched pay) (K (c, s)) (cell c s) :=
  (BI.sep_and.trans BI.and_elimL).trans (bigSep_elim (Finset.mem_univ (c, s)))
theorem reached_at (K : Dev nD × DmaSem sig → ℕ) (c : Dev nD) (s : DmaSem sig) :
    P.records pay K ⊢ reached ER (cell c s) 0 :=
  (BI.sep_and.trans BI.and_elimR).trans (bigSep_elim (Finset.mem_univ (c, s)))

/-- Device `c` in the middle of the exchange: `T` the semaphores whose duty (as their payer) it has still to perform,
    `A` those of its own it has still to wait on, `C` those for which it holds the credit to wait, `S` those of others it
    owes. -/
def state (K : Dev nD × DmaSem sig → ℕ) (c : Dev nD) (T A C S : Finset (DmaSem sig)) : sProp 𝕄 :=
  iprop(P.records pay K ∗ levAts L P.lv
    ∗ (bigSep T fun s => dutyTok ER (cell (P.payer s c) s) 0 ())
    ∗ (bigSep A fun s => atPos ER (cell c s) 0 ∅ 0) ∗ (bigSep (Finset.univ \ A) fun s => atPos ER (cell c s) 1 ∅ 0)
    ∗ (bigSep C fun s => cred (tallyAt (cell c s) () (P.amt s)))
    ∗ ∃ W, owes (c.tc : Thread nD τ) (P.owed c S) W)

/-! ## The steps -/

/-- One summand taken out, or put in. -/
theorem take_out {I : Type} [DecidableEq I] {S : Finset I} {i : I} (hi : i ∈ S) (Φ : I → sProp (MT nD τ sig Unit Val ℕ (UR sig nD τ) ℕ)) :
    bigSep S Φ = iprop(Φ i ∗ bigSep (S.erase i) Φ) := bigSep_erase hi
theorem put_in {I : Type} [DecidableEq I] {S : Finset I} {i : I} (hi : i ∉ S) (Φ : I → sProp (MT nD τ sig Unit Val ℕ (UR sig nD τ) ℕ)) :
    bigSep (insert i S) Φ = iprop(Φ i ∗ bigSep S Φ) := bigSep_insert hi

section Steps

variable {Λ : Labels} {defs : Defs nD τ sig Val Λ} (𝒱 : Variants) (bd : Option 𝒱.V)
variable {α : Type} {Q : α → sProp (MT nD τ sig Unit Val ℕ (UR sig nD τ) ℕ)} {sp sp' : Space} {s : Shape} {e : EltTy}
variable (K : Dev nD × DmaSem sig → ℕ) (c : Dev nD) {T A C S : Finset (DmaSem sig)}

/-- A transfer to another device: it needs the source (any share of it) and the destination, and performs the duties of
    the device's own semaphore `sS` and of the other's `sR`. -/
theorem wp_send {n : Dev nD} {src : Memref sig .tc sp s e} {dst : Memref sig (Dev.tc n : Thread nD τ).2.kind sp' s e} {hsc : dst.view.ref.isScScratch = false}
    {sS sR : DmaSem sig} {hsrc : src.view.WordExact} {hdst : dst.view.WordExact}
    {hsem : DmaTarget.Typed sp (.dma sR) (.remote (Dev.tc n : Thread nD τ) dst (.dma sS) hsc)}
    {k : PUnit → Prog (TpuEff nD τ sig Val Λ .tc) α} {q : PosShare TreeShare}
    {fs : Buf Val (src.view.loc (c.tc : Thread nD τ))} {fd : Buf Val (dst.view.loc (n.tc : Thread nD τ))}
    (hn : P.payer sR c = n) (hc : P.payer sS c = c) (hS : sS ∈ T) (hR : sR ∈ T.erase sS) (hO : sR ∈ S) (hC : sS ∉ C)
    (hN : dst.view.amount (.dma sR) = P.amt sR) (hNS : P.amt sS = P.amt sR)
    (hpayS : (src.view.loc (c.tc : Thread nD τ) ↦[src.view.set]{q} fs) ⊢ pay c sS)
    (hpayR : (dst.view.loc (n.tc : Thread nD τ) ↦[dst.view.set]{fullShare} (dst.view.write Val fd (src.view.read Val fs) Finset.univ)) ⊢ pay n sR)
    (hr : τ.routes (c.tc : Thread nD τ) (n.tc : Thread nD τ) = true) :
    iprop(P.state pay K c T A C S ∗ (src.view.loc (c.tc : Thread nD τ) ↦[src.view.set]{q} fs) ∗ (dst.view.loc (n.tc : Thread nD τ) ↦[dst.view.set]{fullShare} fd))
      ⊢ iprop((P.state pay K c ((T.erase sS).erase sR) A (insert sS C) (S.erase sR) -∗ wp frame (wpE defs 𝒱 (c.tc : Thread nD τ) bd) Set.univ (k ⟨⟩) Q)
          -∗ wp frame (wpE defs 𝒱 (c.tc : Thread nD τ) bd) Set.univ
              (.op (.enqueueDma src (.remote (Dev.tc n : Thread nD τ) dst (.dma sS) hsc) (.dma sR) hsrc hdst hsem) k) Q) := by
  subst hn
  unfold state
  rw [take_out hS, take_out hR, hc]
  iintro ⟨⟨#HR, #Hlev, ⟨HtS, HtR, Ht⟩, HA, HA', HC, %W, HO⟩, Hs, Hd⟩ Hk
  iapply (Rounds.wp_send_pointsTo 𝒱 ER (P.sched pay) (c.tc : Thread nD τ) bd (κ₁ := K (c, sS)) (κ₂ := K (P.payer sR c, sR))
    (r₁ := 0) (r₂ := 0) (d₁ := ()) (d₂ := ()) (fd := fd)
    (show () ∈ (P.sched pay).duties (cell c sS) 0 by rw [duties_cell]; exact Finset.mem_singleton_self _)
    (show () ∈ (P.sched pay).duties (cell (P.payer sR c) sR) 0 by rw [duties_cell]; exact Finset.mem_singleton_self _)
    () () (P.amt sR) hN (show (P.sched pay).amount (cell c sS) 0 () = P.amt sR from hNS) rfl (P.owed c (S.erase sR)) (P.owed_erase c hO) (W := W) hpayS hpayR hr) $$ [Hs Hd HO HtS HtR]
  · isplitr; · iapply (P.inv_at pay K c sS); iexact HR
    isplitr; · iapply (P.inv_at pay K (P.payer sR c) sR); iexact HR
    isplitl [Hs]; · iexact Hs
    isplitl [Hd]; · iexact Hd
    isplitl [HO]; · iexact HO
    isplitl [HtS]; · iexact HtS
    isplitr; · iapply (P.reached_at pay K c sS); iexact HR
    isplitl [HtR]; · iexact HtR
    iapply (P.reached_at pay K (P.payer sR c) sR); iexact HR
  iintro ⟨Hc, HO⟩
  iapply Hk
  isplitr; · iexact HR
  isplitr; · iexact Hlev
  isplitl [Ht]; · iexact Ht
  isplitl [HA]; · iexact HA
  isplitl [HA']; · iexact HA'
  isplitl [Hc HC]
  · rw [put_in hC, hNS]
    isplitl [Hc]; · iexact Hc
    iexact HC
  iexists W; iexact HO

/-- A copy within the device, crediting its own semaphore. -/
theorem wp_copy {src : Memref sig .tc sp s e} {dst : Memref sig (Proc.tc : Proc τ).kind sp' s e} {sL : DmaSem sig}
    {hsrc : src.view.WordExact} {hdst : dst.view.WordExact} {hsem : DmaTarget.Typed (nD := nD) sp (.dma sL) (.here dst)}
    {k : PUnit → Prog (TpuEff nD τ sig Val Λ .tc) α} {q : PosShare TreeShare}
    {fs : Buf Val (src.view.loc (c.tc : Thread nD τ))} {fd : Buf Val (dst.view.loc (c.tc : Thread nD τ))}
    (hc : P.payer sL c = c) (hL : sL ∈ T) (hC : sL ∉ C) (hN : dst.view.amount (.dma sL) = P.amt sL)
    (hpay : iprop((dst.view.loc (c.tc : Thread nD τ) ↦[dst.view.set]{fullShare} (dst.view.write Val fd (src.view.read Val fs) Finset.univ))
      ∗ (src.view.loc (c.tc : Thread nD τ) ↦[src.view.set]{q} fs)) ⊢ pay c sL) :
    iprop(P.state pay K c T A C S ∗ (src.view.loc (c.tc : Thread nD τ) ↦[src.view.set]{q} fs) ∗ (dst.view.loc (c.tc : Thread nD τ) ↦[dst.view.set]{fullShare} fd))
      ⊢ iprop((P.state pay K c (T.erase sL) A (insert sL C) S -∗ wp frame (wpE defs 𝒱 (c.tc : Thread nD τ) bd) Set.univ (k ⟨⟩) Q)
          -∗ wp frame (wpE defs 𝒱 (c.tc : Thread nD τ) bd) Set.univ (.op (.enqueueDma src (.here dst) (.dma sL) hsrc hdst hsem) k) Q) := by
  unfold state
  rw [take_out hL, hc]
  iintro ⟨⟨#HR, #Hlev, ⟨HtL, Ht⟩, HA, HA', HC, HO⟩, Hs, Hd⟩ Hk
  iapply (Rounds.wp_copy_pointsTo 𝒱 ER (P.sched pay) (c.tc : Thread nD τ) bd (κ := K (c, sL)) (r := 0) (d := ()) (fd := fd)
    (by rw [duties_cell]; exact Finset.mem_singleton_self _) () (P.amt sL) hN rfl hpay) $$ [Hs Hd HtL]
  · isplitr; · iapply (P.inv_at pay K c sL); iexact HR
    isplitl [Hs]; · iexact Hs
    isplitl [Hd]; · iexact Hd
    isplitl [HtL]; · iexact HtL
    iapply (P.reached_at pay K c sL); iexact HR
  iintro Hc
  iapply Hk
  isplitr; · iexact HR
  isplitr; · iexact Hlev
  isplitl [Ht]; · iexact Ht
  isplitl [HA]; · iexact HA
  isplitl [HA']; · iexact HA'
  isplitl [Hc HC]
  · rw [put_in hC]
    isplitl [Hc]; · iexact Hc
    iexact HC
  iexact HO

/-- A wait on one of the device's own semaphores: what its duty hands over arrives. -/
theorem wp_wait {κ' : Kind} {s' : Shape} {e' : EltTy} {sm : DmaSem sig} {src : Memref sig .tc sp' s' e'} {dst : Memref sig κ' sp s e}
    {hsrc : src.view.WordExact} {hdst : dst.view.WordExact} {k : PUnit → Prog (TpuEff nD τ sig Val Λ .tc) α}
    (hA : sm ∈ A) (hC : sm ∈ C) (hN : dst.view.dmaCredit = P.amt sm) (hlev : ∀ s' ∈ S, P.level sm < P.level s') :
    P.state pay K c T A C S
      ⊢ iprop(((P.state pay K c T (A.erase sm) (C.erase sm) S ∗ pay c sm) -∗ wp frame (wpE defs 𝒱 (c.tc : Thread nD τ) bd) Set.univ (k ⟨⟩) Q)
          -∗ wp frame (wpE defs 𝒱 (c.tc : Thread nD τ) bd) Set.univ (.op (.waitDma2 sm src dst hsrc hdst) k) Q) := by
  unfold state
  rw [take_out hA, take_out hC, ← hN]
  iintro ⟨#HR, #Hlev, Ht, ⟨Ha, HA⟩, HA', ⟨Hc, HC⟩, %W, HO⟩ Hk
  iapply (Rounds.wp_wait_rest_token 𝒱 ER (P.sched pay) (c.tc : Thread nD τ) bd (κ := K (c, sm))
      (wpE_waitDma2_eq 𝒱 (c.tc : Thread nD τ) bd Set.univ) (Set.mem_univ _) () (O := P.owed c S) (W := W) (R := 0) (m := 0) (T := ∅)
      (by rw [Nat.zero_add]; exact hN.trans (P.expect_cell pay c sm).symm)) $$ [Hc HO Ha]
  · isplitr; · iapply (P.inv_at pay K c sm); iexact HR
    isplitl [Hc]; · iexact Hc
    isplitl [HO]; · iexact HO
    isplitr; · iapply (P.mayWait c sm S hlev); iexact Hlev
    iexact Ha
  iintro ⟨HO, Ha, -, Hpay⟩
  ihave Hpay := (Entails.of_eq (P.rest_cell pay c sm)) $$ Hpay
  iapply Hk
  isplitr [Hpay]
  · isplitr; · iexact HR
    isplitr; · iexact Hlev
    isplitl [Ht]; · iexact Ht
    isplitl [HA]; · iexact HA
    isplitl [HA' Ha]
    · rw [show Finset.univ \ A.erase sm = insert sm (Finset.univ \ A) by
          ext x; simp only [Finset.mem_sdiff, Finset.mem_univ, true_and, Finset.mem_erase, Finset.mem_insert]; tauto,
        put_in (by simp [hA])]
      isplitl [Ha]; · iexact Ha
      iexact HA'
    isplitl [HC]; · iexact HC
    iexists _; iexact HO
  iexact Hpay

end Steps

/-! ## The start and the end -/

/-- The DMA semaphores as semaphores. -/
def dmaEmb : DmaSem sig ↪ SemLoc sig := ⟨SemLoc.dma, fun _ _ h => SemLoc.dma.inj h⟩

/-- When exactly the DMA semaphores are scoped, a device's scoped counters are theirs. -/
theorem scoped_eq (hsc : (Finset.univ.filter fun sm : SemLoc sig => sm.isScoped .tc) = Finset.univ.map dmaEmb) (c : Dev nD) :
    (scopedSems0 (c.tc : Thread nD τ) : sProp 𝕄) = bigSep Finset.univ fun s : DmaSem sig => semVal (cell c s) 0 := by
  rw [show (c.tc : Thread nD τ) = (c, .tc) from rfl, scopedSems0_tc, hsc, bigSep_map]; rfl

/-- Everything waited on, the counters are at zero again. -/
theorem close (hsc : (Finset.univ.filter fun sm : SemLoc sig => sm.isScoped .tc) = Finset.univ.map dmaEmb)
    (K : Dev nD × DmaSem sig → ℕ) (c : Dev nD) {T C S : Finset (DmaSem sig)} :
    P.state pay K c T ∅ C S ⊢ |={Set.univ}=> iprop(scopedSems0 (c.tc : Thread nD τ) ∗ ∃ W, owes (c.tc : Thread nD τ) (P.owed c S) W) := by
  rw [scoped_eq hsc]
  unfold state
  rw [Finset.sdiff_empty]
  iintro ⟨#HR, -, -, -, HA, -, HO⟩
  imod (show iprop(P.records pay K ∗ bigSep Finset.univ fun s => atPos ER (cell c s) 1 ∅ 0)
      ⊢ (|={Set.univ}=> bigSep Finset.univ fun s : DmaSem sig => semVal (cell c s) 0 : sProp 𝕄) from
    (sep_mono_left (BI.bigSep_of_persistent Finset.univ _)).trans (by
      rw [← bigSep_sep']
      exact (bigSep_mono fun s _ => (sep_mono_left (P.inv_at pay K c s)).trans
        (Rounds.cell_close ER (P.sched pay) (Set.mem_univ _) (fun h => h) (R := 1) (P.duties_later pay (cell c s)))).trans (bigSep_fupd _ _))) $$ [HA] with HZ
  · isplitr; · iexact HR
    iexact HA
  imodintro
  isplitl [HZ]; · iexact HZ
  iexact HO

theorem cell_injective : Function.Injective (fun cs : Dev nD × DmaSem sig => (cell cs.1 cs.2 : GSem nD τ sig)) := by
  rintro ⟨c, s⟩ ⟨c', s'⟩ h
  have h1 : c = c' := congrArg (fun g : GSem nD τ sig => g.1.1) h
  have h2 : s = s' := SemLoc.dma.inj (congrArg Prod.snd h)
  rw [h1, h2]

/-- All cells, and the token of each one's duty. -/
def cells : Finset (GSem nD τ sig) := Finset.univ.map ⟨_, cell_injective⟩
def toks : Finset (GSem nD τ sig × ℕ × Unit) :=
  Finset.univ.map ⟨fun cs : Dev nD × DmaSem sig => (cell cs.1 cs.2, 0, ()), fun _ _ h => cell_injective (congrArg Prod.fst h)⟩
/-- The ghost state the machine starts with. -/
def u₀ : UR sig nD τ := initOf cells toks

/-- The payers as a permutation of the devices. -/
def payerEquiv (s : DmaSem sig) : Dev nD ≃ Dev nD := ⟨P.payer s, P.payer s, P.payer_payer s, P.payer_payer s⟩

/-- What a device is dealt of the ghost state: its positions, and the tokens of the duties it performs. -/
def dealt (c : Dev nD) : sProp 𝕄 :=
  iprop((bigSep Finset.univ fun s : DmaSem sig => dutyTok ER (cell (P.payer s c) s) 0 ()) ∗ bigSep Finset.univ fun s : DmaSem sig => atPos ER (cell c s) 0 ∅ 0)

/-- From all counters at zero and the ghost state: the records, and each device's deal. -/
theorem fund_deal (hsc : (Finset.univ.filter fun sm : SemLoc sig => sm.isScoped .tc) = Finset.univ.map dmaEmb) :
    iprop((bigSep Finset.univ fun c : Dev nD => scopedSems0 (c.tc : Thread nD τ)) ∗ ownU (u₀ (τ := τ) : UR sig nD τ))
      ⊢ |={Set.univ}=> iprop((∃ K, P.records pay K) ∗ bigSep Finset.univ fun c : Dev nD => P.dealt c) := by
  have hX (Φ : GSem nD τ sig → sProp 𝕄) : bigSep cells Φ = bigSep Finset.univ fun cs : Dev nD × DmaSem sig => Φ (cell cs.1 cs.2) := by
    unfold cells; rw [bigSep_map]; rfl
  have hT : bigSep toks (fun x => (dutyTok ER x.1 x.2.1 x.2.2 : sProp 𝕄)) = bigSep Finset.univ fun cs : Dev nD × DmaSem sig => dutyTok ER (cell cs.1 cs.2) 0 () := by
    unfold toks; rw [bigSep_map]; rfl
  have hT' : (bigSep Finset.univ fun cs : Dev nD × DmaSem sig => (dutyTok ER (cell cs.1 cs.2) 0 () : sProp 𝕄))
      = bigSep Finset.univ fun c : Dev nD => bigSep Finset.univ fun s : DmaSem sig => dutyTok ER (cell (P.payer s c) s) 0 () := by
    rw [bigSep_univ_prod (fun cs : Dev nD × DmaSem sig => (dutyTok ER (cell cs.1 cs.2) 0 () : sProp 𝕄)), BI.bigSep_univ_comm,
      BI.bigSep_univ_comm fun (c : Dev nD) (s : DmaSem sig) => (dutyTok ER (cell (P.payer s c) s) 0 () : sProp 𝕄)]
    exact bigSep_congr fun s _ => bigSep_univ_equiv (P.payerEquiv s) (fun c : Dev nD => (dutyTok ER (cell c s) 0 () : sProp 𝕄))
  have hS : (bigSep Finset.univ fun c : Dev nD => (scopedSems0 (c.tc : Thread nD τ) : sProp 𝕄))
      = bigSep Finset.univ fun cs : Dev nD × DmaSem sig => semVal (cell cs.1 cs.2) 0 := by
    rw [bigSep_univ_prod (fun cs : Dev nD × DmaSem sig => (semVal (cell cs.1 cs.2) 0 : sProp 𝕄))]
    exact bigSep_congr fun c _ => scoped_eq hsc c
  have hA : (bigSep Finset.univ fun c : Dev nD => bigSep Finset.univ fun s : DmaSem sig => (atPos ER (cell c s) 0 ∅ 0 : sProp 𝕄))
      = bigSep Finset.univ fun cs : Dev nD × DmaSem sig => atPos ER (cell cs.1 cs.2) 0 ∅ 0 :=
    (bigSep_univ_prod (fun cs : Dev nD × DmaSem sig => (atPos ER (cell cs.1 cs.2) 0 ∅ 0 : sProp 𝕄))).symm
  rw [hS]
  iintro ⟨Hv, HX⟩
  ihave HX := (show (ownU (u₀ (τ := τ) : UR sig nD τ) : sProp 𝕄) ⊢ BI.own (ER (initOf cells toks)) from BI.Entails.refl _) $$ HX
  imod (Rounds.fund ER (P.sched pay) cells toks) $$ HX with ⟨Hst, Hr, Hat, Htok⟩
  ihave Hst := (Entails.of_eq (hX fun g => roundState ER (P.sched pay) g 0)) $$ Hst
  ihave Hat := (Entails.of_eq (hX fun g => atPos ER g 0 ∅ 0)) $$ Hat
  ihave Hr := (Entails.of_eq (hX fun g => reached ER g 0)) $$ Hr
  ihave Htok := (Entails.of_eq (hT.trans hT')) $$ Htok
  imod (show iprop((bigSep Finset.univ fun cs : Dev nD × DmaSem sig => semVal (cell cs.1 cs.2) 0)
        ∗ bigSep Finset.univ fun cs : Dev nD × DmaSem sig => roundState ER (P.sched pay) (cell cs.1 cs.2) 0)
      ⊢ (|={Set.univ}=> bigSep Finset.univ fun cs : Dev nD × DmaSem sig => iprop(∃ κ : ℕ, cellInv ER (P.sched pay) κ (cell cs.1 cs.2)) : sProp 𝕄) from by
        rw [← bigSep_sep']
        exact (bigSep_mono fun cs _ => (Rounds.body_intro ER (P.sched pay) (cell cs.1 cs.2)).trans inv_alloc).trans (bigSep_fupd _ _)) $$ [Hv Hst] with HI
  · isplitl [Hv] <;> iassumption
  ihave HK := (BI.bigSep_exists_pi Finset.univ (fun (cs : Dev nD × DmaSem sig) (κ : ℕ) => (cellInv ER (P.sched pay) κ (cell cs.1 cs.2) : sProp 𝕄))) $$ HI
  icases HK with ⟨%K, HI⟩
  imodintro
  isplitl [HI Hr]
  · iexists K; unfold records
    isplitl [HI] <;> iassumption
  unfold dealt; rw [bigSep_sep', hA]
  isplitl [Htok] <;> iassumption

/-- What the others owe a device when the machine starts is the credit for the semaphores in `recv`. -/
theorem creds (c : Dev nD) : (launchCred (fun d => P.owed d P.recv) c : sProp 𝕄)
    ⊢ bigSep P.recv fun s => cred (tallyAt (cell c s) () (P.amt s)) := by
  have h1 (s : DmaSem sig) (hs : s ∈ P.recv) :
      tallyOn (cell (τ := τ) c s) (launchCredit (τ := τ) (owing fun d => P.owed d P.recv) 0 (cell c s)) = (tallyAt (cell c s) () (P.amt s) : CellTallies nD τ sig Unit) := by
    unfold tallyAt; refine congrArg _ (Finsupp.ext fun u => ?_); cases u
    rw [launchCredit_owing, Finsupp.single_eq_same,
      Finset.sum_congr rfl (g := fun d => if d = P.payer s c then P.amt s else 0) fun d _ => by
        rw [owed_apply]
        by_cases h : d = P.payer s c
        · subst h; rw [if_pos ⟨hs, (P.payer_payer s c).symm⟩, if_pos rfl]
        · rw [if_neg (fun hh => h (by rw [hh.2, P.payer_payer])), if_neg h],
      Finset.sum_ite_eq' Finset.univ (P.payer s c) fun _ => P.amt s, if_pos (Finset.mem_univ _)]
  unfold launchCred
  refine (bigSep_subset (Finset.subset_univ (P.recv.map dmaEmb))).trans ?_
  rw [bigSep_map]
  exact bigSep_mono fun s hs => Entails.of_eq (congrArg cred (h1 s hs))

/-- Records shared out over a set. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What every device starts its program from: the exchange not begun, its buffers. -/
def atStart (m : (ℓ : Loc nD τ sig) → Buf Val ℓ) (K : Dev nD × DmaSem sig → ℕ) (c : Dev nD) : sProp 𝕄 :=
  iprop(P.state pay K c Finset.univ Finset.univ P.recv P.recv ∗ scopedBufs (c.tc : Thread nD τ) ∗ opIdle (c.tc : Thread nD τ)
    ∗ unscopedBufs c (fun b => m ((c.tc : Thread nD τ).loc b)))

/-- The machine's start, dealt to the devices. -/
theorem start (hsc : (Finset.univ.filter fun sm : SemLoc sig => sm.isScoped .tc) = Finset.univ.map dmaEmb)
    (m : (ℓ : Loc nD τ sig) → Buf Val ℓ) (g : Dev nD → PrngReg) :
    iprop((bigSep Finset.univ fun c => initial m g (fun d => P.owed d P.recv) c) ∗ levAts L P.lv ∗ ownU (u₀ (τ := τ) : UR sig nD τ))
      ⊢ |={Set.univ}=> iprop(∃ K, bigSep Finset.univ fun c => P.atStart pay m K c) := by
  unfold initial boundary
  simp only [bigSep_sep']
  iintro ⟨⟨⟨Hb, Hs, Hi⟩, Hu, -, Ho, Hc, -⟩, #Hlev, HX⟩
  imod (P.fund_deal pay hsc) $$ [Hs HX] with ⟨⟨%K, #HR⟩, HD⟩
  · isplitl [Hs] <;> iassumption
  imodintro
  iexists K
  ihave Hc := (show (bigSep Finset.univ fun c : Dev nD => launchCred (fun d => P.owed d P.recv) c)
      ⊢ (bigSep Finset.univ fun c : Dev nD => bigSep P.recv fun s => cred (tallyAt (cell c s) () (P.amt s)) : sProp 𝕄) from
    bigSep_mono fun c _ => P.creds c) $$ Hc
  iapply (share_out (R := iprop(P.records pay K ∗ levAts L P.lv))
    (Φ := fun c : Dev nD => iprop(P.dealt c ∗ scopedBufs (c.tc : Thread nD τ) ∗ opIdle (c.tc : Thread nD τ)
      ∗ unscopedBufs c (fun b => m ((c.tc : Thread nD τ).loc b)) ∗ owes (c.tc : Thread nD τ) (P.owed c P.recv) ∅
      ∗ bigSep P.recv fun s => cred (tallyAt (cell c s) () (P.amt s)))) fun c _ => by
    unfold atStart state dealt
    iintro ⟨⟨#HR, #Hlev⟩, ⟨Ht, Ha⟩, Hb, Hi, Hu, Ho, Hc⟩
    isplitl [Ht Ha Ho Hc]
    · isplitr; · iexact HR
      isplitr; · iexact Hlev
      isplitl [Ht]; · iexact Ht
      isplitl [Ha]; · iexact Ha
      isplitr; · rw [Finset.sdiff_self, bigSep_empty]; iempintro
      isplitl [Hc]; · iexact Hc
      iexists ∅; iexact Ho
    isplitl [Hb]; · iexact Hb
    isplitl [Hi]; · iexact Hi
    iexact Hu)
  isplitr
  · isplitr; · iexact HR
    iexact Hlev
  simp only [bigSep_sep']
  isplitl [HD]; · iexact HD
  isplitl [Hb]; · iexact Hb
  isplitl [Hi]; · iexact Hi
  isplitl [Hu]; · iexact Hu
  isplitl [Ho]; · iexact Ho
  iexact Hc

end Plan

end Cert.Devices
-- ==== Proof.Run.lean ====
/- The run of a program that is one exchange: a pallas_call that stages nothing and moves one array `a` of every device
   into pieces of an array `o` of every device. The pieces of a device's `o` are named by the semaphores on which their
   arrival is waited for; the device that writes a piece holds it from the start. -/
module

public import proofs.«01_k».proof.Proof.Cells

@[expose] public section

set_option Elab.async false

noncomputable section

namespace Cert.Devices

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds

namespace Plan

variable {nD : Nat} {τ : Topo} {sig : RefSig} {Val : EltTy → Type}

local notation "𝕄" => MT nD τ sig Unit Val ℕ (UR sig nD τ) ℕ
local notation "ER" => (emb₁ : Emb (UR sig nD τ) (MT nD τ sig Unit Val ℕ (UR sig nD τ) ℕ))

variable (P : Plan nD sig) (pay : Dev nD → DmaSem sig → sProp (MT nD τ sig Unit Val ℕ (UR sig nD τ) ℕ))
variable [hst : ∀ c s, BI.Storable (upEmb : UEmb _ (MT nD τ sig Unit Val ℕ (UR sig nD τ) ℕ)) (pay c s)]

/-- The array `o` of device `c`. -/
abbrev at_ (τ : Topo) (o : Ref sig .tc) (c : Dev nD) : Loc nD τ sig := (c.tc : Thread nD τ).loc o

section Pieces

variable (o : Ref sig .tc) (land : Finset (DmaSem sig)) (piece : DmaSem sig → (c : Dev nD) → Finset (Idx (at_ τ o c)))

/-- The pieces arriving on distinct semaphores have no element in common, and together they are the array. -/
structure Pieces : Prop where
  disjoint : ∀ c, ∀ s ∈ land, ∀ s' ∈ land, s ≠ s' → Disjoint (piece s c) (piece s' c)
  cover : ∀ c, (land.biUnion fun s => piece s c) = Finset.univ

variable {o land piece}

/-- The array held whole is its pieces held. -/
theorem whole_pieces (h : Pieces o land piece) (c : Dev nD) (V : Buf Val (at_ τ o c)) :
    (at_ τ o c ↦{fullShare} V : sProp 𝕄) = bigSep land fun s => at_ τ o c ↦[piece s c]{fullShare} V := by
  rw [← pointsTo_biUnion land (fun s => piece s c) (h.disjoint c), h.cover]

/-- Every device's array held whole is, dealt to the devices that write them, every device's pieces. -/
theorem deal_pieces (h : Pieces o land piece) (V : (c : Dev nD) → Buf Val (at_ τ o c)) :
    (bigSep Finset.univ fun c : Dev nD => (at_ τ o c ↦{fullShare} V c : sProp 𝕄))
      = bigSep Finset.univ fun c : Dev nD => bigSep land fun s => at_ τ o (P.payer s c) ↦[piece s (P.payer s c)]{fullShare} V (P.payer s c) := by
  have hf (Φ : DmaSem sig → sProp 𝕄) : bigSep land Φ = bigSep Finset.univ fun s => if s ∈ land then Φ s else BI.emp := by
    rw [← bigSep_filter, Finset.filter_mem_eq_inter, Finset.univ_inter]
  rw [bigSep_congr fun c _ => whole_pieces h c (V c)]
  simp only [hf]
  rw [BI.bigSep_univ_comm, BI.bigSep_univ_comm fun (c : Dev nD) (s : DmaSem sig) =>
    (if s ∈ land then (at_ τ o (P.payer s c) ↦[piece s (P.payer s c)]{fullShare} V (P.payer s c) : sProp 𝕄) else BI.emp)]
  exact bigSep_congr fun s _ => bigSep_univ_equiv (P.payerEquiv s)
    (fun c : Dev nD => if s ∈ land then (at_ τ o c ↦[piece s c]{fullShare} V c : sProp 𝕄) else BI.emp)

end Pieces

/-- A device's holding is what it owes and the rest. -/
def rest (K : Dev nD × DmaSem sig → ℕ) (c : Dev nD) (T A C : Finset (DmaSem sig)) : sProp 𝕄 :=
  iprop(P.records pay K ∗ levAts L P.lv
    ∗ (bigSep T fun s => dutyTok ER (cell (P.payer s c) s) 0 ())
    ∗ (bigSep A fun s => atPos ER (cell c s) 0 ∅ 0) ∗ (bigSep (Finset.univ \ A) fun s => atPos ER (cell c s) 1 ∅ 0)
    ∗ (bigSep C fun s => cred (tallyAt (cell c s) () (P.amt s))))

theorem state_split (K : Dev nD × DmaSem sig → ℕ) (c : Dev nD) (T A C S : Finset (DmaSem sig)) :
    P.state pay K c T A C S ⊢ iprop(P.rest pay K c T A C ∗ ∃ W, owes (c.tc : Thread nD τ) (P.owed c S) W) := by
  unfold state rest
  iintro ⟨H1, H2, H3, H4, H5, H6, HO⟩
  isplitr [HO]
  · isplitl [H1]; · iexact H1
    isplitl [H2]; · iexact H2
    isplitl [H3]; · iexact H3
    isplitl [H4]; · iexact H4
    isplitl [H5]; · iexact H5
    iexact H6
  iexact HO

theorem state_join (K : Dev nD × DmaSem sig → ℕ) (c : Dev nD) (T A C S : Finset (DmaSem sig)) (W : Finset (SemLoc sig × Unit)) :
    iprop(P.rest pay K c T A C ∗ owes (c.tc : Thread nD τ) (P.owed c S) W) ⊢ P.state pay K c T A C S := by
  unfold state rest
  iintro ⟨⟨H1, H2, H3, H4, H5, H6⟩, HO⟩
  isplitl [H1]; · iexact H1
  isplitl [H2]; · iexact H2
  isplitl [H3]; · iexact H3
  isplitl [H4]; · iexact H4
  isplitl [H5]; · iexact H5
  isplitl [H6]; · iexact H6
  iexists W; iexact HO

variable {Λ₀ : Idealize.SL.Sem.Labels} {I : Type} [Fintype I] [DecidableEq I]
variable (pcs : I → PCfg sig Λ₀ Val) (adm : (p : I) → (pcs p).Adm) (p : I)

/-- THE RUN. If on every device the kernel's body, from the exchange not begun, its `a` and the pieces it writes, ends
    with every semaphore waited on, its `a` as it was and the pieces of its own `o` holding `out`, then every run of the
    program ends with `a` as it was and `out` in `o` on every device, all semaphores at zero. -/
theorem run [∀ e, Nonempty (Val e)]
    (hsc : (Finset.univ.filter fun sm : SemLoc sig => sm.isScoped .tc) = Finset.univ.map dmaEmb)
    (defs₀ : Defs nD τ sig Val Λ₀) (𝒱₀ : Variants)
    (hW : ∀ p, IsEmpty (Fin (pin pcs adm p).W)) (hN : (pin pcs adm p).N = 1) (hK : IsEmpty (Fin (pcs p).pre.K))
    {a o : Ref sig .tc} (hao : a ≠ o) (hbufs : (Finset.univ.filter fun b : Ref sig .tc => ¬ b.isScoped) = {a, o})
    {land : Finset (DmaSem sig)} {piece : DmaSem sig → (c : Dev nD) → Finset (Idx (at_ τ o c))} (hp : Pieces o land piece)
    (m : (ℓ : Loc nD τ sig) → Buf Val ℓ) (g : Dev nD → PrngReg) (out : (c : Dev nD) → Buf Val (at_ τ o c))
    (main : Dev nD → Prog (TpuEff nD τ sig Val (Sig Λ₀ I fun p => (pcs p).Adm) .tc) PUnit)
    (hmain : ∀ c, main c = .op (.customCall (entry p) ()) fun _ => .ret ⟨⟩)
    (hbody : ∀ K c t, iprop(P.state pay K c Finset.univ Finset.univ P.recv P.recv ∗ (at_ τ a c ↦{fullShare} m (at_ τ a c))
        ∗ bigSep land fun s => at_ τ o (P.payer s c) ↦[piece s (P.payer s c)]{fullShare} m (at_ τ o (P.payer s c)))
      ⊢ wp frame (wpE defs₀ 𝒱₀ c none) Set.univ (defs₀ .tc (pin pcs adm p).body ((pin pcs adm p).bodyArgs t ((pin pcs adm p).slots t)))
          fun _ => iprop(∃ T C, P.state pay K c T ∅ C ∅ ∗ (at_ τ a c ↦{fullShare} m (at_ τ a c))
            ∗ bigSep land fun s => at_ τ o c ↦[piece s c]{fullShare} out c))
    {Q : PUnit × MemSt nD τ sig Val → Prop} (hQ : ∀ s : MemSt nD τ sig Val,
      (∀ c : Dev nD, s.mem (at_ τ o c) = out c ∧ s.mem (at_ τ a c) = m (at_ τ a c)) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  have hub (c : Dev nD) : (unscopedBufs c (fun b => m ((c.tc : Thread nD τ).loc b)) : sProp 𝕄)
      = iprop((at_ τ a c ↦{fullShare} m (at_ τ a c)) ∗ at_ τ o c ↦{fullShare} m (at_ τ o c)) := by
    unfold unscopedBufs
    rw [hbufs, put_in (by simpa using hao), bigSep_singleton]
  let own (c : Dev nD) : sProp 𝕄 := at_ τ a c ↦{fullShare} m (at_ τ a c)
  let written (c : Dev nD) : sProp 𝕄 :=
    bigSep land fun s => at_ τ o (P.payer s c) ↦[piece s (P.payer s c)]{fullShare} m (at_ τ o (P.payer s c))
  let fin (c : Dev nD) : sProp 𝕄 := iprop(own c ∗ at_ τ o c ↦{fullShare} out c)
  let Φ (K : Dev nD × DmaSem sig → ℕ) (c : Dev nD) : sProp 𝕄 :=
    iprop(P.state pay K c Finset.univ Finset.univ P.recv P.recv ∗ own c ∗ written c ∗ scopedBufs (c.tc : Thread nD τ) ∗ opIdle (c.tc : Thread nD τ))
  refine θ_run_dealt (U := UR sig nD τ) (Lvl := ℕ) (Name := ℕ) _ (Variants.lift 𝒱₀) m g main (fun d => P.owed d P.recv) L P.lv L_of_ne u₀
    (fun c => iprop(∃ K, Φ K c))
    fin ?_ (fun c => ?_) (fun c s => s.mem (at_ τ o c) = out c ∧ s.mem (at_ τ a c) = m (at_ τ a c)) (fun c s' => ?_) hQ
  · refine (P.start pay hsc m g).trans (fupd_mono ?_)
    iintro ⟨%K, H⟩
    unfold atStart
    simp only [hub, bigSep_sep']
    icases H with ⟨Hs, Hb, Hi, Ha, Ho⟩
    ihave Ho := (Entails.of_eq (P.deal_pieces hp fun c => m (at_ τ o c))) $$ Ho
    iapply (show (bigSep Finset.univ fun c => Φ K c) ⊢ (bigSep Finset.univ fun c => iprop(∃ K, Φ K c) : sProp 𝕄) from
      bigSep_mono fun c _ => BIClass.exists_intro (Φ := fun K => Φ K c) K)
    simp only [Φ, bigSep_sep']
    isplitl [Hs]; · iexact Hs
    isplitl [Ha]; · iexact Ha
    isplitl [Ho]; · iexact Ho
    isplitl [Hb]; · iexact Hb
    iexact Hi
  · rw [hmain c]
    iintro ⟨%K, Hs, Ha, Ho, Hb, Hi⟩
    ihave Hs := (P.state_split pay K c _ _ _ _) $$ Hs
    icases Hs with ⟨Hs, %W, HO⟩
    have hb (t) (W : Finset (SemLoc sig × Unit)) :
        iprop((P.rest pay K c Finset.univ Finset.univ P.recv ∗ own c ∗ written c) ∗ owes (c.tc : Thread nD τ) (P.owed c P.recv) W)
        ⊢ wp frame (wpE defs₀ 𝒱₀ c none) Set.univ (defs₀ .tc (pin pcs adm p).body ((pin pcs adm p).bodyArgs t ((pin pcs adm p).slots t)))
            fun _ => iprop((fin c ∗ scopedSems0 (c.tc : Thread nD τ)) ∗ ∃ W', owes (c.tc : Thread nD τ) (0 : CellTallies nD τ sig Unit) W') := by
      have hpre : iprop((P.rest pay K c Finset.univ Finset.univ P.recv ∗ own c ∗ written c) ∗ owes (c.tc : Thread nD τ) (P.owed c P.recv) W)
          ⊢ iprop(P.state pay K c Finset.univ Finset.univ P.recv P.recv ∗ own c ∗ written c) := by
        iintro ⟨⟨Hs, Ha, Ho⟩, HO⟩
        isplitl [Hs HO]
        · iapply (P.state_join pay K c Finset.univ Finset.univ P.recv P.recv W)
          isplitl [Hs]; · iexact Hs
          iexact HO
        isplitl [Ha]; · iexact Ha
        iexact Ho
      refine ((hpre.trans (hbody K c t)).trans (wp_mono frame _ Set.univ fun _ => ?_)).trans (wp_fupd frame _ Set.univ _ _)
      iintro ⟨%T, %C, Hs, Ha, Ho⟩
      imod (P.close pay hsc K c) $$ Hs with ⟨Hs, HO⟩
      ihave HO := (Entails.of_eq (congrArg (fun O => (iprop(∃ W, owes (c.tc : Thread nD τ) O W) : sProp 𝕄)) (P.owed_empty c))) $$ HO
      ihave Ho := (Entails.of_eq (whole_pieces hp c (out c)).symm) $$ Ho
      imodintro
      isplitr [HO]
      · isplitl [Ha Ho]
        · isplitl [Ha]; · iexact Ha
          iexact Ho
        iexact Hs
      iexact HO
    iapply (wp_bare_region pcs adm p ER () 0 defs₀ 𝒱₀ c hW hN hK (P.owed c P.recv) 0
      iprop(P.rest pay K c Finset.univ Finset.univ P.recv ∗ own c ∗ written c)
      iprop(fin c ∗ scopedSems0 (c.tc : Thread nD τ)) (fin c) hb (BI.Entails.refl _) W) $$ [Hs HO Ha Ho Hb]
    · isplitl [Hs Ha Ho]
      · isplitl [Hs]; · iexact Hs
        isplitl [Ha]; · iexact Ha
        iexact Ho
      isplitl [HO]; · iexact HO
      iexact Hb
    iintro ⟨⟨%W', HO⟩, Hf, Hs, Hb⟩
    rw [wp_ret]
    imodintro
    isplitr [HO]
    · isplitl [Hf]; · iexact Hf
      unfold boundary
      isplitl [Hb]; · iexact Hb
      isplitl [Hs]; · iexact Hs
      iexact Hi
    iexists W'; iexact HO
  · iintro ⟨⟨Ha, Ho⟩, HSI⟩
    ihave H := (pointsTo_read_all (Finset.univ : Finset Bool) (fun b => (c.tc : Thread nD τ).loc (if b then a else o))
      (fun | true => m (at_ τ a c) | false => out c) s') $$ [Ha Ho HSI]
    · isplitr [HSI]
      · rw [show (Finset.univ : Finset Bool) = {true, false} from rfl, put_in (by decide), bigSep_singleton]
        isplitl [Ha]; · iexact Ha
        iexact Ho
      iexact HSI
    icases H with ⟨%h, HSI⟩
    imodintro
    isplitr
    · ipureintro
      exact ⟨h false (Finset.mem_univ _), h true (Finset.mem_univ _)⟩
    iexact HSI

end Plan

end Cert.Devices
-- ==== Proof.Slabs.lean ====
/- Slabs of arrays. A kernel addresses rows `lo .. lo + n` of layer `k` of a `[N, R, C]` array as a slice of it with the
   unit axis dropped, and rows `lo .. lo + n` of a `[R, C]` array as a slice. Here: which elements those are, which
   element an index of the slice is, and what a copy into one leaves there. -/
module

public import proofs.«01_k».proof.Proof.Run
public import Idealize.ShloMosaic.Lib.ValueLayout

@[expose] public section

set_option Elab.async false

noncomputable section

namespace Cert.Devices

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds

/-! ## The devices

Device `4 x + 2 y + c` is core `c` of the chip at `(x, y)`. -/

/-- The other core of a device's chip. -/
def sibling (c : Dev 8) : Dev 8 := ⟨4 * (c.val / 4) + 2 * ((c.val / 2) % 2) + 1 - c.val % 2, (by decide : ∀ c : Fin 8, 4 * (c.val / 4) + 2 * ((c.val / 2) % 2) + 1 - c.val % 2 < 8) c⟩
theorem sibling_sibling : ∀ c, sibling (sibling c) = c := by decide
theorem sibling_mod : ∀ c, (sibling c).val % 2 = 1 - c.val % 2 := by decide
theorem sibling_div : ∀ c, (sibling c).val / 2 = c.val / 2 := by decide

/-- The device with the same core on the chip across x, across y, and across both. -/
def peer (kk : Fin 3) (c : Dev 8) : Dev 8 :=
  match kk with
  | 0 => ⟨4 * (1 - c.val / 4) + 2 * ((c.val / 2) % 2) + c.val % 2, (by decide : ∀ c : Fin 8, 4 * (1 - c.val / 4) + 2 * ((c.val / 2) % 2) + c.val % 2 < 8) c⟩
  | 1 => ⟨4 * (c.val / 4) + 2 * (1 - (c.val / 2) % 2) + c.val % 2, (by decide : ∀ c : Fin 8, 4 * (c.val / 4) + 2 * (1 - (c.val / 2) % 2) + c.val % 2 < 8) c⟩
  | 2 => ⟨4 * (1 - c.val / 4) + 2 * (1 - (c.val / 2) % 2) + c.val % 2, (by decide : ∀ c : Fin 8, 4 * (1 - c.val / 4) + 2 * (1 - (c.val / 2) % 2) + c.val % 2 < 8) c⟩
theorem peer_peer : ∀ kk c, peer kk (peer kk c) = c := by decide
theorem peer_mod : ∀ kk c, (peer kk c).val % 2 = c.val % 2 := by decide
/-- The chip a device lies on. -/
def chipOf (c : Dev 8) : Fin 4 := ⟨c.val / 2, (by decide : ∀ c : Fin 8, c.val / 2 < 4) c⟩
theorem chipOf_sibling : ∀ c, chipOf (sibling c) = chipOf c := by decide
theorem chipOf_peer_ne : ∀ kk kk' c, kk ≠ kk' → chipOf (peer kk c) ≠ chipOf (peer kk' c) := by decide

/-! ## Elements -/

/-- Rows `lo .. lo + n` of layer `k`. -/
def box (N R C k lo n : ℕ) : Finset (⟨3, ![N, R, C]⟩ : Shape).Idx :=
  Finset.univ.filter fun i => (i 0).val = k ∧ lo ≤ (i 1).val ∧ (i 1).val < lo + n
/-- Rows `lo .. lo + n`. -/
def rows (R C lo n : ℕ) : Finset (⟨2, ![R, C]⟩ : Shape).Idx :=
  Finset.univ.filter fun i => lo ≤ (i 0).val ∧ (i 0).val < lo + n

theorem mem_box {N R C k lo n : ℕ} {i : (⟨3, ![N, R, C]⟩ : Shape).Idx} :
    i ∈ box N R C k lo n ↔ (i 0).val = k ∧ lo ≤ (i 1).val ∧ (i 1).val < lo + n := by
  unfold box; rw [Finset.mem_filter]; exact ⟨fun h => h.2, fun h => ⟨Finset.mem_univ _, h⟩⟩
theorem mem_rows {R C lo n : ℕ} {i : (⟨2, ![R, C]⟩ : Shape).Idx} : i ∈ rows R C lo n ↔ lo ≤ (i 0).val ∧ (i 0).val < lo + n := by
  unfold rows; rw [Finset.mem_filter]; exact ⟨fun h => h.2, fun h => ⟨Finset.mem_univ _, h⟩⟩

/-- The elements of a unit-height slice are a box. -/
theorem set_box {N R C n k lo : ℕ} {off : Fin 3 → ℕ} (h : off = ![k, lo, 0]) (inb : ∀ a, off a + (![1, n, C] : Fin 3 → ℕ) a ≤ (![N, R, C] : Fin 3 → ℕ) a) :
    (Rect.unit (s := ⟨3, ![N, R, C]⟩) off ![1, n, C] inb).set = box N R C k lo n := by
  subst h
  ext i
  rw [Rect.mem_set_unit, mem_box]
  have h2 : (i 2).val < C := (i 2).isLt
  constructor
  · intro h
    have h0 := h 0; have h1 := h 1
    simp at h0 h1
    exact ⟨by omega, h1.1, h1.2⟩
  · rintro ⟨h0, h1, h1'⟩ a
    match a with
    | 0 => exact ⟨h0.ge, show (i 0).val < k + 1 by omega⟩
    | 1 => exact ⟨h1, h1'⟩
    | 2 => exact ⟨Nat.zero_le _, show (i 2).val < 0 + C by omega⟩

/-- The elements of a slice of rows. -/
theorem set_rows {R C n lo : ℕ} {off : Fin 2 → ℕ} (h : off = ![lo, 0]) (inb : ∀ a, off a + (![n, C] : Fin 2 → ℕ) a ≤ (![R, C] : Fin 2 → ℕ) a) :
    (Rect.unit (s := ⟨2, ![R, C]⟩) off ![n, C] inb).set = rows R C lo n := by
  subst h
  ext i
  rw [Rect.mem_set_unit, mem_rows]
  have h2 : (i 1).val < C := (i 1).isLt
  constructor
  · intro h; exact h 0
  · rintro h1 a
    match a with
    | 0 => exact h1
    | 1 => exact ⟨Nat.zero_le _, show (i 1).val < 0 + C by omega⟩

/-- An index of a slice, axis by axis. -/
theorem unit_val {s : Shape} (off size : Fin s.rank → ℕ) (inb) (j : (Rect.unit (s := s) off size inb).shape.Idx) (a : Fin s.rank) :
    ((Rect.unit (s := s) off size inb).emb j a).val = off a + (j a).val := by
  rw [Rect.emb_apply]
  show off a + 1 * (j a).val = _
  rw [Nat.one_mul]

/-- An index of a slice with the unit axis dropped: layer `k`, the rows and columns moved by the offsets. -/
theorem slab_index {N R C n k lo : ℕ} {off : Fin 3 → ℕ} (h : off = ![k, lo, 0]) (inb : ∀ a, off a + (![1, n, C] : Fin 3 → ℕ) a ≤ (![N, R, C] : Fin 3 → ℕ) a)
    (hn : (⟨2, ![n, C]⟩ : Shape).numel = (⟨3, ![1, n, C]⟩ : Shape).numel) (x : (⟨2, ![n, C]⟩ : Shape).Idx)
    (hk : k < N) (hr : lo + (x 0).val < R) :
    (Rect.unit (s := ⟨3, ![N, R, C]⟩) off ![1, n, C] inb).emb (Shape.reshapeEquiv hn x)
      = ix3 (⟨k, hk⟩ : Fin N) (⟨lo + (x 0).val, hr⟩ : Fin R) (x 1 : Fin C) := by
  subst h
  have hx : x = ix2 (x 0 : Fin n) (x 1 : Fin C) := by funext a; match a with | 0 => rfl | 1 => rfl
  have hy : Shape.reshapeEquiv hn x = ix3 (⟨0, Nat.one_pos⟩ : Fin 1) (x 0 : Fin n) (x 1 : Fin C) :=
    (congrArg _ hx).trans (reshapeEquiv_ix2_1ab hn _ _)
  funext a
  refine Fin.ext ?_
  rw [hy]
  refine (unit_val (s := ⟨3, ![N, R, C]⟩) ![k, lo, 0] ![1, n, C] inb (ix3 (⟨0, Nat.one_pos⟩ : Fin 1) (x 0 : Fin n) (x 1 : Fin C)) a).trans ?_
  match a with
  | 0 => rfl
  | 1 => rfl
  | 2 => exact Nat.zero_add _

/-- An index of a slice of rows. -/
theorem rows_index {R C n lo : ℕ} {off : Fin 2 → ℕ} (h : off = ![lo, 0]) (inb : ∀ a, off a + (![n, C] : Fin 2 → ℕ) a ≤ (![R, C] : Fin 2 → ℕ) a)
    (x : (⟨2, ![n, C]⟩ : Shape).Idx) (hr : lo + (x 0).val < R) :
    (Rect.unit (s := ⟨2, ![R, C]⟩) off ![n, C] inb).emb x = ix2 (⟨lo + (x 0).val, hr⟩ : Fin R) (x 1 : Fin C) := by
  subst h
  funext a
  refine Fin.ext ?_
  refine (unit_val (s := ⟨2, ![R, C]⟩) ![lo, 0] ![n, C] inb x a).trans ?_
  match a with
  | 0 => rfl
  | 1 => exact Nat.zero_add _

/-! ## What a copy leaves -/

section Landed

variable {nD : Nat} {τ : Topo} {sig : RefSig} {Val : EltTy → Type}

local notation "𝕄" => MT nD τ sig Unit Val ℕ (UR sig nD τ) ℕ

/-- A slice written with what another held, where the array it is a slice of is to hold `out`: the slice of `out`. -/
theorem landed {κ κ' : Kind} {sp sp' : Space} {s : Shape} {e : EltTy} (src : View sig κ sp s e) (dst : View sig κ' sp' s e)
    (fs : src.ty.Contents Val) (fd out : dst.ty.Contents Val) (h : ∀ x, dst.read Val out x = src.read Val fs x) :
    ∀ i ∈ dst.set, dst.write Val fd (src.read Val fs) Finset.univ i = out i := by
  intro i hi
  obtain ⟨y, rfl⟩ := View.exists_emb_of_mem_set dst hi
  rw [View.write_emb_of_mem _ _ (Finset.mem_univ y), ← h y, View.read_apply, cast_cast, cast_eq]

/-- An array held whole is some disjoint parts of it held, and the rest. -/
theorem cut {ℓ : Loc nD τ sig} {q : PosShare TreeShare} {I : Type} (T : Finset I) (K : I → Finset (Idx ℓ))
    (h : ∀ t ∈ T, ∀ t' ∈ T, t ≠ t' → Disjoint (K t) (K t')) (f : Buf Val ℓ) :
    (ℓ ↦{q} f : sProp 𝕄) = iprop((bigSep T fun t => ℓ ↦[K t]{q} f) ∗ ℓ ↦[Finset.univ \ T.biUnion K]{q} f) := by
  rw [← pointsTo_biUnion T K h]
  exact equiv_iff.mp ⟨(pointsTo_split_subset (Finset.subset_univ (T.biUnion K))).1, (pointsTo_split_subset (Finset.subset_univ (T.biUnion K))).2⟩

end Landed

end Cert.Devices
-- ==== Proof.Share.lean ====
/- The exchange between the two cores of a chip that ends the reduce-scatter: every device keeps its half and sends it to
   its sibling, so that both hold the two halves in order. -/
module

public import proofs.«01_k».proof.Proof.Slabs
public import proofs.«01_k».proof.Proof.Gen.ShareIdeal.Skeleton
public import proofs.«01_k».proof.Proof.Gen.ShareIdeal.Launch

@[expose] public section

set_option Elab.async false

noncomputable section

namespace Cert.ShareIdeal.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.Devices Cert.Devices.Plan
open Cert.ShareIdeal.Gen

variable {F : FTy → Type} [FloatOps F]

local notation "𝕄" => MT nD τ sig Unit (Elt F) ℕ (UR sig nD τ) ℕ

/-! ## Who sends what -/

/-- The semaphores: of the transfer's source, of its arrival, of the copy a device makes for itself. -/
abbrev sent : DmaSem sig := 0
abbrev arrived : DmaSem sig := 1
abbrev copied : DmaSem sig := 2

/-- Semaphore `arrived` is credited by the sibling, the others by the device itself. -/
def plan : Plan nD sig where
  amt _ := (Memref.whole main_arg0).view.dmaCredit
  amt_pos _ := View.dmaCredit_pos _ (by decide)
  payer s c := if s = arrived then sibling c else c
  payer_payer s c := by by_cases h : s = arrived <;> simp only [h, if_true, if_false, sibling_sibling]
  recv := {arrived}
  level _ := 0

theorem payer_sent (c : Dev nD) : plan.payer sent c = c := rfl
theorem payer_copied (c : Dev nD) : plan.payer copied c = c := rfl
theorem payer_arrived (c : Dev nD) : plan.payer arrived c = sibling c := rfl

/-- Where the pieces of the result lie: a device's own half in the layer of its core, the sibling's in the other. -/
def layer (s : DmaSem sig) (c : Dev nD) : ℕ := if s = copied then c.val % 2 else 1 - c.val % 2
def piece (s : DmaSem sig) (c : Dev nD) : Finset (Idx (at_ τ main_v1 c)) := box 2 10224 1024 (layer s c) 0 10224

theorem pieces : Pieces (τ := τ) main_v1 {copied, arrived} piece where
  disjoint c s hs s' hs' hne := by
    refine Finset.disjoint_left.mpr fun i hi hi' => ?_
    have h := (mem_box.mp hi).1.symm.trans (mem_box.mp hi').1
    have hm := Nat.mod_lt c.val (show 0 < 2 by decide)
    simp only [Finset.mem_insert, Finset.mem_singleton] at hs hs'
    unfold layer at h
    rcases hs with rfl | rfl <;> rcases hs' with rfl | rfl
    · exact hne rfl
    · rw [if_pos rfl, if_neg (by decide)] at h; omega
    · rw [if_pos rfl, if_neg (by decide)] at h; omega
    · exact hne rfl
  cover c := by
    refine Finset.eq_univ_iff_forall.mpr fun (i : (⟨3, ![2, 10224, 1024]⟩ : Shape).Idx) => ?_
    have h0 : (i 0).val < 2 := (i 0).isLt
    have h1 : (i 1).val < 10224 := (i 1).isLt
    rw [Finset.mem_biUnion]
    by_cases h : (i 0).val = c.val % 2
    · exact ⟨copied, by simp, mem_box.mpr ⟨h, Nat.zero_le _, by omega⟩⟩
    · exact ⟨arrived, by simp, mem_box.mpr ⟨show (i 0).val = 1 - c.val % 2 by omega, Nat.zero_le _, by omega⟩⟩

variable (m : (ℓ : Loc nD τ sig) → Buf (Elt F) ℓ)

/-- The device whose half layer `k` of device `c`'s result is. -/
def owner (c : Dev nD) (k : ℕ) : Dev nD := if k = c.val % 2 then c else sibling c

/-- THE RESULT on device `c`: in layer `k` the half of the device of core `k`. -/
def out (c : Dev nD) : Buf (Elt F) (at_ τ main_v1 c) :=
  fun (i : (⟨3, ![2, 10224, 1024]⟩ : Shape).Idx) => m (at_ τ main_arg0 (owner c (i 0).val)) (ix2 (i 1 : Fin 10224) (i 2 : Fin 1024))

/-- What a semaphore's duty hands over. -/
def pay (c : Dev nD) (s : DmaSem sig) : sProp 𝕄 :=
  if s = sent then (at_ τ main_arg0 c ↦{PosShare.right fullShare} m (at_ τ main_arg0 c))
  else if s = arrived then (at_ τ main_v1 c ↦[piece arrived c]{fullShare} out m c)
  else iprop((at_ τ main_v1 c ↦[piece copied c]{fullShare} out m c) ∗ at_ τ main_arg0 c ↦{PosShare.left fullShare} m (at_ τ main_arg0 c))

instance (c : Dev nD) (s : DmaSem sig) : BI.Storable (upEmb : UEmb _ 𝕄) (pay m c s) := by
  unfold pay; split
  · infer_instance
  split <;> infer_instance

/-! ## The body's views -/

/-- A layer of the result, as the kernel addresses it. -/
abbrev layerAt (off : Fin 3 → ℕ) (inb : ∀ a, off a + S1x10224x1024.size a ≤ S2x10224x1024.size a) : Memref sig .tc .hbm S10224x1024 .f32 :=
  ((Memref.whole main_v1).slice (Rect.unit (s := S2x10224x1024) off S1x10224x1024.size inb) (fun _ => rfl)).squeeze S10224x1024 squeezes_S1x10224x1024_S10224x1024

theorem layerAt_amount (s t : DmaSem sig) (off : Fin 3 → ℕ) (inb) : (layerAt off inb).view.amount (.dma s) = plan.amt t := rfl
theorem layerAt_credit (t : DmaSem sig) (off : Fin 3 → ℕ) (inb) : (layerAt off inb).view.dmaCredit = plan.amt t := rfl
theorem half_credit (t : DmaSem sig) : (Memref.whole main_arg0).view.dmaCredit = plan.amt t := rfl

theorem layerAt_set (c : Dev nD) (s : DmaSem sig) (off : Fin 3 → ℕ) (inb) (h : off = ![layer s c, 0, 0]) :
    (layerAt off inb).view.set = piece s c := by
  refine (View.set_reshape _ _).trans ?_
  exact (View.set_slice_whole main_v1 _).trans (set_box h inb)

/-- A layer written with a device's half is the result's, on the device that keeps or receives it there. -/
theorem layerAt_landed (c n : Dev nD) (s : DmaSem sig) (off : Fin 3 → ℕ) (inb) (h : off = ![layer s n, 0, 0]) (hc : owner n (layer s n) = c)
    (fd : Buf (Elt F) (at_ τ main_v1 n)) :
    ((at_ τ main_v1 n) ↦[(layerAt off inb).view.set]{fullShare}
        ((layerAt off inb).view.write (Elt F) fd ((Memref.whole main_arg0).view.read (Elt F) (m (at_ τ main_arg0 c))) Finset.univ) : sProp 𝕄)
      = (at_ τ main_v1 n ↦[piece s n]{fullShare} out m n) := by
  rw [← layerAt_set n s off inb h]
  refine pointsTo_congr fun i hi => landed (Memref.whole main_arg0).view (layerAt off inb).view (m (at_ τ main_arg0 c)) fd (out m n) (fun x => ?_) i hi
  have hl : layer s n < 2 := by unfold layer; split <;> omega
  have hx : 0 + (x 0).val < 10224 := by have := (x 0).isLt; change (x 0).val < 10224 at this; omega
  show out m n ((Rect.unit (s := S2x10224x1024) off S1x10224x1024.size inb).emb (Shape.reshapeEquiv _ x)) = m (at_ τ main_arg0 c) x
  rw [show (Rect.unit (s := S2x10224x1024) off S1x10224x1024.size inb).emb (Shape.reshapeEquiv _ x) = _ from slab_index h inb _ x hl hx]
  subst hc
  refine congrArg (m (at_ τ main_arg0 (owner n (layer s n)))) ?_
  funext a
  match a with
  | 0 => exact Fin.ext (Nat.zero_add _)
  | 1 => rfl

/-- A device's half, as the kernel addresses it. -/
theorem half_eq (c : Dev nD) (q : PosShare TreeShare) (V : Buf (Elt F) (at_ τ main_arg0 c)) :
    ((Memref.whole main_arg0).view.loc (c.tc : Thread nD τ) ↦[(Memref.whole main_arg0).view.set]{q} V : sProp 𝕄) = (at_ τ main_arg0 c ↦{q} V) := by
  rw [show (Memref.whole main_arg0).view.set = Finset.univ from View.set_whole _]

theorem owner_self (c : Dev nD) : owner c (layer copied c) = c := if_pos (if_pos rfl)
theorem owner_sibling (c : Dev nD) : owner (sibling c) (layer arrived (sibling c)) = c := by
  have h : layer arrived (sibling c) ≠ (sibling c).val % 2 := by
    unfold layer; rw [if_neg (by decide)]; omega
  unfold owner; rw [if_neg h, sibling_sibling]

theorem off_mine (c : Dev nD) : k0_off1 c = ![layer copied c, 0, 0] := k0_off1_eq c
theorem off_theirs (c : Dev nD) : k0_off1 c = ![layer arrived (sibling c), 0, 0] := by
  rw [k0_off1_eq c]; unfold layer; rw [if_neg (by decide), sibling_mod, show 1 - (1 - c.val % 2) = c.val % 2 by omega]
theorem dev_eq (c : Dev nD) : (⟨k0_dev1 c, k0_dev1_lt c⟩ : Dev nD) = sibling c := Fin.ext (k0_dev1_eq c)

/-! ## What each semaphore hands over, from what a transfer leaves -/

theorem pay_sent (c : Dev nD) : pay m c sent = (at_ τ main_arg0 c ↦{PosShare.right fullShare} m (at_ τ main_arg0 c)) := rfl
theorem pay_arrived (c : Dev nD) : pay m c arrived = (at_ τ main_v1 c ↦[piece arrived c]{fullShare} out m c) := rfl
theorem pay_copied (c : Dev nD) : pay m c copied = iprop((at_ τ main_v1 c ↦[piece copied c]{fullShare} out m c) ∗ at_ τ main_arg0 c ↦{PosShare.left fullShare} m (at_ τ main_arg0 c)) := rfl

theorem gives_sent (c : Dev nD) :
    ((Memref.whole main_arg0).view.loc (c.tc : Thread nD τ) ↦[(Memref.whole main_arg0).view.set]{PosShare.right fullShare} m (at_ τ main_arg0 c) : sProp 𝕄)
      ⊢ pay m c sent := by
  rw [pay_sent]; exact Entails.of_eq (half_eq c _ _)

theorem gives_copied (c : Dev nD) :
    iprop(((layerAt (k0_off1 c) (k0_off1_inb c)).view.loc (c.tc : Thread nD τ) ↦[(layerAt (k0_off1 c) (k0_off1_inb c)).view.set]{fullShare}
          ((layerAt (k0_off1 c) (k0_off1_inb c)).view.write (Elt F) (m (at_ τ main_v1 c)) ((Memref.whole main_arg0).view.read (Elt F) (m (at_ τ main_arg0 c))) Finset.univ))
        ∗ ((Memref.whole main_arg0).view.loc (c.tc : Thread nD τ) ↦[(Memref.whole main_arg0).view.set]{PosShare.left fullShare} m (at_ τ main_arg0 c) : sProp 𝕄))
      ⊢ pay m c copied := by
  rw [pay_copied]
  exact BI.sep_mono (Entails.of_eq (layerAt_landed m c c copied _ _ (off_mine c) (owner_self c) _)) (Entails.of_eq (half_eq c _ _))

theorem gives_arrived (c n : Dev nD) (hn : n = sibling c) :
    ((layerAt (k0_off1 c) (k0_off1_inb c)).view.loc (n.tc : Thread nD τ) ↦[(layerAt (k0_off1 c) (k0_off1_inb c)).view.set]{fullShare}
          ((layerAt (k0_off1 c) (k0_off1_inb c)).view.write (Elt F) (m (at_ τ main_v1 n)) ((Memref.whole main_arg0).view.read (Elt F) (m (at_ τ main_arg0 c))) Finset.univ) : sProp 𝕄)
      ⊢ pay m n arrived := by
  subst hn
  rw [pay_arrived]
  exact Entails.of_eq (layerAt_landed m c (sibling c) arrived _ _ (off_theirs c) (owner_sibling c) _)

theorem routes_sibling (c : Dev nD) : τ.routes (c.tc : Thread nD τ) (Dev.tc (⟨k0_dev1 c, k0_dev1_lt c⟩ : Dev nD) : Thread nD τ) = true := by routes

/-! ## The body -/

/-- The kernel's body on a device, from the exchange not begun to every semaphore waited on. -/
theorem body (𝒱 : Variants) (K : Dev nD × DmaSem sig → ℕ) (c : Dev nD) :
    iprop(plan.state (pay m) K c Finset.univ Finset.univ plan.recv plan.recv ∗ (at_ τ main_arg0 c ↦{fullShare} m (at_ τ main_arg0 c))
        ∗ bigSep {copied, arrived} fun s => at_ τ main_v1 (plan.payer s c) ↦[piece s (plan.payer s c)]{fullShare} m (at_ τ main_v1 (plan.payer s c)))
      ⊢ wp frame (wpE defs₀ 𝒱 c none) Set.univ (cc0_rs_share_halves (F := F) (Memref.whole main_arg0) (Memref.isWhole_whole _) (Memref.whole main_v1) (Memref.isWhole_whole _) cc0_scratch0 cc0_scratch1 cc0_scratch2)
          fun _ => iprop(∃ T C, plan.state (pay m) K c T ∅ C ∅ ∗ (at_ τ main_arg0 c ↦{fullShare} m (at_ τ main_arg0 c))
            ∗ bigSep {copied, arrived} fun s => at_ τ main_v1 c ↦[piece s c]{fullShare} out m c) := by
  simp only [cc0_rs_share_halves_eq_skeleton]
  unfold cc0_rs_share_halves_skel
  simp only [k0_part1_eq_skeleton]
  unfold k0_part1_skel
  simp only [Prog.lift, Prog.bind_op, Prog.bind_ret, Prog.pure_eq_ret, wp_deviceId]
  rw [put_in (by decide), bigSep_singleton, put_in (by decide), bigSep_singleton,
    payer_copied, payer_arrived]
  iintro ⟨Hs, Ha, Hmine, Htheirs⟩
  ihave Ha := (pointsTo_share (PosShare.mem_left_op_right fullShare)).1 $$ Ha
  icases Ha with ⟨Hl, Hr⟩
  ihave Hl := (Entails.of_eq (half_eq c _ _).symm) $$ Hl
  ihave Hr := (Entails.of_eq (half_eq c _ _).symm) $$ Hr
  ihave Hmine := (Entails.of_eq (congrArg (fun S => (at_ τ main_v1 c ↦[S]{fullShare} m (at_ τ main_v1 c) : sProp 𝕄)) (layerAt_set c copied (k0_off1 c) (k0_off1_inb c) (off_mine c)).symm)) $$ Hmine
  ihave Htheirs := (Entails.of_eq (congrArg (fun S => (at_ τ main_v1 (sibling c) ↦[S]{fullShare} m (at_ τ main_v1 (sibling c)) : sProp 𝕄)) (layerAt_set (sibling c) arrived (k0_off1 c) (k0_off1_inb c) (off_theirs c)).symm)) $$ Htheirs
  rw [← dev_eq c]
  iapply (plan.wp_copy (pay m) 𝒱 none K c (src := Memref.whole main_arg0) (dst := layerAt (k0_off1 c) (k0_off1_inb c)) (sL := copied)
    (T := Finset.univ) (C := plan.recv) (payer_copied c) (Finset.mem_univ _) (by decide) (layerAt_amount _ _ _ _) (gives_copied m c)) $$ [Hs Hl Hmine]
  · isplitl [Hs]; · iexact Hs
    isplitl [Hl]; · iexact Hl
    iexact Hmine
  iintro Hs
  iapply (plan.wp_send (pay m) 𝒱 none K c (n := ⟨k0_dev1 c, k0_dev1_lt c⟩) (src := Memref.whole main_arg0) (dst := layerAt (k0_off1 c) (k0_off1_inb c)) (sS := sent) (sR := arrived)
    (T := Finset.univ.erase copied) (C := insert copied plan.recv) (S := plan.recv)
    ((payer_arrived c).trans (dev_eq c).symm) (payer_sent c) (by decide) (by decide) (by decide) (by decide) (layerAt_amount _ _ _ _) rfl
    (gives_sent m c) (gives_arrived m c _ (dev_eq c)) (routes_sibling c)) $$ [Hs Hr Htheirs]
  · isplitl [Hs]; · iexact Hs
    isplitl [Hr]; · iexact Hr
    iexact Htheirs
  iintro Hs
  iapply (plan.wp_wait (pay m) 𝒱 none K c (sm := arrived) (A := Finset.univ) (C := insert sent (insert copied plan.recv)) (S := plan.recv.erase arrived)
    (by decide) (by decide) (layerAt_credit _ _ _) (by decide)) $$ [Hs]
  · iexact Hs
  iintro ⟨Hs, Hin⟩
  iapply (plan.wp_wait (pay m) 𝒱 none K c (sm := sent) (A := Finset.univ.erase arrived) (C := (insert sent (insert copied plan.recv)).erase arrived) (S := plan.recv.erase arrived)
    (by decide) (by decide) (half_credit _) (by decide)) $$ [Hs]
  · iexact Hs
  iintro ⟨Hs, Hr⟩
  iapply (plan.wp_wait (pay m) 𝒱 none K c (sm := copied) (A := (Finset.univ.erase arrived).erase sent) (C := ((insert sent (insert copied plan.recv)).erase arrived).erase sent) (S := plan.recv.erase arrived)
    (by decide) (by decide) (layerAt_credit _ _ _) (by decide)) $$ [Hs]
  · iexact Hs
  iintro ⟨Hs, Hp⟩
  ihave Hin := (Entails.of_eq (pay_arrived m c)) $$ Hin
  ihave Hr := (Entails.of_eq (pay_sent m c)) $$ Hr
  ihave Hp := (Entails.of_eq (pay_copied m c)) $$ Hp
  icases Hp with ⟨Hmine, Hl⟩
  ihave Ha := (pointsTo_share (PosShare.mem_left_op_right fullShare)).2 $$ [Hl Hr]
  · isplitl [Hl]; · iexact Hl
    iexact Hr
  rw [wp_ret]
  imodintro
  iexists _, _
  isplitl [Hs]; · iexact Hs
  isplitl [Ha]; · iexact Ha
  isplitl [Hmine]; · iexact Hmine
  iexact Hin

/-! ## The run -/

/-- A run of the whole mesh: every device ends with the result in place, its half as it was and no semaphore credited. -/
theorem run_main (g : Dev nD → PrngReg) :
    θ_run (defs (F := F)) (onTc main) ⟨m, fun _ => 0, g⟩ fun r =>
      (∀ c, r.2.mem (at_ τ main_v1 c) = out m c ∧ r.2.mem (at_ τ main_arg0 c) = m (at_ τ main_arg0 c))
      ∧ ∀ g', (g'.1.2 ≠ .tc ∨ g'.2.isScoped .tc = true) → r.2.sem g' = 0 :=
  plan.run (pay m) pcfgs (fun q => (cfgs q).toPCfg_adm) 0 (by decide) defs₀ Variants.none (fun p => match p with | 0 => (inferInstance : IsEmpty (Fin 0))) N_0 (inferInstanceAs (IsEmpty (Fin 0))) (by decide) (by decide) pieces m g (out m) main (fun _ => rfl)
    (fun K c t => body m _ K c) (fun s h h' => ⟨h, h'⟩)

end Cert.ShareIdeal.Talk
-- ==== Proof.ShareClaims.lean ====
/- The claims of the last exchange, `Share`: its runs, on bits and on reals, from the one run of Share.lean; the run of its
   reference; and that what a device ends with is the reference's layers of its chip. -/
module

public import proofs.«01_k».proof.Defs
public import proofs.«01_k».proof.Proof.Share
public import proofs.«01_k».proof.Proof.Gen.Share
public import proofs.«01_k».proof.Proof.Gen.ShareRef
public import proofs.«01_k».proof.Proof.Gen.ShareRefIdeal
public import Idealize.ShloMosaic.Lib.Quiescent

@[expose] public section

set_option Elab.async false

noncomputable section

/-! ## The reference -/

namespace Cert.ShareRefIdeal.Whole

open Idealize.ShloMosaic Idealize.ShloMosaic.TcCoe Idealize.ShloMosaic.StableHlo Idealize.SL.Sem
open Cert.ShareRefIdeal.Gen

variable {F : FTy → Type} [FloatOps F]

/-- The reference's result: the rows cut into eight layers. -/
abbrev result (x : FVec F S81792x1024 .f32) : FVec F S8x10224x1024 .f32 := shapeCast S8x10224x1024 x shapeCasts_S81792x1024_S8x10224x1024

/-- Its one operation. -/
abbrev ops : List (HloOp τ sig (Elt F)) :=
  [reshape main_arg0 main_v0 (rfl : (.f32 : EltTy) = .f32) shapeCasts_S81792x1024_S8x10224x1024]

theorem main_eq (c : Dev nD) : main (F := F) c = seq ops := rfl
theorem result_eq (V : Valuation τ sig (Elt F)) : after ops V (main_v0 : DevRef τ sig) = result (V (main_arg0 : DevRef τ sig)) := by
  after_results
  rfl
theorem arg0_eq (V : Valuation τ sig (Elt F)) : after ops V (main_arg0 : DevRef τ sig) = V (main_arg0 : DevRef τ sig) := by
  after_results
theorem ops_sub : (ops : List (HloOp τ sig (Elt F))).Forall fun op => op.bufs ⊆ tcRefs τ sig := by
  simp only [List.Forall]
  exact reshape_bufs_sub ..

/-- The reference's run: `result` of the argument, the argument as it was, and no semaphore to be credited. -/
theorem run_main (m : (ℓ : Loc nD τ sig) → Buf (Elt F) ℓ) (g : Dev nD → PrngReg) :
    θ_run defs (onTc (τ := τ) (main (F := F))) ⟨m, fun _ => 0, g⟩ fun r =>
      (∀ c : Dev nD, r.2.mem ((c.tc : Thread nD τ).loc main_v0) = result (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun _ h => ⟨fun c => ⟨(h c main_v0).trans (result_eq _), (h c main_arg0).trans (arg0_eq _)⟩, sem_eq_zero_of_no_sems rfl _⟩)
    (run_seq (by decide) (by decide) defs main (fun _ => ops) main_eq (fun _ => ops_sub) m g)

end Cert.ShareRefIdeal.Whole

/-! ## The claims -/

namespace Cert.ShareIdeal.Talk

open Idealize.ShloMosaic Idealize.ShloMosaic.TcCoe Idealize.ShloMosaic.ValueIdx Idealize.SL.Sem
open Cert.Devices Cert.Devices.Plan

variable {F : FTy → Type} [FloatOps F]

/-- The layer-`k` owner of device `c`'s result is core `k` of its chip. -/
theorem owner_val (c : Dev nD) (k : ℕ) (hk : k < 2) : (owner c k).val = c.val / 2 * 2 + k := by
  revert c k; decide

/-- The block of the reference's layers that device `c` holds: its chip's, whole rows and columns. -/
abbrev chip (c : Dev nD) := Layout.meshBlock (r := 3) [2, 2, 2] ![[0, 1], [], []] c
theorem chip_val (c : Dev nD) : (chip c 0).val = c.val / 2 ∧ (chip c 1).val = 0 ∧ (chip c 2).val = 0 := by
  revert c; decide

/-- Device `c`'s result is the reference's two layers of its chip. -/
theorem out_block (m : (ℓ : Loc nD τ sig) → Buf (Elt F) ℓ) (x : FVec F ⟨2, ![81792, 1024]⟩ .f32)
    (hm : ∀ c : Dev nD, m (at_ τ main_arg0 c) = Layout.block ⟨2, ![10224, 1024]⟩ ⟨2, ![81792, 1024]⟩ 0 8 c x) (c : Dev nD) :
    out m c = Layout.blockN ⟨3, ![2, 10224, 1024]⟩ ⟨3, ![8, 10224, 1024]⟩ (Layout.meshBlock [2, 2, 2] ![[0, 1], [], []] c)
      (Cert.ShareRefIdeal.Whole.result x) := by
  funext (i : (⟨3, ![2, 10224, 1024]⟩ : Shape).Idx)
  have h0 : (i 0).val < 2 := (i 0).isLt
  unfold out
  rw [hm]
  refine congrArg x (Eq.symm (Shape.reshapeEquiv_eq_of_rowMajor _ ?_))
  rw [Shape.rowMajor_val_two, Shape.rowMajor_val_three]
  show ((owner c (i 0).val).val * 10224 + (i 1).val) * 1024 + (i 2).val
    = (((chip c 0).val * 2 + (i 0).val) * 10224 + ((chip c 1).val * 10224 + (i 1).val)) * 1024 + ((chip c 2).val * 1024 + (i 2).val)
  rw [owner_val c _ h0, (chip_val c).1, (chip_val c).2.1, (chip_val c).2.2]
  omega

/-- The program's run and the reference's, compared: over any float values. -/
theorem agree (m : (ℓ : Loc nD τ sig) → Buf (Elt F) ℓ) (g : Dev nD → PrngReg)
    (m' : (ℓ : Loc Cert.ShareRefIdeal.nD Cert.ShareRefIdeal.τ Cert.ShareRefIdeal.sig) → Buf (Elt F) ℓ) (g' : Dev Cert.ShareRefIdeal.nD → PrngReg)
    (hm : ∀ c : Dev nD, m (at_ τ main_arg0 c) = Layout.block ⟨2, ![10224, 1024]⟩ ⟨2, ![81792, 1024]⟩ 0 8 c
      (m' (((0 : Dev Cert.ShareRefIdeal.nD).tc : Thread Cert.ShareRefIdeal.nD Cert.ShareRefIdeal.τ).loc Cert.ShareRefIdeal.main_arg0))) :
    ∃ v0 : Buf (Elt F) (((0 : Dev Cert.ShareRefIdeal.nD).tc : Thread Cert.ShareRefIdeal.nD Cert.ShareRefIdeal.τ).loc Cert.ShareRefIdeal.main_v0),
      θ_run (defs (F := F)) (onTc (τ := τ) (main (F := F))) ⟨m, fun _ => 0, g⟩ (fun r => ∀ c : Dev nD,
          r.2.mem (at_ τ main_v1 c) = Layout.blockN ⟨3, ![2, 10224, 1024]⟩ ⟨3, ![8, 10224, 1024]⟩ (Layout.meshBlock [2, 2, 2] ![[0, 1], [], []] c) v0
          ∧ r.2.mem (at_ τ main_arg0 c) = m (at_ τ main_arg0 c))
      ∧ θ_run (Cert.ShareRefIdeal.defs (F := F)) (onTc (τ := Cert.ShareRefIdeal.τ) (Cert.ShareRefIdeal.main (F := F))) ⟨m', fun _ => 0, g'⟩ (fun r =>
          r.2.mem (((0 : Dev Cert.ShareRefIdeal.nD).tc : Thread Cert.ShareRefIdeal.nD Cert.ShareRefIdeal.τ).loc Cert.ShareRefIdeal.main_v0) = v0
          ∧ r.2.mem (((0 : Dev Cert.ShareRefIdeal.nD).tc : Thread Cert.ShareRefIdeal.nD Cert.ShareRefIdeal.τ).loc Cert.ShareRefIdeal.main_arg0)
            = m' (((0 : Dev Cert.ShareRefIdeal.nD).tc : Thread Cert.ShareRefIdeal.nD Cert.ShareRefIdeal.τ).loc Cert.ShareRefIdeal.main_arg0)) :=
  ⟨_, (θ_run defs _ _).mono (fun _ h c => ⟨(h.1 c).1.trans (out_block m _ hm c), (h.1 c).2⟩) (run_main m g),
    (θ_run Cert.ShareRefIdeal.defs _ _).mono (fun _ h => h.1 0) (Cert.ShareRefIdeal.Whole.run_main m' g')⟩

/-! ## The claims, on reals and on bits -/

theorem frame : Cert.quiescent_Share := fun m g _ =>
  (θ_run (defs (F := Bits)) _ _).mono (fun _ h => ⟨fun c => (h.1 c).2, sem_eq_zero_of_scoped (by decide) h.2⟩) (run_main (F := Bits) m g)
theorem frame_ideal : Cert.quiescent_ShareIdeal := fun m g _ =>
  (θ_run (defs (F := Ideal)) _ _).mono (fun _ h => ⟨fun c => (h.1 c).2, sem_eq_zero_of_scoped (by decide) h.2⟩) (run_main (F := Ideal) m g)
theorem frame_ref : Cert.quiescent_ShareRef := fun m g _ =>
  (θ_run (Cert.ShareRefIdeal.defs (F := Bits)) _ _).mono (fun _ h => ⟨fun c => (h.1 c).2, h.2⟩) (Cert.ShareRefIdeal.Whole.run_main (F := Bits) m g)
theorem frame_refIdeal : Cert.quiescent_ShareRefIdeal := fun m g _ =>
  (θ_run (Cert.ShareRefIdeal.defs (F := Ideal)) _ _).mono (fun _ h => ⟨fun c => (h.1 c).2, h.2⟩) (Cert.ShareRefIdeal.Whole.run_main (F := Ideal) m g)

theorem algebraic : Cert.algebraic_ShareIdeal_ShareRefIdeal := fun m g m' g' _ hm => agree (F := Ideal) m g m' g' hm
theorem bitexact : Cert.bitexact_Share_ShareRef := fun m g m' g' _ hm => agree (F := Bits) m g m' g' hm

end Cert.ShareIdeal.Talk
-- ==== Proof.Steps.lean ====
/- A device's progress through an exchange, by two sets of semaphores: those whose transfers it has begun, `D`, and those
   it has waited on, `W`. -/
module

public import proofs.«01_k».proof.Proof.Cells

@[expose] public section

noncomputable section

namespace Cert.Devices.Plan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds

variable {nD : Nat} {τ : Topo} {sig : RefSig} {Val : EltTy → Type} {Λ : Idealize.SL.Sem.Labels} {α : Type}
variable {sp sp' : Space} {s : Shape} {e : EltTy}

variable (P : Plan nD sig) (pay : Dev nD → DmaSem sig → sProp (MT nD τ sig Unit Val ℕ (UR sig nD τ) ℕ))
variable [hst : ∀ c s, BI.Storable (upEmb : UEmb _ (MT nD τ sig Unit Val ℕ (UR sig nD τ) ℕ)) (pay c s)]
variable {defs : Defs nD τ sig Val Λ} (𝒱 : Variants) (bd : Option 𝒱.V)
variable {Q : α → sProp (MT nD τ sig Unit Val ℕ (UR sig nD τ) ℕ)} (K : Dev nD × DmaSem sig → ℕ) (c : Dev nD)
variable {D W : Finset (DmaSem sig)} {keep : DmaSem sig → sProp (MT nD τ sig Unit Val ℕ (UR sig nD τ) ℕ)}

/-- What device `c` holds when the transfers of `D` are begun and the semaphores of `W` waited on: its part of the
    protocol, and what it keeps of what those semaphores handed over. -/
def prog (keep : DmaSem sig → sProp (MT nD τ sig Unit Val ℕ (UR sig nD τ) ℕ)) (K : Dev nD × DmaSem sig → ℕ) (c : Dev nD) (D W : Finset (DmaSem sig)) : sProp (MT nD τ sig Unit Val ℕ (UR sig nD τ) ℕ) :=
  iprop(P.state pay K c Dᶜ Wᶜ ((P.recv ∪ D) \ W) (P.recv \ D) ∗ bigSep W keep)

/-- Nothing begun. -/
theorem prog_start : P.state pay K c Finset.univ Finset.univ P.recv P.recv ⊢ P.prog pay keep K c ∅ ∅ := by
  unfold prog
  rw [Finset.compl_empty, Finset.union_empty, Finset.sdiff_empty, BI.bigSep_empty]
  exact Entails.of_eq (equiv_iff.mp BI.sep_emp).symm

/-- Everything waited on. -/
theorem prog_end (hD : P.recv \ D = ∅) (hW : W = Finset.univ) :
    P.prog pay keep K c D W ⊢ iprop((∃ T C, P.state pay K c T ∅ C ∅) ∗ bigSep Finset.univ keep) := by
  unfold prog
  rw [hD, hW, Finset.compl_univ]
  iintro ⟨H, HW⟩
  isplitl [H]
  · iexists _, _; iexact H
  iexact HW

/-- A copy begun. -/
theorem prog_copy {src : Memref sig .tc sp s e} {dst : Memref sig (Proc.tc : Proc τ).kind sp' s e} {sL : DmaSem sig}
    {hsrc : src.view.WordExact} {hdst : dst.view.WordExact} {hsem : DmaTarget.Typed (nD := nD) sp (.dma sL) (.here dst)}
    {k : PUnit → Prog (TpuEff nD τ sig Val Λ .tc) α} {q : PosShare TreeShare}
    {fs : Buf Val (src.view.loc (c.tc : Thread nD τ))} {fd : Buf Val (dst.view.loc (c.tc : Thread nD τ))}
    (hc : P.payer sL c = c) (hL : sL ∉ D) (hr : sL ∉ P.recv) (hN : dst.view.amount (.dma sL) = P.amt sL)
    (hpay : iprop((dst.view.loc (c.tc : Thread nD τ) ↦[dst.view.set]{fullShare} (dst.view.write Val fd (src.view.read Val fs) Finset.univ))
      ∗ (src.view.loc (c.tc : Thread nD τ) ↦[src.view.set]{q} fs)) ⊢ pay c sL) :
    iprop(P.prog pay keep K c D ∅ ∗ (src.view.loc (c.tc : Thread nD τ) ↦[src.view.set]{q} fs) ∗ (dst.view.loc (c.tc : Thread nD τ) ↦[dst.view.set]{fullShare} fd))
      ⊢ iprop((P.prog pay keep K c (insert sL D) ∅ -∗ wp frame (wpE defs 𝒱 (c.tc : Thread nD τ) bd) Set.univ (k ⟨⟩) Q)
          -∗ wp frame (wpE defs 𝒱 (c.tc : Thread nD τ) bd) Set.univ (.op (.enqueueDma src (.here dst) (.dma sL) hsrc hdst hsem) k) Q) := by
  unfold prog
  iintro ⟨⟨Hs, HW⟩, Hsrc, Hdst⟩ Hk
  iapply (P.wp_copy pay 𝒱 bd K c hc (T := Dᶜ) (C := (P.recv ∪ D) \ ∅) (by simpa using hL) (by simp [hL, hr]) hN hpay) $$ [Hs Hsrc Hdst]
  · isplitl [Hs]; · iexact Hs
    isplitl [Hsrc]; · iexact Hsrc
    iexact Hdst
  rw [show Dᶜ.erase sL = (insert sL D)ᶜ by ext x; simp, show insert sL ((P.recv ∪ D) \ ∅) = (P.recv ∪ insert sL D) \ ∅ by ext x; simp,
    show P.recv \ D = P.recv \ insert sL D by ext x; simp; rintro h _ rfl; exact hr h]
  iintro Hs
  iapply Hk
  isplitl [Hs]; · iexact Hs
  iexact HW

/-- A transfer to another device begun. -/
theorem prog_send {n : Dev nD} {src : Memref sig .tc sp s e} {dst : Memref sig (Dev.tc n : Thread nD τ).2.kind sp' s e} {hsc : dst.view.ref.isScScratch = false}
    {sS sR : DmaSem sig} {hsrc : src.view.WordExact} {hdst : dst.view.WordExact}
    {hsem : DmaTarget.Typed sp (.dma sR) (.remote (Dev.tc n : Thread nD τ) dst (.dma sS) hsc)}
    {k : PUnit → Prog (TpuEff nD τ sig Val Λ .tc) α} {q : PosShare TreeShare}
    {fs : Buf Val (src.view.loc (c.tc : Thread nD τ))} {fd : Buf Val (dst.view.loc (n.tc : Thread nD τ))}
    (hn : P.payer sR c = n) (hc : P.payer sS c = c) (hS : sS ∉ D) (hR : sR ∉ D) (hO : sR ∈ P.recv) (hC : sS ∉ P.recv) (hW : sS ∉ W)
    (hN : dst.view.amount (.dma sR) = P.amt sR) (hNS : P.amt sS = P.amt sR)
    (hpayS : (src.view.loc (c.tc : Thread nD τ) ↦[src.view.set]{q} fs) ⊢ pay c sS)
    (hpayR : (dst.view.loc (n.tc : Thread nD τ) ↦[dst.view.set]{fullShare} (dst.view.write Val fd (src.view.read Val fs) Finset.univ)) ⊢ pay n sR)
    (hr : τ.routes (c.tc : Thread nD τ) (n.tc : Thread nD τ) = true) :
    iprop(P.prog pay keep K c D W ∗ (src.view.loc (c.tc : Thread nD τ) ↦[src.view.set]{q} fs) ∗ (dst.view.loc (n.tc : Thread nD τ) ↦[dst.view.set]{fullShare} fd))
      ⊢ iprop((P.prog pay keep K c (insert sR (insert sS D)) W -∗ wp frame (wpE defs 𝒱 (c.tc : Thread nD τ) bd) Set.univ (k ⟨⟩) Q)
          -∗ wp frame (wpE defs 𝒱 (c.tc : Thread nD τ) bd) Set.univ
              (.op (.enqueueDma src (.remote (Dev.tc n : Thread nD τ) dst (.dma sS) hsc) (.dma sR) hsrc hdst hsem) k) Q) := by
  have hne : sR ≠ sS := fun h => hC (h ▸ hO)
  unfold prog
  iintro ⟨⟨Hs, HW⟩, Hsrc, Hdst⟩ Hk
  iapply (P.wp_send pay 𝒱 bd K c hn hc (T := Dᶜ) (C := (P.recv ∪ D) \ W) (S := P.recv \ D) (by simpa using hS) (by simp [hR, hne]) (by simp [hO, hR]) (by simp [hS, hC])
    hN hNS hpayS hpayR hr) $$ [Hs Hsrc Hdst]
  · isplitl [Hs]; · iexact Hs
    isplitl [Hsrc]; · iexact Hsrc
    iexact Hdst
  rw [show (Dᶜ.erase sS).erase sR = (insert sR (insert sS D))ᶜ by ext x; simp,
    show insert sS ((P.recv ∪ D) \ W) = (P.recv ∪ insert sR (insert sS D)) \ W by
      ext x; simp only [Finset.mem_insert, Finset.mem_sdiff, Finset.mem_union]
      constructor
      · rintro (rfl | ⟨h | h, h'⟩)
        · exact ⟨by tauto, hW⟩
        · exact ⟨by tauto, h'⟩
        · exact ⟨by tauto, h'⟩
      · rintro ⟨h | rfl | rfl | h, h'⟩
        · exact Or.inr ⟨Or.inl h, h'⟩
        · exact Or.inr ⟨Or.inl hO, h'⟩
        · exact Or.inl rfl
        · exact Or.inr ⟨Or.inr h, h'⟩,
    show (P.recv \ D).erase sR = P.recv \ insert sR (insert sS D) by
      ext x; simp only [Finset.mem_erase, Finset.mem_insert, Finset.mem_sdiff]
      constructor
      · rintro ⟨h1, h2, h3⟩
        exact ⟨h2, by rintro (rfl | rfl | h); exacts [h1 rfl, hC h2, h3 h]⟩
      · rintro ⟨h1, h2⟩
        exact ⟨fun h => h2 (Or.inl h), h1, fun h => h2 (Or.inr (Or.inr h))⟩]
  iintro Hs
  iapply Hk
  isplitl [Hs]; · iexact Hs
  iexact HW

/-- A semaphore waited on: what it hands over is kept, or at hand. -/
theorem prog_wait {κ' : Kind} {s' : Shape} {e' : EltTy} {sm : DmaSem sig} {src : Memref sig .tc sp' s' e'} {dst : Memref sig κ' sp s e}
    {hsrc : src.view.WordExact} {hdst : dst.view.WordExact} {k : PUnit → Prog (TpuEff nD τ sig Val Λ .tc) α} {X : sProp (MT nD τ sig Unit Val ℕ (UR sig nD τ) ℕ)}
    (hW : sm ∉ W) (hC : sm ∈ P.recv ∪ D) (hN : dst.view.dmaCredit = P.amt sm) (hlev : ∀ s' ∈ P.recv \ D, P.level sm < P.level s')
    (hkeep : pay c sm ⊢ iprop(keep sm ∗ X)) :
    P.prog pay keep K c D W
      ⊢ iprop((iprop(P.prog pay keep K c D (insert sm W) ∗ X) -∗ wp frame (wpE defs 𝒱 (c.tc : Thread nD τ) bd) Set.univ (k ⟨⟩) Q)
          -∗ wp frame (wpE defs 𝒱 (c.tc : Thread nD τ) bd) Set.univ (.op (.waitDma2 sm src dst hsrc hdst) k) Q) := by
  unfold prog
  iintro ⟨Hs, HW⟩ Hk
  iapply (P.wp_wait pay 𝒱 bd K c (A := Wᶜ) (C := (P.recv ∪ D) \ W) (S := P.recv \ D) (by simpa using hW) (Finset.mem_sdiff.mpr ⟨hC, hW⟩) hN hlev) $$ [Hs]
  · iexact Hs
  rw [show Wᶜ.erase sm = (insert sm W)ᶜ by ext x; simp, show ((P.recv ∪ D) \ W).erase sm = (P.recv ∪ D) \ insert sm W by ext x; simp; tauto, put_in hW]
  iintro ⟨Hs, Hp⟩
  ihave Hp := hkeep $$ Hp
  icases Hp with ⟨Hp, HX⟩
  iapply Hk
  isplitr [HX]
  · isplitl [Hs]; · iexact Hs
    isplitl [Hp]; · iexact Hp
    iexact HW
  iexact HX

/-! ## The same by positions

Semaphores numbered by when their transfers are begun, `f`, and by when they are waited on, `g`: at `i` and `j` a device
has begun the transfers below `i` and waited on the semaphores below `j`. -/

/-- The semaphores numbered below `n`. -/
def below (f : DmaSem sig → ℕ) (n : ℕ) : Finset (DmaSem sig) := Finset.univ.filter fun s => f s < n

theorem mem_below {f : DmaSem sig → ℕ} {n : ℕ} {x : DmaSem sig} : x ∈ below f n ↔ f x < n := by
  unfold below; rw [Finset.mem_filter]; exact ⟨fun h => h.2, fun h => ⟨Finset.mem_univ _, h⟩⟩
theorem below_zero (f : DmaSem sig → ℕ) : below f 0 = ∅ :=
  Finset.eq_empty_iff_forall_notMem.mpr fun x h => Nat.not_lt_zero _ (mem_below.mp h)
/-- The one semaphore numbered `n` put to those below. -/
theorem insert_below {f : DmaSem sig → ℕ} {n : ℕ} {x : DmaSem sig} (h : ∀ y, f y = n ↔ y = x) : insert x (below f n) = below f (n + 1) := by
  ext y
  rw [Finset.mem_insert, mem_below, mem_below, Nat.lt_succ_iff_lt_or_eq, h, or_comm]
/-- The two numbered `n` put to those below. -/
theorem insert_below_two {f : DmaSem sig → ℕ} {n : ℕ} {x x' : DmaSem sig} (h : ∀ y, f y = n ↔ y = x ∨ y = x') :
    insert x (insert x' (below f n)) = below f (n + 1) := by
  ext y
  rw [Finset.mem_insert, Finset.mem_insert, mem_below, mem_below, Nat.lt_succ_iff_lt_or_eq, h]
  tauto

variable {f g : DmaSem sig → ℕ} {i j : ℕ}

/-- A device's progress, by positions. -/
abbrev at_step (keep : DmaSem sig → sProp (MT nD τ sig Unit Val ℕ (UR sig nD τ) ℕ)) (f g : DmaSem sig → ℕ) (K : Dev nD × DmaSem sig → ℕ) (c : Dev nD) (i j : ℕ) : sProp (MT nD τ sig Unit Val ℕ (UR sig nD τ) ℕ) :=
  P.prog pay keep K c (below f i) (below g j)

theorem step_start : P.state pay K c Finset.univ Finset.univ P.recv P.recv ⊢ P.at_step pay keep f g K c 0 0 := by
  unfold at_step
  rw [below_zero, below_zero]
  exact P.prog_start pay K c (keep := keep)

theorem step_end (hf : ∀ s, f s < i) (hg : ∀ s, g s < j) :
    P.at_step pay keep f g K c i j ⊢ iprop((∃ T C, P.state pay K c T ∅ C ∅) ∗ bigSep Finset.univ keep) :=
  P.prog_end pay K c (Finset.sdiff_eq_empty_iff_subset.mpr fun x _ => mem_below.mpr (hf x)) (Finset.eq_univ_iff_forall.mpr fun x => mem_below.mpr (hg x))

/-- The first copy begun. -/
theorem step_copy {src : Memref sig .tc sp s e} {dst : Memref sig (Proc.tc : Proc τ).kind sp' s e} {sL : DmaSem sig}
    {hsrc : src.view.WordExact} {hdst : dst.view.WordExact} {hsem : DmaTarget.Typed (nD := nD) sp (.dma sL) (.here dst)}
    {k : PUnit → Prog (TpuEff nD τ sig Val Λ .tc) α} {q : PosShare TreeShare}
    {fs : Buf Val (src.view.loc (c.tc : Thread nD τ))} {fd : Buf Val (dst.view.loc (c.tc : Thread nD τ))}
    (hi : ∀ y, f y = i ↔ y = sL) (hc : P.payer sL c = c) (hr : sL ∉ P.recv) (hN : dst.view.amount (.dma sL) = P.amt sL)
    (hpay : iprop((dst.view.loc (c.tc : Thread nD τ) ↦[dst.view.set]{fullShare} (dst.view.write Val fd (src.view.read Val fs) Finset.univ))
      ∗ (src.view.loc (c.tc : Thread nD τ) ↦[src.view.set]{q} fs)) ⊢ pay c sL) :
    iprop(P.at_step pay keep f g K c i 0 ∗ (src.view.loc (c.tc : Thread nD τ) ↦[src.view.set]{q} fs) ∗ (dst.view.loc (c.tc : Thread nD τ) ↦[dst.view.set]{fullShare} fd))
      ⊢ iprop((P.at_step pay keep f g K c (i + 1) 0 -∗ wp frame (wpE defs 𝒱 (c.tc : Thread nD τ) bd) Set.univ (k ⟨⟩) Q)
          -∗ wp frame (wpE defs 𝒱 (c.tc : Thread nD τ) bd) Set.univ (.op (.enqueueDma src (.here dst) (.dma sL) hsrc hdst hsem) k) Q) := by
  unfold at_step
  rw [below_zero, ← insert_below hi]
  exact P.prog_copy pay 𝒱 bd K c hc (fun h => absurd ((hi sL).mpr rfl) (Nat.ne_of_lt (mem_below.mp h))) hr hN hpay

/-- The next transfer begun. -/
theorem step_send {n : Dev nD} {src : Memref sig .tc sp s e} {dst : Memref sig (Dev.tc n : Thread nD τ).2.kind sp' s e} {hsc : dst.view.ref.isScScratch = false}
    {sS sR : DmaSem sig} {hsrc : src.view.WordExact} {hdst : dst.view.WordExact}
    {hsem : DmaTarget.Typed sp (.dma sR) (.remote (Dev.tc n : Thread nD τ) dst (.dma sS) hsc)}
    {k : PUnit → Prog (TpuEff nD τ sig Val Λ .tc) α} {q : PosShare TreeShare}
    {fs : Buf Val (src.view.loc (c.tc : Thread nD τ))} {fd : Buf Val (dst.view.loc (n.tc : Thread nD τ))}
    (hi : ∀ y, f y = i ↔ y = sR ∨ y = sS) (hj : j ≤ g sS)
    (hn : P.payer sR c = n) (hc : P.payer sS c = c) (hO : sR ∈ P.recv) (hC : sS ∉ P.recv)
    (hN : dst.view.amount (.dma sR) = P.amt sR) (hNS : P.amt sS = P.amt sR)
    (hpayS : (src.view.loc (c.tc : Thread nD τ) ↦[src.view.set]{q} fs) ⊢ pay c sS)
    (hpayR : (dst.view.loc (n.tc : Thread nD τ) ↦[dst.view.set]{fullShare} (dst.view.write Val fd (src.view.read Val fs) Finset.univ)) ⊢ pay n sR)
    (hr : τ.routes (c.tc : Thread nD τ) (n.tc : Thread nD τ) = true) :
    iprop(P.at_step pay keep f g K c i j ∗ (src.view.loc (c.tc : Thread nD τ) ↦[src.view.set]{q} fs) ∗ (dst.view.loc (n.tc : Thread nD τ) ↦[dst.view.set]{fullShare} fd))
      ⊢ iprop((P.at_step pay keep f g K c (i + 1) j -∗ wp frame (wpE defs 𝒱 (c.tc : Thread nD τ) bd) Set.univ (k ⟨⟩) Q)
          -∗ wp frame (wpE defs 𝒱 (c.tc : Thread nD τ) bd) Set.univ
              (.op (.enqueueDma src (.remote (Dev.tc n : Thread nD τ) dst (.dma sS) hsc) (.dma sR) hsrc hdst hsem) k) Q) := by
  unfold at_step
  rw [← insert_below_two hi]
  exact P.prog_send pay 𝒱 bd K c hn hc (fun h => absurd ((hi sS).mpr (Or.inr rfl)) (Nat.ne_of_lt (mem_below.mp h)))
    (fun h => absurd ((hi sR).mpr (Or.inl rfl)) (Nat.ne_of_lt (mem_below.mp h))) hO hC (fun h => absurd hj (Nat.not_le_of_lt (mem_below.mp h))) hN hNS hpayS hpayR hr

/-- The next semaphore waited on. -/
theorem step_take {κ' : Kind} {s' : Shape} {e' : EltTy} {sm : DmaSem sig} {src : Memref sig .tc sp' s' e'} {dst : Memref sig κ' sp s e}
    {hsrc : src.view.WordExact} {hdst : dst.view.WordExact} {k : PUnit → Prog (TpuEff nD τ sig Val Λ .tc) α} {X : sProp (MT nD τ sig Unit Val ℕ (UR sig nD τ) ℕ)}
    (hj : ∀ y, g y = j ↔ y = sm) (hC : sm ∈ P.recv ∨ f sm < i) (hN : dst.view.dmaCredit = P.amt sm) (hlev : ∀ s' ∈ P.recv, i ≤ f s' → P.level sm < P.level s')
    (hkeep : pay c sm ⊢ iprop(keep sm ∗ X)) :
    P.at_step pay keep f g K c i j
      ⊢ iprop((iprop(P.at_step pay keep f g K c i (j + 1) ∗ X) -∗ wp frame (wpE defs 𝒱 (c.tc : Thread nD τ) bd) Set.univ (k ⟨⟩) Q)
          -∗ wp frame (wpE defs 𝒱 (c.tc : Thread nD τ) bd) Set.univ (.op (.waitDma2 sm src dst hsrc hdst) k) Q) := by
  unfold at_step
  rw [← insert_below hj]
  exact P.prog_wait pay 𝒱 bd K c (fun h => absurd ((hj sm).mpr rfl) (Nat.ne_of_lt (mem_below.mp h)))
    (Finset.mem_union.mpr (hC.imp_right mem_below.mpr)) hN
    (fun x hx => hlev x (Finset.mem_sdiff.mp hx).1 (Nat.not_lt.mp fun h => (Finset.mem_sdiff.mp hx).2 (mem_below.mpr h))) hkeep

/-- The next semaphore waited on, and all that it hands over kept. -/
theorem step_wait {κ' : Kind} {s' : Shape} {e' : EltTy} {sm : DmaSem sig} {src : Memref sig .tc sp' s' e'} {dst : Memref sig κ' sp s e}
    {hsrc : src.view.WordExact} {hdst : dst.view.WordExact} {k : PUnit → Prog (TpuEff nD τ sig Val Λ .tc) α}
    (hj : ∀ y, g y = j ↔ y = sm) (hC : sm ∈ P.recv ∨ f sm < i) (hN : dst.view.dmaCredit = P.amt sm) (hlev : ∀ s' ∈ P.recv, i ≤ f s' → P.level sm < P.level s')
    (hkeep : pay c sm ⊢ keep sm) :
    P.at_step pay keep f g K c i j
      ⊢ iprop((P.at_step pay keep f g K c i (j + 1) -∗ wp frame (wpE defs 𝒱 (c.tc : Thread nD τ) bd) Set.univ (k ⟨⟩) Q)
          -∗ wp frame (wpE defs 𝒱 (c.tc : Thread nD τ) bd) Set.univ (.op (.waitDma2 sm src dst hsrc hdst) k) Q) := by
  iintro Hs Hk
  iapply (P.step_take pay 𝒱 bd K c hj hC hN hlev (X := iprop(emp)) (hkeep.trans (Entails.of_eq (equiv_iff.mp BI.sep_emp).symm))) $$ [Hs]
  · iexact Hs
  iintro ⟨Hs, -⟩
  iapply Hk
  iexact Hs

end Cert.Devices.Plan
-- ==== Proof.Exchange.lean ====
/- The exchange between the chips that opens the reduce-scatter: every device sends each of its three peers the slab of that
   peer's chip, and receives from each the slab of its own. -/
module

public import proofs.«01_k».proof.Proof.Slabs
public import proofs.«01_k».proof.Proof.Steps
public import proofs.«01_k».proof.Proof.Gen.ExchangeIdeal.Skeleton
public import proofs.«01_k».proof.Proof.Gen.ExchangeIdeal.Launch

@[expose] public section

set_option Elab.async false

noncomputable section

namespace Cert.ExchangeIdeal.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.Devices Cert.Devices.Plan
open Cert.ExchangeIdeal.Gen

variable {F : FTy → Type} [FloatOps F]

local notation "𝕄" => MT nD τ sig Unit (Elt F) ℕ (UR sig nD τ) ℕ

/-! ## Who sends what -/

/-- The semaphores of the transfer to the `kk`-th peer: of its source here, and of the arrival of the one from that peer. -/
abbrev sent (kk : Fin 3) : DmaSem sig := ⟨kk.val, Nat.lt_of_lt_of_le kk.isLt (by decide)⟩
abbrev arrived (kk : Fin 3) : DmaSem sig := ⟨3 + kk.val, Nat.add_lt_add_left kk.isLt 3⟩
/-- The peer a semaphore is about. -/
def which (s : DmaSem sig) : Fin 3 := ⟨s.val % 3, Nat.mod_lt _ (by decide)⟩

/-- When a semaphore's transfer is begun, and when it is waited on: the transfers peer by peer; first the arrivals, then the
    sources. -/
def begun (s : DmaSem sig) : ℕ := (which s).val
def waited (s : DmaSem sig) : ℕ := if s.val < 3 then 3 + s.val else s.val - 3
theorem begun_iff : ∀ kk : Fin 3, ∀ y, begun y = kk.val ↔ y = arrived kk ∨ y = sent kk := by decide
theorem waited_sent : ∀ kk : Fin 3, ∀ y, waited y = 3 + kk.val ↔ y = sent kk := by decide
theorem waited_arrived : ∀ kk : Fin 3, ∀ y, waited y = kk.val ↔ y = arrived kk := by decide
theorem begun_lt : ∀ y, begun y < 3 := by decide
theorem waited_lt : ∀ y, waited y < 6 := by decide

theorem which_sent : ∀ kk, which (sent kk) = kk := by decide
theorem which_arrived : ∀ kk, which (arrived kk) = kk := by decide

/-- A slab of a device's array, as the kernel addresses it. -/
abbrev srcAt (off : Fin 3 → ℕ) (inb : ∀ a, off a + S1x10224x1024.size a ≤ S4x10224x1024.size a) : Memref sig .tc .hbm S10224x1024 .bf16 :=
  ((Memref.whole main_arg0).slice (Rect.unit (s := S4x10224x1024) off S1x10224x1024.size inb) (fun _ => rfl)).squeeze S10224x1024 squeezes_S1x10224x1024_S10224x1024
/-- A layer of the result. -/
abbrev dstAt (off : Fin 3 → ℕ) (inb : ∀ a, off a + S1x10224x1024.size a ≤ S3x10224x1024.size a) : Memref sig .tc .hbm S10224x1024 .bf16 :=
  ((Memref.whole main_v1).slice (Rect.unit (s := S3x10224x1024) off S1x10224x1024.size inb) (fun _ => rfl)).squeeze S10224x1024 squeezes_S1x10224x1024_S10224x1024

/-- The semaphores of arrivals are credited by the peers, those of sources by the device itself. -/
def plan : Plan nD sig where
  amt _ := (dstAt ![0, 0, 0] inb_S3x10224x1024_S1x10224x1024_0_0_0).view.dmaCredit
  amt_pos _ := View.dmaCredit_pos _ (by decide)
  payer s c := if s.val < 3 then c else peer (which s) c
  payer_payer s c := by by_cases h : s.val < 3 <;> simp only [h, if_true, if_false, peer_peer]
  recv := {arrived 0, arrived 1, arrived 2}
  level _ := 0

theorem payer_sent (kk : Fin 3) (c : Dev nD) : plan.payer (sent kk) c = c := if_pos kk.isLt
theorem payer_arrived (kk : Fin 3) (c : Dev nD) : plan.payer (arrived kk) c = peer kk c :=
  (if_neg (by simp)).trans (by rw [which_arrived])
theorem recv_arrived (kk : Fin 3) : arrived kk ∈ plan.recv := by revert kk; decide
theorem recv_sent (kk : Fin 3) : sent kk ∉ plan.recv := by revert kk; decide

/-- Where a layer of the result lies, and the slab that goes to a peer. -/
def piece (s : DmaSem sig) (c : Dev nD) : Finset (Idx (at_ τ main_v1 c)) := box 3 10224 1024 (which s).val 0 10224
def slab (kk : Fin 3) (c : Dev nD) : Finset (Idx (at_ τ main_arg0 c)) := box 4 10224 1024 (chipOf (peer kk c)).val 0 10224

theorem pieces : Pieces (τ := τ) main_v1 plan.recv piece where
  disjoint c s hs s' hs' hne := by
    refine Finset.disjoint_left.mpr fun i hi hi' => ?_
    have h := (mem_box.mp hi).1.symm.trans (mem_box.mp hi').1
    clear hi hi'
    revert s s'
    decide
  cover c := by
    refine Finset.eq_univ_iff_forall.mpr fun (i : (⟨3, ![3, 10224, 1024]⟩ : Shape).Idx) => ?_
    have h1 : (i 1).val < 10224 := (i 1).isLt
    exact Finset.mem_biUnion.mpr ⟨arrived (i 0), recv_arrived (i 0), mem_box.mpr ⟨congrArg Fin.val (which_arrived (i 0)).symm, Nat.zero_le _, by omega⟩⟩

theorem slabs (c : Dev nD) (kk : Fin 3) (kk' : Fin 3) (h : kk ≠ kk') : Disjoint (slab kk c) (slab kk' c) :=
  Finset.disjoint_left.mpr fun i hi hi' =>
    chipOf_peer_ne kk kk' c h (Fin.ext ((mem_box.mp hi).1.symm.trans (mem_box.mp hi').1))

variable (m : (ℓ : Loc nD τ sig) → Buf (Elt F) ℓ)

/-- THE RESULT on device `c`: in layer `kk` the slab of `c`'s chip on its `kk`-th peer. -/
def out (c : Dev nD) : Buf (Elt F) (at_ τ main_v1 c) :=
  fun (i : (⟨3, ![3, 10224, 1024]⟩ : Shape).Idx) => m (at_ τ main_arg0 (peer (i 0) c)) (ix3 (chipOf c) (i 1 : Fin 10224) (i 2 : Fin 1024))

/-- What a semaphore's duty hands over. -/
def pay (c : Dev nD) (s : DmaSem sig) : sProp 𝕄 :=
  if s.val < 3 then (at_ τ main_arg0 c ↦[slab (which s) c]{fullShare} m (at_ τ main_arg0 c))
  else (at_ τ main_v1 c ↦[piece s c]{fullShare} out m c)

instance (c : Dev nD) (s : DmaSem sig) : BI.Storable (upEmb : UEmb _ 𝕄) (pay m c s) := by
  unfold pay; split <;> infer_instance

theorem pay_sent (kk : Fin 3) (c : Dev nD) : pay m c (sent kk) = (at_ τ main_arg0 c ↦[slab kk c]{fullShare} m (at_ τ main_arg0 c)) :=
  (if_pos kk.isLt).trans (by rw [which_sent])
theorem pay_arrived (kk : Fin 3) (c : Dev nD) : pay m c (arrived kk) = (at_ τ main_v1 c ↦[piece (arrived kk) c]{fullShare} out m c) :=
  if_neg (by simp)

/-! ## The body's views -/

theorem dstAt_amount (s t : DmaSem sig) (off : Fin 3 → ℕ) (inb) : (dstAt off inb).view.amount (.dma s) = plan.amt t := rfl
theorem dstAt_credit (t : DmaSem sig) (off : Fin 3 → ℕ) (inb) : (dstAt off inb).view.dmaCredit = plan.amt t := rfl
theorem srcAt_credit (t : DmaSem sig) (off : Fin 3 → ℕ) (inb) : (srcAt off inb).view.dmaCredit = plan.amt t := rfl

theorem srcAt_set (c : Dev nD) (kk : Fin 3) (off : Fin 3 → ℕ) (inb) (h : off = ![(chipOf (peer kk c)).val, 0, 0]) :
    (srcAt off inb).view.set = slab kk c := by
  refine (View.set_reshape _ _).trans ?_
  exact (View.set_slice_whole main_arg0 _).trans (set_box h inb)
theorem dstAt_set (n : Dev nD) (kk : Fin 3) (off : Fin 3 → ℕ) (inb) (h : off = ![kk.val, 0, 0]) :
    (dstAt off inb).view.set = piece (arrived kk) n := by
  refine (View.set_reshape _ _).trans ?_
  exact (View.set_slice_whole main_v1 _).trans ((set_box h inb).trans (by unfold piece; rw [which_arrived]))

/-- A layer written with the slab a device sends its peer is the peer's result there. -/
theorem landed_piece (c : Dev nD) (kk : Fin 3) (off : Fin 3 → ℕ) (inb) (h : off = ![(chipOf (peer kk c)).val, 0, 0])
    (off' : Fin 3 → ℕ) (inb') (h' : off' = ![kk.val, 0, 0]) (fd : Buf (Elt F) (at_ τ main_v1 (peer kk c))) :
    ((at_ τ main_v1 (peer kk c)) ↦[(dstAt off' inb').view.set]{fullShare}
        ((dstAt off' inb').view.write (Elt F) fd ((srcAt off inb).view.read (Elt F) (m (at_ τ main_arg0 c))) Finset.univ) : sProp 𝕄)
      = (at_ τ main_v1 (peer kk c) ↦[piece (arrived kk) (peer kk c)]{fullShare} out m (peer kk c)) := by
  rw [← dstAt_set (peer kk c) kk off' inb' h']
  refine pointsTo_congr fun i hi => landed (srcAt off inb).view (dstAt off' inb').view (m (at_ τ main_arg0 c)) fd (out m (peer kk c)) (fun x => ?_) i hi
  have hx : 0 + (x 0).val < 10224 := by have := (x 0).isLt; change (x 0).val < 10224 at this; omega
  show out m (peer kk c) ((Rect.unit (s := S3x10224x1024) off' S1x10224x1024.size inb').emb (Shape.reshapeEquiv _ x))
    = m (at_ τ main_arg0 c) ((Rect.unit (s := S4x10224x1024) off S1x10224x1024.size inb).emb (Shape.reshapeEquiv _ x))
  rw [show (Rect.unit (s := S3x10224x1024) off' S1x10224x1024.size inb').emb (Shape.reshapeEquiv _ x) = _ from slab_index h' inb' _ x kk.isLt hx,
    show (Rect.unit (s := S4x10224x1024) off S1x10224x1024.size inb).emb (Shape.reshapeEquiv _ x) = _ from slab_index h inb _ x (chipOf (peer kk c)).isLt hx]
  show m (at_ τ main_arg0 (peer kk (peer kk c))) _ = _
  rw [peer_peer]
  rfl

theorem routes_peer (kk : Fin 3) (c : Dev nD) : τ.routes (c.tc : Thread nD τ) ((peer kk c).tc : Thread nD τ) = true := by
  revert kk c; decide

/-- The devices and offsets the kernel computes. -/
theorem dev1_eq (c : Dev nD) : (⟨k0_dev1 c, k0_dev1_lt c⟩ : Dev nD) = peer 0 c := Fin.ext ((k0_dev1_eq c).trans (by revert c; decide))
theorem dev2_eq (c : Dev nD) : (⟨k0_dev2 c, k0_dev2_lt c⟩ : Dev nD) = peer 1 c := Fin.ext ((k0_dev2_eq c).trans (by revert c; decide))
theorem dev3_eq (c : Dev nD) : (⟨k0_dev3 c, k0_dev3_lt c⟩ : Dev nD) = peer 2 c := Fin.ext ((k0_dev3_eq c).trans (by revert c; decide))
theorem off1_eq (c : Dev nD) : k0_off1 c = ![(chipOf (peer 0 c)).val, 0, 0] := (k0_off1_eq c).trans (by revert c; decide)
theorem off2_eq (c : Dev nD) : k0_off2 c = ![(chipOf (peer 1 c)).val, 0, 0] := (k0_off2_eq c).trans (by revert c; decide)
theorem off3_eq (c : Dev nD) : k0_off3 c = ![(chipOf (peer 2 c)).val, 0, 0] := (k0_off3_eq c).trans (by revert c; decide)

/-! ## The steps -/

variable {α : Type} {Q : α → sProp (MT nD τ sig Unit (Elt F) ℕ (UR sig nD τ) ℕ)} (𝒱 : Variants) (K : Dev nD × DmaSem sig → ℕ) (c : Dev nD)

/-- The transfer to the `kk`-th peer begun: the slab and the peer's layer go with it. -/
theorem send (kk : Fin 3) {off : Fin 3 → ℕ} {inb : ∀ a, off a + S1x10224x1024.size a ≤ S4x10224x1024.size a} (h : off = ![(chipOf (peer kk c)).val, 0, 0])
    {off' : Fin 3 → ℕ} {inb' : ∀ a, off' a + S1x10224x1024.size a ≤ S3x10224x1024.size a} (h' : off' = ![kk.val, 0, 0])
    {n : Dev nD} (hn : n = peer kk c) {hsc : (dstAt off' inb').view.ref.isScScratch = false}
    {hsrc : (srcAt off inb).view.WordExact} {hdst : (dstAt off' inb').view.WordExact}
    {hsem : DmaTarget.Typed .hbm (.dma (arrived kk)) (.remote (Dev.tc n : Thread nD τ) (dstAt off' inb') (.dma (sent kk)) hsc)}
    {k : PUnit → Prog (TpuEff nD τ sig (Elt F) Λ₀ .tc) α} :
    iprop(plan.at_step (pay m) (pay m c) begun waited K c kk.val 0 ∗ (at_ τ main_arg0 c ↦[slab kk c]{fullShare} m (at_ τ main_arg0 c))
        ∗ (at_ τ main_v1 (peer kk c) ↦[piece (arrived kk) (peer kk c)]{fullShare} m (at_ τ main_v1 (peer kk c))))
      ⊢ iprop((plan.at_step (pay m) (pay m c) begun waited K c (kk.val + 1) 0 -∗ wp frame (wpE defs₀ 𝒱 (c.tc : Thread nD τ) none) Set.univ (k ⟨⟩) Q)
          -∗ wp frame (wpE defs₀ 𝒱 (c.tc : Thread nD τ) none) Set.univ
              (.op (.enqueueDma (srcAt off inb) (.remote (Dev.tc n : Thread nD τ) (dstAt off' inb') (.dma (sent kk)) hsc) (.dma (arrived kk)) hsrc hdst hsem) k) Q) := by
  subst hn
  have hpS : ((srcAt off inb).view.loc (c.tc : Thread nD τ) ↦[(srcAt off inb).view.set]{fullShare} m (at_ τ main_arg0 c) : sProp 𝕄) ⊢ pay m c (sent kk) := by
    rw [pay_sent, ← srcAt_set c kk off inb h]
  have hpR := Entails.of_eq ((landed_piece m c kk off inb h off' inb' h' (m (at_ τ main_v1 (peer kk c)))).trans (pay_arrived m kk (peer kk c)).symm)
  rw [← dstAt_set (peer kk c) kk off' inb' h', ← srcAt_set c kk off inb h]
  exact plan.step_send (pay m) 𝒱 none K c (src := srcAt off inb) (dst := dstAt off' inb') (sS := sent kk) (sR := arrived kk)
    (begun_iff kk) (Nat.zero_le _) (payer_arrived kk c) (payer_sent kk c) (recv_arrived kk) (recv_sent kk) (dstAt_amount _ _ _ _) rfl
    hpS hpR (routes_peer kk c)

/-- A semaphore waited on, all transfers begun. -/
theorem await (j : ℕ) (s : DmaSem sig) (hj : ∀ y, waited y = j ↔ y = s) {κ' : Kind} {sp sp' : Space} {t t' : Shape} {e e' : EltTy}
    {src : Memref sig .tc sp' t' e'} {dst : Memref sig κ' sp t e} {hsrc : src.view.WordExact} {hdst : dst.view.WordExact}
    {k : PUnit → Prog (TpuEff nD τ sig (Elt F) Λ₀ .tc) α} (hN : dst.view.dmaCredit = plan.amt s) :
    plan.at_step (pay m) (pay m c) begun waited K c 3 j
      ⊢ iprop((plan.at_step (pay m) (pay m c) begun waited K c 3 (j + 1) -∗ wp frame (wpE defs₀ 𝒱 (c.tc : Thread nD τ) none) Set.univ (k ⟨⟩) Q)
          -∗ wp frame (wpE defs₀ 𝒱 (c.tc : Thread nD τ) none) Set.univ (.op (.waitDma2 s src dst hsrc hdst) k) Q) :=
  plan.step_wait (pay m) 𝒱 none K c hj (Or.inr (begun_lt s)) hN (fun s' _ h => absurd h (Nat.not_le_of_lt (begun_lt s'))) .rfl

/-! ## The body -/

/-- The kernel's body on a device, from the exchange not begun to every semaphore waited on. -/
theorem body :
    iprop(plan.state (pay m) K c Finset.univ Finset.univ plan.recv plan.recv ∗ (at_ τ main_arg0 c ↦{fullShare} m (at_ τ main_arg0 c))
        ∗ bigSep plan.recv fun s => at_ τ main_v1 (plan.payer s c) ↦[piece s (plan.payer s c)]{fullShare} m (at_ τ main_v1 (plan.payer s c)))
      ⊢ wp frame (wpE defs₀ 𝒱 c none) Set.univ (cc0_rs_exchange_chips (F := F) (Memref.whole main_arg0) (Memref.isWhole_whole _) (Memref.whole main_v1) (Memref.isWhole_whole _) cc0_scratch0 cc0_scratch1)
          fun _ => iprop(∃ T C, plan.state (pay m) K c T ∅ C ∅ ∗ (at_ τ main_arg0 c ↦{fullShare} m (at_ τ main_arg0 c))
            ∗ bigSep plan.recv fun s => at_ τ main_v1 c ↦[piece s c]{fullShare} out m c) := by
  simp only [cc0_rs_exchange_chips_eq_skeleton]
  unfold cc0_rs_exchange_chips_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  rw [cut Finset.univ (fun kk => slab kk c) (fun kk _ kk' _ h => slabs c kk kk' h)]
  have hsrc (Φ : Fin 3 → sProp 𝕄) : bigSep Finset.univ Φ = iprop(Φ 0 ∗ Φ 1 ∗ Φ 2) := by
    rw [show (Finset.univ : Finset (Fin 3)) = {0, 1, 2} from rfl, put_in (by decide), put_in (by decide), bigSep_singleton]
  have hdst (Φ : DmaSem sig → sProp 𝕄) : bigSep plan.recv Φ = iprop(Φ (arrived 0) ∗ Φ (arrived 1) ∗ Φ (arrived 2)) := by
    unfold plan; rw [put_in (by decide), put_in (by decide), bigSep_singleton]
  rw [hsrc, hdst, hdst, payer_arrived, payer_arrived, payer_arrived]
  iintro ⟨Hs, ⟨⟨Ha0, Ha1, Ha2⟩, Ha⟩, Ho0, Ho1, Ho2⟩
  ihave Hs := (plan.step_start (pay m) K c (keep := pay m c) (f := begun) (g := waited)) $$ Hs
  iapply (send m 𝒱 K c 0 (off1_eq c) rfl (dev1_eq c)) $$ [Hs Ha0 Ho0]
  · isplitl [Hs]; · iexact Hs
    isplitl [Ha0]; · iexact Ha0
    iexact Ho0
  iintro Hs
  iapply (send m 𝒱 K c 1 (off2_eq c) rfl (dev2_eq c)) $$ [Hs Ha1 Ho1]
  · isplitl [Hs]; · iexact Hs
    isplitl [Ha1]; · iexact Ha1
    iexact Ho1
  iintro Hs
  iapply (send m 𝒱 K c 2 (off3_eq c) rfl (dev3_eq c)) $$ [Hs Ha2 Ho2]
  · isplitl [Hs]; · iexact Hs
    isplitl [Ha2]; · iexact Ha2
    iexact Ho2
  iintro Hs
  iapply (await m 𝒱 K c 0 (arrived 0) (waited_arrived 0) (dstAt_credit _ _ _)) $$ [Hs]
  · iexact Hs
  iintro Hs
  iapply (await m 𝒱 K c 1 (arrived 1) (waited_arrived 1) (dstAt_credit _ _ _)) $$ [Hs]
  · iexact Hs
  iintro Hs
  iapply (await m 𝒱 K c 2 (arrived 2) (waited_arrived 2) (dstAt_credit _ _ _)) $$ [Hs]
  · iexact Hs
  iintro Hs
  iapply (await m 𝒱 K c 3 (sent 0) (waited_sent 0) (srcAt_credit _ _ _)) $$ [Hs]
  · iexact Hs
  iintro Hs
  iapply (await m 𝒱 K c 4 (sent 1) (waited_sent 1) (srcAt_credit _ _ _)) $$ [Hs]
  · iexact Hs
  iintro Hs
  iapply (await m 𝒱 K c 5 (sent 2) (waited_sent 2) (srcAt_credit _ _ _)) $$ [Hs]
  · iexact Hs
  iintro Hs
  ihave Hs := (plan.step_end (pay m) K c begun_lt waited_lt) $$ Hs
  icases Hs with ⟨⟨%T, %C, Hs⟩, Hp⟩
  have hall : (Finset.univ : Finset (DmaSem sig)) = {sent 0, sent 1, sent 2, arrived 0, arrived 1, arrived 2} := by decide
  have hpay : bigSep Finset.univ (pay m c) = iprop(pay m c (sent 0) ∗ pay m c (sent 1) ∗ pay m c (sent 2) ∗ pay m c (arrived 0) ∗ pay m c (arrived 1) ∗ pay m c (arrived 2)) := by
    rw [hall, put_in (by decide), put_in (by decide), put_in (by decide), put_in (by decide), put_in (by decide), bigSep_singleton]
  simp only [pay_sent, pay_arrived] at hpay
  ihave Hp := (Entails.of_eq hpay) $$ Hp
  icases Hp with ⟨Ha0, Ha1, Ha2, Ho0, Ho1, Ho2⟩
  rw [wp_ret]
  imodintro
  iexists T, C
  isplitl [Hs]; · iexact Hs
  isplitl [Ha Ha0 Ha1 Ha2]
  · isplitr [Ha]
    · isplitl [Ha0]; · iexact Ha0
      isplitl [Ha1]; · iexact Ha1
      iexact Ha2
    iexact Ha
  isplitl [Ho0]; · iexact Ho0
  isplitl [Ho1]; · iexact Ho1
  iexact Ho2

/-! ## The run -/

/-- A run of the whole mesh: every device ends with the result in place, its array as it was and no semaphore credited. -/
theorem run_main (g : Dev nD → PrngReg) :
    θ_run (defs (F := F)) (onTc main) ⟨m, fun _ => 0, g⟩ fun r =>
      (∀ c, r.2.mem (at_ τ main_v1 c) = out m c ∧ r.2.mem (at_ τ main_arg0 c) = m (at_ τ main_arg0 c))
      ∧ ∀ g', (g'.1.2 ≠ .tc ∨ g'.2.isScoped .tc = true) → r.2.sem g' = 0 :=
  plan.run (pay m) pcfgs (fun q => (cfgs q).toPCfg_adm) 0 (by decide) defs₀ Variants.none (fun p => match p with | 0 => (inferInstance : IsEmpty (Fin 0))) N_0 (inferInstanceAs (IsEmpty (Fin 0))) (by decide) (by decide) pieces m g (out m) main (fun _ => rfl)
    (fun K c t => body m _ K c) (fun s h h' => ⟨h, h'⟩)

end Cert.ExchangeIdeal.Talk
-- ==== Proof.ExchangeClaims.lean ====
/- The claims of the exchange between the chips: its runs, on bits and on reals, from the one run of Exchange.lean; the run of
   its reference; and that what a device ends with is its block of the reference's result. -/
module

public import proofs.«01_k».proof.Defs
public import proofs.«01_k».proof.Proof.Exchange
public import proofs.«01_k».proof.Proof.Gen.Exchange
public import proofs.«01_k».proof.Proof.Gen.ExchangeRef
public import proofs.«01_k».proof.Proof.Gen.ExchangeRefIdeal
public import Idealize.ShloMosaic.Lib.Quiescent

@[expose] public section

set_option Elab.async false

noncomputable section

/-! ## The reference -/

namespace Cert.ExchangeRefIdeal.Whole

open Idealize.ShloMosaic Idealize.ShloMosaic.TcCoe Idealize.ShloMosaic.StableHlo Idealize.ShloMosaic.ValueIdx Idealize.SL.Sem
open Cert.ExchangeRefIdeal.Gen Cert.Devices

variable {F : FTy → Type} [FloatOps F]

theorem slices (k : Fin 32) : S32x10224x1024.Slices ![k.val, 0, 0] S1x10224x1024 := by revert k; decide

/-- Slab `k` of the 32. -/
abbrev layer (k : Fin 32) (x : FVec F S32x10224x1024 .bf16) : FVec F S1x10224x1024 .bf16 := extractStridedSlice S1x10224x1024 ![k.val, 0, 0] x (slices k)
/-- Three slabs in order, and eight such triples in order. -/
abbrev join (a b c : FVec F S1x10224x1024 .bf16) : FVec F S3x10224x1024 .bf16 :=
  concatenate S3x10224x1024 0 [⟨S1x10224x1024, a⟩, ⟨S1x10224x1024, b⟩, ⟨S1x10224x1024, c⟩] concatenates_S1x10224x1024_S1x10224x1024_S1x10224x1024_S3x10224x1024_d0
abbrev joinAll (a0 a1 a2 a3 a4 a5 a6 a7 : FVec F S3x10224x1024 .bf16) : FVec F S24x10224x1024 .bf16 :=
  concatenate S24x10224x1024 0 [⟨S3x10224x1024, a0⟩, ⟨S3x10224x1024, a1⟩, ⟨S3x10224x1024, a2⟩, ⟨S3x10224x1024, a3⟩, ⟨S3x10224x1024, a4⟩, ⟨S3x10224x1024, a5⟩, ⟨S3x10224x1024, a6⟩, ⟨S3x10224x1024, a7⟩]
    concatenates_S3x10224x1024_S3x10224x1024_S3x10224x1024_S3x10224x1024_S3x10224x1024_S3x10224x1024_S3x10224x1024_S3x10224x1024_S24x10224x1024_d0

/-- The slab device `d` receives from its `kk`-th peer: of that peer's four, the one of `d`'s chip. -/
def src (d : Fin 8) (kk : Fin 3) : Fin 32 := ⟨4 * (peer kk d).val + (chipOf d).val, by have := (peer kk d).isLt; have := (chipOf d).isLt; omega⟩
/-- What device `d` receives, and the reference's result: what every device receives. -/
abbrev received (x : FVec F S32x10224x1024 .bf16) (d : Fin 8) : FVec F S3x10224x1024 .bf16 :=
  concatenate S3x10224x1024 0 (List.ofFn fun kk : Fin 3 => ⟨S1x10224x1024, layer (src d kk) x⟩) concatenates_S1x10224x1024_S1x10224x1024_S1x10224x1024_S3x10224x1024_d0
abbrev result (x : FVec F S32x10224x1024 .bf16) : FVec F S24x10224x1024 .bf16 :=
  concatenate S24x10224x1024 0 (List.ofFn fun d : Fin 8 => ⟨S3x10224x1024, received x d⟩)
    concatenates_S3x10224x1024_S3x10224x1024_S3x10224x1024_S3x10224x1024_S3x10224x1024_S3x10224x1024_S3x10224x1024_S3x10224x1024_S24x10224x1024_d0

/-- Its operations. -/
abbrev ops : List (HloOp τ sig (Elt F)) :=
  [unary main_arg0 main_v0 (layer 16 : (⟨S32x10224x1024, .bf16⟩ : BufTy).Contents (Elt F) → (⟨S1x10224x1024, .bf16⟩ : BufTy).Contents (Elt F)),
    unary main_arg0 main_v1 (layer 8 : (⟨S32x10224x1024, .bf16⟩ : BufTy).Contents (Elt F) → (⟨S1x10224x1024, .bf16⟩ : BufTy).Contents (Elt F)),
    unary main_arg0 main_v2 (layer 24 : (⟨S32x10224x1024, .bf16⟩ : BufTy).Contents (Elt F) → (⟨S1x10224x1024, .bf16⟩ : BufTy).Contents (Elt F)),
    nary ![main_v0, main_v1, main_v2] main_v3 (fun u => (join (u 0) (u 1) (u 2) : (⟨S3x10224x1024, .bf16⟩ : BufTy).Contents (Elt F))),
    unary main_arg0 main_v4 (layer 20 : (⟨S32x10224x1024, .bf16⟩ : BufTy).Contents (Elt F) → (⟨S1x10224x1024, .bf16⟩ : BufTy).Contents (Elt F)),
    unary main_arg0 main_v5 (layer 12 : (⟨S32x10224x1024, .bf16⟩ : BufTy).Contents (Elt F) → (⟨S1x10224x1024, .bf16⟩ : BufTy).Contents (Elt F)),
    unary main_arg0 main_v6 (layer 28 : (⟨S32x10224x1024, .bf16⟩ : BufTy).Contents (Elt F) → (⟨S1x10224x1024, .bf16⟩ : BufTy).Contents (Elt F)),
    nary ![main_v4, main_v5, main_v6] main_v7 (fun u => (join (u 0) (u 1) (u 2) : (⟨S3x10224x1024, .bf16⟩ : BufTy).Contents (Elt F))),
    unary main_arg0 main_v8 (layer 25 : (⟨S32x10224x1024, .bf16⟩ : BufTy).Contents (Elt F) → (⟨S1x10224x1024, .bf16⟩ : BufTy).Contents (Elt F)),
    unary main_arg0 main_v9 (layer 1 : (⟨S32x10224x1024, .bf16⟩ : BufTy).Contents (Elt F) → (⟨S1x10224x1024, .bf16⟩ : BufTy).Contents (Elt F)),
    unary main_arg0 main_v10 (layer 17 : (⟨S32x10224x1024, .bf16⟩ : BufTy).Contents (Elt F) → (⟨S1x10224x1024, .bf16⟩ : BufTy).Contents (Elt F)),
    nary ![main_v8, main_v9, main_v10] main_v11 (fun u => (join (u 0) (u 1) (u 2) : (⟨S3x10224x1024, .bf16⟩ : BufTy).Contents (Elt F))),
    unary main_arg0 main_v12 (layer 29 : (⟨S32x10224x1024, .bf16⟩ : BufTy).Contents (Elt F) → (⟨S1x10224x1024, .bf16⟩ : BufTy).Contents (Elt F)),
    unary main_arg0 main_v13 (layer 5 : (⟨S32x10224x1024, .bf16⟩ : BufTy).Contents (Elt F) → (⟨S1x10224x1024, .bf16⟩ : BufTy).Contents (Elt F)),
    unary main_arg0 main_v14 (layer 21 : (⟨S32x10224x1024, .bf16⟩ : BufTy).Contents (Elt F) → (⟨S1x10224x1024, .bf16⟩ : BufTy).Contents (Elt F)),
    nary ![main_v12, main_v13, main_v14] main_v15 (fun u => (join (u 0) (u 1) (u 2) : (⟨S3x10224x1024, .bf16⟩ : BufTy).Contents (Elt F))),
    unary main_arg0 main_v16 (layer 2 : (⟨S32x10224x1024, .bf16⟩ : BufTy).Contents (Elt F) → (⟨S1x10224x1024, .bf16⟩ : BufTy).Contents (Elt F)),
    unary main_arg0 main_v17 (layer 26 : (⟨S32x10224x1024, .bf16⟩ : BufTy).Contents (Elt F) → (⟨S1x10224x1024, .bf16⟩ : BufTy).Contents (Elt F)),
    unary main_arg0 main_v18 (layer 10 : (⟨S32x10224x1024, .bf16⟩ : BufTy).Contents (Elt F) → (⟨S1x10224x1024, .bf16⟩ : BufTy).Contents (Elt F)),
    nary ![main_v16, main_v17, main_v18] main_v19 (fun u => (join (u 0) (u 1) (u 2) : (⟨S3x10224x1024, .bf16⟩ : BufTy).Contents (Elt F))),
    unary main_arg0 main_v20 (layer 6 : (⟨S32x10224x1024, .bf16⟩ : BufTy).Contents (Elt F) → (⟨S1x10224x1024, .bf16⟩ : BufTy).Contents (Elt F)),
    unary main_arg0 main_v21 (layer 30 : (⟨S32x10224x1024, .bf16⟩ : BufTy).Contents (Elt F) → (⟨S1x10224x1024, .bf16⟩ : BufTy).Contents (Elt F)),
    unary main_arg0 main_v22 (layer 14 : (⟨S32x10224x1024, .bf16⟩ : BufTy).Contents (Elt F) → (⟨S1x10224x1024, .bf16⟩ : BufTy).Contents (Elt F)),
    nary ![main_v20, main_v21, main_v22] main_v23 (fun u => (join (u 0) (u 1) (u 2) : (⟨S3x10224x1024, .bf16⟩ : BufTy).Contents (Elt F))),
    unary main_arg0 main_v24 (layer 11 : (⟨S32x10224x1024, .bf16⟩ : BufTy).Contents (Elt F) → (⟨S1x10224x1024, .bf16⟩ : BufTy).Contents (Elt F)),
    unary main_arg0 main_v25 (layer 19 : (⟨S32x10224x1024, .bf16⟩ : BufTy).Contents (Elt F) → (⟨S1x10224x1024, .bf16⟩ : BufTy).Contents (Elt F)),
    unary main_arg0 main_v26 (layer 3 : (⟨S32x10224x1024, .bf16⟩ : BufTy).Contents (Elt F) → (⟨S1x10224x1024, .bf16⟩ : BufTy).Contents (Elt F)),
    nary ![main_v24, main_v25, main_v26] main_v27 (fun u => (join (u 0) (u 1) (u 2) : (⟨S3x10224x1024, .bf16⟩ : BufTy).Contents (Elt F))),
    unary main_arg0 main_v28 (layer 15 : (⟨S32x10224x1024, .bf16⟩ : BufTy).Contents (Elt F) → (⟨S1x10224x1024, .bf16⟩ : BufTy).Contents (Elt F)),
    unary main_arg0 main_v29 (layer 23 : (⟨S32x10224x1024, .bf16⟩ : BufTy).Contents (Elt F) → (⟨S1x10224x1024, .bf16⟩ : BufTy).Contents (Elt F)),
    unary main_arg0 main_v30 (layer 7 : (⟨S32x10224x1024, .bf16⟩ : BufTy).Contents (Elt F) → (⟨S1x10224x1024, .bf16⟩ : BufTy).Contents (Elt F)),
    nary ![main_v28, main_v29, main_v30] main_v31 (fun u => (join (u 0) (u 1) (u 2) : (⟨S3x10224x1024, .bf16⟩ : BufTy).Contents (Elt F))),
    nary ![main_v3, main_v7, main_v11, main_v15, main_v19, main_v23, main_v27, main_v31] main_v32 (fun u => (joinAll (u 0) (u 1) (u 2) (u 3) (u 4) (u 5) (u 6) (u 7) : (⟨S24x10224x1024, .bf16⟩ : BufTy).Contents (Elt F)))]

theorem main_eq (c : Dev nD) : main (F := F) c = seq ops := rfl
theorem result_eq (V : Valuation τ sig (Elt F)) : after ops V (main_v32 : DevRef τ sig) = result (V (main_arg0 : DevRef τ sig)) := by
  after_results
  rfl
theorem arg0_eq (V : Valuation τ sig (Elt F)) : after ops V (main_arg0 : DevRef τ sig) = V (main_arg0 : DevRef τ sig) := by
  after_results
theorem ops_sub : (ops : List (HloOp τ sig (Elt F))).Forall fun op => op.bufs ⊆ tcRefs τ sig := by
  simp only [List.Forall]
  exact ⟨unary_bufs_sub .., unary_bufs_sub .., unary_bufs_sub .., nary_bufs_sub ..,
    unary_bufs_sub .., unary_bufs_sub .., unary_bufs_sub .., nary_bufs_sub ..,
    unary_bufs_sub .., unary_bufs_sub .., unary_bufs_sub .., nary_bufs_sub ..,
    unary_bufs_sub .., unary_bufs_sub .., unary_bufs_sub .., nary_bufs_sub ..,
    unary_bufs_sub .., unary_bufs_sub .., unary_bufs_sub .., nary_bufs_sub ..,
    unary_bufs_sub .., unary_bufs_sub .., unary_bufs_sub .., nary_bufs_sub ..,
    unary_bufs_sub .., unary_bufs_sub .., unary_bufs_sub .., nary_bufs_sub ..,
    unary_bufs_sub .., unary_bufs_sub .., unary_bufs_sub .., nary_bufs_sub .., nary_bufs_sub ..⟩

/-- The reference's run: `result` of the argument, the argument as it was, and no semaphore to be credited. -/
theorem run_main (m : (ℓ : Loc nD τ sig) → Buf (Elt F) ℓ) (g : Dev nD → PrngReg) :
    θ_run defs (onTc (τ := τ) (main (F := F))) ⟨m, fun _ => 0, g⟩ fun r =>
      (∀ c : Dev nD, r.2.mem ((c.tc : Thread nD τ).loc main_v32) = result (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun _ h => ⟨fun c => ⟨(h c main_v32).trans (result_eq _), (h c main_arg0).trans (arg0_eq _)⟩, sem_eq_zero_of_no_sems rfl _⟩)
    (run_seq (by decide) (by decide) defs main (fun _ => ops) main_eq (fun _ => ops_sub) m g)

end Cert.ExchangeRefIdeal.Whole

/-! ## The claims -/

namespace Cert.ExchangeIdeal.Talk

open Idealize.ShloMosaic Idealize.ShloMosaic.TcCoe Idealize.ShloMosaic.ValueIdx Idealize.SL.Sem
open Cert.Devices Cert.Devices.Plan

variable {F : FTy → Type} [FloatOps F]

/-- Device `c`'s result is its block of the reference's. -/
theorem out_block (m : (ℓ : Loc nD τ sig) → Buf (Elt F) ℓ) (x : FVec F ⟨3, ![32, 10224, 1024]⟩ .bf16)
    (hm : ∀ c : Dev nD, m (at_ τ main_arg0 c) = Layout.block ⟨3, ![4, 10224, 1024]⟩ ⟨3, ![32, 10224, 1024]⟩ 0 8 c x) (c : Dev nD) :
    out m c = Layout.block ⟨3, ![3, 10224, 1024]⟩ ⟨3, ![24, 10224, 1024]⟩ 0 8 c (Cert.ExchangeRefIdeal.Whole.result x) := by
  refine Eq.trans ?_ (Layout.block_concatenate_ofFn (s₁ := ⟨3, ![3, 10224, 1024]⟩) (t := ⟨3, ![24, 10224, 1024]⟩) 0 (Cert.ExchangeRefIdeal.Whole.received x) _ (by decide) c).symm
  funext (i : (⟨3, ![3, 10224, 1024]⟩ : Shape).Idx)
  refine Eq.trans ?_ (concatenate_ofFn_unit_apply (s₁ := ⟨3, ![1, 10224, 1024]⟩) (t := ⟨3, ![3, 10224, 1024]⟩) 0
    (fun kk => Cert.ExchangeRefIdeal.Whole.layer (Cert.ExchangeRefIdeal.Whole.src c kk) x) _ rfl rfl i (i 0) rfl
    (ix3 (0 : Fin 1) (i 1 : Fin 10224) (i 2 : Fin 1024)) (fun b hb => match b with | 0 => absurd rfl hb | 1 => rfl | 2 => rfl)).symm
  unfold out
  rw [hm]
  exact (extractStridedSlice_apply _ x _ _ _ fun a => match a with
    | 0 => by
      show (peer (i 0) c).val * 4 + (chipOf c).val = 4 * (peer (i 0) c).val + (chipOf c).val + 0
      omega
    | 1 => (Nat.zero_add _).symm
    | 2 => (Nat.zero_add _).symm).symm

/-- The program's run and the reference's, compared: over any float values. -/
theorem agree (m : (ℓ : Loc nD τ sig) → Buf (Elt F) ℓ) (g : Dev nD → PrngReg)
    (m' : (ℓ : Loc Cert.ExchangeRefIdeal.nD Cert.ExchangeRefIdeal.τ Cert.ExchangeRefIdeal.sig) → Buf (Elt F) ℓ) (g' : Dev Cert.ExchangeRefIdeal.nD → PrngReg)
    (hm : ∀ c : Dev nD, m (at_ τ main_arg0 c) = Layout.block ⟨3, ![4, 10224, 1024]⟩ ⟨3, ![32, 10224, 1024]⟩ 0 8 c
      (m' (((0 : Dev Cert.ExchangeRefIdeal.nD).tc : Thread Cert.ExchangeRefIdeal.nD Cert.ExchangeRefIdeal.τ).loc Cert.ExchangeRefIdeal.main_arg0))) :
    ∃ v0 : Buf (Elt F) (((0 : Dev Cert.ExchangeRefIdeal.nD).tc : Thread Cert.ExchangeRefIdeal.nD Cert.ExchangeRefIdeal.τ).loc Cert.ExchangeRefIdeal.main_v32),
      θ_run (defs (F := F)) (onTc (τ := τ) (main (F := F))) ⟨m, fun _ => 0, g⟩ (fun r => ∀ c : Dev nD,
          r.2.mem (at_ τ main_v1 c) = Layout.block ⟨3, ![3, 10224, 1024]⟩ ⟨3, ![24, 10224, 1024]⟩ 0 8 c v0
          ∧ r.2.mem (at_ τ main_arg0 c) = m (at_ τ main_arg0 c))
      ∧ θ_run (Cert.ExchangeRefIdeal.defs (F := F)) (onTc (τ := Cert.ExchangeRefIdeal.τ) (Cert.ExchangeRefIdeal.main (F := F))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v32) = v0
          ∧ r.2.mem (((0 : Dev Cert.ExchangeRefIdeal.nD).tc : Thread Cert.ExchangeRefIdeal.nD Cert.ExchangeRefIdeal.τ).loc Cert.ExchangeRefIdeal.main_arg0)
            = m' (((0 : Dev Cert.ExchangeRefIdeal.nD).tc : Thread Cert.ExchangeRefIdeal.nD Cert.ExchangeRefIdeal.τ).loc Cert.ExchangeRefIdeal.main_arg0)) :=
  ⟨_, (θ_run defs _ _).mono (fun _ h c => ⟨(h.1 c).1.trans (out_block m _ hm c), (h.1 c).2⟩) (run_main m g),
    (θ_run Cert.ExchangeRefIdeal.defs _ _).mono (fun _ h => h.1 0) (Cert.ExchangeRefIdeal.Whole.run_main m' g')⟩

/-! ## The claims, on reals and on bits -/

theorem frame : Cert.quiescent_Exchange := fun m g _ =>
  (θ_run (defs (F := Bits)) _ _).mono (fun _ h => ⟨fun c => (h.1 c).2, sem_eq_zero_of_scoped (by decide) h.2⟩) (run_main (F := Bits) m g)
theorem frame_ideal : Cert.quiescent_ExchangeIdeal := fun m g _ =>
  (θ_run (defs (F := Ideal)) _ _).mono (fun _ h => ⟨fun c => (h.1 c).2, sem_eq_zero_of_scoped (by decide) h.2⟩) (run_main (F := Ideal) m g)
theorem frame_ref : Cert.quiescent_ExchangeRef := fun m g _ =>
  (θ_run (Cert.ExchangeRefIdeal.defs (F := Bits)) _ _).mono (fun _ h => ⟨fun c => (h.1 c).2, h.2⟩) (Cert.ExchangeRefIdeal.Whole.run_main (F := Bits) m g)
theorem frame_refIdeal : Cert.quiescent_ExchangeRefIdeal := fun m g _ =>
  (θ_run (Cert.ExchangeRefIdeal.defs (F := Ideal)) _ _).mono (fun _ h => ⟨fun c => (h.1 c).2, h.2⟩) (Cert.ExchangeRefIdeal.Whole.run_main (F := Ideal) m g)

theorem algebraic : Cert.algebraic_ExchangeIdeal_ExchangeRefIdeal := fun m g m' g' _ hm => agree (F := Ideal) m g m' g' hm
theorem bitexact : Cert.bitexact_Exchange_ExchangeRef := fun m g m' g' _ hm => agree (F := Bits) m g m' g' hm

end Cert.ExchangeIdeal.Talk
-- ==== Proof.Swap.lean ====
/- The exchange between the two cores of a chip that opens the reduce-scatter: every device sends its sibling, of each of
   its four slabs, the rows of the sibling's core, and receives the rows of its own. -/
module

public import proofs.«01_k».proof.Proof.Slabs
public import proofs.«01_k».proof.Proof.Steps
public import proofs.«01_k».proof.Proof.Gen.SwapIdeal.Skeleton
public import proofs.«01_k».proof.Proof.Gen.SwapIdeal.Launch

@[expose] public section

set_option Elab.async false

noncomputable section

namespace Cert.SwapIdeal.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.Devices Cert.Devices.Plan
open Cert.SwapIdeal.Gen

variable {F : FTy → Type} [FloatOps F]

local notation "𝕄" => MT nD τ sig Unit (Elt F) ℕ (UR sig nD τ) ℕ

/-! ## Who sends what -/

/-- The semaphores of the transfer of the `j`-th slab: of its source here, and of the arrival of the sibling's. -/
abbrev sent (j : Fin 4) : DmaSem sig := ⟨j.val, Nat.lt_of_lt_of_le j.isLt (by decide)⟩
abbrev arrived (j : Fin 4) : DmaSem sig := ⟨4 + j.val, Nat.add_lt_add_left j.isLt 4⟩
/-- The slab a semaphore is about. -/
def which (s : DmaSem sig) : Fin 4 := ⟨s.val % 4, Nat.mod_lt _ (by decide)⟩

/-- When a semaphore's transfer is begun, and when it is waited on: the transfers slab by slab; first the arrivals, then the
    sources. -/
def begun (s : DmaSem sig) : ℕ := (which s).val
def waited (s : DmaSem sig) : ℕ := if s.val < 4 then 4 + s.val else s.val - 4
theorem begun_iff : ∀ j : Fin 4, ∀ y, begun y = j.val ↔ y = arrived j ∨ y = sent j := by decide
theorem waited_sent : ∀ j : Fin 4, ∀ y, waited y = 4 + j.val ↔ y = sent j := by decide
theorem waited_arrived : ∀ j : Fin 4, ∀ y, waited y = j.val ↔ y = arrived j := by decide
theorem begun_lt : ∀ y, begun y < 4 := by decide
theorem waited_lt : ∀ y, waited y < 8 := by decide

theorem which_sent : ∀ j, which (sent j) = j := by decide
theorem which_arrived : ∀ j, which (arrived j) = j := by decide

/-- Half a slab of a device's array, as the kernel addresses it. -/
abbrev srcAt (off : Fin 3 → ℕ) (inb : ∀ a, off a + S1x10224x1024.size a ≤ S4x20448x1024.size a) : Memref sig .tc .hbm S10224x1024 .bf16 :=
  ((Memref.whole main_arg0).slice (Rect.unit (s := S4x20448x1024) off S1x10224x1024.size inb) (fun _ => rfl)).squeeze S10224x1024 squeezes_S1x10224x1024_S10224x1024
/-- A layer of the result. -/
abbrev dstAt (off : Fin 3 → ℕ) (inb : ∀ a, off a + S1x10224x1024.size a ≤ S4x10224x1024.size a) : Memref sig .tc .hbm S10224x1024 .bf16 :=
  ((Memref.whole main_v1).slice (Rect.unit (s := S4x10224x1024) off S1x10224x1024.size inb) (fun _ => rfl)).squeeze S10224x1024 squeezes_S1x10224x1024_S10224x1024

/-- The semaphores of arrivals are credited by the sibling, those of sources by the device itself. -/
def plan : Plan nD sig where
  amt _ := (dstAt ![0, 0, 0] inb_S4x10224x1024_S1x10224x1024_0_0_0).view.dmaCredit
  amt_pos _ := View.dmaCredit_pos _ (by decide)
  payer s c := if s.val < 4 then c else sibling c
  payer_payer s c := by by_cases h : s.val < 4 <;> simp only [h, if_true, if_false, sibling_sibling]
  recv := {arrived 0, arrived 1, arrived 2, arrived 3}
  level _ := 0

theorem payer_sent (j : Fin 4) (c : Dev nD) : plan.payer (sent j) c = c := if_pos j.isLt
theorem payer_arrived (j : Fin 4) (c : Dev nD) : plan.payer (arrived j) c = sibling c :=
  if_neg (by simp)
theorem recv_arrived (j : Fin 4) : arrived j ∈ plan.recv := by revert j; decide
theorem recv_sent (j : Fin 4) : sent j ∉ plan.recv := by revert j; decide

/-- The first row of the half that goes to the sibling. -/
def lo (c : Dev nD) : ℕ := 10224 - 10224 * (c.val % 2)
theorem lo_le (c : Dev nD) : lo c ≤ 10224 := Nat.sub_le _ _

/-- Where a layer of the result lies, and the half slab that goes to the sibling. -/
def piece (s : DmaSem sig) (c : Dev nD) : Finset (Idx (at_ τ main_v1 c)) := box 4 10224 1024 (which s).val 0 10224
def slab (j : Fin 4) (c : Dev nD) : Finset (Idx (at_ τ main_arg0 c)) := box 4 20448 1024 j.val (lo c) 10224

theorem pieces : Pieces (τ := τ) main_v1 plan.recv piece where
  disjoint c s hs s' hs' hne := by
    refine Finset.disjoint_left.mpr fun i hi hi' => ?_
    have h := (mem_box.mp hi).1.symm.trans (mem_box.mp hi').1
    clear hi hi'
    revert s s'
    decide
  cover c := by
    refine Finset.eq_univ_iff_forall.mpr fun (i : (⟨3, ![4, 10224, 1024]⟩ : Shape).Idx) => ?_
    have h1 : (i 1).val < 10224 := (i 1).isLt
    exact Finset.mem_biUnion.mpr ⟨arrived (i 0), recv_arrived (i 0), mem_box.mpr ⟨congrArg Fin.val (which_arrived (i 0)).symm, Nat.zero_le _, by omega⟩⟩

theorem slabs (c : Dev nD) (j : Fin 4) (j' : Fin 4) (h : j ≠ j') : Disjoint (slab j c) (slab j' c) :=
  Finset.disjoint_left.mpr fun i hi hi' =>
    h (Fin.ext ((mem_box.mp hi).1.symm.trans (mem_box.mp hi').1))

variable (m : (ℓ : Loc nD τ sig) → Buf (Elt F) ℓ)

/-- THE RESULT on device `c`: in layer `j` the half of the sibling's slab `j` that the sibling sends. -/
def out (c : Dev nD) : Buf (Elt F) (at_ τ main_v1 c) :=
  fun (i : (⟨3, ![4, 10224, 1024]⟩ : Shape).Idx) => m (at_ τ main_arg0 (sibling c)) (ix3 (i 0 : Fin 4) (⟨lo (sibling c) + (i 1).val, by have h : (i 1).val < 10224 := (i 1).isLt; have := lo_le (sibling c); omega⟩ : Fin 20448) (i 2 : Fin 1024))

/-- What a semaphore's duty hands over. -/
def pay (c : Dev nD) (s : DmaSem sig) : sProp 𝕄 :=
  if s.val < 4 then (at_ τ main_arg0 c ↦[slab (which s) c]{fullShare} m (at_ τ main_arg0 c))
  else (at_ τ main_v1 c ↦[piece s c]{fullShare} out m c)

instance (c : Dev nD) (s : DmaSem sig) : BI.Storable (upEmb : UEmb _ 𝕄) (pay m c s) := by
  unfold pay; split <;> infer_instance

theorem pay_sent (j : Fin 4) (c : Dev nD) : pay m c (sent j) = (at_ τ main_arg0 c ↦[slab j c]{fullShare} m (at_ τ main_arg0 c)) :=
  (if_pos j.isLt).trans (by rw [which_sent])
theorem pay_arrived (j : Fin 4) (c : Dev nD) : pay m c (arrived j) = (at_ τ main_v1 c ↦[piece (arrived j) c]{fullShare} out m c) :=
  if_neg (by simp)

/-! ## The body's views -/

theorem dstAt_amount (s t : DmaSem sig) (off : Fin 3 → ℕ) (inb) : (dstAt off inb).view.amount (.dma s) = plan.amt t := rfl
theorem dstAt_credit (t : DmaSem sig) (off : Fin 3 → ℕ) (inb) : (dstAt off inb).view.dmaCredit = plan.amt t := rfl
theorem srcAt_credit (t : DmaSem sig) (off : Fin 3 → ℕ) (inb) : (srcAt off inb).view.dmaCredit = plan.amt t := rfl

theorem srcAt_set (c : Dev nD) (j : Fin 4) (off : Fin 3 → ℕ) (inb) (h : off = ![j.val, lo c, 0]) :
    (srcAt off inb).view.set = slab j c := by
  refine (View.set_reshape _ _).trans ?_
  exact (View.set_slice_whole main_arg0 _).trans (set_box h inb)
theorem dstAt_set (n : Dev nD) (j : Fin 4) (off : Fin 3 → ℕ) (inb) (h : off = ![j.val, 0, 0]) :
    (dstAt off inb).view.set = piece (arrived j) n := by
  refine (View.set_reshape _ _).trans ?_
  exact (View.set_slice_whole main_v1 _).trans ((set_box h inb).trans (by unfold piece; rw [which_arrived]))

/-- A layer written with the half a device sends its sibling is the sibling's result there. -/
theorem landed_piece (c : Dev nD) (j : Fin 4) (off : Fin 3 → ℕ) (inb) (h : off = ![j.val, lo c, 0])
    (off' : Fin 3 → ℕ) (inb') (h' : off' = ![j.val, 0, 0]) (fd : Buf (Elt F) (at_ τ main_v1 (sibling c))) :
    ((at_ τ main_v1 (sibling c)) ↦[(dstAt off' inb').view.set]{fullShare}
        ((dstAt off' inb').view.write (Elt F) fd ((srcAt off inb).view.read (Elt F) (m (at_ τ main_arg0 c))) Finset.univ) : sProp 𝕄)
      = (at_ τ main_v1 (sibling c) ↦[piece (arrived j) (sibling c)]{fullShare} out m (sibling c)) := by
  rw [← dstAt_set (sibling c) j off' inb' h']
  refine pointsTo_congr fun i hi => landed (srcAt off inb).view (dstAt off' inb').view (m (at_ τ main_arg0 c)) fd (out m (sibling c)) (fun x => ?_) i hi
  have hx : (x 0).val < 10224 := (x 0).isLt
  have hx' : 0 + (x 0).val < 10224 := by omega
  show out m (sibling c) ((Rect.unit (s := S4x10224x1024) off' S1x10224x1024.size inb').emb (Shape.reshapeEquiv _ x))
    = m (at_ τ main_arg0 c) ((Rect.unit (s := S4x20448x1024) off S1x10224x1024.size inb).emb (Shape.reshapeEquiv _ x))
  rw [show (Rect.unit (s := S4x10224x1024) off' S1x10224x1024.size inb').emb (Shape.reshapeEquiv _ x) = _ from slab_index h' inb' _ x j.isLt hx',
    show (Rect.unit (s := S4x20448x1024) off S1x10224x1024.size inb).emb (Shape.reshapeEquiv _ x) = _ from slab_index h inb _ x j.isLt (by have := lo_le c; omega)]
  unfold out
  refine Eq.trans ?_ (congrArg (fun d => m (at_ τ main_arg0 d) _) (sibling_sibling c))
  refine congrArg (m (at_ τ main_arg0 (sibling (sibling c)))) ?_
  funext a
  match a with
  | 0 => rfl
  | 1 => exact Fin.ext (show lo (sibling (sibling c)) + (0 + (x 0).val) = lo c + (x 0).val by rw [sibling_sibling, Nat.zero_add])
  | 2 => rfl

theorem routes_sibling (c : Dev nD) : τ.routes (c.tc : Thread nD τ) ((sibling c).tc : Thread nD τ) = true := by
  revert c; decide

/-- The devices the kernel computes. -/
theorem dev1_eq (c : Dev nD) : (⟨k0_dev1 c, k0_dev1_lt c⟩ : Dev nD) = sibling c := Fin.ext (k0_dev1_eq c)
theorem dev2_eq (c : Dev nD) : (⟨k0_dev2 c, k0_dev2_lt c⟩ : Dev nD) = sibling c := Fin.ext (k0_dev2_eq c)
theorem dev3_eq (c : Dev nD) : (⟨k0_dev3 c, k0_dev3_lt c⟩ : Dev nD) = sibling c := Fin.ext (k0_dev3_eq c)
theorem dev4_eq (c : Dev nD) : (⟨k0_dev4 c, k0_dev4_lt c⟩ : Dev nD) = sibling c := Fin.ext (k0_dev4_eq c)

/-! ## The steps -/

variable {α : Type} {Q : α → sProp (MT nD τ sig Unit (Elt F) ℕ (UR sig nD τ) ℕ)} (𝒱 : Variants) (K : Dev nD × DmaSem sig → ℕ) (c : Dev nD)

/-- The transfer of the `j`-th slab's half begun: the half and the sibling's layer go with it. -/
theorem send (j : Fin 4) {off : Fin 3 → ℕ} {inb : ∀ a, off a + S1x10224x1024.size a ≤ S4x20448x1024.size a} (h : off = ![j.val, lo c, 0])
    {off' : Fin 3 → ℕ} {inb' : ∀ a, off' a + S1x10224x1024.size a ≤ S4x10224x1024.size a} (h' : off' = ![j.val, 0, 0])
    {n : Dev nD} (hn : n = sibling c) {hsc : (dstAt off' inb').view.ref.isScScratch = false}
    {hsrc : (srcAt off inb).view.WordExact} {hdst : (dstAt off' inb').view.WordExact}
    {hsem : DmaTarget.Typed .hbm (.dma (arrived j)) (.remote (Dev.tc n : Thread nD τ) (dstAt off' inb') (.dma (sent j)) hsc)}
    {k : PUnit → Prog (TpuEff nD τ sig (Elt F) Λ₀ .tc) α} :
    iprop(plan.at_step (pay m) (pay m c) begun waited K c j.val 0 ∗ (at_ τ main_arg0 c ↦[slab j c]{fullShare} m (at_ τ main_arg0 c))
        ∗ (at_ τ main_v1 (sibling c) ↦[piece (arrived j) (sibling c)]{fullShare} m (at_ τ main_v1 (sibling c))))
      ⊢ iprop((plan.at_step (pay m) (pay m c) begun waited K c (j.val + 1) 0 -∗ wp frame (wpE defs₀ 𝒱 (c.tc : Thread nD τ) none) Set.univ (k ⟨⟩) Q)
          -∗ wp frame (wpE defs₀ 𝒱 (c.tc : Thread nD τ) none) Set.univ
              (.op (.enqueueDma (srcAt off inb) (.remote (Dev.tc n : Thread nD τ) (dstAt off' inb') (.dma (sent j)) hsc) (.dma (arrived j)) hsrc hdst hsem) k) Q) := by
  subst hn
  have hpS : ((srcAt off inb).view.loc (c.tc : Thread nD τ) ↦[(srcAt off inb).view.set]{fullShare} m (at_ τ main_arg0 c) : sProp 𝕄) ⊢ pay m c (sent j) := by
    rw [pay_sent, ← srcAt_set c j off inb h]
  have hpR := Entails.of_eq ((landed_piece m c j off inb h off' inb' h' (m (at_ τ main_v1 (sibling c)))).trans (pay_arrived m j (sibling c)).symm)
  rw [← dstAt_set (sibling c) j off' inb' h', ← srcAt_set c j off inb h]
  exact plan.step_send (pay m) 𝒱 none K c (src := srcAt off inb) (dst := dstAt off' inb') (sS := sent j) (sR := arrived j)
    (begun_iff j) (Nat.zero_le _) (payer_arrived j c) (payer_sent j c) (recv_arrived j) (recv_sent j) (dstAt_amount _ _ _ _) rfl
    hpS hpR (routes_sibling c)

/-- A semaphore waited on, all transfers begun. -/
theorem await (j : ℕ) (s : DmaSem sig) (hj : ∀ y, waited y = j ↔ y = s) {κ' : Kind} {sp sp' : Space} {t t' : Shape} {e e' : EltTy}
    {src : Memref sig .tc sp' t' e'} {dst : Memref sig κ' sp t e} {hsrc : src.view.WordExact} {hdst : dst.view.WordExact}
    {k : PUnit → Prog (TpuEff nD τ sig (Elt F) Λ₀ .tc) α} (hN : dst.view.dmaCredit = plan.amt s) :
    plan.at_step (pay m) (pay m c) begun waited K c 4 j
      ⊢ iprop((plan.at_step (pay m) (pay m c) begun waited K c 4 (j + 1) -∗ wp frame (wpE defs₀ 𝒱 (c.tc : Thread nD τ) none) Set.univ (k ⟨⟩) Q)
          -∗ wp frame (wpE defs₀ 𝒱 (c.tc : Thread nD τ) none) Set.univ (.op (.waitDma2 s src dst hsrc hdst) k) Q) :=
  plan.step_wait (pay m) 𝒱 none K c hj (Or.inr (begun_lt s)) hN (fun s' _ h => absurd h (Nat.not_le_of_lt (begun_lt s'))) .rfl

/-! ## The body -/

/-- The kernel's body on a device, from the exchange not begun to every semaphore waited on. -/
theorem body :
    iprop(plan.state (pay m) K c Finset.univ Finset.univ plan.recv plan.recv ∗ (at_ τ main_arg0 c ↦{fullShare} m (at_ τ main_arg0 c))
        ∗ bigSep plan.recv fun s => at_ τ main_v1 (plan.payer s c) ↦[piece s (plan.payer s c)]{fullShare} m (at_ τ main_v1 (plan.payer s c)))
      ⊢ wp frame (wpE defs₀ 𝒱 c none) Set.univ (cc0_rs_swap_halves (F := F) (Memref.whole main_arg0) (Memref.isWhole_whole _) (Memref.whole main_v1) (Memref.isWhole_whole _) cc0_scratch0 cc0_scratch1)
          fun _ => iprop(∃ T C, plan.state (pay m) K c T ∅ C ∅ ∗ (at_ τ main_arg0 c ↦{fullShare} m (at_ τ main_arg0 c))
            ∗ bigSep plan.recv fun s => at_ τ main_v1 c ↦[piece s c]{fullShare} out m c) := by
  simp only [cc0_rs_swap_halves_eq_skeleton]
  unfold cc0_rs_swap_halves_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId]
  rw [cut Finset.univ (fun j => slab j c) (fun j _ j' _ h => slabs c j j' h)]
  have hsrc (Φ : Fin 4 → sProp 𝕄) : bigSep Finset.univ Φ = iprop(Φ 0 ∗ Φ 1 ∗ Φ 2 ∗ Φ 3) := by
    rw [show (Finset.univ : Finset (Fin 4)) = {0, 1, 2, 3} from rfl, put_in (by decide), put_in (by decide), put_in (by decide), bigSep_singleton]
  have hdst (Φ : DmaSem sig → sProp 𝕄) : bigSep plan.recv Φ = iprop(Φ (arrived 0) ∗ Φ (arrived 1) ∗ Φ (arrived 2) ∗ Φ (arrived 3)) := by
    unfold plan; rw [put_in (by decide), put_in (by decide), put_in (by decide), bigSep_singleton]
  rw [hsrc, hdst, hdst, payer_arrived, payer_arrived, payer_arrived, payer_arrived]
  iintro ⟨Hs, ⟨⟨Ha0, Ha1, Ha2, Ha3⟩, Ha⟩, Ho0, Ho1, Ho2, Ho3⟩
  ihave Hs := (plan.step_start (pay m) K c (keep := pay m c) (f := begun) (g := waited)) $$ Hs
  iapply (send m 𝒱 K c 0 (k0_off1_eq c) rfl (dev1_eq c)) $$ [Hs Ha0 Ho0]
  · isplitl [Hs]; · iexact Hs
    isplitl [Ha0]; · iexact Ha0
    iexact Ho0
  iintro Hs
  iapply (send m 𝒱 K c 1 (k0_off2_eq c) rfl (dev2_eq c)) $$ [Hs Ha1 Ho1]
  · isplitl [Hs]; · iexact Hs
    isplitl [Ha1]; · iexact Ha1
    iexact Ho1
  iintro Hs
  iapply (send m 𝒱 K c 2 (k0_off3_eq c) rfl (dev3_eq c)) $$ [Hs Ha2 Ho2]
  · isplitl [Hs]; · iexact Hs
    isplitl [Ha2]; · iexact Ha2
    iexact Ho2
  iintro Hs
  iapply (send m 𝒱 K c 3 (k0_off4_eq c) rfl (dev4_eq c)) $$ [Hs Ha3 Ho3]
  · isplitl [Hs]; · iexact Hs
    isplitl [Ha3]; · iexact Ha3
    iexact Ho3
  iintro Hs
  iapply (await m 𝒱 K c 0 (arrived 0) (waited_arrived 0) (dstAt_credit _ _ _)) $$ [Hs]
  · iexact Hs
  iintro Hs
  iapply (await m 𝒱 K c 1 (arrived 1) (waited_arrived 1) (dstAt_credit _ _ _)) $$ [Hs]
  · iexact Hs
  iintro Hs
  iapply (await m 𝒱 K c 2 (arrived 2) (waited_arrived 2) (dstAt_credit _ _ _)) $$ [Hs]
  · iexact Hs
  iintro Hs
  iapply (await m 𝒱 K c 3 (arrived 3) (waited_arrived 3) (dstAt_credit _ _ _)) $$ [Hs]
  · iexact Hs
  iintro Hs
  iapply (await m 𝒱 K c 4 (sent 0) (waited_sent 0) (srcAt_credit _ _ _)) $$ [Hs]
  · iexact Hs
  iintro Hs
  iapply (await m 𝒱 K c 5 (sent 1) (waited_sent 1) (srcAt_credit _ _ _)) $$ [Hs]
  · iexact Hs
  iintro Hs
  iapply (await m 𝒱 K c 6 (sent 2) (waited_sent 2) (srcAt_credit _ _ _)) $$ [Hs]
  · iexact Hs
  iintro Hs
  iapply (await m 𝒱 K c 7 (sent 3) (waited_sent 3) (srcAt_credit _ _ _)) $$ [Hs]
  · iexact Hs
  iintro Hs
  ihave Hs := (plan.step_end (pay m) K c begun_lt waited_lt) $$ Hs
  icases Hs with ⟨⟨%T, %C, Hs⟩, Hp⟩
  have hall : (Finset.univ : Finset (DmaSem sig)) = {sent 0, sent 1, sent 2, sent 3, arrived 0, arrived 1, arrived 2, arrived 3} := by decide
  have hpay : bigSep Finset.univ (pay m c) = iprop(pay m c (sent 0) ∗ pay m c (sent 1) ∗ pay m c (sent 2) ∗ pay m c (sent 3)
      ∗ pay m c (arrived 0) ∗ pay m c (arrived 1) ∗ pay m c (arrived 2) ∗ pay m c (arrived 3)) := by
    rw [hall, put_in (by decide), put_in (by decide), put_in (by decide), put_in (by decide), put_in (by decide), put_in (by decide), put_in (by decide), bigSep_singleton]
  simp only [pay_sent, pay_arrived] at hpay
  ihave Hp := (Entails.of_eq hpay) $$ Hp
  icases Hp with ⟨Ha0, Ha1, Ha2, Ha3, Ho0, Ho1, Ho2, Ho3⟩
  rw [wp_ret]
  imodintro
  iexists T, C
  isplitl [Hs]; · iexact Hs
  isplitl [Ha Ha0 Ha1 Ha2 Ha3]
  · isplitr [Ha]
    · isplitl [Ha0]; · iexact Ha0
      isplitl [Ha1]; · iexact Ha1
      isplitl [Ha2]; · iexact Ha2
      iexact Ha3
    iexact Ha
  isplitl [Ho0]; · iexact Ho0
  isplitl [Ho1]; · iexact Ho1
  isplitl [Ho2]; · iexact Ho2
  iexact Ho3

/-! ## The run -/

/-- A run of the whole mesh: every device ends with the result in place, its array as it was and no semaphore credited. -/
theorem run_main (g : Dev nD → PrngReg) :
    θ_run (defs (F := F)) (onTc main) ⟨m, fun _ => 0, g⟩ fun r =>
      (∀ c, r.2.mem (at_ τ main_v1 c) = out m c ∧ r.2.mem (at_ τ main_arg0 c) = m (at_ τ main_arg0 c))
      ∧ ∀ g', (g'.1.2 ≠ .tc ∨ g'.2.isScoped .tc = true) → r.2.sem g' = 0 :=
  plan.run (pay m) pcfgs (fun q => (cfgs q).toPCfg_adm) 0 (by decide) defs₀ Variants.none (fun p => match p with | 0 => (inferInstance : IsEmpty (Fin 0))) N_0 (inferInstanceAs (IsEmpty (Fin 0))) (by decide) (by decide) pieces m g (out m) main (fun _ => rfl)
    (fun K c t => body m _ K c) (fun s h h' => ⟨h, h'⟩)

end Cert.SwapIdeal.Talk
-- ==== Proof.SwapClaims.lean ====
/- The claims of the exchange of half slabs: its runs, on bits and on reals, from the one run of Swap.lean; the run of
   its reference; and that what a device ends with is its block of the reference's result. -/
module

public import proofs.«01_k».proof.Defs
public import proofs.«01_k».proof.Proof.Swap
public import proofs.«01_k».proof.Proof.Gen.Swap
public import proofs.«01_k».proof.Proof.Gen.SwapRef
public import proofs.«01_k».proof.Proof.Gen.SwapRefIdeal
public import Idealize.ShloMosaic.Lib.Quiescent

@[expose] public section

set_option Elab.async false

noncomputable section

/-! ## The reference -/

namespace Cert.SwapRefIdeal.Whole

open Idealize.ShloMosaic Idealize.ShloMosaic.TcCoe Idealize.ShloMosaic.StableHlo Idealize.ShloMosaic.ValueIdx Idealize.SL.Sem
open Cert.SwapRefIdeal.Gen Cert.Devices

variable {F : FTy → Type} [FloatOps F]

theorem slices (k : Fin 8) (b : Fin 2) : S32x20448x1024.Slices ![4 * k.val, 10224 * b.val, 0] S4x10224x1024 := by revert k b; decide

/-- Of device `k`'s four slabs, the rows of core `b`. -/
abbrev half (k : Fin 8) (b : Fin 2) (x : FVec F S32x20448x1024 .bf16) : FVec F S4x10224x1024 .bf16 :=
  extractStridedSlice S4x10224x1024 ![4 * k.val, 10224 * b.val, 0] x (slices k b)
/-- Eight devices' slabs in order. -/
abbrev join (a0 a1 a2 a3 a4 a5 a6 a7 : FVec F S4x10224x1024 .bf16) : FVec F S32x10224x1024 .bf16 :=
  concatenate S32x10224x1024 0 [⟨S4x10224x1024, a0⟩, ⟨S4x10224x1024, a1⟩, ⟨S4x10224x1024, a2⟩, ⟨S4x10224x1024, a3⟩, ⟨S4x10224x1024, a4⟩, ⟨S4x10224x1024, a5⟩, ⟨S4x10224x1024, a6⟩, ⟨S4x10224x1024, a7⟩]
    concatenates_S4x10224x1024_S4x10224x1024_S4x10224x1024_S4x10224x1024_S4x10224x1024_S4x10224x1024_S4x10224x1024_S4x10224x1024_S32x10224x1024_d0

/-- The core a device is. -/
def core (d : Fin 8) : Fin 2 := ⟨d.val % 2, Nat.mod_lt _ (by decide)⟩
/-- What device `d` receives, the rows of its own core of its sibling's slabs, and the reference's result: what every device receives. -/
abbrev received (x : FVec F S32x20448x1024 .bf16) (d : Fin 8) : FVec F S4x10224x1024 .bf16 := half (sibling d) (core d) x
abbrev result (x : FVec F S32x20448x1024 .bf16) : FVec F S32x10224x1024 .bf16 :=
  concatenate S32x10224x1024 0 (List.ofFn fun d : Fin 8 => ⟨S4x10224x1024, received x d⟩)
    concatenates_S4x10224x1024_S4x10224x1024_S4x10224x1024_S4x10224x1024_S4x10224x1024_S4x10224x1024_S4x10224x1024_S4x10224x1024_S32x10224x1024_d0

/-- Its operations. -/
abbrev ops : List (HloOp τ sig (Elt F)) :=
  [unary main_arg0 main_v0 (half 1 0 : (⟨S32x20448x1024, .bf16⟩ : BufTy).Contents (Elt F) → (⟨S4x10224x1024, .bf16⟩ : BufTy).Contents (Elt F)),
    unary main_arg0 main_v1 (half 0 1 : (⟨S32x20448x1024, .bf16⟩ : BufTy).Contents (Elt F) → (⟨S4x10224x1024, .bf16⟩ : BufTy).Contents (Elt F)),
    unary main_arg0 main_v2 (half 3 0 : (⟨S32x20448x1024, .bf16⟩ : BufTy).Contents (Elt F) → (⟨S4x10224x1024, .bf16⟩ : BufTy).Contents (Elt F)),
    unary main_arg0 main_v3 (half 2 1 : (⟨S32x20448x1024, .bf16⟩ : BufTy).Contents (Elt F) → (⟨S4x10224x1024, .bf16⟩ : BufTy).Contents (Elt F)),
    unary main_arg0 main_v4 (half 5 0 : (⟨S32x20448x1024, .bf16⟩ : BufTy).Contents (Elt F) → (⟨S4x10224x1024, .bf16⟩ : BufTy).Contents (Elt F)),
    unary main_arg0 main_v5 (half 4 1 : (⟨S32x20448x1024, .bf16⟩ : BufTy).Contents (Elt F) → (⟨S4x10224x1024, .bf16⟩ : BufTy).Contents (Elt F)),
    unary main_arg0 main_v6 (half 7 0 : (⟨S32x20448x1024, .bf16⟩ : BufTy).Contents (Elt F) → (⟨S4x10224x1024, .bf16⟩ : BufTy).Contents (Elt F)),
    unary main_arg0 main_v7 (half 6 1 : (⟨S32x20448x1024, .bf16⟩ : BufTy).Contents (Elt F) → (⟨S4x10224x1024, .bf16⟩ : BufTy).Contents (Elt F)),
    nary ![main_v0, main_v1, main_v2, main_v3, main_v4, main_v5, main_v6, main_v7] main_v8 (fun u => (join (u 0) (u 1) (u 2) (u 3) (u 4) (u 5) (u 6) (u 7) : (⟨S32x10224x1024, .bf16⟩ : BufTy).Contents (Elt F)))]

theorem main_eq (c : Dev nD) : main (F := F) c = seq ops := rfl
theorem result_eq (V : Valuation τ sig (Elt F)) : after ops V (main_v8 : DevRef τ sig) = result (V (main_arg0 : DevRef τ sig)) := by
  after_results
  rfl
theorem arg0_eq (V : Valuation τ sig (Elt F)) : after ops V (main_arg0 : DevRef τ sig) = V (main_arg0 : DevRef τ sig) := by
  after_results
theorem ops_sub : (ops : List (HloOp τ sig (Elt F))).Forall fun op => op.bufs ⊆ tcRefs τ sig := by
  simp only [List.Forall]
  exact ⟨unary_bufs_sub .., unary_bufs_sub .., unary_bufs_sub .., unary_bufs_sub .., unary_bufs_sub .., unary_bufs_sub .., unary_bufs_sub .., unary_bufs_sub .., nary_bufs_sub ..⟩

/-- The reference's run: `result` of the argument, the argument as it was, and no semaphore to be credited. -/
theorem run_main (m : (ℓ : Loc nD τ sig) → Buf (Elt F) ℓ) (g : Dev nD → PrngReg) :
    θ_run defs (onTc (τ := τ) (main (F := F))) ⟨m, fun _ => 0, g⟩ fun r =>
      (∀ c : Dev nD, r.2.mem ((c.tc : Thread nD τ).loc main_v8) = result (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun _ h => ⟨fun c => ⟨(h c main_v8).trans (result_eq _), (h c main_arg0).trans (arg0_eq _)⟩, sem_eq_zero_of_no_sems rfl _⟩)
    (run_seq (by decide) (by decide) defs main (fun _ => ops) main_eq (fun _ => ops_sub) m g)

end Cert.SwapRefIdeal.Whole

/-! ## The claims -/

namespace Cert.SwapIdeal.Talk

open Idealize.ShloMosaic Idealize.ShloMosaic.TcCoe Idealize.ShloMosaic.ValueIdx Idealize.SL.Sem
open Cert.Devices Cert.Devices.Plan

variable {F : FTy → Type} [FloatOps F]

theorem lo_sibling (c : Dev nD) : lo (sibling c) = 10224 * (Cert.SwapRefIdeal.Whole.core c).val := by revert c; decide

/-- Device `c`'s result is its block of the reference's. -/
theorem out_block (m : (ℓ : Loc nD τ sig) → Buf (Elt F) ℓ) (x : FVec F ⟨3, ![32, 20448, 1024]⟩ .bf16)
    (hm : ∀ c : Dev nD, m (at_ τ main_arg0 c) = Layout.block ⟨3, ![4, 20448, 1024]⟩ ⟨3, ![32, 20448, 1024]⟩ 0 8 c x) (c : Dev nD) :
    out m c = Layout.block ⟨3, ![4, 10224, 1024]⟩ ⟨3, ![32, 10224, 1024]⟩ 0 8 c (Cert.SwapRefIdeal.Whole.result x) := by
  refine Eq.trans ?_ (Layout.block_concatenate_ofFn (s₁ := ⟨3, ![4, 10224, 1024]⟩) (t := ⟨3, ![32, 10224, 1024]⟩) 0 (Cert.SwapRefIdeal.Whole.received x) _ (by decide) c).symm
  funext (i : (⟨3, ![4, 10224, 1024]⟩ : Shape).Idx)
  unfold out
  rw [hm]
  exact (extractStridedSlice_apply _ x _ _ _ fun a => match a with
    | 0 => by
      show (sibling c).val * 4 + (i 0).val = 4 * (sibling c).val + (i 0).val
      omega
    | 1 => congrArg (· + (i 1).val) (lo_sibling c)
    | 2 => (Nat.zero_add _).symm).symm

/-- The program's run and the reference's, compared: over any float values. -/
theorem agree (m : (ℓ : Loc nD τ sig) → Buf (Elt F) ℓ) (g : Dev nD → PrngReg)
    (m' : (ℓ : Loc Cert.SwapRefIdeal.nD Cert.SwapRefIdeal.τ Cert.SwapRefIdeal.sig) → Buf (Elt F) ℓ) (g' : Dev Cert.SwapRefIdeal.nD → PrngReg)
    (hm : ∀ c : Dev nD, m (at_ τ main_arg0 c) = Layout.block ⟨3, ![4, 20448, 1024]⟩ ⟨3, ![32, 20448, 1024]⟩ 0 8 c
      (m' (((0 : Dev Cert.SwapRefIdeal.nD).tc : Thread Cert.SwapRefIdeal.nD Cert.SwapRefIdeal.τ).loc Cert.SwapRefIdeal.main_arg0))) :
    ∃ v0 : Buf (Elt F) (((0 : Dev Cert.SwapRefIdeal.nD).tc : Thread Cert.SwapRefIdeal.nD Cert.SwapRefIdeal.τ).loc Cert.SwapRefIdeal.main_v8),
      θ_run (defs (F := F)) (onTc (τ := τ) (main (F := F))) ⟨m, fun _ => 0, g⟩ (fun r => ∀ c : Dev nD,
          r.2.mem (at_ τ main_v1 c) = Layout.block ⟨3, ![4, 10224, 1024]⟩ ⟨3, ![32, 10224, 1024]⟩ 0 8 c v0
          ∧ r.2.mem (at_ τ main_arg0 c) = m (at_ τ main_arg0 c))
      ∧ θ_run (Cert.SwapRefIdeal.defs (F := F)) (onTc (τ := Cert.SwapRefIdeal.τ) (Cert.SwapRefIdeal.main (F := F))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_arg0)
            = m' (((0 : Dev Cert.SwapRefIdeal.nD).tc : Thread Cert.SwapRefIdeal.nD Cert.SwapRefIdeal.τ).loc Cert.SwapRefIdeal.main_arg0)) :=
  ⟨_, (θ_run defs _ _).mono (fun _ h c => ⟨(h.1 c).1.trans (out_block m _ hm c), (h.1 c).2⟩) (run_main m g),
    (θ_run Cert.SwapRefIdeal.defs _ _).mono (fun _ h => h.1 0) (Cert.SwapRefIdeal.Whole.run_main m' g')⟩

/-! ## The claims, on reals and on bits -/

theorem frame : Cert.quiescent_Swap := fun m g _ =>
  (θ_run (defs (F := Bits)) _ _).mono (fun _ h => ⟨fun c => (h.1 c).2, sem_eq_zero_of_scoped (by decide) h.2⟩) (run_main (F := Bits) m g)
theorem frame_ideal : Cert.quiescent_SwapIdeal := fun m g _ =>
  (θ_run (defs (F := Ideal)) _ _).mono (fun _ h => ⟨fun c => (h.1 c).2, sem_eq_zero_of_scoped (by decide) h.2⟩) (run_main (F := Ideal) m g)
theorem frame_ref : Cert.quiescent_SwapRef := fun m g _ =>
  (θ_run (Cert.SwapRefIdeal.defs (F := Bits)) _ _).mono (fun _ h => ⟨fun c => (h.1 c).2, h.2⟩) (Cert.SwapRefIdeal.Whole.run_main (F := Bits) m g)
theorem frame_refIdeal : Cert.quiescent_SwapRefIdeal := fun m g _ =>
  (θ_run (Cert.SwapRefIdeal.defs (F := Ideal)) _ _).mono (fun _ h => ⟨fun c => (h.1 c).2, h.2⟩) (Cert.SwapRefIdeal.Whole.run_main (F := Ideal) m g)

theorem algebraic : Cert.algebraic_SwapIdeal_SwapRefIdeal := fun m g m' g' _ hm => agree (F := Ideal) m g m' g' hm
theorem bitexact : Cert.bitexact_Swap_SwapRef := fun m g m' g' _ hm => agree (F := Bits) m g m' g' hm

end Cert.SwapIdeal.Talk
-- ==== Proof.Gather.lean ====
/- The all-gather of the weight shards: every device keeps its own shard in its chip's layer, sends the rows of its core, in
   three chunks, to the same core of the three other chips, and passes every chunk that arrives on to its sibling, which
   thereby receives the rows of the other core. -/
module

public import proofs.«01_k».proof.Proof.Slabs
public import proofs.«01_k».proof.Proof.Steps
public import proofs.«01_k».proof.Proof.Gen.GatherIdeal.Skeleton
public import proofs.«01_k».proof.Proof.Gen.GatherIdeal.Launch

@[expose] public section

set_option Elab.async false

noncomputable section

namespace Cert.GatherIdeal.Talk

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.Devices Cert.Devices.Plan
open Cert.GatherIdeal.Gen

variable {F : FTy → Type} [FloatOps F]

local notation "𝕄" => MT nD τ sig Unit (Elt F) ℕ (UR sig nD τ) ℕ

/-! ## Who sends what

Transfers are numbered by the chunk they carry: transfer `t` is about chip `t / 3` of the three others and chunk `t % 3`. -/

/-- The semaphores: of the source of a device's own chunk and of one it passes on; of the arrival of a chip's chunk and of
    one the sibling passes on; of the copy a device makes for itself. -/
abbrev sent (t : Fin 9) : DmaSem sig := ⟨t.val, Nat.lt_of_lt_of_le t.isLt (by decide)⟩
abbrev passed (t : Fin 9) : DmaSem sig := ⟨9 + t.val, Nat.lt_of_lt_of_le (Nat.add_lt_add_left t.isLt 9) (by decide)⟩
abbrev arrived (t : Fin 9) : DmaSem sig := ⟨18 + t.val, Nat.lt_of_lt_of_le (Nat.add_lt_add_left t.isLt 18) (by decide)⟩
abbrev relayed (t : Fin 9) : DmaSem sig := ⟨27 + t.val, Nat.lt_of_lt_of_le (Nat.add_lt_add_left t.isLt 27) (by decide)⟩
abbrev copied : DmaSem sig := ⟨36, by decide⟩

/-- The transfer a semaphore is about, and of a transfer the other chip and the chunk. -/
def tOf (s : DmaSem sig) : Fin 9 := ⟨s.val % 9, Nat.mod_lt _ (by decide)⟩
def kk (t : Fin 9) : Fin 3 := ⟨t.val / 3, (by decide : ∀ t : Fin 9, t.val / 3 < 3) t⟩
def chunk (t : Fin 9) : Fin 3 := ⟨t.val % 3, Nat.mod_lt _ (by decide)⟩
theorem tOf_sent : ∀ t, tOf (sent t) = t := by decide
theorem tOf_passed : ∀ t, tOf (passed t) = t := by decide
theorem tOf_arrived : ∀ t, tOf (arrived t) = t := by decide
theorem tOf_relayed : ∀ t, tOf (relayed t) = t := by decide

/-- The order in which transfers are begun and semaphores waited on. -/
def begun (s : DmaSem sig) : ℕ := if s.val < 18 then 1 + s.val else if s.val < 36 then s.val - 17 else 0
def waited (s : DmaSem sig) : ℕ := if s.val < 18 then 18 + s.val else if s.val < 36 then s.val - 18 else 36
theorem begun_copied : ∀ y, begun y = 0 ↔ y = copied := by decide
theorem begun_own : ∀ t : Fin 9, ∀ y, begun y = 1 + t.val ↔ y = arrived t ∨ y = sent t := by decide
theorem begun_pass : ∀ t : Fin 9, ∀ y, begun y = 10 + t.val ↔ y = relayed t ∨ y = passed t := by decide
theorem begun_lt : ∀ s, begun s < 19 := by decide
theorem waited_arrived : ∀ t : Fin 9, ∀ y, waited y = t.val ↔ y = arrived t := by decide
theorem waited_relayed : ∀ t : Fin 9, ∀ y, waited y = 9 + t.val ↔ y = relayed t := by decide
theorem waited_sent : ∀ t : Fin 9, ∀ y, waited y = 18 + t.val ↔ y = sent t := by decide
theorem waited_passed : ∀ t : Fin 9, ∀ y, waited y = 27 + t.val ↔ y = passed t := by decide
theorem waited_copied : ∀ y, waited y = 36 ↔ y = copied := by decide
theorem waited_lt : ∀ s, waited s < 37 := by decide

/-- The other chip of a transfer, and the first row of the device's own chunk. -/
def lay (t : Fin 9) (c : Dev nD) : Fin 4 := chipOf (peer (kk t) c)
def row (t : Fin 9) (c : Dev nD) : ℕ := 10224 * (c.val % 2) + 3408 * (chunk t).val
theorem lay_sibling : ∀ t c, lay t (sibling c) = lay t c := by decide
theorem lay_peer (t : Fin 9) (c : Dev nD) : lay t (peer (kk t) c) = chipOf c := congrArg chipOf (peer_peer _ _)
theorem lay_ne : ∀ t c, lay t c ≠ chipOf c := by decide
theorem row_peer (t : Fin 9) (c : Dev nD) : row t (peer (kk t) c) = row t c := by unfold row; rw [peer_mod]
theorem row_lt (t : Fin 9) (c : Dev nD) : row t c + 3408 ≤ 20448 := by
  have h1 := Nat.mod_lt c.val (show 0 < 2 by decide)
  have h2 := (chunk t).isLt
  unfold row; omega

/-- The views the kernel's transfers are between: a chunk of a device's own shard, one of the result, a layer of it. -/
abbrev srcAt (off : Fin 2 → ℕ) (inb : ∀ a, off a + S3408x1024.size a ≤ S20448x1024.size a) : Memref sig .tc .hbm S3408x1024 .bf16 :=
  (Memref.whole main_arg0).slice (Rect.unit (s := S20448x1024) off S3408x1024.size inb) (fun _ => rfl)
abbrev dstAt (off : Fin 3 → ℕ) (inb : ∀ a, off a + S1x3408x1024.size a ≤ S4x20448x1024.size a) : Memref sig .tc .hbm S3408x1024 .bf16 :=
  ((Memref.whole main_v1).slice (Rect.unit (s := S4x20448x1024) off S1x3408x1024.size inb) (fun _ => rfl)).squeeze S3408x1024 squeezes_S1x3408x1024_S3408x1024
abbrev layerAt (off : Fin 3 → ℕ) (inb : ∀ a, off a + S1x20448x1024.size a ≤ S4x20448x1024.size a) : Memref sig .tc .hbm S20448x1024 .bf16 :=
  ((Memref.whole main_v1).slice (Rect.unit (s := S4x20448x1024) off S1x20448x1024.size inb) (fun _ => rfl)).squeeze S20448x1024 squeezes_S1x20448x1024_S20448x1024

/-- Arrivals are credited by the other chip's device or by the sibling, sources and the copy by the device itself. What is
    still owed while an arrival from a chip is waited for are the passings on, of a higher level. -/
def plan : Plan nD sig where
  amt s := if s.val < 36 then (dstAt ![0, 0, 0] (by decide)).view.dmaCredit else (Memref.whole main_arg0).view.dmaCredit
  amt_pos s := by split <;> exact View.dmaCredit_pos _ (by decide)
  payer s c := if s.val < 18 then c else if s.val < 27 then peer (kk (tOf s)) c else if s.val < 36 then sibling c else c
  payer_payer s c := by
    by_cases h : s.val < 18
    · simp only [h, if_true]
    by_cases h' : s.val < 27
    · simp only [h, h', if_true, if_false, peer_peer]
    by_cases h'' : s.val < 36 <;> simp only [h, h', h'', if_true, if_false, sibling_sibling]
  recv := Finset.univ.filter fun s => 18 ≤ s.val ∧ s.val < 36
  level s := if s.val < 27 then 0 else 1

theorem payer_sent (t : Fin 9) (c : Dev nD) : plan.payer (sent t) c = c := if_pos (by have := t.isLt; simp; omega)
theorem payer_passed (t : Fin 9) (c : Dev nD) : plan.payer (passed t) c = c := if_pos (by have := t.isLt; simp; omega)
theorem payer_arrived (t : Fin 9) (c : Dev nD) : plan.payer (arrived t) c = peer (kk t) c :=
  (if_neg (by simp)).trans ((if_pos (by have := t.isLt; simp; omega)).trans (by rw [tOf_arrived]))
theorem payer_relayed (t : Fin 9) (c : Dev nD) : plan.payer (relayed t) c = sibling c :=
  (if_neg (by simp; omega)).trans ((if_neg (by simp)).trans (if_pos (by have := t.isLt; simp; omega)))
theorem payer_copied (c : Dev nD) : plan.payer copied c = c := rfl
theorem recv_sent : ∀ t, sent t ∉ plan.recv := by decide
theorem recv_passed : ∀ t, passed t ∉ plan.recv := by decide
theorem recv_arrived : ∀ t, arrived t ∈ plan.recv := by decide
theorem recv_relayed : ∀ t, relayed t ∈ plan.recv := by decide
theorem recv_copied : copied ∉ plan.recv := by decide
/-- While an arrival from a chip is waited for, what is not begun is of a higher level. -/
theorem level_arrived : ∀ t : Fin 9, ∀ s ∈ plan.recv, 10 + t.val ≤ begun s → plan.level (arrived t) < plan.level s := by decide

/-- Where the pieces of the result lie: the chunk from the other chip, the one the sibling passes on, the device's own shard. -/
def piece (s : DmaSem sig) (c : Dev nD) : Finset (Idx (at_ τ main_v1 c)) :=
  if s.val < 27 then box 4 20448 1024 (lay (tOf s) c).val (row (tOf s) c) 3408
  else if s.val < 36 then box 4 20448 1024 (lay (tOf s) c).val (row (tOf s) (sibling c)) 3408
  else box 4 20448 1024 (chipOf c).val 0 20448
theorem piece_passed (t : Fin 9) (c : Dev nD) : piece (passed t) c = box 4 20448 1024 (lay t c).val (row t c) 3408 :=
  (if_pos (by have := t.isLt; simp; omega)).trans (by rw [tOf_passed])
theorem piece_arrived (t : Fin 9) (c : Dev nD) : piece (arrived t) c = box 4 20448 1024 (lay t c).val (row t c) 3408 :=
  (if_pos (by have := t.isLt; simp; omega)).trans (by rw [tOf_arrived])
theorem piece_relayed (t : Fin 9) (c : Dev nD) : piece (relayed t) c = box 4 20448 1024 (lay t c).val (row t (sibling c)) 3408 :=
  (if_neg (by simp)).trans ((if_pos (by have := t.isLt; simp; omega)).trans (by rw [tOf_relayed]))
theorem piece_copied (c : Dev nD) : piece copied c = box 4 20448 1024 (chipOf c).val 0 20448 := rfl

theorem mem_arrived {t : Fin 9} {c : Dev nD} {i : (⟨3, ![4, 20448, 1024]⟩ : Shape).Idx} :
    i ∈ piece (arrived t) c ↔ (i 0).val = (lay t c).val ∧ row t c ≤ (i 1).val ∧ (i 1).val < row t c + 3408 := by
  rw [piece_arrived]; exact mem_box
theorem mem_relayed {t : Fin 9} {c : Dev nD} {i : (⟨3, ![4, 20448, 1024]⟩ : Shape).Idx} :
    i ∈ piece (relayed t) c ↔ (i 0).val = (lay t c).val ∧ row t (sibling c) ≤ (i 1).val ∧ (i 1).val < row t (sibling c) + 3408 := by
  rw [piece_relayed]; exact mem_box
theorem mem_copied {c : Dev nD} {i : (⟨3, ![4, 20448, 1024]⟩ : Shape).Idx} :
    i ∈ piece copied c ↔ (i 0).val = (chipOf c).val ∧ 0 ≤ (i 1).val ∧ (i 1).val < 0 + 20448 := mem_box

/-- The semaphores whose pieces make up the result. -/
def land : Finset (DmaSem sig) := Finset.univ.filter fun s => 18 ≤ s.val
theorem land_cases : ∀ s ∈ land, s = copied ∨ (∃ t, s = arrived t) ∨ ∃ t, s = relayed t := by decide

theorem chip_cases : ∀ (c : Dev nD) (k : Fin 4), k = chipOf c ∨ ∃ j : Fin 3, chipOf (peer j c) = k := by decide
/-- Transfers of the same chip and the same chunk are the same. -/
theorem transfer_ext (t t' : Fin 9) (c : Dev nD) (h : lay t c = lay t' c) (h' : (chunk t).val = (chunk t').val) : t = t' := by
  revert t t' c; decide

theorem pieces : Pieces (τ := τ) main_v1 land piece where
  disjoint c s hs s' hs' hne := by
    refine Finset.disjoint_left.mpr fun (i : (⟨3, ![4, 20448, 1024]⟩ : Shape).Idx) hi hi' => ?_
    have hc := Nat.mod_lt c.val (show 0 < 2 by decide)
    have hsib := sibling_mod c
    rcases land_cases s hs with rfl | ⟨t, rfl⟩ | ⟨t, rfl⟩ <;> rcases land_cases s' hs' with rfl | ⟨t', rfl⟩ | ⟨t', rfl⟩
    · exact hne rfl
    · exact lay_ne t' c (Fin.ext ((mem_arrived.mp hi').1.symm.trans (mem_copied.mp hi).1))
    · exact lay_ne t' c (Fin.ext ((mem_relayed.mp hi').1.symm.trans (mem_copied.mp hi).1))
    · exact lay_ne t c (Fin.ext ((mem_arrived.mp hi).1.symm.trans (mem_copied.mp hi').1))
    · have h1 := mem_arrived.mp hi; have h2 := mem_arrived.mp hi'
      have ht := (chunk t).isLt; have ht' := (chunk t').isLt
      exact hne (congrArg arrived (transfer_ext t t' c (Fin.ext (h1.1.symm.trans h2.1)) (by unfold row at h1 h2; omega)))
    · have h1 := mem_arrived.mp hi; have h2 := mem_relayed.mp hi'
      have ht := (chunk t).isLt; have ht' := (chunk t').isLt
      unfold row at h1 h2; omega
    · exact lay_ne t c (Fin.ext ((mem_relayed.mp hi).1.symm.trans (mem_copied.mp hi').1))
    · have h1 := mem_relayed.mp hi; have h2 := mem_arrived.mp hi'
      have ht := (chunk t).isLt; have ht' := (chunk t').isLt
      unfold row at h1 h2; omega
    · have h1 := mem_relayed.mp hi; have h2 := mem_relayed.mp hi'
      have ht := (chunk t).isLt; have ht' := (chunk t').isLt
      exact hne (congrArg relayed (transfer_ext t t' c (Fin.ext (h1.1.symm.trans h2.1)) (by unfold row at h1 h2; omega)))
  cover c := by
    refine Finset.eq_univ_iff_forall.mpr fun (i : (⟨3, ![4, 20448, 1024]⟩ : Shape).Idx) => ?_
    have h1 : (i 1).val < 20448 := (i 1).isLt
    have hc := Nat.mod_lt c.val (show 0 < 2 by decide)
    have hsib := sibling_mod c
    rw [Finset.mem_biUnion]
    rcases chip_cases c (i 0) with h | ⟨j, hj⟩
    · exact ⟨copied, by decide, mem_copied.mpr ⟨congrArg Fin.val h, Nat.zero_le _, by omega⟩⟩
    · have hq : (i 1).val % 10224 / 3408 < 3 := by omega
      have hjl := j.isLt
      let t : Fin 9 := ⟨3 * j.val + (i 1).val % 10224 / 3408, by omega⟩
      have hk : kk t = j := Fin.ext (show (3 * j.val + (i 1).val % 10224 / 3408) / 3 = j.val by omega)
      have ht : (chunk t).val = (i 1).val % 10224 / 3408 := (show (3 * j.val + (i 1).val % 10224 / 3408) % 3 = _ by omega)
      have hl : (i 0).val = (lay t c).val := by unfold lay; rw [hk, hj]
      by_cases h : (i 1).val / 10224 = c.val % 2
      · refine ⟨arrived t, (by decide : ∀ t, arrived t ∈ land) t, ?_⟩
        refine mem_arrived.mpr ⟨hl, ?_⟩
        unfold row; rw [ht]; omega
      · refine ⟨relayed t, (by decide : ∀ t, relayed t ∈ land) t, ?_⟩
        refine mem_relayed.mpr ⟨hl, ?_⟩
        unfold row; rw [ht]; omega

variable (m : (ℓ : Loc nD τ sig) → Buf (Elt F) ℓ)

/-- The device whose shard row `r` of layer `k` of device `c`'s result is from: its own in its chip's layer, and of another
    chip the core that the row belongs to. -/
def owner (c : Dev nD) (k : Fin 4) (r : ℕ) : Dev nD := if k = chipOf c then c else ⟨2 * k.val + r / 10224 % 2, show 2 * k.val + r / 10224 % 2 < 8 by omega⟩
theorem owner_self (c : Dev nD) (r : ℕ) : owner c (chipOf c) r = c := if_pos rfl
theorem owner_sibling (c : Dev nD) (k : Fin 4) (r : ℕ) (h : k ≠ chipOf c) : owner (sibling c) k r = owner c k r := by
  unfold owner; rw [chipOf_sibling, if_neg h, if_neg h]
theorem owner_peer (t : Fin 9) (c : Dev nD) (x : ℕ) (hx : x < 3408) : owner (peer (kk t) c) (chipOf c) (row t c + x) = c := by
  have h : chipOf c ≠ chipOf (peer (kk t) c) := (lay_ne t c).symm
  unfold owner; rw [if_neg h]
  have hc := Nat.mod_lt c.val (show 0 < 2 by decide)
  have ht := (chunk t).isLt
  refine Fin.ext (show 2 * (c.val / 2) + (row t c + x) / 10224 % 2 = c.val from ?_)
  unfold row; omega

/-- THE RESULT on device `c`: in layer `k` the shard of chip `k`. -/
def out (c : Dev nD) : Buf (Elt F) (at_ τ main_v1 c) :=
  fun (i : (⟨3, ![4, 20448, 1024]⟩ : Shape).Idx) => m (at_ τ main_arg0 (owner c (i 0 : Fin 4) (i 1 : Fin 20448).val)) (ix2 (i 1 : Fin 20448) (i 2 : Fin 1024))

/-- The share of its chunk that a device sends each chip: together half of it. -/
def third (j : Fin 3) : PosShare TreeShare :=
  match j with
  | 0 => PosShare.left (PosShare.right fullShare)
  | 1 => PosShare.left (PosShare.right (PosShare.right fullShare))
  | 2 => PosShare.right (PosShare.right (PosShare.right fullShare))

/-- A device's chunk, in the share of one chip. -/
def mine (c : Dev nD) (t : Fin 9) : sProp 𝕄 := at_ τ main_arg0 c ↦[rows 20448 1024 (row t c) 3408]{third (kk t)} m (at_ τ main_arg0 c)
/-- A piece of the result in place. -/
def done (c : Dev nD) (s : DmaSem sig) : sProp 𝕄 := at_ τ main_v1 c ↦[piece s c]{fullShare} out m c

/-- What a semaphore's duty hands over. -/
def pay (c : Dev nD) (s : DmaSem sig) : sProp 𝕄 :=
  if s.val < 9 then mine m c (tOf s)
  else if s.val < 36 then done m c s
  else iprop(done m c s ∗ at_ τ main_arg0 c ↦{PosShare.left fullShare} m (at_ τ main_arg0 c))

/-- What of it is kept: all but the chunks passed on. -/
def keep (c : Dev nD) (s : DmaSem sig) : sProp 𝕄 := if 18 ≤ s.val ∧ s.val < 27 then iprop(emp) else pay m c s

instance (c : Dev nD) (s : DmaSem sig) : BI.Storable (upEmb : UEmb _ 𝕄) (pay m c s) := by
  unfold pay mine done; split
  · infer_instance
  split <;> infer_instance

theorem pay_sent (t : Fin 9) (c : Dev nD) : pay m c (sent t) = mine m c t := (if_pos t.isLt).trans (by rw [tOf_sent])
theorem pay_passed (t : Fin 9) (c : Dev nD) : pay m c (passed t) = done m c (passed t) := (if_neg (by simp)).trans (if_pos (by have := t.isLt; simp; omega))
theorem pay_arrived (t : Fin 9) (c : Dev nD) : pay m c (arrived t) = done m c (arrived t) := (if_neg (by simp; omega)).trans (if_pos (by have := t.isLt; simp; omega))
theorem pay_relayed (t : Fin 9) (c : Dev nD) : pay m c (relayed t) = done m c (relayed t) := (if_neg (by simp; omega)).trans (if_pos (by have := t.isLt; simp; omega))
theorem pay_copied (c : Dev nD) : pay m c copied = iprop(done m c copied ∗ at_ τ main_arg0 c ↦{PosShare.left fullShare} m (at_ τ main_arg0 c)) := rfl
theorem keep_arrived (t : Fin 9) (c : Dev nD) : keep m c (arrived t) = iprop(emp) := if_pos (by have := t.isLt; simp; omega)
theorem keep_of (c : Dev nD) (s : DmaSem sig) (h : ¬ (18 ≤ s.val ∧ s.val < 27)) : keep m c s = pay m c s := if_neg h
theorem done_passed (t : Fin 9) (c : Dev nD) : done m c (passed t) = done m c (arrived t) := by unfold done; rw [piece_passed, piece_arrived]

/-! ## The body's views -/

theorem dstAt_amount (s : DmaSem sig) (u : Fin 36) (off : Fin 3 → ℕ) (inb) : (dstAt off inb).view.amount (.dma s) = plan.amt ⟨u.val, Nat.lt_succ_of_lt u.isLt⟩ := (if_pos u.isLt).symm
theorem dstAt_credit (u : Fin 36) (off : Fin 3 → ℕ) (inb) : (dstAt off inb).view.dmaCredit = plan.amt ⟨u.val, Nat.lt_succ_of_lt u.isLt⟩ := (if_pos u.isLt).symm
theorem srcAt_credit (u : Fin 36) (off : Fin 2 → ℕ) (inb) : (srcAt off inb).view.dmaCredit = plan.amt ⟨u.val, Nat.lt_succ_of_lt u.isLt⟩ := (if_pos u.isLt).symm
theorem layerAt_amount (s : DmaSem sig) (off : Fin 3 → ℕ) (inb) : (layerAt off inb).view.amount (.dma s) = plan.amt copied := rfl
theorem layerAt_credit (off : Fin 3 → ℕ) (inb) : (layerAt off inb).view.dmaCredit = plan.amt copied := rfl

theorem srcAt_set (c : Dev nD) (t : Fin 9) (off : Fin 2 → ℕ) (inb) (h : off = ![row t c, 0]) : (srcAt off inb).view.set = rows 20448 1024 (row t c) 3408 :=
  (View.set_slice_whole main_arg0 _).trans (set_rows h inb)
theorem dstAt_set {k r : ℕ} (off : Fin 3 → ℕ) (inb) (h : off = ![k, r, 0]) : (dstAt off inb).view.set = box 4 20448 1024 k r 3408 := by
  refine (View.set_reshape _ _).trans ?_
  exact (View.set_slice_whole main_v1 _).trans (set_box h inb)
theorem layerAt_set (c : Dev nD) (off : Fin 3 → ℕ) (inb) (h : off = ![(chipOf c).val, 0, 0]) : (layerAt off inb).view.set = piece copied c := by
  refine (View.set_reshape _ _).trans ?_
  exact (View.set_slice_whole main_v1 _).trans (set_box h inb)

/-- A chunk of the result written with a device's own is the result's on the device of the other chip. -/
theorem landed_arrived (c : Dev nD) (t : Fin 9) (off : Fin 2 → ℕ) (inb) (h : off = ![row t c, 0])
    (off' : Fin 3 → ℕ) (inb') (h' : off' = ![(chipOf c).val, row t c, 0]) (fd : Buf (Elt F) (at_ τ main_v1 (peer (kk t) c))) :
    ((at_ τ main_v1 (peer (kk t) c)) ↦[(dstAt off' inb').view.set]{fullShare}
        ((dstAt off' inb').view.write (Elt F) fd ((srcAt off inb).view.read (Elt F) (m (at_ τ main_arg0 c))) Finset.univ) : sProp 𝕄)
      = done m (peer (kk t) c) (arrived t) := by
  unfold done
  rw [piece_arrived, lay_peer, row_peer, ← dstAt_set off' inb' h']
  refine pointsTo_congr fun i hi => landed (srcAt off inb).view (dstAt off' inb').view (m (at_ τ main_arg0 c)) fd (out m (peer (kk t) c)) (fun x => ?_) i hi
  have hx : (x 0).val < 3408 := (x 0).isLt
  have hr : row t c + (x 0).val < 20448 := by have := row_lt t c; omega
  show out m (peer (kk t) c) ((Rect.unit (s := S4x20448x1024) off' S1x3408x1024.size inb').emb (Shape.reshapeEquiv _ x))
    = m (at_ τ main_arg0 c) ((Rect.unit (s := S20448x1024) off S3408x1024.size inb).emb x)
  rw [show (Rect.unit (s := S4x20448x1024) off' S1x3408x1024.size inb').emb (Shape.reshapeEquiv _ x) = _ from slab_index h' inb' _ x (chipOf c).isLt hr,
    show (Rect.unit (s := S20448x1024) off S3408x1024.size inb).emb x = _ from rows_index h inb x hr]
  exact congrArg (fun d => m (at_ τ main_arg0 d) (ix2 (⟨row t c + (x 0).val, hr⟩ : Fin 20448) (x 1 : Fin 1024))) (owner_peer t c _ hx)

/-- A chunk passed on is the result's on the sibling. -/
theorem landed_relayed (c : Dev nD) (t : Fin 9) (off : Fin 3 → ℕ) (inb inb') (h : off = ![(lay t c).val, row t c, 0]) (fd : Buf (Elt F) (at_ τ main_v1 (sibling c))) :
    ((at_ τ main_v1 (sibling c)) ↦[(dstAt off inb').view.set]{fullShare}
        ((dstAt off inb').view.write (Elt F) fd ((dstAt off inb).view.read (Elt F) (out m c)) Finset.univ) : sProp 𝕄)
      = done m (sibling c) (relayed t) := by
  unfold done
  rw [piece_relayed, lay_sibling, sibling_sibling, ← dstAt_set off inb' h]
  refine pointsTo_congr fun i hi => landed (dstAt off inb).view (dstAt off inb').view (out m c) fd (out m (sibling c)) (fun x => ?_) i hi
  have hr : row t c + (x 0).val < 20448 := by have := row_lt t c; have hx : (x 0).val < 3408 := (x 0).isLt; omega
  show out m (sibling c) ((Rect.unit (s := S4x20448x1024) off S1x3408x1024.size inb).emb (Shape.reshapeEquiv _ x))
    = out m c ((Rect.unit (s := S4x20448x1024) off S1x3408x1024.size inb).emb (Shape.reshapeEquiv _ x))
  rw [show (Rect.unit (s := S4x20448x1024) off S1x3408x1024.size inb).emb (Shape.reshapeEquiv _ x) = _ from slab_index h inb _ x (lay t c).isLt hr]
  exact congrArg (fun d => m (at_ τ main_arg0 d) (ix2 (⟨row t c + (x 0).val, hr⟩ : Fin 20448) (x 1 : Fin 1024))) (owner_sibling c (lay t c) _ (lay_ne t c))

/-- A layer written with a device's shard is the result's in its chip's layer. -/
theorem landed_copied (c : Dev nD) (off : Fin 3 → ℕ) (inb) (h : off = ![(chipOf c).val, 0, 0]) (fd : Buf (Elt F) (at_ τ main_v1 c)) :
    ((at_ τ main_v1 c) ↦[(layerAt off inb).view.set]{fullShare}
        ((layerAt off inb).view.write (Elt F) fd ((Memref.whole main_arg0).view.read (Elt F) (m (at_ τ main_arg0 c))) Finset.univ) : sProp 𝕄)
      = done m c copied := by
  unfold done
  rw [← layerAt_set c off inb h]
  refine pointsTo_congr fun i hi => landed (Memref.whole main_arg0).view (layerAt off inb).view (m (at_ τ main_arg0 c)) fd (out m c) (fun x => ?_) i hi
  have hx : 0 + (x 0).val < 20448 := by have := (x 0).isLt; change (x 0).val < 20448 at this; omega
  show out m c ((Rect.unit (s := S4x20448x1024) off S1x20448x1024.size inb).emb (Shape.reshapeEquiv _ x)) = m (at_ τ main_arg0 c) x
  rw [show (Rect.unit (s := S4x20448x1024) off S1x20448x1024.size inb).emb (Shape.reshapeEquiv _ x) = _ from slab_index h inb _ x (chipOf c).isLt hx]
  refine (congrArg (fun d => m (at_ τ main_arg0 d) (ix2 (⟨0 + (x 0).val, hx⟩ : Fin 20448) (x 1 : Fin 1024))) (owner_self c _)).trans ?_
  refine congrArg (m (at_ τ main_arg0 c)) ?_
  funext a
  match a with
  | 0 => exact Fin.ext (Nat.zero_add _)
  | 1 => rfl

theorem routes_peer (t : Fin 9) (c : Dev nD) : τ.routes (c.tc : Thread nD τ) ((peer (kk t) c).tc : Thread nD τ) = true := by revert t c; decide
theorem routes_sibling (c : Dev nD) : τ.routes (c.tc : Thread nD τ) ((sibling c).tc : Thread nD τ) = true := by revert c; decide

/-! ## The numbers the kernel computes

A device's number is `4 x + 2 y + core`; the kernel computes devices, layers and rows from its parts. -/

theorem to_peer0 : ∀ c : Dev nD, 2 * (c.val / 2 % 2) + c.val % 2 + 4 - 4 * (c.val / 4) = (peer 0 c).val := by decide
theorem to_peer1 : ∀ c : Dev nD, 4 * (c.val / 4) + c.val % 2 + 2 - 2 * (c.val / 2 % 2) = (peer 1 c).val := by decide
theorem to_peer2 : ∀ c : Dev nD, c.val % 2 + 6 - (4 * (c.val / 4) + 2 * (c.val / 2 % 2)) = (peer 2 c).val := by decide
theorem of_chip : ∀ c : Dev nD, 2 * (c.val / 4) + c.val / 2 % 2 = (chipOf c).val := by decide
theorem of_peer0 : ∀ c : Dev nD, c.val / 2 % 2 + 2 - 2 * (c.val / 4) = (chipOf (peer 0 c)).val := by decide
theorem of_peer1 : ∀ c : Dev nD, 2 * (c.val / 4) + 1 - c.val / 2 % 2 = (chipOf (peer 1 c)).val := by decide
theorem of_peer2 : ∀ c : Dev nD, 3 - (2 * (c.val / 4) + c.val / 2 % 2) = (chipOf (peer 2 c)).val := by decide

/-- The offset of a device's own layer, of its chunks there, and of the chunks from the three other chips. -/
theorem off_layer (c : Dev nD) : k0_off1 c = ![(chipOf c).val, 0, 0] := by rw [k0_off1_eq, of_chip]
theorem off_own (c : Dev nD) (q : Fin 3) : k0_off2 c (BitVec.ofNat 32 (3408 * q.val)) = ![(chipOf c).val, 10224 * (c.val % 2) + 3408 * q.val, 0] := by rw [k0_off2_eq, of_chip]
theorem off_peer0 (c : Dev nD) (q : Fin 3) : k0_off4 c (BitVec.ofNat 32 (3408 * q.val)) = ![(chipOf (peer 0 c)).val, 10224 * (c.val % 2) + 3408 * q.val, 0] := by rw [k0_off4_eq, of_peer0]
theorem off_peer1 (c : Dev nD) (q : Fin 3) : k0_off5 c (BitVec.ofNat 32 (3408 * q.val)) = ![(chipOf (peer 1 c)).val, 10224 * (c.val % 2) + 3408 * q.val, 0] := by rw [k0_off5_eq, of_peer1]
theorem off_peer2 (c : Dev nD) (q : Fin 3) : k0_off6 c (BitVec.ofNat 32 (3408 * q.val)) = ![(chipOf (peer 2 c)).val, 10224 * (c.val % 2) + 3408 * q.val, 0] := by rw [k0_off6_eq, of_peer2]

/-! ## Transfers still to be begun -/

/-- The transfers from number `i` on. -/
def since (i : ℕ) : Finset (Fin 9) := Finset.univ.filter fun t => i ≤ t.val
theorem since_zero : since 0 = Finset.univ := by decide
theorem since_end : since 9 = ∅ := by decide
/-- The first of them taken. -/
theorem since_take (t : Fin 9) (Φ : Fin 9 → sProp 𝕄) : bigSep (since t.val) Φ = iprop(Φ t ∗ bigSep (since (t.val + 1)) Φ) := by
  rw [← put_in ((by decide : ∀ t : Fin 9, t ∉ since (t.val + 1)) t), (by decide : ∀ t : Fin 9, insert t (since (t.val + 1)) = since t.val) t]

/-- A transfer's semaphores are different for different transfers. -/
def sentE : Fin 9 ↪ DmaSem sig := ⟨sent, fun t t' => by revert t t'; decide⟩
def passedE : Fin 9 ↪ DmaSem sig := ⟨passed, fun t t' => by revert t t'; decide⟩
def arrivedE : Fin 9 ↪ DmaSem sig := ⟨arrived, fun t t' => by revert t t'; decide⟩
def relayedE : Fin 9 ↪ DmaSem sig := ⟨relayed, fun t t' => by revert t t'; decide⟩

/-- What holds of the semaphores with a piece of the result: of the arrivals from the chips and from the sibling, and of the copy. -/
theorem split_land (Φ : DmaSem sig → sProp 𝕄) :
    bigSep land Φ = iprop((bigSep Finset.univ fun t => Φ (arrived t)) ∗ (bigSep Finset.univ fun t => Φ (relayed t)) ∗ Φ copied) := by
  rw [show land = Finset.univ.map arrivedE ∪ (Finset.univ.map relayedE ∪ {copied}) by decide, BI.bigSep_union (by decide), BI.bigSep_union (by decide),
    BI.bigSep_map, BI.bigSep_map, bigSep_singleton]
  rfl
/-- Of all semaphores. -/
theorem split_all (Φ : DmaSem sig → sProp 𝕄) :
    bigSep Finset.univ Φ = iprop((bigSep Finset.univ fun t => Φ (sent t)) ∗ (bigSep Finset.univ fun t => Φ (passed t)) ∗ bigSep land Φ) := by
  rw [show (Finset.univ : Finset (DmaSem sig)) = Finset.univ.map sentE ∪ (Finset.univ.map passedE ∪ land) by decide, BI.bigSep_union (by decide), BI.bigSep_union (by decide),
    BI.bigSep_map, BI.bigSep_map]
  rfl

/-- What of a device's shard no transfer of a chip is given. -/
def rest (c : Dev nD) (j : Fin 3) : sProp 𝕄 :=
  at_ τ main_arg0 c ↦[Finset.univ \ (Finset.univ : Finset (Fin 3)).biUnion fun q => rows 20448 1024 (10224 * (c.val % 2) + 3408 * q.val) 3408]{third j} m (at_ τ main_arg0 c)

theorem chunks (c : Dev nD) (q q' : Fin 3) (h : q ≠ q') :
    Disjoint (rows 20448 1024 (10224 * (c.val % 2) + 3408 * q.val) 3408) (rows 20448 1024 (10224 * (c.val % 2) + 3408 * q'.val) 3408) := by
  refine Finset.disjoint_left.mpr fun i hi hi' => h (Fin.ext ?_)
  have h1 := mem_rows.mp hi; have h2 := mem_rows.mp hi'
  omega

/-- Half of a device's shard is lent to the nine transfers of its chunks. -/
theorem lend (c : Dev nD) :
    (at_ τ main_arg0 c ↦{PosShare.right fullShare} m (at_ τ main_arg0 c) : sProp 𝕄) = iprop(bigSep Finset.univ (mine m c) ∗ bigSep Finset.univ (rest m c)) := by
  have h : (at_ τ main_arg0 c ↦{PosShare.right fullShare} m (at_ τ main_arg0 c) : sProp 𝕄)
      = bigSep Finset.univ fun j : Fin 3 => at_ τ main_arg0 c ↦{third j} m (at_ τ main_arg0 c) := by
    rw [show (Finset.univ : Finset (Fin 3)) = {0, 1, 2} from rfl, put_in (by decide), put_in (by decide), bigSep_singleton]
    have h1 := pointsTo_share (ℓ := at_ τ main_arg0 c) (I := Finset.univ) (f := m (at_ τ main_arg0 c)) (Ix := Unit) (Name := ℕ) (U := UR sig nD τ) (Lvl := ℕ) (PosShare.mem_left_op_right (PosShare.right fullShare))
    have h2 := pointsTo_share (ℓ := at_ τ main_arg0 c) (I := Finset.univ) (f := m (at_ τ main_arg0 c)) (Ix := Unit) (Name := ℕ) (U := UR sig nD τ) (Lvl := ℕ) (PosShare.mem_left_op_right (PosShare.right (PosShare.right fullShare)))
    rw [equiv_iff.mp ⟨h1.1, h1.2⟩, equiv_iff.mp ⟨h2.1, h2.2⟩]
    rfl
  have hc (j : Fin 3) : (at_ τ main_arg0 c ↦{third j} m (at_ τ main_arg0 c) : sProp 𝕄)
      = iprop((bigSep Finset.univ fun q : Fin 3 => mine m c (finProdFinEquiv (j, q))) ∗ rest m c j) := by
    rw [cut Finset.univ (fun q : Fin 3 => rows 20448 1024 (10224 * (c.val % 2) + 3408 * q.val) 3408) (fun q _ q' _ hne => chunks c q q' hne)]
    unfold rest mine row
    simp only [(by decide : ∀ j q : Fin 3, kk (finProdFinEquiv (j, q)) = j) j, (by decide : ∀ j q : Fin 3, chunk (finProdFinEquiv (j, q)) = q) j]
  rw [h, BI.bigSep_congr fun j _ => hc j]
  refine (BI.bigSep_sep _ _ _).trans (congrArg (fun X : sProp 𝕄 => iprop(X ∗ bigSep Finset.univ (rest m c))) ?_)
  exact ((BI.bigSep_univ_equiv (finProdFinEquiv : Fin 3 × Fin 3 ≃ Fin (3 * 3)) (mine m c)).trans (BI.bigSep_univ_prod _)).symm

/-! ## The steps -/

variable {α : Type} {Q : α → sProp (MT nD τ sig Unit (Elt F) ℕ (UR sig nD τ) ℕ)} (𝒱 : Variants) (K : Dev nD × DmaSem sig → ℕ) (c : Dev nD)

/-- A device's progress: `i` transfers begun, `j` semaphores waited on. -/
abbrev step (i j : ℕ) : sProp (MT nD τ sig Unit (Elt F) ℕ (UR sig nD τ) ℕ) := plan.at_step (pay m) (keep m c) begun waited K c i j
/-- The place that a semaphore's piece of the result has on a device, as it was. -/
def place (n : Dev nD) (s : DmaSem sig) : sProp (MT nD τ sig Unit (Elt F) ℕ (UR sig nD τ) ℕ) := at_ τ main_v1 n ↦[piece s n]{fullShare} m (at_ τ main_v1 n)
/-- What the transfer of a device's own chunk needs: the chunk, and its place on the device of the other chip. -/
def own (t : Fin 9) : sProp (MT nD τ sig Unit (Elt F) ℕ (UR sig nD τ) ℕ) := iprop(mine m c t ∗ place m (peer (kk t) c) (arrived t))

variable (R : sProp (MT nD τ sig Unit (Elt F) ℕ (UR sig nD τ) ℕ))

/-- The copy of the device's own shard begun. -/
theorem copy {off : Fin 3 → ℕ} {inb : ∀ a, off a + S1x20448x1024.size a ≤ S4x20448x1024.size a} (h : off = ![(chipOf c).val, 0, 0])
    {hsrc : (Memref.whole main_arg0).view.WordExact} {hdst : (layerAt off inb).view.WordExact}
    {hsem : DmaTarget.Typed (nD := nD) .hbm (.dma copied) (.here (p := (Proc.tc : Proc τ)) (layerAt off inb))}
    {k : PUnit → Prog (TpuEff nD τ sig (Elt F) Λ₀ .tc) α}
    (next : iprop(step m K c 1 0 ∗ R) ⊢ wp frame (wpE defs₀ 𝒱 (c.tc : Thread nD τ) none) Set.univ (k ⟨⟩) Q) :
    iprop(step m K c 0 0 ∗ ((at_ τ main_arg0 c ↦{PosShare.left fullShare} m (at_ τ main_arg0 c)) ∗ place m c copied) ∗ R)
      ⊢ wp frame (wpE defs₀ 𝒱 (c.tc : Thread nD τ) none) Set.univ
          (.op (.enqueueDma (Memref.whole main_arg0) (.here (layerAt off inb)) (.dma copied) hsrc hdst hsem) k) Q := by
  have hw : (at_ τ main_arg0 c ↦{PosShare.left fullShare} m (at_ τ main_arg0 c) : sProp 𝕄)
      = ((Memref.whole main_arg0).view.loc (c.tc : Thread nD τ) ↦[(Memref.whole main_arg0).view.set]{PosShare.left fullShare} m (at_ τ main_arg0 c)) := by
    rw [show (Memref.whole main_arg0).view.set = (Finset.univ : Finset (Idx (at_ τ main_arg0 c))) from View.set_whole main_arg0]
  have hp : iprop(((layerAt off inb).view.loc (c.tc : Thread nD τ) ↦[(layerAt off inb).view.set]{fullShare}
        ((layerAt off inb).view.write (Elt F) (m (at_ τ main_v1 c)) ((Memref.whole main_arg0).view.read (Elt F) (m (at_ τ main_arg0 c))) Finset.univ))
      ∗ ((Memref.whole main_arg0).view.loc (c.tc : Thread nD τ) ↦[(Memref.whole main_arg0).view.set]{PosShare.left fullShare} m (at_ τ main_arg0 c)) : sProp 𝕄) ⊢ pay m c copied := by
    rw [pay_copied, ← hw]
    exact Entails.of_eq (congrArg (fun X : sProp 𝕄 => iprop(X ∗ at_ τ main_arg0 c ↦{PosShare.left fullShare} m (at_ τ main_arg0 c))) (landed_copied m c off inb h _))
  unfold place
  rw [← layerAt_set c off inb h, hw]
  iintro ⟨Hs, ⟨Ha, Ho⟩, HR⟩
  iapply (plan.step_copy (pay m) 𝒱 none K c (src := Memref.whole main_arg0) (dst := layerAt off inb) (sL := copied) (f := begun) (g := waited) (keep := keep m c)
    begun_copied (payer_copied c) recv_copied (layerAt_amount _ _ _) hp) $$ [Hs Ha Ho]
  · isplitl [Hs]; · iexact Hs
    isplitl [Ha]; · iexact Ha
    iexact Ho
  iintro Hs
  iapply next
  isplitl [Hs]; · iexact Hs
  iexact HR

/-- The transfer of a device's own chunk begun: what it needs goes with it. -/
theorem send (t : Fin 9) {off : Fin 2 → ℕ} {inb : ∀ a, off a + S3408x1024.size a ≤ S20448x1024.size a} (h : off = ![row t c, 0])
    {off' : Fin 3 → ℕ} {inb' : ∀ a, off' a + S1x3408x1024.size a ≤ S4x20448x1024.size a} (h' : off' = ![(chipOf c).val, row t c, 0])
    {n : Dev nD} (hn : n.val = (peer (kk t) c).val) {hsc : (dstAt off' inb').view.ref.isScScratch = false}
    {hsrc : (srcAt off inb).view.WordExact} {hdst : (dstAt off' inb').view.WordExact}
    {hsem : DmaTarget.Typed .hbm (.dma (arrived t)) (.remote (Dev.tc n : Thread nD τ) (dstAt off' inb') (.dma (sent t)) hsc)}
    {k : PUnit → Prog (TpuEff nD τ sig (Elt F) Λ₀ .tc) α}
    (next : iprop(step m K c (1 + t.val + 1) 0 ∗ bigSep (since (t.val + 1)) (own m c) ∗ R) ⊢ wp frame (wpE defs₀ 𝒱 (c.tc : Thread nD τ) none) Set.univ (k ⟨⟩) Q) :
    iprop(step m K c (1 + t.val) 0 ∗ bigSep (since t.val) (own m c) ∗ R)
      ⊢ wp frame (wpE defs₀ 𝒱 (c.tc : Thread nD τ) none) Set.univ
          (.op (.enqueueDma (srcAt off inb) (.remote (Dev.tc n : Thread nD τ) (dstAt off' inb') (.dma (sent t)) hsc) (.dma (arrived t)) hsrc hdst hsem) k) Q := by
  obtain rfl : n = peer (kk t) c := Fin.ext hn
  have hpS : ((srcAt off inb).view.loc (c.tc : Thread nD τ) ↦[(srcAt off inb).view.set]{third (kk t)} m (at_ τ main_arg0 c) : sProp 𝕄) ⊢ pay m c (sent t) := by
    rw [pay_sent]; unfold mine; rw [← srcAt_set c t off inb h]
  have hpR := Entails.of_eq ((landed_arrived m c t off inb h off' inb' h' (m (at_ τ main_v1 (peer (kk t) c)))).trans (pay_arrived m t (peer (kk t) c)).symm)
  have hset : piece (arrived t) (peer (kk t) c) = (dstAt off' inb').view.set := by
    rw [piece_arrived, lay_peer, row_peer, ← dstAt_set off' inb' h']
  rw [since_take]
  unfold own mine place
  rw [hset, ← srcAt_set c t off inb h]
  iintro ⟨Hs, ⟨⟨Ha, Ho⟩, Hall⟩, HR⟩
  iapply (plan.step_send (pay m) 𝒱 none K c (src := srcAt off inb) (dst := dstAt off' inb') (sS := sent t) (sR := arrived t) (f := begun) (g := waited) (keep := keep m c)
    (begun_own t) (Nat.zero_le _) (payer_arrived t c) (payer_sent t c) (recv_arrived t) (recv_sent t) (dstAt_amount _ ⟨18 + t.val, by have := t.isLt; omega⟩ _ _)
    ((if_pos (show (sent t).val < 36 by have := t.isLt; show t.val < 36; omega)).trans (if_pos (show (arrived t).val < 36 by have := t.isLt; show 18 + t.val < 36; omega)).symm) hpS hpR (routes_peer t c)) $$ [Hs Ha Ho]
  · isplitl [Hs]; · iexact Hs
    isplitl [Ha]; · iexact Ha
    iexact Ho
  iintro Hs
  iapply next
  isplitl [Hs]; · iexact Hs
  isplitl [Hall]; · iexact Hall
  iexact HR

/-- A chunk from another chip awaited, for passing on. -/
theorem take (t : Fin 9) {off : Fin 3 → ℕ} {inb inb' : ∀ a, off a + S1x3408x1024.size a ≤ S4x20448x1024.size a}
    {hsrc : (dstAt off inb).view.WordExact} {hdst : (dstAt off inb').view.WordExact} {k : PUnit → Prog (TpuEff nD τ sig (Elt F) Λ₀ .tc) α}
    (next : iprop((step m K c (10 + t.val) (t.val + 1) ∗ done m c (arrived t)) ∗ R) ⊢ wp frame (wpE defs₀ 𝒱 (c.tc : Thread nD τ) none) Set.univ (k ⟨⟩) Q) :
    iprop(step m K c (10 + t.val) t.val ∗ R)
      ⊢ wp frame (wpE defs₀ 𝒱 (c.tc : Thread nD τ) none) Set.univ (.op (.waitDma2 (arrived t) (dstAt off inb) (dstAt off inb') hsrc hdst) k) Q := by
  iintro ⟨Hs, HR⟩
  iapply (plan.step_take (pay m) 𝒱 none K c (f := begun) (g := waited) (keep := keep m c) (waited_arrived t) (Or.inl (recv_arrived t))
    (dstAt_credit ⟨18 + t.val, by have := t.isLt; omega⟩ _ _) (level_arrived t)
    (Entails.of_eq ((pay_arrived m t c).trans (by rw [keep_arrived]; exact (equiv_iff.mp BI.emp_sep).symm)))) $$ [Hs]
  · iexact Hs
  iintro Hs
  iapply next
  isplitl [Hs]; · iexact Hs
  iexact HR

/-- The chunk at hand passed on to the sibling. -/
theorem pass (t : Fin 9) {off : Fin 3 → ℕ} {inb inb' : ∀ a, off a + S1x3408x1024.size a ≤ S4x20448x1024.size a} (h : off = ![(lay t c).val, row t c, 0])
    {n : Dev nD} (hn : n.val = (sibling c).val) {hsc : (dstAt off inb').view.ref.isScScratch = false}
    {hsrc : (dstAt off inb).view.WordExact} {hdst : (dstAt off inb').view.WordExact}
    {hsem : DmaTarget.Typed .hbm (.dma (relayed t)) (.remote (Dev.tc n : Thread nD τ) (dstAt off inb') (.dma (passed t)) hsc)}
    {k : PUnit → Prog (TpuEff nD τ sig (Elt F) Λ₀ .tc) α}
    (next : iprop(step m K c (10 + t.val + 1) (t.val + 1) ∗ bigSep (since (t.val + 1)) (fun t => place m (sibling c) (relayed t)) ∗ R)
      ⊢ wp frame (wpE defs₀ 𝒱 (c.tc : Thread nD τ) none) Set.univ (k ⟨⟩) Q) :
    iprop((step m K c (10 + t.val) (t.val + 1) ∗ done m c (arrived t)) ∗ bigSep (since t.val) (fun t => place m (sibling c) (relayed t)) ∗ R)
      ⊢ wp frame (wpE defs₀ 𝒱 (c.tc : Thread nD τ) none) Set.univ
          (.op (.enqueueDma (dstAt off inb) (.remote (Dev.tc n : Thread nD τ) (dstAt off inb') (.dma (passed t)) hsc) (.dma (relayed t)) hsrc hdst hsem) k) Q := by
  obtain rfl : n = sibling c := Fin.ext hn
  have hpS : ((dstAt off inb).view.loc (c.tc : Thread nD τ) ↦[(dstAt off inb).view.set]{fullShare} out m c : sProp 𝕄) ⊢ pay m c (passed t) := by
    rw [pay_passed]; unfold done; rw [piece_passed, ← dstAt_set off inb h]
  have hpR := Entails.of_eq ((landed_relayed m c t off inb inb' h (m (at_ τ main_v1 (sibling c)))).trans (pay_relayed m t (sibling c)).symm)
  have hset : piece (relayed t) (sibling c) = (dstAt off inb').view.set := by
    rw [piece_relayed, lay_sibling, sibling_sibling, ← dstAt_set off inb' h]
  rw [since_take]
  unfold place done
  rw [hset, piece_arrived, ← dstAt_set off inb h]
  iintro ⟨⟨Hs, Ha⟩, ⟨Ho, Hall⟩, HR⟩
  iapply (plan.step_send (pay m) 𝒱 none K c (src := dstAt off inb) (dst := dstAt off inb') (sS := passed t) (sR := relayed t) (f := begun) (g := waited) (keep := keep m c)
    (begun_pass t) ((by decide : ∀ t, t.val + 1 ≤ waited (passed t)) t) (payer_relayed t c) (payer_passed t c) (recv_relayed t) (recv_passed t) (dstAt_amount _ ⟨27 + t.val, by have := t.isLt; omega⟩ _ _)
    ((if_pos (show (passed t).val < 36 by have := t.isLt; show 9 + t.val < 36; omega)).trans (if_pos (show (relayed t).val < 36 by have := t.isLt; show 27 + t.val < 36; omega)).symm) hpS hpR (routes_sibling c)) $$ [Hs Ha Ho]
  · isplitl [Hs]; · iexact Hs
    isplitl [Ha]; · iexact Ha
    iexact Ho
  iintro Hs
  iapply next
  isplitl [Hs]; · iexact Hs
  isplitl [Hall]; · iexact Hall
  iexact HR

/-- A semaphore waited on, all transfers begun. -/
theorem await (j : ℕ) (s : DmaSem sig) (hj : ∀ y, waited y = j ↔ y = s) (hk : ¬ (18 ≤ s.val ∧ s.val < 27)) {κ' : Kind} {sp sp' : Space} {t t' : Shape} {e e' : EltTy}
    {src : Memref sig .tc sp' t' e'} {dst : Memref sig κ' sp t e} {hsrc : src.view.WordExact} {hdst : dst.view.WordExact}
    {k : PUnit → Prog (TpuEff nD τ sig (Elt F) Λ₀ .tc) α} (hN : dst.view.dmaCredit = plan.amt s)
    (next : iprop(step m K c 19 (j + 1) ∗ R) ⊢ wp frame (wpE defs₀ 𝒱 (c.tc : Thread nD τ) none) Set.univ (k ⟨⟩) Q) :
    iprop(step m K c 19 j ∗ R) ⊢ wp frame (wpE defs₀ 𝒱 (c.tc : Thread nD τ) none) Set.univ (.op (.waitDma2 s src dst hsrc hdst) k) Q := by
  iintro ⟨Hs, HR⟩
  iapply (plan.step_wait (pay m) 𝒱 none K c (f := begun) (g := waited) (keep := keep m c) hj (Or.inr (begun_lt s)) hN (fun s' _ h => absurd h (Nat.not_le_of_lt (begun_lt s')))
    (Entails.of_eq (keep_of m c s hk).symm)) $$ [Hs]
  · iexact Hs
  iintro Hs
  iapply next
  isplitl [Hs]; · iexact Hs
  iexact HR

/-- What is still to be begun is nothing at the end. -/
theorem since_none (X : sProp 𝕄) (Φ : Fin 9 → sProp 𝕄) : iprop(X ∗ bigSep (since 9) Φ ∗ R) = iprop(X ∗ R) := by
  rw [since_end, BI.bigSep_empty]
  exact congrArg (fun Y : sProp 𝕄 => iprop(X ∗ Y)) (equiv_iff.mp BI.emp_sep)

/-! ## The body -/

/-- What a device has at the start is what the steps need: half of its shard for the copy, the other half lent to the
    transfers, and the places of the pieces it sends. -/
theorem before :
    iprop(plan.state (pay m) K c Finset.univ Finset.univ plan.recv plan.recv ∗ (at_ τ main_arg0 c ↦{fullShare} m (at_ τ main_arg0 c))
        ∗ bigSep land fun s => at_ τ main_v1 (plan.payer s c) ↦[piece s (plan.payer s c)]{fullShare} m (at_ τ main_v1 (plan.payer s c)))
      ⊢ iprop(step m K c 0 0 ∗ ((at_ τ main_arg0 c ↦{PosShare.left fullShare} m (at_ τ main_arg0 c)) ∗ place m c copied)
        ∗ bigSep (since 0) (own m c) ∗ bigSep (since 0) (fun t => place m (sibling c) (relayed t)) ∗ bigSep Finset.univ (rest m c)) := by
  have hown : bigSep (since 0) (own m c) = iprop(bigSep Finset.univ (mine m c) ∗ bigSep Finset.univ fun t => place m (peer (kk t) c) (arrived t)) := by
    rw [since_zero]; exact BI.bigSep_sep _ _ _
  have hplaces : (bigSep land fun s => at_ τ main_v1 (plan.payer s c) ↦[piece s (plan.payer s c)]{fullShare} m (at_ τ main_v1 (plan.payer s c)) : sProp 𝕄)
      = iprop((bigSep Finset.univ fun t => place m (peer (kk t) c) (arrived t)) ∗ (bigSep Finset.univ fun t => place m (sibling c) (relayed t)) ∗ place m c copied) := by
    refine (split_land fun s => place m (plan.payer s c) s).trans ?_
    rw [show (fun t => place m (plan.payer (arrived t) c) (arrived t)) = fun t => place m (peer (kk t) c) (arrived t) from funext fun t => by rw [payer_arrived],
      show (fun t => place m (plan.payer (relayed t) c) (relayed t)) = fun t => place m (sibling c) (relayed t) from funext fun t => by rw [payer_relayed], payer_copied]
  rw [hown, hplaces, since_zero]
  iintro ⟨Hs, Ha, Harrived, Hrelayed, Hcopied⟩
  ihave Hs := (plan.step_start (pay m) K c (keep := keep m c) (f := begun) (g := waited)) $$ Hs
  ihave Ha := (pointsTo_share (PosShare.mem_left_op_right fullShare)).1 $$ Ha
  icases Ha with ⟨Hl, Hr⟩
  ihave Hr := (Entails.of_eq (lend m c)) $$ Hr
  icases Hr with ⟨Hmine, Hrest⟩
  isplitl [Hs]; · iexact Hs
  isplitl [Hl Hcopied]
  · isplitl [Hl]; · iexact Hl
    iexact Hcopied
  isplitl [Hmine Harrived]
  · isplitl [Hmine]; · iexact Hmine
    iexact Harrived
  isplitl [Hrelayed]; · iexact Hrelayed
  iexact Hrest

/-- When all is waited on, what was kept and what was never lent make up the shard and the result. -/
theorem after :
    iprop(step m K c 19 37 ∗ bigSep Finset.univ (rest m c))
      ⊢ iprop(∃ T C, plan.state (pay m) K c T ∅ C ∅ ∗ (at_ τ main_arg0 c ↦{fullShare} m (at_ τ main_arg0 c))
            ∗ bigSep land fun s => at_ τ main_v1 c ↦[piece s c]{fullShare} out m c) := by
  have hs (t : Fin 9) : keep m c (sent t) = mine m c t := (keep_of m c _ (by have := t.isLt; simp; omega)).trans (pay_sent m t c)
  have hp (t : Fin 9) : keep m c (passed t) = done m c (arrived t) := (keep_of m c _ (by have := t.isLt; simp; omega)).trans ((pay_passed m t c).trans (done_passed m t c))
  have hr (t : Fin 9) : keep m c (relayed t) = done m c (relayed t) := (keep_of m c _ (by simp)).trans (pay_relayed m t c)
  have hc : keep m c copied = iprop(done m c copied ∗ at_ τ main_arg0 c ↦{PosShare.left fullShare} m (at_ τ main_arg0 c)) := (keep_of m c _ (by decide)).trans (pay_copied m c)
  have hall : bigSep Finset.univ (keep m c) = iprop(bigSep Finset.univ (mine m c) ∗ (bigSep Finset.univ fun t => done m c (arrived t))
      ∗ (bigSep Finset.univ fun _ : Fin 9 => iprop(emp)) ∗ (bigSep Finset.univ fun t => done m c (relayed t))
      ∗ done m c copied ∗ at_ τ main_arg0 c ↦{PosShare.left fullShare} m (at_ τ main_arg0 c)) := by
    rw [split_all, split_land]
    simp only [hs, hp, hr, hc, keep_arrived]
  have hout : (bigSep land fun s => at_ τ main_v1 c ↦[piece s c]{fullShare} out m c : sProp 𝕄)
      = iprop((bigSep Finset.univ fun t => done m c (arrived t)) ∗ (bigSep Finset.univ fun t => done m c (relayed t)) ∗ done m c copied) :=
    split_land (done m c)
  rw [hout]
  iintro ⟨Hs, Hrest⟩
  ihave Hs := (plan.step_end (pay m) K c begun_lt waited_lt) $$ Hs
  icases Hs with ⟨⟨%T, %C, Hs⟩, Hk⟩
  ihave Hk := (Entails.of_eq hall) $$ Hk
  icases Hk with ⟨Hmine, Harrived, -, Hrelayed, Hcopied, Hl⟩
  ihave Hr := (Entails.of_eq (lend m c).symm) $$ [Hmine Hrest]
  · isplitl [Hmine]; · iexact Hmine
    iexact Hrest
  ihave Ha := (pointsTo_share (PosShare.mem_left_op_right fullShare)).2 $$ [Hl Hr]
  · isplitl [Hl]; · iexact Hl
    iexact Hr
  iexists T, C
  isplitl [Hs]; · iexact Hs
  isplitl [Ha]; · iexact Ha
  isplitl [Harrived]; · iexact Harrived
  isplitl [Hrelayed]; · iexact Hrelayed
  iexact Hcopied

/-- The kernel's body on a device, from the exchange not begun to every semaphore waited on. -/
theorem body :
    iprop(plan.state (pay m) K c Finset.univ Finset.univ plan.recv plan.recv ∗ (at_ τ main_arg0 c ↦{fullShare} m (at_ τ main_arg0 c))
        ∗ bigSep land fun s => at_ τ main_v1 (plan.payer s c) ↦[piece s (plan.payer s c)]{fullShare} m (at_ τ main_v1 (plan.payer s c)))
      ⊢ wp frame (wpE defs₀ 𝒱 c none) Set.univ (cc0_ag_weights (F := F) (Memref.whole main_arg0) (Memref.isWhole_whole _) (Memref.whole main_v1) (Memref.isWhole_whole _) cc0_scratch0 cc0_scratch1 cc0_scratch2)
          fun _ => iprop(∃ T C, plan.state (pay m) K c T ∅ C ∅ ∗ (at_ τ main_arg0 c ↦{fullShare} m (at_ τ main_arg0 c))
            ∗ bigSep land fun s => at_ τ main_v1 c ↦[piece s c]{fullShare} out m c) := by
  simp only [cc0_ag_weights_eq_skeleton]
  unfold cc0_ag_weights_skel
  simp only [k0_part25_eq_skeleton]
  unfold k0_part25_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel
  simp only [Prog.lift, Prog.bind_op, Prog.bind_ret, Prog.pure_eq_ret, wp_deviceId]
  refine (before m K c).trans ?_
  refine copy m 𝒱 K c _ (off_layer c) ?_
  refine send m 𝒱 K c _ 0 (k0_off3_eq c 0) (off_own c 0) ((k0_dev1_eq c).trans (to_peer0 c)) ?_
  refine send m 𝒱 K c _ 1 (k0_off3_eq c 1) (off_own c 1) ((k0_dev2_eq c).trans (to_peer0 c)) ?_
  refine send m 𝒱 K c _ 2 (k0_off3_eq c 2) (off_own c 2) ((k0_dev3_eq c).trans (to_peer0 c)) ?_
  refine send m 𝒱 K c _ 3 (k0_off3_eq c 0) (off_own c 0) ((k0_dev4_eq c).trans (to_peer1 c)) ?_
  refine send m 𝒱 K c _ 4 (k0_off3_eq c 1) (off_own c 1) ((k0_dev5_eq c).trans (to_peer1 c)) ?_
  refine send m 𝒱 K c _ 5 (k0_off3_eq c 2) (off_own c 2) ((k0_dev6_eq c).trans (to_peer1 c)) ?_
  refine send m 𝒱 K c _ 6 (k0_off3_eq c 0) (off_own c 0) ((k0_dev7_eq c).trans (to_peer2 c)) ?_
  refine send m 𝒱 K c _ 7 (k0_off3_eq c 1) (off_own c 1) ((k0_dev8_eq c).trans (to_peer2 c)) ?_
  refine send m 𝒱 K c _ 8 (k0_off3_eq c 2) (off_own c 2) ((k0_dev9_eq c).trans (to_peer2 c)) ?_
  refine (Entails.of_eq (since_none _ _ _)).trans ?_
  refine take m 𝒱 K c _ 0 ?_
  refine pass m 𝒱 K c _ 0 (off_peer0 c 0) (k0_dev10_eq c) ?_
  refine take m 𝒱 K c _ 1 ?_
  refine pass m 𝒱 K c _ 1 (off_peer0 c 1) (k0_dev11_eq c) ?_
  refine take m 𝒱 K c _ 2 ?_
  refine pass m 𝒱 K c _ 2 (off_peer0 c 2) (k0_dev12_eq c) ?_
  refine take m 𝒱 K c _ 3 ?_
  refine pass m 𝒱 K c _ 3 (off_peer1 c 0) (k0_dev13_eq c) ?_
  refine take m 𝒱 K c _ 4 ?_
  refine pass m 𝒱 K c _ 4 (off_peer1 c 1) (k0_dev14_eq c) ?_
  refine take m 𝒱 K c _ 5 ?_
  refine pass m 𝒱 K c _ 5 (off_peer1 c 2) (k0_dev15_eq c) ?_
  refine take m 𝒱 K c _ 6 ?_
  refine pass m 𝒱 K c _ 6 (off_peer2 c 0) (k0_dev16_eq c) ?_
  refine take m 𝒱 K c _ 7 ?_
  refine pass m 𝒱 K c _ 7 (off_peer2 c 1) (k0_dev17_eq c) ?_
  refine take m 𝒱 K c _ 8 ?_
  refine pass m 𝒱 K c _ 8 (off_peer2 c 2) (k0_dev18_eq c) ?_
  refine (Entails.of_eq (since_none _ _ _)).trans ?_
  refine await m 𝒱 K c _ 9 (relayed 0) (waited_relayed 0) (by decide) (dstAt_credit 27 _ _) ?_
  refine await m 𝒱 K c _ 10 (relayed 1) (waited_relayed 1) (by decide) (dstAt_credit 28 _ _) ?_
  refine await m 𝒱 K c _ 11 (relayed 2) (waited_relayed 2) (by decide) (dstAt_credit 29 _ _) ?_
  refine await m 𝒱 K c _ 12 (relayed 3) (waited_relayed 3) (by decide) (dstAt_credit 30 _ _) ?_
  refine await m 𝒱 K c _ 13 (relayed 4) (waited_relayed 4) (by decide) (dstAt_credit 31 _ _) ?_
  refine await m 𝒱 K c _ 14 (relayed 5) (waited_relayed 5) (by decide) (dstAt_credit 32 _ _) ?_
  refine await m 𝒱 K c _ 15 (relayed 6) (waited_relayed 6) (by decide) (dstAt_credit 33 _ _) ?_
  refine await m 𝒱 K c _ 16 (relayed 7) (waited_relayed 7) (by decide) (dstAt_credit 34 _ _) ?_
  refine await m 𝒱 K c _ 17 (relayed 8) (waited_relayed 8) (by decide) (dstAt_credit 35 _ _) ?_
  refine await m 𝒱 K c _ 18 (sent 0) (waited_sent 0) (by decide) (srcAt_credit 0 _ _) ?_
  refine await m 𝒱 K c _ 19 (sent 1) (waited_sent 1) (by decide) (srcAt_credit 1 _ _) ?_
  refine await m 𝒱 K c _ 20 (sent 2) (waited_sent 2) (by decide) (srcAt_credit 2 _ _) ?_
  refine await m 𝒱 K c _ 21 (sent 3) (waited_sent 3) (by decide) (srcAt_credit 3 _ _) ?_
  refine await m 𝒱 K c _ 22 (sent 4) (waited_sent 4) (by decide) (srcAt_credit 4 _ _) ?_
  refine await m 𝒱 K c _ 23 (sent 5) (waited_sent 5) (by decide) (srcAt_credit 5 _ _) ?_
  refine await m 𝒱 K c _ 24 (sent 6) (waited_sent 6) (by decide) (srcAt_credit 6 _ _) ?_
  refine await m 𝒱 K c _ 25 (sent 7) (waited_sent 7) (by decide) (srcAt_credit 7 _ _) ?_
  refine await m 𝒱 K c _ 26 (sent 8) (waited_sent 8) (by decide) (srcAt_credit 8 _ _) ?_
  refine await m 𝒱 K c _ 27 (passed 0) (waited_passed 0) (by decide) (dstAt_credit 9 _ _) ?_
  refine await m 𝒱 K c _ 28 (passed 1) (waited_passed 1) (by decide) (dstAt_credit 10 _ _) ?_
  refine await m 𝒱 K c _ 29 (passed 2) (waited_passed 2) (by decide) (dstAt_credit 11 _ _) ?_
  refine await m 𝒱 K c _ 30 (passed 3) (waited_passed 3) (by decide) (dstAt_credit 12 _ _) ?_
  refine await m 𝒱 K c _ 31 (passed 4) (waited_passed 4) (by decide) (dstAt_credit 13 _ _) ?_
  refine await m 𝒱 K c _ 32 (passed 5) (waited_passed 5) (by decide) (dstAt_credit 14 _ _) ?_
  refine await m 𝒱 K c _ 33 (passed 6) (waited_passed 6) (by decide) (dstAt_credit 15 _ _) ?_
  refine await m 𝒱 K c _ 34 (passed 7) (waited_passed 7) (by decide) (dstAt_credit 16 _ _) ?_
  refine await m 𝒱 K c _ 35 (passed 8) (waited_passed 8) (by decide) (dstAt_credit 17 _ _) ?_
  refine await m 𝒱 K c _ 36 copied waited_copied (by decide) (layerAt_credit _ _) ?_
  rw [wp_ret]
  exact (after m K c).trans fupd_intro

/-! ## The run -/

/-- A run of the whole mesh: every device ends with the result in place, its shard as it was and no semaphore credited. -/
theorem run_main (g : Dev nD → PrngReg) :
    θ_run (defs (F := F)) (onTc main) ⟨m, fun _ => 0, g⟩ fun r =>
      (∀ c, r.2.mem (at_ τ main_v1 c) = out m c ∧ r.2.mem (at_ τ main_arg0 c) = m (at_ τ main_arg0 c))
      ∧ ∀ g', (g'.1.2 ≠ .tc ∨ g'.2.isScoped .tc = true) → r.2.sem g' = 0 :=
  plan.run (pay m) pcfgs (fun q => (cfgs q).toPCfg_adm) 0 (by decide) defs₀ Variants.none (fun p => match p with | 0 => (inferInstance : IsEmpty (Fin 0))) N_0 (inferInstanceAs (IsEmpty (Fin 0))) (by decide) (by decide) pieces m g (out m) main (fun _ => rfl)
    (fun K c t => body m _ K c) (fun s h h' => ⟨h, h'⟩)

end Cert.GatherIdeal.Talk
-- ==== Proof.GatherClaims.lean ====
/- The claims of the all-gather of the weight shards, `Gather`: its runs, on bits and on reals, from the one run of
   Gather.lean; the run of its reference; and that what every device ends with is the reference's result. -/
module

public import proofs.«01_k».proof.Defs
public import proofs.«01_k».proof.Proof.Gather
public import proofs.«01_k».proof.Proof.Gen.Gather
public import proofs.«01_k».proof.Proof.Gen.GatherRef
public import proofs.«01_k».proof.Proof.Gen.GatherRefIdeal
public import Idealize.ShloMosaic.Lib.Quiescent

@[expose] public section

set_option Elab.async false

noncomputable section

/-! ## The reference -/

namespace Cert.GatherRefIdeal.Whole

open Idealize.ShloMosaic Idealize.ShloMosaic.TcCoe Idealize.ShloMosaic.StableHlo Idealize.SL.Sem
open Cert.GatherRefIdeal.Gen

variable {F : FTy → Type} [FloatOps F]

/-- The reference's result: the rows cut into four layers. -/
abbrev result (x : FVec F S81792x1024 .bf16) : FVec F S4x20448x1024 .bf16 := shapeCast S4x20448x1024 x shapeCasts_S81792x1024_S4x20448x1024

/-- Its one operation. -/
abbrev ops : List (HloOp τ sig (Elt F)) :=
  [reshape main_arg0 main_v0 (rfl : (.bf16 : EltTy) = .bf16) shapeCasts_S81792x1024_S4x20448x1024]

theorem main_eq (c : Dev nD) : main (F := F) c = seq ops := rfl
theorem result_eq (V : Valuation τ sig (Elt F)) : after ops V (main_v0 : DevRef τ sig) = result (V (main_arg0 : DevRef τ sig)) := by
  after_results
  rfl
theorem arg0_eq (V : Valuation τ sig (Elt F)) : after ops V (main_arg0 : DevRef τ sig) = V (main_arg0 : DevRef τ sig) := by
  after_results
theorem ops_sub : (ops : List (HloOp τ sig (Elt F))).Forall fun op => op.bufs ⊆ tcRefs τ sig := by
  simp only [List.Forall]
  exact reshape_bufs_sub ..

/-- The reference's run: `result` of the argument, the argument as it was, and no semaphore to be credited. -/
theorem run_main (m : (ℓ : Loc nD τ sig) → Buf (Elt F) ℓ) (g : Dev nD → PrngReg) :
    θ_run defs (onTc (τ := τ) (main (F := F))) ⟨m, fun _ => 0, g⟩ fun r =>
      (∀ c : Dev nD, r.2.mem ((c.tc : Thread nD τ).loc main_v0) = result (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun _ h => ⟨fun c => ⟨(h c main_v0).trans (result_eq _), (h c main_arg0).trans (arg0_eq _)⟩, sem_eq_zero_of_no_sems rfl _⟩)
    (run_seq (by decide) (by decide) defs main (fun _ => ops) main_eq (fun _ => ops_sub) m g)

end Cert.GatherRefIdeal.Whole

/-! ## The claims -/

namespace Cert.GatherIdeal.Talk

open Idealize.ShloMosaic Idealize.ShloMosaic.TcCoe Idealize.ShloMosaic.ValueIdx Idealize.SL.Sem
open Cert.Devices Cert.Devices.Plan

variable {F : FTy → Type} [FloatOps F]

/-- The block of the weights that device `c` holds: its chip's, whole columns. -/
abbrev chip (c : Dev nD) := Layout.meshBlock (r := 2) [2, 2, 2] ![[0, 1], []] c
theorem chip_val (c : Dev nD) : (chip c 0).val = c.val / 2 ∧ (chip c 1).val = 0 := by
  revert c; decide

/-- The owner of a row of layer `k` of a device's result is on chip `k`. -/
theorem owner_val (c : Dev nD) (k : Fin 4) (r : ℕ) : (owner c k r).val / 2 = k.val := by
  unfold owner
  split
  · next h => exact congrArg Fin.val h.symm
  · show (2 * k.val + r / 10224 % 2) / 2 = k.val
    omega

/-- Every device's result is the reference's. -/
theorem out_whole (m : (ℓ : Loc nD τ sig) → Buf (Elt F) ℓ) (x : FVec F ⟨2, ![81792, 1024]⟩ .bf16)
    (hm : ∀ c : Dev nD, m (at_ τ main_arg0 c) = Layout.blockN ⟨2, ![20448, 1024]⟩ ⟨2, ![81792, 1024]⟩ (Layout.meshBlock [2, 2, 2] ![[0, 1], []] c) x) (c : Dev nD) :
    out m c = Cert.GatherRefIdeal.Whole.result x := by
  funext (i : (⟨3, ![4, 20448, 1024]⟩ : Shape).Idx)
  unfold out
  rw [hm]
  refine congrArg x (Eq.symm (Shape.reshapeEquiv_eq_of_rowMajor _ ?_))
  rw [Shape.rowMajor_val_two, Shape.rowMajor_val_three]
  show ((chip (owner c (i 0 : Fin 4) (i 1).val) 0).val * 20448 + (i 1).val) * 1024 + ((chip (owner c (i 0 : Fin 4) (i 1).val) 1).val * 1024 + (i 2).val)
    = ((i 0).val * 20448 + (i 1).val) * 1024 + (i 2).val
  have h : (owner c (i 0 : Fin 4) (i 1).val).val / 2 = (i 0).val := owner_val c _ _
  rw [(chip_val _).1, (chip_val _).2]
  omega

/-- The program's run and the reference's, compared: over any float values. -/
theorem agree (m : (ℓ : Loc nD τ sig) → Buf (Elt F) ℓ) (g : Dev nD → PrngReg)
    (m' : (ℓ : Loc Cert.GatherRefIdeal.nD Cert.GatherRefIdeal.τ Cert.GatherRefIdeal.sig) → Buf (Elt F) ℓ) (g' : Dev Cert.GatherRefIdeal.nD → PrngReg)
    (hm : ∀ c : Dev nD, m (at_ τ main_arg0 c) = Layout.blockN ⟨2, ![20448, 1024]⟩ ⟨2, ![81792, 1024]⟩ (Layout.meshBlock [2, 2, 2] ![[0, 1], []] c)
      (m' (((0 : Dev Cert.GatherRefIdeal.nD).tc : Thread Cert.GatherRefIdeal.nD Cert.GatherRefIdeal.τ).loc Cert.GatherRefIdeal.main_arg0))) :
    ∃ v0 : Buf (Elt F) (((0 : Dev Cert.GatherRefIdeal.nD).tc : Thread Cert.GatherRefIdeal.nD Cert.GatherRefIdeal.τ).loc Cert.GatherRefIdeal.main_v0),
      θ_run (defs (F := F)) (onTc (τ := τ) (main (F := F))) ⟨m, fun _ => 0, g⟩ (fun r => ∀ c : Dev nD,
          r.2.mem (at_ τ main_v1 c) = v0
          ∧ r.2.mem (at_ τ main_arg0 c) = m (at_ τ main_arg0 c))
      ∧ θ_run (Cert.GatherRefIdeal.defs (F := F)) (onTc (τ := Cert.GatherRefIdeal.τ) (Cert.GatherRefIdeal.main (F := F))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0)
            = m' (((0 : Dev Cert.GatherRefIdeal.nD).tc : Thread Cert.GatherRefIdeal.nD Cert.GatherRefIdeal.τ).loc Cert.GatherRefIdeal.main_arg0)) :=
  ⟨_, (θ_run defs _ _).mono (fun _ h c => ⟨(h.1 c).1.trans (out_whole m _ hm c), (h.1 c).2⟩) (run_main m g),
    (θ_run Cert.GatherRefIdeal.defs _ _).mono (fun _ h => h.1 0) (Cert.GatherRefIdeal.Whole.run_main m' g')⟩

/-! ## The claims, on reals and on bits -/

theorem frame : Cert.quiescent_Gather := fun m g _ =>
  (θ_run (defs (F := Bits)) _ _).mono (fun _ h => ⟨fun c => (h.1 c).2, sem_eq_zero_of_scoped (by decide) h.2⟩) (run_main (F := Bits) m g)
theorem frame_ideal : Cert.quiescent_GatherIdeal := fun m g _ =>
  (θ_run (defs (F := Ideal)) _ _).mono (fun _ h => ⟨fun c => (h.1 c).2, sem_eq_zero_of_scoped (by decide) h.2⟩) (run_main (F := Ideal) m g)
theorem frame_ref : Cert.quiescent_GatherRef := fun m g _ =>
  (θ_run (Cert.GatherRefIdeal.defs (F := Bits)) _ _).mono (fun _ h => ⟨fun c => (h.1 c).2, h.2⟩) (Cert.GatherRefIdeal.Whole.run_main (F := Bits) m g)
theorem frame_refIdeal : Cert.quiescent_GatherRefIdeal := fun m g _ =>
  (θ_run (Cert.GatherRefIdeal.defs (F := Ideal)) _ _).mono (fun _ h => ⟨fun c => (h.1 c).2, h.2⟩) (Cert.GatherRefIdeal.Whole.run_main (F := Ideal) m g)

theorem algebraic : Cert.algebraic_GatherIdeal_GatherRefIdeal := fun m g m' g' _ hm => agree (F := Ideal) m g m' g' hm
theorem bitexact : Cert.bitexact_Gather_GatherRef := fun m g m' g' _ hm => agree (F := Bits) m g m' g' hm

end Cert.GatherIdeal.Talk
-- ==== Proof.Update.lean ====
/- The AdamW update. Each of its calls goes over its arrays in blocks of rows and works element by element, so what it
   leaves is the update of the whole arrays; the quotients and the square root of the kernel and of the host are one
   function over the reals. -/
module

public import proofs.«01_k».proof.Defs
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamQ.Frame
public import proofs.«01_k».proof.Proof.Gen.AdamQIdeal.Value
public import proofs.«01_k».proof.Proof.Gen.AdamQRefIdeal.Run
public import proofs.«01_k».proof.Proof.Gen.AdamKv.Frame
public import proofs.«01_k».proof.Proof.Gen.AdamKvIdeal.Value
public import proofs.«01_k».proof.Proof.Gen.AdamKvRefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamGains.Frame
public import proofs.«01_k».proof.Proof.Gen.AdamGainsIdeal.Value
public import proofs.«01_k».proof.Proof.Gen.AdamGainsRefIdeal.Run
public import Idealize.ShloMosaic.Lib.Quiescent

@[expose] public section

set_option Elab.async false

noncomputable section

namespace Cert.Update

open Idealize.ShloMosaic Idealize.ShloMosaic.TcCoe Idealize.SL.Sem

/-- The update of the gate and up projections (8192 rows of 1408): the three arrays that the kernel leaves are those of the reference. -/
theorem up_agrees : Cert.algebraic_AdamUpIdeal_AdamUpRefIdeal := fun m g m' g' _ hm =>
  ⟨_, _, _, Cert.AdamUpIdeal.Value.run m g, (θ_run (Cert.AdamUpRefIdeal.defs (F := Ideal)) _ _).mono
    (fun r h c => by have h := h c; simp only [hm c] at h ⊢; exact h) (Cert.AdamUpRefIdeal.Value.run m' g')⟩
theorem up_frame : Cert.quiescent_AdamUp := fun m g _ => Cert.AdamUp.Gen.frame (F := Bits) m g
theorem up_frame_ideal : Cert.quiescent_AdamUpIdeal := fun m g _ => Cert.AdamUpIdeal.Gen.frame (F := Ideal) m g
/-- Its reference leaves the arguments as they were; it has no semaphores. -/
theorem up_reference : Cert.quiescent_AdamUpRefIdeal := fun m g _ =>
  (θ_run (Cert.AdamUpRefIdeal.defs (F := Ideal)) _ _).mono (fun _ h => ⟨fun c => (h c).2.2.2, sem_eq_zero_of_no_sems rfl _⟩)
    (Cert.AdamUpRefIdeal.Value.run m g)

/-- The update of the down projections (5632 rows of 2048): the three arrays that the kernel leaves are those of the reference. -/
theorem down_agrees : Cert.algebraic_AdamDownIdeal_AdamDownRefIdeal := fun m g m' g' _ hm =>
  ⟨_, _, _, Cert.AdamDownIdeal.Value.run m g, (θ_run (Cert.AdamDownRefIdeal.defs (F := Ideal)) _ _).mono
    (fun r h c => by have h := h c; simp only [hm c] at h ⊢; exact h) (Cert.AdamDownRefIdeal.Value.run m' g')⟩
theorem down_frame : Cert.quiescent_AdamDown := fun m g _ => Cert.AdamDown.Gen.frame (F := Bits) m g
theorem down_frame_ideal : Cert.quiescent_AdamDownIdeal := fun m g _ => Cert.AdamDownIdeal.Gen.frame (F := Ideal) m g
/-- Its reference leaves the arguments as they were; it has no semaphores. -/
theorem down_reference : Cert.quiescent_AdamDownRefIdeal := fun m g _ =>
  (θ_run (Cert.AdamDownRefIdeal.defs (F := Ideal)) _ _).mono (fun _ h => ⟨fun c => (h c).2.2.2, sem_eq_zero_of_no_sems rfl _⟩)
    (Cert.AdamDownRefIdeal.Value.run m g)

/-- The update of the mixer's input projection (8192 rows of 1040): the three arrays that the kernel leaves are those of the reference. -/
theorem in_agrees : Cert.algebraic_AdamInIdeal_AdamInRefIdeal := fun m g m' g' _ hm =>
  ⟨_, _, _, Cert.AdamInIdeal.Value.run m g, (θ_run (Cert.AdamInRefIdeal.defs (F := Ideal)) _ _).mono
    (fun r h c => by have h := h c; simp only [hm c] at h ⊢; exact h) (Cert.AdamInRefIdeal.Value.run m' g')⟩
theorem in_frame : Cert.quiescent_AdamIn := fun m g _ => Cert.AdamIn.Gen.frame (F := Bits) m g
theorem in_frame_ideal : Cert.quiescent_AdamInIdeal := fun m g _ => Cert.AdamInIdeal.Gen.frame (F := Ideal) m g
/-- Its reference leaves the arguments as they were; it has no semaphores. -/
theorem in_reference : Cert.quiescent_AdamInRefIdeal := fun m g _ =>
  (θ_run (Cert.AdamInRefIdeal.defs (F := Ideal)) _ _).mono (fun _ h => ⟨fun c => (h c).2.2.2, sem_eq_zero_of_no_sems rfl _⟩)
    (Cert.AdamInRefIdeal.Value.run m g)

/-- The update of the query expansion (2048 rows of 384): the three arrays that the kernel leaves are those of the reference. -/
theorem q_agrees : Cert.algebraic_AdamQIdeal_AdamQRefIdeal := fun m g m' g' _ hm =>
  ⟨_, _, _, Cert.AdamQIdeal.Value.run m g, (θ_run (Cert.AdamQRefIdeal.defs (F := Ideal)) _ _).mono
    (fun r h c => by have h := h c; simp only [hm c] at h ⊢; exact h) (Cert.AdamQRefIdeal.Value.run m' g')⟩
theorem q_frame : Cert.quiescent_AdamQ := fun m g _ => Cert.AdamQ.Gen.frame (F := Bits) m g
theorem q_frame_ideal : Cert.quiescent_AdamQIdeal := fun m g _ => Cert.AdamQIdeal.Gen.frame (F := Ideal) m g
/-- Its reference leaves the arguments as they were; it has no semaphores. -/
theorem q_reference : Cert.quiescent_AdamQRefIdeal := fun m g _ =>
  (θ_run (Cert.AdamQRefIdeal.defs (F := Ideal)) _ _).mono (fun _ h => ⟨fun c => (h c).2.2.2, sem_eq_zero_of_no_sems rfl _⟩)
    (Cert.AdamQRefIdeal.Value.run m g)

/-- The update of the key and value expansion (2048 rows of 512): the three arrays that the kernel leaves are those of the reference. -/
theorem kv_agrees : Cert.algebraic_AdamKvIdeal_AdamKvRefIdeal := fun m g m' g' _ hm =>
  ⟨_, _, _, Cert.AdamKvIdeal.Value.run m g, (θ_run (Cert.AdamKvRefIdeal.defs (F := Ideal)) _ _).mono
    (fun r h c => by have h := h c; simp only [hm c] at h ⊢; exact h) (Cert.AdamKvRefIdeal.Value.run m' g')⟩
theorem kv_frame : Cert.quiescent_AdamKv := fun m g _ => Cert.AdamKv.Gen.frame (F := Bits) m g
theorem kv_frame_ideal : Cert.quiescent_AdamKvIdeal := fun m g _ => Cert.AdamKvIdeal.Gen.frame (F := Ideal) m g
/-- Its reference leaves the arguments as they were; it has no semaphores. -/
theorem kv_reference : Cert.quiescent_AdamKvRefIdeal := fun m g _ =>
  (θ_run (Cert.AdamKvRefIdeal.defs (F := Ideal)) _ _).mono (fun _ h => ⟨fun c => (h c).2.2.2, sem_eq_zero_of_no_sems rfl _⟩)
    (Cert.AdamKvRefIdeal.Value.run m g)

/-- The update of the mixer's output projection (2048 rows of 2048): the three arrays that the kernel leaves are those of the reference. -/
theorem out_agrees : Cert.algebraic_AdamOutIdeal_AdamOutRefIdeal := fun m g m' g' _ hm =>
  ⟨_, _, _, Cert.AdamOutIdeal.Value.run m g, (θ_run (Cert.AdamOutRefIdeal.defs (F := Ideal)) _ _).mono
    (fun r h c => by have h := h c; simp only [hm c] at h ⊢; exact h) (Cert.AdamOutRefIdeal.Value.run m' g')⟩
theorem out_frame : Cert.quiescent_AdamOut := fun m g _ => Cert.AdamOut.Gen.frame (F := Bits) m g
theorem out_frame_ideal : Cert.quiescent_AdamOutIdeal := fun m g _ => Cert.AdamOutIdeal.Gen.frame (F := Ideal) m g
/-- Its reference leaves the arguments as they were; it has no semaphores. -/
theorem out_reference : Cert.quiescent_AdamOutRefIdeal := fun m g _ =>
  (θ_run (Cert.AdamOutRefIdeal.defs (F := Ideal)) _ _).mono (fun _ h => ⟨fun c => (h c).2.2.2, sem_eq_zero_of_no_sems rfl _⟩)
    (Cert.AdamOutRefIdeal.Value.run m g)

/-- The update of the packed gains (56 rows of 1024): the three arrays that the kernel leaves are those of the reference. -/
theorem gains_agrees : Cert.algebraic_AdamGainsIdeal_AdamGainsRefIdeal := fun m g m' g' _ hm =>
  ⟨_, _, _, Cert.AdamGainsIdeal.Value.run m g, (θ_run (Cert.AdamGainsRefIdeal.defs (F := Ideal)) _ _).mono
    (fun r h c => by have h := h c; simp only [hm c] at h ⊢; exact h) (Cert.AdamGainsRefIdeal.Value.run m' g')⟩
theorem gains_frame : Cert.quiescent_AdamGains := fun m g _ => Cert.AdamGains.Gen.frame (F := Bits) m g
theorem gains_frame_ideal : Cert.quiescent_AdamGainsIdeal := fun m g _ => Cert.AdamGainsIdeal.Gen.frame (F := Ideal) m g
/-- Its reference leaves the arguments as they were; it has no semaphores. -/
theorem gains_reference : Cert.quiescent_AdamGainsRefIdeal := fun m g _ =>
  (θ_run (Cert.AdamGainsRefIdeal.defs (F := Ideal)) _ _).mono (fun _ h => ⟨fun c => (h c).2.2.2, sem_eq_zero_of_no_sems rfl _⟩)
    (Cert.AdamGainsRefIdeal.Value.run m g)

end Cert.Update

end
-- ==== Proof.Gains.lean ====
/- The sum of the gain gradients: eight blocks of 56 rows, one below the other, summed. -/
module

public import proofs.«01_k».proof.Defs
public import proofs.«01_k».proof.Proof.Gen.SumGains.Frame
public import proofs.«01_k».proof.Proof.Gen.SumGainsIdeal.Value
public import proofs.«01_k».proof.Proof.Gen.SumGainsRefIdeal.Run
public import Idealize.ShloMosaic.Lib.Quiescent
public import Idealize.ShloMosaic.Lib.IdealHost
public import Idealize.ShloMosaic.Lib.ValueLayout
public import Idealize.ShloMosaic.Lib.Pointwise
public import Idealize.ShloMosaic.Lib.Pipeline.ValueKit.Tiles

@[expose] public section

set_option Elab.async false

noncomputable section

namespace Cert.Gains

open Idealize.ShloMosaic Idealize.ShloMosaic.TcCoe Idealize.ShloMosaic.ValueIdx Idealize.SL.Sem

/-- Adding the eight blocks one after the other is the sum over the eight. -/
theorem sum_blocks (a : Vec Ideal Cert.SumGainsIdeal.S448x1024 .f32) (j : Cert.SumGainsIdeal.S56x1024.Idx) :
    Cert.SumGainsIdeal.Value.G1 (F := Ideal) a j
      = (Host.reduceAdd (F := Ideal) (φ := .f32) (shapeCast Cert.SumGainsRefIdeal.S8x56x1024 a Cert.SumGainsRefIdeal.Gen.shapeCasts_S448x1024_S8x56x1024)
          (constant Cert.SumGainsRefIdeal.S_ .f32 0x00000000#32)
          Cert.SumGainsRefIdeal.Gen.reducesTo_S8x56x1024_S56x1024_d0 Cert.SumGainsRefIdeal.Gen.h_S_ ) j := by
  rw [hostReduceAdd_apply]
  unfold Cert.SumGainsIdeal.Value.G1 Cert.SumGainsIdeal.Gen.k0_pay1
  pointwise
  rw [Fin.sum_univ_eight]
  simp only [Fin.coe_ofNat_eq_mod, Nat.zero_mod, Nat.zero_mul, Nat.zero_add]

theorem sum_frame : Cert.quiescent_SumGains := fun m g _ => Cert.SumGains.Gen.frame (F := Bits) m g
theorem sum_frame_ideal : Cert.quiescent_SumGainsIdeal := fun m g _ => Cert.SumGainsIdeal.Gen.frame (F := Ideal) m g
/-- The reference leaves its argument as it was; it has no semaphores. -/
theorem sum_reference : Cert.quiescent_SumGainsRefIdeal := fun m g _ =>
  (θ_run (Cert.SumGainsRefIdeal.defs (F := Ideal)) _ _).mono (fun _ h => ⟨fun c => (h c).2, sem_eq_zero_of_no_sems rfl _⟩)
    (Cert.SumGainsRefIdeal.Value.run m g)
/-- The array that the kernel leaves is the sum of the eight blocks. -/
theorem sum_agrees : Cert.algebraic_SumGainsIdeal_SumGainsRefIdeal := fun m g m' g' _ hm =>
  ⟨_, Cert.SumGainsIdeal.Value.run m g, (θ_run (Cert.SumGainsRefIdeal.defs (F := Ideal)) _ _).mono
    (fun r h c => ⟨(h c).1.trans (by rw [hm c]; exact (funext (sum_blocks _)).symm), (h c).2⟩)
    (Cert.SumGainsRefIdeal.Value.run m' g')⟩

end Cert.Gains

end
-- ==== Proof.SumPair.lean ====
/- The first sum of the reduce-scatter. The kernel goes over the four slabs in blocks of 144 rows, adding to the device's own
   half what it received from the other core of its chip, in float32. Which half is its own is a word it reads first. -/
module

public import proofs.«01_k».proof.Defs
public import proofs.«01_k».proof.Proof.Gen.AddPair.Frame
public import proofs.«01_k».proof.Proof.Gen.AddPairIdeal.Frame
public import proofs.«01_k».proof.Proof.Gen.AddPairRef.Run
public import proofs.«01_k».proof.Proof.Gen.AddPairRefIdeal.Run
public import proofs.«01_k».proof.Proof.Gen.Pre_one_of_two
public import Idealize.ShloMosaic.Lib.Pipeline.Value
public import Idealize.ShloMosaic.Lib.Pointwise
public import Idealize.ShloMosaic.Lib.Quiescent

@[expose] public section

set_option Elab.async false

noncomputable section

namespace Cert.AddPairIdeal.Sum

open Cert.AddPairIdeal Cert.AddPairIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The device's own half and what it received, added in float32. -/
abbrev G (k : Fin 2) (x : Vec F S4x2x10224x1024 .bf16) (y : Vec F S4x10224x1024 .bf16) : Vec F S4x10224x1024 .bf16 := fun i =>
  FloatOps.truncf .bf16 bitsLt_bf16_f32 (FloatOps.addf (FloatOps.extf .f32 bitsLt_bf16_f32 (x (ix4 (i 0) k (i 1) (i 2)))) (FloatOps.extf .f32 bitsLt_bf16_f32 (y i)))

/-- The word that says which half is the device's own. -/
abbrev word : BitVec 32 := m (((0 : Dev nD).tc : Thread nD τ).loc main_arg0) (ix1 (0 : Fin 1))

theorem read_word (h : ∀ a, (![0] : Fin 1 → Nat) a + S1.size a ≤ S1.size a) (h' : S1.numel = 1) :
    (tbl m).at 0 (Rect.unit (s := S1) ![0] S1.size h) h' = word m :=
  congrArg (m (((0 : Dev nD).tc : Thread nD τ).loc main_arg0)) (funext fun a => by fin_cases a; exact Subsingleton.elim (α := Fin 1) _ _)

theorem small {n : ℕ} (h : n < 4294967296) : (BitVec.ofNat 32 n).toNat = n := by
  rw [BitVec.toNat_ofNat]; exact Nat.mod_eq_of_lt h

/-- The blocks of a point: rows 144 i on of slab j, in the own half, in what was received and in the result. -/
theorem index_own (i : grid0.Coords) :
    cc0_transform_0 inb_S1_S1_0 numel1_S1 (tbl m) i = ![(i 0).val, (word m).toNat, (i 1).val, 0] := by
  have h0 : (i 0).val < 4 := (i 0).isLt
  have h1 : (i 1).val < 71 := (i 1).isLt
  unfold cc0_transform_0
  dsimp only
  rw [read_word, small (by omega), small (by omega)]
  rfl

theorem index_out (i : grid0.Coords) : cc0_transform_2 i = ![(i 0).val, (i 1).val, 0] := by
  have h0 : (i 0).val < 4 := (i 0).isLt
  have h1 : (i 1).val < 71 := (i 1).isLt
  unfold cc0_transform_2
  dsimp only
  rw [small (by omega), small (by omega)]
  rfl

/-- With the word in range every block lies inside its array. -/
theorem ok (k : Fin 2) (hk : word m = BitVec.ofNat 32 k.val) : Ok m := by
  intro i
  refine ⟨fun a => ?_, .inr (Affine.block_words_dvd (of_decide_eq_true rfl) (by decide))⟩
  have h0 : (i 0).val < 4 := (i 0).isLt
  have h1 : (i 1).val < 71 := (i 1).isLt
  have h2 : (word m).toNat < 2 := by rw [hk, small (by omega)]; exact k.isLt
  rw [index_own]
  match a with
  | ⟨0, _⟩ => show ((i 0).val + 1) * 1 ≤ 4; omega
  | ⟨1, _⟩ => show ((word m).toNat + 1) * 1 ≤ 2; omega
  | ⟨2, _⟩ => show ((i 1).val + 1) * 144 ≤ 10224; omega
  | ⟨3, _⟩ => show (0 + 1) * 1024 ≤ 1024; omega

/-- What the body stores, entry by entry. -/
theorem pay (x : Vec F S1x1x144x1024 .bf16) (y : Vec F S1x144x1024 .bf16) (j : S1x144x1024.Idx) :
    k0_pay1 x y j = FloatOps.truncf .bf16 bitsLt_bf16_f32 (FloatOps.addf (FloatOps.extf .f32 bitsLt_bf16_f32 (x (ix4 0 0 (j 1) (j 2)))) (FloatOps.extf .f32 bitsLt_bf16_f32 (y j))) := by
  pointwise [k0_pay1]

/-- What a point leaves is what the body stores. -/
theorem out_eq (c : Dev nD) (i : grid0.Coords) (a3 : Memref sig .tc .vmem S1x1x144x1024 .bf16) (h3 : a3.IsWhole)
    (a4 : Memref sig .tc .vmem S1x144x1024 .bf16) (h4 : a4.IsWhole) (a5 : Memref sig .tc .vmem S1x144x1024 .bf16) (h5 : a5.IsWhole)
    (x : Vec F S1x1x144x1024 .bf16) (y : Vec F S1x144x1024 .bf16) (w : TbBuf0 (F := F) c tbM0_0) :
    out0_A_2 c i a3 h3 a4 h4 a5 h5 x y w = k0_pay1 x y := by
  unfold out0_A_2
  rw [View.read_writes_eq_canon _ _ _ (cover0_A_2 c i a3 h3 a4 h4 a5 h5 x y w)]
  unfold kernelRun0_A
  dsimp only
  rw [View.canon_unit_zero (funext fun a => by fin_cases a <;> rfl)]
  simp only [View.readAt_eq_ld, h3.read_unread, h4.read_unread]
  rw [View.ld_unit_zero (S := S1x1x144x1024) (funext fun a => by fin_cases a <;> rfl), View.ld_unit_zero (S := S1x144x1024) (funext fun a => by fin_cases a <;> rfl)]

/-- Where an entry of the block of a point lies in the slabs, in what was received and in the result. -/
abbrev inSlabs (hO : Ok m) (t : Fin (cfgM m hO).N) (j : S1x1x144x1024.Idx) : S4x2x10224x1024.Idx := (((cfgM m hO).win 0).blk t).view.emb j
abbrev inReceived (hO : Ok m) (t : Fin (cfgM m hO).N) (j : S1x144x1024.Idx) : S4x10224x1024.Idx := (((cfgM m hO).win 1).blk t).view.emb j
abbrev inResult (hO : Ok m) (t : Fin (cfgM m hO).N) (j : S1x144x1024.Idx) : S4x10224x1024.Idx := (((cfgM m hO).win 2).blk t).view.emb j

/-- Each point writes its block of the sums. -/
theorem flushed (hO : Ok m) (k : Fin 2) (hk : word m = BitVec.ofNat 32 k.val) (c : Dev nD) (t : Fin (cfgM m hO).N) :
    (dats m hO 0 c).flushed 2 t = (((cfgM m hO).win 2).blk t).view.read (Elt F) (G k (V m c main_arg1) (V m c main_arg2)) := by
  show ((cfgM m hO).win 2).cut (grid0.coords t) ((dats m hO 0 c).after 2 t) = _
  rw [after0_2]
  unfold outsAt0
  refine funext fun (j : S1x144x1024.Idx) => ?_
  refine (congrFun (out_eq c (grid0.coords t) (ms0_0 m hO t) (hs0_0 m hO t) (ms0_1 m hO t) (hs0_1 m hO t) (ms0_2 m hO t) (hs0_2 m hO t)
    (iblk m hO c 0 t) (iblk m hO c 1 t) (tbl m 0)) j).trans ?_
  refine (pay (iblk m hO c 0 t) (iblk m hO c 1 t) j).trans ?_
  have e0 : inSlabs m hO t (ix4 0 0 (j 1) (j 2)) = ix4 (inResult m hO t j 0) k (inResult m hO t j 1) (inResult m hO t j 2) := by
    funext a; apply Fin.ext
    have hw : (word m).toNat = k.val := by rw [hk, small (by omega)]
    have h0 := index_own m (grid0.coords t)
    have h2 := index_out (grid0.coords t)
    have hj : (j 0).val < 1 := (j 0).isLt
    match a with
    | ⟨0, _⟩ =>
      show cc0_transform_0 inb_S1_S1_0 numel1_S1 (tbl m) (grid0.coords t) 0 * 1 + 1 * 0 = cc0_transform_2 (grid0.coords t) 0 * 1 + 1 * (j 0).val
      rw [h0, h2]; show (grid0.coords t 0).val * 1 + 1 * 0 = (grid0.coords t 0).val * 1 + 1 * (j 0).val; omega
    | ⟨1, _⟩ =>
      show cc0_transform_0 inb_S1_S1_0 numel1_S1 (tbl m) (grid0.coords t) 1 * 1 + 1 * 0 = k.val
      rw [h0]; show (word m).toNat * 1 + 1 * 0 = k.val; omega
    | ⟨2, _⟩ =>
      show cc0_transform_0 inb_S1_S1_0 numel1_S1 (tbl m) (grid0.coords t) 2 * 144 + 1 * (j 1).val = cc0_transform_2 (grid0.coords t) 1 * 144 + 1 * (j 1).val
      rw [h0, h2]; rfl
    | ⟨3, _⟩ =>
      show cc0_transform_0 inb_S1_S1_0 numel1_S1 (tbl m) (grid0.coords t) 3 * 1024 + 1 * (j 2).val = cc0_transform_2 (grid0.coords t) 2 * 1024 + 1 * (j 2).val
      rw [h0, h2]; rfl
  have e1 : inReceived m hO t j = inResult m hO t j := rfl
  show FloatOps.truncf .bf16 bitsLt_bf16_f32 (FloatOps.addf (FloatOps.extf .f32 bitsLt_bf16_f32 (V m c main_arg1 (inSlabs m hO t (ix4 0 0 (j 1) (j 2)))))
    (FloatOps.extf .f32 bitsLt_bf16_f32 (V m c main_arg2 (inReceived m hO t j)))) = _
  rw [e0, e1]
  rfl

theorem covered (hO : Ok m) (i : S4x10224x1024.Idx) :
    ∃ t : Fin (cfgM m hO).N, ((cfgM m hO).win 2).flush t = true ∧ i ∈ (((cfgM m hO).win 2).blk t).view.set := by
  have hi0 : (i 0).val < 4 := (i 0).isLt
  have hi1 : (i 1).val < 10224 := (i 1).isLt
  have hi2 : (i 2).val < 1024 := (i 2).isLt
  obtain ⟨t, ht⟩ := (by decide +kernel : ∀ (p : Fin 4) (q : Fin 71), ∃ t : Fin grid0.N, cc0_transform_2 (grid0.coords t) = ![p.val, q.val, 0])
    ⟨(i 0).val, by omega⟩ ⟨(i 1).val / 144, by omega⟩
  refine ⟨t, flush0_2 _ t, ?_⟩
  suffices h : i ∈ ((View.whole main_v0).slice (Rect.block (s := S4x10224x1024) S1x144x1024.size (cc0_transform_2 (grid0.coords t)) (hinb0_2 _))).set from h
  rw [View.set_slice_whole, Rect.mem_set_unit]
  intro a
  rw [ht]
  match a with
  | ⟨0, _⟩ => show (i 0).val * 1 ≤ (i 0).val ∧ (i 0).val < (i 0).val * 1 + 1; omega
  | ⟨1, _⟩ => show (i 1).val / 144 * 144 ≤ (i 1).val ∧ (i 1).val < (i 1).val / 144 * 144 + 144; omega
  | ⟨2, _⟩ => show 0 * 1024 ≤ (i 2).val ∧ (i 2).val < 0 * 1024 + 1024; omega

/-- So the result is all of them, -/
theorem result (hO : Ok m) (k : Fin 2) (hk : word m = BitVec.ofNat 32 k.val) (c : Dev nD) :
    (dats m hO 0 c).arrAt 2 (cfgM m hO).N = G k (V m c main_arg1) (V m c main_arg2) :=
  (dats m hO 0 c).arrAt_eq_of_cover 2 _ (fun t _ => flushed m hO k hk c t) (covered m hO)

/-- which every run ends with. -/
theorem run (k : Fin 2) (hk : word m = BitVec.ofNat 32 k.val) :
    θ_run defs (onTc (τ := τ) (main (F := F))) ⟨m, fun _ => 0, ρ⟩ (fun r => ∀ c : Dev nD,
      r.2.mem ((c.tc : Thread nD τ).loc main_v0) = G k (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 2).trans (result m (ok m k hk) k hk c), h.2 c⟩)
    (θ_run_and (run_main m ρ (ok m k hk)) (unchanged m ρ (ok m k hk)))

/-- The reference ends with the same sums. -/
theorem ref_run (m : (ℓ : Loc nD τ Cert.AddPairRef.sig) → Buf (Elt F) ℓ) (k : Fin 2)
    (hk : (m (((0 : Dev nD).tc : Thread nD τ).loc Cert.AddPairRef.main_arg0) : S1.Idx → BitVec 32) (ix1 (0 : Fin 1)) = BitVec.ofNat 32 k.val) :
    θ_run Cert.AddPairRef.defs (onTc (τ := τ) (Cert.AddPairRef.main (F := F))) ⟨m, fun _ => 0, ρ⟩ (fun r => ∀ c : Dev nD,
      r.2.mem ((c.tc : Thread nD τ).loc Cert.AddPairRef.main_v10) = G k (m ((c.tc : Thread nD τ).loc Cert.AddPairRef.main_arg1)) (m ((c.tc : Thread nD τ).loc Cert.AddPairRef.main_arg2))
      ∧ r.2.mem ((c.tc : Thread nD τ).loc Cert.AddPairRef.main_arg0) = m ((c.tc : Thread nD τ).loc Cert.AddPairRef.main_arg0)
      ∧ r.2.mem ((c.tc : Thread nD τ).loc Cert.AddPairRef.main_arg1) = m ((c.tc : Thread nD τ).loc Cert.AddPairRef.main_arg1)
      ∧ r.2.mem ((c.tc : Thread nD τ).loc Cert.AddPairRef.main_arg2) = m ((c.tc : Thread nD τ).loc Cert.AddPairRef.main_arg2)) :=
  (θ_run Cert.AddPairRef.defs _ _).mono (fun _ h c => ⟨(h c).1.trans (by
    obtain rfl : c = 0 := Subsingleton.elim _ _
    refine funext fun (i : S4x10224x1024.Idx) => ?_
    pointwise
    rw [hk]
    fin_cases k <;> rfl), (h c).2⟩) (Cert.AddPairRef.Value.run m ρ)

theorem bodies : Cert.AddPair.defs₀ (F := Bits) = Cert.AddPairIdeal.defs₀ (F := Bits) := by
  unfold Cert.AddPair.defs₀ Cert.AddPairIdeal.defs₀
  congr 1
  funext l a
  match l, a with
  | 0, (t, s) => rfl

/-- The float program and the real-valued one run the same bodies. -/
theorem defs_eq : Cert.AddPair.defs (F := Bits) = Cert.AddPairIdeal.defs (F := Bits) :=
  congrArg (Pipeline.defs (Cert.AddPairIdeal.pcfgs (F := Bits))) bodies

/-- A word in range is one of the numbers in range. -/
theorem in_range (w : BitVec 32) (n : ℕ) (hn : n ≤ 4)
    (h : IntOp.andi (IntOp.cmpi .sge w 0#32) (IntOp.cmpi .slt w (BitVec.ofNat 32 n)) = 1#1) : ∃ k : Fin n, w = BitVec.ofNat 32 k.val := by
  have hlo : (0#32).sle w = true := by
    by_contra hc
    simp only [Bool.not_eq_true] at hc
    simp [IntOp.andi, IntOp.cmpi, hc] at h
  have hhi : w.slt (BitVec.ofNat 32 n) = true := by
    by_contra hc
    simp only [Bool.not_eq_true] at hc
    simp [IntOp.andi, IntOp.cmpi, hc] at h
  rw [BitVec.sle_eq_decide, decide_eq_true_eq] at hlo
  rw [BitVec.slt_eq_decide, decide_eq_true_eq] at hhi
  have hz : (0#32).toInt = 0 := rfl
  have hn' : (BitVec.ofNat 32 n).toInt = n := by rw [BitVec.toInt_eq_toNat_cond, small (by omega), if_pos (by omega)]
  rw [hz, BitVec.toInt_eq_toNat_cond] at hlo
  rw [hn', BitVec.toInt_eq_toNat_cond] at hhi
  have hw := w.isLt
  have : w.toNat < n := by split at hhi <;> omega
  exact ⟨⟨w.toNat, this⟩, by apply BitVec.eq_of_toNat_eq; rw [small (by omega)]⟩

theorem half (w : IVec S1 32) (x : FVec F S4x2x10224x1024 .bf16) (y : FVec F S4x10224x1024 .bf16)
    (h : Cert.Pre_one_of_two.fn (F := F) w x y = fun _ => 1#1) : ∃ k : Fin 2, w (ix1 (0 : Fin 1)) = BitVec.ofNat 32 k.val :=
  in_range _ 2 (by decide) (congrFun h (ix1 (0 : Fin 1)))

theorem frame : Cert.quiescent_AddPair := fun m g h =>
  let ⟨k, hk⟩ := half _ _ _ (h 0)
  Cert.AddPair.Gen.frame (F := Bits) m g (ok (F := Bits) m k hk)
theorem frame_ideal : Cert.quiescent_AddPairIdeal := fun m g h =>
  let ⟨k, hk⟩ := half _ _ _ (h 0)
  Cert.AddPairIdeal.Gen.frame (F := Ideal) m g (ok m k hk)
theorem frame_refIdeal : Cert.quiescent_AddPairRefIdeal := fun m g _ =>
  (θ_run (Cert.AddPairRefIdeal.defs (F := Ideal)) _ _).mono (fun _ h => ⟨fun c => (h c).2, sem_eq_zero_of_no_sems rfl _⟩)
    (Cert.AddPairRefIdeal.Value.run m g)
theorem frame_ref : Cert.quiescent_AddPairRef := fun m g _ =>
  (θ_run (Cert.AddPairRef.defs (F := Bits)) _ _).mono (fun _ h => ⟨fun c => (h c).2, sem_eq_zero_of_no_sems rfl _⟩)
    (Cert.AddPairRef.Value.run m g)

/-- On real numbers the kernel leaves the sums of the reference. -/
theorem algebraic : Cert.algebraic_AddPairIdeal_AddPairRefIdeal := fun m g m' g' h hm =>
  let ⟨k, hk⟩ := half _ _ _ (h 0)
  ⟨_, run m g k hk, (θ_run (Cert.AddPairRefIdeal.defs (F := Ideal)) _ _).mono
    (fun _ h c => ⟨(h c).1.trans (congrArg₂ (G k) (hm c).2.1 (hm c).2.2), (h c).2⟩) (ref_run (F := Ideal) g' m' k ((congrFun (hm 0).1 _).trans hk))⟩

/-- And bit for bit on floats: both round the same sum once. -/
theorem bitexact : Cert.bitexact_AddPair_AddPairRef := fun m g m' g' h hm =>
  let ⟨k, hk⟩ := half _ _ _ (h 0)
  ⟨_, Eq.mpr (congrArg (fun d => θ_run d (onTc (τ := τ) (main (F := Bits))) ⟨m, fun _ => 0, g⟩ _) defs_eq) (run (F := Bits) m g k hk),
    (θ_run (Cert.AddPairRef.defs (F := Bits)) _ _).mono
    (fun _ h c => ⟨(h c).1.trans (congrArg₂ (G k) (hm c).2.1 (hm c).2.2), (h c).2⟩) (ref_run (F := Bits) g' m' k ((congrFun (hm 0).1 _).trans hk))⟩

end Cert.AddPairIdeal.Sum
-- ==== Proof.SumChips.lean ====
/- The second sum of the reduce-scatter. The kernel goes over the rows in blocks of 144, adding to the slab that is the
   device's own what it received from the three other chips, in float32. Which slab is its own is a word it reads first. -/
module

public import proofs.«01_k».proof.Proof.Gen.AddChips.Frame
public import proofs.«01_k».proof.Proof.Gen.AddChipsIdeal.Frame
public import proofs.«01_k».proof.Proof.Gen.AddChipsRef.Run
public import proofs.«01_k».proof.Proof.Gen.AddChipsRefIdeal.Run
public import proofs.«01_k».proof.Proof.Gen.Pre_one_of_four
public import proofs.«01_k».proof.Proof.SumPair

@[expose] public section

set_option Elab.async false

noncomputable section

namespace Cert.AddChipsIdeal.Sum

open Cert.AddChipsIdeal Cert.AddChipsIdeal.Gen Idealize.ShloMosaic Idealize.ShloMosaic.TcCoe Idealize.SL.Sem
open Cert.AddPairIdeal.Sum (small in_range)

variable {F : FTy → Type} [FloatOps F]
variable (m : (ℓ : Loc nD τ sig) → Buf (Elt F) ℓ) (ρ : Dev nD → PrngReg)

/-- The device's own slab and the three that it received, added in float32 in that order. -/
abbrev G (k : Fin 4) (x : Vec F S4x10224x1024 .bf16) (y : Vec F S3x10224x1024 .bf16) : Vec F S10224x1024 .f32 := fun i =>
  FloatOps.addf (FloatOps.addf (FloatOps.addf (FloatOps.extf .f32 bitsLt_bf16_f32 (x (ix3 k (i 0) (i 1))))
    (FloatOps.extf .f32 bitsLt_bf16_f32 (y (ix3 0 (i 0) (i 1))))) (FloatOps.extf .f32 bitsLt_bf16_f32 (y (ix3 1 (i 0) (i 1)))))
    (FloatOps.extf .f32 bitsLt_bf16_f32 (y (ix3 2 (i 0) (i 1))))

/-- The word that says which slab is the device's own. -/
abbrev word : BitVec 32 := m (((0 : Dev nD).tc : Thread nD τ).loc main_arg0) (ix1 (0 : Fin 1))

theorem read_word (h : ∀ a, (![0] : Fin 1 → Nat) a + S1.size a ≤ S1.size a) (h' : S1.numel = 1) :
    (tbl m).at 0 (Rect.unit (s := S1) ![0] S1.size h) h' = word m :=
  congrArg (m (((0 : Dev nD).tc : Thread nD τ).loc main_arg0)) (funext fun a => by fin_cases a; exact Subsingleton.elim (α := Fin 1) _ _)

/-- The blocks of a point: rows 144 i on, of the own slab, of all that was received, and of the result. -/
theorem index_own (i : grid0.Coords) : cc0_transform_0 inb_S1_S1_0 numel1_S1 (tbl m) i = ![(word m).toNat, (i 0).val, 0] := by
  have h0 : (i 0).val < 71 := (i 0).isLt
  unfold cc0_transform_0
  dsimp only
  rw [read_word, small (by omega)]
  rfl
theorem index_received (i : grid0.Coords) : cc0_transform_1 i = ![0, (i 0).val, 0] := by
  have h0 : (i 0).val < 71 := (i 0).isLt
  unfold cc0_transform_1
  dsimp only
  rw [small (n := (i 0).val) (by omega)]
  rfl
theorem index_out (i : grid0.Coords) : cc0_transform_2 i = ![(i 0).val, 0] := by
  have h0 : (i 0).val < 71 := (i 0).isLt
  unfold cc0_transform_2
  dsimp only
  rw [small (by omega)]
  rfl

/-- With the word in range every block lies inside its array. -/
theorem ok (k : Fin 4) (hk : word m = BitVec.ofNat 32 k.val) : Ok m := by
  intro i
  refine ⟨fun a => ?_, .inr (Affine.block_words_dvd (of_decide_eq_true rfl) (by decide))⟩
  have h0 : (i 0).val < 71 := (i 0).isLt
  have hw : (word m).toNat < 4 := by rw [hk, small (by omega)]; exact k.isLt
  rw [index_own]
  match a with
  | ⟨0, _⟩ => show ((word m).toNat + 1) * 1 ≤ 4; omega
  | ⟨1, _⟩ => show ((i 0).val + 1) * 144 ≤ 10224; omega
  | ⟨2, _⟩ => show (0 + 1) * 1024 ≤ 1024; omega

/-- What the body stores, entry by entry. -/
theorem pay (x a b c : Vec F S1x144x1024 .bf16) (j : S144x1024.Idx) :
    k0_pay1 x a b c j = FloatOps.addf (FloatOps.addf (FloatOps.addf (FloatOps.extf .f32 bitsLt_bf16_f32 (x (ix3 0 (j 0) (j 1))))
      (FloatOps.extf .f32 bitsLt_bf16_f32 (a (ix3 0 (j 0) (j 1))))) (FloatOps.extf .f32 bitsLt_bf16_f32 (b (ix3 0 (j 0) (j 1)))))
      (FloatOps.extf .f32 bitsLt_bf16_f32 (c (ix3 0 (j 0) (j 1)))) := by
  pointwise [k0_pay1]

/-- One of the three slabs of a block of what was received. -/
abbrev part (y : Vec F S3x144x1024 .bf16) (q : Fin 3) : Vec F S1x144x1024 .bf16 := fun j => y (ix3 q (j 1) (j 2))

theorem load (y : Vec F S3x144x1024 .bf16) (q : Fin 3) (h : ∀ a, (![q.val, 0, 0] : Fin 3 → ℕ) a + (![1, 144, 1024] : Fin 3 → ℕ) a ≤ S3x144x1024.size a) :
    View.ld y (Rect.unit (s := S3x144x1024) ![q.val, 0, 0] ![1, 144, 1024] h) = part y q := by
  refine funext fun (j : S1x144x1024.Idx) => congrArg y (funext fun a => Fin.ext ?_)
  have h0 : (j 0).val < 1 := (j 0).isLt
  match a with
  | ⟨0, _⟩ => show q.val + 1 * (j 0).val = q.val; omega
  | ⟨1, _⟩ => show 0 + 1 * (j 1).val = (j 1).val; omega
  | ⟨2, _⟩ => show 0 + 1 * (j 2).val = (j 2).val; omega

/-- What a point leaves is what the body stores. -/
theorem out_eq (c : Dev nD) (i : grid0.Coords) (a2 : Memref sig .tc .vmem S1x144x1024 .bf16) (h2 : a2.IsWhole)
    (a3 : Memref sig .tc .vmem S3x144x1024 .bf16) (h3 : a3.IsWhole) (a4 : Memref sig .tc .vmem S144x1024 .f32) (h4 : a4.IsWhole)
    (x : Vec F S1x144x1024 .bf16) (y : Vec F S3x144x1024 .bf16) (w : TbBuf0 (F := F) c tbM0_0) :
    out0_A_2 c i a2 h2 a3 h3 a4 h4 x y w = k0_pay1 x (part y 0) (part y 1) (part y 2) := by
  unfold out0_A_2
  rw [View.read_writes_eq_canon _ _ _ (cover0_A_2 c i a2 h2 a3 h3 a4 h4 x y w)]
  unfold kernelRun0_A
  dsimp only
  rw [View.canon_unit_zero (funext fun a => by fin_cases a <;> rfl)]
  simp only [View.readAt_eq_ld, h2.read_unread, h3.read_unread]
  rw [View.ld_unit_zero (S := S1x144x1024) (funext fun a => by fin_cases a <;> rfl)]
  exact congr (congr (congrArg (k0_pay1 x) (load y 0 _)) (load y 1 _)) (load y 2 _)

theorem covered (hO : Ok m) (i : S10224x1024.Idx) :
    ∃ t : Fin (cfgM m hO).N, ((cfgM m hO).win 2).flush t = true ∧ i ∈ (((cfgM m hO).win 2).blk t).view.set := by
  have hi0 : (i 0).val < 10224 := (i 0).isLt
  have hi1 : (i 1).val < 1024 := (i 1).isLt
  obtain ⟨t, ht⟩ := (by decide +kernel : ∀ q : Fin 71, ∃ t : Fin grid0.N, cc0_transform_2 (grid0.coords t) = ![q.val, 0])
    ⟨(i 0).val / 144, by omega⟩
  refine ⟨t, flush0_2 _ t, ?_⟩
  suffices h : i ∈ ((View.whole main_v0).slice (Rect.block (s := S10224x1024) S144x1024.size (cc0_transform_2 (grid0.coords t)) (hinb0_2 _))).set from h
  rw [View.set_slice_whole, Rect.mem_set_unit]
  intro a
  rw [ht]
  match a with
  | ⟨0, _⟩ => show (i 0).val / 144 * 144 ≤ (i 0).val ∧ (i 0).val < (i 0).val / 144 * 144 + 144; omega
  | ⟨1, _⟩ => show 0 * 1024 ≤ (i 1).val ∧ (i 1).val < 0 * 1024 + 1024; omega

/-- Where an entry of the block of a point lies in the slabs, in what was received and in the result. -/
abbrev inSlabs (hO : Ok m) (t : Fin (cfgM m hO).N) (j : S1x144x1024.Idx) : S4x10224x1024.Idx := (((cfgM m hO).win 0).blk t).view.emb j
abbrev inReceived (hO : Ok m) (t : Fin (cfgM m hO).N) (j : S3x144x1024.Idx) : S3x10224x1024.Idx := (((cfgM m hO).win 1).blk t).view.emb j
abbrev inResult (hO : Ok m) (t : Fin (cfgM m hO).N) (j : S144x1024.Idx) : S10224x1024.Idx := (((cfgM m hO).win 2).blk t).view.emb j

theorem own_at (hO : Ok m) (k : Fin 4) (hk : word m = BitVec.ofNat 32 k.val) (t : Fin (cfgM m hO).N) (j : S144x1024.Idx) :
    inSlabs m hO t (ix3 0 (j 0) (j 1)) = ix3 k (inResult m hO t j 0) (inResult m hO t j 1) := by
  funext a; apply Fin.ext
  have hw : (word m).toNat = k.val := by rw [hk, small (by omega)]
  have h0 := index_own m (grid0.coords t)
  have h2 := index_out (grid0.coords t)
  match a with
  | ⟨0, _⟩ =>
    show cc0_transform_0 inb_S1_S1_0 numel1_S1 (tbl m) (grid0.coords t) 0 * 1 + 1 * 0 = k.val
    rw [h0]; show (word m).toNat * 1 + 1 * 0 = k.val; omega
  | ⟨1, _⟩ =>
    show cc0_transform_0 inb_S1_S1_0 numel1_S1 (tbl m) (grid0.coords t) 1 * 144 + 1 * (j 0).val = cc0_transform_2 (grid0.coords t) 0 * 144 + 1 * (j 0).val
    rw [h0, h2]; rfl
  | ⟨2, _⟩ =>
    show cc0_transform_0 inb_S1_S1_0 numel1_S1 (tbl m) (grid0.coords t) 2 * 1024 + 1 * (j 1).val = cc0_transform_2 (grid0.coords t) 1 * 1024 + 1 * (j 1).val
    rw [h0, h2]; rfl

theorem received_at (hO : Ok m) (q : Fin 3) (t : Fin (cfgM m hO).N) (j : S144x1024.Idx) :
    inReceived m hO t (ix3 q (j 0) (j 1)) = ix3 q (inResult m hO t j 0) (inResult m hO t j 1) := by
  funext a; apply Fin.ext
  have h1 := index_received (grid0.coords t)
  have h2 := index_out (grid0.coords t)
  match a with
  | ⟨0, _⟩ =>
    show cc0_transform_1 (grid0.coords t) 0 * 3 + 1 * q.val = q.val
    rw [h1]; show 0 * 3 + 1 * q.val = q.val; omega
  | ⟨1, _⟩ =>
    show cc0_transform_1 (grid0.coords t) 1 * 144 + 1 * (j 0).val = cc0_transform_2 (grid0.coords t) 0 * 144 + 1 * (j 0).val
    rw [h1, h2]; rfl
  | ⟨2, _⟩ =>
    show cc0_transform_1 (grid0.coords t) 2 * 1024 + 1 * (j 1).val = cc0_transform_2 (grid0.coords t) 1 * 1024 + 1 * (j 1).val
    rw [h1, h2]; rfl

/-- Each point writes its block of the sums. -/
theorem flushed (hO : Ok m) (k : Fin 4) (hk : word m = BitVec.ofNat 32 k.val) (c : Dev nD) (t : Fin (cfgM m hO).N) :
    (dats m hO 0 c).flushed 2 t = (((cfgM m hO).win 2).blk t).view.read (Elt F) (G k (V m c main_arg1) (V m c main_arg2)) := by
  show ((cfgM m hO).win 2).cut (grid0.coords t) ((dats m hO 0 c).after 2 t) = _
  rw [after0_2]
  unfold outsAt0
  refine funext fun (j : S144x1024.Idx) => ?_
  refine (congrFun (out_eq c (grid0.coords t) (ms0_0 m hO t) (hs0_0 m hO t) (ms0_1 m hO t) (hs0_1 m hO t) (ms0_2 m hO t) (hs0_2 m hO t)
    (iblk m hO c 0 t) (iblk m hO c 1 t) (tbl m 0)) j).trans ?_
  refine (pay (iblk m hO c 0 t) (part (iblk m hO c 1 t) 0) (part (iblk m hO c 1 t) 1) (part (iblk m hO c 1 t) 2) j).trans ?_
  show FloatOps.addf (FloatOps.addf (FloatOps.addf (FloatOps.extf .f32 bitsLt_bf16_f32 (V m c main_arg1 (inSlabs m hO t (ix3 0 (j 0) (j 1)))))
      (FloatOps.extf .f32 bitsLt_bf16_f32 (V m c main_arg2 (inReceived m hO t (ix3 0 (j 0) (j 1))))))
      (FloatOps.extf .f32 bitsLt_bf16_f32 (V m c main_arg2 (inReceived m hO t (ix3 1 (j 0) (j 1))))))
      (FloatOps.extf .f32 bitsLt_bf16_f32 (V m c main_arg2 (inReceived m hO t (ix3 2 (j 0) (j 1))))) = _
  rw [own_at m hO k hk, received_at, received_at, received_at]
  rfl

/-- So the result is all of them, -/
theorem result (hO : Ok m) (k : Fin 4) (hk : word m = BitVec.ofNat 32 k.val) (c : Dev nD) :
    (dats m hO 0 c).arrAt 2 (cfgM m hO).N = G k (V m c main_arg1) (V m c main_arg2) :=
  (dats m hO 0 c).arrAt_eq_of_cover 2 _ (fun t _ => flushed m hO k hk c t) (covered m hO)

/-- which every run ends with. -/
theorem run (k : Fin 4) (hk : word m = BitVec.ofNat 32 k.val) :
    θ_run defs (onTc (τ := τ) (main (F := F))) ⟨m, fun _ => 0, ρ⟩ (fun r => ∀ c : Dev nD,
      r.2.mem ((c.tc : Thread nD τ).loc main_v0) = G k (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 2).trans (result m (ok m k hk) k hk c), h.2 c⟩)
    (θ_run_and (run_main m ρ (ok m k hk)) (unchanged m ρ (ok m k hk)))

/-- The reference ends with the same sums. -/
theorem ref_run (m : (ℓ : Loc nD τ Cert.AddChipsRef.sig) → Buf (Elt F) ℓ) (k : Fin 4)
    (hk : (m (((0 : Dev nD).tc : Thread nD τ).loc Cert.AddChipsRef.main_arg0) : S1.Idx → BitVec 32) (ix1 (0 : Fin 1)) = BitVec.ofNat 32 k.val) :
    θ_run Cert.AddChipsRef.defs (onTc (τ := τ) (Cert.AddChipsRef.main (F := F))) ⟨m, fun _ => 0, ρ⟩ (fun r => ∀ c : Dev nD,
      r.2.mem ((c.tc : Thread nD τ).loc Cert.AddChipsRef.main_v27) = G k (m ((c.tc : Thread nD τ).loc Cert.AddChipsRef.main_arg1)) (m ((c.tc : Thread nD τ).loc Cert.AddChipsRef.main_arg2))
      ∧ r.2.mem ((c.tc : Thread nD τ).loc Cert.AddChipsRef.main_arg0) = m ((c.tc : Thread nD τ).loc Cert.AddChipsRef.main_arg0)
      ∧ r.2.mem ((c.tc : Thread nD τ).loc Cert.AddChipsRef.main_arg1) = m ((c.tc : Thread nD τ).loc Cert.AddChipsRef.main_arg1)
      ∧ r.2.mem ((c.tc : Thread nD τ).loc Cert.AddChipsRef.main_arg2) = m ((c.tc : Thread nD τ).loc Cert.AddChipsRef.main_arg2)) :=
  (θ_run Cert.AddChipsRef.defs _ _).mono (fun _ h c => ⟨(h c).1.trans (by
    obtain rfl : c = 0 := Subsingleton.elim _ _
    refine funext fun (i : S10224x1024.Idx) => ?_
    pointwise
    rw [hk]
    fin_cases k <;> rfl), (h c).2⟩) (Cert.AddChipsRef.Value.run m ρ)

theorem bodies : Cert.AddChips.defs₀ (F := Bits) = Cert.AddChipsIdeal.defs₀ (F := Bits) := by
  unfold Cert.AddChips.defs₀ Cert.AddChipsIdeal.defs₀
  congr 1
  funext l a
  match l, a with
  | 0, (t, s) => rfl

/-- The float program and the real-valued one run the same bodies. -/
theorem defs_eq : Cert.AddChips.defs (F := Bits) = Cert.AddChipsIdeal.defs (F := Bits) :=
  congrArg (Pipeline.defs (Cert.AddChipsIdeal.pcfgs (F := Bits))) bodies

theorem chip (w : IVec S1 32) (x : FVec F S4x10224x1024 .bf16) (y : FVec F S3x10224x1024 .bf16)
    (h : Cert.Pre_one_of_four.fn (F := F) w x y = fun _ => 1#1) : ∃ k : Fin 4, w (ix1 (0 : Fin 1)) = BitVec.ofNat 32 k.val :=
  in_range _ 4 (by decide) (congrFun h (ix1 (0 : Fin 1)))

theorem frame : Cert.quiescent_AddChips := fun m g h =>
  let ⟨k, hk⟩ := chip _ _ _ (h 0)
  Cert.AddChips.Gen.frame (F := Bits) m g (ok (F := Bits) m k hk)
theorem frame_ideal : Cert.quiescent_AddChipsIdeal := fun m g h =>
  let ⟨k, hk⟩ := chip _ _ _ (h 0)
  Cert.AddChipsIdeal.Gen.frame (F := Ideal) m g (ok m k hk)
theorem frame_refIdeal : Cert.quiescent_AddChipsRefIdeal := fun m g _ =>
  (θ_run (Cert.AddChipsRefIdeal.defs (F := Ideal)) _ _).mono (fun _ h => ⟨fun c => (h c).2, sem_eq_zero_of_no_sems rfl _⟩)
    (Cert.AddChipsRefIdeal.Value.run m g)
theorem frame_ref : Cert.quiescent_AddChipsRef := fun m g _ =>
  (θ_run (Cert.AddChipsRef.defs (F := Bits)) _ _).mono (fun _ h => ⟨fun c => (h c).2, sem_eq_zero_of_no_sems rfl _⟩)
    (Cert.AddChipsRef.Value.run m g)

/-- On real numbers the kernel leaves the sums of the reference. -/
theorem algebraic : Cert.algebraic_AddChipsIdeal_AddChipsRefIdeal := fun m g m' g' h hm =>
  let ⟨k, hk⟩ := chip _ _ _ (h 0)
  ⟨_, run m g k hk, (θ_run (Cert.AddChipsRefIdeal.defs (F := Ideal)) _ _).mono
    (fun _ h c => ⟨(h c).1.trans (congrArg₂ (G k) (hm c).2.1 (hm c).2.2), (h c).2⟩) (ref_run (F := Ideal) g' m' k ((congrFun (hm 0).1 _).trans hk))⟩

/-- And bit for bit on floats: both add the same terms in the same order. -/
theorem bitexact : Cert.bitexact_AddChips_AddChipsRef := fun m g m' g' h hm =>
  let ⟨k, hk⟩ := chip _ _ _ (h 0)
  ⟨_, Eq.mpr (congrArg (fun d => θ_run d (onTc (τ := τ) (main (F := Bits))) ⟨m, fun _ => 0, g⟩ _) defs_eq) (run (F := Bits) m g k hk),
    (θ_run (Cert.AddChipsRef.defs (F := Bits)) _ _).mono
    (fun _ h c => ⟨(h c).1.trans (congrArg₂ (G k) (hm c).2.1 (hm c).2.2), (h c).2⟩) (ref_run (F := Bits) g' m' k ((congrFun (hm 0).1 _).trans hk))⟩

end Cert.AddChipsIdeal.Sum

end
-- ==== Proof.Blocks.lean ====
/- Sums over the rows of an array, taken block by block: over the extended reals they are the sums over all rows. -/
module

public import Idealize.ShloMosaic.Lib.IdealHost

@[expose] public section

noncomputable section

namespace Cert.Blocks

open Idealize.ShloMosaic

/-- One half, the width 2048 and its inverse, as the programs write them. -/
theorem half_eq : Ideal.ofBits .f32 0x3F000000#32 = ((1 / 2 : ℝ) : EReal) := by
  simp [Ideal.ofBits, Ideal.ieee, -EReal.coe_mul]; norm_num
theorem width_eq : Ideal.ofBits .f32 0x45000000#32 = ((2048 : ℝ) : EReal) := by
  simp [Ideal.ofBits, Ideal.ieee, -EReal.coe_mul]; norm_num
theorem inverse_eq : Ideal.ofBits .f32 0x3A000000#32 = ((2048⁻¹ : ℝ) : EReal) := by
  simp [Ideal.ofBits, Ideal.ieee, -EReal.coe_mul]; norm_num

/-- Times the inverse of the width is divided by the width. -/
theorem mul_inverse (x : EReal) : x * Ideal.ofBits .f32 0x3A000000#32 = Ideal.div x (Ideal.ofBits .f32 0x45000000#32) := by
  rw [inverse_eq, width_eq]
  unfold Ideal.div
  rw [if_neg (by exact_mod_cast (by norm_num : (2048 : ℝ) ≠ 0)), EReal.coe_inv]

/-- Blocks of `b` of a sequence, summed one after the other, are its first entries summed. -/
theorem sum_blocks (b : ℕ) (f : ℕ → EReal) (n : ℕ) :
    ∑ t ∈ Finset.range n, ∑ r ∈ Finset.range b, f (b * t + r) = ∑ i ∈ Finset.range (b * n), f i := by
  induction n with
  | zero => simp
  | succ n ih => rw [Finset.sum_range_succ, ih, Nat.mul_succ, Finset.sum_range_add]

/-- So do halves of blocks. -/
theorem sum_halves (b : ℕ) (f : ℕ → EReal) (n : ℕ) :
    ∑ t ∈ Finset.range n, (∑ r ∈ Finset.range b, f (b * t + r)) * Ideal.ofBits .f32 0x3F000000#32
      = Ideal.ofBits .f32 0x3F000000#32 * ∑ i ∈ Finset.range (b * n), f i := by
  have h0 : (0 : EReal) ≤ ((1 / 2 : ℝ) : EReal) := by exact_mod_cast (by norm_num : (0 : ℝ) ≤ 1 / 2)
  rw [half_eq, ← sum_blocks]
  induction n with
  | zero => simp
  | succ n ih =>
    rw [Finset.sum_range_succ, Finset.sum_range_succ, ih, EReal.left_distrib_of_nonneg_of_ne_top h0 (EReal.coe_ne_top _),
      mul_comm ((1 / 2 : ℝ) : EReal) (∑ r ∈ Finset.range b, f (b * n + r))]

/-- A sum over the rows, numbered. -/
theorem sum_rows (n : ℕ) (f : Fin n → EReal) : ∑ i, f i = ∑ i ∈ Finset.range n, if h : i < n then f ⟨i, h⟩ else 0 := by
  rw [Finset.sum_range]
  exact Finset.sum_congr rfl fun i _ => by rw [dif_pos i.isLt]

/-- A sum that is carried from point to point over blocks of `b` entries, and begins anew at every K-th point, is after each
    point the sum over the entries since its beginning. -/
theorem carried {N : ℕ} (K b : ℕ) (f : ℕ → ℕ → EReal) (s : ∀ n, n < N → EReal)
    (first : ∀ n h, n % K = 0 → s n h = ∑ l ∈ Finset.range b, f (n / K) (b * (n % K) + l))
    (next : ∀ n h, ¬(n + 1) % K = 0 → s (n + 1) h = s n (Nat.lt_of_succ_lt h) + ∑ l ∈ Finset.range b, f ((n + 1) / K) (b * ((n + 1) % K) + l)) :
    ∀ n h, s n h = ∑ i ∈ Finset.range (b * (n % K + 1)), f (n / K) i := by
  intro n
  induction n with
  | zero => intro h; rw [first 0 h (Nat.zero_mod K)]; simp
  | succ n ih =>
    intro h
    by_cases h0 : (n + 1) % K = 0
    · rw [first _ h h0, h0]; simp
    · have hd : (n + 1) / K = n / K := Nat.succ_div_of_not_dvd fun hk => h0 (Nat.mod_eq_zero_of_dvd hk)
      have hm : (n + 1) % K = n % K + 1 := by
        have h1 := Nat.div_add_mod n K
        have h2 := Nat.div_add_mod (n + 1) K
        rw [hd] at h2
        omega
      rw [next n h h0, ih, hd, hm, Nat.mul_succ b (n % K + 1), Finset.sum_range_add]

/-- A grid's coordinate is a word's number. -/
theorem word_eq (n : ℕ) (h : n < 4294967296) : (BitVec.ofNat 32 n).toNat = n := by
  rw [BitVec.toNat_ofNat, Nat.mod_eq_of_lt h]

end Cert.Blocks

end
-- ==== Proof.Loss.lean ====
/- The loss of a device's tokens and its gradient in the last residual stream. The kernel goes over the tokens in 32 blocks of
   256; the gradient is written block by block, and the loss is added up over the blocks, beginning at zero. -/
module

public import proofs.«01_k».proof.Defs
public import proofs.«01_k».proof.Proof.Blocks
public import proofs.«01_k».proof.Proof.Gen.PostLoss.Frame
public import proofs.«01_k».proof.Proof.Gen.PostLossIdeal.Frame
public import proofs.«01_k».proof.Proof.Gen.PostLossRefIdeal.Run
public import Idealize.ShloMosaic.Lib.Pipeline.Value
public import Idealize.ShloMosaic.Lib.Pointwise
public import Idealize.ShloMosaic.Lib.Quiescent

@[expose] public section

set_option Elab.async false

noncomputable section

namespace Cert.PostLossIdeal.Loss

open Cert.PostLossIdeal Cert.PostLossIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section body

variable {F : FTy → Type} [FloatOps F]

/-- What the body stores of the loss, from what was stored before. -/
abbrev step (x0 x1 : Vec F S256x2048 .f32) (x2 : Vec F S1x2048 .f32) (x3 : Vec F S256x2048 .f32) (xo : Vec F S1x1 .f32) : Vec F S1x1 .f32 :=
  k0_pay1 (k0_pay5 xo) (k0_pay6 x0 x1 x2 x3)

theorem out_B_4 (c : Dev nD) (i : grid0.Coords) (a1 : Memref sig .tc .vmem S256x2048 .f32) (h1 : a1.IsWhole) (a2 : Memref sig .tc .vmem S256x2048 .f32) (h2 : a2.IsWhole)
    (a3 : Memref sig .tc .vmem S1x2048 .f32) (h3 : a3.IsWhole) (a4 : Memref sig .tc .vmem S256x2048 .f32) (h4 : a4.IsWhole)
    (a5 : Memref sig .tc .vmem S256x2048 .f32) (h5 : a5.IsWhole) (a6 : Memref sig .tc .vmem S1x1 .f32) (h6 : a6.IsWhole) (hc : ¬cond0_0 i)
    (x0 x1 : Vec F S256x2048 .f32) (x2 : Vec F S1x2048 .f32) (x3 : Vec F S256x2048 .f32) (xo : Vec F S1x1 .f32) :
    out0_B_4 c i a1 h1 a2 h2 a3 h3 a4 h4 a5 h5 a6 h6 hc x0 x1 x2 x3 xo = k0_pay3 x0 x1 x2 x3 := by
  unfold out0_B_4
  rw [View.read_writes_eq_canon _ _ _ (cover0_B_4 c i a1 h1 a2 h2 a3 h3 a4 h4 a5 h5 a6 h6 hc x0 x1 x2 x3 xo)]
  unfold kernelRun0_B
  dsimp only
  sl_unfold_words
  rw [View.canon_unit_zero hz]
  simp only [View.readAt_eq_ld, h1.read_unread, h2.read_unread, h3.read_unread, h4.read_unread, View.ld_unit_zero (S := S256x2048) hz, View.ld_unit_zero (S := S1x2048) hz]

theorem out_B_5 (c : Dev nD) (i : grid0.Coords) (a1 : Memref sig .tc .vmem S256x2048 .f32) (h1 : a1.IsWhole) (a2 : Memref sig .tc .vmem S256x2048 .f32) (h2 : a2.IsWhole)
    (a3 : Memref sig .tc .vmem S1x2048 .f32) (h3 : a3.IsWhole) (a4 : Memref sig .tc .vmem S256x2048 .f32) (h4 : a4.IsWhole)
    (a5 : Memref sig .tc .vmem S256x2048 .f32) (h5 : a5.IsWhole) (a6 : Memref sig .tc .vmem S1x1 .f32) (h6 : a6.IsWhole) (hc : ¬cond0_0 i)
    (x0 x1 : Vec F S256x2048 .f32) (x2 : Vec F S1x2048 .f32) (x3 : Vec F S256x2048 .f32) (xo : Vec F S1x1 .f32) :
    out0_B_5 c i a1 h1 a2 h2 a3 h3 a4 h4 a5 h5 a6 h6 hc x0 x1 x2 x3 xo = step x0 x1 x2 x3 xo := by
  unfold out0_B_5
  rw [View.read_writes_eq_canon _ _ _ (cover0_B_5 c i a1 h1 a2 h2 a3 h3 a4 h4 a5 h5 a6 h6 hc x0 x1 x2 x3 xo)]
  unfold kernelRun0_B
  dsimp only
  sl_unfold_words
  rw [View.canon_unit_zero hz]
  simp only [View.readAt_eq_ld, h1.read_unread, h2.read_unread, h3.read_unread, h4.read_unread, h6.read_unread, View.ld_unit_zero (S := S256x2048) hz, View.ld_unit_zero (S := S1x2048) hz,
    View.ld_unit_zero (S := S1x1) hz]

theorem out_A_4 (c : Dev nD) (i : grid0.Coords) (a1 : Memref sig .tc .vmem S256x2048 .f32) (h1 : a1.IsWhole) (a2 : Memref sig .tc .vmem S256x2048 .f32) (h2 : a2.IsWhole)
    (a3 : Memref sig .tc .vmem S1x2048 .f32) (h3 : a3.IsWhole) (a4 : Memref sig .tc .vmem S256x2048 .f32) (h4 : a4.IsWhole)
    (a5 : Memref sig .tc .vmem S256x2048 .f32) (h5 : a5.IsWhole) (a6 : Memref sig .tc .vmem S1x1 .f32) (h6 : a6.IsWhole) (hc : cond0_0 i)
    (x0 x1 : Vec F S256x2048 .f32) (x2 : Vec F S1x2048 .f32) (x3 : Vec F S256x2048 .f32) :
    out0_A_4 c i a1 h1 a2 h2 a3 h3 a4 h4 a5 h5 a6 h6 hc x0 x1 x2 x3 = k0_pay3 x0 x1 x2 x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S256x2048) hz, View.ld_unit_zero (S := S1x2048) hz]

theorem out_A_5 (c : Dev nD) (i : grid0.Coords) (a1 : Memref sig .tc .vmem S256x2048 .f32) (h1 : a1.IsWhole) (a2 : Memref sig .tc .vmem S256x2048 .f32) (h2 : a2.IsWhole)
    (a3 : Memref sig .tc .vmem S1x2048 .f32) (h3 : a3.IsWhole) (a4 : Memref sig .tc .vmem S256x2048 .f32) (h4 : a4.IsWhole)
    (a5 : Memref sig .tc .vmem S256x2048 .f32) (h5 : a5.IsWhole) (a6 : Memref sig .tc .vmem S1x1 .f32) (h6 : a6.IsWhole) (hc : cond0_0 i)
    (x0 x1 : Vec F S256x2048 .f32) (x2 : Vec F S1x2048 .f32) (x3 : Vec F S256x2048 .f32) :
    out0_A_5 c i a1 h1 a2 h2 a3 h3 a4 h4 a5 h5 a6 h6 hc x0 x1 x2 x3 = step x0 x1 x2 x3 k0_pay4 := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, View.ld_unit_zero (S := S256x2048) hz, View.ld_unit_zero (S := S1x2048) hz]

end body

/-! ## The values on real numbers -/

/-- The error of an entry, from its row: the stream plus half of the normed last output, less the target. -/
abbrev err (x z : Fin 2048 → EReal) (g : Fin 2048 → EReal) (t : Fin 2048 → EReal) (k : Fin 2048) : EReal :=
  x k + Ideal.ofBits .f32 0x3F000000#32 * (z k * Ideal.rsqrt (Ideal.div (∑ l, z l * z l) (Ideal.ofBits .f32 0x45000000#32) + Ideal.ofBits .f32 0x358637BD#32) * g k) - t k

/-- The mean of a row's squared errors. -/
abbrev meanSquare (e : Fin 2048 → EReal) : EReal := Ideal.div (∑ k, e k * e k) (Ideal.ofBits .f32 0x45000000#32)

/-- The errors of a row of the arrays, -/
abbrev errs (x z : Vec Ideal S8192x2048 .f32) (g : Vec Ideal S2048 .f32) (t : Vec Ideal S8192x2048 .f32) (r : Fin 8192) : Fin 2048 → EReal :=
  err (fun k => x (ix2 r k)) (fun k => z (ix2 r k)) (fun k => g (ix1 k)) (fun k => t (ix2 r k))

/-- the gradient, -/
abbrev gradient (x z : Vec Ideal S8192x2048 .f32) (g : Vec Ideal S2048 .f32) (t : Vec Ideal S8192x2048 .f32) : Vec Ideal S8192x2048 .f32 := fun i =>
  Ideal.div (errs x z g t (i 0) (i 1)) (Ideal.ofBits .f32 0x45000000#32)

/-- and the loss. -/
abbrev loss (x z : Vec Ideal S8192x2048 .f32) (g : Vec Ideal S2048 .f32) (t : Vec Ideal S8192x2048 .f32) : Vec Ideal S1x1 .f32 := fun _ =>
  Ideal.ofBits .f32 0x3F000000#32 * ∑ r, meanSquare (errs x z g t r)

/-- The same of a block. -/
abbrev blockErrs (x z : Vec Ideal S256x2048 .f32) (g : Vec Ideal S1x2048 .f32) (t : Vec Ideal S256x2048 .f32) (r : Fin 256) : Fin 2048 → EReal :=
  err (fun k => x (ix2 r k)) (fun k => z (ix2 r k)) (fun k => g (ix2 0 k)) (fun k => t (ix2 r k))

theorem pay2 (x z : Vec Ideal S256x2048 .f32) (g : Vec Ideal S1x2048 .f32) (t : Vec Ideal S256x2048 .f32) (j : S256x2048.Idx) :
    k0_pay2 x z g t j = blockErrs x z g t (j 0) (j 1) := by
  obtain ⟨r, k, rfl⟩ : ∃ (r : Fin 256) (k : Fin 2048), j = ix2 r k := ⟨j 0, j 1, by funext a; fin_cases a <;> rfl⟩
  pointwise [k0_pay2]

theorem pay3 (x z : Vec Ideal S256x2048 .f32) (g : Vec Ideal S1x2048 .f32) (t : Vec Ideal S256x2048 .f32) (j : S256x2048.Idx) :
    k0_pay3 x z g t j = Ideal.div (blockErrs x z g t (j 0) (j 1)) (Ideal.ofBits .f32 0x45000000#32) := by
  rw [← Cert.Blocks.mul_inverse, ← pay2]
  pointwise [k0_pay3]

theorem stepped (x z : Vec Ideal S256x2048 .f32) (g : Vec Ideal S1x2048 .f32) (t : Vec Ideal S256x2048 .f32) (o : Vec Ideal S1x1 .f32) (j : S1x1.Idx) :
    step x z g t o j = o j + (∑ r, meanSquare (blockErrs x z g t r)) * Ideal.ofBits .f32 0x3F000000#32 := by
  have h : ∀ i : S1.Idx, k0_pay6 x z g t i = ∑ r, meanSquare (blockErrs x z g t r) := fun i => by
    pointwise [k0_pay6]
    simp only [pay2]
    rfl
  pointwise [step, k0_pay1, k0_pay5]
  rw [h]

/-! ## The run -/

variable (m : (ℓ : Loc nD τ sig) → Buf (Elt Ideal) ℓ) (ρ : Dev nD → PrngReg)

/-- The arguments. -/
abbrev X (c : Dev nD) : Vec Ideal S8192x2048 .f32 := m ((c.tc : Thread nD τ).loc main_arg0)
abbrev Z (c : Dev nD) : Vec Ideal S8192x2048 .f32 := m ((c.tc : Thread nD τ).loc main_arg1)
abbrev W (c : Dev nD) : Vec Ideal S2048 .f32 := m ((c.tc : Thread nD τ).loc main_arg2)
abbrev T (c : Dev nD) : Vec Ideal S8192x2048 .f32 := m ((c.tc : Thread nD τ).loc main_arg3)

theorem coord : ∀ t : Fin grid0.N, (grid0.coords t 0).val = t.val := by decide +kernel

theorem lt_N (t : Fin cfg0.N) : t.val < 32 := lt_of_lt_of_eq t.isLt N_0

/-- Row r of the block of a point, among all rows. -/
abbrev row (t : Fin cfg0.N) (r : Fin 256) : Fin 8192 := ⟨256 * t.val + r.val, by have := lt_N t; have := r.isLt; omega⟩

theorem index_row (t : Fin cfg0.N) : cc0_transform_0 (grid0.coords t) = ![t.val, 0] := by
  have := lt_N t
  unfold cc0_transform_0
  dsimp only
  rw [coord, BitVec.toNat_ofNat, Nat.mod_eq_of_lt (by omega)]
  rfl

/-- An entry of the block of a point lies in its row. -/
abbrev inRows (t : Fin cfg0.N) (j : S256x2048.Idx) : S8192x2048.Idx := ((cfg0.win 0).blk t).view.emb j

theorem inRows_eq (t : Fin cfg0.N) (j : S256x2048.Idx) : inRows t j = ix2 (row t (j 0)) (j 1) := by
  funext a; apply Fin.ext
  have h := index_row t
  match a with
  | ⟨0, _⟩ => show cc0_transform_0 (grid0.coords t) 0 * 256 + 1 * (j 0).val = 256 * t.val + (j 0).val; rw [h]; show t.val * 256 + 1 * (j 0).val = _; omega
  | ⟨1, _⟩ => show cc0_transform_0 (grid0.coords t) 1 * 2048 + 1 * (j 1).val = (j 1).val; rw [h]; show 0 * 2048 + 1 * (j 1).val = _; omega

theorem block_x (c : Dev nD) (t : Fin cfg0.N) (r : Fin 256) (k : Fin 2048) : (iblk m c 0 t : Vec Ideal S256x2048 .f32) (ix2 r k) = X m c (ix2 (row t r) k) :=
  (congrFun (V_main_arg0 m c) (inRows t (ix2 r k))).trans (congrArg (X m c) (inRows_eq t (ix2 r k)))
theorem block_z (c : Dev nD) (t : Fin cfg0.N) (r : Fin 256) (k : Fin 2048) : (iblk m c 1 t : Vec Ideal S256x2048 .f32) (ix2 r k) = Z m c (ix2 (row t r) k) :=
  (congrFun (V_main_arg1 m c) (inRows t (ix2 r k))).trans (congrArg (Z m c) (inRows_eq t (ix2 r k)))
theorem block_t (c : Dev nD) (t : Fin cfg0.N) (r : Fin 256) (k : Fin 2048) : (iblk m c 3 t : Vec Ideal S256x2048 .f32) (ix2 r k) = T m c (ix2 (row t r) k) :=
  (congrFun (V_main_arg3 m c) (inRows t (ix2 r k))).trans (congrArg (T m c) (inRows_eq t (ix2 r k)))

theorem gains (c : Dev nD) : (V m c main_v0 : Vec Ideal S1x2048 .f32) = shapeCast S1x2048 (W m c) shapeCasts_S2048_S1x2048 := by
  show StableHlo.after hostOps0 (fun b => m (c, b)) main_v0 = _
  after_results_simp <;> rfl

theorem block_w (c : Dev nD) (t : Fin cfg0.N) (k : Fin 2048) : (iblk m c 2 t : Vec Ideal S1x2048 .f32) (ix2 0 k) = W m c (ix1 k) := by
  have e : (((cfg0.win 2).blk t).view.emb (ix2 0 k : S1x2048.Idx) : S1x2048.Idx) = ix2 0 k := by
    funext a; apply Fin.ext
    match a with
    | ⟨0, _⟩ => rfl
    | ⟨1, _⟩ => show 0 * 2048 + 1 * k.val = k.val; omega
  refine (congrArg (V m c main_v0 : Vec Ideal S1x2048 .f32) e).trans ?_
  rw [gains]
  pointwise

/-- The errors of the block of a point are those of its rows. -/
theorem blockErrs_eq (c : Dev nD) (t : Fin cfg0.N) (r : Fin 256) :
    blockErrs (iblk m c 0 t) (iblk m c 1 t) (iblk m c 2 t) (iblk m c 3 t) r = errs (X m c) (Z m c) (W m c) (T m c) (row t r) := by
  funext k
  unfold blockErrs errs
  simp only [block_x, block_z, block_t, block_w]

/-- The mean squared error of a row by its number. -/
def rowLoss (c : Dev nD) (i : ℕ) : EReal := if h : i < 8192 then meanSquare (errs (X m c) (Z m c) (W m c) (T m c) ⟨i, h⟩) else 0

theorem blockLoss (c : Dev nD) (t : Fin cfg0.N) :
    ∑ r, meanSquare (blockErrs (iblk m c 0 t) (iblk m c 1 t) (iblk m c 2 t) (iblk m c 3 t) r) = ∑ r ∈ Finset.range 256, rowLoss m c (256 * t.val + r) := by
  rw [Finset.sum_range]
  refine Finset.sum_congr rfl fun r _ => ?_
  rw [blockErrs_eq]
  unfold rowLoss
  rw [dif_pos (row t r).isLt]

/-- After a point the first result's block is the gradient's, -/
theorem gradient_at (c : Dev nD) (t : Fin cfg0.N) : (outsAt0 m c t.val t.isLt).1 = k0_pay3 (iblk m c 0 t) (iblk m c 1 t) (iblk m c 2 t) (iblk m c 3 t) := by
  by_cases h : t.val % 32 = 0
  · rw [outsAt0_A m c t h]; dsimp only; rw [out_A_4]
  · rw [outsAt0_B m c t h]; dsimp only; rw [out_B_4]

/-- and the second is the halves of the blocks so far, summed. -/
theorem loss_at (c : Dev nD) (j : S1x1.Idx) : ∀ (n : ℕ) (h : n < cfg0.N),
    (outsAt0 m c n h).2 j = ∑ t ∈ Finset.range (n + 1), (∑ r ∈ Finset.range 256, rowLoss m c (256 * t + r)) * Ideal.ofBits .f32 0x3F000000#32
  | 0, h => by
    rw [outsAt0_A m c ⟨0, h⟩ rfl]
    dsimp only
    rw [out_A_5, stepped, blockLoss, Finset.sum_range_one]
    refine (congrArg (· + _) ?_).trans (zero_add _)
    pointwise [k0_pay4]
  | n + 1, h => by
    have hN : cfg0.N = 32 := N_0
    have hB : ¬(⟨n + 1, h⟩ : Fin cfg0.N).val % 32 = 0 := by dsimp only; omega
    rw [outsAt0_B m c ⟨n + 1, h⟩ hB]
    dsimp only
    rw [out_B_5, stepped, blockLoss]
    refine Eq.trans ?_ (Finset.sum_range_succ _ (n + 1)).symm
    exact congrArg (· + _) (loss_at c j n (Nat.lt_of_succ_lt h))

/-- Each point writes its block of the gradient. -/
theorem flushed_gradient (c : Dev nD) (t : Fin cfg0.N) :
    (dats m 0 c).flushed 4 t = ((cfg0.win 4).blk t).view.read (Elt Ideal) (gradient (X m c) (Z m c) (W m c) (T m c)) := by
  show (cfg0.win 4).cut (grid0.coords t) ((dats m 0 c).after 4 t) = _
  rw [after0_4, gradient_at]
  refine funext fun (j : S256x2048.Idx) => ?_
  refine (pay3 (iblk m c 0 t) (iblk m c 1 t) (iblk m c 2 t) (iblk m c 3 t) j).trans ?_
  refine (congrArg (fun e : Fin 2048 → EReal => Ideal.div (e (j 1)) (Ideal.ofBits .f32 0x45000000#32)) (blockErrs_eq m c t (j 0))).trans ?_
  exact congrArg (gradient (X m c) (Z m c) (W m c) (T m c)) (inRows_eq t j).symm

theorem covered_gradient (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ : ∃ t : Fin cfg0.N, t.val = (i 0).val / 256 := ⟨⟨(i 0).val / 256, lt_of_lt_of_eq (by omega) N_0.symm⟩, rfl⟩
  refine ⟨t, flush0_4 t, ?_⟩
  suffices h : i ∈ ((View.whole main_v1_0).slice (Rect.block (s := S8192x2048) S256x2048.size (cc0_transform_0 (grid0.coords t)) (hinb0_4 _))).set from h
  rw [View.set_slice_whole, Rect.mem_set_unit]
  intro a
  rw [index_row, ht]
  match a with
  | ⟨0, _⟩ => show (i 0).val / 256 * 256 ≤ (i 0).val ∧ (i 0).val < (i 0).val / 256 * 256 + 256; omega
  | ⟨1, _⟩ => show 0 * 2048 ≤ (i 1).val ∧ (i 1).val < 0 * 2048 + 2048; omega

/-- The last point writes the loss, -/
theorem flushed_loss (c : Dev nD) (t : Fin cfg0.N) (hf : (cfg0.win 5).flush t = true) :
    (dats m 0 c).flushed 5 t = ((cfg0.win 5).blk t).view.read (Elt Ideal) (loss (X m c) (Z m c) (W m c) (T m c)) := by
  have h31 : t.val = 31 := by have := (flush0_5 t).mp hf; have := lt_N t; omega
  show (cfg0.win 5).cut (grid0.coords t) ((dats m 0 c).after 5 t) = _
  rw [after0_5]
  refine funext fun (j : S1x1.Idx) => ?_
  refine (loss_at m c j t.val t.isLt).trans ?_
  rw [Cert.Blocks.sum_halves, h31]
  show _ = Ideal.ofBits .f32 0x3F000000#32 * ∑ r, meanSquare (errs (X m c) (Z m c) (W m c) (T m c) r)
  rw [Cert.Blocks.sum_rows]
  rfl

theorem covered_loss (i : S1x1.Idx) : ∃ t : Fin cfg0.N, (cfg0.win 5).flush t = true ∧ i ∈ ((cfg0.win 5).blk t).view.set := by
  have hi0 : (i 0).val < 1 := (i 0).isLt
  have hi1 : (i 1).val < 1 := (i 1).isLt
  obtain ⟨t, ht⟩ : ∃ t : Fin cfg0.N, t.val = 31 := ⟨⟨31, lt_of_lt_of_eq (by omega) N_0.symm⟩, rfl⟩
  refine ⟨t, (flush0_5 t).mpr (by omega), ?_⟩
  suffices h : i ∈ ((View.whole main_v1_1).slice (Rect.block (s := S1x1) S1x1.size (cc0_transform_5 (grid0.coords t)) (hinb0_5 _))).set from h
  rw [View.set_slice_whole, Rect.mem_set_unit]
  intro a
  match a with
  | ⟨0, _⟩ => show 0 * 1 ≤ (i 0).val ∧ (i 0).val < 0 * 1 + 1; omega
  | ⟨1, _⟩ => show 0 * 1 ≤ (i 1).val ∧ (i 1).val < 0 * 1 + 1; omega

/-- so every run ends with the gradient and the loss. -/
theorem run : θ_run defs (onTc (τ := τ) (main (F := Ideal))) ⟨m, fun _ => 0, ρ⟩ (fun r => ∀ c : Dev nD,
      r.2.mem ((c.tc : Thread nD τ).loc main_v1_0) = gradient (X m c) (Z m c) (W m c) (T m c)
      ∧ r.2.mem ((c.tc : Thread nD τ).loc main_v1_1) = loss (X m c) (Z m c) (W m c) (T m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).1 4).trans ((dats m 0 c).arrAt_eq_of_cover 4 _ (fun t _ => flushed_gradient m c t) covered_gradient),
      ((h.1 c).1 5).trans ((dats m 0 c).arrAt_eq_of_cover 5 _ (flushed_loss m c) covered_loss), h.2 c⟩)
    (θ_run_and (run_main m ρ) (unchanged m ρ))

theorem frame : Cert.quiescent_PostLoss := fun m g _ => Cert.PostLoss.Gen.frame (F := Bits) m g
theorem frame_ideal : Cert.quiescent_PostLossIdeal := fun m g _ => Cert.PostLossIdeal.Gen.frame (F := Ideal) m g
/-- The reference leaves its arguments as they were; it has no semaphores. -/
theorem frame_refIdeal : Cert.quiescent_PostLossRefIdeal := fun m g _ =>
  (θ_run (Cert.PostLossRefIdeal.defs (F := Ideal)) _ _).mono (fun _ h => ⟨fun c => (h c).2.2, sem_eq_zero_of_no_sems rfl _⟩)
    (Cert.PostLossRefIdeal.Value.run m g)

/-- The reference ends with the same gradient and loss. -/
theorem ref_run (m : (ℓ : Loc nD τ Cert.PostLossRefIdeal.sig) → Buf (Elt Ideal) ℓ) :
    θ_run Cert.PostLossRefIdeal.defs (onTc (τ := τ) (Cert.PostLossRefIdeal.main (F := Ideal))) ⟨m, fun _ => 0, ρ⟩ (fun r => ∀ c : Dev nD,
      r.2.mem ((c.tc : Thread nD τ).loc Cert.PostLossRefIdeal.main_v18) = gradient (m ((c.tc : Thread nD τ).loc Cert.PostLossRefIdeal.main_arg0)) (m ((c.tc : Thread nD τ).loc Cert.PostLossRefIdeal.main_arg1)) (m ((c.tc : Thread nD τ).loc Cert.PostLossRefIdeal.main_arg2)) (m ((c.tc : Thread nD τ).loc Cert.PostLossRefIdeal.main_arg3))
      ∧ r.2.mem ((c.tc : Thread nD τ).loc Cert.PostLossRefIdeal.main_v25) = loss (m ((c.tc : Thread nD τ).loc Cert.PostLossRefIdeal.main_arg0)) (m ((c.tc : Thread nD τ).loc Cert.PostLossRefIdeal.main_arg1)) (m ((c.tc : Thread nD τ).loc Cert.PostLossRefIdeal.main_arg2)) (m ((c.tc : Thread nD τ).loc Cert.PostLossRefIdeal.main_arg3))
      ∧ r.2.mem ((c.tc : Thread nD τ).loc Cert.PostLossRefIdeal.main_arg0) = m ((c.tc : Thread nD τ).loc Cert.PostLossRefIdeal.main_arg0)
      ∧ r.2.mem ((c.tc : Thread nD τ).loc Cert.PostLossRefIdeal.main_arg1) = m ((c.tc : Thread nD τ).loc Cert.PostLossRefIdeal.main_arg1)
      ∧ r.2.mem ((c.tc : Thread nD τ).loc Cert.PostLossRefIdeal.main_arg2) = m ((c.tc : Thread nD τ).loc Cert.PostLossRefIdeal.main_arg2)
      ∧ r.2.mem ((c.tc : Thread nD τ).loc Cert.PostLossRefIdeal.main_arg3) = m ((c.tc : Thread nD τ).loc Cert.PostLossRefIdeal.main_arg3)) :=
  (θ_run Cert.PostLossRefIdeal.defs _ _).mono (fun _ h c => ⟨(h c).1.trans (by
    refine funext fun (i : S8192x2048.Idx) => ?_
    obtain ⟨r, k, rfl⟩ : ∃ (r : Fin 8192) (k : Fin 2048), i = ix2 r k := ⟨i 0, i 1, by funext a; fin_cases a <;> rfl⟩
    pointwise
    rfl), (h c).2.1.trans (by
    refine funext fun (i : S1x1.Idx) => ?_
    pointwise), (h c).2.2⟩) (Cert.PostLossRefIdeal.Value.run m ρ)

/-- On real numbers the kernel leaves the gradient and the loss of the reference. -/
theorem algebraic : Cert.algebraic_PostLossIdeal_PostLossRefIdeal := fun m g m' g' _ hm =>
  ⟨_, _, run m g, (θ_run (Cert.PostLossRefIdeal.defs (F := Ideal)) _ _).mono
    (fun _ h c => by
      have h := h c
      rw [(hm c).1, (hm c).2.1, (hm c).2.2.1, (hm c).2.2.2] at h ⊢
      exact h) (ref_run g' m')⟩

end Cert.PostLossIdeal.Loss
-- ==== Proof.Grad.lean ====
/- The gradient through the first norm of the first layer: in the norm's input, added to the gradient that goes past it, and in the
   norm's gain. The kernel goes over a device's tokens in 32 blocks of 256; the first is written block by block, and the
   second is added up over the blocks, beginning at zero. -/
module

public import proofs.«01_k».proof.Defs
public import proofs.«01_k».proof.Proof.Blocks
public import proofs.«01_k».proof.Proof.Gen.PreGrad.Frame
public import proofs.«01_k».proof.Proof.Gen.PreGradIdeal.Frame
public import proofs.«01_k».proof.Proof.Gen.PreGradRefIdeal.Run
public import Idealize.ShloMosaic.Lib.Pipeline.Value
public import Idealize.ShloMosaic.Lib.Pipeline.FrameSuffix
public import Idealize.ShloMosaic.Lib.Pointwise
public import Idealize.ShloMosaic.Lib.Quiescent

@[expose] public section

set_option Elab.async false

noncomputable section

namespace Cert.PreGradIdeal.Grad

open Cert.PreGradIdeal Cert.PreGradIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section body

variable {F : FTy → Type} [FloatOps F]

/-- What the body stores of the gain's gradient, from what was stored before. -/
abbrev step (x0 x2 : Vec F S256x2048 .f32) (xo : Vec F S1x2048 .f32) : Vec F S1x2048 .f32 :=
  k0_pay1 (k0_pay7 xo) (k0_pay8 x0 x2)

theorem out_B_4 (c : Dev nD) (i : grid0.Coords) (a1 : Memref sig .tc .vmem S256x2048 .f32) (h1 : a1.IsWhole) (a2 : Memref sig .tc .vmem S1x2048 .f32) (h2 : a2.IsWhole)
    (a3 : Memref sig .tc .vmem S256x2048 .f32) (h3 : a3.IsWhole) (a4 : Memref sig .tc .vmem S256x2048 .f32) (h4 : a4.IsWhole)
    (a5 : Memref sig .tc .vmem S256x2048 .f32) (h5 : a5.IsWhole) (a6 : Memref sig .tc .vmem S1x2048 .f32) (h6 : a6.IsWhole) (hc : ¬cond0_0 i)
    (x0 : Vec F S256x2048 .f32) (x1 : Vec F S1x2048 .f32) (x2 x3 : Vec F S256x2048 .f32) (xo : Vec F S1x2048 .f32) :
    out0_B_4 c i a1 h1 a2 h2 a3 h3 a4 h4 a5 h5 a6 h6 hc x0 x1 x2 x3 xo = k0_pay5 x0 x2 x1 x3 := by
  unfold out0_B_4
  rw [View.read_writes_eq_canon _ _ _ (cover0_B_4 c i a1 h1 a2 h2 a3 h3 a4 h4 a5 h5 a6 h6 hc x0 x1 x2 x3 xo)]
  unfold kernelRun0_B
  dsimp only
  sl_unfold_words
  rw [View.canon_unit_zero hz]
  simp only [View.readAt_eq_ld, h1.read_unread, h2.read_unread, h3.read_unread, h4.read_unread, View.ld_unit_zero (S := S256x2048) hz, View.ld_unit_zero (S := S1x2048) hz]

theorem out_B_5 (c : Dev nD) (i : grid0.Coords) (a1 : Memref sig .tc .vmem S256x2048 .f32) (h1 : a1.IsWhole) (a2 : Memref sig .tc .vmem S1x2048 .f32) (h2 : a2.IsWhole)
    (a3 : Memref sig .tc .vmem S256x2048 .f32) (h3 : a3.IsWhole) (a4 : Memref sig .tc .vmem S256x2048 .f32) (h4 : a4.IsWhole)
    (a5 : Memref sig .tc .vmem S256x2048 .f32) (h5 : a5.IsWhole) (a6 : Memref sig .tc .vmem S1x2048 .f32) (h6 : a6.IsWhole) (hc : ¬cond0_0 i)
    (x0 : Vec F S256x2048 .f32) (x1 : Vec F S1x2048 .f32) (x2 x3 : Vec F S256x2048 .f32) (xo : Vec F S1x2048 .f32) :
    out0_B_5 c i a1 h1 a2 h2 a3 h3 a4 h4 a5 h5 a6 h6 hc x0 x1 x2 x3 xo = step x0 x2 xo := by
  unfold out0_B_5
  rw [View.read_writes_eq_canon _ _ _ (cover0_B_5 c i a1 h1 a2 h2 a3 h3 a4 h4 a5 h5 a6 h6 hc x0 x1 x2 x3 xo)]
  unfold kernelRun0_B
  dsimp only
  sl_unfold_words
  rw [View.canon_unit_zero hz]
  simp only [View.readAt_eq_ld, h1.read_unread, h2.read_unread, h3.read_unread, h4.read_unread, h6.read_unread, View.ld_unit_zero (S := S256x2048) hz, View.ld_unit_zero (S := S1x2048) hz]

theorem out_A_4 (c : Dev nD) (i : grid0.Coords) (a1 : Memref sig .tc .vmem S256x2048 .f32) (h1 : a1.IsWhole) (a2 : Memref sig .tc .vmem S1x2048 .f32) (h2 : a2.IsWhole)
    (a3 : Memref sig .tc .vmem S256x2048 .f32) (h3 : a3.IsWhole) (a4 : Memref sig .tc .vmem S256x2048 .f32) (h4 : a4.IsWhole)
    (a5 : Memref sig .tc .vmem S256x2048 .f32) (h5 : a5.IsWhole) (a6 : Memref sig .tc .vmem S1x2048 .f32) (h6 : a6.IsWhole) (hc : cond0_0 i)
    (x0 : Vec F S256x2048 .f32) (x1 : Vec F S1x2048 .f32) (x2 x3 : Vec F S256x2048 .f32) :
    out0_A_4 c i a1 h1 a2 h2 a3 h3 a4 h4 a5 h5 a6 h6 hc x0 x1 x2 x3 = k0_pay5 x0 x2 x1 x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S256x2048) hz, View.ld_unit_zero (S := S1x2048) hz]

theorem out_A_5 (c : Dev nD) (i : grid0.Coords) (a1 : Memref sig .tc .vmem S256x2048 .f32) (h1 : a1.IsWhole) (a2 : Memref sig .tc .vmem S1x2048 .f32) (h2 : a2.IsWhole)
    (a3 : Memref sig .tc .vmem S256x2048 .f32) (h3 : a3.IsWhole) (a4 : Memref sig .tc .vmem S256x2048 .f32) (h4 : a4.IsWhole)
    (a5 : Memref sig .tc .vmem S256x2048 .f32) (h5 : a5.IsWhole) (a6 : Memref sig .tc .vmem S1x2048 .f32) (h6 : a6.IsWhole) (hc : cond0_0 i)
    (x0 : Vec F S256x2048 .f32) (x1 : Vec F S1x2048 .f32) (x2 x3 : Vec F S256x2048 .f32) :
    out0_A_5 c i a1 h1 a2 h2 a3 h3 a4 h4 a5 h5 a6 h6 hc x0 x1 x2 x3 = step x0 x2 k0_pay6 := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, View.ld_unit_zero (S := S256x2048) hz, View.ld_unit_zero (S := S1x2048) hz]

end body

/-! ## The values on real numbers -/

/-- What a row is scaled by: one over the root of its mean square. -/
abbrev scale (x : Fin 2048 → EReal) : EReal := Ideal.rsqrt (Ideal.div (∑ l, x l * x l) (Ideal.ofBits .f32 0x45000000#32) + Ideal.ofBits .f32 0x358637BD#32)

/-- An entry of the scaled row. -/
abbrev unit (x : Fin 2048 → EReal) (k : Fin 2048) : EReal := x k * scale x

/-- The gradient in an entry of a row, from the gain, the gradient in the normed row, and the gradient that goes past the norm. -/
abbrev inward (x g d p : Fin 2048 → EReal) (k : Fin 2048) : EReal :=
  p k + scale x * (g k * d k - unit x k * Ideal.div (∑ l, unit x l * g l * d l) (Ideal.ofBits .f32 0x45000000#32))

/-- A row of an array. -/
abbrev rowOf (x : Vec Ideal S8192x2048 .f32) (r : Fin 8192) : Fin 2048 → EReal := fun k => x (ix2 r k)
abbrev blockRow (x : Vec Ideal S256x2048 .f32) (r : Fin 256) : Fin 2048 → EReal := fun k => x (ix2 r k)

/-- The gradient in the norm's input, -/
abbrev gradient (x : Vec Ideal S8192x2048 .f32) (g : Vec Ideal S2048 .f32) (d p : Vec Ideal S8192x2048 .f32) : Vec Ideal S8192x2048 .f32 := fun i =>
  inward (rowOf x (i 0)) (fun k => g (ix1 k)) (rowOf d (i 0)) (rowOf p (i 0)) (i 1)

/-- and in its gain. -/
abbrev gain (x d : Vec Ideal S8192x2048 .f32) : Vec Ideal S2048 .f32 := fun i => ∑ r, unit (rowOf x r) (i 0) * rowOf d r (i 0)
/-- The kernel holds the gain's as one row. -/
abbrev gainRow (x d : Vec Ideal S8192x2048 .f32) : Vec Ideal S1x2048 .f32 := fun i => ∑ r, unit (rowOf x r) (i 1) * rowOf d r (i 1)

theorem pay2 (d : Vec Ideal S256x2048 .f32) (j : S256x2048.Idx) : k0_pay2 d j = d j := by
  pointwise [k0_pay2]

theorem pay3 (x : Vec Ideal S256x2048 .f32) (r : Fin 256) (a : Fin 1) : k0_pay3 x (ix2 r a) = scale (blockRow x r) := by
  pointwise [k0_pay3]

theorem pay4 (x : Vec Ideal S256x2048 .f32) (r : Fin 256) (k : Fin 2048) : k0_pay4 x (ix2 r k) = unit (blockRow x r) k := by
  pointwise [k0_pay4]
  rw [pay3]

theorem pay5 (x d : Vec Ideal S256x2048 .f32) (g : Vec Ideal S1x2048 .f32) (p : Vec Ideal S256x2048 .f32) (r : Fin 256) (k : Fin 2048) :
    k0_pay5 x d g p (ix2 r k) = inward (blockRow x r) (fun k => g (ix2 0 k)) (blockRow d r) (blockRow p r) k := by
  pointwise [k0_pay5]
  simp only [pay2, pay3, pay4]
  have h : ∀ l, d (ix2 r l) * g (ix2 0 l) * unit (blockRow x r) l = unit (blockRow x r) l * g (ix2 0 l) * d (ix2 r l) := fun l =>
    (mul_comm _ _).trans ((congrArg (unit (blockRow x r) l * ·) (mul_comm _ _)).trans (mul_assoc _ _ _).symm)
  simp only [h]
  rw [add_comm, mul_comm (d _) (g _)]

theorem stepped (x d : Vec Ideal S256x2048 .f32) (o : Vec Ideal S1x2048 .f32) (k : Fin 2048) :
    step x d o (ix2 0 k) = o (ix2 0 k) + ∑ r, unit (blockRow x r) k * blockRow d r k := by
  pointwise [step, k0_pay1, k0_pay7, k0_pay8]
  simp only [pay2, pay4]
  exact congrArg (o (ix2 0 k) + ·) (Finset.sum_congr rfl fun r _ => mul_comm _ _)

/-! ## The run -/

variable (m : (ℓ : Loc nD τ sig) → Buf (Elt Ideal) ℓ) (ρ : Dev nD → PrngReg)

/-- The arguments. -/
abbrev X (c : Dev nD) : Vec Ideal S8192x2048 .f32 := m ((c.tc : Thread nD τ).loc main_arg0)
abbrev G (c : Dev nD) : Vec Ideal S2048 .f32 := m ((c.tc : Thread nD τ).loc main_arg1)
abbrev D (c : Dev nD) : Vec Ideal S8192x2048 .f32 := m ((c.tc : Thread nD τ).loc main_arg2)
abbrev P (c : Dev nD) : Vec Ideal S8192x2048 .f32 := m ((c.tc : Thread nD τ).loc main_arg3)

theorem coord : ∀ t : Fin grid0.N, (grid0.coords t 0).val = t.val := by decide +kernel

theorem lt_N (t : Fin cfg0.N) : t.val < 32 := lt_of_lt_of_eq t.isLt N_0

/-- Row r of the block of a point, among all rows. -/
abbrev row (t : Fin cfg0.N) (r : Fin 256) : Fin 8192 := ⟨256 * t.val + r.val, by have := lt_N t; have := r.isLt; omega⟩

theorem index_row (t : Fin cfg0.N) : cc0_transform_0 (grid0.coords t) = ![t.val, 0] := by
  have := lt_N t
  unfold cc0_transform_0
  dsimp only
  rw [coord, BitVec.toNat_ofNat, Nat.mod_eq_of_lt (by omega)]
  rfl

/-- An entry of the block of a point lies in its row. -/
abbrev inRows (t : Fin cfg0.N) (j : S256x2048.Idx) : S8192x2048.Idx := ((cfg0.win 0).blk t).view.emb j

theorem inRows_eq (t : Fin cfg0.N) (j : S256x2048.Idx) : inRows t j = ix2 (row t (j 0)) (j 1) := by
  funext a; apply Fin.ext
  have h := index_row t
  match a with
  | ⟨0, _⟩ => show cc0_transform_0 (grid0.coords t) 0 * 256 + 1 * (j 0).val = 256 * t.val + (j 0).val; rw [h]; show t.val * 256 + 1 * (j 0).val = _; omega
  | ⟨1, _⟩ => show cc0_transform_0 (grid0.coords t) 1 * 2048 + 1 * (j 1).val = (j 1).val; rw [h]; show 0 * 2048 + 1 * (j 1).val = _; omega

theorem block_x (c : Dev nD) (t : Fin cfg0.N) (r : Fin 256) (k : Fin 2048) : (iblk m c 0 t : Vec Ideal S256x2048 .f32) (ix2 r k) = X m c (ix2 (row t r) k) :=
  (congrFun (V_main_arg0 m c) (inRows t (ix2 r k))).trans (congrArg (X m c) (inRows_eq t (ix2 r k)))
theorem block_d (c : Dev nD) (t : Fin cfg0.N) (r : Fin 256) (k : Fin 2048) : (iblk m c 2 t : Vec Ideal S256x2048 .f32) (ix2 r k) = D m c (ix2 (row t r) k) :=
  (congrFun (V_main_arg2 m c) (inRows t (ix2 r k))).trans (congrArg (D m c) (inRows_eq t (ix2 r k)))
theorem block_p (c : Dev nD) (t : Fin cfg0.N) (r : Fin 256) (k : Fin 2048) : (iblk m c 3 t : Vec Ideal S256x2048 .f32) (ix2 r k) = P m c (ix2 (row t r) k) :=
  (congrFun (V_main_arg3 m c) (inRows t (ix2 r k))).trans (congrArg (P m c) (inRows_eq t (ix2 r k)))

theorem gains (c : Dev nD) : (V m c main_v0 : Vec Ideal S1x2048 .f32) = shapeCast S1x2048 (G m c) shapeCasts_S2048_S1x2048 := by
  show StableHlo.after hostOps0 (fun b => m (c, b)) main_v0 = _
  after_results_simp <;> rfl

theorem whole_row (t : Fin cfg0.N) (k : Fin 2048) : (((cfg0.win 1).blk t).view.emb (ix2 0 k : S1x2048.Idx) : S1x2048.Idx) = ix2 0 k := by
  funext a; apply Fin.ext
  match a with
  | ⟨0, _⟩ => rfl
  | ⟨1, _⟩ => show 0 * 2048 + 1 * k.val = k.val; omega

theorem block_g (c : Dev nD) (t : Fin cfg0.N) (k : Fin 2048) : (iblk m c 1 t : Vec Ideal S1x2048 .f32) (ix2 0 k) = G m c (ix1 k) := by
  refine (congrArg (V m c main_v0 : Vec Ideal S1x2048 .f32) (whole_row t k)).trans ?_
  rw [gains]
  pointwise

/-- The rows of the block of a point are rows of the arrays. -/
theorem row_x (c : Dev nD) (t : Fin cfg0.N) (r : Fin 256) : blockRow (iblk m c 0 t) r = rowOf (X m c) (row t r) := funext fun k => block_x m c t r k
theorem row_d (c : Dev nD) (t : Fin cfg0.N) (r : Fin 256) : blockRow (iblk m c 2 t) r = rowOf (D m c) (row t r) := funext fun k => block_d m c t r k
theorem row_p (c : Dev nD) (t : Fin cfg0.N) (r : Fin 256) : blockRow (iblk m c 3 t) r = rowOf (P m c) (row t r) := funext fun k => block_p m c t r k
theorem row_g (c : Dev nD) (t : Fin cfg0.N) : (fun k => (iblk m c 1 t : Vec Ideal S1x2048 .f32) (ix2 0 k)) = fun k => G m c (ix1 k) := funext fun k => block_g m c t k

/-- What a row adds to an entry of the gain's gradient, by the row's number. -/
def rowGain (c : Dev nD) (k : Fin 2048) (i : ℕ) : EReal := if h : i < 8192 then unit (rowOf (X m c) ⟨i, h⟩) k * rowOf (D m c) ⟨i, h⟩ k else 0

theorem blockGain (c : Dev nD) (t : Fin cfg0.N) (k : Fin 2048) :
    ∑ r, unit (blockRow (iblk m c 0 t) r) k * blockRow (iblk m c 2 t) r k = ∑ r ∈ Finset.range 256, rowGain m c k (256 * t.val + r) := by
  rw [Finset.sum_range]
  refine Finset.sum_congr rfl fun r _ => ?_
  rw [row_x, row_d]
  unfold rowGain
  rw [dif_pos (row t r).isLt]

/-- After a point the first result's block is the gradient's, -/
theorem gradient_at (c : Dev nD) (t : Fin cfg0.N) : (outsAt0 m c t.val t.isLt).1 = k0_pay5 (iblk m c 0 t) (iblk m c 2 t) (iblk m c 1 t) (iblk m c 3 t) := by
  by_cases h : t.val % 32 = 0
  · rw [outsAt0_A m c t h]; dsimp only; rw [out_A_4]
  · rw [outsAt0_B m c t h]; dsimp only; rw [out_B_4]

/-- and the second is the sum over the blocks so far. -/
theorem gain_at (c : Dev nD) (k : Fin 2048) : ∀ (n : ℕ) (h : n < cfg0.N),
    (outsAt0 m c n h).2 (ix2 0 k) = ∑ t ∈ Finset.range (n + 1), ∑ r ∈ Finset.range 256, rowGain m c k (256 * t + r)
  | 0, h => by
    rw [outsAt0_A m c ⟨0, h⟩ rfl]
    dsimp only
    rw [out_A_5, stepped, blockGain, Finset.sum_range_one]
    refine (congrArg (· + _) ?_).trans (zero_add _)
    pointwise [k0_pay6]
  | n + 1, h => by
    have hN : cfg0.N = 32 := N_0
    have hB : ¬(⟨n + 1, h⟩ : Fin cfg0.N).val % 32 = 0 := by dsimp only; omega
    rw [outsAt0_B m c ⟨n + 1, h⟩ hB]
    dsimp only
    rw [out_B_5, stepped, blockGain]
    refine Eq.trans ?_ (Finset.sum_range_succ _ (n + 1)).symm
    exact congrArg (· + _) (gain_at c k n (Nat.lt_of_succ_lt h))

/-- Each point writes its block of the gradient. -/
theorem flushed_gradient (c : Dev nD) (t : Fin cfg0.N) :
    (dats m 0 c).flushed 4 t = ((cfg0.win 4).blk t).view.read (Elt Ideal) (gradient (X m c) (G m c) (D m c) (P m c)) := by
  show (cfg0.win 4).cut (grid0.coords t) ((dats m 0 c).after 4 t) = _
  rw [after0_4, gradient_at]
  refine funext fun (j : S256x2048.Idx) => ?_
  obtain ⟨r, k, rfl⟩ : ∃ (r : Fin 256) (k : Fin 2048), j = ix2 r k := ⟨j 0, j 1, by funext a; fin_cases a <;> rfl⟩
  refine (pay5 (iblk m c 0 t) (iblk m c 2 t) (iblk m c 1 t) (iblk m c 3 t) r k).trans ?_
  rw [row_x, row_d, row_p, row_g]
  exact congrArg (gradient (X m c) (G m c) (D m c) (P m c)) (inRows_eq t (ix2 r k)).symm

theorem covered_gradient (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ : ∃ t : Fin cfg0.N, t.val = (i 0).val / 256 := ⟨⟨(i 0).val / 256, lt_of_lt_of_eq (by omega) N_0.symm⟩, rfl⟩
  refine ⟨t, flush0_4 t, ?_⟩
  suffices h : i ∈ ((View.whole main_v1_0).slice (Rect.block (s := S8192x2048) S256x2048.size (cc0_transform_0 (grid0.coords t)) (hinb0_4 _))).set from h
  rw [View.set_slice_whole, Rect.mem_set_unit]
  intro a
  rw [index_row, ht]
  match a with
  | ⟨0, _⟩ => show (i 0).val / 256 * 256 ≤ (i 0).val ∧ (i 0).val < (i 0).val / 256 * 256 + 256; omega
  | ⟨1, _⟩ => show 0 * 2048 ≤ (i 1).val ∧ (i 1).val < 0 * 2048 + 2048; omega

/-- The gain's gradient is one block. -/
theorem read_row (t : Fin cfg0.N) (f : Vec Ideal S1x2048 .f32) (k : Fin 2048) : ((cfg0.win 5).blk t).view.read (Elt Ideal) f (ix2 0 k : S1x2048.Idx) = f (ix2 0 k) :=
  congrArg f (whole_row t k)

/-- The last point writes the gain's gradient, -/
theorem flushed_gain (c : Dev nD) (t : Fin cfg0.N) (hf : (cfg0.win 5).flush t = true) :
    (dats m 0 c).flushed 5 t = ((cfg0.win 5).blk t).view.read (Elt Ideal) (gainRow (X m c) (D m c)) := by
  have h31 : t.val = 31 := by have := (flush0_5 t).mp hf; have := lt_N t; omega
  show (cfg0.win 5).cut (grid0.coords t) ((dats m 0 c).after 5 t) = _
  rw [after0_5]
  refine funext fun (j : S1x2048.Idx) => ?_
  obtain ⟨a, k, rfl⟩ : ∃ (a : Fin 1) (k : Fin 2048), j = ix2 a k := ⟨j 0, j 1, by funext a; fin_cases a <;> rfl⟩
  obtain rfl : a = 0 := Subsingleton.elim _ _
  refine ((gain_at m c k t.val t.isLt).trans ?_).trans (read_row t (gainRow (X m c) (D m c)) k).symm
  rw [Cert.Blocks.sum_blocks, h31]
  show _ = ∑ r, unit (rowOf (X m c) r) k * rowOf (D m c) r k
  rw [Cert.Blocks.sum_rows]
  rfl

theorem covered_gain (i : S1x2048.Idx) : ∃ t : Fin cfg0.N, (cfg0.win 5).flush t = true ∧ i ∈ ((cfg0.win 5).blk t).view.set := by
  have hi0 : (i 0).val < 1 := (i 0).isLt
  have hi1 : (i 1).val < 2048 := (i 1).isLt
  obtain ⟨t, ht⟩ : ∃ t : Fin cfg0.N, t.val = 31 := ⟨⟨31, lt_of_lt_of_eq (by omega) N_0.symm⟩, rfl⟩
  refine ⟨t, (flush0_5 t).mpr (by omega), ?_⟩
  suffices h : i ∈ ((View.whole main_v1_1).slice (Rect.block (s := S1x2048) S1x2048.size (cc0_transform_5 (grid0.coords t)) (hinb0_5 _))).set from h
  rw [View.set_slice_whole, Rect.mem_set_unit]
  intro a
  match a with
  | ⟨0, _⟩ => show 0 * 1 ≤ (i 0).val ∧ (i 0).val < 0 * 1 + 1; omega
  | ⟨1, _⟩ => show 0 * 2048 ≤ (i 1).val ∧ (i 1).val < 0 * 2048 + 2048; omega

/-- which is reshaped after the call. -/
theorem gain_after (c : Dev nD) : Pipeline.afterTail₀ cfgs (dats m) 0 (V0 m) [hostOps1] c main_v2 = gain (X m c) (D m c) := by
  have e : (Pipeline.withArrays (cfgs 0).spec c (V0 m c) (fun w => (dats m 0 c).arrAt w (cfgs 0).N) (Proc.devRef .tc main_v1_1) : Vec Ideal S1x2048 .f32) = gainRow (X m c) (D m c) :=
    (Pipeline.withArrays_arr spec0 launch0.win.arr_inj c (V0 m c) (fun w => (dats m 0 c).arrAt w (cfgs 0).N) 5).trans ((dats m 0 c).arrAt_eq_of_cover 5 _ (flushed_gain m c) covered_gain)
  have h : (Pipeline.afterTail₀ cfgs (dats m) 0 (V0 m) [hostOps1] c main_v2 : Vec Ideal S2048 .f32)
      = shapeCast S2048 (Pipeline.withArrays (cfgs 0).spec c (V0 m c) (fun w => (dats m 0 c).arrAt w (cfgs 0).N) (Proc.devRef .tc main_v1_1) : Vec Ideal S1x2048 .f32) shapeCasts_S1x2048_S2048 := by
    unfold Pipeline.afterTail₀
    after_results_simp <;> rfl
  refine h.trans ?_
  rw [e]
  refine funext fun (i : S2048.Idx) => ?_
  obtain ⟨k, rfl⟩ : ∃ k : Fin 2048, i = ix1 k := ⟨i 0, by funext a; fin_cases a; rfl⟩
  pointwise
  rfl

/-- So every run ends with both gradients. -/
theorem run : θ_run defs (onTc (τ := τ) (main (F := Ideal))) ⟨m, fun _ => 0, ρ⟩ (fun r => ∀ c : Dev nD,
      r.2.mem ((c.tc : Thread nD τ).loc main_v1_0) = gradient (X m c) (G m c) (D m c) (P m c)
      ∧ r.2.mem ((c.tc : Thread nD τ).loc main_v2) = gain (X m c) (D m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).1 4).trans ((dats m 0 c).arrAt_eq_of_cover 4 _ (fun t _ => flushed_gradient m c t) covered_gradient),
      ((h.1 c).2 main_v2 (Pipeline.mem_restRefs_of main_v2 (by decide) (by decide))).trans (gain_after m c), h.2 c⟩)
    (θ_run_and (run_main m ρ) (unchanged m ρ))

theorem frame : Cert.quiescent_PreGrad := fun m g _ => Cert.PreGrad.Gen.frame (F := Bits) m g
theorem frame_ideal : Cert.quiescent_PreGradIdeal := fun m g _ => Cert.PreGradIdeal.Gen.frame (F := Ideal) m g
/-- The reference leaves its arguments as they were; it has no semaphores. -/
theorem frame_refIdeal : Cert.quiescent_PreGradRefIdeal := fun m g _ =>
  (θ_run (Cert.PreGradRefIdeal.defs (F := Ideal)) _ _).mono (fun _ h => ⟨fun c => (h c).2.2, sem_eq_zero_of_no_sems rfl _⟩)
    (Cert.PreGradRefIdeal.Value.run m g)

/-- The reference ends with the same gradients. -/
theorem ref_run (m : (ℓ : Loc nD τ Cert.PreGradRefIdeal.sig) → Buf (Elt Ideal) ℓ) :
    θ_run Cert.PreGradRefIdeal.defs (onTc (τ := τ) (Cert.PreGradRefIdeal.main (F := Ideal))) ⟨m, fun _ => 0, ρ⟩ (fun r => ∀ c : Dev nD,
      r.2.mem ((c.tc : Thread nD τ).loc Cert.PreGradRefIdeal.main_v26) = gradient (m ((c.tc : Thread nD τ).loc Cert.PreGradRefIdeal.main_arg0)) (m ((c.tc : Thread nD τ).loc Cert.PreGradRefIdeal.main_arg1)) (m ((c.tc : Thread nD τ).loc Cert.PreGradRefIdeal.main_arg2)) (m ((c.tc : Thread nD τ).loc Cert.PreGradRefIdeal.main_arg3))
      ∧ r.2.mem ((c.tc : Thread nD τ).loc Cert.PreGradRefIdeal.main_v28) = gain (m ((c.tc : Thread nD τ).loc Cert.PreGradRefIdeal.main_arg0)) (m ((c.tc : Thread nD τ).loc Cert.PreGradRefIdeal.main_arg2))
      ∧ r.2.mem ((c.tc : Thread nD τ).loc Cert.PreGradRefIdeal.main_arg0) = m ((c.tc : Thread nD τ).loc Cert.PreGradRefIdeal.main_arg0)
      ∧ r.2.mem ((c.tc : Thread nD τ).loc Cert.PreGradRefIdeal.main_arg1) = m ((c.tc : Thread nD τ).loc Cert.PreGradRefIdeal.main_arg1)
      ∧ r.2.mem ((c.tc : Thread nD τ).loc Cert.PreGradRefIdeal.main_arg2) = m ((c.tc : Thread nD τ).loc Cert.PreGradRefIdeal.main_arg2)
      ∧ r.2.mem ((c.tc : Thread nD τ).loc Cert.PreGradRefIdeal.main_arg3) = m ((c.tc : Thread nD τ).loc Cert.PreGradRefIdeal.main_arg3)) :=
  (θ_run Cert.PreGradRefIdeal.defs _ _).mono (fun _ h c => ⟨(h c).1.trans (by
    refine funext fun (i : S8192x2048.Idx) => ?_
    obtain ⟨r, k, rfl⟩ : ∃ (r : Fin 8192) (k : Fin 2048), i = ix2 r k := ⟨i 0, i 1, by funext a; fin_cases a <;> rfl⟩
    pointwise
    rfl), (h c).2.1.trans (by
    refine funext fun (i : S2048.Idx) => ?_
    obtain ⟨k, rfl⟩ : ∃ k : Fin 2048, i = ix1 k := ⟨i 0, by funext a; fin_cases a; rfl⟩
    pointwise
    rfl), (h c).2.2⟩) (Cert.PreGradRefIdeal.Value.run m ρ)

/-- On real numbers the kernel leaves the gradients of the reference. -/
theorem algebraic : Cert.algebraic_PreGradIdeal_PreGradRefIdeal := fun m g m' g' _ hm =>
  ⟨_, _, run m g, (θ_run (Cert.PreGradRefIdeal.defs (F := Ideal)) _ _).mono
    (fun _ h c => by
      have h := h c
      rw [(hm c).1, (hm c).2.1, (hm c).2.2.1, (hm c).2.2.2] at h ⊢
      exact h) (ref_run g' m')⟩

end Cert.PreGradIdeal.Grad
-- ==== Proof.FirstNorm.lean ====
/- The first norm of a device's tokens: each row over the root of its mean square, times the gain. The kernel goes over the
   rows in 32 blocks of 256. -/
module

public import proofs.«01_k».proof.Defs
public import proofs.«01_k».proof.Proof.Gen.FirstNorm.Frame
public import proofs.«01_k».proof.Proof.Gen.FirstNormIdeal.Value
public import proofs.«01_k».proof.Proof.Gen.FirstNormRefIdeal.Run
public import Idealize.ShloMosaic.Lib.IdealHost
public import Idealize.ShloMosaic.Lib.Pointwise
public import Idealize.ShloMosaic.Lib.Quiescent

@[expose] public section

set_option Elab.async false

noncomputable section

namespace Cert.FirstNormIdeal.Norm

open Cert.FirstNormIdeal Cert.FirstNormIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- An entry of a row over the root of the row's mean square, times the gain. -/
abbrev normed (x g : Fin 2048 → EReal) (k : Fin 2048) : EReal :=
  x k * Ideal.rsqrt (Ideal.div (∑ l, x l * x l) (Ideal.ofBits .f32 0x45000000#32) + Ideal.ofBits .f32 0x358637BD#32) * g k

/-- The normed array. -/
abbrev norm (x : Vec Ideal S8192x2048 .f32) (g : Vec Ideal S2048 .f32) : Vec Ideal S8192x2048 .bf16 := fun i =>
  normed (fun k => x (ix2 (i 0) k)) (fun k => g (ix1 k)) (i 1)

theorem pay1 (x : Vec Ideal S256x2048 .f32) (g : Vec Ideal S1x2048 .f32) (r : Fin 256) (k : Fin 2048) :
    k0_pay1 x g (ix2 r k) = normed (fun k => x (ix2 r k)) (fun k => g (ix2 0 k)) k := by
  pointwise [k0_pay1]

variable (m : (ℓ : Loc nD τ sig) → Buf (Elt Ideal) ℓ) (ρ : Dev nD → PrngReg)

/-- The arguments. -/
abbrev X (c : Dev nD) : Vec Ideal S8192x2048 .f32 := m ((c.tc : Thread nD τ).loc main_arg0)
abbrev G (c : Dev nD) : Vec Ideal S2048 .f32 := m ((c.tc : Thread nD τ).loc main_arg1)

theorem coord : ∀ t : Fin grid0.N, (grid0.coords t 0).val = t.val := by decide +kernel

theorem lt_N (t : Fin cfg0.N) : t.val < 32 := lt_of_lt_of_eq t.isLt N_0

/-- Row r of the block of a point, among all rows. -/
abbrev row (t : Fin cfg0.N) (r : Fin 256) : Fin 8192 := ⟨256 * t.val + r.val, by have := lt_N t; have := r.isLt; omega⟩

theorem index_row (t : Fin cfg0.N) : cc0_transform_0 (grid0.coords t) = ![t.val, 0] := by
  have := lt_N t
  unfold cc0_transform_0
  dsimp only
  rw [coord, BitVec.toNat_ofNat, Nat.mod_eq_of_lt (by omega)]
  rfl

/-- An entry of the block of a point lies in its row. -/
abbrev inRows (t : Fin cfg0.N) (j : S256x2048.Idx) : S8192x2048.Idx := ((cfg0.win 0).blk t).view.emb j

theorem inRows_eq (t : Fin cfg0.N) (j : S256x2048.Idx) : inRows t j = ix2 (row t (j 0)) (j 1) := by
  funext a; apply Fin.ext
  have h := index_row t
  match a with
  | ⟨0, _⟩ => show cc0_transform_0 (grid0.coords t) 0 * 256 + 1 * (j 0).val = 256 * t.val + (j 0).val; rw [h]; show t.val * 256 + 1 * (j 0).val = _; omega
  | ⟨1, _⟩ => show cc0_transform_0 (grid0.coords t) 1 * 2048 + 1 * (j 1).val = (j 1).val; rw [h]; show 0 * 2048 + 1 * (j 1).val = _; omega

theorem row_x (c : Dev nD) (t : Fin cfg0.N) (r : Fin 256) :
    (fun k => (iblk m c 0 t : Vec Ideal S256x2048 .f32) (ix2 r k)) = fun k => X m c (ix2 (row t r) k) := funext fun k =>
  (congrFun (V_main_arg0 m c) (inRows t (ix2 r k))).trans (congrArg (X m c) (inRows_eq t (ix2 r k)))

theorem gains (c : Dev nD) : (V m c main_v0 : Vec Ideal S1x2048 .f32) = shapeCast S1x2048 (G m c) shapeCasts_S2048_S1x2048 := by
  show StableHlo.after hostOps0 (fun b => m (c, b)) main_v0 = _
  after_results_simp <;> rfl

theorem whole_row (t : Fin cfg0.N) (k : Fin 2048) : (((cfg0.win 1).blk t).view.emb (ix2 0 k : S1x2048.Idx) : S1x2048.Idx) = ix2 0 k := by
  funext a; apply Fin.ext
  match a with
  | ⟨0, _⟩ => rfl
  | ⟨1, _⟩ => show 0 * 2048 + 1 * k.val = k.val; omega

theorem row_g (c : Dev nD) (t : Fin cfg0.N) :
    (fun k => (iblk m c 1 t : Vec Ideal S1x2048 .f32) (ix2 0 k)) = fun k => G m c (ix1 k) := funext fun k => by
  refine (congrArg (V m c main_v0 : Vec Ideal S1x2048 .f32) (whole_row t k)).trans ?_
  rw [gains]
  pointwise

/-- Each point writes its block of the normed array. -/
theorem flushed (c : Dev nD) (t : Fin cfg0.N) :
    (dats m 0 c).flushed 2 t = ((cfg0.win 2).blk t).view.read (Elt Ideal) (norm (X m c) (G m c)) := by
  show (cfg0.win 2).cut (grid0.coords t) ((dats m 0 c).after 2 t) = _
  rw [after0_2]
  unfold out0_2
  rw [View.canon_unit_zero hz, View.ld_unit_zero (S := S256x2048) hz, View.ld_unit_zero (S := S1x2048) hz]
  refine funext fun (j : S256x2048.Idx) => ?_
  obtain ⟨r, k, rfl⟩ : ∃ (r : Fin 256) (k : Fin 2048), j = ix2 r k := ⟨j 0, j 1, by funext a; fin_cases a <;> rfl⟩
  refine (pay1 (iblk m c 0 t) (iblk m c 1 t) r k).trans ?_
  rw [row_x, row_g]
  exact congrArg (norm (X m c) (G m c)) (inRows_eq t (ix2 r k)).symm

theorem covered (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ : ∃ t : Fin cfg0.N, t.val = (i 0).val / 256 := ⟨⟨(i 0).val / 256, lt_of_lt_of_eq (by omega) N_0.symm⟩, rfl⟩
  refine ⟨t, flush0_2 t, ?_⟩
  suffices h : i ∈ ((View.whole main_v1).slice (Rect.block (s := S8192x2048) S256x2048.size (cc0_transform_0 (grid0.coords t)) (hinb0_2 _))).set from h
  rw [View.set_slice_whole, Rect.mem_set_unit]
  intro a
  rw [index_row, ht]
  match a with
  | ⟨0, _⟩ => show (i 0).val / 256 * 256 ≤ (i 0).val ∧ (i 0).val < (i 0).val / 256 * 256 + 256; omega
  | ⟨1, _⟩ => show 0 * 2048 ≤ (i 1).val ∧ (i 1).val < 0 * 2048 + 2048; omega

/-- So every run ends with the normed array. -/
theorem run : θ_run defs (onTc (τ := τ) (main (F := Ideal))) ⟨m, fun _ => 0, ρ⟩ (fun r => ∀ c : Dev nD,
      r.2.mem ((c.tc : Thread nD τ).loc main_v1) = norm (X m c) (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((dats m 0 c).arrAt_eq_of_cover 2 _ (fun t _ => flushed m c t) covered), (h c).2⟩)
    (Value.run_blocks m ρ)

theorem frame : Cert.quiescent_FirstNorm := fun m g _ => Cert.FirstNorm.Gen.frame (F := Bits) m g
theorem frame_ideal : Cert.quiescent_FirstNormIdeal := fun m g _ => Cert.FirstNormIdeal.Gen.frame (F := Ideal) m g
/-- The reference leaves its arguments as they were; it has no semaphores. -/
theorem frame_refIdeal : Cert.quiescent_FirstNormRefIdeal := fun m g _ =>
  (θ_run (Cert.FirstNormRefIdeal.defs (F := Ideal)) _ _).mono (fun _ h => ⟨fun c => (h c).2, sem_eq_zero_of_no_sems rfl _⟩)
    (Cert.FirstNormRefIdeal.Value.run m g)

/-- The reference ends with the same array. -/
theorem ref_run (m : (ℓ : Loc nD τ Cert.FirstNormRefIdeal.sig) → Buf (Elt Ideal) ℓ) :
    θ_run Cert.FirstNormRefIdeal.defs (onTc (τ := τ) (Cert.FirstNormRefIdeal.main (F := Ideal))) ⟨m, fun _ => 0, ρ⟩ (fun r => ∀ c : Dev nD,
      r.2.mem ((c.tc : Thread nD τ).loc Cert.FirstNormRefIdeal.main_v13) = norm (m ((c.tc : Thread nD τ).loc Cert.FirstNormRefIdeal.main_arg0)) (m ((c.tc : Thread nD τ).loc Cert.FirstNormRefIdeal.main_arg1))
      ∧ r.2.mem ((c.tc : Thread nD τ).loc Cert.FirstNormRefIdeal.main_arg0) = m ((c.tc : Thread nD τ).loc Cert.FirstNormRefIdeal.main_arg0)
      ∧ r.2.mem ((c.tc : Thread nD τ).loc Cert.FirstNormRefIdeal.main_arg1) = m ((c.tc : Thread nD τ).loc Cert.FirstNormRefIdeal.main_arg1)) :=
  (θ_run Cert.FirstNormRefIdeal.defs _ _).mono (fun _ h c => ⟨(h c).1.trans (by
    refine funext fun (i : S8192x2048.Idx) => ?_
    obtain ⟨r, k, rfl⟩ : ∃ (r : Fin 8192) (k : Fin 2048), i = ix2 r k := ⟨i 0, i 1, by funext a; fin_cases a <;> rfl⟩
    pointwise
    rfl), (h c).2⟩) (Cert.FirstNormRefIdeal.Value.run m ρ)

/-- On real numbers the kernel leaves the normed array of the reference. -/
theorem algebraic : Cert.algebraic_FirstNormIdeal_FirstNormRefIdeal := fun m g m' g' _ hm =>
  ⟨_, run m g, (θ_run (Cert.FirstNormRefIdeal.defs (F := Ideal)) _ _).mono
    (fun _ h c => by
      have h := h c
      rw [(hm c).1, (hm c).2] at h ⊢
      exact h) (ref_run g' m')⟩

end Cert.FirstNormIdeal.Norm

end
-- ==== Proof.PostPre.lean ====
/- Between the mixer and the feed-forward layer: half the normed output of the mixer is added to the stream, and the sum is
   normed for what follows. The kernel goes over the rows in 32 blocks of 256. -/
module

public import proofs.«01_k».proof.Defs
public import proofs.«01_k».proof.Proof.FirstNorm
public import proofs.«01_k».proof.Proof.Gen.PostPre.Frame
public import proofs.«01_k».proof.Proof.Gen.PostPreIdeal.Frame
public import proofs.«01_k».proof.Proof.Gen.PostPreRefIdeal.Run
public import Idealize.ShloMosaic.Lib.IdealHost
public import Idealize.ShloMosaic.Lib.Pipeline.Value
public import Idealize.ShloMosaic.Lib.Pointwise
public import Idealize.ShloMosaic.Lib.Quiescent

@[expose] public section

set_option Elab.async false

noncomputable section

namespace Cert.PostPreIdeal.Norm

open Cert.PostPreIdeal Cert.PostPreIdeal.Gen Idealize.ShloMosaic Idealize.ShloMosaic.TcCoe Idealize.SL.Sem
open Idealize.ShloMosaic.Pipeline (Dat)
open Cert.FirstNormIdeal.Norm (normed)

theorem hz : (![0, 0] : Fin 2 → Nat) = fun _ => 0 := funext fun a => by fin_cases a <;> rfl

/-- A row of the stream with half a normed row added. -/
abbrev added (x y g : Fin 2048 → EReal) (k : Fin 2048) : EReal := x k + Ideal.ofBits .f32 0x3F000000#32 * normed y g k

/-- The stream after it, -/
abbrev stream (x y : Vec Ideal S8192x2048 .f32) (g : Vec Ideal S2048 .f32) : Vec Ideal S8192x2048 .f32 := fun i =>
  added (fun k => x (ix2 (i 0) k)) (fun k => y (ix2 (i 0) k)) (fun k => g (ix1 k)) (i 1)

/-- and the stream normed. -/
abbrev next (x y : Vec Ideal S8192x2048 .f32) (g h : Vec Ideal S2048 .f32) : Vec Ideal S8192x2048 .bf16 := fun i =>
  normed (added (fun k => x (ix2 (i 0) k)) (fun k => y (ix2 (i 0) k)) (fun k => g (ix1 k))) (fun k => h (ix1 k)) (i 1)

theorem pay1 (x y : Vec Ideal S256x2048 .f32) (g : Vec Ideal S1x2048 .f32) (r : Fin 256) (k : Fin 2048) :
    k0_pay1 x y g (ix2 r k) = added (fun k => x (ix2 r k)) (fun k => y (ix2 r k)) (fun k => g (ix2 0 k)) k := by
  pointwise [k0_pay1]

theorem pay2 (x y : Vec Ideal S256x2048 .f32) (g h : Vec Ideal S1x2048 .f32) (r : Fin 256) (k : Fin 2048) :
    k0_pay2 x y g h (ix2 r k) = normed (added (fun k => x (ix2 r k)) (fun k => y (ix2 r k)) (fun k => g (ix2 0 k))) (fun k => h (ix2 0 k)) k := by
  pointwise [k0_pay2]
  simp only [pay1]

variable (m : (ℓ : Loc nD τ sig) → Buf (Elt Ideal) ℓ) (ρ : Dev nD → PrngReg)

/-- The arguments. -/
abbrev X (c : Dev nD) : Vec Ideal S8192x2048 .f32 := m ((c.tc : Thread nD τ).loc main_arg0)
abbrev Y (c : Dev nD) : Vec Ideal S8192x2048 .f32 := m ((c.tc : Thread nD τ).loc main_arg1)
abbrev G (c : Dev nD) : Vec Ideal S2048 .f32 := m ((c.tc : Thread nD τ).loc main_arg2)
abbrev H (c : Dev nD) : Vec Ideal S2048 .f32 := m ((c.tc : Thread nD τ).loc main_arg3)

theorem coord : ∀ t : Fin grid0.N, (grid0.coords t 0).val = t.val := by decide +kernel

theorem lt_N (t : Fin cfg0.N) : t.val < 32 := lt_of_lt_of_eq t.isLt N_0

/-- Row r of the block of a point, among all rows. -/
abbrev row (t : Fin cfg0.N) (r : Fin 256) : Fin 8192 := ⟨256 * t.val + r.val, by have := lt_N t; have := r.isLt; omega⟩

theorem index_row (t : Fin cfg0.N) : cc0_transform_0 (grid0.coords t) = ![t.val, 0] := by
  have := lt_N t
  unfold cc0_transform_0
  dsimp only
  rw [coord, BitVec.toNat_ofNat, Nat.mod_eq_of_lt (by omega)]
  rfl

/-- An entry of the block of a point lies in its row. -/
abbrev inRows (t : Fin cfg0.N) (j : S256x2048.Idx) : S8192x2048.Idx := ((cfg0.win 0).blk t).view.emb j

theorem inRows_eq (t : Fin cfg0.N) (j : S256x2048.Idx) : inRows t j = ix2 (row t (j 0)) (j 1) := by
  funext a; apply Fin.ext
  have h := index_row t
  match a with
  | ⟨0, _⟩ => show cc0_transform_0 (grid0.coords t) 0 * 256 + 1 * (j 0).val = 256 * t.val + (j 0).val; rw [h]; show t.val * 256 + 1 * (j 0).val = _; omega
  | ⟨1, _⟩ => show cc0_transform_0 (grid0.coords t) 1 * 2048 + 1 * (j 1).val = (j 1).val; rw [h]; show 0 * 2048 + 1 * (j 1).val = _; omega

theorem row_x (c : Dev nD) (t : Fin cfg0.N) (r : Fin 256) :
    (fun k => (iblk m c 0 t : Vec Ideal S256x2048 .f32) (ix2 r k)) = fun k => X m c (ix2 (row t r) k) := funext fun k =>
  (congrFun (V_main_arg0 m c) (inRows t (ix2 r k))).trans (congrArg (X m c) (inRows_eq t (ix2 r k)))
theorem row_y (c : Dev nD) (t : Fin cfg0.N) (r : Fin 256) :
    (fun k => (iblk m c 1 t : Vec Ideal S256x2048 .f32) (ix2 r k)) = fun k => Y m c (ix2 (row t r) k) := funext fun k =>
  (congrFun (V_main_arg1 m c) (inRows t (ix2 r k))).trans (congrArg (Y m c) (inRows_eq t (ix2 r k)))

theorem gains (c : Dev nD) : (V m c main_v0 : Vec Ideal S1x2048 .f32) = shapeCast S1x2048 (G m c) shapeCasts_S2048_S1x2048 := by
  show StableHlo.after hostOps0 (fun b => m (c, b)) main_v0 = _
  after_results_simp <;> rfl
theorem gains' (c : Dev nD) : (V m c main_v1 : Vec Ideal S1x2048 .f32) = shapeCast S1x2048 (H m c) shapeCasts_S2048_S1x2048 := by
  show StableHlo.after hostOps0 (fun b => m (c, b)) main_v1 = _
  after_results_simp <;> rfl

theorem whole_row (t : Fin cfg0.N) (k : Fin 2048) : (((cfg0.win 2).blk t).view.emb (ix2 0 k : S1x2048.Idx) : S1x2048.Idx) = ix2 0 k := by
  funext a; apply Fin.ext
  match a with
  | ⟨0, _⟩ => rfl
  | ⟨1, _⟩ => show 0 * 2048 + 1 * k.val = k.val; omega

theorem row_g (c : Dev nD) (t : Fin cfg0.N) :
    (fun k => (iblk m c 2 t : Vec Ideal S1x2048 .f32) (ix2 0 k)) = fun k => G m c (ix1 k) := funext fun k => by
  refine (congrArg (V m c main_v0 : Vec Ideal S1x2048 .f32) (whole_row t k)).trans ?_
  rw [gains]
  pointwise
theorem row_h (c : Dev nD) (t : Fin cfg0.N) :
    (fun k => (iblk m c 3 t : Vec Ideal S1x2048 .f32) (ix2 0 k)) = fun k => H m c (ix1 k) := funext fun k => by
  refine (congrArg (V m c main_v1 : Vec Ideal S1x2048 .f32) (whole_row t k)).trans ?_
  rw [gains']
  pointwise

/-- Each point writes its block of the stream, -/
theorem flushed_stream (c : Dev nD) (t : Fin cfg0.N) :
    (dats m 0 c).flushed 4 t = ((cfg0.win 4).blk t).view.read (Elt Ideal) (stream (X m c) (Y m c) (G m c)) := by
  show (cfg0.win 4).cut (grid0.coords t) ((dats m 0 c).after 4 t) = _
  rw [after0_4]
  unfold out0_4
  rw [View.canon_unit_zero hz]
  simp only [View.ld_unit_zero (S := S256x2048) hz, View.ld_unit_zero (S := S1x2048) hz]
  refine funext fun (j : S256x2048.Idx) => ?_
  obtain ⟨r, k, rfl⟩ : ∃ (r : Fin 256) (k : Fin 2048), j = ix2 r k := ⟨j 0, j 1, by funext a; fin_cases a <;> rfl⟩
  refine (pay1 (iblk m c 0 t) (iblk m c 1 t) (iblk m c 2 t) r k).trans ?_
  rw [row_x, row_y, row_g]
  exact congrArg (stream (X m c) (Y m c) (G m c)) (inRows_eq t (ix2 r k)).symm

/-- and of the normed one. -/
theorem flushed_next (c : Dev nD) (t : Fin cfg0.N) :
    (dats m 0 c).flushed 5 t = ((cfg0.win 5).blk t).view.read (Elt Ideal) (next (X m c) (Y m c) (G m c) (H m c)) := by
  show (cfg0.win 5).cut (grid0.coords t) ((dats m 0 c).after 5 t) = _
  rw [after0_5]
  unfold out0_5
  rw [View.canon_unit_zero hz]
  simp only [View.ld_unit_zero (S := S256x2048) hz, View.ld_unit_zero (S := S1x2048) hz]
  refine funext fun (j : S256x2048.Idx) => ?_
  obtain ⟨r, k, rfl⟩ : ∃ (r : Fin 256) (k : Fin 2048), j = ix2 r k := ⟨j 0, j 1, by funext a; fin_cases a <;> rfl⟩
  refine (pay2 (iblk m c 0 t) (iblk m c 1 t) (iblk m c 2 t) (iblk m c 3 t) r k).trans ?_
  rw [row_x, row_y, row_g, row_h]
  exact congrArg (next (X m c) (Y m c) (G m c) (H m c)) (inRows_eq t (ix2 r k)).symm

/-- The point whose block an entry is in. -/
theorem point (i : S8192x2048.Idx) : ∃ t : Fin cfg0.N, t.val = (i 0).val / 256 := by
  have hi0 : (i 0).val < 8192 := (i 0).isLt
  exact ⟨⟨(i 0).val / 256, lt_of_lt_of_eq (by omega) N_0.symm⟩, rfl⟩

theorem in_block (i : S8192x2048.Idx) (t : Fin cfg0.N) (ht : t.val = (i 0).val / 256) (a : Fin 2) :
    cc0_transform_0 (grid0.coords t) a * S256x2048.size a ≤ (i a).val ∧ (i a).val < cc0_transform_0 (grid0.coords t) a * S256x2048.size a + S256x2048.size a := by
  have hi0 : (i 0).val < 8192 := (i 0).isLt
  have hi1 : (i 1).val < 2048 := (i 1).isLt
  rw [index_row, ht]
  match a with
  | ⟨0, _⟩ => show (i 0).val / 256 * 256 ≤ (i 0).val ∧ (i 0).val < (i 0).val / 256 * 256 + 256; omega
  | ⟨1, _⟩ => show 0 * 2048 ≤ (i 1).val ∧ (i 1).val < 0 * 2048 + 2048; omega

theorem covered_stream (i : S8192x2048.Idx) : ∃ t : Fin cfg0.N, (cfg0.win 4).flush t = true ∧ i ∈ ((cfg0.win 4).blk t).view.set := by
  obtain ⟨t, ht⟩ := point i
  refine ⟨t, flush0_4 t, ?_⟩
  suffices h : i ∈ ((View.whole main_v2_0).slice (Rect.block (s := S8192x2048) S256x2048.size (cc0_transform_0 (grid0.coords t)) (hinb0_4 _))).set from h
  rw [View.set_slice_whole, Rect.mem_set_unit]
  exact in_block i t ht

theorem covered_next (i : S8192x2048.Idx) : ∃ t : Fin cfg0.N, (cfg0.win 5).flush t = true ∧ i ∈ ((cfg0.win 5).blk t).view.set := by
  obtain ⟨t, ht⟩ := point i
  refine ⟨t, flush0_5 t, ?_⟩
  suffices h : i ∈ ((View.whole main_v2_1).slice (Rect.block (s := S8192x2048) S256x2048.size (cc0_transform_0 (grid0.coords t)) (hinb0_5 _))).set from h
  rw [View.set_slice_whole, Rect.mem_set_unit]
  exact in_block i t ht

/-- So every run ends with both arrays. -/
theorem run : θ_run defs (onTc (τ := τ) (main (F := Ideal))) ⟨m, fun _ => 0, ρ⟩ (fun r => ∀ c : Dev nD,
      r.2.mem ((c.tc : Thread nD τ).loc main_v2_0) = stream (X m c) (Y m c) (G m c)
      ∧ r.2.mem ((c.tc : Thread nD τ).loc main_v2_1) = next (X m c) (Y m c) (G m c) (H m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).1 4).trans ((dats m 0 c).arrAt_eq_of_cover 4 _ (fun t _ => flushed_stream m c t) covered_stream),
      ((h.1 c).1 5).trans ((dats m 0 c).arrAt_eq_of_cover 5 _ (fun t _ => flushed_next m c t) covered_next), h.2 c⟩)
    (θ_run_and (run_main m ρ) (unchanged m ρ))

theorem frame : Cert.quiescent_PostPre := fun m g _ => Cert.PostPre.Gen.frame (F := Bits) m g
theorem frame_ideal : Cert.quiescent_PostPreIdeal := fun m g _ => Cert.PostPreIdeal.Gen.frame (F := Ideal) m g
/-- The reference leaves its arguments as they were; it has no semaphores. -/
theorem frame_refIdeal : Cert.quiescent_PostPreRefIdeal := fun m g _ =>
  (θ_run (Cert.PostPreRefIdeal.defs (F := Ideal)) _ _).mono (fun _ h => ⟨fun c => (h c).2.2, sem_eq_zero_of_no_sems rfl _⟩)
    (Cert.PostPreRefIdeal.Value.run m g)

/-- The reference ends with the same arrays. -/
theorem ref_run (m : (ℓ : Loc nD τ Cert.PostPreRefIdeal.sig) → Buf (Elt Ideal) ℓ) :
    θ_run Cert.PostPreRefIdeal.defs (onTc (τ := τ) (Cert.PostPreRefIdeal.main (F := Ideal))) ⟨m, fun _ => 0, ρ⟩ (fun r => ∀ c : Dev nD,
      r.2.mem ((c.tc : Thread nD τ).loc Cert.PostPreRefIdeal.main_v15) = stream (m ((c.tc : Thread nD τ).loc Cert.PostPreRefIdeal.main_arg0)) (m ((c.tc : Thread nD τ).loc Cert.PostPreRefIdeal.main_arg1)) (m ((c.tc : Thread nD τ).loc Cert.PostPreRefIdeal.main_arg2))
      ∧ r.2.mem ((c.tc : Thread nD τ).loc Cert.PostPreRefIdeal.main_v29) = next (m ((c.tc : Thread nD τ).loc Cert.PostPreRefIdeal.main_arg0)) (m ((c.tc : Thread nD τ).loc Cert.PostPreRefIdeal.main_arg1)) (m ((c.tc : Thread nD τ).loc Cert.PostPreRefIdeal.main_arg2)) (m ((c.tc : Thread nD τ).loc Cert.PostPreRefIdeal.main_arg3))
      ∧ r.2.mem ((c.tc : Thread nD τ).loc Cert.PostPreRefIdeal.main_arg0) = m ((c.tc : Thread nD τ).loc Cert.PostPreRefIdeal.main_arg0)
      ∧ r.2.mem ((c.tc : Thread nD τ).loc Cert.PostPreRefIdeal.main_arg1) = m ((c.tc : Thread nD τ).loc Cert.PostPreRefIdeal.main_arg1)
      ∧ r.2.mem ((c.tc : Thread nD τ).loc Cert.PostPreRefIdeal.main_arg2) = m ((c.tc : Thread nD τ).loc Cert.PostPreRefIdeal.main_arg2)
      ∧ r.2.mem ((c.tc : Thread nD τ).loc Cert.PostPreRefIdeal.main_arg3) = m ((c.tc : Thread nD τ).loc Cert.PostPreRefIdeal.main_arg3)) :=
  (θ_run Cert.PostPreRefIdeal.defs _ _).mono (fun _ h c => ⟨(h c).1.trans (by
    refine funext fun (i : S8192x2048.Idx) => ?_
    obtain ⟨r, k, rfl⟩ : ∃ (r : Fin 8192) (k : Fin 2048), i = ix2 r k := ⟨i 0, i 1, by funext a; fin_cases a <;> rfl⟩
    pointwise
    rfl), (h c).2.1.trans (by
    refine funext fun (i : S8192x2048.Idx) => ?_
    obtain ⟨r, k, rfl⟩ : ∃ (r : Fin 8192) (k : Fin 2048), i = ix2 r k := ⟨i 0, i 1, by funext a; fin_cases a <;> rfl⟩
    pointwise
    rfl), (h c).2.2⟩) (Cert.PostPreRefIdeal.Value.run m ρ)

/-- On real numbers the kernel leaves the arrays of the reference. -/
theorem algebraic : Cert.algebraic_PostPreIdeal_PostPreRefIdeal := fun m g m' g' _ hm =>
  ⟨_, _, run m g, (θ_run (Cert.PostPreRefIdeal.defs (F := Ideal)) _ _).mono
    (fun _ h c => by
      have h := h c
      rw [(hm c).1, (hm c).2.1, (hm c).2.2.1, (hm c).2.2.2] at h ⊢
      exact h) (ref_run g' m')⟩

end Cert.PostPreIdeal.Norm

end
-- ==== Proof.FfnUp.lean ====
/- The feed-forward layer's first half: the products of a device's tokens with the gate and the up projections, and the
   gated one, silu(gate) times up. The kernel goes over the results in 8 by 11 blocks of 1024 by 512, each product whole over
   the 2048 columns. -/
module

public import proofs.«01_k».proof.Defs
public import proofs.«01_k».proof.Proof.Blocks
public import proofs.«01_k».proof.Proof.Gen.FfnUp.Frame
public import proofs.«01_k».proof.Proof.Gen.FfnUpIdeal.Value
public import proofs.«01_k».proof.Proof.Gen.FfnUpRefIdeal.Run
public import Idealize.ShloMosaic.Lib.IdealHost
public import Idealize.ShloMosaic.Lib.Pointwise
public import Idealize.ShloMosaic.Lib.Quiescent

@[expose] public section

set_option Elab.async false

noncomputable section

namespace Cert.FfnUpIdeal.Layer

open Cert.FfnUpIdeal Cert.FfnUpIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The product of a row and a column, -/
abbrev dot (x w : Fin 2048 → EReal) : EReal := ∑ l, x l * w l

/-- and the gated one. -/
abbrev gated (x w v : Fin 2048 → EReal) : EReal := dot x w * Ideal.logistic (dot x w) * dot x v

/-- The product of the arrays, -/
abbrev product (x : Vec Ideal S8192x2048 .bf16) (w : Vec Ideal S2048x5632 .bf16) : Vec Ideal S8192x5632 .bf16 := fun i =>
  dot (fun l => x (ix2 (i 0) l)) (fun l => w (ix2 l (i 1)))

/-- and the gated one. -/
abbrev hidden (x : Vec Ideal S8192x2048 .bf16) (w v : Vec Ideal S2048x5632 .bf16) : Vec Ideal S8192x5632 .bf16 := fun i =>
  gated (fun l => x (ix2 (i 0) l)) (fun l => w (ix2 l (i 1))) (fun l => v (ix2 l (i 1)))

theorem pay1 (x : Vec Ideal S1024x2048 .bf16) (w : Vec Ideal S2048x512 .bf16) (r : Fin 1024) (k : Fin 512) :
    k0_pay1 x w (ix2 r k) = dot (fun l => x (ix2 r l)) (fun l => w (ix2 l k)) := by
  pointwise [k0_pay1]

theorem pay2 (x : Vec Ideal S1024x2048 .bf16) (w : Vec Ideal S2048x512 .bf16) (r : Fin 1024) (k : Fin 512) :
    k0_pay2 x w (ix2 r k) = dot (fun l => x (ix2 r l)) (fun l => w (ix2 l k)) := by
  pointwise [k0_pay2]

theorem pay3 (x : Vec Ideal S1024x2048 .bf16) (w : Vec Ideal S2048x512 .bf16) (r : Fin 1024) (k : Fin 512) :
    k0_pay3 x w (ix2 r k) = dot (fun l => x (ix2 r l)) (fun l => w (ix2 l k)) := by
  pointwise [k0_pay3]
  rw [pay1]

theorem pay4 (x : Vec Ideal S1024x2048 .bf16) (w : Vec Ideal S2048x512 .bf16) (r : Fin 1024) (k : Fin 512) :
    k0_pay4 x w (ix2 r k) = dot (fun l => x (ix2 r l)) (fun l => w (ix2 l k)) := by
  pointwise [k0_pay4]
  rw [pay2]

theorem pay5 (x : Vec Ideal S1024x2048 .bf16) (w v : Vec Ideal S2048x512 .bf16) (r : Fin 1024) (k : Fin 512) :
    k0_pay5 x w x v (ix2 r k) = gated (fun l => x (ix2 r l)) (fun l => w (ix2 l k)) (fun l => v (ix2 l k)) := by
  pointwise [k0_pay5]
  rw [pay1, pay2]

variable (m : (ℓ : Loc nD τ sig) → Buf (Elt Ideal) ℓ) (ρ : Dev nD → PrngReg)

/-- The arguments. -/
abbrev X (c : Dev nD) : Vec Ideal S8192x2048 .bf16 := m ((c.tc : Thread nD τ).loc main_arg0)
abbrev W (c : Dev nD) : Vec Ideal S2048x5632 .bf16 := m ((c.tc : Thread nD τ).loc main_arg1)
abbrev U (c : Dev nD) : Vec Ideal S2048x5632 .bf16 := m ((c.tc : Thread nD τ).loc main_arg2)

theorem lt_N (t : Fin cfg0.N) : t.val < 88 := lt_of_lt_of_eq t.isLt N_0

theorem coords : ∀ t : Fin grid0.N, (grid0.coords t 0).val = t.val / 11 ∧ (grid0.coords t 1).val = t.val % 11 := by decide +kernel

/-- Row r and column k of the block of a point, among all. -/
abbrev row (t : Fin cfg0.N) (r : Fin 1024) : Fin 8192 := ⟨1024 * (t.val / 11) + r.val, by have := lt_N t; have := r.isLt; omega⟩
abbrev col (t : Fin cfg0.N) (k : Fin 512) : Fin 5632 := ⟨512 * (t.val % 11) + k.val, by have := lt_N t; have := k.isLt; omega⟩

theorem index_x (t : Fin cfg0.N) : cc0_transform_0 (grid0.coords t) = ![t.val / 11, 0] := by
  have := lt_N t
  unfold cc0_transform_0
  dsimp only
  rw [(coords t).1, BitVec.toNat_ofNat, Nat.mod_eq_of_lt (by omega)]
  rfl
theorem index_w (t : Fin cfg0.N) : cc0_transform_1 (grid0.coords t) = ![0, t.val % 11] := by
  have := lt_N t
  show ![0, (BitVec.ofNat 32 (grid0.coords t 1).val).toNat] = _
  rw [(coords t).2, BitVec.toNat_ofNat, Nat.mod_eq_of_lt (by omega)]
theorem index_o (t : Fin cfg0.N) : cc0_transform_3 (grid0.coords t) = ![t.val / 11, t.val % 11] := by
  have := lt_N t
  unfold cc0_transform_3
  dsimp only
  rw [(coords t).1, (coords t).2, BitVec.toNat_ofNat, BitVec.toNat_ofNat, Nat.mod_eq_of_lt (by omega), Nat.mod_eq_of_lt (by omega)]

theorem in_x (t : Fin cfg0.N) (r : Fin 1024) (l : Fin 2048) : (((cfg0.win 0).blk t).view.emb (ix2 r l : S1024x2048.Idx) : S8192x2048.Idx) = ix2 (row t r) l := by
  funext a; apply Fin.ext
  have h := index_x t
  match a with
  | ⟨0, _⟩ => show cc0_transform_0 (grid0.coords t) 0 * 1024 + 1 * r.val = 1024 * (t.val / 11) + r.val; rw [h]; show t.val / 11 * 1024 + 1 * r.val = _; omega
  | ⟨1, _⟩ => show cc0_transform_0 (grid0.coords t) 1 * 2048 + 1 * l.val = l.val; rw [h]; show 0 * 2048 + 1 * l.val = _; omega
theorem in_w (t : Fin cfg0.N) (l : Fin 2048) (k : Fin 512) : (((cfg0.win 1).blk t).view.emb (ix2 l k : S2048x512.Idx) : S2048x5632.Idx) = ix2 l (col t k) := by
  funext a; apply Fin.ext
  have h := index_w t
  match a with
  | ⟨0, _⟩ => show cc0_transform_1 (grid0.coords t) 0 * 2048 + 1 * l.val = l.val; rw [h]; show 0 * 2048 + 1 * l.val = _; omega
  | ⟨1, _⟩ => show cc0_transform_1 (grid0.coords t) 1 * 512 + 1 * k.val = 512 * (t.val % 11) + k.val; rw [h]; show t.val % 11 * 512 + 1 * k.val = _; omega
theorem in_o (t : Fin cfg0.N) (r : Fin 1024) (k : Fin 512) : (((cfg0.win 3).blk t).view.emb (ix2 r k : S1024x512.Idx) : S8192x5632.Idx) = ix2 (row t r) (col t k) := by
  funext a; apply Fin.ext
  have h := index_o t
  match a with
  | ⟨0, _⟩ => show cc0_transform_3 (grid0.coords t) 0 * 1024 + 1 * r.val = 1024 * (t.val / 11) + r.val; rw [h]; show t.val / 11 * 1024 + 1 * r.val = _; omega
  | ⟨1, _⟩ => show cc0_transform_3 (grid0.coords t) 1 * 512 + 1 * k.val = 512 * (t.val % 11) + k.val; rw [h]; show t.val % 11 * 512 + 1 * k.val = _; omega

/-- The rows and columns of a point's blocks are those of the arrays. -/
theorem row_x (c : Dev nD) (t : Fin cfg0.N) (r : Fin 1024) :
    (fun l => (iblk m c 0 t : Vec Ideal S1024x2048 .bf16) (ix2 r l)) = fun l => X m c (ix2 (row t r) l) := funext fun l =>
  congrArg (X m c) (in_x t r l)
theorem col_w (c : Dev nD) (t : Fin cfg0.N) (k : Fin 512) :
    (fun l => (iblk m c 1 t : Vec Ideal S2048x512 .bf16) (ix2 l k)) = fun l => W m c (ix2 l (col t k)) := funext fun l =>
  congrArg (W m c) (in_w t l k)
theorem col_u (c : Dev nD) (t : Fin cfg0.N) (k : Fin 512) :
    (fun l => (iblk m c 2 t : Vec Ideal S2048x512 .bf16) (ix2 l k)) = fun l => U m c (ix2 l (col t k)) := funext fun l =>
  congrArg (U m c) (in_w t l k)

/-- Each point writes its block of the first product, -/
theorem flushed_gate (c : Dev nD) (t : Fin cfg0.N) :
    (dats m 0 c).flushed 3 t = ((cfg0.win 3).blk t).view.read (Elt Ideal) (product (X m c) (W m c)) := by
  show (cfg0.win 3).cut (grid0.coords t) ((dats m 0 c).after 3 t) = _
  rw [after0_3]
  unfold out0_3
  rw [View.canon_unit_zero hz]
  simp only [View.ld_unit_zero (S := S1024x2048) hz, View.ld_unit_zero (S := S2048x512) hz]
  refine funext fun (j : S1024x512.Idx) => ?_
  obtain ⟨r, k, rfl⟩ : ∃ (r : Fin 1024) (k : Fin 512), j = ix2 r k := ⟨j 0, j 1, by funext a; fin_cases a <;> rfl⟩
  refine (pay3 (iblk m c 0 t) (iblk m c 1 t) r k).trans ?_
  rw [row_x, col_w]
  exact congrArg (product (X m c) (W m c)) (in_o t r k).symm

/-- of the second, -/
theorem flushed_up (c : Dev nD) (t : Fin cfg0.N) :
    (dats m 0 c).flushed 4 t = ((cfg0.win 4).blk t).view.read (Elt Ideal) (product (X m c) (U m c)) := by
  show (cfg0.win 4).cut (grid0.coords t) ((dats m 0 c).after 4 t) = _
  rw [after0_4]
  unfold out0_4
  rw [View.canon_unit_zero hz]
  simp only [View.ld_unit_zero (S := S1024x2048) hz, View.ld_unit_zero (S := S2048x512) hz]
  refine funext fun (j : S1024x512.Idx) => ?_
  obtain ⟨r, k, rfl⟩ : ∃ (r : Fin 1024) (k : Fin 512), j = ix2 r k := ⟨j 0, j 1, by funext a; fin_cases a <;> rfl⟩
  refine (pay4 (iblk m c 0 t) (iblk m c 2 t) r k).trans ?_
  rw [row_x, col_u]
  exact congrArg (product (X m c) (U m c)) (in_o t r k).symm

/-- and of the gated one. -/
theorem flushed_hidden (c : Dev nD) (t : Fin cfg0.N) :
    (dats m 0 c).flushed 5 t = ((cfg0.win 5).blk t).view.read (Elt Ideal) (hidden (X m c) (W m c) (U m c)) := by
  show (cfg0.win 5).cut (grid0.coords t) ((dats m 0 c).after 5 t) = _
  rw [after0_5]
  unfold out0_5
  rw [View.canon_unit_zero hz]
  simp only [View.ld_unit_zero (S := S1024x2048) hz, View.ld_unit_zero (S := S2048x512) hz]
  refine funext fun (j : S1024x512.Idx) => ?_
  obtain ⟨r, k, rfl⟩ : ∃ (r : Fin 1024) (k : Fin 512), j = ix2 r k := ⟨j 0, j 1, by funext a; fin_cases a <;> rfl⟩
  refine (pay5 (iblk m c 0 t) (iblk m c 1 t) (iblk m c 2 t) r k).trans ?_
  rw [row_x, col_w, col_u]
  exact congrArg (hidden (X m c) (W m c) (U m c)) (in_o t r k).symm

/-- The point whose block an entry is in. -/
theorem point (i : S8192x5632.Idx) : ∃ t : Fin cfg0.N, t.val = 11 * ((i 0).val / 1024) + (i 1).val / 512 := by
  have hi0 : (i 0).val < 8192 := (i 0).isLt
  have hi1 : (i 1).val < 5632 := (i 1).isLt
  exact ⟨⟨11 * ((i 0).val / 1024) + (i 1).val / 512, lt_of_lt_of_eq (by omega) N_0.symm⟩, rfl⟩

theorem in_block (i : S8192x5632.Idx) (t : Fin cfg0.N) (ht : t.val = 11 * ((i 0).val / 1024) + (i 1).val / 512) (a : Fin 2) :
    cc0_transform_3 (grid0.coords t) a * S1024x512.size a ≤ (i a).val ∧ (i a).val < cc0_transform_3 (grid0.coords t) a * S1024x512.size a + S1024x512.size a := by
  have hi0 : (i 0).val < 8192 := (i 0).isLt
  have hi1 : (i 1).val < 5632 := (i 1).isLt
  rw [index_o, ht]
  match a with
  | ⟨0, _⟩ =>
    show (11 * ((i 0).val / 1024) + (i 1).val / 512) / 11 * 1024 ≤ (i 0).val ∧ (i 0).val < (11 * ((i 0).val / 1024) + (i 1).val / 512) / 11 * 1024 + 1024
    omega
  | ⟨1, _⟩ =>
    show (11 * ((i 0).val / 1024) + (i 1).val / 512) % 11 * 512 ≤ (i 1).val ∧ (i 1).val < (11 * ((i 0).val / 1024) + (i 1).val / 512) % 11 * 512 + 512
    omega

theorem covered_gate (i : S8192x5632.Idx) : ∃ t : Fin cfg0.N, (cfg0.win 3).flush t = true ∧ i ∈ ((cfg0.win 3).blk t).view.set := by
  obtain ⟨t, ht⟩ := point i
  refine ⟨t, flush0_3 t, ?_⟩
  suffices h : i ∈ ((View.whole main_v0_0).slice (Rect.block (s := S8192x5632) S1024x512.size (cc0_transform_3 (grid0.coords t)) (hinb0_3 _))).set from h
  rw [View.set_slice_whole, Rect.mem_set_unit]
  exact in_block i t ht
theorem covered_up (i : S8192x5632.Idx) : ∃ t : Fin cfg0.N, (cfg0.win 4).flush t = true ∧ i ∈ ((cfg0.win 4).blk t).view.set := by
  obtain ⟨t, ht⟩ := point i
  refine ⟨t, flush0_4 t, ?_⟩
  suffices h : i ∈ ((View.whole main_v0_1).slice (Rect.block (s := S8192x5632) S1024x512.size (cc0_transform_3 (grid0.coords t)) (hinb0_4 _))).set from h
  rw [View.set_slice_whole, Rect.mem_set_unit]
  exact in_block i t ht
theorem covered_hidden (i : S8192x5632.Idx) : ∃ t : Fin cfg0.N, (cfg0.win 5).flush t = true ∧ i ∈ ((cfg0.win 5).blk t).view.set := by
  obtain ⟨t, ht⟩ := point i
  refine ⟨t, flush0_5 t, ?_⟩
  suffices h : i ∈ ((View.whole main_v0_2).slice (Rect.block (s := S8192x5632) S1024x512.size (cc0_transform_3 (grid0.coords t)) (hinb0_5 _))).set from h
  rw [View.set_slice_whole, Rect.mem_set_unit]
  exact in_block i t ht

/-- So every run ends with the three arrays. -/
theorem run : θ_run defs (onTc (τ := τ) (main (F := Ideal))) ⟨m, fun _ => 0, ρ⟩ (fun r => ∀ c : Dev nD,
      r.2.mem ((c.tc : Thread nD τ).loc main_v0_0) = product (X m c) (W m c)
      ∧ r.2.mem ((c.tc : Thread nD τ).loc main_v0_1) = product (X m c) (U m c)
      ∧ r.2.mem ((c.tc : Thread nD τ).loc main_v0_2) = hidden (X m c) (W m c) (U m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1.trans ((dats m 0 c).arrAt_eq_of_cover 3 _ (fun t _ => flushed_gate m c t) covered_gate),
      (h c).2.1.trans ((dats m 0 c).arrAt_eq_of_cover 4 _ (fun t _ => flushed_up m c t) covered_up),
      (h c).2.2.1.trans ((dats m 0 c).arrAt_eq_of_cover 5 _ (fun t _ => flushed_hidden m c t) covered_hidden), (h c).2.2.2⟩)
    (Value.run_blocks m ρ)

theorem frame : Cert.quiescent_FfnUp := fun m g _ => Cert.FfnUp.Gen.frame (F := Bits) m g
theorem frame_ideal : Cert.quiescent_FfnUpIdeal := fun m g _ => Cert.FfnUpIdeal.Gen.frame (F := Ideal) m g
/-- The reference leaves its arguments as they were; it has no semaphores. -/
theorem frame_refIdeal : Cert.quiescent_FfnUpRefIdeal := fun m g _ =>
  (θ_run (Cert.FfnUpRefIdeal.defs (F := Ideal)) _ _).mono (fun _ h => ⟨fun c => (h c).2.2.2, sem_eq_zero_of_no_sems rfl _⟩)
    (Cert.FfnUpRefIdeal.Value.run m g)

/-- The reference ends with the same arrays. -/
theorem ref_run (m : (ℓ : Loc nD τ Cert.FfnUpRefIdeal.sig) → Buf (Elt Ideal) ℓ) :
    θ_run Cert.FfnUpRefIdeal.defs (onTc (τ := τ) (Cert.FfnUpRefIdeal.main (F := Ideal))) ⟨m, fun _ => 0, ρ⟩ (fun r => ∀ c : Dev nD,
      r.2.mem ((c.tc : Thread nD τ).loc Cert.FfnUpRefIdeal.main_v2) = product (m ((c.tc : Thread nD τ).loc Cert.FfnUpRefIdeal.main_arg0)) (m ((c.tc : Thread nD τ).loc Cert.FfnUpRefIdeal.main_arg1))
      ∧ r.2.mem ((c.tc : Thread nD τ).loc Cert.FfnUpRefIdeal.main_v3) = product (m ((c.tc : Thread nD τ).loc Cert.FfnUpRefIdeal.main_arg0)) (m ((c.tc : Thread nD τ).loc Cert.FfnUpRefIdeal.main_arg2))
      ∧ r.2.mem ((c.tc : Thread nD τ).loc Cert.FfnUpRefIdeal.main_v6) = hidden (m ((c.tc : Thread nD τ).loc Cert.FfnUpRefIdeal.main_arg0)) (m ((c.tc : Thread nD τ).loc Cert.FfnUpRefIdeal.main_arg1)) (m ((c.tc : Thread nD τ).loc Cert.FfnUpRefIdeal.main_arg2))
      ∧ r.2.mem ((c.tc : Thread nD τ).loc Cert.FfnUpRefIdeal.main_arg0) = m ((c.tc : Thread nD τ).loc Cert.FfnUpRefIdeal.main_arg0)
      ∧ r.2.mem ((c.tc : Thread nD τ).loc Cert.FfnUpRefIdeal.main_arg1) = m ((c.tc : Thread nD τ).loc Cert.FfnUpRefIdeal.main_arg1)
      ∧ r.2.mem ((c.tc : Thread nD τ).loc Cert.FfnUpRefIdeal.main_arg2) = m ((c.tc : Thread nD τ).loc Cert.FfnUpRefIdeal.main_arg2)) :=
  (θ_run Cert.FfnUpRefIdeal.defs _ _).mono (fun _ h c => ⟨(h c).1.trans (by
    refine funext fun (i : S8192x5632.Idx) => ?_
    obtain ⟨r, k, rfl⟩ : ∃ (r : Fin 8192) (k : Fin 5632), i = ix2 r k := ⟨i 0, i 1, by funext a; fin_cases a <;> rfl⟩
    pointwise
    rfl), (h c).2.1.trans (by
    refine funext fun (i : S8192x5632.Idx) => ?_
    obtain ⟨r, k, rfl⟩ : ∃ (r : Fin 8192) (k : Fin 5632), i = ix2 r k := ⟨i 0, i 1, by funext a; fin_cases a <;> rfl⟩
    pointwise
    rfl), (h c).2.2.1.trans (by
    refine funext fun (i : S8192x5632.Idx) => ?_
    obtain ⟨r, k, rfl⟩ : ∃ (r : Fin 8192) (k : Fin 5632), i = ix2 r k := ⟨i 0, i 1, by funext a; fin_cases a <;> rfl⟩
    pointwise
    rfl), (h c).2.2.2⟩) (Cert.FfnUpRefIdeal.Value.run m ρ)

/-- On real numbers the kernel leaves the arrays of the reference. -/
theorem algebraic : Cert.algebraic_FfnUpIdeal_FfnUpRefIdeal := fun m g m' g' _ hm =>
  ⟨_, _, _, run m g, (θ_run (Cert.FfnUpRefIdeal.defs (F := Ideal)) _ _).mono
    (fun _ h c => by
      have h := h c
      rw [(hm c).1, (hm c).2.1, (hm c).2.2] at h ⊢
      exact h) (ref_run g' m')⟩

end Cert.FfnUpIdeal.Layer

end
-- ==== Proof.FfnDown.lean ====
/- The feed-forward layer's second half: the product of the gated array with the down projection. The kernel goes over the
   result in 8 by 4 blocks of 1024 by 512, and adds each of them up over the 5632 columns of the gated array in 11 blocks of
   512, in an array of its own that begins at zero. -/
module

public import proofs.«01_k».proof.Defs
public import proofs.«01_k».proof.Proof.Blocks
public import proofs.«01_k».proof.Proof.Gen.FfnDown.Frame
public import proofs.«01_k».proof.Proof.Gen.FfnDownIdeal.Value
public import proofs.«01_k».proof.Proof.Gen.FfnDownRefIdeal.Run
public import Idealize.ShloMosaic.Lib.IdealHost
public import Idealize.ShloMosaic.Lib.Pointwise
public import Idealize.ShloMosaic.Lib.Quiescent

@[expose] public section

set_option Elab.async false

noncomputable section

namespace Cert.FfnDownIdeal.Layer

open Cert.FfnDownIdeal Cert.FfnDownIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section body

variable {F : FTy → Type} [FloatOps F]

/-- The first point of a block stores the first product, added to zero, -/
theorem sum_A (c : Dev nD) (i : grid0.Coords) (a1 : Memref sig .tc .vmem S1024x512 .bf16) (h1 : a1.IsWhole) (a2 : Memref sig .tc .vmem S512x512 .bf16) (h2 : a2.IsWhole)
    (a3 : Memref sig .tc .vmem S1024x512 .f32) (h3 : a3.IsWhole) (a4 : Memref sig .tc .vmem S1024x512 .f32) (h4 : a4.IsWhole) (hc : cond0_0 i) (hd : ¬cond0_1 i)
    (x : Vec F S1024x512 .bf16) (w : Vec F S512x512 .bf16) :
    sout0_A_0 c i a1 h1 a2 h2 a3 h3 a4 h4 hc hd x w = k0_pay2 k0_pay1 x w := by
  unfold sout0_A_0
  rw [View.read_writes_eq_canon _ _ _ (scover0_A_0 c i a1 h1 a2 h2 a3 h3 a4 h4 hc hd x w)]
  unfold kernelRun0_A
  dsimp only
  sl_unfold_words
  rw [View.canon_cons_unit_zero (S := S1024x512) hz, View.readCov_unit_zero (S := S1024x512) _ hz]
  simp only [View.readAt_eq_ld, h1.read_unread, h2.read_unread, View.ld_unit_zero (S := S1024x512) hz, View.ld_unit_zero (S := S512x512) hz]

/-- the next ones the product added to what the point before stored, -/
theorem sum_B (c : Dev nD) (i : grid0.Coords) (a1 : Memref sig .tc .vmem S1024x512 .bf16) (h1 : a1.IsWhole) (a2 : Memref sig .tc .vmem S512x512 .bf16) (h2 : a2.IsWhole)
    (a3 : Memref sig .tc .vmem S1024x512 .f32) (h3 : a3.IsWhole) (a4 : Memref sig .tc .vmem S1024x512 .f32) (h4 : a4.IsWhole) (hc : ¬cond0_0 i) (hd : ¬cond0_1 i)
    (x : Vec F S1024x512 .bf16) (w : Vec F S512x512 .bf16) (s : Vec F S1024x512 .f32) :
    sout0_B_0 c i a1 h1 a2 h2 a3 h3 a4 h4 hc hd x w s = k0_pay2 s x w := by
  unfold sout0_B_0
  rw [View.read_writes_eq_canon _ _ _ (scover0_B_0 c i a1 h1 a2 h2 a3 h3 a4 h4 hc hd x w s)]
  unfold kernelRun0_B
  dsimp only
  sl_unfold_words
  rw [View.canon_unit_zero hz]
  simp only [View.readAt_eq_ld, h1.read_unread, h2.read_unread, h4.read_unread, View.ld_unit_zero (S := S1024x512) hz, View.ld_unit_zero (S := S512x512) hz]

/-- and so the last, which stores it in the result too. -/
theorem sum_C (c : Dev nD) (i : grid0.Coords) (a1 : Memref sig .tc .vmem S1024x512 .bf16) (h1 : a1.IsWhole) (a2 : Memref sig .tc .vmem S512x512 .bf16) (h2 : a2.IsWhole)
    (a3 : Memref sig .tc .vmem S1024x512 .f32) (h3 : a3.IsWhole) (a4 : Memref sig .tc .vmem S1024x512 .f32) (h4 : a4.IsWhole) (hc : ¬cond0_0 i) (hd : cond0_1 i)
    (x : Vec F S1024x512 .bf16) (w : Vec F S512x512 .bf16) (s : Vec F S1024x512 .f32) :
    sout0_C_0 c i a1 h1 a2 h2 a3 h3 a4 h4 hc hd x w s = k0_pay2 s x w := by
  unfold sout0_C_0
  rw [View.read_writes_eq_canon _ _ _ (scover0_C_0 c i a1 h1 a2 h2 a3 h3 a4 h4 hc hd x w s)]
  unfold kernelRun0_C
  dsimp only
  sl_unfold_words
  rw [View.canon_unit_zero hz]
  simp only [View.readAt_eq_ld, h1.read_unread, h2.read_unread, h4.read_unread, View.ld_unit_zero (S := S1024x512) hz, View.ld_unit_zero (S := S512x512) hz]

theorem out_C (c : Dev nD) (i : grid0.Coords) (a1 : Memref sig .tc .vmem S1024x512 .bf16) (h1 : a1.IsWhole) (a2 : Memref sig .tc .vmem S512x512 .bf16) (h2 : a2.IsWhole)
    (a3 : Memref sig .tc .vmem S1024x512 .f32) (h3 : a3.IsWhole) (a4 : Memref sig .tc .vmem S1024x512 .f32) (h4 : a4.IsWhole) (hc : ¬cond0_0 i) (hd : cond0_1 i)
    (x : Vec F S1024x512 .bf16) (w : Vec F S512x512 .bf16) (s : Vec F S1024x512 .f32) :
    out0_C_2 c i a1 h1 a2 h2 a3 h3 a4 h4 hc hd x w s = k0_pay2 s x w := by
  unfold out0_C_2
  rw [View.read_writes_eq_canon _ _ _ (cover0_C_2 c i a1 h1 a2 h2 a3 h3 a4 h4 hc hd x w s)]
  unfold kernelRun0_C
  dsimp only
  sl_unfold_words
  rw [View.canon_unit_zero hz, View.readCov_unit_zero (S := S1024x512) _ hz]
  simp only [View.readAt_eq_ld, h1.read_unread, h2.read_unread, h4.read_unread, View.ld_unit_zero (S := S1024x512) hz, View.ld_unit_zero (S := S512x512) hz]

end body

/-- The product of the arrays. -/
abbrev product (x : Vec Ideal S8192x5632 .bf16) (w : Vec Ideal S5632x2048 .bf16) : Vec Ideal S8192x2048 .f32 := fun i =>
  ∑ l, x (ix2 (i 0) l) * w (ix2 l (i 1))

theorem pay1 (j : S1024x512.Idx) : k0_pay1 (F := Ideal) j = 0 := by
  pointwise [k0_pay1]

theorem pay2 (s : Vec Ideal S1024x512 .f32) (x : Vec Ideal S1024x512 .bf16) (w : Vec Ideal S512x512 .bf16) (r : Fin 1024) (k : Fin 512) :
    k0_pay2 s x w (ix2 r k) = s (ix2 r k) + ∑ l, x (ix2 r l) * w (ix2 l k) := by
  pointwise [k0_pay2]

variable (m : (ℓ : Loc nD τ sig) → Buf (Elt Ideal) ℓ) (ρ : Dev nD → PrngReg)

/-- The arguments. -/
abbrev X (c : Dev nD) : Vec Ideal S8192x5632 .bf16 := m ((c.tc : Thread nD τ).loc main_arg0)
abbrev W (c : Dev nD) : Vec Ideal S5632x2048 .bf16 := m ((c.tc : Thread nD τ).loc main_arg1)

theorem lt_N (t : Fin cfg0.N) : t.val < 352 := lt_of_lt_of_eq t.isLt N_0

theorem coords (t : Fin grid0.N) : (grid0.coords t 0).val = t.val / 44 ∧ (grid0.coords t 1).val = t.val / 11 % 4 ∧ (grid0.coords t 2).val = t.val % 11 := by
  have : t.val < 352 := lt_N t
  have e0 : (grid0.coords t 0).val = t.val / 44 % 8 := Pipeline.Grid.coords_val t 0 (by decide) rfl
  have e1 : (grid0.coords t 1).val = t.val / 11 % 4 := Pipeline.Grid.coords_val t 1 (by decide) rfl
  have e2 : (grid0.coords t 2).val = t.val / 1 % 11 := Pipeline.Grid.coords_val t 2 (by decide) rfl
  exact ⟨e0.trans (by omega), e1, e2.trans (by omega)⟩

/-- Row r and column k of the block of a point, and the l-th column it adds, among all; by the number of the point's block. -/
theorem row_lt (n : ℕ) (hn : n < 352) (r : Fin 1024) : 1024 * (n / 11 / 4) + r.val < 8192 := by have := r.isLt; omega
theorem col_lt (n : ℕ) (k : Fin 512) : 512 * (n / 11 % 4) + k.val < 2048 := by have := k.isLt; omega
theorem mid_lt (n : ℕ) (l : Fin 512) : 512 * (n % 11) + l.val < 5632 := by have := l.isLt; omega
abbrev row (t : Fin cfg0.N) (r : Fin 1024) : Fin 8192 := ⟨1024 * (t.val / 11 / 4) + r.val, row_lt _ (lt_N t) r⟩
abbrev col (t : Fin cfg0.N) (k : Fin 512) : Fin 2048 := ⟨512 * (t.val / 11 % 4) + k.val, col_lt _ k⟩
abbrev mid (t : Fin cfg0.N) (l : Fin 512) : Fin 5632 := ⟨512 * (t.val % 11) + l.val, mid_lt _ l⟩

theorem index_x (t : Fin cfg0.N) : cc0_transform_0 (grid0.coords t) = ![t.val / 44, t.val % 11] := by
  have := lt_N t
  unfold cc0_transform_0
  dsimp only
  rw [(coords t).1, (coords t).2.2, Cert.Blocks.word_eq _ (by omega), Cert.Blocks.word_eq _ (by omega)]
theorem index_w (t : Fin cfg0.N) : cc0_transform_1 (grid0.coords t) = ![t.val % 11, t.val / 11 % 4] := by
  have := lt_N t
  unfold cc0_transform_1
  dsimp only
  rw [(coords t).2.1, (coords t).2.2, Cert.Blocks.word_eq _ (by omega), Cert.Blocks.word_eq _ (by omega)]
theorem index_o (t : Fin cfg0.N) : cc0_transform_2 (grid0.coords t) = ![t.val / 44, t.val / 11 % 4] := by
  have := lt_N t
  unfold cc0_transform_2
  dsimp only
  rw [(coords t).1, (coords t).2.1, Cert.Blocks.word_eq _ (by omega), Cert.Blocks.word_eq _ (by omega)]

theorem in_x (t : Fin cfg0.N) (r : Fin 1024) (l : Fin 512) : (((cfg0.win 0).blk t).view.emb (ix2 r l : S1024x512.Idx) : S8192x5632.Idx) = ix2 (row t r) (mid t l) := by
  funext a; apply Fin.ext
  have h := index_x t
  match a with
  | ⟨0, _⟩ => show cc0_transform_0 (grid0.coords t) 0 * 1024 + 1 * r.val = 1024 * (t.val / 11 / 4) + r.val; rw [h]; show t.val / 44 * 1024 + 1 * r.val = _; omega
  | ⟨1, _⟩ => show cc0_transform_0 (grid0.coords t) 1 * 512 + 1 * l.val = 512 * (t.val % 11) + l.val; rw [h]; show t.val % 11 * 512 + 1 * l.val = _; omega
theorem in_w (t : Fin cfg0.N) (l k : Fin 512) : (((cfg0.win 1).blk t).view.emb (ix2 l k : S512x512.Idx) : S5632x2048.Idx) = ix2 (mid t l) (col t k) := by
  funext a; apply Fin.ext
  have h := index_w t
  match a with
  | ⟨0, _⟩ => show cc0_transform_1 (grid0.coords t) 0 * 512 + 1 * l.val = 512 * (t.val % 11) + l.val; rw [h]; show t.val % 11 * 512 + 1 * l.val = _; omega
  | ⟨1, _⟩ => show cc0_transform_1 (grid0.coords t) 1 * 512 + 1 * k.val = 512 * (t.val / 11 % 4) + k.val; rw [h]; show t.val / 11 % 4 * 512 + 1 * k.val = _; omega
theorem in_o (t : Fin cfg0.N) (r : Fin 1024) (k : Fin 512) : (((cfg0.win 2).blk t).view.emb (ix2 r k : S1024x512.Idx) : S8192x2048.Idx) = ix2 (row t r) (col t k) := by
  funext a; apply Fin.ext
  have h := index_o t
  match a with
  | ⟨0, _⟩ => show cc0_transform_2 (grid0.coords t) 0 * 1024 + 1 * r.val = 1024 * (t.val / 11 / 4) + r.val; rw [h]; show t.val / 44 * 1024 + 1 * r.val = _; omega
  | ⟨1, _⟩ => show cc0_transform_2 (grid0.coords t) 1 * 512 + 1 * k.val = 512 * (t.val / 11 % 4) + k.val; rw [h]; show t.val / 11 % 4 * 512 + 1 * k.val = _; omega

theorem read_o (t : Fin cfg0.N) (v : Vec Ideal S8192x2048 .f32) (r : Fin 1024) (k : Fin 512) :
    ((cfg0.win 2).blk t).view.read (Elt Ideal) v (ix2 r k : S1024x512.Idx) = v (ix2 (row t r) (col t k)) := congrArg v (in_o t r k)

/-- The blocks of the arguments at a point. -/
abbrev blockX (c : Dev nD) (t : Fin cfg0.N) : Vec Ideal S1024x512 .bf16 := iblk m c 0 t
abbrev blockW (c : Dev nD) (t : Fin cfg0.N) : Vec Ideal S512x512 .bf16 := iblk m c 1 t

/-- What column i of the gated array adds to an entry of block b, by the column's number. -/
def term (c : Dev nD) (b : ℕ) (r : Fin 1024) (k : Fin 512) (i : ℕ) : EReal :=
  if h : 1024 * (b / 4) + r.val < 8192 ∧ 512 * (b % 4) + k.val < 2048 ∧ i < 5632 then X m c (ix2 ⟨_, h.1⟩ ⟨i, h.2.2⟩) * W m c (ix2 ⟨i, h.2.2⟩ ⟨_, h.2.1⟩) else 0

theorem block_sum (c : Dev nD) (t : Fin cfg0.N) (r : Fin 1024) (k : Fin 512) :
    ∑ l, blockX m c t (ix2 r l) * blockW m c t (ix2 l k)
      = ∑ l ∈ Finset.range 512, term m c (t.val / 11) r k (512 * (t.val % 11) + l) := by
  rw [Finset.sum_range]
  refine Finset.sum_congr rfl fun l _ => ?_
  unfold term
  rw [dif_pos ⟨row_lt _ (lt_N t) r, col_lt _ k, mid_lt _ l⟩]
  exact congrArg₂ (fun a b : EReal => a * b) (congrArg (X m c) (in_x t r l)) (congrArg (W m c) (in_w t l k))

/-- After the last point of a block the kernel's array holds the sum over all columns, -/
theorem sum_at (c : Dev nD) (r : Fin 1024) (k : Fin 512) (t : Fin cfg0.N) (hl : t.val % 11 = 10) :
    (outsAt0 m c t.val t.isLt).2 (ix2 r k) = ∑ i ∈ Finset.range 5632, term m c (t.val / 11) r k i := by
  refine (Cert.Blocks.carried 11 512 (fun b i => term m c b r k i) (fun n h => (outsAt0 m c n h).2 (ix2 r k)) ?_ ?_ t.val t.isLt).trans (by rw [hl])
  · intro n h h0
    rw [outsAt0_A m c ⟨n, h⟩ h0 (by dsimp only; omega)]
    dsimp only
    rw [sum_A, pay2, pay1, zero_add, block_sum]
  · intro n h h0
    have e : (outsAt0 m c (n + 1) h).2 = k0_pay2 (outsAt0 m c n (Nat.lt_of_succ_lt h)).2 (blockX m c ⟨n + 1, h⟩) (blockW m c ⟨n + 1, h⟩) := by
      by_cases h1 : (n + 1) % 11 = 10
      · rw [outsAt0_C m c ⟨n + 1, h⟩ h0 h1]; dsimp only; rw [sum_C]; rfl
      · rw [outsAt0_B m c ⟨n + 1, h⟩ h0 h1]; dsimp only; rw [sum_B]; rfl
    rw [e, pay2, block_sum]

/-- and after the last of a block so does the result's block. -/
theorem out_at (c : Dev nD) (t : Fin cfg0.N) (h : t.val % 11 = 10) : (outsAt0 m c t.val t.isLt).1 = (outsAt0 m c t.val t.isLt).2 := by
  rw [outsAt0_C m c t (by omega) h]
  dsimp only
  rw [out_C, sum_C]

/-- The last point of a block writes that block of the product, -/
theorem flushed (c : Dev nD) (t : Fin cfg0.N) (hf : (cfg0.win 2).flush t = true) :
    (dats m 0 c).flushed 2 t = ((cfg0.win 2).blk t).view.read (Elt Ideal) (product (X m c) (W m c)) := by
  have hl : t.val % 11 = 10 := (flush0_2 t).mp hf
  show (cfg0.win 2).cut (grid0.coords t) ((dats m 0 c).after 2 t) = _
  rw [after0_2, out_at m c t hl]
  refine funext fun (j : S1024x512.Idx) => ?_
  obtain ⟨r, k, rfl⟩ : ∃ (r : Fin 1024) (k : Fin 512), j = ix2 r k := ⟨j 0, j 1, by funext a; fin_cases a <;> rfl⟩
  refine ((sum_at m c r k t hl).trans ?_).trans (read_o t (product (X m c) (W m c)) r k).symm
  show _ = ∑ l, X m c (ix2 (row t r) l) * W m c (ix2 l (col t k))
  rw [Cert.Blocks.sum_rows]
  refine Finset.sum_congr rfl fun i hi => ?_
  have hi : i < 5632 := Finset.mem_range.mp hi
  unfold term
  rw [dif_pos ⟨row_lt _ (lt_N t) r, col_lt _ k, hi⟩, dif_pos hi]

/-- and the blocks are the whole array. -/
theorem covered (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  exact (Value.covered_iff2 i).2 (by omega)

/-- So every run ends with the product. -/
theorem run : θ_run defs (onTc (τ := τ) (main (F := Ideal))) ⟨m, fun _ => 0, ρ⟩ (fun r => ∀ c : Dev nD,
      r.2.mem ((c.tc : Thread nD τ).loc main_v0) = product (X m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((dats m 0 c).arrAt_eq_of_cover 2 _ (flushed m c) covered), (h c).2⟩)
    (Value.run_blocks m ρ)

theorem frame : Cert.quiescent_FfnDown := fun m g _ => Cert.FfnDown.Gen.frame (F := Bits) m g
theorem frame_ideal : Cert.quiescent_FfnDownIdeal := fun m g _ => Cert.FfnDownIdeal.Gen.frame (F := Ideal) m g
/-- The reference leaves its arguments as they were; it has no semaphores. -/
theorem frame_refIdeal : Cert.quiescent_FfnDownRefIdeal := fun m g _ =>
  (θ_run (Cert.FfnDownRefIdeal.defs (F := Ideal)) _ _).mono (fun _ h => ⟨fun c => (h c).2, sem_eq_zero_of_no_sems rfl _⟩)
    (Cert.FfnDownRefIdeal.Value.run m g)

/-- The reference ends with the same product. -/
theorem ref_run (m : (ℓ : Loc nD τ Cert.FfnDownRefIdeal.sig) → Buf (Elt Ideal) ℓ) :
    θ_run Cert.FfnDownRefIdeal.defs (onTc (τ := τ) (Cert.FfnDownRefIdeal.main (F := Ideal))) ⟨m, fun _ => 0, ρ⟩ (fun r => ∀ c : Dev nD,
      r.2.mem ((c.tc : Thread nD τ).loc Cert.FfnDownRefIdeal.main_v0) = product (m ((c.tc : Thread nD τ).loc Cert.FfnDownRefIdeal.main_arg0)) (m ((c.tc : Thread nD τ).loc Cert.FfnDownRefIdeal.main_arg1))
      ∧ r.2.mem ((c.tc : Thread nD τ).loc Cert.FfnDownRefIdeal.main_arg0) = m ((c.tc : Thread nD τ).loc Cert.FfnDownRefIdeal.main_arg0)
      ∧ r.2.mem ((c.tc : Thread nD τ).loc Cert.FfnDownRefIdeal.main_arg1) = m ((c.tc : Thread nD τ).loc Cert.FfnDownRefIdeal.main_arg1)) :=
  (θ_run Cert.FfnDownRefIdeal.defs _ _).mono (fun _ h c => ⟨(h c).1.trans (by
    refine funext fun (i : S8192x2048.Idx) => ?_
    obtain ⟨r, k, rfl⟩ : ∃ (r : Fin 8192) (k : Fin 2048), i = ix2 r k := ⟨i 0, i 1, by funext a; fin_cases a <;> rfl⟩
    pointwise
    rfl), (h c).2⟩) (Cert.FfnDownRefIdeal.Value.run m ρ)

/-- On real numbers the kernel leaves the product of the reference. -/
theorem algebraic : Cert.algebraic_FfnDownIdeal_FfnDownRefIdeal := fun m g m' g' _ hm =>
  ⟨_, run m g, (θ_run (Cert.FfnDownRefIdeal.defs (F := Ideal)) _ _).mono
    (fun _ h c => by
      have h := h c
      rw [(hm c).1, (hm c).2] at h ⊢
      exact h) (ref_run g' m')⟩

end Cert.FfnDownIdeal.Layer

end
-- ==== Proof.PostGrad.lean ====
/- The gradient through the norm that follows a feed-forward layer, of whose result half is added to the stream: in the norm's
   input and in its gain. The kernel goes over a device's tokens in 32 blocks of 256; the first is written block by block, and
   the second is added up over the blocks, beginning at zero. -/
module

public import proofs.«01_k».proof.Defs
public import proofs.«01_k».proof.Proof.Blocks
public import proofs.«01_k».proof.Proof.Gen.PostGrad.Frame
public import proofs.«01_k».proof.Proof.Gen.PostGradIdeal.Frame
public import proofs.«01_k».proof.Proof.Gen.PostGradRefIdeal.Run
public import Idealize.ShloMosaic.Lib.Pipeline.Value
public import Idealize.ShloMosaic.Lib.Pipeline.FrameSuffix
public import Idealize.ShloMosaic.Lib.Pointwise
public import Idealize.ShloMosaic.Lib.Quiescent

@[expose] public section

set_option Elab.async false

noncomputable section

namespace Cert.PostGradIdeal.Grad

open Cert.PostGradIdeal Cert.PostGradIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section body

variable {F : FTy → Type} [FloatOps F]

/-- What the body stores of the gain's gradient, from what was stored before. -/
abbrev step (x0 x2 : Vec F S256x2048 .f32) (xo : Vec F S1x2048 .f32) : Vec F S1x2048 .f32 :=
  k0_pay1 (k0_pay7 xo) (k0_pay8 x0 x2)

theorem out_B_3 (c : Dev nD) (i : grid0.Coords) (a1 : Memref sig .tc .vmem S256x2048 .f32) (h1 : a1.IsWhole) (a2 : Memref sig .tc .vmem S1x2048 .f32) (h2 : a2.IsWhole)
    (a3 : Memref sig .tc .vmem S256x2048 .f32) (h3 : a3.IsWhole) (a4 : Memref sig .tc .vmem S256x2048 .bf16) (h4 : a4.IsWhole)
    (a5 : Memref sig .tc .vmem S1x2048 .f32) (h5 : a5.IsWhole) (hc : ¬cond0_0 i)
    (x0 : Vec F S256x2048 .f32) (x1 : Vec F S1x2048 .f32) (x2 : Vec F S256x2048 .f32) (xo : Vec F S1x2048 .f32) :
    out0_B_3 c i a1 h1 a2 h2 a3 h3 a4 h4 a5 h5 hc x0 x1 x2 xo = k0_pay5 x0 x2 x1 := by
  unfold out0_B_3
  rw [View.read_writes_eq_canon _ _ _ (cover0_B_3 c i a1 h1 a2 h2 a3 h3 a4 h4 a5 h5 hc x0 x1 x2 xo)]
  unfold kernelRun0_B
  dsimp only
  sl_unfold_words
  rw [View.canon_unit_zero hz]
  simp only [View.readAt_eq_ld, h1.read_unread, h2.read_unread, h3.read_unread, View.ld_unit_zero (S := S256x2048) hz, View.ld_unit_zero (S := S1x2048) hz]

theorem out_B_4 (c : Dev nD) (i : grid0.Coords) (a1 : Memref sig .tc .vmem S256x2048 .f32) (h1 : a1.IsWhole) (a2 : Memref sig .tc .vmem S1x2048 .f32) (h2 : a2.IsWhole)
    (a3 : Memref sig .tc .vmem S256x2048 .f32) (h3 : a3.IsWhole) (a4 : Memref sig .tc .vmem S256x2048 .bf16) (h4 : a4.IsWhole)
    (a5 : Memref sig .tc .vmem S1x2048 .f32) (h5 : a5.IsWhole) (hc : ¬cond0_0 i)
    (x0 : Vec F S256x2048 .f32) (x1 : Vec F S1x2048 .f32) (x2 : Vec F S256x2048 .f32) (xo : Vec F S1x2048 .f32) :
    out0_B_4 c i a1 h1 a2 h2 a3 h3 a4 h4 a5 h5 hc x0 x1 x2 xo = step x0 x2 xo := by
  unfold out0_B_4
  rw [View.read_writes_eq_canon _ _ _ (cover0_B_4 c i a1 h1 a2 h2 a3 h3 a4 h4 a5 h5 hc x0 x1 x2 xo)]
  unfold kernelRun0_B
  dsimp only
  sl_unfold_words
  rw [View.canon_unit_zero hz]
  simp only [View.readAt_eq_ld, h1.read_unread, h2.read_unread, h3.read_unread, h5.read_unread, View.ld_unit_zero (S := S256x2048) hz, View.ld_unit_zero (S := S1x2048) hz]

theorem out_A_3 (c : Dev nD) (i : grid0.Coords) (a1 : Memref sig .tc .vmem S256x2048 .f32) (h1 : a1.IsWhole) (a2 : Memref sig .tc .vmem S1x2048 .f32) (h2 : a2.IsWhole)
    (a3 : Memref sig .tc .vmem S256x2048 .f32) (h3 : a3.IsWhole) (a4 : Memref sig .tc .vmem S256x2048 .bf16) (h4 : a4.IsWhole)
    (a5 : Memref sig .tc .vmem S1x2048 .f32) (h5 : a5.IsWhole) (hc : cond0_0 i)
    (x0 : Vec F S256x2048 .f32) (x1 : Vec F S1x2048 .f32) (x2 : Vec F S256x2048 .f32) :
    out0_A_3 c i a1 h1 a2 h2 a3 h3 a4 h4 a5 h5 hc x0 x1 x2 = k0_pay5 x0 x2 x1 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz]
  simp only [View.readAt_eq_ld, h1.read_unread, h2.read_unread, h3.read_unread, View.ld_unit_zero (S := S256x2048) hz, View.ld_unit_zero (S := S1x2048) hz]

theorem out_A_4 (c : Dev nD) (i : grid0.Coords) (a1 : Memref sig .tc .vmem S256x2048 .f32) (h1 : a1.IsWhole) (a2 : Memref sig .tc .vmem S1x2048 .f32) (h2 : a2.IsWhole)
    (a3 : Memref sig .tc .vmem S256x2048 .f32) (h3 : a3.IsWhole) (a4 : Memref sig .tc .vmem S256x2048 .bf16) (h4 : a4.IsWhole)
    (a5 : Memref sig .tc .vmem S1x2048 .f32) (h5 : a5.IsWhole) (hc : cond0_0 i)
    (x0 : Vec F S256x2048 .f32) (x1 : Vec F S1x2048 .f32) (x2 : Vec F S256x2048 .f32) :
    out0_A_4 c i a1 h1 a2 h2 a3 h3 a4 h4 a5 h5 hc x0 x1 x2 = step x0 x2 k0_pay6 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, View.ld_unit_zero (S := S256x2048) hz, View.ld_unit_zero (S := S1x2048) hz]

end body

/-! ## The values on real numbers -/

/-- What a row is scaled by: one over the root of its mean square. -/
abbrev scale (x : Fin 2048 → EReal) : EReal := Ideal.rsqrt (Ideal.div (∑ l, x l * x l) (Ideal.ofBits .f32 0x45000000#32) + Ideal.ofBits .f32 0x358637BD#32)

/-- An entry of the scaled row. -/
abbrev unit (x : Fin 2048 → EReal) (k : Fin 2048) : EReal := x k * scale x

/-- One half, as the programs write it. -/
abbrev half : EReal := Ideal.ofBits .f32 0x3F000000#32

/-- The gradient in an entry of a row, from the gain and the gradient in the normed row. -/
abbrev inward (x g d : Fin 2048 → EReal) (k : Fin 2048) : EReal :=
  scale x * (g k * d k - unit x k * Ideal.div (∑ l, unit x l * g l * d l) (Ideal.ofBits .f32 0x45000000#32))

/-- A row of an array. -/
abbrev rowOf (x : Vec Ideal S8192x2048 .f32) (r : Fin 8192) : Fin 2048 → EReal := fun k => x (ix2 r k)
/-- Half of it. -/
abbrev halfRow (x : Vec Ideal S8192x2048 .f32) (r : Fin 8192) : Fin 2048 → EReal := fun k => half * x (ix2 r k)
abbrev blockRow (x : Vec Ideal S256x2048 .f32) (r : Fin 256) : Fin 2048 → EReal := fun k => x (ix2 r k)

/-- The gradient in the norm's input, -/
abbrev gradient (x : Vec Ideal S8192x2048 .f32) (g : Vec Ideal S2048 .f32) (d : Vec Ideal S8192x2048 .f32) : Vec Ideal S8192x2048 .bf16 := fun i =>
  inward (rowOf x (i 0)) (fun k => g (ix1 k)) (halfRow d (i 0)) (i 1)

/-- and in its gain. -/
abbrev gain (x d : Vec Ideal S8192x2048 .f32) : Vec Ideal S2048 .f32 := fun i => ∑ r, unit (rowOf x r) (i 0) * halfRow d r (i 0)
/-- The kernel holds the gain's as one row. -/
abbrev gainRow (x d : Vec Ideal S8192x2048 .f32) : Vec Ideal S1x2048 .f32 := fun i => ∑ r, unit (rowOf x r) (i 1) * halfRow d r (i 1)

theorem pay2 (d : Vec Ideal S256x2048 .f32) (j : S256x2048.Idx) : k0_pay2 d j = half * d j := by
  pointwise [k0_pay2]
  exact mul_comm _ _

theorem pay3 (x : Vec Ideal S256x2048 .f32) (r : Fin 256) (a : Fin 1) : k0_pay3 x (ix2 r a) = scale (blockRow x r) := by
  pointwise [k0_pay3]

theorem pay4 (x : Vec Ideal S256x2048 .f32) (r : Fin 256) (k : Fin 2048) : k0_pay4 x (ix2 r k) = unit (blockRow x r) k := by
  pointwise [k0_pay4]
  rw [pay3]

/-- Half of a block's row. -/
abbrev halfBlock (x : Vec Ideal S256x2048 .f32) (r : Fin 256) : Fin 2048 → EReal := fun k => half * x (ix2 r k)

theorem pay5 (x d : Vec Ideal S256x2048 .f32) (g : Vec Ideal S1x2048 .f32) (r : Fin 256) (k : Fin 2048) :
    k0_pay5 x d g (ix2 r k) = inward (blockRow x r) (fun k => g (ix2 0 k)) (halfBlock d r) k := by
  pointwise [k0_pay5]
  simp only [pay2, pay3, pay4]
  have h : ∀ l, half * d (ix2 r l) * g (ix2 0 l) * unit (blockRow x r) l = unit (blockRow x r) l * g (ix2 0 l) * (half * d (ix2 r l)) := fun l =>
    (mul_comm _ _).trans ((congrArg (unit (blockRow x r) l * ·) (mul_comm _ _)).trans (mul_assoc _ _ _).symm)
  simp only [h]
  rw [mul_comm (half * d _) (g _)]

theorem stepped (x d : Vec Ideal S256x2048 .f32) (o : Vec Ideal S1x2048 .f32) (k : Fin 2048) :
    step x d o (ix2 0 k) = o (ix2 0 k) + ∑ r, unit (blockRow x r) k * halfBlock d r k := by
  pointwise [step, k0_pay1, k0_pay7, k0_pay8]
  simp only [pay2, pay4]
  exact congrArg (o (ix2 0 k) + ·) (Finset.sum_congr rfl fun r _ => mul_comm _ _)

/-! ## The run -/

variable (m : (ℓ : Loc nD τ sig) → Buf (Elt Ideal) ℓ) (ρ : Dev nD → PrngReg)

/-- The arguments. -/
abbrev X (c : Dev nD) : Vec Ideal S8192x2048 .f32 := m ((c.tc : Thread nD τ).loc main_arg0)
abbrev G (c : Dev nD) : Vec Ideal S2048 .f32 := m ((c.tc : Thread nD τ).loc main_arg1)
abbrev D (c : Dev nD) : Vec Ideal S8192x2048 .f32 := m ((c.tc : Thread nD τ).loc main_arg2)

theorem coord : ∀ t : Fin grid0.N, (grid0.coords t 0).val = t.val := by decide +kernel

theorem lt_N (t : Fin cfg0.N) : t.val < 32 := lt_of_lt_of_eq t.isLt N_0

/-- Row r of the block of a point, among all rows. -/
abbrev row (t : Fin cfg0.N) (r : Fin 256) : Fin 8192 := ⟨256 * t.val + r.val, by have := lt_N t; have := r.isLt; omega⟩

theorem index_row (t : Fin cfg0.N) : cc0_transform_0 (grid0.coords t) = ![t.val, 0] := by
  have := lt_N t
  unfold cc0_transform_0
  dsimp only
  rw [coord, BitVec.toNat_ofNat, Nat.mod_eq_of_lt (by omega)]
  rfl

/-- An entry of the block of a point lies in its row. -/
abbrev inRows (t : Fin cfg0.N) (j : S256x2048.Idx) : S8192x2048.Idx := ((cfg0.win 0).blk t).view.emb j

theorem inRows_eq (t : Fin cfg0.N) (j : S256x2048.Idx) : inRows t j = ix2 (row t (j 0)) (j 1) := by
  funext a; apply Fin.ext
  have h := index_row t
  match a with
  | ⟨0, _⟩ => show cc0_transform_0 (grid0.coords t) 0 * 256 + 1 * (j 0).val = 256 * t.val + (j 0).val; rw [h]; show t.val * 256 + 1 * (j 0).val = _; omega
  | ⟨1, _⟩ => show cc0_transform_0 (grid0.coords t) 1 * 2048 + 1 * (j 1).val = (j 1).val; rw [h]; show 0 * 2048 + 1 * (j 1).val = _; omega

theorem block_x (c : Dev nD) (t : Fin cfg0.N) (r : Fin 256) (k : Fin 2048) : (iblk m c 0 t : Vec Ideal S256x2048 .f32) (ix2 r k) = X m c (ix2 (row t r) k) :=
  (congrFun (V_main_arg0 m c) (inRows t (ix2 r k))).trans (congrArg (X m c) (inRows_eq t (ix2 r k)))
theorem block_d (c : Dev nD) (t : Fin cfg0.N) (r : Fin 256) (k : Fin 2048) : (iblk m c 2 t : Vec Ideal S256x2048 .f32) (ix2 r k) = D m c (ix2 (row t r) k) :=
  (congrFun (V_main_arg2 m c) (inRows t (ix2 r k))).trans (congrArg (D m c) (inRows_eq t (ix2 r k)))

theorem gains (c : Dev nD) : (V m c main_v0 : Vec Ideal S1x2048 .f32) = shapeCast S1x2048 (G m c) shapeCasts_S2048_S1x2048 := by
  show StableHlo.after hostOps0 (fun b => m (c, b)) main_v0 = _
  after_results_simp <;> rfl

theorem whole_row (t : Fin cfg0.N) (k : Fin 2048) : (((cfg0.win 1).blk t).view.emb (ix2 0 k : S1x2048.Idx) : S1x2048.Idx) = ix2 0 k := by
  funext a; apply Fin.ext
  match a with
  | ⟨0, _⟩ => rfl
  | ⟨1, _⟩ => show 0 * 2048 + 1 * k.val = k.val; omega

theorem block_g (c : Dev nD) (t : Fin cfg0.N) (k : Fin 2048) : (iblk m c 1 t : Vec Ideal S1x2048 .f32) (ix2 0 k) = G m c (ix1 k) := by
  refine (congrArg (V m c main_v0 : Vec Ideal S1x2048 .f32) (whole_row t k)).trans ?_
  rw [gains]
  pointwise

/-- The rows of the block of a point are rows of the arrays. -/
theorem row_x (c : Dev nD) (t : Fin cfg0.N) (r : Fin 256) : blockRow (iblk m c 0 t) r = rowOf (X m c) (row t r) := funext fun k => block_x m c t r k
theorem row_d (c : Dev nD) (t : Fin cfg0.N) (r : Fin 256) : halfBlock (iblk m c 2 t) r = halfRow (D m c) (row t r) := funext fun k => congrArg (half * ·) (block_d m c t r k)
theorem row_g (c : Dev nD) (t : Fin cfg0.N) : (fun k => (iblk m c 1 t : Vec Ideal S1x2048 .f32) (ix2 0 k)) = fun k => G m c (ix1 k) := funext fun k => block_g m c t k

/-- What a row adds to an entry of the gain's gradient, by the row's number. -/
def rowGain (c : Dev nD) (k : Fin 2048) (i : ℕ) : EReal := if h : i < 8192 then unit (rowOf (X m c) ⟨i, h⟩) k * halfRow (D m c) ⟨i, h⟩ k else 0

theorem blockGain (c : Dev nD) (t : Fin cfg0.N) (k : Fin 2048) :
    ∑ r, unit (blockRow (iblk m c 0 t) r) k * halfBlock (iblk m c 2 t) r k = ∑ r ∈ Finset.range 256, rowGain m c k (256 * t.val + r) := by
  rw [Finset.sum_range]
  refine Finset.sum_congr rfl fun r _ => ?_
  rw [row_x, row_d]
  unfold rowGain
  rw [dif_pos (row t r).isLt]

/-- After a point the first result's block is the gradient's, -/
theorem gradient_at (c : Dev nD) (t : Fin cfg0.N) : (outsAt0 m c t.val t.isLt).1 = k0_pay5 (iblk m c 0 t) (iblk m c 2 t) (iblk m c 1 t) := by
  by_cases h : t.val % 32 = 0
  · rw [outsAt0_A m c t h]; dsimp only; rw [out_A_3]
  · rw [outsAt0_B m c t h]; dsimp only; rw [out_B_3]

/-- and the second is the sum over the blocks so far. -/
theorem gain_at (c : Dev nD) (k : Fin 2048) : ∀ (n : ℕ) (h : n < cfg0.N),
    (outsAt0 m c n h).2 (ix2 0 k) = ∑ t ∈ Finset.range (n + 1), ∑ r ∈ Finset.range 256, rowGain m c k (256 * t + r)
  | 0, h => by
    rw [outsAt0_A m c ⟨0, h⟩ rfl]
    dsimp only
    rw [out_A_4, stepped, blockGain, Finset.sum_range_one]
    refine (congrArg (· + _) ?_).trans (zero_add _)
    pointwise [k0_pay6]
  | n + 1, h => by
    have hN : cfg0.N = 32 := N_0
    have hB : ¬(⟨n + 1, h⟩ : Fin cfg0.N).val % 32 = 0 := by dsimp only; omega
    rw [outsAt0_B m c ⟨n + 1, h⟩ hB]
    dsimp only
    rw [out_B_4, stepped, blockGain]
    refine Eq.trans ?_ (Finset.sum_range_succ _ (n + 1)).symm
    exact congrArg (· + _) (gain_at c k n (Nat.lt_of_succ_lt h))

theorem read_rows (t : Fin cfg0.N) (f : Vec Ideal S8192x2048 .bf16) (r : Fin 256) (k : Fin 2048) :
    ((cfg0.win 3).blk t).view.read (Elt Ideal) f (ix2 r k : S256x2048.Idx) = f (ix2 (row t r) k) :=
  congrArg f (inRows_eq t (ix2 r k))

/-- Each point writes its block of the gradient. -/
theorem flushed_gradient (c : Dev nD) (t : Fin cfg0.N) :
    (dats m 0 c).flushed 3 t = ((cfg0.win 3).blk t).view.read (Elt Ideal) (gradient (X m c) (G m c) (D m c)) := by
  show (cfg0.win 3).cut (grid0.coords t) ((dats m 0 c).after 3 t) = _
  rw [after0_3, gradient_at]
  refine funext fun (j : S256x2048.Idx) => ?_
  obtain ⟨r, k, rfl⟩ : ∃ (r : Fin 256) (k : Fin 2048), j = ix2 r k := ⟨j 0, j 1, by funext a; fin_cases a <;> rfl⟩
  refine (pay5 (iblk m c 0 t) (iblk m c 2 t) (iblk m c 1 t) r k).trans ?_
  rw [row_x, row_d, row_g]
  exact (read_rows t (gradient (X m c) (G m c) (D m c)) r k).symm

theorem covered_gradient (i : S8192x2048.Idx) : ∃ t : Fin cfg0.N, (cfg0.win 3).flush t = true ∧ i ∈ ((cfg0.win 3).blk t).view.set := by
  have hi0 : (i 0).val < 8192 := (i 0).isLt
  have hi1 : (i 1).val < 2048 := (i 1).isLt
  obtain ⟨t, ht⟩ : ∃ t : Fin cfg0.N, t.val = (i 0).val / 256 := ⟨⟨(i 0).val / 256, lt_of_lt_of_eq (by omega) N_0.symm⟩, rfl⟩
  refine ⟨t, flush0_3 t, ?_⟩
  suffices h : i ∈ ((View.whole main_v1_0).slice (Rect.block (s := S8192x2048) S256x2048.size (cc0_transform_0 (grid0.coords t)) (hinb0_3 _))).set from h
  rw [View.set_slice_whole, Rect.mem_set_unit]
  intro a
  rw [index_row, ht]
  match a with
  | ⟨0, _⟩ => show (i 0).val / 256 * 256 ≤ (i 0).val ∧ (i 0).val < (i 0).val / 256 * 256 + 256; omega
  | ⟨1, _⟩ => show 0 * 2048 ≤ (i 1).val ∧ (i 1).val < 0 * 2048 + 2048; omega

/-- The gain's gradient is one block. -/
theorem read_row (t : Fin cfg0.N) (f : Vec Ideal S1x2048 .f32) (k : Fin 2048) : ((cfg0.win 4).blk t).view.read (Elt Ideal) f (ix2 0 k : S1x2048.Idx) = f (ix2 0 k) :=
  congrArg f (whole_row t k)

/-- The last point writes the gain's gradient, -/
theorem flushed_gain (c : Dev nD) (t : Fin cfg0.N) (hf : (cfg0.win 4).flush t = true) :
    (dats m 0 c).flushed 4 t = ((cfg0.win 4).blk t).view.read (Elt Ideal) (gainRow (X m c) (D m c)) := by
  have h31 : t.val = 31 := by have := (flush0_4 t).mp hf; have := lt_N t; omega
  show (cfg0.win 4).cut (grid0.coords t) ((dats m 0 c).after 4 t) = _
  rw [after0_4]
  refine funext fun (j : S1x2048.Idx) => ?_
  obtain ⟨a, k, rfl⟩ : ∃ (a : Fin 1) (k : Fin 2048), j = ix2 a k := ⟨j 0, j 1, by funext a; fin_cases a <;> rfl⟩
  obtain rfl : a = 0 := Subsingleton.elim _ _
  refine ((gain_at m c k t.val t.isLt).trans ?_).trans (read_row t (gainRow (X m c) (D m c)) k).symm
  rw [Cert.Blocks.sum_blocks, h31]
  show _ = ∑ r, unit (rowOf (X m c) r) k * halfRow (D m c) r k
  rw [Cert.Blocks.sum_rows]
  rfl

theorem covered_gain (i : S1x2048.Idx) : ∃ t : Fin cfg0.N, (cfg0.win 4).flush t = true ∧ i ∈ ((cfg0.win 4).blk t).view.set := by
  have hi0 : (i 0).val < 1 := (i 0).isLt
  have hi1 : (i 1).val < 2048 := (i 1).isLt
  obtain ⟨t, ht⟩ : ∃ t : Fin cfg0.N, t.val = 31 := ⟨⟨31, lt_of_lt_of_eq (by omega) N_0.symm⟩, rfl⟩
  refine ⟨t, (flush0_4 t).mpr (by omega), ?_⟩
  suffices h : i ∈ ((View.whole main_v1_1).slice (Rect.block (s := S1x2048) S1x2048.size (cc0_transform_4 (grid0.coords t)) (hinb0_4 _))).set from h
  rw [View.set_slice_whole, Rect.mem_set_unit]
  intro a
  match a with
  | ⟨0, _⟩ => show 0 * 1 ≤ (i 0).val ∧ (i 0).val < 0 * 1 + 1; omega
  | ⟨1, _⟩ => show 0 * 2048 ≤ (i 1).val ∧ (i 1).val < 0 * 2048 + 2048; omega

/-- which is reshaped after the call. -/
theorem gain_after (c : Dev nD) : Pipeline.afterTail₀ cfgs (dats m) 0 (V0 m) [hostOps1] c main_v2 = gain (X m c) (D m c) := by
  have e : (Pipeline.withArrays (cfgs 0).spec c (V0 m c) (fun w => (dats m 0 c).arrAt w (cfgs 0).N) (Proc.devRef .tc main_v1_1) : Vec Ideal S1x2048 .f32) = gainRow (X m c) (D m c) :=
    (Pipeline.withArrays_arr spec0 launch0.win.arr_inj c (V0 m c) (fun w => (dats m 0 c).arrAt w (cfgs 0).N) 4).trans ((dats m 0 c).arrAt_eq_of_cover 4 _ (flushed_gain m c) covered_gain)
  have h : (Pipeline.afterTail₀ cfgs (dats m) 0 (V0 m) [hostOps1] c main_v2 : Vec Ideal S2048 .f32)
      = shapeCast S2048 (Pipeline.withArrays (cfgs 0).spec c (V0 m c) (fun w => (dats m 0 c).arrAt w (cfgs 0).N) (Proc.devRef .tc main_v1_1) : Vec Ideal S1x2048 .f32) shapeCasts_S1x2048_S2048 := by
    unfold Pipeline.afterTail₀
    after_results_simp <;> rfl
  refine h.trans ?_
  rw [e]
  refine funext fun (i : S2048.Idx) => ?_
  obtain ⟨k, rfl⟩ : ∃ k : Fin 2048, i = ix1 k := ⟨i 0, by funext a; fin_cases a; rfl⟩
  pointwise
  rfl

/-- So every run ends with both gradients. -/
theorem run : θ_run defs (onTc (τ := τ) (main (F := Ideal))) ⟨m, fun _ => 0, ρ⟩ (fun r => ∀ c : Dev nD,
      r.2.mem ((c.tc : Thread nD τ).loc main_v1_0) = gradient (X m c) (G m c) (D m c)
      ∧ r.2.mem ((c.tc : Thread nD τ).loc main_v2) = gain (X m c) (D m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).1 3).trans ((dats m 0 c).arrAt_eq_of_cover 3 _ (fun t _ => flushed_gradient m c t) covered_gradient),
      ((h.1 c).2 main_v2 (Pipeline.mem_restRefs_of main_v2 (by decide) (by decide))).trans (gain_after m c), h.2 c⟩)
    (θ_run_and (run_main m ρ) (unchanged m ρ))

theorem frame : Cert.quiescent_PostGrad := fun m g _ => Cert.PostGrad.Gen.frame (F := Bits) m g
theorem frame_ideal : Cert.quiescent_PostGradIdeal := fun m g _ => Cert.PostGradIdeal.Gen.frame (F := Ideal) m g
/-- The reference leaves its arguments as they were; it has no semaphores. -/
theorem frame_refIdeal : Cert.quiescent_PostGradRefIdeal := fun m g _ =>
  (θ_run (Cert.PostGradRefIdeal.defs (F := Ideal)) _ _).mono (fun _ h => ⟨fun c => (h c).2.2, sem_eq_zero_of_no_sems rfl _⟩)
    (Cert.PostGradRefIdeal.Value.run m g)

/-- The reference ends with the same gradients. -/
theorem ref_run (m : (ℓ : Loc nD τ Cert.PostGradRefIdeal.sig) → Buf (Elt Ideal) ℓ) :
    θ_run Cert.PostGradRefIdeal.defs (onTc (τ := τ) (Cert.PostGradRefIdeal.main (F := Ideal))) ⟨m, fun _ => 0, ρ⟩ (fun r => ∀ c : Dev nD,
      r.2.mem ((c.tc : Thread nD τ).loc Cert.PostGradRefIdeal.main_v28) = gradient (m ((c.tc : Thread nD τ).loc Cert.PostGradRefIdeal.main_arg0)) (m ((c.tc : Thread nD τ).loc Cert.PostGradRefIdeal.main_arg1)) (m ((c.tc : Thread nD τ).loc Cert.PostGradRefIdeal.main_arg2))
      ∧ r.2.mem ((c.tc : Thread nD τ).loc Cert.PostGradRefIdeal.main_v30) = gain (m ((c.tc : Thread nD τ).loc Cert.PostGradRefIdeal.main_arg0)) (m ((c.tc : Thread nD τ).loc Cert.PostGradRefIdeal.main_arg2))
      ∧ r.2.mem ((c.tc : Thread nD τ).loc Cert.PostGradRefIdeal.main_arg0) = m ((c.tc : Thread nD τ).loc Cert.PostGradRefIdeal.main_arg0)
      ∧ r.2.mem ((c.tc : Thread nD τ).loc Cert.PostGradRefIdeal.main_arg1) = m ((c.tc : Thread nD τ).loc Cert.PostGradRefIdeal.main_arg1)
      ∧ r.2.mem ((c.tc : Thread nD τ).loc Cert.PostGradRefIdeal.main_arg2) = m ((c.tc : Thread nD τ).loc Cert.PostGradRefIdeal.main_arg2)) :=
  (θ_run Cert.PostGradRefIdeal.defs _ _).mono (fun _ h c => ⟨(h c).1.trans (by
    refine funext fun (i : S8192x2048.Idx) => ?_
    obtain ⟨r, k, rfl⟩ : ∃ (r : Fin 8192) (k : Fin 2048), i = ix2 r k := ⟨i 0, i 1, by funext a; fin_cases a <;> rfl⟩
    pointwise
    rfl), (h c).2.1.trans (by
    refine funext fun (i : S2048.Idx) => ?_
    obtain ⟨k, rfl⟩ : ∃ k : Fin 2048, i = ix1 k := ⟨i 0, by funext a; fin_cases a; rfl⟩
    pointwise
    rfl), (h c).2.2⟩) (Cert.PostGradRefIdeal.Value.run m ρ)

/-- On real numbers the kernel leaves the gradients of the reference. -/
theorem algebraic : Cert.algebraic_PostGradIdeal_PostGradRefIdeal := fun m g m' g' _ hm =>
  ⟨_, _, run m g, (θ_run (Cert.PostGradRefIdeal.defs (F := Ideal)) _ _).mono
    (fun _ h c => by
      have h := h c
      rw [(hm c).1, (hm c).2.1, (hm c).2.2] at h ⊢
      exact h) (ref_run g' m')⟩

end Cert.PostGradIdeal.Grad
-- ==== Proof.GluGrad.lean ====
/- The gradient through the gated product of a feed-forward layer: first in the gated array, a product with the transposed down
   projection, and from it in the gate and in the other factor. The kernel goes over the results in 8 by 11 blocks of 1024 by
   512, each product whole over the 2048 columns. -/
module

public import proofs.«01_k».proof.Defs
public import proofs.«01_k».proof.Proof.Blocks
public import proofs.«01_k».proof.Proof.Gen.GluGrad.Frame
public import proofs.«01_k».proof.Proof.Gen.GluGradIdeal.Value
public import proofs.«01_k».proof.Proof.Gen.GluGradRefIdeal.Run
public import Idealize.ShloMosaic.Lib.IdealHost
public import Idealize.ShloMosaic.Lib.Pointwise
public import Idealize.ShloMosaic.Lib.Quiescent

@[expose] public section

set_option Elab.async false

noncomputable section

namespace Cert.GluGradIdeal.Layer

open Cert.GluGradIdeal Cert.GluGradIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The gradient in an entry of the gated array: the product of two rows, -/
abbrev dot (x w : Fin 2048 → EReal) : EReal := ∑ l, x l * w l

/-- the slope of silu, -/
abbrev slope (g : EReal) : EReal := Ideal.logistic g + g * Ideal.logistic g * (1 - Ideal.logistic g)

/-- the gradient in the gate, -/
abbrev gate (x w : Fin 2048 → EReal) (g u : EReal) : EReal := dot x w * u * slope g

/-- and that in the other factor. -/
abbrev other (x w : Fin 2048 → EReal) (g : EReal) : EReal := dot x w * (g * Ideal.logistic g)

/-- Both as arrays. -/
abbrev gates (x : Vec Ideal S8192x2048 .bf16) (w : Vec Ideal S5632x2048 .bf16) (g u : Vec Ideal S8192x5632 .bf16) : Vec Ideal S8192x5632 .bf16 := fun i =>
  gate (fun l => x (ix2 (i 0) l)) (fun l => w (ix2 (i 1) l)) (g i) (u i)
abbrev others (x : Vec Ideal S8192x2048 .bf16) (w : Vec Ideal S5632x2048 .bf16) (g : Vec Ideal S8192x5632 .bf16) : Vec Ideal S8192x5632 .bf16 := fun i =>
  other (fun l => x (ix2 (i 0) l)) (fun l => w (ix2 (i 1) l)) (g i)

/-- The kernel has the logistic function as a factor of the slope; at infinite gates too the two are equal. -/
theorem slope_eq (g : EReal) : Ideal.logistic g * (1 + g * (1 - Ideal.logistic g)) = slope g := by
  have h : (1 : EReal) - 1 = 0 := by rw [← EReal.coe_one, ← EReal.coe_sub, sub_self, EReal.coe_zero]
  unfold slope
  induction g with
  | bot => simp
  | top => simp [h]
  | coe g =>
    rw [Ideal.logistic_coe]
    norm_cast
    ring

theorem pay1 (x : Vec Ideal S1024x2048 .bf16) (w : Vec Ideal S512x2048 .bf16) (r : Fin 1024) (k : Fin 512) :
    k0_pay1 x w (ix2 r k) = dot (fun l => x (ix2 r l)) (fun l => w (ix2 k l)) := by
  pointwise [k0_pay1]

theorem pay2 (g : Vec Ideal S1024x512 .bf16) (j : S1024x512.Idx) : k0_pay2 g j = g j := by
  pointwise [k0_pay2]

theorem pay3 (g : Vec Ideal S1024x512 .bf16) (j : S1024x512.Idx) : k0_pay3 g j = Ideal.logistic (g j) := by
  pointwise [k0_pay3]
  rw [pay2]

theorem pay4 (x : Vec Ideal S1024x2048 .bf16) (w : Vec Ideal S512x2048 .bf16) (g : Vec Ideal S1024x512 .bf16) (r : Fin 1024) (k : Fin 512) :
    k0_pay4 x w g (ix2 r k) = other (fun l => x (ix2 r l)) (fun l => w (ix2 k l)) (g (ix2 r k)) := by
  pointwise [k0_pay4]
  rw [pay1, pay2, pay3]

theorem pay5 (x : Vec Ideal S1024x2048 .bf16) (w : Vec Ideal S512x2048 .bf16) (g u : Vec Ideal S1024x512 .bf16) (r : Fin 1024) (k : Fin 512) :
    k0_pay5 x w g u (ix2 r k) = gate (fun l => x (ix2 r l)) (fun l => w (ix2 k l)) (g (ix2 r k)) (u (ix2 r k)) := by
  pointwise [k0_pay5]
  rw [pay1, pay2, pay3, slope_eq]

variable (m : (ℓ : Loc nD τ sig) → Buf (Elt Ideal) ℓ) (ρ : Dev nD → PrngReg)

/-- The arguments. -/
abbrev X (c : Dev nD) : Vec Ideal S8192x2048 .bf16 := m ((c.tc : Thread nD τ).loc main_arg0)
abbrev W (c : Dev nD) : Vec Ideal S5632x2048 .bf16 := m ((c.tc : Thread nD τ).loc main_arg1)
abbrev G (c : Dev nD) : Vec Ideal S8192x5632 .bf16 := m ((c.tc : Thread nD τ).loc main_arg2)
abbrev U (c : Dev nD) : Vec Ideal S8192x5632 .bf16 := m ((c.tc : Thread nD τ).loc main_arg3)

theorem lt_N (t : Fin cfg0.N) : t.val < 88 := lt_of_lt_of_eq t.isLt N_0

theorem coords : ∀ t : Fin grid0.N, (grid0.coords t 0).val = t.val / 11 ∧ (grid0.coords t 1).val = t.val % 11 := by decide +kernel

/-- Row r and column k of the block of a point, among all. -/
abbrev row (t : Fin cfg0.N) (r : Fin 1024) : Fin 8192 := ⟨1024 * (t.val / 11) + r.val, by have := lt_N t; have := r.isLt; omega⟩
abbrev col (t : Fin cfg0.N) (k : Fin 512) : Fin 5632 := ⟨512 * (t.val % 11) + k.val, by have := lt_N t; have := k.isLt; omega⟩

theorem index_x (t : Fin cfg0.N) : cc0_transform_0 (grid0.coords t) = ![t.val / 11, 0] := by
  have := lt_N t
  unfold cc0_transform_0
  dsimp only
  rw [(coords t).1, BitVec.toNat_ofNat, Nat.mod_eq_of_lt (by omega)]
  rfl
theorem index_w (t : Fin cfg0.N) : cc0_transform_1 (grid0.coords t) = ![t.val % 11, 0] := by
  have := lt_N t
  show ![(BitVec.ofNat 32 (grid0.coords t 1).val).toNat, 0] = _
  rw [(coords t).2, BitVec.toNat_ofNat, Nat.mod_eq_of_lt (by omega)]
theorem index_o (t : Fin cfg0.N) : cc0_transform_3 (grid0.coords t) = ![t.val / 11, t.val % 11] := by
  have := lt_N t
  unfold cc0_transform_3
  dsimp only
  rw [(coords t).1, (coords t).2, BitVec.toNat_ofNat, BitVec.toNat_ofNat, Nat.mod_eq_of_lt (by omega), Nat.mod_eq_of_lt (by omega)]

theorem in_x (t : Fin cfg0.N) (r : Fin 1024) (l : Fin 2048) : (((cfg0.win 0).blk t).view.emb (ix2 r l : S1024x2048.Idx) : S8192x2048.Idx) = ix2 (row t r) l := by
  funext a; apply Fin.ext
  have h := index_x t
  match a with
  | ⟨0, _⟩ => show cc0_transform_0 (grid0.coords t) 0 * 1024 + 1 * r.val = 1024 * (t.val / 11) + r.val; rw [h]; show t.val / 11 * 1024 + 1 * r.val = _; omega
  | ⟨1, _⟩ => show cc0_transform_0 (grid0.coords t) 1 * 2048 + 1 * l.val = l.val; rw [h]; show 0 * 2048 + 1 * l.val = _; omega
theorem in_w (t : Fin cfg0.N) (k : Fin 512) (l : Fin 2048) : (((cfg0.win 1).blk t).view.emb (ix2 k l : S512x2048.Idx) : S5632x2048.Idx) = ix2 (col t k) l := by
  funext a; apply Fin.ext
  have h := index_w t
  match a with
  | ⟨0, _⟩ => show cc0_transform_1 (grid0.coords t) 0 * 512 + 1 * k.val = 512 * (t.val % 11) + k.val; rw [h]; show t.val % 11 * 512 + 1 * k.val = _; omega
  | ⟨1, _⟩ => show cc0_transform_1 (grid0.coords t) 1 * 2048 + 1 * l.val = l.val; rw [h]; show 0 * 2048 + 1 * l.val = _; omega
theorem in_o (t : Fin cfg0.N) (r : Fin 1024) (k : Fin 512) : (((cfg0.win 3).blk t).view.emb (ix2 r k : S1024x512.Idx) : S8192x5632.Idx) = ix2 (row t r) (col t k) := by
  funext a; apply Fin.ext
  have h := index_o t
  match a with
  | ⟨0, _⟩ => show cc0_transform_3 (grid0.coords t) 0 * 1024 + 1 * r.val = 1024 * (t.val / 11) + r.val; rw [h]; show t.val / 11 * 1024 + 1 * r.val = _; omega
  | ⟨1, _⟩ => show cc0_transform_3 (grid0.coords t) 1 * 512 + 1 * k.val = 512 * (t.val % 11) + k.val; rw [h]; show t.val % 11 * 512 + 1 * k.val = _; omega

/-- The rows and columns of a point's blocks are those of the arrays. -/
theorem row_x (c : Dev nD) (t : Fin cfg0.N) (r : Fin 1024) :
    (fun l => (iblk m c 0 t : Vec Ideal S1024x2048 .bf16) (ix2 r l)) = fun l => X m c (ix2 (row t r) l) := funext fun l =>
  congrArg (X m c) (in_x t r l)
theorem row_w (c : Dev nD) (t : Fin cfg0.N) (k : Fin 512) :
    (fun l => (iblk m c 1 t : Vec Ideal S512x2048 .bf16) (ix2 k l)) = fun l => W m c (ix2 (col t k) l) := funext fun l =>
  congrArg (W m c) (in_w t k l)
theorem entry_g (c : Dev nD) (t : Fin cfg0.N) (r : Fin 1024) (k : Fin 512) :
    (iblk m c 2 t : Vec Ideal S1024x512 .bf16) (ix2 r k) = G m c (ix2 (row t r) (col t k)) := congrArg (G m c) (in_o t r k)
theorem entry_u (c : Dev nD) (t : Fin cfg0.N) (r : Fin 1024) (k : Fin 512) :
    (iblk m c 3 t : Vec Ideal S1024x512 .bf16) (ix2 r k) = U m c (ix2 (row t r) (col t k)) := congrArg (U m c) (in_o t r k)

/-- Each point writes its block of the gate's gradient, -/
theorem flushed_gates (c : Dev nD) (t : Fin cfg0.N) :
    (dats m 0 c).flushed 4 t = ((cfg0.win 4).blk t).view.read (Elt Ideal) (gates (X m c) (W m c) (G m c) (U m c)) := by
  show (cfg0.win 4).cut (grid0.coords t) ((dats m 0 c).after 4 t) = _
  rw [after0_4]
  unfold out0_4
  rw [View.canon_unit_zero hz]
  simp only [View.ld_unit_zero (S := S1024x2048) hz, View.ld_unit_zero (S := S512x2048) hz, View.ld_unit_zero (S := S1024x512) hz]
  refine funext fun (j : S1024x512.Idx) => ?_
  obtain ⟨r, k, rfl⟩ : ∃ (r : Fin 1024) (k : Fin 512), j = ix2 r k := ⟨j 0, j 1, by funext a; fin_cases a <;> rfl⟩
  refine (pay5 (iblk m c 0 t) (iblk m c 1 t) (iblk m c 2 t) (iblk m c 3 t) r k).trans ?_
  rw [row_x, row_w, entry_g, entry_u]
  exact congrArg (gates (X m c) (W m c) (G m c) (U m c)) (in_o t r k).symm

/-- and of the other's. -/
theorem flushed_others (c : Dev nD) (t : Fin cfg0.N) :
    (dats m 0 c).flushed 5 t = ((cfg0.win 5).blk t).view.read (Elt Ideal) (others (X m c) (W m c) (G m c)) := by
  show (cfg0.win 5).cut (grid0.coords t) ((dats m 0 c).after 5 t) = _
  rw [after0_5]
  unfold out0_5
  rw [View.canon_unit_zero hz]
  simp only [View.ld_unit_zero (S := S1024x2048) hz, View.ld_unit_zero (S := S512x2048) hz, View.ld_unit_zero (S := S1024x512) hz]
  refine funext fun (j : S1024x512.Idx) => ?_
  obtain ⟨r, k, rfl⟩ : ∃ (r : Fin 1024) (k : Fin 512), j = ix2 r k := ⟨j 0, j 1, by funext a; fin_cases a <;> rfl⟩
  refine (pay4 (iblk m c 0 t) (iblk m c 1 t) (iblk m c 2 t) r k).trans ?_
  rw [row_x, row_w, entry_g]
  exact congrArg (others (X m c) (W m c) (G m c)) (in_o t r k).symm

/-- The point whose block an entry is in. -/
theorem point (i : S8192x5632.Idx) : ∃ t : Fin cfg0.N, t.val = 11 * ((i 0).val / 1024) + (i 1).val / 512 := by
  have hi0 : (i 0).val < 8192 := (i 0).isLt
  have hi1 : (i 1).val < 5632 := (i 1).isLt
  exact ⟨⟨11 * ((i 0).val / 1024) + (i 1).val / 512, lt_of_lt_of_eq (by omega) N_0.symm⟩, rfl⟩

theorem in_block (i : S8192x5632.Idx) (t : Fin cfg0.N) (ht : t.val = 11 * ((i 0).val / 1024) + (i 1).val / 512) (a : Fin 2) :
    cc0_transform_3 (grid0.coords t) a * S1024x512.size a ≤ (i a).val ∧ (i a).val < cc0_transform_3 (grid0.coords t) a * S1024x512.size a + S1024x512.size a := by
  have hi0 : (i 0).val < 8192 := (i 0).isLt
  have hi1 : (i 1).val < 5632 := (i 1).isLt
  rw [index_o, ht]
  match a with
  | ⟨0, _⟩ =>
    show (11 * ((i 0).val / 1024) + (i 1).val / 512) / 11 * 1024 ≤ (i 0).val ∧ (i 0).val < (11 * ((i 0).val / 1024) + (i 1).val / 512) / 11 * 1024 + 1024
    omega
  | ⟨1, _⟩ =>
    show (11 * ((i 0).val / 1024) + (i 1).val / 512) % 11 * 512 ≤ (i 1).val ∧ (i 1).val < (11 * ((i 0).val / 1024) + (i 1).val / 512) % 11 * 512 + 512
    omega

theorem covered_gates (i : S8192x5632.Idx) : ∃ t : Fin cfg0.N, (cfg0.win 4).flush t = true ∧ i ∈ ((cfg0.win 4).blk t).view.set := by
  obtain ⟨t, ht⟩ := point i
  refine ⟨t, flush0_4 t, ?_⟩
  suffices h : i ∈ ((View.whole main_v0_0).slice (Rect.block (s := S8192x5632) S1024x512.size (cc0_transform_3 (grid0.coords t)) (hinb0_4 _))).set from h
  rw [View.set_slice_whole, Rect.mem_set_unit]
  exact in_block i t ht
theorem covered_others (i : S8192x5632.Idx) : ∃ t : Fin cfg0.N, (cfg0.win 5).flush t = true ∧ i ∈ ((cfg0.win 5).blk t).view.set := by
  obtain ⟨t, ht⟩ := point i
  refine ⟨t, flush0_5 t, ?_⟩
  suffices h : i ∈ ((View.whole main_v0_1).slice (Rect.block (s := S8192x5632) S1024x512.size (cc0_transform_3 (grid0.coords t)) (hinb0_5 _))).set from h
  rw [View.set_slice_whole, Rect.mem_set_unit]
  exact in_block i t ht

/-- So every run ends with both gradients. -/
theorem run : θ_run defs (onTc (τ := τ) (main (F := Ideal))) ⟨m, fun _ => 0, ρ⟩ (fun r => ∀ c : Dev nD,
      r.2.mem ((c.tc : Thread nD τ).loc main_v0_0) = gates (X m c) (W m c) (G m c) (U m c)
      ∧ r.2.mem ((c.tc : Thread nD τ).loc main_v0_1) = others (X m c) (W m c) (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1.trans ((dats m 0 c).arrAt_eq_of_cover 4 _ (fun t _ => flushed_gates m c t) covered_gates),
      (h c).2.1.trans ((dats m 0 c).arrAt_eq_of_cover 5 _ (fun t _ => flushed_others m c t) covered_others), (h c).2.2⟩)
    (Value.run_blocks m ρ)

theorem frame : Cert.quiescent_GluGrad := fun m g _ => Cert.GluGrad.Gen.frame (F := Bits) m g
theorem frame_ideal : Cert.quiescent_GluGradIdeal := fun m g _ => Cert.GluGradIdeal.Gen.frame (F := Ideal) m g
/-- The reference leaves its arguments as they were; it has no semaphores. -/
theorem frame_refIdeal : Cert.quiescent_GluGradRefIdeal := fun m g _ =>
  (θ_run (Cert.GluGradRefIdeal.defs (F := Ideal)) _ _).mono (fun _ h => ⟨fun c => (h c).2.2, sem_eq_zero_of_no_sems rfl _⟩)
    (Cert.GluGradRefIdeal.Value.run m g)

/-- The reference ends with the same gradients. -/
theorem ref_run (m : (ℓ : Loc nD τ Cert.GluGradRefIdeal.sig) → Buf (Elt Ideal) ℓ) :
    θ_run Cert.GluGradRefIdeal.defs (onTc (τ := τ) (Cert.GluGradRefIdeal.main (F := Ideal))) ⟨m, fun _ => 0, ρ⟩ (fun r => ∀ c : Dev nD,
      r.2.mem ((c.tc : Thread nD τ).loc Cert.GluGradRefIdeal.main_v17) = gates (m ((c.tc : Thread nD τ).loc Cert.GluGradRefIdeal.main_arg0)) (m ((c.tc : Thread nD τ).loc Cert.GluGradRefIdeal.main_arg1)) (m ((c.tc : Thread nD τ).loc Cert.GluGradRefIdeal.main_arg2)) (m ((c.tc : Thread nD τ).loc Cert.GluGradRefIdeal.main_arg3))
      ∧ r.2.mem ((c.tc : Thread nD τ).loc Cert.GluGradRefIdeal.main_v20) = others (m ((c.tc : Thread nD τ).loc Cert.GluGradRefIdeal.main_arg0)) (m ((c.tc : Thread nD τ).loc Cert.GluGradRefIdeal.main_arg1)) (m ((c.tc : Thread nD τ).loc Cert.GluGradRefIdeal.main_arg2))
      ∧ r.2.mem ((c.tc : Thread nD τ).loc Cert.GluGradRefIdeal.main_arg0) = m ((c.tc : Thread nD τ).loc Cert.GluGradRefIdeal.main_arg0)
      ∧ r.2.mem ((c.tc : Thread nD τ).loc Cert.GluGradRefIdeal.main_arg1) = m ((c.tc : Thread nD τ).loc Cert.GluGradRefIdeal.main_arg1)
      ∧ r.2.mem ((c.tc : Thread nD τ).loc Cert.GluGradRefIdeal.main_arg2) = m ((c.tc : Thread nD τ).loc Cert.GluGradRefIdeal.main_arg2)
      ∧ r.2.mem ((c.tc : Thread nD τ).loc Cert.GluGradRefIdeal.main_arg3) = m ((c.tc : Thread nD τ).loc Cert.GluGradRefIdeal.main_arg3)) :=
  (θ_run Cert.GluGradRefIdeal.defs _ _).mono (fun _ h c => ⟨(h c).1.trans (by
    refine funext fun (i : S8192x5632.Idx) => ?_
    obtain ⟨r, k, rfl⟩ : ∃ (r : Fin 8192) (k : Fin 5632), i = ix2 r k := ⟨i 0, i 1, by funext a; fin_cases a <;> rfl⟩
    pointwise
    rfl), (h c).2.1.trans (by
    refine funext fun (i : S8192x5632.Idx) => ?_
    obtain ⟨r, k, rfl⟩ : ∃ (r : Fin 8192) (k : Fin 5632), i = ix2 r k := ⟨i 0, i 1, by funext a; fin_cases a <;> rfl⟩
    pointwise
    rfl), (h c).2.2⟩) (Cert.GluGradRefIdeal.Value.run m ρ)

/-- On real numbers the kernel leaves the gradients of the reference. -/
theorem algebraic : Cert.algebraic_GluGradIdeal_GluGradRefIdeal := fun m g m' g' _ hm =>
  ⟨_, _, run m g, (θ_run (Cert.GluGradRefIdeal.defs (F := Ideal)) _ _).mono
    (fun _ h c => by
      have h := h c
      rw [(hm c).1, (hm c).2.1, (hm c).2.2.1, (hm c).2.2.2] at h ⊢
      exact h) (ref_run g' m')⟩

end Cert.GluGradIdeal.Layer

end
-- ==== Proof.DownGrad.lean ====
/- The gradient in the down projection: the product of the transposed gated array with the gradient of what came out. The kernel
   goes over the result in 4 by 2 blocks of 1408 by 1024, and adds each of them up over the 8192 tokens in 8 blocks of 1024, in
   an array of its own that begins at zero. -/
module

public import proofs.«01_k».proof.Defs
public import proofs.«01_k».proof.Proof.Blocks
public import proofs.«01_k».proof.Proof.Gen.DownGrad.Frame
public import proofs.«01_k».proof.Proof.Gen.DownGradIdeal.Value
public import proofs.«01_k».proof.Proof.Gen.DownGradRefIdeal.Run
public import Idealize.ShloMosaic.Lib.IdealHost
public import Idealize.ShloMosaic.Lib.Pointwise
public import Idealize.ShloMosaic.Lib.Quiescent

@[expose] public section

set_option Elab.async false

noncomputable section

namespace Cert.DownGradIdeal.Layer

open Cert.DownGradIdeal Cert.DownGradIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section body

variable {F : FTy → Type} [FloatOps F]

/-- The first point of a block stores the first product, added to zero, -/
theorem sum_A (c : Dev nD) (i : grid0.Coords) (a1 : Memref sig .tc .vmem S1024x1408 .bf16) (h1 : a1.IsWhole) (a2 : Memref sig .tc .vmem S1024x1024 .bf16) (h2 : a2.IsWhole)
    (a3 : Memref sig .tc .vmem S1408x1024 .f32) (h3 : a3.IsWhole) (a4 : Memref sig .tc .vmem S1408x1024 .f32) (h4 : a4.IsWhole) (hc : cond0_0 i) (hd : ¬cond0_1 i)
    (x : Vec F S1024x1408 .bf16) (w : Vec F S1024x1024 .bf16) :
    sout0_A_0 c i a1 h1 a2 h2 a3 h3 a4 h4 hc hd x w = k0_pay2 k0_pay1 x w := by
  unfold sout0_A_0
  rw [View.read_writes_eq_canon _ _ _ (scover0_A_0 c i a1 h1 a2 h2 a3 h3 a4 h4 hc hd x w)]
  unfold kernelRun0_A
  dsimp only
  sl_unfold_words
  rw [View.canon_cons_unit_zero (S := S1408x1024) hz, View.readCov_unit_zero (S := S1408x1024) _ hz]
  simp only [View.readAt_eq_ld, h1.read_unread, h2.read_unread, View.ld_unit_zero (S := S1024x1408) hz, View.ld_unit_zero (S := S1024x1024) hz, View.ld_unit_zero (S := S1408x1024) hz]

/-- the next ones the product added to what the point before stored, -/
theorem sum_B (c : Dev nD) (i : grid0.Coords) (a1 : Memref sig .tc .vmem S1024x1408 .bf16) (h1 : a1.IsWhole) (a2 : Memref sig .tc .vmem S1024x1024 .bf16) (h2 : a2.IsWhole)
    (a3 : Memref sig .tc .vmem S1408x1024 .f32) (h3 : a3.IsWhole) (a4 : Memref sig .tc .vmem S1408x1024 .f32) (h4 : a4.IsWhole) (hc : ¬cond0_0 i) (hd : ¬cond0_1 i)
    (x : Vec F S1024x1408 .bf16) (w : Vec F S1024x1024 .bf16) (s : Vec F S1408x1024 .f32) :
    sout0_B_0 c i a1 h1 a2 h2 a3 h3 a4 h4 hc hd x w s = k0_pay2 s x w := by
  unfold sout0_B_0
  rw [View.read_writes_eq_canon _ _ _ (scover0_B_0 c i a1 h1 a2 h2 a3 h3 a4 h4 hc hd x w s)]
  unfold kernelRun0_B
  dsimp only
  sl_unfold_words
  rw [View.canon_unit_zero hz]
  simp only [View.readAt_eq_ld, h1.read_unread, h2.read_unread, h4.read_unread, View.ld_unit_zero (S := S1024x1408) hz, View.ld_unit_zero (S := S1024x1024) hz, View.ld_unit_zero (S := S1408x1024) hz]

/-- and so the last, which stores it in the result too. -/
theorem sum_C (c : Dev nD) (i : grid0.Coords) (a1 : Memref sig .tc .vmem S1024x1408 .bf16) (h1 : a1.IsWhole) (a2 : Memref sig .tc .vmem S1024x1024 .bf16) (h2 : a2.IsWhole)
    (a3 : Memref sig .tc .vmem S1408x1024 .f32) (h3 : a3.IsWhole) (a4 : Memref sig .tc .vmem S1408x1024 .f32) (h4 : a4.IsWhole) (hc : ¬cond0_0 i) (hd : cond0_1 i)
    (x : Vec F S1024x1408 .bf16) (w : Vec F S1024x1024 .bf16) (s : Vec F S1408x1024 .f32) :
    sout0_C_0 c i a1 h1 a2 h2 a3 h3 a4 h4 hc hd x w s = k0_pay2 s x w := by
  unfold sout0_C_0
  rw [View.read_writes_eq_canon _ _ _ (scover0_C_0 c i a1 h1 a2 h2 a3 h3 a4 h4 hc hd x w s)]
  unfold kernelRun0_C
  dsimp only
  sl_unfold_words
  rw [View.canon_unit_zero hz]
  simp only [View.readAt_eq_ld, h1.read_unread, h2.read_unread, h4.read_unread, View.ld_unit_zero (S := S1024x1408) hz, View.ld_unit_zero (S := S1024x1024) hz, View.ld_unit_zero (S := S1408x1024) hz]

theorem out_C (c : Dev nD) (i : grid0.Coords) (a1 : Memref sig .tc .vmem S1024x1408 .bf16) (h1 : a1.IsWhole) (a2 : Memref sig .tc .vmem S1024x1024 .bf16) (h2 : a2.IsWhole)
    (a3 : Memref sig .tc .vmem S1408x1024 .f32) (h3 : a3.IsWhole) (a4 : Memref sig .tc .vmem S1408x1024 .f32) (h4 : a4.IsWhole) (hc : ¬cond0_0 i) (hd : cond0_1 i)
    (x : Vec F S1024x1408 .bf16) (w : Vec F S1024x1024 .bf16) (s : Vec F S1408x1024 .f32) :
    out0_C_2 c i a1 h1 a2 h2 a3 h3 a4 h4 hc hd x w s = k0_pay2 s x w := by
  unfold out0_C_2
  rw [View.read_writes_eq_canon _ _ _ (cover0_C_2 c i a1 h1 a2 h2 a3 h3 a4 h4 hc hd x w s)]
  unfold kernelRun0_C
  dsimp only
  sl_unfold_words
  rw [View.canon_unit_zero hz, View.readCov_unit_zero (S := S1408x1024) _ hz]
  simp only [View.readAt_eq_ld, h1.read_unread, h2.read_unread, h4.read_unread, View.ld_unit_zero (S := S1024x1408) hz, View.ld_unit_zero (S := S1024x1024) hz, View.ld_unit_zero (S := S1408x1024) hz]

end body

/-- The product of the arrays, over the tokens. -/
abbrev product (x : Vec Ideal S8192x5632 .bf16) (w : Vec Ideal S8192x2048 .bf16) : Vec Ideal S5632x2048 .f32 := fun i =>
  ∑ l, x (ix2 l (i 0)) * w (ix2 l (i 1))

theorem pay1 (j : S1408x1024.Idx) : k0_pay1 (F := Ideal) j = 0 := by
  pointwise [k0_pay1]

theorem pay2 (s : Vec Ideal S1408x1024 .f32) (x : Vec Ideal S1024x1408 .bf16) (w : Vec Ideal S1024x1024 .bf16) (r : Fin 1408) (k : Fin 1024) :
    k0_pay2 s x w (ix2 r k) = s (ix2 r k) + ∑ l, x (ix2 l r) * w (ix2 l k) := by
  pointwise [k0_pay2]

variable (m : (ℓ : Loc nD τ sig) → Buf (Elt Ideal) ℓ) (ρ : Dev nD → PrngReg)

/-- The arguments. -/
abbrev X (c : Dev nD) : Vec Ideal S8192x5632 .bf16 := m ((c.tc : Thread nD τ).loc main_arg0)
abbrev W (c : Dev nD) : Vec Ideal S8192x2048 .bf16 := m ((c.tc : Thread nD τ).loc main_arg1)

theorem lt_N (t : Fin cfg0.N) : t.val < 64 := lt_of_lt_of_eq t.isLt N_0

theorem coords (t : Fin grid0.N) : (grid0.coords t 0).val = t.val / 16 ∧ (grid0.coords t 1).val = t.val / 8 % 2 ∧ (grid0.coords t 2).val = t.val % 8 := by
  have : t.val < 64 := lt_N t
  have e0 : (grid0.coords t 0).val = t.val / 16 % 4 := Pipeline.Grid.coords_val t 0 (by decide) rfl
  have e1 : (grid0.coords t 1).val = t.val / 8 % 2 := Pipeline.Grid.coords_val t 1 (by decide) rfl
  have e2 : (grid0.coords t 2).val = t.val / 1 % 8 := Pipeline.Grid.coords_val t 2 (by decide) rfl
  exact ⟨e0.trans (by omega), e1, e2.trans (by omega)⟩

/-- Row r and column k of the block of a point, and the l-th token it adds, among all; by the number of the point's block. -/
theorem row_lt (n : ℕ) (hn : n < 64) (r : Fin 1408) : 1408 * (n / 8 / 2) + r.val < 5632 := by have := r.isLt; omega
theorem col_lt (n : ℕ) (k : Fin 1024) : 1024 * (n / 8 % 2) + k.val < 2048 := by have := k.isLt; omega
theorem mid_lt (n : ℕ) (l : Fin 1024) : 1024 * (n % 8) + l.val < 8192 := by have := l.isLt; omega
abbrev row (t : Fin cfg0.N) (r : Fin 1408) : Fin 5632 := ⟨1408 * (t.val / 8 / 2) + r.val, row_lt _ (lt_N t) r⟩
abbrev col (t : Fin cfg0.N) (k : Fin 1024) : Fin 2048 := ⟨1024 * (t.val / 8 % 2) + k.val, col_lt _ k⟩
abbrev mid (t : Fin cfg0.N) (l : Fin 1024) : Fin 8192 := ⟨1024 * (t.val % 8) + l.val, mid_lt _ l⟩

theorem index_x (t : Fin cfg0.N) : cc0_transform_0 (grid0.coords t) = ![t.val % 8, t.val / 16] := by
  have := lt_N t
  unfold cc0_transform_0
  dsimp only
  rw [(coords t).2.2, (coords t).1, Cert.Blocks.word_eq _ (by omega), Cert.Blocks.word_eq _ (by omega)]
theorem index_w (t : Fin cfg0.N) : cc0_transform_1 (grid0.coords t) = ![t.val % 8, t.val / 8 % 2] := by
  have := lt_N t
  unfold cc0_transform_1
  dsimp only
  rw [(coords t).2.1, (coords t).2.2, Cert.Blocks.word_eq _ (by omega), Cert.Blocks.word_eq _ (by omega)]
theorem index_o (t : Fin cfg0.N) : cc0_transform_2 (grid0.coords t) = ![t.val / 16, t.val / 8 % 2] := by
  have := lt_N t
  unfold cc0_transform_2
  dsimp only
  rw [(coords t).1, (coords t).2.1, Cert.Blocks.word_eq _ (by omega), Cert.Blocks.word_eq _ (by omega)]

theorem in_x (t : Fin cfg0.N) (r : Fin 1408) (l : Fin 1024) : (((cfg0.win 0).blk t).view.emb (ix2 l r : S1024x1408.Idx) : S8192x5632.Idx) = ix2 (mid t l) (row t r) := by
  funext a; apply Fin.ext
  have h := index_x t
  match a with
  | ⟨0, _⟩ => show cc0_transform_0 (grid0.coords t) 0 * 1024 + 1 * l.val = 1024 * (t.val % 8) + l.val; rw [h]; show t.val % 8 * 1024 + 1 * l.val = _; omega
  | ⟨1, _⟩ => show cc0_transform_0 (grid0.coords t) 1 * 1408 + 1 * r.val = 1408 * (t.val / 8 / 2) + r.val; rw [h]; show t.val / 16 * 1408 + 1 * r.val = _; omega
theorem in_w (t : Fin cfg0.N) (l : Fin 1024) (k : Fin 1024) : (((cfg0.win 1).blk t).view.emb (ix2 l k : S1024x1024.Idx) : S8192x2048.Idx) = ix2 (mid t l) (col t k) := by
  funext a; apply Fin.ext
  have h := index_w t
  match a with
  | ⟨0, _⟩ => show cc0_transform_1 (grid0.coords t) 0 * 1024 + 1 * l.val = 1024 * (t.val % 8) + l.val; rw [h]; show t.val % 8 * 1024 + 1 * l.val = _; omega
  | ⟨1, _⟩ => show cc0_transform_1 (grid0.coords t) 1 * 1024 + 1 * k.val = 1024 * (t.val / 8 % 2) + k.val; rw [h]; show t.val / 8 % 2 * 1024 + 1 * k.val = _; omega
theorem in_o (t : Fin cfg0.N) (r : Fin 1408) (k : Fin 1024) : (((cfg0.win 2).blk t).view.emb (ix2 r k : S1408x1024.Idx) : S5632x2048.Idx) = ix2 (row t r) (col t k) := by
  funext a; apply Fin.ext
  have h := index_o t
  match a with
  | ⟨0, _⟩ => show cc0_transform_2 (grid0.coords t) 0 * 1408 + 1 * r.val = 1408 * (t.val / 8 / 2) + r.val; rw [h]; show t.val / 16 * 1408 + 1 * r.val = _; omega
  | ⟨1, _⟩ => show cc0_transform_2 (grid0.coords t) 1 * 1024 + 1 * k.val = 1024 * (t.val / 8 % 2) + k.val; rw [h]; show t.val / 8 % 2 * 1024 + 1 * k.val = _; omega

theorem read_o (t : Fin cfg0.N) (v : Vec Ideal S5632x2048 .f32) (r : Fin 1408) (k : Fin 1024) :
    ((cfg0.win 2).blk t).view.read (Elt Ideal) v (ix2 r k : S1408x1024.Idx) = v (ix2 (row t r) (col t k)) := congrArg v (in_o t r k)

/-- The blocks of the arguments at a point. -/
abbrev blockX (c : Dev nD) (t : Fin cfg0.N) : Vec Ideal S1024x1408 .bf16 := iblk m c 0 t
abbrev blockW (c : Dev nD) (t : Fin cfg0.N) : Vec Ideal S1024x1024 .bf16 := iblk m c 1 t

/-- What token i adds to an entry of block b, by the token's number. -/
def term (c : Dev nD) (b : ℕ) (r : Fin 1408) (k : Fin 1024) (i : ℕ) : EReal :=
  if h : 1408 * (b / 2) + r.val < 5632 ∧ 1024 * (b % 2) + k.val < 2048 ∧ i < 8192 then X m c (ix2 ⟨i, h.2.2⟩ ⟨_, h.1⟩) * W m c (ix2 ⟨i, h.2.2⟩ ⟨_, h.2.1⟩) else 0

theorem block_sum (c : Dev nD) (t : Fin cfg0.N) (r : Fin 1408) (k : Fin 1024) :
    ∑ l, blockX m c t (ix2 l r) * blockW m c t (ix2 l k)
      = ∑ l ∈ Finset.range 1024, term m c (t.val / 8) r k (1024 * (t.val % 8) + l) := by
  rw [Finset.sum_range]
  refine Finset.sum_congr rfl fun l _ => ?_
  unfold term
  rw [dif_pos ⟨row_lt _ (lt_N t) r, col_lt _ k, mid_lt _ l⟩]
  exact congrArg₂ (fun a b : EReal => a * b) (congrArg (X m c) (in_x t r l)) (congrArg (W m c) (in_w t l k))

/-- After the last point of a block the kernel's array holds the sum over all tokens, -/
theorem sum_at (c : Dev nD) (r : Fin 1408) (k : Fin 1024) (t : Fin cfg0.N) (hl : t.val % 8 = 7) :
    (outsAt0 m c t.val t.isLt).2 (ix2 r k) = ∑ i ∈ Finset.range 8192, term m c (t.val / 8) r k i := by
  refine (Cert.Blocks.carried 8 1024 (fun b i => term m c b r k i) (fun n h => (outsAt0 m c n h).2 (ix2 r k)) ?_ ?_ t.val t.isLt).trans (by rw [hl])
  · intro n h h0
    rw [outsAt0_A m c ⟨n, h⟩ h0 (by dsimp only; omega)]
    dsimp only
    rw [sum_A, pay2, pay1, zero_add, block_sum]
  · intro n h h0
    have e : (outsAt0 m c (n + 1) h).2 = k0_pay2 (outsAt0 m c n (Nat.lt_of_succ_lt h)).2 (blockX m c ⟨n + 1, h⟩) (blockW m c ⟨n + 1, h⟩) := by
      by_cases h1 : (n + 1) % 8 = 7
      · rw [outsAt0_C m c ⟨n + 1, h⟩ h0 h1]; dsimp only; rw [sum_C]; rfl
      · rw [outsAt0_B m c ⟨n + 1, h⟩ h0 h1]; dsimp only; rw [sum_B]; rfl
    rw [e, pay2, block_sum]

/-- and after the last of a block so does the result's block. -/
theorem out_at (c : Dev nD) (t : Fin cfg0.N) (h : t.val % 8 = 7) : (outsAt0 m c t.val t.isLt).1 = (outsAt0 m c t.val t.isLt).2 := by
  rw [outsAt0_C m c t (by omega) h]
  dsimp only
  rw [out_C, sum_C]

/-- The last point of a block writes that block of the product, -/
theorem flushed (c : Dev nD) (t : Fin cfg0.N) (hf : (cfg0.win 2).flush t = true) :
    (dats m 0 c).flushed 2 t = ((cfg0.win 2).blk t).view.read (Elt Ideal) (product (X m c) (W m c)) := by
  have hl : t.val % 8 = 7 := (flush0_2 t).mp hf
  show (cfg0.win 2).cut (grid0.coords t) ((dats m 0 c).after 2 t) = _
  rw [after0_2, out_at m c t hl]
  refine funext fun (j : S1408x1024.Idx) => ?_
  obtain ⟨r, k, rfl⟩ : ∃ (r : Fin 1408) (k : Fin 1024), j = ix2 r k := ⟨j 0, j 1, by funext a; fin_cases a <;> rfl⟩
  refine ((sum_at m c r k t hl).trans ?_).trans (read_o t (product (X m c) (W m c)) r k).symm
  show _ = ∑ l, X m c (ix2 l (row t r)) * W m c (ix2 l (col t k))
  rw [Cert.Blocks.sum_rows]
  refine Finset.sum_congr rfl fun i hi => ?_
  have hi : i < 8192 := Finset.mem_range.mp hi
  unfold term
  rw [dif_pos ⟨row_lt _ (lt_N t) r, col_lt _ k, hi⟩, dif_pos hi]

/-- and the blocks are the whole array. -/
theorem covered (i : S5632x2048.Idx) : ∃ t : Fin cfg0.N, (cfg0.win 2).flush t = true ∧ i ∈ ((cfg0.win 2).blk t).view.set := by
  have hi0 : (i 0).val < 5632 := (i 0).isLt
  have hi1 : (i 1).val < 2048 := (i 1).isLt
  exact (Value.covered_iff2 i).2 (by omega)

/-- So every run ends with the product. -/
theorem run : θ_run defs (onTc (τ := τ) (main (F := Ideal))) ⟨m, fun _ => 0, ρ⟩ (fun r => ∀ c : Dev nD,
      r.2.mem ((c.tc : Thread nD τ).loc main_v0) = product (X m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((dats m 0 c).arrAt_eq_of_cover 2 _ (flushed m c) covered), (h c).2⟩)
    (Value.run_blocks m ρ)

theorem frame : Cert.quiescent_DownGrad := fun m g _ => Cert.DownGrad.Gen.frame (F := Bits) m g
theorem frame_ideal : Cert.quiescent_DownGradIdeal := fun m g _ => Cert.DownGradIdeal.Gen.frame (F := Ideal) m g
/-- The reference leaves its arguments as they were; it has no semaphores. -/
theorem frame_refIdeal : Cert.quiescent_DownGradRefIdeal := fun m g _ =>
  (θ_run (Cert.DownGradRefIdeal.defs (F := Ideal)) _ _).mono (fun _ h => ⟨fun c => (h c).2, sem_eq_zero_of_no_sems rfl _⟩)
    (Cert.DownGradRefIdeal.Value.run m g)

/-- The reference ends with the same product. -/
theorem ref_run (m : (ℓ : Loc nD τ Cert.DownGradRefIdeal.sig) → Buf (Elt Ideal) ℓ) :
    θ_run Cert.DownGradRefIdeal.defs (onTc (τ := τ) (Cert.DownGradRefIdeal.main (F := Ideal))) ⟨m, fun _ => 0, ρ⟩ (fun r => ∀ c : Dev nD,
      r.2.mem ((c.tc : Thread nD τ).loc Cert.DownGradRefIdeal.main_v1) = product (m ((c.tc : Thread nD τ).loc Cert.DownGradRefIdeal.main_arg0)) (m ((c.tc : Thread nD τ).loc Cert.DownGradRefIdeal.main_arg1))
      ∧ r.2.mem ((c.tc : Thread nD τ).loc Cert.DownGradRefIdeal.main_arg0) = m ((c.tc : Thread nD τ).loc Cert.DownGradRefIdeal.main_arg0)
      ∧ r.2.mem ((c.tc : Thread nD τ).loc Cert.DownGradRefIdeal.main_arg1) = m ((c.tc : Thread nD τ).loc Cert.DownGradRefIdeal.main_arg1)) :=
  (θ_run Cert.DownGradRefIdeal.defs _ _).mono (fun _ h c => ⟨(h c).1.trans (by
    refine funext fun (i : S5632x2048.Idx) => ?_
    obtain ⟨r, k, rfl⟩ : ∃ (r : Fin 5632) (k : Fin 2048), i = ix2 r k := ⟨i 0, i 1, by funext a; fin_cases a <;> rfl⟩
    pointwise
    rfl), (h c).2⟩) (Cert.DownGradRefIdeal.Value.run m ρ)

/-- On real numbers the kernel leaves the product of the reference. -/
theorem algebraic : Cert.algebraic_DownGradIdeal_DownGradRefIdeal := fun m g m' g' _ hm =>
  ⟨_, run m g, (θ_run (Cert.DownGradRefIdeal.defs (F := Ideal)) _ _).mono
    (fun _ h c => by
      have h := h c
      rw [(hm c).1, (hm c).2] at h ⊢
      exact h) (ref_run g' m')⟩

end Cert.DownGradIdeal.Layer

end
-- ==== Proof.UpGrad.lean ====
/- The gradient in the gate or the up projection: the product of the transposed normed array with the gradient of what came out.
   The kernel goes over the result in 2 by 4 blocks of 1024 by 1408, and adds each of them up over the 8192 tokens in 8 blocks
   of 1024, in an array of its own that begins at zero. -/
module

public import proofs.«01_k».proof.Defs
public import proofs.«01_k».proof.Proof.Blocks
public import proofs.«01_k».proof.Proof.Gen.UpGrad.Frame
public import proofs.«01_k».proof.Proof.Gen.UpGradIdeal.Value
public import proofs.«01_k».proof.Proof.Gen.UpGradRefIdeal.Run
public import Idealize.ShloMosaic.Lib.IdealHost
public import Idealize.ShloMosaic.Lib.Pointwise
public import Idealize.ShloMosaic.Lib.Quiescent

@[expose] public section

set_option Elab.async false

noncomputable section

namespace Cert.UpGradIdeal.Layer

open Cert.UpGradIdeal Cert.UpGradIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section body

variable {F : FTy → Type} [FloatOps F]

/-- The first point of a block stores the first product, added to zero, -/
theorem sum_A (c : Dev nD) (i : grid0.Coords) (a1 : Memref sig .tc .vmem S1024x1024 .bf16) (h1 : a1.IsWhole) (a2 : Memref sig .tc .vmem S1024x1408 .bf16) (h2 : a2.IsWhole)
    (a3 : Memref sig .tc .vmem S1024x1408 .f32) (h3 : a3.IsWhole) (a4 : Memref sig .tc .vmem S1024x1408 .f32) (h4 : a4.IsWhole) (hc : cond0_0 i) (hd : ¬cond0_1 i)
    (x : Vec F S1024x1024 .bf16) (w : Vec F S1024x1408 .bf16) :
    sout0_A_0 c i a1 h1 a2 h2 a3 h3 a4 h4 hc hd x w = k0_pay2 k0_pay1 x w := by
  unfold sout0_A_0
  rw [View.read_writes_eq_canon _ _ _ (scover0_A_0 c i a1 h1 a2 h2 a3 h3 a4 h4 hc hd x w)]
  unfold kernelRun0_A
  dsimp only
  sl_unfold_words
  rw [View.canon_cons_unit_zero (S := S1024x1408) hz, View.readCov_unit_zero (S := S1024x1408) _ hz]
  simp only [View.readAt_eq_ld, h1.read_unread, h2.read_unread, View.ld_unit_zero (S := S1024x1024) hz, View.ld_unit_zero (S := S1024x1408) hz]

/-- the next ones the product added to what the point before stored, -/
theorem sum_B (c : Dev nD) (i : grid0.Coords) (a1 : Memref sig .tc .vmem S1024x1024 .bf16) (h1 : a1.IsWhole) (a2 : Memref sig .tc .vmem S1024x1408 .bf16) (h2 : a2.IsWhole)
    (a3 : Memref sig .tc .vmem S1024x1408 .f32) (h3 : a3.IsWhole) (a4 : Memref sig .tc .vmem S1024x1408 .f32) (h4 : a4.IsWhole) (hc : ¬cond0_0 i) (hd : ¬cond0_1 i)
    (x : Vec F S1024x1024 .bf16) (w : Vec F S1024x1408 .bf16) (s : Vec F S1024x1408 .f32) :
    sout0_B_0 c i a1 h1 a2 h2 a3 h3 a4 h4 hc hd x w s = k0_pay2 s x w := by
  unfold sout0_B_0
  rw [View.read_writes_eq_canon _ _ _ (scover0_B_0 c i a1 h1 a2 h2 a3 h3 a4 h4 hc hd x w s)]
  unfold kernelRun0_B
  dsimp only
  sl_unfold_words
  rw [View.canon_unit_zero hz]
  simp only [View.readAt_eq_ld, h1.read_unread, h2.read_unread, h4.read_unread, View.ld_unit_zero (S := S1024x1024) hz, View.ld_unit_zero (S := S1024x1408) hz]

/-- and so the last, which stores it in the result too. -/
theorem sum_C (c : Dev nD) (i : grid0.Coords) (a1 : Memref sig .tc .vmem S1024x1024 .bf16) (h1 : a1.IsWhole) (a2 : Memref sig .tc .vmem S1024x1408 .bf16) (h2 : a2.IsWhole)
    (a3 : Memref sig .tc .vmem S1024x1408 .f32) (h3 : a3.IsWhole) (a4 : Memref sig .tc .vmem S1024x1408 .f32) (h4 : a4.IsWhole) (hc : ¬cond0_0 i) (hd : cond0_1 i)
    (x : Vec F S1024x1024 .bf16) (w : Vec F S1024x1408 .bf16) (s : Vec F S1024x1408 .f32) :
    sout0_C_0 c i a1 h1 a2 h2 a3 h3 a4 h4 hc hd x w s = k0_pay2 s x w := by
  unfold sout0_C_0
  rw [View.read_writes_eq_canon _ _ _ (scover0_C_0 c i a1 h1 a2 h2 a3 h3 a4 h4 hc hd x w s)]
  unfold kernelRun0_C
  dsimp only
  sl_unfold_words
  rw [View.canon_unit_zero hz]
  simp only [View.readAt_eq_ld, h1.read_unread, h2.read_unread, h4.read_unread, View.ld_unit_zero (S := S1024x1024) hz, View.ld_unit_zero (S := S1024x1408) hz]

theorem out_C (c : Dev nD) (i : grid0.Coords) (a1 : Memref sig .tc .vmem S1024x1024 .bf16) (h1 : a1.IsWhole) (a2 : Memref sig .tc .vmem S1024x1408 .bf16) (h2 : a2.IsWhole)
    (a3 : Memref sig .tc .vmem S1024x1408 .f32) (h3 : a3.IsWhole) (a4 : Memref sig .tc .vmem S1024x1408 .f32) (h4 : a4.IsWhole) (hc : ¬cond0_0 i) (hd : cond0_1 i)
    (x : Vec F S1024x1024 .bf16) (w : Vec F S1024x1408 .bf16) (s : Vec F S1024x1408 .f32) :
    out0_C_2 c i a1 h1 a2 h2 a3 h3 a4 h4 hc hd x w s = k0_pay2 s x w := by
  unfold out0_C_2
  rw [View.read_writes_eq_canon _ _ _ (cover0_C_2 c i a1 h1 a2 h2 a3 h3 a4 h4 hc hd x w s)]
  unfold kernelRun0_C
  dsimp only
  sl_unfold_words
  rw [View.canon_unit_zero hz, View.readCov_unit_zero (S := S1024x1408) _ hz]
  simp only [View.readAt_eq_ld, h1.read_unread, h2.read_unread, h4.read_unread, View.ld_unit_zero (S := S1024x1024) hz, View.ld_unit_zero (S := S1024x1408) hz]

end body

/-- The product of the arrays, over the tokens. -/
abbrev product (x : Vec Ideal S8192x2048 .bf16) (w : Vec Ideal S8192x5632 .bf16) : Vec Ideal S2048x5632 .f32 := fun i =>
  ∑ l, x (ix2 l (i 0)) * w (ix2 l (i 1))

theorem pay1 (j : S1024x1408.Idx) : k0_pay1 (F := Ideal) j = 0 := by
  pointwise [k0_pay1]

theorem pay2 (s : Vec Ideal S1024x1408 .f32) (x : Vec Ideal S1024x1024 .bf16) (w : Vec Ideal S1024x1408 .bf16) (r : Fin 1024) (k : Fin 1408) :
    k0_pay2 s x w (ix2 r k) = s (ix2 r k) + ∑ l, x (ix2 l r) * w (ix2 l k) := by
  pointwise [k0_pay2]

variable (m : (ℓ : Loc nD τ sig) → Buf (Elt Ideal) ℓ) (ρ : Dev nD → PrngReg)

/-- The arguments. -/
abbrev X (c : Dev nD) : Vec Ideal S8192x2048 .bf16 := m ((c.tc : Thread nD τ).loc main_arg0)
abbrev W (c : Dev nD) : Vec Ideal S8192x5632 .bf16 := m ((c.tc : Thread nD τ).loc main_arg1)

theorem lt_N (t : Fin cfg0.N) : t.val < 64 := lt_of_lt_of_eq t.isLt N_0

theorem coords (t : Fin grid0.N) : (grid0.coords t 0).val = t.val / 32 ∧ (grid0.coords t 1).val = t.val / 8 % 4 ∧ (grid0.coords t 2).val = t.val % 8 := by
  have : t.val < 64 := lt_N t
  have e0 : (grid0.coords t 0).val = t.val / 32 % 2 := Pipeline.Grid.coords_val t 0 (by decide) rfl
  have e1 : (grid0.coords t 1).val = t.val / 8 % 4 := Pipeline.Grid.coords_val t 1 (by decide) rfl
  have e2 : (grid0.coords t 2).val = t.val / 1 % 8 := Pipeline.Grid.coords_val t 2 (by decide) rfl
  exact ⟨e0.trans (by omega), e1, e2.trans (by omega)⟩

/-- Row r and column k of the block of a point, and the l-th token it adds, among all; by the number of the point's block. -/
theorem row_lt (n : ℕ) (hn : n < 64) (r : Fin 1024) : 1024 * (n / 8 / 4) + r.val < 2048 := by have := r.isLt; omega
theorem col_lt (n : ℕ) (k : Fin 1408) : 1408 * (n / 8 % 4) + k.val < 5632 := by have := k.isLt; omega
theorem mid_lt (n : ℕ) (l : Fin 1024) : 1024 * (n % 8) + l.val < 8192 := by have := l.isLt; omega
abbrev row (t : Fin cfg0.N) (r : Fin 1024) : Fin 2048 := ⟨1024 * (t.val / 8 / 4) + r.val, row_lt _ (lt_N t) r⟩
abbrev col (t : Fin cfg0.N) (k : Fin 1408) : Fin 5632 := ⟨1408 * (t.val / 8 % 4) + k.val, col_lt _ k⟩
abbrev mid (t : Fin cfg0.N) (l : Fin 1024) : Fin 8192 := ⟨1024 * (t.val % 8) + l.val, mid_lt _ l⟩

theorem index_x (t : Fin cfg0.N) : cc0_transform_0 (grid0.coords t) = ![t.val % 8, t.val / 32] := by
  have := lt_N t
  unfold cc0_transform_0
  dsimp only
  rw [(coords t).2.2, (coords t).1, Cert.Blocks.word_eq _ (by omega), Cert.Blocks.word_eq _ (by omega)]
theorem index_w (t : Fin cfg0.N) : cc0_transform_1 (grid0.coords t) = ![t.val % 8, t.val / 8 % 4] := by
  have := lt_N t
  unfold cc0_transform_1
  dsimp only
  rw [(coords t).2.1, (coords t).2.2, Cert.Blocks.word_eq _ (by omega), Cert.Blocks.word_eq _ (by omega)]
theorem index_o (t : Fin cfg0.N) : cc0_transform_2 (grid0.coords t) = ![t.val / 32, t.val / 8 % 4] := by
  have := lt_N t
  unfold cc0_transform_2
  dsimp only
  rw [(coords t).1, (coords t).2.1, Cert.Blocks.word_eq _ (by omega), Cert.Blocks.word_eq _ (by omega)]

theorem in_x (t : Fin cfg0.N) (r : Fin 1024) (l : Fin 1024) : (((cfg0.win 0).blk t).view.emb (ix2 l r : S1024x1024.Idx) : S8192x2048.Idx) = ix2 (mid t l) (row t r) := by
  funext a; apply Fin.ext
  have h := index_x t
  match a with
  | ⟨0, _⟩ => show cc0_transform_0 (grid0.coords t) 0 * 1024 + 1 * l.val = 1024 * (t.val % 8) + l.val; rw [h]; show t.val % 8 * 1024 + 1 * l.val = _; omega
  | ⟨1, _⟩ => show cc0_transform_0 (grid0.coords t) 1 * 1024 + 1 * r.val = 1024 * (t.val / 8 / 4) + r.val; rw [h]; show t.val / 32 * 1024 + 1 * r.val = _; omega
theorem in_w (t : Fin cfg0.N) (l : Fin 1024) (k : Fin 1408) : (((cfg0.win 1).blk t).view.emb (ix2 l k : S1024x1408.Idx) : S8192x5632.Idx) = ix2 (mid t l) (col t k) := by
  funext a; apply Fin.ext
  have h := index_w t
  match a with
  | ⟨0, _⟩ => show cc0_transform_1 (grid0.coords t) 0 * 1024 + 1 * l.val = 1024 * (t.val % 8) + l.val; rw [h]; show t.val % 8 * 1024 + 1 * l.val = _; omega
  | ⟨1, _⟩ => show cc0_transform_1 (grid0.coords t) 1 * 1408 + 1 * k.val = 1408 * (t.val / 8 % 4) + k.val; rw [h]; show t.val / 8 % 4 * 1408 + 1 * k.val = _; omega
theorem in_o (t : Fin cfg0.N) (r : Fin 1024) (k : Fin 1408) : (((cfg0.win 2).blk t).view.emb (ix2 r k : S1024x1408.Idx) : S2048x5632.Idx) = ix2 (row t r) (col t k) := by
  funext a; apply Fin.ext
  have h := index_o t
  match a with
  | ⟨0, _⟩ => show cc0_transform_2 (grid0.coords t) 0 * 1024 + 1 * r.val = 1024 * (t.val / 8 / 4) + r.val; rw [h]; show t.val / 32 * 1024 + 1 * r.val = _; omega
  | ⟨1, _⟩ => show cc0_transform_2 (grid0.coords t) 1 * 1408 + 1 * k.val = 1408 * (t.val / 8 % 4) + k.val; rw [h]; show t.val / 8 % 4 * 1408 + 1 * k.val = _; omega

theorem read_o (t : Fin cfg0.N) (v : Vec Ideal S2048x5632 .f32) (r : Fin 1024) (k : Fin 1408) :
    ((cfg0.win 2).blk t).view.read (Elt Ideal) v (ix2 r k : S1024x1408.Idx) = v (ix2 (row t r) (col t k)) := congrArg v (in_o t r k)

/-- The blocks of the arguments at a point. -/
abbrev blockX (c : Dev nD) (t : Fin cfg0.N) : Vec Ideal S1024x1024 .bf16 := iblk m c 0 t
abbrev blockW (c : Dev nD) (t : Fin cfg0.N) : Vec Ideal S1024x1408 .bf16 := iblk m c 1 t

/-- What token i adds to an entry of block b, by the token's number. -/
def term (c : Dev nD) (b : ℕ) (r : Fin 1024) (k : Fin 1408) (i : ℕ) : EReal :=
  if h : 1024 * (b / 4) + r.val < 2048 ∧ 1408 * (b % 4) + k.val < 5632 ∧ i < 8192 then X m c (ix2 ⟨i, h.2.2⟩ ⟨_, h.1⟩) * W m c (ix2 ⟨i, h.2.2⟩ ⟨_, h.2.1⟩) else 0

theorem block_sum (c : Dev nD) (t : Fin cfg0.N) (r : Fin 1024) (k : Fin 1408) :
    ∑ l, blockX m c t (ix2 l r) * blockW m c t (ix2 l k)
      = ∑ l ∈ Finset.range 1024, term m c (t.val / 8) r k (1024 * (t.val % 8) + l) := by
  rw [Finset.sum_range]
  refine Finset.sum_congr rfl fun l _ => ?_
  unfold term
  rw [dif_pos ⟨row_lt _ (lt_N t) r, col_lt _ k, mid_lt _ l⟩]
  exact congrArg₂ (fun a b : EReal => a * b) (congrArg (X m c) (in_x t r l)) (congrArg (W m c) (in_w t l k))

/-- After the last point of a block the kernel's array holds the sum over all tokens, -/
theorem sum_at (c : Dev nD) (r : Fin 1024) (k : Fin 1408) (t : Fin cfg0.N) (hl : t.val % 8 = 7) :
    (outsAt0 m c t.val t.isLt).2 (ix2 r k) = ∑ i ∈ Finset.range 8192, term m c (t.val / 8) r k i := by
  refine (Cert.Blocks.carried 8 1024 (fun b i => term m c b r k i) (fun n h => (outsAt0 m c n h).2 (ix2 r k)) ?_ ?_ t.val t.isLt).trans (by rw [hl])
  · intro n h h0
    rw [outsAt0_A m c ⟨n, h⟩ h0 (by dsimp only; omega)]
    dsimp only
    rw [sum_A, pay2, pay1, zero_add, block_sum]
  · intro n h h0
    have e : (outsAt0 m c (n + 1) h).2 = k0_pay2 (outsAt0 m c n (Nat.lt_of_succ_lt h)).2 (blockX m c ⟨n + 1, h⟩) (blockW m c ⟨n + 1, h⟩) := by
      by_cases h1 : (n + 1) % 8 = 7
      · rw [outsAt0_C m c ⟨n + 1, h⟩ h0 h1]; dsimp only; rw [sum_C]; rfl
      · rw [outsAt0_B m c ⟨n + 1, h⟩ h0 h1]; dsimp only; rw [sum_B]; rfl
    rw [e, pay2, block_sum]

/-- and after the last of a block so does the result's block. -/
theorem out_at (c : Dev nD) (t : Fin cfg0.N) (h : t.val % 8 = 7) : (outsAt0 m c t.val t.isLt).1 = (outsAt0 m c t.val t.isLt).2 := by
  rw [outsAt0_C m c t (by omega) h]
  dsimp only
  rw [out_C, sum_C]

/-- The last point of a block writes that block of the product, -/
theorem flushed (c : Dev nD) (t : Fin cfg0.N) (hf : (cfg0.win 2).flush t = true) :
    (dats m 0 c).flushed 2 t = ((cfg0.win 2).blk t).view.read (Elt Ideal) (product (X m c) (W m c)) := by
  have hl : t.val % 8 = 7 := (flush0_2 t).mp hf
  show (cfg0.win 2).cut (grid0.coords t) ((dats m 0 c).after 2 t) = _
  rw [after0_2, out_at m c t hl]
  refine funext fun (j : S1024x1408.Idx) => ?_
  obtain ⟨r, k, rfl⟩ : ∃ (r : Fin 1024) (k : Fin 1408), j = ix2 r k := ⟨j 0, j 1, by funext a; fin_cases a <;> rfl⟩
  refine ((sum_at m c r k t hl).trans ?_).trans (read_o t (product (X m c) (W m c)) r k).symm
  show _ = ∑ l, X m c (ix2 l (row t r)) * W m c (ix2 l (col t k))
  rw [Cert.Blocks.sum_rows]
  refine Finset.sum_congr rfl fun i hi => ?_
  have hi : i < 8192 := Finset.mem_range.mp hi
  unfold term
  rw [dif_pos ⟨row_lt _ (lt_N t) r, col_lt _ k, hi⟩, dif_pos hi]

/-- and the blocks are the whole array. -/
theorem covered (i : S2048x5632.Idx) : ∃ t : Fin cfg0.N, (cfg0.win 2).flush t = true ∧ i ∈ ((cfg0.win 2).blk t).view.set := by
  have hi0 : (i 0).val < 2048 := (i 0).isLt
  have hi1 : (i 1).val < 5632 := (i 1).isLt
  exact (Value.covered_iff2 i).2 (by omega)

/-- So every run ends with the product. -/
theorem run : θ_run defs (onTc (τ := τ) (main (F := Ideal))) ⟨m, fun _ => 0, ρ⟩ (fun r => ∀ c : Dev nD,
      r.2.mem ((c.tc : Thread nD τ).loc main_v0) = product (X m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((dats m 0 c).arrAt_eq_of_cover 2 _ (flushed m c) covered), (h c).2⟩)
    (Value.run_blocks m ρ)

theorem frame : Cert.quiescent_UpGrad := fun m g _ => Cert.UpGrad.Gen.frame (F := Bits) m g
theorem frame_ideal : Cert.quiescent_UpGradIdeal := fun m g _ => Cert.UpGradIdeal.Gen.frame (F := Ideal) m g
/-- The reference leaves its arguments as they were; it has no semaphores. -/
theorem frame_refIdeal : Cert.quiescent_UpGradRefIdeal := fun m g _ =>
  (θ_run (Cert.UpGradRefIdeal.defs (F := Ideal)) _ _).mono (fun _ h => ⟨fun c => (h c).2, sem_eq_zero_of_no_sems rfl _⟩)
    (Cert.UpGradRefIdeal.Value.run m g)

/-- The reference ends with the same product. -/
theorem ref_run (m : (ℓ : Loc nD τ Cert.UpGradRefIdeal.sig) → Buf (Elt Ideal) ℓ) :
    θ_run Cert.UpGradRefIdeal.defs (onTc (τ := τ) (Cert.UpGradRefIdeal.main (F := Ideal))) ⟨m, fun _ => 0, ρ⟩ (fun r => ∀ c : Dev nD,
      r.2.mem ((c.tc : Thread nD τ).loc Cert.UpGradRefIdeal.main_v1) = product (m ((c.tc : Thread nD τ).loc Cert.UpGradRefIdeal.main_arg0)) (m ((c.tc : Thread nD τ).loc Cert.UpGradRefIdeal.main_arg1))
      ∧ r.2.mem ((c.tc : Thread nD τ).loc Cert.UpGradRefIdeal.main_arg0) = m ((c.tc : Thread nD τ).loc Cert.UpGradRefIdeal.main_arg0)
      ∧ r.2.mem ((c.tc : Thread nD τ).loc Cert.UpGradRefIdeal.main_arg1) = m ((c.tc : Thread nD τ).loc Cert.UpGradRefIdeal.main_arg1)) :=
  (θ_run Cert.UpGradRefIdeal.defs _ _).mono (fun _ h c => ⟨(h c).1.trans (by
    refine funext fun (i : S2048x5632.Idx) => ?_
    obtain ⟨r, k, rfl⟩ : ∃ (r : Fin 2048) (k : Fin 5632), i = ix2 r k := ⟨i 0, i 1, by funext a; fin_cases a <;> rfl⟩
    pointwise
    rfl), (h c).2⟩) (Cert.UpGradRefIdeal.Value.run m ρ)

/-- On real numbers the kernel leaves the product of the reference. -/
theorem algebraic : Cert.algebraic_UpGradIdeal_UpGradRefIdeal := fun m g m' g' _ hm =>
  ⟨_, run m g, (θ_run (Cert.UpGradRefIdeal.defs (F := Ideal)) _ _).mono
    (fun _ h c => by
      have h := h c
      rw [(hm c).1, (hm c).2] at h ⊢
      exact h) (ref_run g' m')⟩

end Cert.UpGradIdeal.Layer

end
-- ==== Proof.FfnGrad.lean ====
/- The gradient through the two products of a feed-forward layer's first half: the product of the gate's gradient with the
   transposed gate projection plus that of the other's with the transposed up projection. The kernel goes over the result in 8
   by 2 blocks of 1024 by 1024, and adds each of them up over the 5632 columns of the two gradients in 11 blocks of 512, both
   products at once, in an array of its own that begins at zero. -/
module

public import proofs.«01_k».proof.Defs
public import proofs.«01_k».proof.Proof.Blocks
public import proofs.«01_k».proof.Proof.Gen.FfnGrad.Frame
public import proofs.«01_k».proof.Proof.Gen.FfnGradIdeal.Value
public import proofs.«01_k».proof.Proof.Gen.FfnGradRefIdeal.Run
public import Idealize.ShloMosaic.Lib.IdealHost
public import Idealize.ShloMosaic.Lib.Pointwise
public import Idealize.ShloMosaic.Lib.Quiescent

@[expose] public section

set_option Elab.async false

noncomputable section

namespace Cert.FfnGradIdeal.Layer

open Cert.FfnGradIdeal Cert.FfnGradIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section body

variable {F : FTy → Type} [FloatOps F]

/-- The first point of a block stores the first products, added to zero, -/
theorem sum_A (c : Dev nD) (i : grid0.Coords) (a1 : Memref sig .tc .vmem S1024x512 .bf16) (h1 : a1.IsWhole) (a2 : Memref sig .tc .vmem S1024x512 .bf16) (h2 : a2.IsWhole)
    (a3 : Memref sig .tc .vmem S1024x512 .bf16) (h3 : a3.IsWhole) (a4 : Memref sig .tc .vmem S1024x512 .bf16) (h4 : a4.IsWhole)
    (a5 : Memref sig .tc .vmem S1024x1024 .f32) (h5 : a5.IsWhole) (a6 : Memref sig .tc .vmem S1024x1024 .f32) (h6 : a6.IsWhole) (hc : cond0_0 i) (hd : ¬cond0_1 i)
    (x w y v : Vec F S1024x512 .bf16) :
    sout0_A_0 c i a1 h1 a2 h2 a3 h3 a4 h4 a5 h5 a6 h6 hc hd x w y v = k0_pay2 k0_pay1 x w y v := by
  unfold sout0_A_0
  rw [View.read_writes_eq_canon _ _ _ (scover0_A_0 c i a1 h1 a2 h2 a3 h3 a4 h4 a5 h5 a6 h6 hc hd x w y v)]
  unfold kernelRun0_A
  dsimp only
  sl_unfold_words
  rw [View.canon_cons_unit_zero (S := S1024x1024) hz, View.readCov_unit_zero (S := S1024x1024) _ hz]
  simp only [View.readAt_eq_ld, h1.read_unread, h2.read_unread, h3.read_unread, h4.read_unread, View.ld_unit_zero (S := S1024x512) hz, View.ld_unit_zero (S := S1024x1024) hz]

/-- the next ones the products added to what the point before stored, -/
theorem sum_B (c : Dev nD) (i : grid0.Coords) (a1 : Memref sig .tc .vmem S1024x512 .bf16) (h1 : a1.IsWhole) (a2 : Memref sig .tc .vmem S1024x512 .bf16) (h2 : a2.IsWhole)
    (a3 : Memref sig .tc .vmem S1024x512 .bf16) (h3 : a3.IsWhole) (a4 : Memref sig .tc .vmem S1024x512 .bf16) (h4 : a4.IsWhole)
    (a5 : Memref sig .tc .vmem S1024x1024 .f32) (h5 : a5.IsWhole) (a6 : Memref sig .tc .vmem S1024x1024 .f32) (h6 : a6.IsWhole) (hc : ¬cond0_0 i) (hd : ¬cond0_1 i)
    (x w y v : Vec F S1024x512 .bf16) (s : Vec F S1024x1024 .f32) :
    sout0_B_0 c i a1 h1 a2 h2 a3 h3 a4 h4 a5 h5 a6 h6 hc hd x w y v s = k0_pay2 s x w y v := by
  unfold sout0_B_0
  rw [View.read_writes_eq_canon _ _ _ (scover0_B_0 c i a1 h1 a2 h2 a3 h3 a4 h4 a5 h5 a6 h6 hc hd x w y v s)]
  unfold kernelRun0_B
  dsimp only
  sl_unfold_words
  rw [View.canon_unit_zero hz]
  simp only [View.readAt_eq_ld, h1.read_unread, h2.read_unread, h3.read_unread, h4.read_unread, h6.read_unread, View.ld_unit_zero (S := S1024x512) hz, View.ld_unit_zero (S := S1024x1024) hz]

/-- and so the last, which stores it in the result too. -/
theorem sum_C (c : Dev nD) (i : grid0.Coords) (a1 : Memref sig .tc .vmem S1024x512 .bf16) (h1 : a1.IsWhole) (a2 : Memref sig .tc .vmem S1024x512 .bf16) (h2 : a2.IsWhole)
    (a3 : Memref sig .tc .vmem S1024x512 .bf16) (h3 : a3.IsWhole) (a4 : Memref sig .tc .vmem S1024x512 .bf16) (h4 : a4.IsWhole)
    (a5 : Memref sig .tc .vmem S1024x1024 .f32) (h5 : a5.IsWhole) (a6 : Memref sig .tc .vmem S1024x1024 .f32) (h6 : a6.IsWhole) (hc : ¬cond0_0 i) (hd : cond0_1 i)
    (x w y v : Vec F S1024x512 .bf16) (s : Vec F S1024x1024 .f32) :
    sout0_C_0 c i a1 h1 a2 h2 a3 h3 a4 h4 a5 h5 a6 h6 hc hd x w y v s = k0_pay2 s x w y v := by
  unfold sout0_C_0
  rw [View.read_writes_eq_canon _ _ _ (scover0_C_0 c i a1 h1 a2 h2 a3 h3 a4 h4 a5 h5 a6 h6 hc hd x w y v s)]
  unfold kernelRun0_C
  dsimp only
  sl_unfold_words
  rw [View.canon_unit_zero hz]
  simp only [View.readAt_eq_ld, h1.read_unread, h2.read_unread, h3.read_unread, h4.read_unread, h6.read_unread, View.ld_unit_zero (S := S1024x512) hz, View.ld_unit_zero (S := S1024x1024) hz]

theorem out_C (c : Dev nD) (i : grid0.Coords) (a1 : Memref sig .tc .vmem S1024x512 .bf16) (h1 : a1.IsWhole) (a2 : Memref sig .tc .vmem S1024x512 .bf16) (h2 : a2.IsWhole)
    (a3 : Memref sig .tc .vmem S1024x512 .bf16) (h3 : a3.IsWhole) (a4 : Memref sig .tc .vmem S1024x512 .bf16) (h4 : a4.IsWhole)
    (a5 : Memref sig .tc .vmem S1024x1024 .f32) (h5 : a5.IsWhole) (a6 : Memref sig .tc .vmem S1024x1024 .f32) (h6 : a6.IsWhole) (hc : ¬cond0_0 i) (hd : cond0_1 i)
    (x w y v : Vec F S1024x512 .bf16) (s : Vec F S1024x1024 .f32) :
    out0_C_4 c i a1 h1 a2 h2 a3 h3 a4 h4 a5 h5 a6 h6 hc hd x w y v s = k0_pay2 s x w y v := by
  unfold out0_C_4
  rw [View.read_writes_eq_canon _ _ _ (cover0_C_4 c i a1 h1 a2 h2 a3 h3 a4 h4 a5 h5 a6 h6 hc hd x w y v s)]
  unfold kernelRun0_C
  dsimp only
  sl_unfold_words
  rw [View.canon_unit_zero hz, View.readCov_unit_zero (S := S1024x1024) _ hz]
  simp only [View.readAt_eq_ld, h1.read_unread, h2.read_unread, h3.read_unread, h4.read_unread, h6.read_unread, View.ld_unit_zero (S := S1024x512) hz, View.ld_unit_zero (S := S1024x1024) hz]

end body

/-- The product of the first arrays plus that of the others, over the columns of both. -/
abbrev products (x : Vec Ideal S8192x5632 .bf16) (w : Vec Ideal S2048x5632 .bf16) (y : Vec Ideal S8192x5632 .bf16) (v : Vec Ideal S2048x5632 .bf16) : Vec Ideal S8192x2048 .f32 := fun i =>
  ∑ l, x (ix2 (i 0) l) * w (ix2 (i 1) l) + ∑ l, y (ix2 (i 0) l) * v (ix2 (i 1) l)

theorem pay1 (j : S1024x1024.Idx) : k0_pay1 (F := Ideal) j = 0 := by
  pointwise [k0_pay1]

theorem pay2 (s : Vec Ideal S1024x1024 .f32) (x w y v : Vec Ideal S1024x512 .bf16) (r k : Fin 1024) :
    k0_pay2 s x w y v (ix2 r k) = s (ix2 r k) + (∑ l, x (ix2 r l) * w (ix2 k l) + ∑ l, y (ix2 r l) * v (ix2 k l)) := by
  pointwise [k0_pay2]

variable (m : (ℓ : Loc nD τ sig) → Buf (Elt Ideal) ℓ) (ρ : Dev nD → PrngReg)

/-- The arguments. -/
abbrev X (c : Dev nD) : Vec Ideal S8192x5632 .bf16 := m ((c.tc : Thread nD τ).loc main_arg0)
abbrev W (c : Dev nD) : Vec Ideal S2048x5632 .bf16 := m ((c.tc : Thread nD τ).loc main_arg1)
abbrev Y (c : Dev nD) : Vec Ideal S8192x5632 .bf16 := m ((c.tc : Thread nD τ).loc main_arg2)
abbrev V' (c : Dev nD) : Vec Ideal S2048x5632 .bf16 := m ((c.tc : Thread nD τ).loc main_arg3)

theorem lt_N (t : Fin cfg0.N) : t.val < 176 := lt_of_lt_of_eq t.isLt N_0

theorem coords (t : Fin grid0.N) : (grid0.coords t 0).val = t.val / 22 ∧ (grid0.coords t 1).val = t.val / 11 % 2 ∧ (grid0.coords t 2).val = t.val % 11 := by
  have : t.val < 176 := lt_N t
  have e0 : (grid0.coords t 0).val = t.val / 22 % 8 := Pipeline.Grid.coords_val t 0 (by decide) rfl
  have e1 : (grid0.coords t 1).val = t.val / 11 % 2 := Pipeline.Grid.coords_val t 1 (by decide) rfl
  have e2 : (grid0.coords t 2).val = t.val / 1 % 11 := Pipeline.Grid.coords_val t 2 (by decide) rfl
  exact ⟨e0.trans (by omega), e1, e2.trans (by omega)⟩

/-- Row r and column k of the block of a point, and the l-th column it adds, among all; by the number of the point's block. -/
theorem row_lt (n : ℕ) (hn : n < 176) (r : Fin 1024) : 1024 * (n / 11 / 2) + r.val < 8192 := by have := r.isLt; omega
theorem col_lt (n : ℕ) (k : Fin 1024) : 1024 * (n / 11 % 2) + k.val < 2048 := by have := k.isLt; omega
theorem mid_lt (n : ℕ) (l : Fin 512) : 512 * (n % 11) + l.val < 5632 := by have := l.isLt; omega
abbrev row (t : Fin cfg0.N) (r : Fin 1024) : Fin 8192 := ⟨1024 * (t.val / 11 / 2) + r.val, row_lt _ (lt_N t) r⟩
abbrev col (t : Fin cfg0.N) (k : Fin 1024) : Fin 2048 := ⟨1024 * (t.val / 11 % 2) + k.val, col_lt _ k⟩
abbrev mid (t : Fin cfg0.N) (l : Fin 512) : Fin 5632 := ⟨512 * (t.val % 11) + l.val, mid_lt _ l⟩

theorem index_x (t : Fin cfg0.N) : cc0_transform_0 (grid0.coords t) = ![t.val / 22, t.val % 11] := by
  have := lt_N t
  unfold cc0_transform_0
  dsimp only
  rw [(coords t).1, (coords t).2.2, Cert.Blocks.word_eq _ (by omega), Cert.Blocks.word_eq _ (by omega)]
theorem index_w (t : Fin cfg0.N) : cc0_transform_1 (grid0.coords t) = ![t.val / 11 % 2, t.val % 11] := by
  have := lt_N t
  unfold cc0_transform_1
  dsimp only
  rw [(coords t).2.1, (coords t).2.2, Cert.Blocks.word_eq _ (by omega), Cert.Blocks.word_eq _ (by omega)]
theorem index_o (t : Fin cfg0.N) : cc0_transform_4 (grid0.coords t) = ![t.val / 22, t.val / 11 % 2] := by
  have := lt_N t
  unfold cc0_transform_4
  dsimp only
  rw [(coords t).1, (coords t).2.1, Cert.Blocks.word_eq _ (by omega), Cert.Blocks.word_eq _ (by omega)]

theorem in_x (t : Fin cfg0.N) (r : Fin 1024) (l : Fin 512) : (((cfg0.win 0).blk t).view.emb (ix2 r l : S1024x512.Idx) : S8192x5632.Idx) = ix2 (row t r) (mid t l) := by
  funext a; apply Fin.ext
  have h := index_x t
  match a with
  | ⟨0, _⟩ => show cc0_transform_0 (grid0.coords t) 0 * 1024 + 1 * r.val = 1024 * (t.val / 11 / 2) + r.val; rw [h]; show t.val / 22 * 1024 + 1 * r.val = _; omega
  | ⟨1, _⟩ => show cc0_transform_0 (grid0.coords t) 1 * 512 + 1 * l.val = 512 * (t.val % 11) + l.val; rw [h]; show t.val % 11 * 512 + 1 * l.val = _; omega
theorem in_w (t : Fin cfg0.N) (k : Fin 1024) (l : Fin 512) : (((cfg0.win 1).blk t).view.emb (ix2 k l : S1024x512.Idx) : S2048x5632.Idx) = ix2 (col t k) (mid t l) := by
  funext a; apply Fin.ext
  have h := index_w t
  match a with
  | ⟨0, _⟩ => show cc0_transform_1 (grid0.coords t) 0 * 1024 + 1 * k.val = 1024 * (t.val / 11 % 2) + k.val; rw [h]; show t.val / 11 % 2 * 1024 + 1 * k.val = _; omega
  | ⟨1, _⟩ => show cc0_transform_1 (grid0.coords t) 1 * 512 + 1 * l.val = 512 * (t.val % 11) + l.val; rw [h]; show t.val % 11 * 512 + 1 * l.val = _; omega
theorem in_o (t : Fin cfg0.N) (r k : Fin 1024) : (((cfg0.win 4).blk t).view.emb (ix2 r k : S1024x1024.Idx) : S8192x2048.Idx) = ix2 (row t r) (col t k) := by
  funext a; apply Fin.ext
  have h := index_o t
  match a with
  | ⟨0, _⟩ => show cc0_transform_4 (grid0.coords t) 0 * 1024 + 1 * r.val = 1024 * (t.val / 11 / 2) + r.val; rw [h]; show t.val / 22 * 1024 + 1 * r.val = _; omega
  | ⟨1, _⟩ => show cc0_transform_4 (grid0.coords t) 1 * 1024 + 1 * k.val = 1024 * (t.val / 11 % 2) + k.val; rw [h]; show t.val / 11 % 2 * 1024 + 1 * k.val = _; omega

theorem read_o (t : Fin cfg0.N) (f : Vec Ideal S8192x2048 .f32) (r k : Fin 1024) :
    ((cfg0.win 4).blk t).view.read (Elt Ideal) f (ix2 r k : S1024x1024.Idx) = f (ix2 (row t r) (col t k)) := congrArg f (in_o t r k)

/-- The blocks of the arguments at a point. -/
abbrev blockX (c : Dev nD) (t : Fin cfg0.N) : Vec Ideal S1024x512 .bf16 := iblk m c 0 t
abbrev blockW (c : Dev nD) (t : Fin cfg0.N) : Vec Ideal S1024x512 .bf16 := iblk m c 1 t
abbrev blockY (c : Dev nD) (t : Fin cfg0.N) : Vec Ideal S1024x512 .bf16 := iblk m c 2 t
abbrev blockV (c : Dev nD) (t : Fin cfg0.N) : Vec Ideal S1024x512 .bf16 := iblk m c 3 t

/-- What column i of the two gradients adds to an entry of block b, by the column's number. -/
def term (c : Dev nD) (b : ℕ) (r k : Fin 1024) (i : ℕ) : EReal :=
  if h : 1024 * (b / 2) + r.val < 8192 ∧ 1024 * (b % 2) + k.val < 2048 ∧ i < 5632 then
    X m c (ix2 ⟨_, h.1⟩ ⟨i, h.2.2⟩) * W m c (ix2 ⟨_, h.2.1⟩ ⟨i, h.2.2⟩) + Y m c (ix2 ⟨_, h.1⟩ ⟨i, h.2.2⟩) * V' m c (ix2 ⟨_, h.2.1⟩ ⟨i, h.2.2⟩) else 0

theorem block_sum (c : Dev nD) (t : Fin cfg0.N) (r k : Fin 1024) :
    ∑ l, blockX m c t (ix2 r l) * blockW m c t (ix2 k l) + ∑ l, blockY m c t (ix2 r l) * blockV m c t (ix2 k l)
      = ∑ l ∈ Finset.range 512, term m c (t.val / 11) r k (512 * (t.val % 11) + l) := by
  rw [Finset.sum_range, ← Finset.sum_add_distrib]
  refine Finset.sum_congr rfl fun l _ => ?_
  unfold term
  rw [dif_pos ⟨row_lt _ (lt_N t) r, col_lt _ k, mid_lt _ l⟩]
  exact congrArg₂ (fun a b : EReal => a + b)
    (congrArg₂ (fun a b : EReal => a * b) (congrArg (X m c) (in_x t r l)) (congrArg (W m c) (in_w t k l)))
    (congrArg₂ (fun a b : EReal => a * b) (congrArg (Y m c) (in_x t r l)) (congrArg (V' m c) (in_w t k l)))

/-- After the last point of a block the kernel's array holds the sum over all columns, -/
theorem sum_at (c : Dev nD) (r : Fin 1024) (k : Fin 1024) (t : Fin cfg0.N) (hl : t.val % 11 = 10) :
    (outsAt0 m c t.val t.isLt).2 (ix2 r k) = ∑ i ∈ Finset.range 5632, term m c (t.val / 11) r k i := by
  refine (Cert.Blocks.carried 11 512 (fun b i => term m c b r k i) (fun n h => (outsAt0 m c n h).2 (ix2 r k)) ?_ ?_ t.val t.isLt).trans (by rw [hl])
  · intro n h h0
    rw [outsAt0_A m c ⟨n, h⟩ h0 (by dsimp only; omega)]
    dsimp only
    rw [sum_A, pay2, pay1, zero_add, block_sum]
  · intro n h h0
    have e : (outsAt0 m c (n + 1) h).2 = k0_pay2 (outsAt0 m c n (Nat.lt_of_succ_lt h)).2 (blockX m c ⟨n + 1, h⟩) (blockW m c ⟨n + 1, h⟩) (blockY m c ⟨n + 1, h⟩) (blockV m c ⟨n + 1, h⟩) := by
      by_cases h1 : (n + 1) % 11 = 10
      · rw [outsAt0_C m c ⟨n + 1, h⟩ h0 h1]; dsimp only; rw [sum_C]; rfl
      · rw [outsAt0_B m c ⟨n + 1, h⟩ h0 h1]; dsimp only; rw [sum_B]; rfl
    rw [e, pay2, block_sum]

/-- and after the last of a block so does the result's block. -/
theorem out_at (c : Dev nD) (t : Fin cfg0.N) (h : t.val % 11 = 10) : (outsAt0 m c t.val t.isLt).1 = (outsAt0 m c t.val t.isLt).2 := by
  rw [outsAt0_C m c t (by omega) h]
  dsimp only
  rw [out_C, sum_C]

/-- The last point of a block writes that block of the sum of the products, -/
theorem flushed (c : Dev nD) (t : Fin cfg0.N) (hf : (cfg0.win 4).flush t = true) :
    (dats m 0 c).flushed 4 t = ((cfg0.win 4).blk t).view.read (Elt Ideal) (products (X m c) (W m c) (Y m c) (V' m c)) := by
  have hl : t.val % 11 = 10 := (flush0_4 t).mp hf
  show (cfg0.win 4).cut (grid0.coords t) ((dats m 0 c).after 4 t) = _
  rw [after0_4, out_at m c t hl]
  refine funext fun (j : S1024x1024.Idx) => ?_
  obtain ⟨r, k, rfl⟩ : ∃ (r : Fin 1024) (k : Fin 1024), j = ix2 r k := ⟨j 0, j 1, by funext a; fin_cases a <;> rfl⟩
  refine ((sum_at m c r k t hl).trans ?_).trans (read_o t (products (X m c) (W m c) (Y m c) (V' m c)) r k).symm
  show _ = ∑ l, X m c (ix2 (row t r) l) * W m c (ix2 (col t k) l) + ∑ l, Y m c (ix2 (row t r) l) * V' m c (ix2 (col t k) l)
  rw [← Finset.sum_add_distrib, Cert.Blocks.sum_rows]
  refine Finset.sum_congr rfl fun i hi => ?_
  have hi : i < 5632 := Finset.mem_range.mp hi
  unfold term
  rw [dif_pos ⟨row_lt _ (lt_N t) r, col_lt _ k, hi⟩, dif_pos hi]

/-- and the blocks are the whole array. -/
theorem covered (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  exact (Value.covered_iff4 i).2 (by omega)

/-- So every run ends with the sum of the products. -/
theorem run : θ_run defs (onTc (τ := τ) (main (F := Ideal))) ⟨m, fun _ => 0, ρ⟩ (fun r => ∀ c : Dev nD,
      r.2.mem ((c.tc : Thread nD τ).loc main_v0) = products (X m c) (W m c) (Y m c) (V' m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans ((dats m 0 c).arrAt_eq_of_cover 4 _ (flushed m c) covered), (h c).2⟩)
    (Value.run_blocks m ρ)

theorem frame : Cert.quiescent_FfnGrad := fun m g _ => Cert.FfnGrad.Gen.frame (F := Bits) m g
theorem frame_ideal : Cert.quiescent_FfnGradIdeal := fun m g _ => Cert.FfnGradIdeal.Gen.frame (F := Ideal) m g
/-- The reference leaves its arguments as they were; it has no semaphores. -/
theorem frame_refIdeal : Cert.quiescent_FfnGradRefIdeal := fun m g _ =>
  (θ_run (Cert.FfnGradRefIdeal.defs (F := Ideal)) _ _).mono (fun _ h => ⟨fun c => (h c).2, sem_eq_zero_of_no_sems rfl _⟩)
    (Cert.FfnGradRefIdeal.Value.run m g)

/-- The reference ends with the same sum. -/
theorem ref_run (m : (ℓ : Loc nD τ Cert.FfnGradRefIdeal.sig) → Buf (Elt Ideal) ℓ) :
    θ_run Cert.FfnGradRefIdeal.defs (onTc (τ := τ) (Cert.FfnGradRefIdeal.main (F := Ideal))) ⟨m, fun _ => 0, ρ⟩ (fun r => ∀ c : Dev nD,
      r.2.mem ((c.tc : Thread nD τ).loc Cert.FfnGradRefIdeal.main_v4) = products (m ((c.tc : Thread nD τ).loc Cert.FfnGradRefIdeal.main_arg0)) (m ((c.tc : Thread nD τ).loc Cert.FfnGradRefIdeal.main_arg1)) (m ((c.tc : Thread nD τ).loc Cert.FfnGradRefIdeal.main_arg2)) (m ((c.tc : Thread nD τ).loc Cert.FfnGradRefIdeal.main_arg3))
      ∧ r.2.mem ((c.tc : Thread nD τ).loc Cert.FfnGradRefIdeal.main_arg0) = m ((c.tc : Thread nD τ).loc Cert.FfnGradRefIdeal.main_arg0)
      ∧ r.2.mem ((c.tc : Thread nD τ).loc Cert.FfnGradRefIdeal.main_arg1) = m ((c.tc : Thread nD τ).loc Cert.FfnGradRefIdeal.main_arg1)
      ∧ r.2.mem ((c.tc : Thread nD τ).loc Cert.FfnGradRefIdeal.main_arg2) = m ((c.tc : Thread nD τ).loc Cert.FfnGradRefIdeal.main_arg2)
      ∧ r.2.mem ((c.tc : Thread nD τ).loc Cert.FfnGradRefIdeal.main_arg3) = m ((c.tc : Thread nD τ).loc Cert.FfnGradRefIdeal.main_arg3)) :=
  (θ_run Cert.FfnGradRefIdeal.defs _ _).mono (fun _ h c => ⟨(h c).1.trans (by
    refine funext fun (i : S8192x2048.Idx) => ?_
    obtain ⟨r, k, rfl⟩ : ∃ (r : Fin 8192) (k : Fin 2048), i = ix2 r k := ⟨i 0, i 1, by funext a; fin_cases a <;> rfl⟩
    pointwise
    rfl), (h c).2⟩) (Cert.FfnGradRefIdeal.Value.run m ρ)

/-- On real numbers the kernel leaves the sum of the reference. -/
theorem algebraic : Cert.algebraic_FfnGradIdeal_FfnGradRefIdeal := fun m g m' g' _ hm =>
  ⟨_, run m g, (θ_run (Cert.FfnGradRefIdeal.defs (F := Ideal)) _ _).mono
    (fun _ h c => by
      have h := h c
      rw [(hm c).1, (hm c).2.1, (hm c).2.2.1, (hm c).2.2.2] at h ⊢
      exact h) (ref_run g' m')⟩

end Cert.FfnGradIdeal.Layer

end
-- ==== Proof.lean ====
/- The certificate: what each program's module proves, in the order of the claim. -/
module

public import proofs.«01_k».proof.Defs
public import proofs.«01_k».proof.Proof.ShareClaims
public import proofs.«01_k».proof.Proof.ExchangeClaims
public import proofs.«01_k».proof.Proof.SwapClaims
public import proofs.«01_k».proof.Proof.GatherClaims
public import proofs.«01_k».proof.Proof.Update
public import proofs.«01_k».proof.Proof.Gains
public import proofs.«01_k».proof.Proof.SumPair
public import proofs.«01_k».proof.Proof.SumChips
public import proofs.«01_k».proof.Proof.Loss
public import proofs.«01_k».proof.Proof.Grad
public import proofs.«01_k».proof.Proof.FirstNorm
public import proofs.«01_k».proof.Proof.PostPre
public import proofs.«01_k».proof.Proof.FfnUp
public import proofs.«01_k».proof.Proof.FfnDown
public import proofs.«01_k».proof.Proof.PostGrad
public import proofs.«01_k».proof.Proof.GluGrad
public import proofs.«01_k».proof.Proof.DownGrad
public import proofs.«01_k».proof.Proof.UpGrad
public import proofs.«01_k».proof.Proof.FfnGrad

@[expose] public section

noncomputable section

namespace Cert.Proof

/-- Every program runs to its end, leaves its argument as it was and every semaphore at zero; the real-valued text is the
    float one; and what the devices end with is their part of the reference's result, on reals and, of the four exchanges and
    the two sums between them, bit for bit. Of these two sums, where the word they are given is in range. -/
theorem claim : Cert.Claim := ⟨
  Cert.Share.Gen.facts, Cert.ShareIdeal.Gen.facts, Cert.ShareRefIdeal.Gen.facts, Cert.ShareRef.Gen.facts,
  Cert.Exchange.Gen.facts, Cert.ExchangeIdeal.Gen.facts, Cert.ExchangeRefIdeal.Gen.facts, Cert.ExchangeRef.Gen.facts,
  Cert.Swap.Gen.facts, Cert.SwapIdeal.Gen.facts, Cert.SwapRefIdeal.Gen.facts, Cert.SwapRef.Gen.facts,
  Cert.Gather.Gen.facts, Cert.GatherIdeal.Gen.facts, Cert.GatherRefIdeal.Gen.facts, Cert.GatherRef.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamIn.Gen.facts, Cert.AdamInIdeal.Gen.facts, Cert.AdamInRefIdeal.Gen.facts,
  Cert.AdamQ.Gen.facts, Cert.AdamQIdeal.Gen.facts, Cert.AdamQRefIdeal.Gen.facts,
  Cert.AdamKv.Gen.facts, Cert.AdamKvIdeal.Gen.facts, Cert.AdamKvRefIdeal.Gen.facts,
  Cert.AdamOut.Gen.facts, Cert.AdamOutIdeal.Gen.facts, Cert.AdamOutRefIdeal.Gen.facts,
  Cert.AdamGains.Gen.facts, Cert.AdamGainsIdeal.Gen.facts, Cert.AdamGainsRefIdeal.Gen.facts,
  Cert.SumGains.Gen.facts, Cert.SumGainsIdeal.Gen.facts, Cert.SumGainsRefIdeal.Gen.facts,
  Cert.PostLoss.Gen.facts, Cert.PostLossIdeal.Gen.facts, Cert.PostLossRefIdeal.Gen.facts,
  Cert.PreGrad.Gen.facts, Cert.PreGradIdeal.Gen.facts, Cert.PreGradRefIdeal.Gen.facts,
  Cert.FirstNorm.Gen.facts, Cert.FirstNormIdeal.Gen.facts, Cert.FirstNormRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.PostPre.Gen.facts, Cert.PostPreIdeal.Gen.facts, Cert.PostPreRefIdeal.Gen.facts,
  Cert.PostGrad.Gen.facts, Cert.PostGradIdeal.Gen.facts, Cert.PostGradRefIdeal.Gen.facts,
  Cert.GluGrad.Gen.facts, Cert.GluGradIdeal.Gen.facts, Cert.GluGradRefIdeal.Gen.facts,
  Cert.DownGrad.Gen.facts, Cert.DownGradIdeal.Gen.facts, Cert.DownGradRefIdeal.Gen.facts,
  Cert.UpGrad.Gen.facts, Cert.UpGradIdeal.Gen.facts, Cert.UpGradRefIdeal.Gen.facts,
  Cert.FfnGrad.Gen.facts, Cert.FfnGradIdeal.Gen.facts, Cert.FfnGradRefIdeal.Gen.facts,
  Cert.AddPair.Gen.facts, Cert.AddPairIdeal.Gen.facts, Cert.AddPairRefIdeal.Gen.facts, Cert.AddPairRef.Gen.facts,
  Cert.AddChips.Gen.facts, Cert.AddChipsIdeal.Gen.facts, Cert.AddChipsRefIdeal.Gen.facts, Cert.AddChipsRef.Gen.facts,
  Cert.Pre_one_of_two.Gen.facts, Cert.Pre_one_of_four.Gen.facts,
  Cert.ShareIdeal.Talk.frame, Cert.ShareIdeal.Talk.frame_ideal, Cert.ShareIdeal.Talk.frame_refIdeal, Cert.ShareIdeal.Talk.frame_ref,
  Cert.ExchangeIdeal.Talk.frame, Cert.ExchangeIdeal.Talk.frame_ideal, Cert.ExchangeIdeal.Talk.frame_refIdeal, Cert.ExchangeIdeal.Talk.frame_ref,
  Cert.SwapIdeal.Talk.frame, Cert.SwapIdeal.Talk.frame_ideal, Cert.SwapIdeal.Talk.frame_refIdeal, Cert.SwapIdeal.Talk.frame_ref,
  Cert.GatherIdeal.Talk.frame, Cert.GatherIdeal.Talk.frame_ideal, Cert.GatherIdeal.Talk.frame_refIdeal, Cert.GatherIdeal.Talk.frame_ref,
  Cert.Update.up_frame, Cert.Update.up_frame_ideal, Cert.Update.up_reference,
  Cert.Update.down_frame, Cert.Update.down_frame_ideal, Cert.Update.down_reference,
  Cert.Update.in_frame, Cert.Update.in_frame_ideal, Cert.Update.in_reference,
  Cert.Update.q_frame, Cert.Update.q_frame_ideal, Cert.Update.q_reference,
  Cert.Update.kv_frame, Cert.Update.kv_frame_ideal, Cert.Update.kv_reference,
  Cert.Update.out_frame, Cert.Update.out_frame_ideal, Cert.Update.out_reference,
  Cert.Update.gains_frame, Cert.Update.gains_frame_ideal, Cert.Update.gains_reference,
  Cert.Gains.sum_frame, Cert.Gains.sum_frame_ideal, Cert.Gains.sum_reference,
  Cert.PostLossIdeal.Loss.frame, Cert.PostLossIdeal.Loss.frame_ideal, Cert.PostLossIdeal.Loss.frame_refIdeal,
  Cert.PreGradIdeal.Grad.frame, Cert.PreGradIdeal.Grad.frame_ideal, Cert.PreGradIdeal.Grad.frame_refIdeal,
  Cert.FirstNormIdeal.Norm.frame, Cert.FirstNormIdeal.Norm.frame_ideal, Cert.FirstNormIdeal.Norm.frame_refIdeal,
  Cert.FfnUpIdeal.Layer.frame, Cert.FfnUpIdeal.Layer.frame_ideal, Cert.FfnUpIdeal.Layer.frame_refIdeal,
  Cert.FfnDownIdeal.Layer.frame, Cert.FfnDownIdeal.Layer.frame_ideal, Cert.FfnDownIdeal.Layer.frame_refIdeal,
  Cert.PostPreIdeal.Norm.frame, Cert.PostPreIdeal.Norm.frame_ideal, Cert.PostPreIdeal.Norm.frame_refIdeal,
  Cert.PostGradIdeal.Grad.frame, Cert.PostGradIdeal.Grad.frame_ideal, Cert.PostGradIdeal.Grad.frame_refIdeal,
  Cert.GluGradIdeal.Layer.frame, Cert.GluGradIdeal.Layer.frame_ideal, Cert.GluGradIdeal.Layer.frame_refIdeal,
  Cert.DownGradIdeal.Layer.frame, Cert.DownGradIdeal.Layer.frame_ideal, Cert.DownGradIdeal.Layer.frame_refIdeal,
  Cert.UpGradIdeal.Layer.frame, Cert.UpGradIdeal.Layer.frame_ideal, Cert.UpGradIdeal.Layer.frame_refIdeal,
  Cert.FfnGradIdeal.Layer.frame, Cert.FfnGradIdeal.Layer.frame_ideal, Cert.FfnGradIdeal.Layer.frame_refIdeal,
  Cert.AddPairIdeal.Sum.frame, Cert.AddPairIdeal.Sum.frame_ideal, Cert.AddPairIdeal.Sum.frame_refIdeal, (fun m g _ => Cert.AddPairIdeal.Sum.frame_refIdeal m g trivial), Cert.AddPairIdeal.Sum.frame_ref,
  Cert.AddChipsIdeal.Sum.frame, Cert.AddChipsIdeal.Sum.frame_ideal, Cert.AddChipsIdeal.Sum.frame_refIdeal, (fun m g _ => Cert.AddChipsIdeal.Sum.frame_refIdeal m g trivial), Cert.AddChipsIdeal.Sum.frame_ref,
  trivial, Cert.ShareIdeal.Talk.algebraic, Cert.ShareIdeal.Talk.bitexact,
  trivial, Cert.ExchangeIdeal.Talk.algebraic, Cert.ExchangeIdeal.Talk.bitexact,
  trivial, Cert.SwapIdeal.Talk.algebraic, Cert.SwapIdeal.Talk.bitexact,
  trivial, Cert.GatherIdeal.Talk.algebraic, Cert.GatherIdeal.Talk.bitexact,
  trivial, Cert.Update.up_agrees,
  trivial, Cert.Update.down_agrees,
  trivial, Cert.Update.in_agrees,
  trivial, Cert.Update.q_agrees,
  trivial, Cert.Update.kv_agrees,
  trivial, Cert.Update.out_agrees,
  trivial, Cert.Update.gains_agrees,
  trivial, Cert.Gains.sum_agrees,
  trivial, Cert.PostLossIdeal.Loss.algebraic,
  trivial, Cert.PreGradIdeal.Grad.algebraic,
  trivial, Cert.FirstNormIdeal.Norm.algebraic,
  trivial, Cert.FfnUpIdeal.Layer.algebraic,
  trivial, Cert.FfnDownIdeal.Layer.algebraic,
  trivial, Cert.PostPreIdeal.Norm.algebraic,
  trivial, Cert.PostGradIdeal.Grad.algebraic,
  trivial, Cert.GluGradIdeal.Layer.algebraic,
  trivial, Cert.DownGradIdeal.Layer.algebraic,
  trivial, Cert.UpGradIdeal.Layer.algebraic,
  trivial, Cert.FfnGradIdeal.Layer.algebraic,
  trivial, Cert.AddPairIdeal.Sum.algebraic, Cert.AddPairIdeal.Sum.bitexact,
  trivial, Cert.AddChipsIdeal.Sum.algebraic, Cert.AddChipsIdeal.Sum.bitexact⟩

end Cert.Proof

end
